-- ==== Defs.lean ====
def Pre_Kernel [hPre_pages_in_cache : Cert.Pre_pages_in_cache.Facts] (m : (ℓ : Loc Cert.Kernel.nD Cert.Kernel.τ Cert.Kernel.sig) → Buf (Elt Bits) ℓ) : Prop :=
  ∀ c : Dev Cert.Kernel.nD,
    (Cert.Pre_pages_in_cache.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_pages_in_cache : Cert.Pre_pages_in_cache.Facts] (m : (ℓ : Loc Cert.KernelIdeal.nD Cert.KernelIdeal.τ Cert.KernelIdeal.sig) → Buf (Elt Ideal) ℓ) : Prop :=
  ∀ c : Dev Cert.KernelIdeal.nD,
    (Cert.Pre_pages_in_cache.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_keys_selected [hPre_keys_selected : Cert.Pre_keys_selected.Facts] (m : (ℓ : Loc Cert.KernelIdeal.nD Cert.KernelIdeal.τ Cert.KernelIdeal.sig) → Buf (Elt Ideal) ℓ) : Prop :=
  ∀ c : Dev Cert.KernelIdeal.nD,
    (Cert.Pre_keys_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_keys_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_keys_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_keys_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_keys_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_keys_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_keys_selected [hPre_keys_selected : Cert.Pre_keys_selected.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_keys_selected.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_keys_selected.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_keys_selected.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_keys_selected.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_keys_selected.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_keys_selected.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def quiescent_Kernel [hKernel : Cert.Kernel.Facts] [hPre_pages_in_cache : Cert.Pre_pages_in_cache.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_pages_in_cache : Cert.Pre_pages_in_cache.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_keys_selected [hKernelIdeal : Cert.KernelIdeal.Facts] [hPre_keys_selected : Cert.Pre_keys_selected.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_keys_selected m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_keys_selected [hReferenceIdeal : Cert.ReferenceIdeal.Facts] [hPre_keys_selected : Cert.Pre_keys_selected.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_keys_selected m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11)
      ∧ r.2.mem ((c.tc : Thread Cert.Ffn.nD Cert.Ffn.τ).loc Cert.Ffn.main_arg12) = m ((c.tc : Thread Cert.Ffn.nD Cert.Ffn.τ).loc Cert.Ffn.main_arg12))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11)
      ∧ r.2.mem ((c.tc : Thread Cert.FfnRefIdeal.nD Cert.FfnRefIdeal.τ).loc Cert.FfnRefIdeal.main_arg12) = m ((c.tc : Thread Cert.FfnRefIdeal.nD Cert.FfnRefIdeal.τ).loc Cert.FfnRefIdeal.main_arg12))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6)
      ∧ r.2.mem ((c.tc : Thread Cert.FfnSample.nD Cert.FfnSample.τ).loc Cert.FfnSample.main_arg7) = m ((c.tc : Thread Cert.FfnSample.nD Cert.FfnSample.τ).loc Cert.FfnSample.main_arg7)
      ∧ r.2.mem ((c.tc : Thread Cert.FfnSample.nD Cert.FfnSample.τ).loc Cert.FfnSample.main_arg8) = m ((c.tc : Thread Cert.FfnSample.nD Cert.FfnSample.τ).loc Cert.FfnSample.main_arg8)
      ∧ r.2.mem ((c.tc : Thread Cert.FfnSample.nD Cert.FfnSample.τ).loc Cert.FfnSample.main_arg9) = m ((c.tc : Thread Cert.FfnSample.nD Cert.FfnSample.τ).loc Cert.FfnSample.main_arg9)
      ∧ r.2.mem ((c.tc : Thread Cert.FfnSample.nD Cert.FfnSample.τ).loc Cert.FfnSample.main_arg10) = m ((c.tc : Thread Cert.FfnSample.nD Cert.FfnSample.τ).loc Cert.FfnSample.main_arg10)
      ∧ r.2.mem ((c.tc : Thread Cert.FfnSample.nD Cert.FfnSample.τ).loc Cert.FfnSample.main_arg11) = m ((c.tc : Thread Cert.FfnSample.nD Cert.FfnSample.τ).loc Cert.FfnSample.main_arg11)
      ∧ r.2.mem ((c.tc : Thread Cert.FfnSample.nD Cert.FfnSample.τ).loc Cert.FfnSample.main_arg12) = m ((c.tc : Thread Cert.FfnSample.nD Cert.FfnSample.τ).loc Cert.FfnSample.main_arg12))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
      ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
      ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8)
      ∧ r.2.mem ((c.tc : Thread Cert.FfnSampleIdeal.nD Cert.FfnSampleIdeal.τ).loc Cert.FfnSampleIdeal.main_arg9) = m ((c.tc : Thread Cert.FfnSampleIdeal.nD Cert.FfnSampleIdeal.τ).loc Cert.FfnSampleIdeal.main_arg9)
      ∧ r.2.mem ((c.tc : Thread Cert.FfnSampleIdeal.nD Cert.FfnSampleIdeal.τ).loc Cert.FfnSampleIdeal.main_arg10) = m ((c.tc : Thread Cert.FfnSampleIdeal.nD Cert.FfnSampleIdeal.τ).loc Cert.FfnSampleIdeal.main_arg10)
      ∧ r.2.mem ((c.tc : Thread Cert.FfnSampleIdeal.nD Cert.FfnSampleIdeal.τ).loc Cert.FfnSampleIdeal.main_arg11) = m ((c.tc : Thread Cert.FfnSampleIdeal.nD Cert.FfnSampleIdeal.τ).loc Cert.FfnSampleIdeal.main_arg11)
      ∧ r.2.mem ((c.tc : Thread Cert.FfnSampleIdeal.nD Cert.FfnSampleIdeal.τ).loc Cert.FfnSampleIdeal.main_arg12) = m ((c.tc : Thread Cert.FfnSampleIdeal.nD Cert.FfnSampleIdeal.τ).loc Cert.FfnSampleIdeal.main_arg12))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5)
      ∧ r.2.mem ((c.tc : Thread Cert.FfnSampleRefIdeal.nD Cert.FfnSampleRefIdeal.τ).loc Cert.FfnSampleRefIdeal.main_arg6) = m ((c.tc : Thread Cert.FfnSampleRefIdeal.nD Cert.FfnSampleRefIdeal.τ).loc Cert.FfnSampleRefIdeal.main_arg6)
      ∧ r.2.mem ((c.tc : Thread Cert.FfnSampleRefIdeal.nD Cert.FfnSampleRefIdeal.τ).loc Cert.FfnSampleRefIdeal.main_arg7) = m ((c.tc : Thread Cert.FfnSampleRefIdeal.nD Cert.FfnSampleRefIdeal.τ).loc Cert.FfnSampleRefIdeal.main_arg7)
      ∧ r.2.mem ((c.tc : Thread Cert.FfnSampleRefIdeal.nD Cert.FfnSampleRefIdeal.τ).loc Cert.FfnSampleRefIdeal.main_arg8) = m ((c.tc : Thread Cert.FfnSampleRefIdeal.nD Cert.FfnSampleRefIdeal.τ).loc Cert.FfnSampleRefIdeal.main_arg8)
      ∧ r.2.mem ((c.tc : Thread Cert.FfnSampleRefIdeal.nD Cert.FfnSampleRefIdeal.τ).loc Cert.FfnSampleRefIdeal.main_arg9) = m ((c.tc : Thread Cert.FfnSampleRefIdeal.nD Cert.FfnSampleRefIdeal.τ).loc Cert.FfnSampleRefIdeal.main_arg9)
      ∧ r.2.mem ((c.tc : Thread Cert.FfnSampleRefIdeal.nD Cert.FfnSampleRefIdeal.τ).loc Cert.FfnSampleRefIdeal.main_arg10) = m ((c.tc : Thread Cert.FfnSampleRefIdeal.nD Cert.FfnSampleRefIdeal.τ).loc Cert.FfnSampleRefIdeal.main_arg10)
      ∧ r.2.mem ((c.tc : Thread Cert.FfnSampleRefIdeal.nD Cert.FfnSampleRefIdeal.τ).loc Cert.FfnSampleRefIdeal.main_arg11) = m ((c.tc : Thread Cert.FfnSampleRefIdeal.nD Cert.FfnSampleRefIdeal.τ).loc Cert.FfnSampleRefIdeal.main_arg11)
      ∧ r.2.mem ((c.tc : Thread Cert.FfnSampleRefIdeal.nD Cert.FfnSampleRefIdeal.τ).loc Cert.FfnSampleRefIdeal.main_arg12) = m ((c.tc : Thread Cert.FfnSampleRefIdeal.nD Cert.FfnSampleRefIdeal.τ).loc Cert.FfnSampleRefIdeal.main_arg12))
      ∧ r.2.sem = fun _ => 0)

def preserves_Kernel_KernelIdeal : Prop :=
  True

def algebraic_KernelIdeal_ReferenceIdeal_pre_keys_selected [hKernelIdeal : Cert.KernelIdeal.Facts] [hReferenceIdeal : Cert.ReferenceIdeal.Facts] [hPre_keys_selected : Cert.Pre_keys_selected.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_keys_selected m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)
      ∧ m' ((c.tc : Thread Cert.FfnRefIdeal.nD Cert.FfnRefIdeal.τ).loc Cert.FfnRefIdeal.main_arg12) = m ((c.tc : Thread Cert.FfnIdeal.nD Cert.FfnIdeal.τ).loc Cert.FfnIdeal.main_arg12)) →
    ∃ (v0 : (c : Dev Cert.FfnIdeal.nD) → Buf (Elt Ideal) ((c.tc : Thread Cert.FfnIdeal.nD Cert.FfnIdeal.τ).loc Cert.FfnIdeal.main_v25)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v25) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
          ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v68) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11)
          ∧ r.2.mem ((c.tc : Thread Cert.FfnRefIdeal.nD Cert.FfnRefIdeal.τ).loc Cert.FfnRefIdeal.main_arg12) = m' ((c.tc : Thread Cert.FfnRefIdeal.nD Cert.FfnRefIdeal.τ).loc Cert.FfnRefIdeal.main_arg12))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v66_0)) (v1 : (c : Dev Cert.InprojIdeal.nD) → Buf (Elt Ideal) ((c.tc : Thread Cert.InprojIdeal.nD Cert.InprojIdeal.τ).loc Cert.InprojIdeal.main_v66_1)) (v2 : (c : Dev Cert.InprojIdeal.nD) → Buf (Elt Ideal) ((c.tc : Thread Cert.InprojIdeal.nD Cert.InprojIdeal.τ).loc Cert.InprojIdeal.main_v66_2)) (v3 : (c : Dev Cert.InprojIdeal.nD) → Buf (Elt Ideal) ((c.tc : Thread Cert.InprojIdeal.nD Cert.InprojIdeal.τ).loc Cert.InprojIdeal.main_v66_3)) (v4 : (c : Dev Cert.InprojIdeal.nD) → Buf (Elt Ideal) ((c.tc : Thread Cert.InprojIdeal.nD Cert.InprojIdeal.τ).loc Cert.InprojIdeal.main_v66_4)) (v5 : (c : Dev Cert.InprojIdeal.nD) → Buf (Elt Ideal) ((c.tc : Thread Cert.InprojIdeal.nD Cert.InprojIdeal.τ).loc Cert.InprojIdeal.main_v66_5)) (v6 : (c : Dev Cert.InprojIdeal.nD) → Buf (Elt Ideal) ((c.tc : Thread Cert.InprojIdeal.nD Cert.InprojIdeal.τ).loc Cert.InprojIdeal.main_v66_6)) (v7 : (c : Dev Cert.InprojIdeal.nD) → Buf (Elt Ideal) ((c.tc : Thread Cert.InprojIdeal.nD Cert.InprojIdeal.τ).loc Cert.InprojIdeal.main_v66_7)) (v8 : (c : Dev Cert.InprojIdeal.nD) → Buf (Elt Ideal) ((c.tc : Thread Cert.InprojIdeal.nD Cert.InprojIdeal.τ).loc Cert.InprojIdeal.main_v66_8)) (v9 : (c : Dev Cert.InprojIdeal.nD) → Buf (Elt Ideal) ((c.tc : Thread Cert.InprojIdeal.nD Cert.InprojIdeal.τ).loc Cert.InprojIdeal.main_v66_9)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v66_0) = v0 c
          ∧ r.2.mem ((c.tc : Thread Cert.InprojIdeal.nD Cert.InprojIdeal.τ).loc Cert.InprojIdeal.main_v66_1) = v1 c
          ∧ r.2.mem ((c.tc : Thread Cert.InprojIdeal.nD Cert.InprojIdeal.τ).loc Cert.InprojIdeal.main_v66_2) = v2 c
          ∧ r.2.mem ((c.tc : Thread Cert.InprojIdeal.nD Cert.InprojIdeal.τ).loc Cert.InprojIdeal.main_v66_3) = v3 c
          ∧ r.2.mem ((c.tc : Thread Cert.InprojIdeal.nD Cert.InprojIdeal.τ).loc Cert.InprojIdeal.main_v66_4) = v4 c
          ∧ r.2.mem ((c.tc : Thread Cert.InprojIdeal.nD Cert.InprojIdeal.τ).loc Cert.InprojIdeal.main_v66_5) = v5 c
          ∧ r.2.mem ((c.tc : Thread Cert.InprojIdeal.nD Cert.InprojIdeal.τ).loc Cert.InprojIdeal.main_v66_6) = v6 c
          ∧ r.2.mem ((c.tc : Thread Cert.InprojIdeal.nD Cert.InprojIdeal.τ).loc Cert.InprojIdeal.main_v66_7) = v7 c
          ∧ r.2.mem ((c.tc : Thread Cert.InprojIdeal.nD Cert.InprojIdeal.τ).loc Cert.InprojIdeal.main_v66_8) = v8 c
          ∧ r.2.mem ((c.tc : Thread Cert.InprojIdeal.nD Cert.InprojIdeal.τ).loc Cert.InprojIdeal.main_v66_9) = v9 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v194) = v0 c
          ∧ r.2.mem ((c.tc : Thread Cert.InprojRefIdeal.nD Cert.InprojRefIdeal.τ).loc Cert.InprojRefIdeal.main_v195) = v1 c
          ∧ r.2.mem ((c.tc : Thread Cert.InprojRefIdeal.nD Cert.InprojRefIdeal.τ).loc Cert.InprojRefIdeal.main_v196) = v2 c
          ∧ r.2.mem ((c.tc : Thread Cert.InprojRefIdeal.nD Cert.InprojRefIdeal.τ).loc Cert.InprojRefIdeal.main_v198) = v3 c
          ∧ r.2.mem ((c.tc : Thread Cert.InprojRefIdeal.nD Cert.InprojRefIdeal.τ).loc Cert.InprojRefIdeal.main_v199) = v4 c
          ∧ r.2.mem ((c.tc : Thread Cert.InprojRefIdeal.nD Cert.InprojRefIdeal.τ).loc Cert.InprojRefIdeal.main_v201) = v5 c
          ∧ r.2.mem ((c.tc : Thread Cert.InprojRefIdeal.nD Cert.InprojRefIdeal.τ).loc Cert.InprojRefIdeal.main_v205) = v6 c
          ∧ r.2.mem ((c.tc : Thread Cert.InprojRefIdeal.nD Cert.InprojRefIdeal.τ).loc Cert.InprojRefIdeal.main_v212) = v7 c
          ∧ r.2.mem ((c.tc : Thread Cert.InprojRefIdeal.nD Cert.InprojRefIdeal.τ).loc Cert.InprojRefIdeal.main_v221) = v8 c
          ∧ r.2.mem ((c.tc : Thread Cert.InprojRefIdeal.nD Cert.InprojRefIdeal.τ).loc Cert.InprojRefIdeal.main_v222) = v9 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)
      ∧ m' ((c.tc : Thread Cert.FfnSampleRefIdeal.nD Cert.FfnSampleRefIdeal.τ).loc Cert.FfnSampleRefIdeal.main_arg6) = m ((c.tc : Thread Cert.FfnSampleIdeal.nD Cert.FfnSampleIdeal.τ).loc Cert.FfnSampleIdeal.main_arg6)
      ∧ m' ((c.tc : Thread Cert.FfnSampleRefIdeal.nD Cert.FfnSampleRefIdeal.τ).loc Cert.FfnSampleRefIdeal.main_arg7) = m ((c.tc : Thread Cert.FfnSampleIdeal.nD Cert.FfnSampleIdeal.τ).loc Cert.FfnSampleIdeal.main_arg7)
      ∧ m' ((c.tc : Thread Cert.FfnSampleRefIdeal.nD Cert.FfnSampleRefIdeal.τ).loc Cert.FfnSampleRefIdeal.main_arg8) = m ((c.tc : Thread Cert.FfnSampleIdeal.nD Cert.FfnSampleIdeal.τ).loc Cert.FfnSampleIdeal.main_arg8)
      ∧ m' ((c.tc : Thread Cert.FfnSampleRefIdeal.nD Cert.FfnSampleRefIdeal.τ).loc Cert.FfnSampleRefIdeal.main_arg9) = m ((c.tc : Thread Cert.FfnSampleIdeal.nD Cert.FfnSampleIdeal.τ).loc Cert.FfnSampleIdeal.main_arg9)
      ∧ m' ((c.tc : Thread Cert.FfnSampleRefIdeal.nD Cert.FfnSampleRefIdeal.τ).loc Cert.FfnSampleRefIdeal.main_arg10) = m ((c.tc : Thread Cert.FfnSampleIdeal.nD Cert.FfnSampleIdeal.τ).loc Cert.FfnSampleIdeal.main_arg10)
      ∧ m' ((c.tc : Thread Cert.FfnSampleRefIdeal.nD Cert.FfnSampleRefIdeal.τ).loc Cert.FfnSampleRefIdeal.main_arg11) = m ((c.tc : Thread Cert.FfnSampleIdeal.nD Cert.FfnSampleIdeal.τ).loc Cert.FfnSampleIdeal.main_arg11)
      ∧ m' ((c.tc : Thread Cert.FfnSampleRefIdeal.nD Cert.FfnSampleRefIdeal.τ).loc Cert.FfnSampleRefIdeal.main_arg12) = m ((c.tc : Thread Cert.FfnSampleIdeal.nD Cert.FfnSampleIdeal.τ).loc Cert.FfnSampleIdeal.main_arg12)) →
    ∃ (v0 : (c : Dev Cert.FfnSampleIdeal.nD) → Buf (Elt Ideal) ((c.tc : Thread Cert.FfnSampleIdeal.nD Cert.FfnSampleIdeal.τ).loc Cert.FfnSampleIdeal.main_v25)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v25) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
          ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
          ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8)
          ∧ r.2.mem ((c.tc : Thread Cert.FfnSampleIdeal.nD Cert.FfnSampleIdeal.τ).loc Cert.FfnSampleIdeal.main_arg9) = m ((c.tc : Thread Cert.FfnSampleIdeal.nD Cert.FfnSampleIdeal.τ).loc Cert.FfnSampleIdeal.main_arg9)
          ∧ r.2.mem ((c.tc : Thread Cert.FfnSampleIdeal.nD Cert.FfnSampleIdeal.τ).loc Cert.FfnSampleIdeal.main_arg10) = m ((c.tc : Thread Cert.FfnSampleIdeal.nD Cert.FfnSampleIdeal.τ).loc Cert.FfnSampleIdeal.main_arg10)
          ∧ r.2.mem ((c.tc : Thread Cert.FfnSampleIdeal.nD Cert.FfnSampleIdeal.τ).loc Cert.FfnSampleIdeal.main_arg11) = m ((c.tc : Thread Cert.FfnSampleIdeal.nD Cert.FfnSampleIdeal.τ).loc Cert.FfnSampleIdeal.main_arg11)
          ∧ r.2.mem ((c.tc : Thread Cert.FfnSampleIdeal.nD Cert.FfnSampleIdeal.τ).loc Cert.FfnSampleIdeal.main_arg12) = m ((c.tc : Thread Cert.FfnSampleIdeal.nD Cert.FfnSampleIdeal.τ).loc Cert.FfnSampleIdeal.main_arg12))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v68) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5)
          ∧ r.2.mem ((c.tc : Thread Cert.FfnSampleRefIdeal.nD Cert.FfnSampleRefIdeal.τ).loc Cert.FfnSampleRefIdeal.main_arg6) = m' ((c.tc : Thread Cert.FfnSampleRefIdeal.nD Cert.FfnSampleRefIdeal.τ).loc Cert.FfnSampleRefIdeal.main_arg6)
          ∧ r.2.mem ((c.tc : Thread Cert.FfnSampleRefIdeal.nD Cert.FfnSampleRefIdeal.τ).loc Cert.FfnSampleRefIdeal.main_arg7) = m' ((c.tc : Thread Cert.FfnSampleRefIdeal.nD Cert.FfnSampleRefIdeal.τ).loc Cert.FfnSampleRefIdeal.main_arg7)
          ∧ r.2.mem ((c.tc : Thread Cert.FfnSampleRefIdeal.nD Cert.FfnSampleRefIdeal.τ).loc Cert.FfnSampleRefIdeal.main_arg8) = m' ((c.tc : Thread Cert.FfnSampleRefIdeal.nD Cert.FfnSampleRefIdeal.τ).loc Cert.FfnSampleRefIdeal.main_arg8)
          ∧ r.2.mem ((c.tc : Thread Cert.FfnSampleRefIdeal.nD Cert.FfnSampleRefIdeal.τ).loc Cert.FfnSampleRefIdeal.main_arg9) = m' ((c.tc : Thread Cert.FfnSampleRefIdeal.nD Cert.FfnSampleRefIdeal.τ).loc Cert.FfnSampleRefIdeal.main_arg9)
          ∧ r.2.mem ((c.tc : Thread Cert.FfnSampleRefIdeal.nD Cert.FfnSampleRefIdeal.τ).loc Cert.FfnSampleRefIdeal.main_arg10) = m' ((c.tc : Thread Cert.FfnSampleRefIdeal.nD Cert.FfnSampleRefIdeal.τ).loc Cert.FfnSampleRefIdeal.main_arg10)
          ∧ r.2.mem ((c.tc : Thread Cert.FfnSampleRefIdeal.nD Cert.FfnSampleRefIdeal.τ).loc Cert.FfnSampleRefIdeal.main_arg11) = m' ((c.tc : Thread Cert.FfnSampleRefIdeal.nD Cert.FfnSampleRefIdeal.τ).loc Cert.FfnSampleRefIdeal.main_arg11)
          ∧ r.2.mem ((c.tc : Thread Cert.FfnSampleRefIdeal.nD Cert.FfnSampleRefIdeal.τ).loc Cert.FfnSampleRefIdeal.main_arg12) = m' ((c.tc : Thread Cert.FfnSampleRefIdeal.nD Cert.FfnSampleRefIdeal.τ).loc Cert.FfnSampleRefIdeal.main_arg12))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hFfnSample : Cert.FfnSample.Facts) (hFfnSampleIdeal : Cert.FfnSampleIdeal.Facts) (hFfnSampleRefIdeal : Cert.FfnSampleRefIdeal.Facts) (hPre_pages_in_cache : Cert.Pre_pages_in_cache.Facts) (hPre_keys_selected : Cert.Pre_keys_selected.Facts),
    quiescent_Kernel (hKernel := hKernel) (hPre_pages_in_cache := hPre_pages_in_cache)
    ∧ quiescent_KernelIdeal (hKernelIdeal := hKernelIdeal) (hPre_pages_in_cache := hPre_pages_in_cache)
    ∧ quiescent_KernelIdeal_pre_keys_selected (hKernelIdeal := hKernelIdeal) (hPre_keys_selected := hPre_keys_selected)
    ∧ quiescent_ReferenceIdeal (hReferenceIdeal := hReferenceIdeal)
    ∧ quiescent_ReferenceIdeal_pre_keys_selected (hReferenceIdeal := hReferenceIdeal) (hPre_keys_selected := hPre_keys_selected)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ preserves_Kernel_KernelIdeal
    ∧ algebraic_KernelIdeal_ReferenceIdeal_pre_keys_selected (hKernelIdeal := hKernelIdeal) (hReferenceIdeal := hReferenceIdeal) (hPre_keys_selected := hPre_keys_selected)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_FfnSample_FfnSampleIdeal
    ∧ algebraic_FfnSampleIdeal_FfnSampleRefIdeal (hFfnSampleIdeal := hFfnSampleIdeal) (hFfnSampleRefIdeal := hFfnSampleRefIdeal)
-- ==== Pre_keys_selected.lean ====
abbrev S128x16 : Shape := ⟨2, ![128, 16]⟩
abbrev S128x8x1024 : Shape := ⟨3, ![128, 8, 1024]⟩
abbrev S128x8x2176 : Shape := ⟨3, ![128, 8, 2176]⟩
abbrev S128x8x256 : Shape := ⟨3, ![128, 8, 256]⟩
abbrev S1x2560x128x2x128 : Shape := ⟨5, ![1, 2560, 128, 2, 128]⟩
abbrev S_ : Shape := ⟨0, ![]⟩
abbrev S128x8 : Shape := ⟨2, ![128, 8]⟩
abbrev S128x8x120 : Shape := ⟨3, ![128, 8, 120]⟩

class Facts : Prop where
  bcast_S_S128x16 : S_.BroadcastsInDim S128x16 (![] : Fin 0 → Fin S128x16.rank)
  reducesTo_S128x8x2176_S128x8_d2 : S128x8x2176.ReducesTo [2] S128x8
  h_S_ : 0 < S_.numel
  bcast_S_S128x8 : S_.BroadcastsInDim S128x8 (![] : Fin 0 → Fin S128x8.rank)
  slices_S128x8x2176_S128x8x120_0_0_2056 : S128x8x2176.Slices ![0, 0, 2056] S128x8x120
  bcast_S_S128x8x120 : S_.BroadcastsInDim S128x8x120 (![] : Fin 0 → Fin S128x8x120.rank)
  bitsLt_bf16_f32 : FTy.bits .bf16 < FTy.bits .f32
  bcast_S_S128x8x1024 : S_.BroadcastsInDim S128x8x1024 (![] : Fin 0 → Fin S128x8x1024.rank)
  bcast_S_S128x8x256 : S_.BroadcastsInDim S128x8x256 (![] : Fin 0 → Fin S128x8x256.rank)
  bcast_S_S1x2560x128x2x128 : S_.BroadcastsInDim S1x2560x128x2x128 (![] : Fin 0 → Fin S1x2560x128x2x128.rank)

variable [Facts]

def fn_part1 {F : FTy → Type} [FloatOps F] (main_arg5 : FVec F S1x2560x128x2x128 .f32) (main_v4 : IVec S128x16 1) (main_v7 : IVec S128x8 1) (main_v10 : IVec S128x8x120 1) (main_v14 : IVec S128x8x1024 1) (main_v15 : FVec F S128x8x256 .f32) (main_v16 : FVec F S128x8x256 .f32) : IVec S128x16 1 × IVec S128x8 1 × IVec S128x8x120 1 × IVec S128x8x1024 1 × IVec S128x8x256 1 × IVec S1x2560x128x2x128 1 :=
  let main_v17 : IVec S128x8x256 1 := cmpf .olt main_v15 main_v16
  let main_v18 : FVec F S1x2560x128x2x128 .f32 := Host.absf main_arg5
  let main_cst_5 : FVec F S_ .f32 := constant S_ .f32 0x7F800000#32
  let main_v19 : FVec F S1x2560x128x2x128 .f32 := broadcastInDim S1x2560x128x2x128 ![] bcast_S_S1x2560x128x2x128 main_cst_5
  let main_v20 : IVec S1x2560x128x2x128 1 := cmpf .olt main_v18 main_v19
  (main_v4, main_v7, main_v10, main_v14, main_v17, main_v20)

def fn {F : FTy → Type} [FloatOps F] (main_arg0 : IVec S128x16 32) (main_arg1 : FVec F S128x8x1024 .bf16) (main_arg2 : FVec F S128x8x2176 .f32) (main_arg3 : FVec F S128x8x256 .f32) (main_arg4 : FVec F S128x8x256 .f32) (main_arg5 : FVec F S1x2560x128x2x128 .f32) (main_arg6 : FVec F S1x2560x128x2x128 .f32) : IVec S128x16 1 × IVec S128x8 1 × IVec S128x8x120 1 × IVec S128x8x1024 1 × IVec S128x8x256 1 × IVec S1x2560x128x2x128 1 :=
  let main_c : IVec S_ 32 := constantI S_ 32 0#32
  let main_v0 : IVec S128x16 32 := broadcastInDim S128x16 ![] bcast_S_S128x16 main_c
  let main_v1 : IVec S128x16 1 := cmpi .sge main_arg0 main_v0
  let main_c_0 : IVec S_ 32 := constantI S_ 32 2560#32
  let main_v2 : IVec S128x16 32 := broadcastInDim S128x16 ![] bcast_S_S128x16 main_c_0
  let main_v3 : IVec S128x16 1 := cmpi .slt main_arg0 main_v2
  let main_v4 : IVec S128x16 1 := andi main_v1 main_v3
  let main_cst : FVec F S_ .f32 := constant S_ .f32 0xFF800000#32
  let main_v5 : FVec F S128x8 .f32 := (fun x v => Host.reduce FloatOps.maximumf x v reducesTo_S128x8x2176_S128x8_d2 h_S_) main_arg2 main_cst
  let main_cst_1 : FVec F S_ .f32 := constant S_ .f32 0x00000000#32
  let main_v6 : FVec F S128x8 .f32 := broadcastInDim S128x8 ![] bcast_S_S128x8 main_cst_1
  let main_v7 : IVec S128x8 1 := cmpf .oeq main_v5 main_v6
  let main_v8 : FVec F S128x8x120 .f32 := (extractStridedSlice S128x8x120 ![0, 0, 2056] · slices_S128x8x2176_S128x8x120_0_0_2056) main_arg2
  let main_cst_2 : FVec F S_ .f32 := constant S_ .f32 0xFF800000#32
  let main_v9 : FVec F S128x8x120 .f32 := broadcastInDim S128x8x120 ![] bcast_S_S128x8x120 main_cst_2
  let main_v10 : IVec S128x8x120 1 := cmpf .oeq main_v8 main_v9
  let main_v11 : FVec F S128x8x1024 .f32 := (extf .f32 · bitsLt_bf16_f32) main_arg1
  let main_v12 : FVec F S128x8x1024 .f32 := Host.absf main_v11
  let main_cst_3 : FVec F S_ .f32 := constant S_ .f32 0x7F800000#32
  let main_v13 : FVec F S128x8x1024 .f32 := broadcastInDim S128x8x1024 ![] bcast_S_S128x8x1024 main_cst_3
  let main_v14 : IVec S128x8x1024 1 := cmpf .olt main_v12 main_v13
  let main_v15 : FVec F S128x8x256 .f32 := Host.absf main_arg3
  let main_cst_4 : FVec F S_ .f32 := constant S_ .f32 0x7F800000#32
  let main_v16 : FVec F S128x8x256 .f32 := broadcastInDim S128x8x256 ![] bcast_S_S128x8x256 main_cst_4
  fn_part1 (F := F) main_arg5 main_v4 main_v7 main_v10 main_v14 main_v15 main_v16
-- ==== Pre_pages_in_cache.lean ====
abbrev S128x16 : Shape := ⟨2, ![128, 16]⟩
abbrev S128x8x1024 : Shape := ⟨3, ![128, 8, 1024]⟩
abbrev S128x8x2176 : Shape := ⟨3, ![128, 8, 2176]⟩
abbrev S128x8x256 : Shape := ⟨3, ![128, 8, 256]⟩
abbrev S1x2560x128x2x128 : Shape := ⟨5, ![1, 2560, 128, 2, 128]⟩
abbrev S_ : Shape := ⟨0, ![]⟩

class Facts : Prop where
  bcast_S_S128x16 : S_.BroadcastsInDim S128x16 (![] : Fin 0 → Fin S128x16.rank)

variable [Facts]

def fn {F : FTy → Type} [FloatOps F] (main_arg0 : IVec S128x16 32) (main_arg1 : FVec F S128x8x1024 .bf16) (main_arg2 : FVec F S128x8x2176 .f32) (main_arg3 : FVec F S128x8x256 .f32) (main_arg4 : FVec F S128x8x256 .f32) (main_arg5 : FVec F S1x2560x128x2x128 .f32) (main_arg6 : FVec F S1x2560x128x2x128 .f32) : IVec S128x16 1 :=
  let main_c : IVec S_ 32 := constantI S_ 32 0#32
  let main_v0 : IVec S128x16 32 := broadcastInDim S128x16 ![] bcast_S_S128x16 main_c
  let main_v1 : IVec S128x16 1 := cmpi .sge main_arg0 main_v0
  let main_c_0 : IVec S_ 32 := constantI S_ 32 2560#32
  let main_v2 : IVec S128x16 32 := broadcastInDim S128x16 ![] bcast_S_S128x16 main_c_0
  let main_v3 : IVec S128x16 1 := cmpi .slt main_arg0 main_v2
  let main_v4 : IVec S128x16 1 := andi main_v1 main_v3
  main_v4
-- ==== Kernel.lean ====
abbrev S128x16 : Shape := ⟨2, ![128, 16]⟩
abbrev S128x8x1024 : Shape := ⟨3, ![128, 8, 1024]⟩
abbrev S128x8x2176 : Shape := ⟨3, ![128, 8, 2176]⟩
abbrev S128x8x256 : Shape := ⟨3, ![128, 8, 256]⟩
abbrev S1x2560x128x2x128 : Shape := ⟨5, ![1, 2560, 128, 2, 128]⟩
abbrev S2560x128x2x128 : Shape := ⟨4, ![2560, 128, 2, 128]⟩
abbrev S2560x256x128 : Shape := ⟨3, ![2560, 256, 128]⟩
abbrev S1x8x1024 : Shape := ⟨3, ![1, 8, 1024]⟩
abbrev S1x8x2176 : Shape := ⟨3, ![1, 8, 2176]⟩
abbrev S1x8x256 : Shape := ⟨3, ![1, 8, 256]⟩
abbrev S1x256x128 : Shape := ⟨3, ![1, 256, 128]⟩
abbrev S1x1 : Shape := ⟨2, ![1, 1]⟩
abbrev S8x1024 : Shape := ⟨2, ![8, 1024]⟩
abbrev S8x2176 : Shape := ⟨2, ![8, 2176]⟩
abbrev S120x128 : Shape := ⟨2, ![120, 128]⟩
abbrev S8x128 : Shape := ⟨2, ![8, 128]⟩
abbrev S32x128 : Shape := ⟨2, ![32, 128]⟩
abbrev S1x128x128 : Shape := ⟨3, ![1, 128, 128]⟩
abbrev S128x128 : Shape := ⟨2, ![128, 128]⟩
abbrev S1x8x128 : Shape := ⟨3, ![1, 8, 128]⟩
abbrev S32 : Shape := ⟨1, ![32]⟩
abbrev S32x1 : Shape := ⟨2, ![32, 1]⟩

abbrev nBuf : Space → Nat
  | .hbm => 11
  | .vmem => 74
  | .smem => 1
  | _ => 0

abbrev bufTy : (tb : Table) → Fin (tcTables nBuf tb) → BufTy
  | .hbm, ⟨0, _⟩ => ⟨S128x8x1024, .bf16⟩
  | .hbm, ⟨1, _⟩ => ⟨S128x8x2176, .f32⟩
  | .hbm, ⟨2, _⟩ => ⟨S128x8x256, .f32⟩
  | .hbm, ⟨3, _⟩ => ⟨S128x8x256, .f32⟩
  | .hbm, ⟨4, _⟩ => ⟨S1x2560x128x2x128, .f32⟩
  | .hbm, ⟨5, _⟩ => ⟨S1x2560x128x2x128, .f32⟩
  | .hbm, ⟨6, _⟩ => ⟨S2560x128x2x128, .f32⟩
  | .hbm, ⟨7, _⟩ => ⟨S2560x256x128, .f32⟩
  | .hbm, ⟨8, _⟩ => ⟨S2560x128x2x128, .f32⟩
  | .hbm, ⟨9, _⟩ => ⟨S2560x256x128, .f32⟩
  | .hbm, ⟨10, _⟩ => ⟨S128x8x1024, .f32⟩
  | .local _ .vmem, ⟨0, _⟩ => ⟨S1x8x1024, .bf16⟩
  | .local _ .vmem, ⟨1, _⟩ => ⟨S1x8x1024, .bf16⟩
  | .local _ .vmem, ⟨2, _⟩ => ⟨S1x8x2176, .f32⟩
  | .local _ .vmem, ⟨3, _⟩ => ⟨S1x8x2176, .f32⟩
  | .local _ .vmem, ⟨4, _⟩ => ⟨S1x8x256, .f32⟩
  | .local _ .vmem, ⟨5, _⟩ => ⟨S1x8x256, .f32⟩
  | .local _ .vmem, ⟨6, _⟩ => ⟨S1x8x256, .f32⟩
  | .local _ .vmem, ⟨7, _⟩ => ⟨S1x8x256, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S1x256x128, .f32⟩
  | .local _ .vmem, ⟨19, _⟩ => ⟨S1x256x128, .f32⟩
  | .local _ .vmem, ⟨20, _⟩ => ⟨S1x256x128, .f32⟩
  | .local _ .vmem, ⟨21, _⟩ => ⟨S1x256x128, .f32⟩
  | .local _ .vmem, ⟨22, _⟩ => ⟨S1x256x128, .f32⟩
  | .local _ .vmem, ⟨23, _⟩ => ⟨S1x256x128, .f32⟩
  | .local _ .vmem, ⟨24, _⟩ => ⟨S1x256x128, .f32⟩
  | .local _ .vmem, ⟨25, _⟩ => ⟨S1x256x128, .f32⟩
  | .local _ .vmem, ⟨26, _⟩ => ⟨S1x256x128, .f32⟩
  | .local _ .vmem, ⟨27, _⟩ => ⟨S1x256x128, .f32⟩
  | .local _ .vmem, ⟨28, _⟩ => ⟨S1x256x128, .f32⟩
  | .local _ .vmem, ⟨29, _⟩ => ⟨S1x256x128, .f32⟩
  | .local _ .vmem, ⟨30, _⟩ => ⟨S1x256x128, .f32⟩
  | .local _ .vmem, ⟨31, _⟩ => ⟨S1x256x128, .f32⟩
  | .local _ .vmem, ⟨32, _⟩ => ⟨S1x256x128, .f32⟩
  | .local _ .vmem, ⟨33, _⟩ => ⟨S1x256x128, .f32⟩
  | .local _ .vmem, ⟨34, _⟩ => ⟨S1x256x128, .f32⟩
  | .local _ .vmem, ⟨35, _⟩ => ⟨S1x256x128, .f32⟩
  | .local _ .vmem, ⟨36, _⟩ => ⟨S1x256x128, .f32⟩
  | .local _ .vmem, ⟨37, _⟩ => ⟨S1x256x128, .f32⟩
  | .local _ .vmem, ⟨38, _⟩ => ⟨S1x256x128, .f32⟩
  | .local _ .vmem, ⟨39, _⟩ => ⟨S1x256x128, .f32⟩
  | .local _ .vmem, ⟨40, _⟩ => ⟨S1x256x128, .f32⟩
  | .local _ .vmem, ⟨41, _⟩ => ⟨S1x256x128, .f32⟩
  | .local _ .vmem, ⟨42, _⟩ => ⟨S1x256x128, .f32⟩
  | .local _ .vmem, ⟨43, _⟩ => ⟨S1x256x128, .f32⟩
  | .local _ .vmem, ⟨44, _⟩ => ⟨S1x256x128, .f32⟩
  | .local _ .vmem, ⟨45, _⟩ => ⟨S1x256x128, .f32⟩
  | .local _ .vmem, ⟨46, _⟩ => ⟨S1x256x128, .f32⟩
  | .local _ .vmem, ⟨47, _⟩ => ⟨S1x256x128, .f32⟩
  | .local _ .vmem, ⟨48, _⟩ => ⟨S1x256x128, .f32⟩
  | .local _ .vmem, ⟨49, _⟩ => ⟨S1x256x128, .f32⟩
  | .local _ .vmem, ⟨50, _⟩ => ⟨S1x256x128, .f32⟩
  | .local _ .vmem, ⟨51, _⟩ => ⟨S1x256x128, .f32⟩
  | .local _ .vmem, ⟨52, _⟩ => ⟨S1x256x128, .f32⟩
  | .local _ .vmem, ⟨53, _⟩ => ⟨S1x256x128, .f32⟩
  | .local _ .vmem, ⟨54, _⟩ => ⟨S1x256x128, .f32⟩
  | .local _ .vmem, ⟨55, _⟩ => ⟨S1x256x128, .f32⟩
  | .local _ .vmem, ⟨56, _⟩ => ⟨S1x256x128, .f32⟩
  | .local _ .vmem, ⟨57, _⟩ => ⟨S1x256x128, .f32⟩
  | .local _ .vmem, ⟨58, _⟩ => ⟨S1x256x128, .f32⟩
  | .local _ .vmem, ⟨59, _⟩ => ⟨S1x256x128, .f32⟩
  | .local _ .vmem, ⟨60, _⟩ => ⟨S1x256x128, .f32⟩
  | .local _ .vmem, ⟨61, _⟩ => ⟨S1x256x128, .f32⟩
  | .local _ .vmem, ⟨62, _⟩ => ⟨S1x256x128, .f32⟩
  | .local _ .vmem, ⟨63, _⟩ => ⟨S1x256x128, .f32⟩
  | .local _ .vmem, ⟨64, _⟩ => ⟨S1x256x128, .f32⟩
  | .local _ .vmem, ⟨65, _⟩ => ⟨S1x256x128, .f32⟩
  | .local _ .vmem, ⟨66, _⟩ => ⟨S1x256x128, .f32⟩
  | .local _ .vmem, ⟨67, _⟩ => ⟨S1x256x128, .f32⟩
  | .local _ .vmem, ⟨68, _⟩ => ⟨S1x256x128, .f32⟩
  | .local _ .vmem, ⟨69, _⟩ => ⟨S1x256x128, .f32⟩
  | .local _ .vmem, ⟨70, _⟩ => ⟨S1x256x128, .f32⟩
  | .local _ .vmem, ⟨71, _⟩ => ⟨S1x256x128, .f32⟩
  | .local _ .vmem, ⟨72, _⟩ => ⟨S1x8x1024, .f32⟩
  | .local _ .vmem, ⟨73, _⟩ => ⟨S1x8x1024, .f32⟩
  | .local _ .smem, ⟨0, _⟩ => ⟨S128x16, .i32⟩
  | _, _ => ⟨S128x8x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_off3 (i : grid0.Coords) : Fin 2 → Nat :=
  let arg0 : BitVec 32 := BitVec.ofNat 32 (i 0).val
  let v0 : Index := Scalar.indexCast arg0
  let c2 : Index := 2#32
  ![v0.toNat, 2]
def k0_off4 (i : grid0.Coords) : Fin 2 → Nat :=
  let arg0 : BitVec 32 := BitVec.ofNat 32 (i 0).val
  let v0 : Index := Scalar.indexCast arg0
  let c3 : Index := 3#32
  ![v0.toNat, 3]
def k0_off5 (i : grid0.Coords) : Fin 2 → Nat :=
  let arg0 : BitVec 32 := BitVec.ofNat 32 (i 0).val
  let v0 : Index := Scalar.indexCast arg0
  let c4 : Index := 4#32
  ![v0.toNat, 4]
def k0_off6 (i : grid0.Coords) : Fin 2 → Nat :=
  let arg0 : BitVec 32 := BitVec.ofNat 32 (i 0).val
  let v0 : Index := Scalar.indexCast arg0
  let c5 : Index := 5#32
  ![v0.toNat, 5]
def k0_off7 (i : grid0.Coords) : Fin 2 → Nat :=
  let arg0 : BitVec 32 := BitVec.ofNat 32 (i 0).val
  let v0 : Index := Scalar.indexCast arg0
  let c6 : Index := 6#32
  ![v0.toNat, 6]
def k0_off8 (i : grid0.Coords) : Fin 2 → Nat :=
  let arg0 : BitVec 32 := BitVec.ofNat 32 (i 0).val
  let v0 : Index := Scalar.indexCast arg0
  let c7 : Index := 7#32
  ![v0.toNat, 7]
def k0_off9 (i : grid0.Coords) : Fin 2 → Nat :=
  let arg0 : BitVec 32 := BitVec.ofNat 32 (i 0).val
  let v0 : Index := Scalar.indexCast arg0
  let c8 : Index := 8#32
  ![v0.toNat, 8]
def k0_off10 (i : grid0.Coords) : Fin 2 → Nat :=
  let arg0 : BitVec 32 := BitVec.ofNat 32 (i 0).val
  let v0 : Index := Scalar.indexCast arg0
  let c9 : Index := 9#32
  ![v0.toNat, 9]
def k0_off11 (i : grid0.Coords) : Fin 2 → Nat :=
  let arg0 : BitVec 32 := BitVec.ofNat 32 (i 0).val
  let v0 : Index := Scalar.indexCast arg0
  let c10 : Index := 10#32
  ![v0.toNat, 10]
def k0_off12 (i : grid0.Coords) : Fin 2 → Nat :=
  let arg0 : BitVec 32 := BitVec.ofNat 32 (i 0).val
  let v0 : Index := Scalar.indexCast arg0
  let c11 : Index := 11#32
  ![v0.toNat, 11]
def k0_off13 (i : grid0.Coords) : Fin 2 → Nat :=
  let arg0 : BitVec 32 := BitVec.ofNat 32 (i 0).val
  let v0 : Index := Scalar.indexCast arg0
  let c12 : Index := 12#32
  ![v0.toNat, 12]
def k0_off14 (i : grid0.Coords) : Fin 2 → Nat :=
  let arg0 : BitVec 32 := BitVec.ofNat 32 (i 0).val
  let v0 : Index := Scalar.indexCast arg0
  let c13 : Index := 13#32
  ![v0.toNat, 13]
def k0_off15 (i : grid0.Coords) : Fin 2 → Nat :=
  let arg0 : BitVec 32 := BitVec.ofNat 32 (i 0).val
  let v0 : Index := Scalar.indexCast arg0
  let c14 : Index := 14#32
  ![v0.toNat, 14]
def k0_off16 (i : grid0.Coords) : Fin 2 → Nat :=
  let arg0 : BitVec 32 := BitVec.ofNat 32 (i 0).val
  let v0 : Index := Scalar.indexCast arg0
  let c15 : Index := 15#32
  ![v0.toNat, 15]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (k0_off1_inb : ∀ i : grid0.Coords, ∀ a, (k0_off1 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S128x16) ![v0.toNat, 0] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_5 (k0_off2_inb : ∀ i : grid0.Coords, ∀ a, (k0_off2 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c1 : Index := 1#32
  let v1 : BitVec 32 := pf.at 0 (Rect.unit (s := S128x16) ![v0.toNat, 1] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_6 (k0_off3_inb : ∀ i : grid0.Coords, ∀ a, (k0_off3 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c2 : Index := 2#32
  let v1 : BitVec 32 := pf.at 0 (Rect.unit (s := S128x16) ![v0.toNat, 2] S1x1.size (k0_off3_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_7 (k0_off4_inb : ∀ i : grid0.Coords, ∀ a, (k0_off4 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c3 : Index := 3#32
  let v1 : BitVec 32 := pf.at 0 (Rect.unit (s := S128x16) ![v0.toNat, 3] S1x1.size (k0_off4_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_8 (k0_off5_inb : ∀ i : grid0.Coords, ∀ a, (k0_off5 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c4 : Index := 4#32
  let v1 : BitVec 32 := pf.at 0 (Rect.unit (s := S128x16) ![v0.toNat, 4] S1x1.size (k0_off5_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_9 (k0_off6_inb : ∀ i : grid0.Coords, ∀ a, (k0_off6 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c5 : Index := 5#32
  let v1 : BitVec 32 := pf.at 0 (Rect.unit (s := S128x16) ![v0.toNat, 5] S1x1.size (k0_off6_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_10 (k0_off7_inb : ∀ i : grid0.Coords, ∀ a, (k0_off7 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c6 : Index := 6#32
  let v1 : BitVec 32 := pf.at 0 (Rect.unit (s := S128x16) ![v0.toNat, 6] S1x1.size (k0_off7_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_11 (k0_off8_inb : ∀ i : grid0.Coords, ∀ a, (k0_off8 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c7 : Index := 7#32
  let v1 : BitVec 32 := pf.at 0 (Rect.unit (s := S128x16) ![v0.toNat, 7] S1x1.size (k0_off8_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_12 (k0_off9_inb : ∀ i : grid0.Coords, ∀ a, (k0_off9 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c8 : Index := 8#32
  let v1 : BitVec 32 := pf.at 0 (Rect.unit (s := S128x16) ![v0.toNat, 8] S1x1.size (k0_off9_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_13 (k0_off10_inb : ∀ i : grid0.Coords, ∀ a, (k0_off10 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c9 : Index := 9#32
  let v1 : BitVec 32 := pf.at 0 (Rect.unit (s := S128x16) ![v0.toNat, 9] S1x1.size (k0_off10_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_14 (k0_off11_inb : ∀ i : grid0.Coords, ∀ a, (k0_off11 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c10 : Index := 10#32
  let v1 : BitVec 32 := pf.at 0 (Rect.unit (s := S128x16) ![v0.toNat, 10] S1x1.size (k0_off11_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_15 (k0_off12_inb : ∀ i : grid0.Coords, ∀ a, (k0_off12 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c11 : Index := 11#32
  let v1 : BitVec 32 := pf.at 0 (Rect.unit (s := S128x16) ![v0.toNat, 11] S1x1.size (k0_off12_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_16 (k0_off13_inb : ∀ i : grid0.Coords, ∀ a, (k0_off13 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c12 : Index := 12#32
  let v1 : BitVec 32 := pf.at 0 (Rect.unit (s := S128x16) ![v0.toNat, 12] S1x1.size (k0_off13_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_17 (k0_off14_inb : ∀ i : grid0.Coords, ∀ a, (k0_off14 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c13 : Index := 13#32
  let v1 : BitVec 32 := pf.at 0 (Rect.unit (s := S128x16) ![v0.toNat, 13] S1x1.size (k0_off14_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_18 (k0_off15_inb : ∀ i : grid0.Coords, ∀ a, (k0_off15 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c14 : Index := 14#32
  let v1 : BitVec 32 := pf.at 0 (Rect.unit (s := S128x16) ![v0.toNat, 14] S1x1.size (k0_off15_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_19 (k0_off16_inb : ∀ i : grid0.Coords, ∀ a, (k0_off16 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c15 : Index := 15#32
  let v1 : BitVec 32 := pf.at 0 (Rect.unit (s := S128x16) ![v0.toNat, 15] S1x1.size (k0_off16_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_20 (k0_off1_inb : ∀ i : grid0.Coords, ∀ a, (k0_off1 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S128x16) ![v0.toNat, 0] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_21 (k0_off2_inb : ∀ i : grid0.Coords, ∀ a, (k0_off2 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c1 : Index := 1#32
  let v1 : BitVec 32 := pf.at 0 (Rect.unit (s := S128x16) ![v0.toNat, 1] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_22 (k0_off3_inb : ∀ i : grid0.Coords, ∀ a, (k0_off3 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c2 : Index := 2#32
  let v1 : BitVec 32 := pf.at 0 (Rect.unit (s := S128x16) ![v0.toNat, 2] S1x1.size (k0_off3_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_23 (k0_off4_inb : ∀ i : grid0.Coords, ∀ a, (k0_off4 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c3 : Index := 3#32
  let v1 : BitVec 32 := pf.at 0 (Rect.unit (s := S128x16) ![v0.toNat, 3] S1x1.size (k0_off4_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_24 (k0_off5_inb : ∀ i : grid0.Coords, ∀ a, (k0_off5 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c4 : Index := 4#32
  let v1 : BitVec 32 := pf.at 0 (Rect.unit (s := S128x16) ![v0.toNat, 4] S1x1.size (k0_off5_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_25 (k0_off6_inb : ∀ i : grid0.Coords, ∀ a, (k0_off6 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c5 : Index := 5#32
  let v1 : BitVec 32 := pf.at 0 (Rect.unit (s := S128x16) ![v0.toNat, 5] S1x1.size (k0_off6_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_26 (k0_off7_inb : ∀ i : grid0.Coords, ∀ a, (k0_off7 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c6 : Index := 6#32
  let v1 : BitVec 32 := pf.at 0 (Rect.unit (s := S128x16) ![v0.toNat, 6] S1x1.size (k0_off7_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_27 (k0_off8_inb : ∀ i : grid0.Coords, ∀ a, (k0_off8 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c7 : Index := 7#32
  let v1 : BitVec 32 := pf.at 0 (Rect.unit (s := S128x16) ![v0.toNat, 7] S1x1.size (k0_off8_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_28 (k0_off9_inb : ∀ i : grid0.Coords, ∀ a, (k0_off9 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c8 : Index := 8#32
  let v1 : BitVec 32 := pf.at 0 (Rect.unit (s := S128x16) ![v0.toNat, 8] S1x1.size (k0_off9_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_29 (k0_off10_inb : ∀ i : grid0.Coords, ∀ a, (k0_off10 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c9 : Index := 9#32
  let v1 : BitVec 32 := pf.at 0 (Rect.unit (s := S128x16) ![v0.toNat, 9] S1x1.size (k0_off10_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_30 (k0_off11_inb : ∀ i : grid0.Coords, ∀ a, (k0_off11 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c10 : Index := 10#32
  let v1 : BitVec 32 := pf.at 0 (Rect.unit (s := S128x16) ![v0.toNat, 10] S1x1.size (k0_off11_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_31 (k0_off12_inb : ∀ i : grid0.Coords, ∀ a, (k0_off12 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c11 : Index := 11#32
  let v1 : BitVec 32 := pf.at 0 (Rect.unit (s := S128x16) ![v0.toNat, 11] S1x1.size (k0_off12_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_32 (k0_off13_inb : ∀ i : grid0.Coords, ∀ a, (k0_off13 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c12 : Index := 12#32
  let v1 : BitVec 32 := pf.at 0 (Rect.unit (s := S128x16) ![v0.toNat, 12] S1x1.size (k0_off13_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_33 (k0_off14_inb : ∀ i : grid0.Coords, ∀ a, (k0_off14 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c13 : Index := 13#32
  let v1 : BitVec 32 := pf.at 0 (Rect.unit (s := S128x16) ![v0.toNat, 13] S1x1.size (k0_off14_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_34 (k0_off15_inb : ∀ i : grid0.Coords, ∀ a, (k0_off15 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c14 : Index := 14#32
  let v1 : BitVec 32 := pf.at 0 (Rect.unit (s := S128x16) ![v0.toNat, 14] S1x1.size (k0_off15_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_35 (k0_off16_inb : ∀ i : grid0.Coords, ∀ a, (k0_off16 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c15 : Index := 15#32
  let v1 : BitVec 32 := pf.at 0 (Rect.unit (s := S128x16) ![v0.toNat, 15] S1x1.size (k0_off16_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_36 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2176 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x256x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x256x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x256x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x256x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x256x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x256x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x256x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x256x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x256x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x256x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x256x128 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x256x128 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x8x1024 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]
-- ==== ReferenceIdeal.lean ====
abbrev S128x16 : Shape := ⟨2, ![128, 16]⟩
abbrev S128x8x1024 : Shape := ⟨3, ![128, 8, 1024]⟩
abbrev S128x8x2176 : Shape := ⟨3, ![128, 8, 2176]⟩
abbrev S128x8x256 : Shape := ⟨3, ![128, 8, 256]⟩
abbrev S1x2560x128x2x128 : Shape := ⟨5, ![1, 2560, 128, 2, 128]⟩
abbrev S2560x128x2x128 : Shape := ⟨4, ![2560, 128, 2, 128]⟩
abbrev S_ : Shape := ⟨0, ![]⟩
abbrev S128x16x1 : Shape := ⟨3, ![128, 16, 1]⟩
abbrev S128x16x128x2x128 : Shape := ⟨5, ![128, 16, 128, 2, 128]⟩
abbrev S128x2048x2x128 : Shape := ⟨4, ![128, 2048, 2, 128]⟩
abbrev S128x8x2x128 : Shape := ⟨4, ![128, 8, 2, 128]⟩
abbrev S128x2056x2x128 : Shape := ⟨4, ![128, 2056, 2, 128]⟩
abbrev S128x8x2x4x128 : Shape := ⟨5, ![128, 8, 2, 4, 128]⟩
abbrev S128x2x2056x8x4 : Shape := ⟨5, ![128, 2, 2056, 8, 4]⟩
abbrev S128x8x2x4x2056 : Shape := ⟨5, ![128, 8, 2, 4, 2056]⟩
abbrev S128x8x2056 : Shape := ⟨3, ![128, 8, 2056]⟩
abbrev S128x8x1x1x2056 : Shape := ⟨5, ![128, 8, 1, 1, 2056]⟩
abbrev S128x8x2x4 : Shape := ⟨4, ![128, 8, 2, 4]⟩
abbrev S128x8x2x4x1 : Shape := ⟨5, ![128, 8, 2, 4, 1]⟩
abbrev S128x2x128x8x4 : Shape := ⟨5, ![128, 2, 128, 8, 4]⟩

abbrev nBuf : Space → Nat
  | .hbm => 58
  | .vmem => 0
  | .smem => 0
  | _ => 0

abbrev bufTy : (tb : Table) → Fin (tcTables nBuf tb) → BufTy
  | .hbm, ⟨0, _⟩ => ⟨S128x16, .i32⟩
  | .hbm, ⟨1, _⟩ => ⟨S128x8x1024, .bf16⟩
  | .hbm, ⟨2, _⟩ => ⟨S128x8x2176, .f32⟩
  | .hbm, ⟨3, _⟩ => ⟨S128x8x256, .f32⟩
  | .hbm, ⟨4, _⟩ => ⟨S128x8x256, .f32⟩
  | .hbm, ⟨5, _⟩ => ⟨S1x2560x128x2x128, .f32⟩
  | .hbm, ⟨6, _⟩ => ⟨S1x2560x128x2x128, .f32⟩
  | .hbm, ⟨7, _⟩ => ⟨S2560x128x2x128, .f32⟩
  | .hbm, ⟨8, _⟩ => ⟨S_, .i32⟩
  | .hbm, ⟨9, _⟩ => ⟨S128x16, .i32⟩
  | .hbm, ⟨10, _⟩ => ⟨S128x16, .i1⟩
  | .hbm, ⟨11, _⟩ => ⟨S_, .i32⟩
  | .hbm, ⟨12, _⟩ => ⟨S128x16, .i32⟩
  | .hbm, ⟨13, _⟩ => ⟨S128x16, .i32⟩
  | .hbm, ⟨14, _⟩ => ⟨S128x16, .i32⟩
  | .hbm, ⟨15, _⟩ => ⟨S128x16x1, .i32⟩
  | .hbm, ⟨16, _⟩ => ⟨S128x16x128x2x128, .f32⟩
  | .hbm, ⟨17, _⟩ => ⟨S128x2048x2x128, .f32⟩
  | .hbm, ⟨18, _⟩ => ⟨S2560x128x2x128, .f32⟩
  | .hbm, ⟨19, _⟩ => ⟨S_, .i32⟩
  | .hbm, ⟨20, _⟩ => ⟨S128x16, .i32⟩
  | .hbm, ⟨21, _⟩ => ⟨S128x16, .i1⟩
  | .hbm, ⟨22, _⟩ => ⟨S_, .i32⟩
  | .hbm, ⟨23, _⟩ => ⟨S128x16, .i32⟩
  | .hbm, ⟨24, _⟩ => ⟨S128x16, .i32⟩
  | .hbm, ⟨25, _⟩ => ⟨S128x16, .i32⟩
  | .hbm, ⟨26, _⟩ => ⟨S128x16x1, .i32⟩
  | .hbm, ⟨27, _⟩ => ⟨S128x16x128x2x128, .f32⟩
  | .hbm, ⟨28, _⟩ => ⟨S128x2048x2x128, .f32⟩
  | .hbm, ⟨29, _⟩ => ⟨S128x8x2x128, .f32⟩
  | .hbm, ⟨30, _⟩ => ⟨S128x2056x2x128, .f32⟩
  | .hbm, ⟨31, _⟩ => ⟨S128x8x2x128, .f32⟩
  | .hbm, ⟨32, _⟩ => ⟨S128x2056x2x128, .f32⟩
  | .hbm, ⟨33, _⟩ => ⟨S128x8x1024, .f32⟩
  | .hbm, ⟨34, _⟩ => ⟨S128x8x2x4x128, .f32⟩
  | .hbm, ⟨35, _⟩ => ⟨S128x2x2056x8x4, .f32⟩
  | .hbm, ⟨36, _⟩ => ⟨S128x8x2x4x2056, .f32⟩
  | .hbm, ⟨37, _⟩ => ⟨S128x8x2056, .f32⟩
  | .hbm, ⟨38, _⟩ => ⟨S128x8x1x1x2056, .f32⟩
  | .hbm, ⟨39, _⟩ => ⟨S128x8x2x4x2056, .f32⟩
  | .hbm, ⟨40, _⟩ => ⟨S128x8x2x4x2056, .f32⟩
  | .hbm, ⟨41, _⟩ => ⟨S_, .f32⟩
  | .hbm, ⟨42, _⟩ => ⟨S128x8x2x4, .f32⟩
  | .hbm, ⟨43, _⟩ => ⟨S_, .f32⟩
  | .hbm, ⟨44, _⟩ => ⟨S128x8x2x4, .f32⟩
  | .hbm, ⟨45, _⟩ => ⟨S128x8x2x4, .f32⟩
  | .hbm, ⟨46, _⟩ => ⟨S128x8x2x4x1, .f32⟩
  | .hbm, ⟨47, _⟩ => ⟨S128x8x2x4x2056, .f32⟩
  | .hbm, ⟨48, _⟩ => ⟨S128x8x2x4x2056, .f32⟩
  | .hbm, ⟨49, _⟩ => ⟨S128x8x2x4x2056, .f32⟩
  | .hbm, ⟨50, _⟩ => ⟨S_, .f32⟩
  | .hbm, ⟨51, _⟩ => ⟨S128x8x2x4, .f32⟩
  | .hbm, ⟨52, _⟩ => ⟨S128x8x2x4x1, .f32⟩
  | .hbm, ⟨53, _⟩ => ⟨S128x8x2x4x2056, .f32⟩
  | .hbm, ⟨54, _⟩ => ⟨S128x8x2x4x2056, .f32⟩
  | .hbm, ⟨55, _⟩ => ⟨S128x2x128x8x4, .f32⟩
  | .hbm, ⟨56, _⟩ => ⟨S128x8x2x4x128, .f32⟩
  | .hbm, ⟨57, _⟩ => ⟨S128x8x1024, .f32⟩
  | _, _ => ⟨S128x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Ffn.lean ====
abbrev S4x4096x1024 : Shape := ⟨3, ![4, 4096, 1024]⟩
abbrev S1x4x4096x256 : Shape := ⟨4, ![1, 4, 4096, 256]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S1024 : Shape := ⟨1, ![1024]⟩
abbrev S1024x1024 : Shape := ⟨2, ![1024, 1024]⟩
abbrev S1024x5632 : Shape := ⟨2, ![1024, 5632]⟩
abbrev S1024x2816 : Shape := ⟨2, ![1024, 2816]⟩
abbrev S2816x1024 : Shape := ⟨2, ![2816, 1024]⟩
abbrev S256x1024 : Shape := ⟨2, ![256, 1024]⟩
abbrev S16384x1024 : Shape := ⟨2, ![16384, 1024]⟩
abbrev S4x4096x256 : Shape := ⟨3, ![4, 4096, 256]⟩
abbrev S16384x256 : Shape := ⟨2, ![16384, 256]⟩
abbrev S512x1024 : Shape := ⟨2, ![512, 1024]⟩
abbrev S512x256 : Shape := ⟨2, ![512, 256]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 39
  | .vmem => 27
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S1x4x4096x256, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x2816x1024, .f32⟩
  | .hbm, ⟨9, _⟩ => ⟨S1x1024, .f32⟩
  | .hbm, ⟨10, _⟩ => ⟨S1x256x1024, .f32⟩
  | .hbm, ⟨11, _⟩ => ⟨S1x1024x1024, .f32⟩
  | .hbm, ⟨12, _⟩ => ⟨S1024, .f32⟩
  | .hbm, ⟨13, _⟩ => ⟨S1024x1024, .f32⟩
  | .hbm, ⟨14, _⟩ => ⟨S1024x1024, .bf16⟩
  | .hbm, ⟨15, _⟩ => ⟨S1024x5632, .f32⟩
  | .hbm, ⟨16, _⟩ => ⟨S1024x2816, .f32⟩
  | .hbm, ⟨17, _⟩ => ⟨S1024x2816, .bf16⟩
  | .hbm, ⟨18, _⟩ => ⟨S1024x5632, .f32⟩
  | .hbm, ⟨19, _⟩ => ⟨S1024x2816, .f32⟩
  | .hbm, ⟨20, _⟩ => ⟨S1024x2816, .bf16⟩
  | .hbm, ⟨21, _⟩ => ⟨S2816x1024, .f32⟩
  | .hbm, ⟨22, _⟩ => ⟨S2816x1024, .bf16⟩
  | .hbm, ⟨23, _⟩ => ⟨S256x1024, .f32⟩
  | .hbm, ⟨24, _⟩ => ⟨S256x1024, .bf16⟩
  | .hbm, ⟨25, _⟩ => ⟨S1024x1024, .f32⟩
  | .hbm, ⟨26, _⟩ => ⟨S1024x1024, .bf16⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S4x4096x256, .f32⟩
  | .hbm, ⟨32, _⟩ => ⟨S16384x256, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S1x1024, .f32⟩
  | .local _ .vmem, ⟨12, _⟩ => ⟨S1024x1408, .bf16⟩
  | .local _ .vmem, ⟨13, _⟩ => ⟨S1024x1408, .bf16⟩
  | .local _ .vmem, ⟨14, _⟩ => ⟨S1024x1408, .bf16⟩
  | .local _ .vmem, ⟨15, _⟩ => ⟨S1024x1408, .bf16⟩
  | .local _ .vmem, ⟨16, _⟩ => ⟨S1408x1024, .bf16⟩
  | .local _ .vmem, ⟨17, _⟩ => ⟨S1408x1024, .bf16⟩
  | .local _ .vmem, ⟨18, _⟩ => ⟨S1x1024, .f32⟩
  | .local _ .vmem, ⟨19, _⟩ => ⟨S256x1024, .bf16⟩
  | .local _ .vmem, ⟨20, _⟩ => ⟨S1024x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1408x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== FfnIdeal.lean ====
abbrev S4x4096x1024 : Shape := ⟨3, ![4, 4096, 1024]⟩
abbrev S1x4x4096x256 : Shape := ⟨4, ![1, 4, 4096, 256]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S1024 : Shape := ⟨1, ![1024]⟩
abbrev S1024x1024 : Shape := ⟨2, ![1024, 1024]⟩
abbrev S1024x5632 : Shape := ⟨2, ![1024, 5632]⟩
abbrev S1024x2816 : Shape := ⟨2, ![1024, 2816]⟩
abbrev S2816x1024 : Shape := ⟨2, ![2816, 1024]⟩
abbrev S256x1024 : Shape := ⟨2, ![256, 1024]⟩
abbrev S16384x1024 : Shape := ⟨2, ![16384, 1024]⟩
abbrev S4x4096x256 : Shape := ⟨3, ![4, 4096, 256]⟩
abbrev S16384x256 : Shape := ⟨2, ![16384, 256]⟩
abbrev S512x1024 : Shape := ⟨2, ![512, 1024]⟩
abbrev S512x256 : Shape := ⟨2, ![512, 256]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 39
  | .vmem => 27
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S1x4x4096x256, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x2816x1024, .f32⟩
  | .hbm, ⟨9, _⟩ => ⟨S1x1024, .f32⟩
  | .hbm, ⟨10, _⟩ => ⟨S1x256x1024, .f32⟩
  | .hbm, ⟨11, _⟩ => ⟨S1x1024x1024, .f32⟩
  | .hbm, ⟨12, _⟩ => ⟨S1024, .f32⟩
  | .hbm, ⟨13, _⟩ => ⟨S1024x1024, .f32⟩
  | .hbm, ⟨14, _⟩ => ⟨S1024x1024, .bf16⟩
  | .hbm, ⟨15, _⟩ => ⟨S1024x5632, .f32⟩
  | .hbm, ⟨16, _⟩ => ⟨S1024x2816, .f32⟩
  | .hbm, ⟨17, _⟩ => ⟨S1024x2816, .bf16⟩
  | .hbm, ⟨18, _⟩ => ⟨S1024x5632, .f32⟩
  | .hbm, ⟨19, _⟩ => ⟨S1024x2816, .f32⟩
  | .hbm, ⟨20, _⟩ => ⟨S1024x2816, .bf16⟩
  | .hbm, ⟨21, _⟩ => ⟨S2816x1024, .f32⟩
  | .hbm, ⟨22, _⟩ => ⟨S2816x1024, .bf16⟩
  | .hbm, ⟨23, _⟩ => ⟨S256x1024, .f32⟩
  | .hbm, ⟨24, _⟩ => ⟨S256x1024, .bf16⟩
  | .hbm, ⟨25, _⟩ => ⟨S1024x1024, .f32⟩
  | .hbm, ⟨26, _⟩ => ⟨S1024x1024, .bf16⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S4x4096x256, .f32⟩
  | .hbm, ⟨32, _⟩ => ⟨S16384x256, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S1x1024, .f32⟩
  | .local _ .vmem, ⟨12, _⟩ => ⟨S1024x1408, .bf16⟩
  | .local _ .vmem, ⟨13, _⟩ => ⟨S1024x1408, .bf16⟩
  | .local _ .vmem, ⟨14, _⟩ => ⟨S1024x1408, .bf16⟩
  | .local _ .vmem, ⟨15, _⟩ => ⟨S1024x1408, .bf16⟩
  | .local _ .vmem, ⟨16, _⟩ => ⟨S1408x1024, .bf16⟩
  | .local _ .vmem, ⟨17, _⟩ => ⟨S1408x1024, .bf16⟩
  | .local _ .vmem, ⟨18, _⟩ => ⟨S1x1024, .f32⟩
  | .local _ .vmem, ⟨19, _⟩ => ⟨S256x1024, .bf16⟩
  | .local _ .vmem, ⟨20, _⟩ => ⟨S1024x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1408x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== FfnRefIdeal.lean ====
abbrev S4x4096x1024 : Shape := ⟨3, ![4, 4096, 1024]⟩
abbrev S1x4x4096x256 : Shape := ⟨4, ![1, 4, 4096, 256]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S1024 : Shape := ⟨1, ![1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5632 : Shape := ⟨2, ![1024, 5632]⟩
abbrev S4x4096x5632 : Shape := ⟨3, ![4, 4096, 5632]⟩
abbrev S4x4096x2816 : Shape := ⟨3, ![4, 4096, 2816]⟩
abbrev S2816x1024 : Shape := ⟨2, ![2816, 1024]⟩
abbrev S4x4096x256 : Shape := ⟨3, ![4, 4096, 256]⟩
abbrev S256x1024 : Shape := ⟨2, ![256, 1024]⟩
abbrev S16384x1024 : Shape := ⟨2, ![16384, 1024]⟩

abbrev nBuf : Space → Nat
  | .hbm => 101
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S1x4x4096x256, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x2816x1024, .f32⟩
  | .hbm, ⟨9, _⟩ => ⟨S1x1024, .f32⟩
  | .hbm, ⟨10, _⟩ => ⟨S1x256x1024, .f32⟩
  | .hbm, ⟨11, _⟩ => ⟨S1x1024x1024, .f32⟩
  | .hbm, ⟨12, _⟩ => ⟨S1024, .f32⟩
  | .hbm, ⟨13, _⟩ => ⟨S4x4096x1024, .f32⟩
  | .hbm, ⟨14, _⟩ => ⟨S4x4096x1024, .f32⟩
  | .hbm, ⟨15, _⟩ => ⟨S1024x1024, .f32⟩
  | .hbm, ⟨16, _⟩ => ⟨S4x4096x1024, .f32⟩
  | .hbm, ⟨17, _⟩ => ⟨S4x4096x1024, .f32⟩
  | .hbm, ⟨18, _⟩ => ⟨S1024, .f32⟩
  | .hbm, ⟨19, _⟩ => ⟨S4x4096x1024, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x1, .f32⟩
  | .hbm, ⟨30, _⟩ => ⟨S4x4096x1024, .f32⟩
  | .hbm, ⟨31, _⟩ => ⟨S4x4096x1024, .f32⟩
  | .hbm, ⟨32, _⟩ => ⟨S1x1x1024, .f32⟩
  | .hbm, ⟨33, _⟩ => ⟨S4x4096x1024, .f32⟩
  | .hbm, ⟨34, _⟩ => ⟨S4x4096x1024, .f32⟩
  | .hbm, ⟨35, _⟩ => ⟨S1024x5632, .f32⟩
  | .hbm, ⟨36, _⟩ => ⟨S4x4096x5632, .f32⟩
  | .hbm, ⟨37, _⟩ => ⟨S4x4096x2816, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S_, .f32⟩
  | .hbm, ⟨42, _⟩ => ⟨S4x4096x2816, .f32⟩
  | .hbm, ⟨43, _⟩ => ⟨S4x4096x2816, .f32⟩
  | .hbm, ⟨44, _⟩ => ⟨S_, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S4x4096x2816, .f32⟩
  | .hbm, ⟨49, _⟩ => ⟨S2816x1024, .f32⟩
  | .hbm, ⟨50, _⟩ => ⟨S4x4096x1024, .f32⟩
  | .hbm, ⟨51, _⟩ => ⟨S4x4096x1024, .f32⟩
  | .hbm, ⟨52, _⟩ => ⟨S1024, .f32⟩
  | .hbm, ⟨53, _⟩ => ⟨S4x4096x1024, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S4x4096x1, .f32⟩
  | .hbm, ⟨64, _⟩ => ⟨S4x4096x1024, .f32⟩
  | .hbm, ⟨65, _⟩ => ⟨S4x4096x1024, .f32⟩
  | .hbm, ⟨66, _⟩ => ⟨S1x1x1024, .f32⟩
  | .hbm, ⟨67, _⟩ => ⟨S4x4096x1024, .f32⟩
  | .hbm, ⟨68, _⟩ => ⟨S4x4096x1024, .f32⟩
  | .hbm, ⟨69, _⟩ => ⟨S1024x1024, .f32⟩
  | .hbm, ⟨70, _⟩ => ⟨S4x4096x1024, .f32⟩
  | .hbm, ⟨71, _⟩ => ⟨S4x4096x1024, .f32⟩
  | .hbm, ⟨72, _⟩ => ⟨S4x4096x1024, .f32⟩
  | .hbm, ⟨73, _⟩ => ⟨S_, .f32⟩
  | .hbm, ⟨74, _⟩ => ⟨S4x4096x1024, .f32⟩
  | .hbm, ⟨75, _⟩ => ⟨S4x4096x1024, .f32⟩
  | .hbm, ⟨76, _⟩ => ⟨S_, .f32⟩
  | .hbm, ⟨77, _⟩ => ⟨S4x4096x1024, .f32⟩
  | .hbm, ⟨78, _⟩ => ⟨S4x4096x1024, .f32⟩
  | .hbm, ⟨79, _⟩ => ⟨S4x4096x256, .f32⟩
  | .hbm, ⟨80, _⟩ => ⟨S256x1024, .f32⟩
  | .hbm, ⟨81, _⟩ => ⟨S4x4096x1024, .f32⟩
  | .hbm, ⟨82, _⟩ => ⟨S4x4096x1024, .f32⟩
  | .hbm, ⟨83, _⟩ => ⟨S4x4096x1024, .f32⟩
  | .hbm, ⟨84, _⟩ => ⟨S4x4096x1024, .f32⟩
  | .hbm, ⟨85, _⟩ => ⟨S_, .f32⟩
  | .hbm, ⟨86, _⟩ => ⟨S4x4096, .f32⟩
  | .hbm, ⟨87, _⟩ => ⟨S4x4096x1, .f32⟩
  | .hbm, ⟨88, _⟩ => ⟨S_, .f32⟩
  | .hbm, ⟨89, _⟩ => ⟨S4x4096x1, .f32⟩
  | .hbm, ⟨90, _⟩ => ⟨S4x4096x1, .f32⟩
  | .hbm, ⟨91, _⟩ => ⟨S_, .f32⟩
  | .hbm, ⟨92, _⟩ => ⟨S4x4096x1, .f32⟩
  | .hbm, ⟨93, _⟩ => ⟨S4x4096x1, .f32⟩
  | .hbm, ⟨94, _⟩ => ⟨S4x4096x1, .f32⟩
  | .hbm, ⟨95, _⟩ => ⟨S4x4096x1024, .f32⟩
  | .hbm, ⟨96, _⟩ => ⟨S4x4096x1024, .f32⟩
  | .hbm, ⟨97, _⟩ => ⟨S1x1x1024, .f32⟩
  | .hbm, ⟨98, _⟩ => ⟨S4x4096x1024, .f32⟩
  | .hbm, ⟨99, _⟩ => ⟨S4x4096x1024, .f32⟩
  | .hbm, ⟨100, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_2 : Ref sig .tc := ⟨.hbm, 54, rfl⟩
abbrev main_v30 : Ref sig .tc := ⟨.hbm, 55, rfl⟩
abbrev main_v31 : Ref sig .tc := ⟨.hbm, 56, rfl⟩
abbrev main_cst_3 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_5 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_7 : Ref sig .tc := ⟨.hbm, 85, rfl⟩
abbrev main_v56 : Ref sig .tc := ⟨.hbm, 86, rfl⟩
abbrev main_v57 : Ref sig .tc := ⟨.hbm, 87, rfl⟩
abbrev main_cst_8 : Ref sig .tc := ⟨.hbm, 88, rfl⟩
abbrev main_v58 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]
-- ==== Inproj.lean ====
abbrev S128x8x1024 : Shape := ⟨3, ![128, 8, 1024]⟩
abbrev S1x128x2x1024 : Shape := ⟨4, ![1, 128, 2, 1024]⟩
abbrev S1x1024 : Shape := ⟨2, ![1, 1024]⟩
abbrev S1x1024x7240 : Shape := ⟨3, ![1, 1024, 7240]⟩
abbrev S1x3x1024 : Shape := ⟨3, ![1, 3, 1024]⟩
abbrev S1024x7240 : Shape := ⟨2, ![1024, 7240]⟩
abbrev S_ : Shape := ⟨0, ![]⟩
abbrev S1024x56 : Shape := ⟨2, ![1024, 56]⟩
abbrev S1024x2120 : Shape := ⟨2, ![1024, 2120]⟩
abbrev S1024x2176 : Shape := ⟨2, ![1024, 2176]⟩
abbrev S1024x5120 : Shape := ⟨2, ![1024, 5120]⟩
abbrev S256 : Shape := ⟨1, ![256]⟩
abbrev S64 : Shape := ⟨1, ![64]⟩
abbrev S256x1 : Shape := ⟨2, ![256, 1]⟩
abbrev S1x64 : Shape := ⟨2, ![1, 64]⟩
abbrev S256x64 : Shape := ⟨2, ![256, 64]⟩
abbrev S256x128 : Shape := ⟨2, ![256, 128]⟩
abbrev S1x256x1x128 : Shape := ⟨4, ![1, 256, 1, 128]⟩
abbrev S32 : Shape := ⟨1, ![32]⟩
abbrev S1x32 : Shape := ⟨2, ![1, 32]⟩
abbrev S256x32 : Shape := ⟨2, ![256, 32]⟩
abbrev S1x256x1x64 : Shape := ⟨4, ![1, 256, 1, 64]⟩
abbrev S1x256x2x64 : Shape := ⟨4, ![1, 256, 2, 64]⟩
abbrev S256x512 : Shape := ⟨2, ![256, 512]⟩
abbrev S128x2x1024 : Shape := ⟨3, ![128, 2, 1024]⟩
abbrev S128x6x1024 : Shape := ⟨3, ![128, 6, 1024]⟩
abbrev S4x256x1024 : Shape := ⟨3, ![4, 256, 1024]⟩
abbrev S1024 : Shape := ⟨1, ![1024]⟩
abbrev S3x1024 : Shape := ⟨2, ![3, 1024]⟩
abbrev S4x256x256 : Shape := ⟨3, ![4, 256, 256]⟩
abbrev S4x256x512 : Shape := ⟨3, ![4, 256, 512]⟩
abbrev S4x256x64 : Shape := ⟨3, ![4, 256, 64]⟩
abbrev S4x8x256 : Shape := ⟨3, ![4, 8, 256]⟩
abbrev S1x256x1024 : Shape := ⟨3, ![1, 256, 1024]⟩
abbrev S1x256x256 : Shape := ⟨3, ![1, 256, 256]⟩
abbrev S1x256x512 : Shape := ⟨3, ![1, 256, 512]⟩
abbrev S1x256x64 : Shape := ⟨3, ![1, 256, 64]⟩
abbrev S1x8x256 : Shape := ⟨3, ![1, 8, 256]⟩
abbrev S256x1024 : Shape := ⟨2, ![256, 1024]⟩
abbrev S256x2176 : Shape := ⟨2, ![256, 2176]⟩
abbrev S1x256x128 : Shape := ⟨3, ![1, 256, 128]⟩
abbrev S256x256 : Shape := ⟨2, ![256, 256]⟩
abbrev S128x256 : Shape := ⟨2, ![128, 256]⟩
abbrev S8x256 : Shape := ⟨2, ![8, 256]⟩
abbrev S256x5120 : Shape := ⟨2, ![256, 5120]⟩

abbrev nBuf : Space → Nat
  | .hbm => 109
  | .vmem => 29
  | .smem => 0
  | _ => 0

abbrev bufTy : (tb : Table) → Fin (tcTables nBuf tb) → BufTy
  | .hbm, ⟨0, _⟩ => ⟨S128x8x1024, .f32⟩
  | .hbm, ⟨1, _⟩ => ⟨S1x128x2x1024, .f32⟩
  | .hbm, ⟨2, _⟩ => ⟨S1x1024, .f32⟩
  | .hbm, ⟨3, _⟩ => ⟨S1x1024x7240, .f32⟩
  | .hbm, ⟨4, _⟩ => ⟨S1x3x1024, .f32⟩
  | .hbm, ⟨5, _⟩ => ⟨S1024x7240, .f32⟩
  | .hbm, ⟨6, _⟩ => ⟨S_, .f32⟩
  | .hbm, ⟨7, _⟩ => ⟨S1024x56, .f32⟩
  | .hbm, ⟨8, _⟩ => ⟨S1024x2120, .f32⟩
  | .hbm, ⟨9, _⟩ => ⟨S1024x2176, .f32⟩
  | .hbm, ⟨10, _⟩ => ⟨S1024x2176, .bf16⟩
  | .hbm, ⟨11, _⟩ => ⟨S1024x5120, .f32⟩
  | .hbm, ⟨12, _⟩ => ⟨S1024x5120, .bf16⟩
  | .hbm, ⟨13, _⟩ => ⟨S256, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S256, .i32⟩
  | .hbm, ⟨21, _⟩ => ⟨S256, .i32⟩
  | .hbm, ⟨22, _⟩ => ⟨S_, .i32⟩
  | .hbm, ⟨23, _⟩ => ⟨S256, .i32⟩
  | .hbm, ⟨24, _⟩ => ⟨S256, .i1⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S_, .i32⟩
  | .hbm, ⟨29, _⟩ => ⟨S_, .i1⟩
  | .hbm, ⟨30, _⟩ => ⟨S256, .i1⟩
  | .hbm, ⟨31, _⟩ => ⟨S256, .i1⟩
  | .hbm, ⟨32, _⟩ => ⟨S256, .i1⟩
  | .hbm, ⟨33, _⟩ => ⟨S256, .i32⟩
  | .hbm, ⟨34, _⟩ => ⟨S256, .i32⟩
  | .hbm, ⟨35, _⟩ => ⟨S256, .i32⟩
  | .hbm, ⟨36, _⟩ => ⟨S_, .i32⟩
  | .hbm, ⟨37, _⟩ => ⟨S256, .i32⟩
  | .hbm, ⟨38, _⟩ => ⟨S256, .i32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S256, .f32⟩
  | .hbm, ⟨48, _⟩ => ⟨S256x1, .f32⟩
  | .hbm, ⟨49, _⟩ => ⟨S1x64, .f32⟩
  | .hbm, ⟨50, _⟩ => ⟨S256x64, .f32⟩
  | .hbm, ⟨51, _⟩ => ⟨S256x64, .f32⟩
  | .hbm, ⟨52, _⟩ => ⟨S256x64, .f32⟩
  | .hbm, ⟨53, _⟩ => ⟨S256x64, .f32⟩
  | .hbm, ⟨54, _⟩ => ⟨S256x64, .f32⟩
  | .hbm, ⟨55, _⟩ => ⟨S256x128, .f32⟩
  | .hbm, ⟨56, _⟩ => ⟨S1x256x1x128, .f32⟩
  | .hbm, ⟨57, _⟩ => ⟨S1x256x1x128, .f32⟩
  | .hbm, ⟨58, _⟩ => ⟨S256x128, .f32⟩
  | .hbm, ⟨59, _⟩ => ⟨S256x64, .f32⟩
  | .hbm, ⟨60, _⟩ => ⟨S256x128, .f32⟩
  | .hbm, ⟨61, _⟩ => ⟨S1x256x1x128, .f32⟩
  | .hbm, ⟨62, _⟩ => ⟨S1x256x1x128, .f32⟩
  | .hbm, ⟨63, _⟩ => ⟨S256x128, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S256, .f32⟩
  | .hbm, ⟨73, _⟩ => ⟨S256x1, .f32⟩
  | .hbm, ⟨74, _⟩ => ⟨S1x32, .f32⟩
  | .hbm, ⟨75, _⟩ => ⟨S256x32, .f32⟩
  | .hbm, ⟨76, _⟩ => ⟨S256x32, .f32⟩
  | .hbm, ⟨77, _⟩ => ⟨S256x32, .f32⟩
  | .hbm, ⟨78, _⟩ => ⟨S256x32, .f32⟩
  | .hbm, ⟨79, _⟩ => ⟨S256x32, .f32⟩
  | .hbm, ⟨80, _⟩ => ⟨S256x64, .f32⟩
  | .hbm, ⟨81, _⟩ => ⟨S1x256x1x64, .f32⟩
  | .hbm, ⟨82, _⟩ => ⟨S1x256x2x64, .f32⟩
  | .hbm, ⟨83, _⟩ => ⟨S256x128, .f32⟩
  | .hbm, ⟨84, _⟩ => ⟨S256x32, .f32⟩
  | .hbm, ⟨85, _⟩ => ⟨S256x64, .f32⟩
  | .hbm, ⟨86, _⟩ => ⟨S1x256x1x64, .f32⟩
  | .hbm, ⟨87, _⟩ => ⟨S1x256x2x64, .f32⟩
  | .hbm, ⟨88, _⟩ => ⟨S256x128, .f32⟩
  | .hbm, ⟨89, _⟩ => ⟨S256x512, .f32⟩
  | .hbm, ⟨90, _⟩ => ⟨S128x2x1024, .f32⟩
  | .hbm, ⟨91, _⟩ => ⟨S_, .f32⟩
  | .hbm, ⟨92, _⟩ => ⟨S128x6x1024, .f32⟩
  | .hbm, ⟨93, _⟩ => ⟨S128x8x1024, .f32⟩
  | .hbm, ⟨94, _⟩ => ⟨S4x256x1024, .f32⟩
  | .hbm, ⟨95, _⟩ => ⟨S1024, .f32⟩
  | .hbm, ⟨96, _⟩ => ⟨S3x1024, .f32⟩
  | .hbm, ⟨97, _⟩ => ⟨S4x256x1024, .f32⟩
  | .hbm, ⟨98, _⟩ => ⟨S1x1024, .f32⟩
  | .hbm, ⟨99, _⟩ => ⟨S4x256x1024, .bf16⟩
  | .hbm, ⟨100, _⟩ => ⟨S4x256x256, .f32⟩
  | .hbm, ⟨101, _⟩ => ⟨S4x256x256, .f32⟩
  | .hbm, ⟨102, _⟩ => ⟨S4x256x512, .bf16⟩
  | .hbm, ⟨103, _⟩ => ⟨S4x256x64, .f32⟩
  | .hbm, ⟨104, _⟩ => ⟨S4x256x64, .bf16⟩
  | .hbm, ⟨105, _⟩ => ⟨S4x8x256, .f32⟩
  | .hbm, ⟨106, _⟩ => ⟨S4x256x1024, .f32⟩
  | .hbm, ⟨107, _⟩ => ⟨S4x256x1024, .f32⟩
  | .hbm, ⟨108, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2176, .bf16⟩
  | .local _ .vmem, ⟨4, _⟩ => ⟨S1024x5120, .bf16⟩
  | .local _ .vmem, ⟨5, _⟩ => ⟨S3x1024, .f32⟩
  | .local _ .vmem, ⟨6, _⟩ => ⟨S256x512, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .bf16⟩
  | .local _ .vmem, ⟨10, _⟩ => ⟨S1x256x1024, .bf16⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x512, .bf16⟩
  | .local _ .vmem, ⟨16, _⟩ => ⟨S1x256x512, .bf16⟩
  | .local _ .vmem, ⟨17, _⟩ => ⟨S1x256x64, .f32⟩
  | .local _ .vmem, ⟨18, _⟩ => ⟨S1x256x64, .f32⟩
  | .local _ .vmem, ⟨19, _⟩ => ⟨S1x256x64, .bf16⟩
  | .local _ .vmem, ⟨20, _⟩ => ⟨S1x256x64, .bf16⟩
  | .local _ .vmem, ⟨21, _⟩ => ⟨S1x8x256, .f32⟩
  | .local _ .vmem, ⟨22, _⟩ => ⟨S1x8x256, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | .local _ .vmem, ⟨28, _⟩ => ⟨S1x256x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v8 : Ref sig .tc := ⟨.hbm, 35, rfl⟩
abbrev main_c_0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_1 : Ref sig .tc := ⟨.hbm, 41, rfl⟩
abbrev main_v13 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_3 : Ref sig .tc := ⟨.hbm, 66, rfl⟩
abbrev main_v36 : Ref sig .tc := ⟨.hbm, 67, rfl⟩
abbrev main_v37 : Ref sig .tc := ⟨.hbm, 68, rfl⟩
abbrev main_cst_4 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_5 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66_0 : Ref sig .tc := ⟨.hbm, 99, rfl⟩
abbrev main_v66_1 : Ref sig .tc := ⟨.hbm, 100, rfl⟩
abbrev main_v66_2 : Ref sig .tc := ⟨.hbm, 101, rfl⟩
abbrev main_v66_3 : Ref sig .tc := ⟨.hbm, 102, rfl⟩
abbrev main_v66_4 : Ref sig .tc := ⟨.hbm, 103, rfl⟩
abbrev main_v66_5 : Ref sig .tc := ⟨.hbm, 104, rfl⟩
abbrev main_v66_6 : Ref sig .tc := ⟨.hbm, 105, rfl⟩
abbrev main_v66_7 : Ref sig .tc := ⟨.hbm, 106, rfl⟩
abbrev main_v66_8 : Ref sig .tc := ⟨.hbm, 107, rfl⟩
abbrev main_v66_9 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== InprojRefIdeal.lean ====
abbrev S128x8x1024 : Shape := ⟨3, ![128, 8, 1024]⟩
abbrev S1x128x2x1024 : Shape := ⟨4, ![1, 128, 2, 1024]⟩
abbrev S1x1024 : Shape := ⟨2, ![1, 1024]⟩
abbrev S1x1024x7240 : Shape := ⟨3, ![1, 1024, 7240]⟩
abbrev S1x3x1024 : Shape := ⟨3, ![1, 3, 1024]⟩
abbrev S8 : Shape := ⟨1, ![8]⟩
abbrev S_ : Shape := ⟨0, ![]⟩
abbrev S1024 : Shape := ⟨1, ![1024]⟩
abbrev S128x8 : Shape := ⟨2, ![128, 8]⟩
abbrev S128x8x1 : Shape := ⟨3, ![128, 8, 1]⟩
abbrev S1x1x1024 : Shape := ⟨3, ![1, 1, 1024]⟩
abbrev S1024x7240 : Shape := ⟨2, ![1024, 7240]⟩
abbrev S128x8x7240 : Shape := ⟨3, ![128, 8, 7240]⟩
abbrev S128x8x256 : Shape := ⟨3, ![128, 8, 256]⟩
abbrev S128x8x512 : Shape := ⟨3, ![128, 8, 512]⟩
abbrev S128x8x64 : Shape := ⟨3, ![128, 8, 64]⟩
abbrev S128x8x8 : Shape := ⟨3, ![128, 8, 8]⟩
abbrev S128x8x8x128 : Shape := ⟨4, ![128, 8, 8, 128]⟩
abbrev S64 : Shape := ⟨1, ![64]⟩
abbrev S8x1 : Shape := ⟨2, ![8, 1]⟩
abbrev S1x64 : Shape := ⟨2, ![1, 64]⟩
abbrev S8x64 : Shape := ⟨2, ![8, 64]⟩
abbrev S8x1x64 : Shape := ⟨3, ![8, 1, 64]⟩
abbrev S128x8x8x64 : Shape := ⟨4, ![128, 8, 8, 64]⟩
abbrev S1x8x1x64 : Shape := ⟨4, ![1, 8, 1, 64]⟩
abbrev S128x8x2x128 : Shape := ⟨4, ![128, 8, 2, 128]⟩
abbrev S128x8x2x64 : Shape := ⟨4, ![128, 8, 2, 64]⟩
abbrev S32 : Shape := ⟨1, ![32]⟩
abbrev S1x32 : Shape := ⟨2, ![1, 32]⟩
abbrev S8x32 : Shape := ⟨2, ![8, 32]⟩
abbrev S8x1x32 : Shape := ⟨3, ![8, 1, 32]⟩
abbrev S128x8x8x32 : Shape := ⟨4, ![128, 8, 8, 32]⟩
abbrev S1x8x1x32 : Shape := ⟨4, ![1, 8, 1, 32]⟩
abbrev S128x8x1x64 : Shape := ⟨4, ![128, 8, 1, 64]⟩
abbrev S128x8x1x32 : Shape := ⟨4, ![128, 8, 1, 32]⟩
abbrev S128x2x1024 : Shape := ⟨3, ![128, 2, 1024]⟩
abbrev S128x10x1024 : Shape := ⟨3, ![128, 10, 1024]⟩
abbrev S3x1024 : Shape := ⟨2, ![3, 1024]⟩
abbrev S4x256x1024 : Shape := ⟨3, ![4, 256, 1024]⟩
abbrev S4x256x256 : Shape := ⟨3, ![4, 256, 256]⟩
abbrev S4x256x512 : Shape := ⟨3, ![4, 256, 512]⟩
abbrev S4x256x64 : Shape := ⟨3, ![4, 256, 64]⟩
abbrev S4x256x8 : Shape := ⟨3, ![4, 256, 8]⟩
abbrev S4x8x256 : Shape := ⟨3, ![4, 8, 256]⟩

abbrev nBuf : Space → Nat
  | .hbm => 246
  | .vmem => 0
  | .smem => 0
  | _ => 0

abbrev hbmTy0_0 (i : Nat) : BufTy := match i % 128 with
  | 0 => ⟨S128x8x1024, .f32⟩
  | 1 => ⟨S1x128x2x1024, .f32⟩
  | 2 => ⟨S1x1024, .f32⟩
  | 3 => ⟨S1x1024x7240, .f32⟩
  | 4 => ⟨S1x3x1024, .f32⟩
  | 5 => ⟨S8, .i32⟩
  | 6 => ⟨S_, .i32⟩
  | 7 => ⟨S8, .i32⟩
  | 8 => ⟨S8, .i32⟩
  | 9 => ⟨S1024, .f32⟩
  | 10 => ⟨S128x8x1024, .f32⟩
  | 11 => ⟨S_, .f32⟩
  | 12 => ⟨S128x8, .f32⟩
  | 13 => ⟨S128x8x1, .f32⟩
  | 14 => ⟨S_, .f32⟩
  | 15 => ⟨S128x8x1, .f32⟩
  | 16 => ⟨S128x8x1, .f32⟩
  | 17 => ⟨S_, .f32⟩
  | 18 => ⟨S128x8x1, .f32⟩
  | 19 => ⟨S128x8x1, .f32⟩
  | 20 => ⟨S128x8x1, .f32⟩
  | 21 => ⟨S128x8x1024, .f32⟩
  | 22 => ⟨S128x8x1024, .f32⟩
  | 23 => ⟨S1x1x1024, .f32⟩
  | 24 => ⟨S128x8x1024, .f32⟩
  | 25 => ⟨S128x8x1024, .f32⟩
  | 26 => ⟨S1024x7240, .f32⟩
  | 27 => ⟨S128x8x7240, .f32⟩
  | 28 => ⟨S128x8x1024, .f32⟩
  | 29 => ⟨S128x8x256, .f32⟩
  | 30 => ⟨S128x8x256, .f32⟩
  | 31 => ⟨S128x8x512, .f32⟩
  | 32 => ⟨S128x8x64, .f32⟩
  | 33 => ⟨S128x8x8, .f32⟩
  | 34 => ⟨S128x8x1024, .f32⟩
  | 35 => ⟨S128x8x1024, .f32⟩
  | 36 => ⟨S128x8x1024, .f32⟩
  | 37 => ⟨S128x8x1024, .f32⟩
  | 38 => ⟨S128x8x1024, .f32⟩
  | 39 => ⟨S128x8x8x128, .f32⟩
  | 40 => ⟨S64, .f32⟩
  | 41 => ⟨S64, .f32⟩
  | 42 => ⟨S_, .f32⟩
  | 43 => ⟨S64, .f32⟩
  | 44 => ⟨S64, .f32⟩
  | 45 => ⟨S_, .f32⟩
  | 46 => ⟨S64, .f32⟩
  | 47 => ⟨S64, .f32⟩
  | 48 => ⟨S8, .f32⟩
  | 49 => ⟨S8x1, .f32⟩
  | 50 => ⟨S1x64, .f32⟩
  | 51 => ⟨S8x64, .f32⟩
  | 52 => ⟨S8x64, .f32⟩
  | 53 => ⟨S8x64, .f32⟩
  | 54 => ⟨S8x64, .f32⟩
  | 55 => ⟨S8x1x64, .f32⟩
  | 56 => ⟨S8x64, .f32⟩
  | 57 => ⟨S8x1x64, .f32⟩
  | 58 => ⟨S128x8x8x64, .f32⟩
  | 59 => ⟨S128x8x8x64, .f32⟩
  | 60 => ⟨S1x8x1x64, .f32⟩
  | 61 => ⟨S128x8x8x64, .f32⟩
  | 62 => ⟨S128x8x8x64, .f32⟩
  | 63 => ⟨S1x8x1x64, .f32⟩
  | 64 => ⟨S128x8x8x64, .f32⟩
  | 65 => ⟨S128x8x8x64, .f32⟩
  | 66 => ⟨S128x8x8x64, .f32⟩
  | 67 => ⟨S1x8x1x64, .f32⟩
  | 68 => ⟨S128x8x8x64, .f32⟩
  | 69 => ⟨S128x8x8x64, .f32⟩
  | 70 => ⟨S1x8x1x64, .f32⟩
  | 71 => ⟨S128x8x8x64, .f32⟩
  | 72 => ⟨S128x8x8x64, .f32⟩
  | 73 => ⟨S128x8x8x64, .f32⟩
  | 74 => ⟨S128x8x8x128, .f32⟩
  | 75 => ⟨S128x8x2x128, .f32⟩
  | 76 => ⟨S64, .f32⟩
  | 77 => ⟨S64, .f32⟩
  | 78 => ⟨S_, .f32⟩
  | 79 => ⟨S64, .f32⟩
  | 80 => ⟨S64, .f32⟩
  | 81 => ⟨S_, .f32⟩
  | 82 => ⟨S64, .f32⟩
  | 83 => ⟨S64, .f32⟩
  | 84 => ⟨S8, .f32⟩
  | 85 => ⟨S8x1, .f32⟩
  | 86 => ⟨S1x64, .f32⟩
  | 87 => ⟨S8x64, .f32⟩
  | 88 => ⟨S8x64, .f32⟩
  | 89 => ⟨S8x64, .f32⟩
  | 90 => ⟨S8x64, .f32⟩
  | 91 => ⟨S8x1x64, .f32⟩
  | 92 => ⟨S8x64, .f32⟩
  | 93 => ⟨S8x1x64, .f32⟩
  | 94 => ⟨S128x8x2x64, .f32⟩
  | 95 => ⟨S128x8x2x64, .f32⟩
  | 96 => ⟨S1x8x1x64, .f32⟩
  | 97 => ⟨S128x8x2x64, .f32⟩
  | 98 => ⟨S128x8x2x64, .f32⟩
  | 99 => ⟨S1x8x1x64, .f32⟩
  | 100 => ⟨S128x8x2x64, .f32⟩
  | 101 => ⟨S128x8x2x64, .f32⟩
  | 102 => ⟨S128x8x2x64, .f32⟩
  | 103 => ⟨S1x8x1x64, .f32⟩
  | 104 => ⟨S128x8x2x64, .f32⟩
  | 105 => ⟨S128x8x2x64, .f32⟩
  | 106 => ⟨S1x8x1x64, .f32⟩
  | 107 => ⟨S128x8x2x64, .f32⟩
  | 108 => ⟨S128x8x2x64, .f32⟩
  | 109 => ⟨S128x8x2x64, .f32⟩
  | 110 => ⟨S128x8x2x128, .f32⟩
  | 111 => ⟨S128x8x8x64, .f32⟩
  | 112 => ⟨S32, .f32⟩
  | 113 => ⟨S32, .f32⟩
  | 114 => ⟨S_, .f32⟩
  | 115 => ⟨S32, .f32⟩
  | 116 => ⟨S32, .f32⟩
  | 117 => ⟨S_, .f32⟩
  | 118 => ⟨S32, .f32⟩
  | 119 => ⟨S32, .f32⟩
  | 120 => ⟨S8, .f32⟩
  | 121 => ⟨S8x1, .f32⟩
  | 122 => ⟨S1x32, .f32⟩
  | 123 => ⟨S8x32, .f32⟩
  | 124 => ⟨S8x32, .f32⟩
  | 125 => ⟨S8x32, .f32⟩
  | 126 => ⟨S8x32, .f32⟩
  | 127 => ⟨S8x1x32, .f32⟩
  | _ => ⟨S128x8x1024, .f32⟩

abbrev hbmTy0_1 (i : Nat) : BufTy := match i % 128 with
  | 0 => ⟨S8x32, .f32⟩
  | 1 => ⟨S8x1x32, .f32⟩
  | 2 => ⟨S128x8x8x32, .f32⟩
  | 3 => ⟨S128x8x8x32, .f32⟩
  | 4 => ⟨S1x8x1x32, .f32⟩
  | 5 => ⟨S128x8x8x32, .f32⟩
  | 6 => ⟨S128x8x8x32, .f32⟩
  | 7 => ⟨S1x8x1x32, .f32⟩
  | 8 => ⟨S128x8x8x32, .f32⟩
  | 9 => ⟨S128x8x8x32, .f32⟩
  | 10 => ⟨S128x8x8x32, .f32⟩
  | 11 => ⟨S1x8x1x32, .f32⟩
  | 12 => ⟨S128x8x8x32, .f32⟩
  | 13 => ⟨S128x8x8x32, .f32⟩
  | 14 => ⟨S1x8x1x32, .f32⟩
  | 15 => ⟨S128x8x8x32, .f32⟩
  | 16 => ⟨S128x8x8x32, .f32⟩
  | 17 => ⟨S128x8x8x32, .f32⟩
  | 18 => ⟨S128x8x8x64, .f32⟩
  | 19 => ⟨S128x8x1x64, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S8, .f32⟩
  | 29 => ⟨S8x1, .f32⟩
  | 30 => ⟨S1x32, .f32⟩
  | 31 => ⟨S8x32, .f32⟩
  | 32 => ⟨S8x32, .f32⟩
  | 33 => ⟨S8x32, .f32⟩
  | 34 => ⟨S8x32, .f32⟩
  | 35 => ⟨S8x1x32, .f32⟩
  | 36 => ⟨S8x32, .f32⟩
  | 37 => ⟨S8x1x32, .f32⟩
  | 38 => ⟨S128x8x1x32, .f32⟩
  | 39 => ⟨S128x8x1x32, .f32⟩
  | 40 => ⟨S1x8x1x32, .f32⟩
  | 41 => ⟨S128x8x1x32, .f32⟩
  | 42 => ⟨S128x8x1x32, .f32⟩
  | 43 => ⟨S1x8x1x32, .f32⟩
  | 44 => ⟨S128x8x1x32, .f32⟩
  | 45 => ⟨S128x8x1x32, .f32⟩
  | 46 => ⟨S128x8x1x32, .f32⟩
  | 47 => ⟨S1x8x1x32, .f32⟩
  | 48 => ⟨S128x8x1x32, .f32⟩
  | 49 => ⟨S128x8x1x32, .f32⟩
  | 50 => ⟨S1x8x1x32, .f32⟩
  | 51 => ⟨S128x8x1x32, .f32⟩
  | 52 => ⟨S128x8x1x32, .f32⟩
  | 53 => ⟨S128x8x1x32, .f32⟩
  | 54 => ⟨S128x8x1x64, .f32⟩
  | 55 => ⟨S128x8x64, .f32⟩
  | 56 => ⟨S128x8x1024, .f32⟩
  | 57 => ⟨S128x2x1024, .f32⟩
  | 58 => ⟨S128x10x1024, .f32⟩
  | 59 => ⟨S3x1024, .f32⟩
  | 60 => ⟨S1x1024, .f32⟩
  | 61 => ⟨S1024, .f32⟩
  | 62 => ⟨S128x8x1024, .f32⟩
  | 63 => ⟨S1x1x1024, .f32⟩
  | 64 => ⟨S128x8x1024, .f32⟩
  | 65 => ⟨S128x8x1024, .f32⟩
  | 66 => ⟨S1x1024, .f32⟩
  | 67 => ⟨S1024, .f32⟩
  | 68 => ⟨S128x8x1024, .f32⟩
  | 69 => ⟨S1x1x1024, .f32⟩
  | 70 => ⟨S128x8x1024, .f32⟩
  | 71 => ⟨S128x8x1024, .f32⟩
  | 72 => ⟨S128x8x1024, .f32⟩
  | 73 => ⟨S1x1024, .f32⟩
  | 74 => ⟨S1024, .f32⟩
  | 75 => ⟨S128x8x1024, .f32⟩
  | 76 => ⟨S1x1x1024, .f32⟩
  | 77 => ⟨S128x8x1024, .f32⟩
  | 78 => ⟨S128x8x1024, .f32⟩
  | 79 => ⟨S128x8x1024, .f32⟩
  | 80 => ⟨S_, .f32⟩
  | 81 => ⟨S128x8x8x128, .f32⟩
  | 82 => ⟨S128x8x8x128, .f32⟩
  | 83 => ⟨S4x256x1024, .f32⟩
  | 84 => ⟨S4x256x1024, .bf16⟩
  | 85 => ⟨S4x256x256, .f32⟩
  | 86 => ⟨S4x256x256, .f32⟩
  | 87 => ⟨S4x256x512, .f32⟩
  | 88 => ⟨S4x256x512, .bf16⟩
  | 89 => ⟨S4x256x64, .f32⟩
  | 90 => ⟨S4x256x64, .f32⟩
  | 91 => ⟨S4x256x64, .bf16⟩
  | 92 => ⟨S4x256x8, .f32⟩
  | 93 => ⟨S4x8x256, .f32⟩
  | 94 => ⟨S_, .f32⟩
  | 95 => ⟨S4x8x256, .f32⟩
  | 96 => ⟨S4x8x256, .f32⟩
  | 97 => ⟨S128x8x1024, .f32⟩
  | 98 => ⟨S128x8x1024, .f32⟩
  | 99 => ⟨S_, .f32⟩
  | 100 => ⟨S128x8x1024, .f32⟩
  | 101 => ⟨S128x8x1024, .f32⟩
  | 102 => ⟨S_, .f32⟩
  | 103 => ⟨S128x8x1024, .f32⟩
  | 104 => ⟨S128x8x1024, .f32⟩
  | 105 => ⟨S4x256x1024, .f32⟩
  | 106 => ⟨S128x8x1024, .f32⟩
  | 107 => ⟨S128x8x1024, .f32⟩
  | 108 => ⟨S_, .f32⟩
  | 109 => ⟨S128x8x1024, .f32⟩
  | 110 => ⟨S128x8x1024, .f32⟩
  | 111 => ⟨S_, .f32⟩
  | 112 => ⟨S128x8x1024, .f32⟩
  | 113 => ⟨S128x8x1024, .f32⟩
  | 114 => ⟨S128x8x1024, .f32⟩
  | 115 => ⟨S128x8x1024, .f32⟩
  | 116 => ⟨S4x256x1024, .f32⟩
  | 117 => ⟨S4x256x1024, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_cst_4 : Ref sig .tc := ⟨.hbm, 78, rfl⟩
abbrev main_v67 : Ref sig .tc := ⟨.hbm, 79, rfl⟩
abbrev main_v68 : Ref sig .tc := ⟨.hbm, 80, rfl⟩
abbrev main_cst_5 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_cst_6 : Ref sig .tc := ⟨.hbm, 114, rfl⟩
abbrev main_v101 : Ref sig .tc := ⟨.hbm, 115, rfl⟩
abbrev main_v102 : Ref sig .tc := ⟨.hbm, 116, rfl⟩
abbrev main_cst_7 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_cst_8 : Ref sig .tc := ⟨.hbm, 150, rfl⟩
abbrev main_v135 : Ref sig .tc := ⟨.hbm, 151, rfl⟩
abbrev main_v136 : Ref sig .tc := ⟨.hbm, 152, rfl⟩
abbrev main_cst_9 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_cst_10 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_cst_11 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_cst_12 : Ref sig .tc := ⟨.hbm, 227, rfl⟩
abbrev main_v208 : Ref sig .tc := ⟨.hbm, 228, rfl⟩
abbrev main_v209 : Ref sig .tc := ⟨.hbm, 229, rfl⟩
abbrev main_cst_13 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_cst_14 : Ref sig .tc := ⟨.hbm, 236, rfl⟩
abbrev main_v215 : Ref sig .tc := ⟨.hbm, 237, rfl⟩
abbrev main_v216 : Ref sig .tc := ⟨.hbm, 238, rfl⟩
abbrev main_cst_15 : Ref sig .tc := ⟨.hbm, 239, rfl⟩
abbrev main_v217 : Ref sig .tc := ⟨.hbm, 240, rfl⟩
abbrev main_v218 : Ref sig .tc := ⟨.hbm, 241, rfl⟩
abbrev main_v219 : Ref sig .tc := ⟨.hbm, 242, rfl⟩
abbrev main_v220 : Ref sig .tc := ⟨.hbm, 243, rfl⟩
abbrev main_v221 : Ref sig .tc := ⟨.hbm, 244, rfl⟩
abbrev main_v222 : Ref sig .tc := ⟨.hbm, 245, rfl⟩

abbrev nD : Nat := 1
abbrev τ : Topo := Topo.v7x

variable {F : FTy → Type} [FloatOps F]
-- ==== FfnSample.lean ====
abbrev S128x8x1024 : Shape := ⟨3, ![128, 8, 1024]⟩
abbrev S1x128x8x256 : Shape := ⟨4, ![1, 128, 8, 256]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S1024 : Shape := ⟨1, ![1024]⟩
abbrev S1024x1024 : Shape := ⟨2, ![1024, 1024]⟩
abbrev S1024x5632 : Shape := ⟨2, ![1024, 5632]⟩
abbrev S1024x2816 : Shape := ⟨2, ![1024, 2816]⟩
abbrev S2816x1024 : Shape := ⟨2, ![2816, 1024]⟩
abbrev S256x1024 : Shape := ⟨2, ![256, 1024]⟩
abbrev S128x8x256 : Shape := ⟨3, ![128, 8, 256]⟩
abbrev S1024x256 : Shape := ⟨2, ![1024, 256]⟩
abbrev S512x1024 : Shape := ⟨2, ![512, 1024]⟩
abbrev S512x256 : Shape := ⟨2, ![512, 256]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 39
  | .vmem => 27
  | .smem => 0
  | _ => 0

abbrev bufTy : (tb : Table) → Fin (tcTables nBuf tb) → BufTy
  | .hbm, ⟨0, _⟩ => ⟨S128x8x1024, .f32⟩
  | .hbm, ⟨1, _⟩ => ⟨S128x8x1024, .f32⟩
  | .hbm, ⟨2, _⟩ => ⟨S128x8x1024, .f32⟩
  | .hbm, ⟨3, _⟩ => ⟨S128x8x1024, .f32⟩
  | .hbm, ⟨4, _⟩ => ⟨S1x128x8x256, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x2816x1024, .f32⟩
  | .hbm, ⟨9, _⟩ => ⟨S1x1024, .f32⟩
  | .hbm, ⟨10, _⟩ => ⟨S1x256x1024, .f32⟩
  | .hbm, ⟨11, _⟩ => ⟨S1x1024x1024, .f32⟩
  | .hbm, ⟨12, _⟩ => ⟨S1024, .f32⟩
  | .hbm, ⟨13, _⟩ => ⟨S1024x1024, .f32⟩
  | .hbm, ⟨14, _⟩ => ⟨S1024x1024, .bf16⟩
  | .hbm, ⟨15, _⟩ => ⟨S1024x5632, .f32⟩
  | .hbm, ⟨16, _⟩ => ⟨S1024x2816, .f32⟩
  | .hbm, ⟨17, _⟩ => ⟨S1024x2816, .bf16⟩
  | .hbm, ⟨18, _⟩ => ⟨S1024x5632, .f32⟩
  | .hbm, ⟨19, _⟩ => ⟨S1024x2816, .f32⟩
  | .hbm, ⟨20, _⟩ => ⟨S1024x2816, .bf16⟩
  | .hbm, ⟨21, _⟩ => ⟨S2816x1024, .f32⟩
  | .hbm, ⟨22, _⟩ => ⟨S2816x1024, .bf16⟩
  | .hbm, ⟨23, _⟩ => ⟨S256x1024, .f32⟩
  | .hbm, ⟨24, _⟩ => ⟨S256x1024, .bf16⟩
  | .hbm, ⟨25, _⟩ => ⟨S1024x1024, .f32⟩
  | .hbm, ⟨26, _⟩ => ⟨S1024x1024, .bf16⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S128x8x256, .f32⟩
  | .hbm, ⟨32, _⟩ => ⟨S1024x256, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S1x1024, .f32⟩
  | .local _ .vmem, ⟨12, _⟩ => ⟨S1024x1408, .bf16⟩
  | .local _ .vmem, ⟨13, _⟩ => ⟨S1024x1408, .bf16⟩
  | .local _ .vmem, ⟨14, _⟩ => ⟨S1024x1408, .bf16⟩
  | .local _ .vmem, ⟨15, _⟩ => ⟨S1024x1408, .bf16⟩
  | .local _ .vmem, ⟨16, _⟩ => ⟨S1408x1024, .bf16⟩
  | .local _ .vmem, ⟨17, _⟩ => ⟨S1408x1024, .bf16⟩
  | .local _ .vmem, ⟨18, _⟩ => ⟨S1x1024, .f32⟩
  | .local _ .vmem, ⟨19, _⟩ => ⟨S256x1024, .bf16⟩
  | .local _ .vmem, ⟨20, _⟩ => ⟨S1024x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1408x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== FfnSampleRefIdeal.lean ====
abbrev S128x8x1024 : Shape := ⟨3, ![128, 8, 1024]⟩
abbrev S1x128x8x256 : Shape := ⟨4, ![1, 128, 8, 256]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S1024 : Shape := ⟨1, ![1024]⟩
abbrev S1024x1024 : Shape := ⟨2, ![1024, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1024x5632 : Shape := ⟨2, ![1024, 5632]⟩
abbrev S128x8x5632 : Shape := ⟨3, ![128, 8, 5632]⟩
abbrev S128x8x2816 : Shape := ⟨3, ![128, 8, 2816]⟩
abbrev S2816x1024 : Shape := ⟨2, ![2816, 1024]⟩
abbrev S128x8x256 : Shape := ⟨3, ![128, 8, 256]⟩
abbrev S256x1024 : Shape := ⟨2, ![256, 1024]⟩

abbrev nBuf : Space → Nat
  | .hbm => 101
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x8x1024, .f32⟩
  | .hbm, ⟨2, _⟩ => ⟨S128x8x1024, .f32⟩
  | .hbm, ⟨3, _⟩ => ⟨S128x8x1024, .f32⟩
  | .hbm, ⟨4, _⟩ => ⟨S1x128x8x256, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x2816x1024, .f32⟩
  | .hbm, ⟨9, _⟩ => ⟨S1x1024, .f32⟩
  | .hbm, ⟨10, _⟩ => ⟨S1x256x1024, .f32⟩
  | .hbm, ⟨11, _⟩ => ⟨S1x1024x1024, .f32⟩
  | .hbm, ⟨12, _⟩ => ⟨S1024, .f32⟩
  | .hbm, ⟨13, _⟩ => ⟨S128x8x1024, .f32⟩
  | .hbm, ⟨14, _⟩ => ⟨S128x8x1024, .f32⟩
  | .hbm, ⟨15, _⟩ => ⟨S1024x1024, .f32⟩
  | .hbm, ⟨16, _⟩ => ⟨S128x8x1024, .f32⟩
  | .hbm, ⟨17, _⟩ => ⟨S128x8x1024, .f32⟩
  | .hbm, ⟨18, _⟩ => ⟨S1024, .f32⟩
  | .hbm, ⟨19, _⟩ => ⟨S128x8x1024, .f32⟩
  | .hbm, ⟨20, _⟩ => ⟨S_, .f32⟩
  | .hbm, ⟨21, _⟩ => ⟨S128x8, .f32⟩
  | .hbm, ⟨22, _⟩ => ⟨S128x8x1, .f32⟩
  | .hbm, ⟨23, _⟩ => ⟨S_, .f32⟩
  | .hbm, ⟨24, _⟩ => ⟨S128x8x1, .f32⟩
  | .hbm, ⟨25, _⟩ => ⟨S128x8x1, .f32⟩
  | .hbm, ⟨26, _⟩ => ⟨S_, .f32⟩
  | .hbm, ⟨27, _⟩ => ⟨S128x8x1, .f32⟩
  | .hbm, ⟨28, _⟩ => ⟨S128x8x1, .f32⟩
  | .hbm, ⟨29, _⟩ => ⟨S128x8x1, .f32⟩
  | .hbm, ⟨30, _⟩ => ⟨S128x8x1024, .f32⟩
  | .hbm, ⟨31, _⟩ => ⟨S128x8x1024, .f32⟩
  | .hbm, ⟨32, _⟩ => ⟨S1x1x1024, .f32⟩
  | .hbm, ⟨33, _⟩ => ⟨S128x8x1024, .f32⟩
  | .hbm, ⟨34, _⟩ => ⟨S128x8x1024, .f32⟩
  | .hbm, ⟨35, _⟩ => ⟨S1024x5632, .f32⟩
  | .hbm, ⟨36, _⟩ => ⟨S128x8x5632, .f32⟩
  | .hbm, ⟨37, _⟩ => ⟨S128x8x2816, .f32⟩
  | .hbm, ⟨38, _⟩ => ⟨S128x8x2816, .f32⟩
  | .hbm, ⟨39, _⟩ => ⟨S128x8x2816, .f32⟩
  | .hbm, ⟨40, _⟩ => ⟨S128x8x2816, .f32⟩
  | .hbm, ⟨41, _⟩ => ⟨S_, .f32⟩
  | .hbm, ⟨42, _⟩ => ⟨S128x8x2816, .f32⟩
  | .hbm, ⟨43, _⟩ => ⟨S128x8x2816, .f32⟩
  | .hbm, ⟨44, _⟩ => ⟨S_, .f32⟩
  | .hbm, ⟨45, _⟩ => ⟨S128x8x2816, .f32⟩
  | .hbm, ⟨46, _⟩ => ⟨S128x8x2816, .f32⟩
  | .hbm, ⟨47, _⟩ => ⟨S128x8x2816, .f32⟩
  | .hbm, ⟨48, _⟩ => ⟨S128x8x2816, .f32⟩
  | .hbm, ⟨49, _⟩ => ⟨S2816x1024, .f32⟩
  | .hbm, ⟨50, _⟩ => ⟨S128x8x1024, .f32⟩
  | .hbm, ⟨51, _⟩ => ⟨S128x8x1024, .f32⟩
  | .hbm, ⟨52, _⟩ => ⟨S1024, .f32⟩
  | .hbm, ⟨53, _⟩ => ⟨S128x8x1024, .f32⟩
  | .hbm, ⟨54, _⟩ => ⟨S_, .f32⟩
  | .hbm, ⟨55, _⟩ => ⟨S128x8, .f32⟩
  | .hbm, ⟨56, _⟩ => ⟨S128x8x1, .f32⟩
  | .hbm, ⟨57, _⟩ => ⟨S_, .f32⟩
  | .hbm, ⟨58, _⟩ => ⟨S128x8x1, .f32⟩
  | .hbm, ⟨59, _⟩ => ⟨S128x8x1, .f32⟩
  | .hbm, ⟨60, _⟩ => ⟨S_, .f32⟩
  | .hbm, ⟨61, _⟩ => ⟨S128x8x1, .f32⟩
  | .hbm, ⟨62, _⟩ => ⟨S128x8x1, .f32⟩
  | .hbm, ⟨63, _⟩ => ⟨S128x8x1, .f32⟩
  | .hbm, ⟨64, _⟩ => ⟨S128x8x1024, .f32⟩
  | .hbm, ⟨65, _⟩ => ⟨S128x8x1024, .f32⟩
  | .hbm, ⟨66, _⟩ => ⟨S1x1x1024, .f32⟩
  | .hbm, ⟨67, _⟩ => ⟨S128x8x1024, .f32⟩
  | .hbm, ⟨68, _⟩ => ⟨S128x8x1024, .f32⟩
  | .hbm, ⟨69, _⟩ => ⟨S1024x1024, .f32⟩
  | .hbm, ⟨70, _⟩ => ⟨S128x8x1024, .f32⟩
  | .hbm, ⟨71, _⟩ => ⟨S128x8x1024, .f32⟩
  | .hbm, ⟨72, _⟩ => ⟨S128x8x1024, .f32⟩
  | .hbm, ⟨73, _⟩ => ⟨S_, .f32⟩
  | .hbm, ⟨74, _⟩ => ⟨S128x8x1024, .f32⟩
  | .hbm, ⟨75, _⟩ => ⟨S128x8x1024, .f32⟩
  | .hbm, ⟨76, _⟩ => ⟨S_, .f32⟩
  | .hbm, ⟨77, _⟩ => ⟨S128x8x1024, .f32⟩
  | .hbm, ⟨78, _⟩ => ⟨S128x8x1024, .f32⟩
  | .hbm, ⟨79, _⟩ => ⟨S128x8x256, .f32⟩
  | .hbm, ⟨80, _⟩ => ⟨S256x1024, .f32⟩
  | .hbm, ⟨81, _⟩ => ⟨S128x8x1024, .f32⟩
  | .hbm, ⟨82, _⟩ => ⟨S128x8x1024, .f32⟩
  | .hbm, ⟨83, _⟩ => ⟨S128x8x1024, .f32⟩
  | .hbm, ⟨84, _⟩ => ⟨S128x8x1024, .f32⟩
  | .hbm, ⟨85, _⟩ => ⟨S_, .f32⟩
  | .hbm, ⟨86, _⟩ => ⟨S128x8, .f32⟩
  | .hbm, ⟨87, _⟩ => ⟨S128x8x1, .f32⟩
  | .hbm, ⟨88, _⟩ => ⟨S_, .f32⟩
  | .hbm, ⟨89, _⟩ => ⟨S128x8x1, .f32⟩
  | .hbm, ⟨90, _⟩ => ⟨S128x8x1, .f32⟩
  | .hbm, ⟨91, _⟩ => ⟨S_, .f32⟩
  | .hbm, ⟨92, _⟩ => ⟨S128x8x1, .f32⟩
  | .hbm, ⟨93, _⟩ => ⟨S128x8x1, .f32⟩
  | .hbm, ⟨94, _⟩ => ⟨S128x8x1, .f32⟩
  | .hbm, ⟨95, _⟩ => ⟨S128x8x1024, .f32⟩
  | .hbm, ⟨96, _⟩ => ⟨S128x8x1024, .f32⟩
  | .hbm, ⟨97, _⟩ => ⟨S1x1x1024, .f32⟩
  | .hbm, ⟨98, _⟩ => ⟨S128x8x1024, .f32⟩
  | .hbm, ⟨99, _⟩ => ⟨S128x8x1024, .f32⟩
  | .hbm, ⟨100, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_2 : Ref sig .tc := ⟨.hbm, 54, rfl⟩
abbrev main_v30 : Ref sig .tc := ⟨.hbm, 55, rfl⟩
abbrev main_v31 : Ref sig .tc := ⟨.hbm, 56, rfl⟩
abbrev main_cst_3 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_5 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_7 : Ref sig .tc := ⟨.hbm, 85, rfl⟩
abbrev main_v56 : Ref sig .tc := ⟨.hbm, 86, rfl⟩
abbrev main_v57 : Ref sig .tc := ⟨.hbm, 87, rfl⟩
abbrev main_cst_8 : Ref sig .tc := ⟨.hbm, 88, rfl⟩
abbrev main_v58 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]
-- ==== Proof.AttnRunI.lean ====
/- The whole-body run of the idealized sample attention: the body's triple, found by running its skeleton, with what its one store leaves in
   the output's staging buffer as the witness. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x8x1024 .bf16) (harg2 : arg2.IsWhole) (arg3 : Memref sig .tc .vmem S1x8x2176 .f32) (harg3 : arg3.IsWhole) (arg4 : Memref sig .tc .vmem S1x8x256 .f32) (harg4 : arg4.IsWhole) (arg5 : Memref sig .tc .vmem S1x8x256 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x256x128 .f32) (harg12 : arg12.IsWhole) (arg13 : Memref sig .tc .vmem S1x256x128 .f32) (harg13 : arg13.IsWhole) (arg14 : Memref sig .tc .vmem S1x256x128 .f32) (harg14 : arg14.IsWhole) (arg15 : Memref sig .tc .vmem S1x256x128 .f32) (harg15 : arg15.IsWhole) (arg16 : Memref sig .tc .vmem S1x256x128 .f32) (harg16 : arg16.IsWhole) (arg17 : Memref sig .tc .vmem S1x256x128 .f32) (harg17 : arg17.IsWhole) (arg18 : Memref sig .tc .vmem S1x256x128 .f32) (harg18 : arg18.IsWhole) (arg19 : Memref sig .tc .vmem S1x256x128 .f32) (harg19 : arg19.IsWhole) (arg20 : Memref sig .tc .vmem S1x256x128 .f32) (harg20 : arg20.IsWhole) (arg21 : Memref sig .tc .vmem S1x256x128 .f32) (harg21 : arg21.IsWhole) (arg22 : Memref sig .tc .vmem S1x256x128 .f32) (harg22 : arg22.IsWhole) (arg23 : Memref sig .tc .vmem S1x256x128 .f32) (harg23 : arg23.IsWhole) (arg24 : Memref sig .tc .vmem S1x256x128 .f32) (harg24 : arg24.IsWhole) (arg25 : Memref sig .tc .vmem S1x256x128 .f32) (harg25 : arg25.IsWhole) (arg26 : Memref sig .tc .vmem S1x256x128 .f32) (harg26 : arg26.IsWhole) (arg27 : Memref sig .tc .vmem S1x256x128 .f32) (harg27 : arg27.IsWhole) (arg28 : Memref sig .tc .vmem S1x256x128 .f32) (harg28 : arg28.IsWhole) (arg29 : Memref sig .tc .vmem S1x256x128 .f32) (harg29 : arg29.IsWhole) (arg30 : Memref sig .tc .vmem S1x256x128 .f32) (harg30 : arg30.IsWhole) (arg31 : Memref sig .tc .vmem S1x256x128 .f32) (harg31 : arg31.IsWhole) (arg32 : Memref sig .tc .vmem S1x256x128 .f32) (harg32 : arg32.IsWhole) (arg33 : Memref sig .tc .vmem S1x256x128 .f32) (harg33 : arg33.IsWhole) (arg34 : Memref sig .tc .vmem S1x256x128 .f32) (harg34 : arg34.IsWhole) (arg35 : Memref sig .tc .vmem S1x256x128 .f32) (harg35 : arg35.IsWhole) (arg36 : Memref sig .tc .vmem S1x256x128 .f32) (harg36 : arg36.IsWhole) (arg37 : Memref sig .tc .vmem S1x256x128 .f32) (harg37 : arg37.IsWhole) (arg38 : Memref sig .tc .vmem S1x8x1024 .f32) (harg38 : arg38.IsWhole)
    (x0 : Vec F S1x8x1024 .bf16) (x1 : Vec F S1x8x2176 .f32) (x2 : Vec F S1x8x256 .f32) (x3 : Vec F S1x8x256 .f32) (x4 : Vec F S1x256x128 .f32) (x5 : Vec F S1x256x128 .f32) (x6 : Vec F S1x256x128 .f32) (x7 : Vec F S1x256x128 .f32) (x8 : Vec F S1x256x128 .f32) (x9 : Vec F S1x256x128 .f32) (x10 : Vec F S1x256x128 .f32) (x11 : Vec F S1x256x128 .f32) (x12 : Vec F S1x256x128 .f32) (x13 : Vec F S1x256x128 .f32) (x14 : Vec F S1x256x128 .f32) (x15 : Vec F S1x256x128 .f32) (x16 : Vec F S1x256x128 .f32) (x17 : Vec F S1x256x128 .f32) (x18 : Vec F S1x256x128 .f32) (x19 : Vec F S1x256x128 .f32) (x20 : Vec F S1x256x128 .f32) (x21 : Vec F S1x256x128 .f32) (x22 : Vec F S1x256x128 .f32) (x23 : Vec F S1x256x128 .f32) (x24 : Vec F S1x256x128 .f32) (x25 : Vec F S1x256x128 .f32) (x26 : Vec F S1x256x128 .f32) (x27 : Vec F S1x256x128 .f32) (x28 : Vec F S1x256x128 .f32) (x29 : Vec F S1x256x128 .f32) (x30 : Vec F S1x256x128 .f32) (x31 : Vec F S1x256x128 .f32) (x32 : Vec F S1x256x128 .f32) (x33 : Vec F S1x256x128 .f32) (x34 : Vec F S1x256x128 .f32) (x35 : Vec F S1x256x128 .f32) (xt0 : TbBuf0 (F := F) c tbM0_0) :
    { L36 : List (View.Piece (Elt F) S1x8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ owns (c : Thread nD τ) arg37 fullShare x35 ∗ (∃ d, owns (c : Thread nD τ) arg38 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ owns (c : Thread nD τ) arg37 fullShare x35 ∗ (∃ f, arg38.view.loc (c : Thread nD τ) ↦[arg38.view.set]{fullShare} arg38.view.writes (Elt F) f L36) ∗ tbPt0 c tbM0_0 xt0) -∗ K ⟨⟩))
          ⊢ wp frame (wpE (defs₀ (F := F)) Variants.none c none) E (cc0_sample_attention i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K } := by
  refine ⟨?_, fun E K => ?run⟩
  case run =>
    simp only [cc0_sample_attention_eq_skeleton]; unfold cc0_sample_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%d36, %f36, -, H36⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg31.eq_unread hf29; obtain rfl := harg32.eq_unread hf30; obtain rfl := harg33.eq_unread hf31; obtain rfl := harg34.eq_unread hf32; obtain rfl := harg35.eq_unread hf33; obtain rfl := harg36.eq_unread hf34; obtain rfl := harg37.eq_unread hf35
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]
    · iexists _; isplitr; · ipureintro; exact harg31.read_unread _
      iexact H29
    isplitl [H30]
    · iexists _; isplitr; · ipureintro; exact harg32.read_unread _
      iexact H30
    isplitl [H31]
    · iexists _; isplitr; · ipureintro; exact harg33.read_unread _
      iexact H31
    isplitl [H32]
    · iexists _; isplitr; · ipureintro; exact harg34.read_unread _
      iexact H32
    isplitl [H33]
    · iexists _; isplitr; · ipureintro; exact harg35.read_unread _
      iexact H33
    isplitl [H34]
    · iexists _; isplitr; · ipureintro; exact harg36.read_unread _
      iexact H34
    isplitl [H35]
    · iexists _; isplitr; · ipureintro; exact harg37.read_unread _
      iexact H35
    isplitl [H36]; · iexists _; iexact H36
    iexact HT0

end Cert.KernelIdeal.Gen

end
-- ==== Proof.AttnFrameI.lean ====
/- The frame certificate of the idealized sample attention, over the body's run in AttnRunI: what the output's buffer holds at each point, the
   proof data, the body's obligation, the run of the program and the frame, for every contents of the page table whose
   entries lie in the cache. -/
module

public import proofs.«01_k».proof.Proof.AttnRunI
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 36 tile its block (8 stores of `S1x8x128`, checked by the kernel's evaluation: Lib/Ring.lean `Piece.tiledL`, linear in the pieces, through a loop's `@[irreducible]` trip theorem too), so they cover it. -/
theorem cover0_A_36 (c : Dev nD) (i : grid0.Coords) (arg2 : Memref sig .tc .vmem S1x8x1024 .bf16) (harg2 : arg2.IsWhole) (arg3 : Memref sig .tc .vmem S1x8x2176 .f32) (harg3 : arg3.IsWhole) (arg4 : Memref sig .tc .vmem S1x8x256 .f32) (harg4 : arg4.IsWhole) (arg5 : Memref sig .tc .vmem S1x8x256 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x256x128 .f32) (harg12 : arg12.IsWhole) (arg13 : Memref sig .tc .vmem S1x256x128 .f32) (harg13 : arg13.IsWhole) (arg14 : Memref sig .tc .vmem S1x256x128 .f32) (harg14 : arg14.IsWhole) (arg15 : Memref sig .tc .vmem S1x256x128 .f32) (harg15 : arg15.IsWhole) (arg16 : Memref sig .tc .vmem S1x256x128 .f32) (harg16 : arg16.IsWhole) (arg17 : Memref sig .tc .vmem S1x256x128 .f32) (harg17 : arg17.IsWhole) (arg18 : Memref sig .tc .vmem S1x256x128 .f32) (harg18 : arg18.IsWhole) (arg19 : Memref sig .tc .vmem S1x256x128 .f32) (harg19 : arg19.IsWhole) (arg20 : Memref sig .tc .vmem S1x256x128 .f32) (harg20 : arg20.IsWhole) (arg21 : Memref sig .tc .vmem S1x256x128 .f32) (harg21 : arg21.IsWhole) (arg22 : Memref sig .tc .vmem S1x256x128 .f32) (harg22 : arg22.IsWhole) (arg23 : Memref sig .tc .vmem S1x256x128 .f32) (harg23 : arg23.IsWhole) (arg24 : Memref sig .tc .vmem S1x256x128 .f32) (harg24 : arg24.IsWhole) (arg25 : Memref sig .tc .vmem S1x256x128 .f32) (harg25 : arg25.IsWhole) (arg26 : Memref sig .tc .vmem S1x256x128 .f32) (harg26 : arg26.IsWhole) (arg27 : Memref sig .tc .vmem S1x256x128 .f32) (harg27 : arg27.IsWhole) (arg28 : Memref sig .tc .vmem S1x256x128 .f32) (harg28 : arg28.IsWhole) (arg29 : Memref sig .tc .vmem S1x256x128 .f32) (harg29 : arg29.IsWhole) (arg30 : Memref sig .tc .vmem S1x256x128 .f32) (harg30 : arg30.IsWhole) (arg31 : Memref sig .tc .vmem S1x256x128 .f32) (harg31 : arg31.IsWhole) (arg32 : Memref sig .tc .vmem S1x256x128 .f32) (harg32 : arg32.IsWhole) (arg33 : Memref sig .tc .vmem S1x256x128 .f32) (harg33 : arg33.IsWhole) (arg34 : Memref sig .tc .vmem S1x256x128 .f32) (harg34 : arg34.IsWhole) (arg35 : Memref sig .tc .vmem S1x256x128 .f32) (harg35 : arg35.IsWhole) (arg36 : Memref sig .tc .vmem S1x256x128 .f32) (harg36 : arg36.IsWhole) (arg37 : Memref sig .tc .vmem S1x256x128 .f32) (harg37 : arg37.IsWhole) (arg38 : Memref sig .tc .vmem S1x8x1024 .f32) (harg38 : arg38.IsWhole)
    (x0 : Vec F S1x8x1024 .bf16) (x1 : Vec F S1x8x2176 .f32) (x2 : Vec F S1x8x256 .f32) (x3 : Vec F S1x8x256 .f32) (x4 : Vec F S1x256x128 .f32) (x5 : Vec F S1x256x128 .f32) (x6 : Vec F S1x256x128 .f32) (x7 : Vec F S1x256x128 .f32) (x8 : Vec F S1x256x128 .f32) (x9 : Vec F S1x256x128 .f32) (x10 : Vec F S1x256x128 .f32) (x11 : Vec F S1x256x128 .f32) (x12 : Vec F S1x256x128 .f32) (x13 : Vec F S1x256x128 .f32) (x14 : Vec F S1x256x128 .f32) (x15 : Vec F S1x256x128 .f32) (x16 : Vec F S1x256x128 .f32) (x17 : Vec F S1x256x128 .f32) (x18 : Vec F S1x256x128 .f32) (x19 : Vec F S1x256x128 .f32) (x20 : Vec F S1x256x128 .f32) (x21 : Vec F S1x256x128 .f32) (x22 : Vec F S1x256x128 .f32) (x23 : Vec F S1x256x128 .f32) (x24 : Vec F S1x256x128 .f32) (x25 : Vec F S1x256x128 .f32) (x26 : Vec F S1x256x128 .f32) (x27 : Vec F S1x256x128 .f32) (x28 : Vec F S1x256x128 .f32) (x29 : Vec F S1x256x128 .f32) (x30 : Vec F S1x256x128 .f32) (x31 : Vec F S1x256x128 .f32) (x32 : Vec F S1x256x128 .f32) (x33 : Vec F S1x256x128 .f32) (x34 : Vec F S1x256x128 .f32) (x35 : Vec F S1x256x128 .f32) (xt0 : TbBuf0 (F := F) c tbM0_0) (y : S1x8x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30 x31 x32 x33 x34 x35 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30 x31 x32 x33 x34 x35 xt0).1 S1x8x128.size (by sl_kernel_rfl) y

/-- What the run leaves in output 36's staging buffer: its pieces read back over junk. -/
def out0_A_36 (c : Dev nD) (i : grid0.Coords) (arg2 : Memref sig .tc .vmem S1x8x1024 .bf16) (harg2 : arg2.IsWhole) (arg3 : Memref sig .tc .vmem S1x8x2176 .f32) (harg3 : arg3.IsWhole) (arg4 : Memref sig .tc .vmem S1x8x256 .f32) (harg4 : arg4.IsWhole) (arg5 : Memref sig .tc .vmem S1x8x256 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x256x128 .f32) (harg12 : arg12.IsWhole) (arg13 : Memref sig .tc .vmem S1x256x128 .f32) (harg13 : arg13.IsWhole) (arg14 : Memref sig .tc .vmem S1x256x128 .f32) (harg14 : arg14.IsWhole) (arg15 : Memref sig .tc .vmem S1x256x128 .f32) (harg15 : arg15.IsWhole) (arg16 : Memref sig .tc .vmem S1x256x128 .f32) (harg16 : arg16.IsWhole) (arg17 : Memref sig .tc .vmem S1x256x128 .f32) (harg17 : arg17.IsWhole) (arg18 : Memref sig .tc .vmem S1x256x128 .f32) (harg18 : arg18.IsWhole) (arg19 : Memref sig .tc .vmem S1x256x128 .f32) (harg19 : arg19.IsWhole) (arg20 : Memref sig .tc .vmem S1x256x128 .f32) (harg20 : arg20.IsWhole) (arg21 : Memref sig .tc .vmem S1x256x128 .f32) (harg21 : arg21.IsWhole) (arg22 : Memref sig .tc .vmem S1x256x128 .f32) (harg22 : arg22.IsWhole) (arg23 : Memref sig .tc .vmem S1x256x128 .f32) (harg23 : arg23.IsWhole) (arg24 : Memref sig .tc .vmem S1x256x128 .f32) (harg24 : arg24.IsWhole) (arg25 : Memref sig .tc .vmem S1x256x128 .f32) (harg25 : arg25.IsWhole) (arg26 : Memref sig .tc .vmem S1x256x128 .f32) (harg26 : arg26.IsWhole) (arg27 : Memref sig .tc .vmem S1x256x128 .f32) (harg27 : arg27.IsWhole) (arg28 : Memref sig .tc .vmem S1x256x128 .f32) (harg28 : arg28.IsWhole) (arg29 : Memref sig .tc .vmem S1x256x128 .f32) (harg29 : arg29.IsWhole) (arg30 : Memref sig .tc .vmem S1x256x128 .f32) (harg30 : arg30.IsWhole) (arg31 : Memref sig .tc .vmem S1x256x128 .f32) (harg31 : arg31.IsWhole) (arg32 : Memref sig .tc .vmem S1x256x128 .f32) (harg32 : arg32.IsWhole) (arg33 : Memref sig .tc .vmem S1x256x128 .f32) (harg33 : arg33.IsWhole) (arg34 : Memref sig .tc .vmem S1x256x128 .f32) (harg34 : arg34.IsWhole) (arg35 : Memref sig .tc .vmem S1x256x128 .f32) (harg35 : arg35.IsWhole) (arg36 : Memref sig .tc .vmem S1x256x128 .f32) (harg36 : arg36.IsWhole) (arg37 : Memref sig .tc .vmem S1x256x128 .f32) (harg37 : arg37.IsWhole) (arg38 : Memref sig .tc .vmem S1x8x1024 .f32) (harg38 : arg38.IsWhole)
    (x0 : Vec F S1x8x1024 .bf16) (x1 : Vec F S1x8x2176 .f32) (x2 : Vec F S1x8x256 .f32) (x3 : Vec F S1x8x256 .f32) (x4 : Vec F S1x256x128 .f32) (x5 : Vec F S1x256x128 .f32) (x6 : Vec F S1x256x128 .f32) (x7 : Vec F S1x256x128 .f32) (x8 : Vec F S1x256x128 .f32) (x9 : Vec F S1x256x128 .f32) (x10 : Vec F S1x256x128 .f32) (x11 : Vec F S1x256x128 .f32) (x12 : Vec F S1x256x128 .f32) (x13 : Vec F S1x256x128 .f32) (x14 : Vec F S1x256x128 .f32) (x15 : Vec F S1x256x128 .f32) (x16 : Vec F S1x256x128 .f32) (x17 : Vec F S1x256x128 .f32) (x18 : Vec F S1x256x128 .f32) (x19 : Vec F S1x256x128 .f32) (x20 : Vec F S1x256x128 .f32) (x21 : Vec F S1x256x128 .f32) (x22 : Vec F S1x256x128 .f32) (x23 : Vec F S1x256x128 .f32) (x24 : Vec F S1x256x128 .f32) (x25 : Vec F S1x256x128 .f32) (x26 : Vec F S1x256x128 .f32) (x27 : Vec F S1x256x128 .f32) (x28 : Vec F S1x256x128 .f32) (x29 : Vec F S1x256x128 .f32) (x30 : Vec F S1x256x128 .f32) (x31 : Vec F S1x256x128 .f32) (x32 : Vec F S1x256x128 .f32) (x33 : Vec F S1x256x128 .f32) (x34 : Vec F S1x256x128 .f32) (x35 : Vec F S1x256x128 .f32) (xt0 : TbBuf0 (F := F) c tbM0_0) : Vec F S1x8x1024 .f32 :=
  VO0_36.read (Elt F) (VO0_36.writes (Elt F) VO0_36.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30 x31 x32 x33 x34 x35 xt0).1)

/-! ## What the outputs hold after each point -/

/-- What the outputs' staging buffers hold after the body at point `t`: the run's contents at
    the point's memrefs and input blocks. -/
def outsAt0 (hO : Ok m) (c : Dev nD) (t : Fin (cfgM m hO).N) : Vec F S1x8x1024 .f32 :=
  out0_A_36 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (tbl m 0)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => iblk m hO c 34 t
    | ⟨35, _⟩ => iblk m hO c 35 t
    | ⟨36, _⟩ => (outsAt0 m hO c t)
    | ⟨_ + 37, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = iblk m hO c 24 t := by dsimp only [dats]; try rfl
theorem after0_25 (hO : Ok m) (c : Dev nD) (t : Fin (cfgM m hO).N) : (dats m hO 0 c).after 25 t = iblk m hO c 25 t := by dsimp only [dats]; try rfl
theorem after0_26 (hO : Ok m) (c : Dev nD) (t : Fin (cfgM m hO).N) : (dats m hO 0 c).after 26 t = iblk m hO c 26 t := by dsimp only [dats]; try rfl
theorem after0_27 (hO : Ok m) (c : Dev nD) (t : Fin (cfgM m hO).N) : (dats m hO 0 c).after 27 t = iblk m hO c 27 t := by dsimp only [dats]; try rfl
theorem after0_28 (hO : Ok m) (c : Dev nD) (t : Fin (cfgM m hO).N) : (dats m hO 0 c).after 28 t = iblk m hO c 28 t := by dsimp only [dats]; try rfl
theorem after0_29 (hO : Ok m) (c : Dev nD) (t : Fin (cfgM m hO).N) : (dats m hO 0 c).after 29 t = iblk m hO c 29 t := by dsimp only [dats]; try rfl
theorem after0_30 (hO : Ok m) (c : Dev nD) (t : Fin (cfgM m hO).N) : (dats m hO 0 c).after 30 t = iblk m hO c 30 t := by dsimp only [dats]; try rfl
theorem after0_31 (hO : Ok m) (c : Dev nD) (t : Fin (cfgM m hO).N) : (dats m hO 0 c).after 31 t = iblk m hO c 31 t := by dsimp only [dats]; try rfl
theorem after0_32 (hO : Ok m) (c : Dev nD) (t : Fin (cfgM m hO).N) : (dats m hO 0 c).after 32 t = iblk m hO c 32 t := by dsimp only [dats]; try rfl
theorem after0_33 (hO : Ok m) (c : Dev nD) (t : Fin (cfgM m hO).N) : (dats m hO 0 c).after 33 t = iblk m hO c 33 t := by dsimp only [dats]; try rfl
theorem after0_34 (hO : Ok m) (c : Dev nD) (t : Fin (cfgM m hO).N) : (dats m hO 0 c).after 34 t = iblk m hO c 34 t := by dsimp only [dats]; try rfl
theorem after0_35 (hO : Ok m) (c : Dev nD) (t : Fin (cfgM m hO).N) : (dats m hO 0 c).after 35 t = iblk m hO c 35 t := by dsimp only [dats]; try rfl
theorem after0_36 (hO : Ok m) (c : Dev nD) (t : Fin (cfgM m hO).N) : (dats m hO 0 c).after 36 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d
theorem before0_24 (hO : Ok m) (c : Dev nD) (t : Fin (cfgM m hO).N) (d) : (dats m hO 0 c).before 24 t d = iblk m hO c 24 t :=
  before0_24_of m hO (dats m hO 0 c) (A_eq m hO c 24) (after0_24 m hO c) t d
theorem before0_25 (hO : Ok m) (c : Dev nD) (t : Fin (cfgM m hO).N) (d) : (dats m hO 0 c).before 25 t d = iblk m hO c 25 t :=
  before0_25_of m hO (dats m hO 0 c) (A_eq m hO c 25) (after0_25 m hO c) t d
theorem before0_26 (hO : Ok m) (c : Dev nD) (t : Fin (cfgM m hO).N) (d) : (dats m hO 0 c).before 26 t d = iblk m hO c 26 t :=
  before0_26_of m hO (dats m hO 0 c) (A_eq m hO c 26) (after0_26 m hO c) t d
theorem before0_27 (hO : Ok m) (c : Dev nD) (t : Fin (cfgM m hO).N) (d) : (dats m hO 0 c).before 27 t d = iblk m hO c 27 t :=
  before0_27_of m hO (dats m hO 0 c) (A_eq m hO c 27) (after0_27 m hO c) t d
theorem before0_28 (hO : Ok m) (c : Dev nD) (t : Fin (cfgM m hO).N) (d) : (dats m hO 0 c).before 28 t d = iblk m hO c 28 t :=
  before0_28_of m hO (dats m hO 0 c) (A_eq m hO c 28) (after0_28 m hO c) t d
theorem before0_29 (hO : Ok m) (c : Dev nD) (t : Fin (cfgM m hO).N) (d) : (dats m hO 0 c).before 29 t d = iblk m hO c 29 t :=
  before0_29_of m hO (dats m hO 0 c) (A_eq m hO c 29) (after0_29 m hO c) t d
theorem before0_30 (hO : Ok m) (c : Dev nD) (t : Fin (cfgM m hO).N) (d) : (dats m hO 0 c).before 30 t d = iblk m hO c 30 t :=
  before0_30_of m hO (dats m hO 0 c) (A_eq m hO c 30) (after0_30 m hO c) t d
theorem before0_31 (hO : Ok m) (c : Dev nD) (t : Fin (cfgM m hO).N) (d) : (dats m hO 0 c).before 31 t d = iblk m hO c 31 t :=
  before0_31_of m hO (dats m hO 0 c) (A_eq m hO c 31) (after0_31 m hO c) t d
theorem before0_32 (hO : Ok m) (c : Dev nD) (t : Fin (cfgM m hO).N) (d) : (dats m hO 0 c).before 32 t d = iblk m hO c 32 t :=
  before0_32_of m hO (dats m hO 0 c) (A_eq m hO c 32) (after0_32 m hO c) t d
theorem before0_33 (hO : Ok m) (c : Dev nD) (t : Fin (cfgM m hO).N) (d) : (dats m hO 0 c).before 33 t d = iblk m hO c 33 t :=
  before0_33_of m hO (dats m hO 0 c) (A_eq m hO c 33) (after0_33 m hO c) t d
theorem before0_34 (hO : Ok m) (c : Dev nD) (t : Fin (cfgM m hO).N) (d) : (dats m hO 0 c).before 34 t d = iblk m hO c 34 t :=
  before0_34_of m hO (dats m hO 0 c) (A_eq m hO c 34) (after0_34 m hO c) t d
theorem before0_35 (hO : Ok m) (c : Dev nD) (t : Fin (cfgM m hO).N) (d) : (dats m hO 0 c).before 35 t d = iblk m hO c 35 t :=
  before0_35_of m hO (dats m hO 0 c) (A_eq m hO c 35) (after0_35 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d))
    ∗ (∃ d, owns (c : Thread nD τ) (ms0_34 m hO t) fullShare ((dats m hO 0 c).before 34 t d))
    ∗ (∃ d, owns (c : Thread nD τ) (ms0_35 m hO t) fullShare ((dats m hO 0 c).before 35 t d))
    ∗ (∃ d, owns (c : Thread nD τ) (ms0_36 m hO t) fullShare ((dats m hO 0 c).before 36 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t)
    ∗ owns (c : Thread nD τ) (ms0_27 m hO t) fullShare ((dats m hO 0 c).after 27 t)
    ∗ owns (c : Thread nD τ) (ms0_28 m hO t) fullShare ((dats m hO 0 c).after 28 t)
    ∗ owns (c : Thread nD τ) (ms0_29 m hO t) fullShare ((dats m hO 0 c).after 29 t)
    ∗ owns (c : Thread nD τ) (ms0_30 m hO t) fullShare ((dats m hO 0 c).after 30 t)
    ∗ owns (c : Thread nD τ) (ms0_31 m hO t) fullShare ((dats m hO 0 c).after 31 t)
    ∗ owns (c : Thread nD τ) (ms0_32 m hO t) fullShare ((dats m hO 0 c).after 32 t)
    ∗ owns (c : Thread nD τ) (ms0_33 m hO t) fullShare ((dats m hO 0 c).after 33 t)
    ∗ owns (c : Thread nD τ) (ms0_34 m hO t) fullShare ((dats m hO 0 c).after 34 t)
    ∗ owns (c : Thread nD τ) (ms0_35 m hO t) fullShare ((dats m hO 0 c).after 35 t)
    ∗ owns (c : Thread nD τ) (ms0_36 m hO t) fullShare ((dats m hO 0 c).after 36 t))

set_option maxHeartbeats 3600000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36]
  rw [show (dats m hO 0 c).Φ t.castSucc = iprop(Pipeline.ΦA spec0 c ∗ Pipeline.ΦT pre0 (tbl m) c) from rfl, PhiT0_eq]
  unfold outsAt0
  unfold out0_A_36
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (tbl m 0)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexists _; iexact H36
  isplitl [HT0]; · iexact HT0
  iintro ⟨H0, H1, H2, H3, H4, H5, H6, H7, H8, H9, H10, H11, H12, H13, H14, H15, H16, H17, H18, H19, H20, H21, H22, H23, H24, H25, H26, H27, H28, H29, H30, H31, H32, H33, H34, H35, ⟨%e36, H36⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  unfold owns; iexists _; isplitr
  swap; · iexact H36
  ipureintro; exact View.read_writes_of_cover _ _ _ _ _ (cover0_A_36 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 20000000 in
/-- The body obligation, at every point: the body's triple restated. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: from any memory whose page table lies in the cache, every run ends with the arguments as they were and
    every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Gen

end
-- ==== Proof.AttnOkI.lean ====
/- From the precondition: every page number lies in the cache, so each page's block lies in the array of pages; and
   the bias is −∞ at the columns that pad the keys to whole pages. -/
module

public import proofs.«01_k».proof.Defs
public import proofs.«01_k».proof.Proof.Gen.Pre_pages_in_cache
public import proofs.«01_k».proof.Proof.Gen.KernelIdeal.Frame.Runs
public import Idealize.ShloMosaic.Lib.Pipeline.ValueKit

@[expose] public section

set_option maxRecDepth 16384

noncomputable section

namespace Cert.KernelIdeal.Own

open Cert.KernelIdeal Cert.KernelIdeal.Gen Idealize.ShloMosaic Idealize.ShloMosaic.TcCoe Idealize.SL.Sem

/-- A signed word that is at least 0 and below 2560 is below 2560 as a natural number. -/
theorem word_lt (v : BitVec 32) (h : IntOp.andi (IntOp.cmpi .sge v 0#32) (IntOp.cmpi .slt v 2560#32) = 1#1) : v.toNat < 2560 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  simp only [IntOp.cmpi, both, one, Bool.and_eq_true, BitVec.sle_eq_decide, BitVec.slt_eq_decide, decide_eq_true_eq,
    BitVec.toInt_eq_toNat_cond, BitVec.toNat_ofNat, Nat.reducePow, Nat.reduceMod] at h
  omega

/-- The block of a page below 2560 lies in the array of 2560 pages. -/
theorem page_inb (v : BitVec 32) (h : v.toNat < 2560) (a : Fin 3) :
    ((![v.toNat, (0#32 : BitVec 32).toNat, (0#32 : BitVec 32).toNat] : Fin 3 → Nat) a + 1) * S1x256x128.size a ≤ S2560x256x128.size a := by
  match a with
  | ⟨0, _⟩ => show (v.toNat + 1) * 1 ≤ 2560; omega
  | ⟨1, _⟩ => show (0 + 1) * 256 ≤ 256; omega
  | ⟨2, _⟩ => show (0 + 1) * 128 ≤ 128; omega

variable (m : (ℓ : Loc nD τ sig) → Buf (Elt Ideal) ℓ)

/-- The page table as the call reads it is the argument. -/
theorem tbl_eq : tbl m 0 = m ((0 : Dev nD).tc.loc main_arg0) := by
  unfold tbl
  exact (by after_results_simp <;> rfl : StableHlo.after hostOps0 (fun b => m ((0 : Dev nD), b)) main_arg0 = _)

/-- Every page number is below 2560. -/
theorem page_lt (h : Cert.Pre_KernelIdeal m) (c : Dev nD) (x : S128x16.Idx) : (m (c.tc.loc main_arg0) x).toNat < 2560 :=
  word_lt _ (congrFun (h c) x)

/-- The page table of a memory that meets the precondition places every page's block inside the array of pages. -/
theorem ok_of_pre (h : Cert.Pre_KernelIdeal m) : Ok m := by
  have ht : ∀ x, (tbl m 0 x).toNat < 2560 := fun x => by rw [tbl_eq]; exact page_lt m h 0 x
  unfold Ok ok0
  and_intros
  all_goals exact fun i => ⟨fun a => page_inb _ (ht _) a, Or.inl rfl⟩

end Cert.KernelIdeal.Own

end
-- ==== Proof.AttnTiles.lean ====
/- The sample attention, one key-value head: the kernel's 17 tiles of scores and values, and the weighted mean it makes of them. -/
module

public import proofs.«01_k».proof.Proof.Gen.KernelIdeal.Skeleton
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

/-- A tile of scores: the queries' rows against the tile's keys, plus the tile's columns of the bias, which the four heads share. -/
def tileS (Q : FVec Ideal S32x128 .bf16) (B : FVec Ideal S8x2176 .f32) (K : FVec Ideal S128x128 .bf16) (p : Fin 17) : FVec Ideal S32x128 .f32 :=
  fun y => (∑ d : Fin 128, Q (ix2 (y 0) d) * K (ix2 (y 1) d))
    + B (ix2 (⟨(y 0).val % 8, Nat.mod_lt _ (by decide)⟩ : Fin 8) (⟨p.val * 128 + (y 1).val, by have h : (y 1).val < 128 := (y 1).isLt; omega⟩ : Fin 2176))

/-- A page's keys or values of one head as a matrix. -/
def sq (x : FVec Ideal S1x128x128 .f32) : FVec Ideal S128x128 .bf16 := fun y => x (ix3 0 (y 0) (y 1))

theorem sq_eq (x : FVec Ideal S1x128x128 .f32) :
    (truncf .bf16 (shapeCast S128x128 x shapeCasts_S1x128x128_S128x128) bitsLt_bf16_f32 : FVec Ideal S128x128 .bf16) = sq x := by
  funext y
  idx_vars y
  pointwise! [sq]

/-- Four copies of a block of rows, one below the other. -/
theorem rep4 (x : FVec Ideal S8x128 .f32) :
    concatenate S32x128 0 [⟨S8x128, x⟩, ⟨S8x128, x⟩, ⟨S8x128, x⟩, ⟨S8x128, x⟩] concatenates_S8x128_S8x128_S8x128_S8x128_S32x128_d0
      = fun y => x (ix2 (⟨(y 0).val % 8, Nat.mod_lt _ (by decide)⟩ : Fin 8) (y 1)) := by
  funext y
  obtain ⟨r, c, rfl⟩ : ∃ (r : Fin 32) (c : Fin 128), y = ix2 r c := ⟨y 0, y 1, by idx_vars y⟩
  pointwise []
  have e (k : ℕ) (h : k < 8) (hk : k = r.val % 8) : x (ix2 (⟨k, h⟩ : Fin 8) c) = x (ix2 (⟨r.val % 8, Nat.mod_lt _ (by decide)⟩ : Fin 8) c) := by
    subst hk; rfl
  have hr := r.isLt
  split
  · exact e _ _ (by omega)
  split
  · exact e _ _ (by omega)
  split
  · exact e _ _ (by omega)
  · exact e _ _ (by omega)

/-- The kernel's tile of scores. -/
theorem tile_eq (Q : FVec Ideal S32x128 .bf16) (B : FVec Ideal S8x2176 .f32) (K : FVec Ideal S128x128 .bf16) (p : Fin 17)
    (h : S8x2176.Slices ![0, p.val * 128] S8x128) :
    (addf (matmul dot_S32x128_S128x128_S32x128_1_1_0_0_n_n none Q K (constant S32x128 .f32 0x00000000#32))
      (concatenate S32x128 0 [⟨S8x128, extractStridedSlice S8x128 ![0, p.val * 128] B h⟩, ⟨S8x128, extractStridedSlice S8x128 ![0, p.val * 128] B h⟩,
        ⟨S8x128, extractStridedSlice S8x128 ![0, p.val * 128] B h⟩, ⟨S8x128, extractStridedSlice S8x128 ![0, p.val * 128] B h⟩]
        concatenates_S8x128_S8x128_S8x128_S8x128_S32x128_d0) : FVec Ideal S32x128 .f32) = tileS Q B K p := by
  rw [rep4]
  funext y
  have e (r : Fin 8) (c : Fin 128) : extractStridedSlice S8x128 ![0, p.val * 128] B h (ix2 r c)
      = B (ix2 r (⟨p.val * 128 + c.val, by have := c.isLt; omega⟩ : Fin 2176)) :=
    extractStridedSlice_apply ![0, p.val * 128] B h (ix2 r c) _ (fun a => match a with
      | ⟨0, _⟩ => by show r.val = 0 + r.val; omega
      | ⟨1, _⟩ => rfl)
  simp only [e]
  idx_vars y
  pointwise! [tileS]

/-! ### The tiles of key-value head 0 -/

theorem s0_0 (q : FVec Ideal S1x8x1024 .bf16) (b : FVec Ideal S1x8x2176 .f32) (x : FVec Ideal S1x128x128 .f32) :
    k0_pay11 (F := Ideal) q b x = tileS (k0_pay9 (F := Ideal) q) (k0_pay7 (F := Ideal) b) (sq x) 0 := by
  rw [← sq_eq]
  exact tile_eq _ _ _ 0 slices_S8x2176_o0_0_S8x128

theorem s0_1 (q : FVec Ideal S1x8x1024 .bf16) (b : FVec Ideal S1x8x2176 .f32) (x : FVec Ideal S1x128x128 .f32) :
    k0_pay13 (F := Ideal) q b x = tileS (k0_pay9 (F := Ideal) q) (k0_pay7 (F := Ideal) b) (sq x) 1 := by
  rw [← sq_eq]
  exact tile_eq _ _ _ 1 slices_S8x2176_o0_128_S8x128

theorem s0_2 (B : FVec Ideal S8x2176 .f32) (Q : FVec Ideal S32x128 .bf16) (x : FVec Ideal S1x128x128 .f32) :
    k0_pay16 (F := Ideal) B Q (k0_pay14 x) = tileS Q B (sq x) 2 := by
  rw [← sq_eq]
  exact tile_eq _ _ _ 2 slices_S8x2176_o0_256_S8x128

theorem s0_3 (B : FVec Ideal S8x2176 .f32) (Q : FVec Ideal S32x128 .bf16) (x : FVec Ideal S1x128x128 .f32) :
    k0_pay18 (F := Ideal) B Q x = tileS Q B (sq x) 3 := by
  rw [← sq_eq]
  exact tile_eq _ _ _ 3 slices_S8x2176_o0_384_S8x128

theorem s0_4 (B : FVec Ideal S8x2176 .f32) (Q : FVec Ideal S32x128 .bf16) (x : FVec Ideal S1x128x128 .f32) :
    k0_pay20 (F := Ideal) B Q x = tileS Q B (sq x) 4 := by
  rw [← sq_eq]
  exact tile_eq _ _ _ 4 slices_S8x2176_o0_512_S8x128

theorem s0_5 (B : FVec Ideal S8x2176 .f32) (Q : FVec Ideal S32x128 .bf16) (x : FVec Ideal S1x128x128 .f32) :
    k0_pay24 (F := Ideal) (k0_pay22 B) (k0_pay23 Q x) = tileS Q B (sq x) 5 := by
  rw [← sq_eq]
  exact tile_eq _ _ _ 5 slices_S8x2176_o0_640_S8x128

theorem s0_6 (B : FVec Ideal S8x2176 .f32) (Q : FVec Ideal S32x128 .bf16) (x : FVec Ideal S1x128x128 .f32) :
    k0_pay26 (F := Ideal) B Q x = tileS Q B (sq x) 6 := by
  rw [← sq_eq]
  exact tile_eq _ _ _ 6 slices_S8x2176_o0_768_S8x128

theorem s0_7 (B : FVec Ideal S8x2176 .f32) (Q : FVec Ideal S32x128 .bf16) (x : FVec Ideal S1x128x128 .f32) :
    k0_pay28 (F := Ideal) B Q x = tileS Q B (sq x) 7 := by
  rw [← sq_eq]
  exact tile_eq _ _ _ 7 slices_S8x2176_o0_896_S8x128

theorem s0_8 (B : FVec Ideal S8x2176 .f32) (Q : FVec Ideal S32x128 .bf16) (x : FVec Ideal S1x128x128 .f32) :
    k0_pay30 (F := Ideal) B Q x = tileS Q B (sq x) 8 := by
  rw [← sq_eq]
  exact tile_eq _ _ _ 8 slices_S8x2176_o0_1024_S8x128

theorem s0_9 (B : FVec Ideal S8x2176 .f32) (Q : FVec Ideal S32x128 .bf16) (x : FVec Ideal S1x128x128 .f32) :
    k0_pay33 (F := Ideal) B Q (k0_pay31 x) = tileS Q B (sq x) 9 := by
  rw [← sq_eq]
  exact tile_eq _ _ _ 9 slices_S8x2176_o0_1152_S8x128

theorem s0_10 (B : FVec Ideal S8x2176 .f32) (Q : FVec Ideal S32x128 .bf16) (x : FVec Ideal S1x128x128 .f32) :
    k0_pay35 (F := Ideal) B Q x = tileS Q B (sq x) 10 := by
  rw [← sq_eq]
  exact tile_eq _ _ _ 10 slices_S8x2176_o0_1280_S8x128

theorem s0_11 (B : FVec Ideal S8x2176 .f32) (Q : FVec Ideal S32x128 .bf16) (x : FVec Ideal S1x128x128 .f32) :
    k0_pay37 (F := Ideal) B Q x = tileS Q B (sq x) 11 := by
  rw [← sq_eq]
  exact tile_eq _ _ _ 11 slices_S8x2176_o0_1408_S8x128

theorem s0_12 (Q : FVec Ideal S32x128 .bf16) (x : FVec Ideal S1x128x128 .f32) (B : FVec Ideal S8x2176 .f32) :
    k0_pay41 (F := Ideal) (k0_pay39 Q x) (k0_pay40 B) = tileS Q B (sq x) 12 := by
  rw [← sq_eq]
  exact tile_eq _ _ _ 12 slices_S8x2176_o0_1536_S8x128

theorem s0_13 (B : FVec Ideal S8x2176 .f32) (Q : FVec Ideal S32x128 .bf16) (x : FVec Ideal S1x128x128 .f32) :
    k0_pay43 (F := Ideal) B Q x = tileS Q B (sq x) 13 := by
  rw [← sq_eq]
  exact tile_eq _ _ _ 13 slices_S8x2176_o0_1664_S8x128

theorem s0_14 (B : FVec Ideal S8x2176 .f32) (Q : FVec Ideal S32x128 .bf16) (x : FVec Ideal S1x128x128 .f32) :
    k0_pay45 (F := Ideal) B Q x = tileS Q B (sq x) 14 := by
  rw [← sq_eq]
  exact tile_eq _ _ _ 14 slices_S8x2176_o0_1792_S8x128

theorem s0_15 (B : FVec Ideal S8x2176 .f32) (Q : FVec Ideal S32x128 .bf16) (x : FVec Ideal S1x128x128 .f32) :
    k0_pay47 (F := Ideal) B Q x = tileS Q B (sq x) 15 := by
  rw [← sq_eq]
  exact tile_eq _ _ _ 15 slices_S8x2176_o0_1920_S8x128

theorem s0_16 (B : FVec Ideal S8x2176 .f32) (Q : FVec Ideal S32x128 .bf16) (K : FVec Ideal S128x128 .bf16) :
    k0_pay50 (F := Ideal) B Q K = tileS Q B K 16 := by
  exact tile_eq _ _ _ 16 slices_S8x2176_o0_2048_S8x128

theorem v0_0 (x : FVec Ideal S1x128x128 .f32) : k0_pay10 (F := Ideal) x = sq x := sq_eq x

theorem v0_1 (x : FVec Ideal S1x128x128 .f32) : k0_pay12 (F := Ideal) x = sq x := sq_eq x

theorem v0_2 (x : FVec Ideal S1x128x128 .f32) : k0_pay15 (F := Ideal) x = sq x := sq_eq x

theorem v0_3 (x : FVec Ideal S1x128x128 .f32) : k0_pay17 (F := Ideal) x = sq x := sq_eq x

theorem v0_4 (x : FVec Ideal S1x128x128 .f32) : k0_pay19 (F := Ideal) x = sq x := sq_eq x

theorem v0_5 (x : FVec Ideal S1x128x128 .f32) : k0_pay21 (F := Ideal) x = sq x := sq_eq x

theorem v0_6 (x : FVec Ideal S1x128x128 .f32) : k0_pay25 (F := Ideal) x = sq x := sq_eq x

theorem v0_7 (x : FVec Ideal S1x128x128 .f32) : k0_pay27 (F := Ideal) x = sq x := sq_eq x

theorem v0_8 (x : FVec Ideal S1x128x128 .f32) : k0_pay29 (F := Ideal) x = sq x := sq_eq x

theorem v0_9 (x : FVec Ideal S1x128x128 .f32) : k0_pay32 (F := Ideal) x = sq x := sq_eq x

theorem v0_10 (x : FVec Ideal S1x128x128 .f32) : k0_pay34 (F := Ideal) x = sq x := sq_eq x

theorem v0_11 (x : FVec Ideal S1x128x128 .f32) : k0_pay36 (F := Ideal) x = sq x := sq_eq x

theorem v0_12 (x : FVec Ideal S1x128x128 .f32) : k0_pay38 (F := Ideal) x = sq x := sq_eq x

theorem v0_13 (x : FVec Ideal S1x128x128 .f32) : k0_pay42 (F := Ideal) x = sq x := sq_eq x

theorem v0_14 (x : FVec Ideal S1x128x128 .f32) : k0_pay44 (F := Ideal) x = sq x := sq_eq x

theorem v0_15 (x : FVec Ideal S1x128x128 .f32) : k0_pay46 (F := Ideal) x = sq x := sq_eq x

/-! ### The tiles of key-value head 1 -/

theorem s1_0 (q : FVec Ideal S1x8x1024 .bf16) (B : FVec Ideal S8x2176 .f32) (x : FVec Ideal S1x128x128 .f32) :
    k0_pay77 (F := Ideal) (k0_pay6 q) B x = tileS (k0_pay75 (F := Ideal) (k0_pay6 q)) B (sq x) 0 := by
  rw [← sq_eq]
  exact tile_eq _ _ _ 0 slices_S8x2176_o0_0_S8x128

theorem s1_1 (B : FVec Ideal S8x2176 .f32) (Q : FVec Ideal S32x128 .bf16) (x : FVec Ideal S1x128x128 .f32) :
    k0_pay80 (F := Ideal) B Q (k0_pay78 x) = tileS Q B (sq x) 1 := by
  rw [← sq_eq]
  exact tile_eq _ _ _ 1 slices_S8x2176_o0_128_S8x128

theorem s1_2 (B : FVec Ideal S8x2176 .f32) (Q : FVec Ideal S32x128 .bf16) (x : FVec Ideal S1x128x128 .f32) :
    k0_pay82 (F := Ideal) B Q x = tileS Q B (sq x) 2 := by
  rw [← sq_eq]
  exact tile_eq _ _ _ 2 slices_S8x2176_o0_256_S8x128

theorem s1_3 (B : FVec Ideal S8x2176 .f32) (Q : FVec Ideal S32x128 .bf16) (x : FVec Ideal S1x128x128 .f32) :
    k0_pay84 (F := Ideal) B Q x = tileS Q B (sq x) 3 := by
  rw [← sq_eq]
  exact tile_eq _ _ _ 3 slices_S8x2176_o0_384_S8x128

theorem s1_4 (B : FVec Ideal S8x2176 .f32) (Q : FVec Ideal S32x128 .bf16) (x : FVec Ideal S1x128x128 .f32) :
    k0_pay86 (F := Ideal) B Q x = tileS Q B (sq x) 4 := by
  rw [← sq_eq]
  exact tile_eq _ _ _ 4 slices_S8x2176_o0_512_S8x128

theorem s1_5 (B : FVec Ideal S8x2176 .f32) (Q : FVec Ideal S32x128 .bf16) (x : FVec Ideal S1x128x128 .f32) :
    k0_pay88 (F := Ideal) B Q x = tileS Q B (sq x) 5 := by
  rw [← sq_eq]
  exact tile_eq _ _ _ 5 slices_S8x2176_o0_640_S8x128

theorem s1_6 (B : FVec Ideal S8x2176 .f32) (Q : FVec Ideal S32x128 .bf16) (x : FVec Ideal S1x128x128 .f32) :
    k0_pay90 (F := Ideal) B Q x = tileS Q B (sq x) 6 := by
  rw [← sq_eq]
  exact tile_eq _ _ _ 6 slices_S8x2176_o0_768_S8x128

theorem s1_7 (B : FVec Ideal S8x2176 .f32) (Q : FVec Ideal S32x128 .bf16) (x : FVec Ideal S1x128x128 .f32) :
    k0_pay92 (F := Ideal) B Q x = tileS Q B (sq x) 7 := by
  rw [← sq_eq]
  exact tile_eq _ _ _ 7 slices_S8x2176_o0_896_S8x128

theorem s1_8 (B : FVec Ideal S8x2176 .f32) (Q : FVec Ideal S32x128 .bf16) (x : FVec Ideal S1x128x128 .f32) :
    k0_pay96 (F := Ideal) B Q (k0_pay93 x) = tileS Q B (sq x) 8 := by
  rw [← sq_eq]
  exact tile_eq _ _ _ 8 slices_S8x2176_o0_1024_S8x128

theorem s1_9 (B : FVec Ideal S8x2176 .f32) (Q : FVec Ideal S32x128 .bf16) (x : FVec Ideal S1x128x128 .f32) :
    k0_pay98 (F := Ideal) B Q x = tileS Q B (sq x) 9 := by
  rw [← sq_eq]
  exact tile_eq _ _ _ 9 slices_S8x2176_o0_1152_S8x128

theorem s1_10 (B : FVec Ideal S8x2176 .f32) (Q : FVec Ideal S32x128 .bf16) (x : FVec Ideal S1x128x128 .f32) :
    k0_pay100 (F := Ideal) B Q x = tileS Q B (sq x) 10 := by
  rw [← sq_eq]
  exact tile_eq _ _ _ 10 slices_S8x2176_o0_1280_S8x128

theorem s1_11 (B : FVec Ideal S8x2176 .f32) (Q : FVec Ideal S32x128 .bf16) (x : FVec Ideal S1x128x128 .f32) :
    k0_pay102 (F := Ideal) B Q x = tileS Q B (sq x) 11 := by
  rw [← sq_eq]
  exact tile_eq _ _ _ 11 slices_S8x2176_o0_1408_S8x128

theorem s1_12 (B : FVec Ideal S8x2176 .f32) (Q : FVec Ideal S32x128 .bf16) (x : FVec Ideal S1x128x128 .f32) :
    k0_pay104 (F := Ideal) B Q x = tileS Q B (sq x) 12 := by
  rw [← sq_eq]
  exact tile_eq _ _ _ 12 slices_S8x2176_o0_1536_S8x128

theorem s1_13 (B : FVec Ideal S8x2176 .f32) (Q : FVec Ideal S32x128 .bf16) (x : FVec Ideal S1x128x128 .f32) :
    k0_pay106 (F := Ideal) B Q x = tileS Q B (sq x) 13 := by
  rw [← sq_eq]
  exact tile_eq _ _ _ 13 slices_S8x2176_o0_1664_S8x128

theorem s1_14 (B : FVec Ideal S8x2176 .f32) (Q : FVec Ideal S32x128 .bf16) (x : FVec Ideal S1x128x128 .f32) :
    k0_pay108 (F := Ideal) B Q x = tileS Q B (sq x) 14 := by
  rw [← sq_eq]
  exact tile_eq _ _ _ 14 slices_S8x2176_o0_1792_S8x128

theorem s1_15 (B : FVec Ideal S8x2176 .f32) (Q : FVec Ideal S32x128 .bf16) (x : FVec Ideal S1x128x128 .f32) :
    k0_pay111 (F := Ideal) B Q (k0_pay109 x) = tileS Q B (sq x) 15 := by
  rw [← sq_eq]
  exact tile_eq _ _ _ 15 slices_S8x2176_o0_1920_S8x128

theorem s1_16 (B : FVec Ideal S8x2176 .f32) (z : FVec Ideal S120x128 .f32) (Q : FVec Ideal S32x128 .bf16) (kn : FVec Ideal S1x8x128 .f32) :
    k0_pay113 (F := Ideal) B z Q kn = tileS Q B (k0_pay48 z kn) 16 := by
  exact tile_eq _ _ _ 16 slices_S8x2176_o0_2048_S8x128

theorem v1_0 (x : FVec Ideal S1x128x128 .f32) : k0_pay76 (F := Ideal) x = sq x := sq_eq x

theorem v1_1 (x : FVec Ideal S1x128x128 .f32) : k0_pay79 (F := Ideal) x = sq x := sq_eq x

theorem v1_2 (x : FVec Ideal S1x128x128 .f32) : k0_pay81 (F := Ideal) x = sq x := sq_eq x

theorem v1_3 (x : FVec Ideal S1x128x128 .f32) : k0_pay83 (F := Ideal) x = sq x := sq_eq x

theorem v1_4 (x : FVec Ideal S1x128x128 .f32) : k0_pay85 (F := Ideal) x = sq x := sq_eq x

theorem v1_5 (x : FVec Ideal S1x128x128 .f32) : k0_pay87 (F := Ideal) x = sq x := sq_eq x

theorem v1_6 (x : FVec Ideal S1x128x128 .f32) : k0_pay89 (F := Ideal) x = sq x := sq_eq x

theorem v1_7 (x : FVec Ideal S1x128x128 .f32) : k0_pay91 (F := Ideal) x = sq x := sq_eq x

theorem v1_8 (x : FVec Ideal S1x128x128 .f32) : k0_pay95 (F := Ideal) (k0_pay94 x) = sq x := sq_eq x

theorem v1_9 (x : FVec Ideal S1x128x128 .f32) : k0_pay97 (F := Ideal) x = sq x := sq_eq x

theorem v1_10 (x : FVec Ideal S1x128x128 .f32) : k0_pay99 (F := Ideal) x = sq x := sq_eq x

theorem v1_11 (x : FVec Ideal S1x128x128 .f32) : k0_pay101 (F := Ideal) x = sq x := sq_eq x

theorem v1_12 (x : FVec Ideal S1x128x128 .f32) : k0_pay103 (F := Ideal) x = sq x := sq_eq x

theorem v1_13 (x : FVec Ideal S1x128x128 .f32) : k0_pay105 (F := Ideal) x = sq x := sq_eq x

theorem v1_14 (x : FVec Ideal S1x128x128 .f32) : k0_pay107 (F := Ideal) x = sq x := sq_eq x

theorem v1_15 (x : FVec Ideal S1x128x128 .f32) : k0_pay110 (F := Ideal) x = sq x := sq_eq x

end Cert.KernelIdeal.Value

end
-- ==== Proof.AttnMean.lean ====
/- The sample attention, one key-value head: the weighted mean of the values, from the tiles of scores. -/
module

public import proofs.«01_k».proof.Proof.AttnTiles

@[expose] public section

set_option maxRecDepth 16384

noncomputable section

namespace Cert.KernelIdeal.Value

open Cert.KernelIdeal Cert.KernelIdeal.Gen Idealize.ShloMosaic Idealize.ShloMosaic.TcCoe Idealize.SL.Sem

/-- The largest score of each row, over the tiles. -/
def mxf (S : Fin 17 → FVec Ideal S32x128 .f32) : FVec Ideal S32x1 .f32 :=
  shapeCast S32x1 (multiReduction .maximumf [1] S32 (maximumf ((maximumf ((maximumf ((maximumf ((maximumf ((maximumf ((maximumf ((maximumf ((maximumf ((maximumf ((maximumf ((maximumf ((maximumf ((maximumf ((maximumf ((maximumf (S 0) (S 1))) (S 2))) (S 3))) (S 4))) (S 5))) (S 6))) (S 7))) (S 8))) (S 9))) (S 10))) (S 11))) (S 12))) (S 13))) (S 14))) (S 15))) (S 16)) 0xFF800000#32 reduces_S32x128_S32 (.inl rfl) rfl) shapeCasts_S32_S32x1

/-- The mean of the values, weighted by the exponentials of the scores less `M`. -/
def oFn (S : Fin 17 → FVec Ideal S32x128 .f32) (V : Fin 17 → FVec Ideal S128x128 .bf16) (M : FVec Ideal S32x1 .f32) : FVec Ideal S32x128 .f32 :=
  fun y => Ideal.div (∑ p : Fin 17, ∑ c : Fin 128, Ideal.exp (S p (ix2 (y 0) c) - M (ix2 (y 0) 0)) * V p (ix2 c (y 1)))
    (∑ c : Fin 128, ∑ p : Fin 17, Ideal.exp (S p (ix2 (y 0) c) - M (ix2 (y 0) 0)))

theorem sum17 (f : Fin 17 → EReal) : ∑ p, f p = f 0 + f 1 + f 2 + f 3 + f 4 + f 5 + f 6 + f 7 + f 8 + f 9 + f 10 + f 11 + f 12 + f 13 + f 14 + f 15 + f 16 := by
  simp only [Fin.sum_univ_castSucc, Fin.sum_univ_zero, zero_add]
  rfl

set_option maxHeartbeats 20000000 in
theorem o0_eq (B : FVec Ideal S8x2176 .f32) (Q : FVec Ideal S32x128 .bf16) (K : FVec Ideal S128x128 .bf16)
    (S : Fin 17 → FVec Ideal S32x128 .f32) (V : Fin 17 → FVec Ideal S128x128 .bf16) (h16 : k0_pay50 B Q K = S 16) :
    k0_pay69 (V 10) (V 11) (S 11) (V 12) (S 12) (V 13) (S 13) (V 14) (S 14) (V 15) (S 15) (V 16) (k0_pay50 B Q K) (k0_pay51 B Q (S 0) (S 1) (S 2) (S 3) (S 4) (S 5) (S 6) (S 7) (S 8) (S 9) (S 10) (S 11) (S 12) (S 13) (S 14) (S 15) K) (k0_pay65 (V 3) (V 4) (S 4) (V 5) (S 5) (V 6) (S 6) (V 7) (S 7) (V 8) (S 8) (V 9) (S 9) (k0_pay51 B Q (S 0) (S 1) (S 2) (S 3) (S 4) (S 5) (S 6) (S 7) (S 8) (S 9) (S 10) (S 11) (S 12) (S 13) (S 14) (S 15) K) (k0_pay56 B Q (V 0) (S 0) (V 1) (S 1) (V 2) (S 2) (S 3) (S 4) (S 5) (S 6) (S 7) (S 8) (S 9) (S 10) (S 11) (S 12) (S 13) (S 14) (S 15) K) (k0_pay57 B Q (S 0) (S 1) (S 2) (S 3) (S 4) (S 5) (S 6) (S 7) (S 8) (S 9) (S 10) (S 11) (S 12) (S 13) (S 14) (S 15) K)) (k0_pay67 (S 4) (S 5) (S 6) (S 7) (S 8) (S 9) (S 10) (k0_pay51 B Q (S 0) (S 1) (S 2) (S 3) (S 4) (S 5) (S 6) (S 7) (S 8) (S 9) (S 10) (S 11) (S 12) (S 13) (S 14) (S 15) K) (k0_pay55 B Q (S 0) (S 1) (S 2) (S 3) (S 4) (S 5) (S 6) (S 7) (S 8) (S 9) (S 10) (S 11) (S 12) (S 13) (S 14) (S 15) K) (k0_pay57 B Q (S 0) (S 1) (S 2) (S 3) (S 4) (S 5) (S 6) (S 7) (S 8) (S 9) (S 10) (S 11) (S 12) (S 13) (S 14) (S 15) K)) (k0_pay68 (S 10) (k0_pay51 B Q (S 0) (S 1) (S 2) (S 3) (S 4) (S 5) (S 6) (S 7) (S 8) (S 9) (S 10) (S 11) (S 12) (S 13) (S 14) (S 15) K)) (constant S32x128 .f32 0x00000000#32) = oFn S V (mxf S) := by
  have hm : k0_pay51 B Q (S 0) (S 1) (S 2) (S 3) (S 4) (S 5) (S 6) (S 7) (S 8) (S 9) (S 10) (S 11) (S 12) (S 13) (S 14) (S 15) K = mxf S := by unfold k0_pay51; rw [h16]; rfl
  unfold k0_pay69 k0_pay68 k0_pay67 k0_pay66 k0_pay65 k0_pay64 k0_pay63 k0_pay62 k0_pay61 k0_pay60 k0_pay59 k0_pay58 k0_pay57 k0_pay56 k0_pay55 k0_pay54 k0_pay53 k0_pay52
  simp only [hm, h16]
  generalize mxf S = M
  funext y
  obtain ⟨r, c, rfl⟩ : ∃ (r : Fin 32) (c : Fin 128), y = ix2 r c := ⟨y 0, y 1, by idx_vars y⟩
  simp only [oFn, sum17]
  pointwise! []

set_option maxHeartbeats 20000000 in
theorem o1_eq (B : FVec Ideal S8x2176 .f32) (Q : FVec Ideal S32x128 .bf16) (K : FVec Ideal S128x128 .bf16) (z : FVec Ideal S120x128 .f32) (kn : FVec Ideal S1x8x128 .f32)
    (S : Fin 17 → FVec Ideal S32x128 .f32) (V : Fin 17 → FVec Ideal S128x128 .bf16) (h15 : k0_pay111 B Q K = S 15) (h16 : k0_pay113 B z Q kn = S 16) :
    k0_pay1 (V 16) (k0_pay137 (V 9) (S 9) (V 10) (S 10) (V 11) (S 11) (V 12) (S 12) (V 13) (S 13) (V 14) (S 14) (V 15) (k0_pay111 B Q K) (k0_pay114 B z Q (S 0) (S 1) (S 2) (S 3) (S 4) (S 5) (S 6) (S 7) (S 8) (S 9) (S 10) (S 11) (S 12) (S 13) (S 14) K kn) (k0_pay128 (V 1) (V 2) (S 2) (V 3) (S 3) (V 4) (S 4) (V 5) (S 5) (V 6) (S 6) (V 7) (S 7) (V 8) (S 8) (k0_pay114 B z Q (S 0) (S 1) (S 2) (S 3) (S 4) (S 5) (S 6) (S 7) (S 8) (S 9) (S 10) (S 11) (S 12) (S 13) (S 14) K kn) (k0_pay116 B z Q (V 0) (S 0) (S 1) (S 2) (S 3) (S 4) (S 5) (S 6) (S 7) (S 8) (S 9) (S 10) (S 11) (S 12) (S 13) (S 14) K kn) (k0_pay119 B z Q (S 0) (S 1) (S 2) (S 3) (S 4) (S 5) (S 6) (S 7) (S 8) (S 9) (S 10) (S 11) (S 12) (S 13) (S 14) K kn)) (k0_pay129 (k0_pay114 B z Q (S 0) (S 1) (S 2) (S 3) (S 4) (S 5) (S 6) (S 7) (S 8) (S 9) (S 10) (S 11) (S 12) (S 13) (S 14) K kn))) (k0_pay139 (S 9) (S 10) (S 11) (S 12) (S 13) (S 14) (k0_pay111 B Q K) (k0_pay113 B z Q kn) (k0_pay114 B z Q (S 0) (S 1) (S 2) (S 3) (S 4) (S 5) (S 6) (S 7) (S 8) (S 9) (S 10) (S 11) (S 12) (S 13) (S 14) K kn) (k0_pay127 (S 2) (S 3) (S 4) (S 5) (S 6) (S 7) (S 8) (k0_pay114 B z Q (S 0) (S 1) (S 2) (S 3) (S 4) (S 5) (S 6) (S 7) (S 8) (S 9) (S 10) (S 11) (S 12) (S 13) (S 14) K kn) (k0_pay118 B z Q (S 0) (S 1) (S 2) (S 3) (S 4) (S 5) (S 6) (S 7) (S 8) (S 9) (S 10) (S 11) (S 12) (S 13) (S 14) K kn)) (k0_pay129 (k0_pay114 B z Q (S 0) (S 1) (S 2) (S 3) (S 4) (S 5) (S 6) (S 7) (S 8) (S 9) (S 10) (S 11) (S 12) (S 13) (S 14) K kn))) (k0_pay140 (k0_pay113 B z Q kn) (k0_pay114 B z Q (S 0) (S 1) (S 2) (S 3) (S 4) (S 5) (S 6) (S 7) (S 8) (S 9) (S 10) (S 11) (S 12) (S 13) (S 14) K kn)) = oFn S V (mxf S) := by
  have hm : k0_pay114 B z Q (S 0) (S 1) (S 2) (S 3) (S 4) (S 5) (S 6) (S 7) (S 8) (S 9) (S 10) (S 11) (S 12) (S 13) (S 14) K kn = mxf S := by unfold k0_pay114; rw [h15, h16]; rfl
  unfold k0_pay140 k0_pay139 k0_pay138 k0_pay137 k0_pay136 k0_pay135 k0_pay134 k0_pay133 k0_pay132 k0_pay131 k0_pay130 k0_pay129 k0_pay128 k0_pay127 k0_pay126 k0_pay125 k0_pay124 k0_pay123 k0_pay122 k0_pay121 k0_pay120 k0_pay119 k0_pay118 k0_pay117 k0_pay116 k0_pay115 k0_pay1
  simp only [hm, h15, h16]
  generalize mxf S = M
  funext y
  obtain ⟨r, c, rfl⟩ : ∃ (r : Fin 32) (c : Fin 128), y = ix2 r c := ⟨y 0, y 1, by idx_vars y⟩
  simp only [oFn, sum17]
  pointwise! []

theorem o0_gen (B : FVec Ideal S8x2176 .f32) (Q : FVec Ideal S32x128 .bf16) (K : FVec Ideal S128x128 .bf16)
    (S : Fin 17 → FVec Ideal S32x128 .f32) (V : Fin 17 → FVec Ideal S128x128 .bf16) (h16 : k0_pay50 B Q K = S 16)
    (a0 a1 a2 a3 a4 a5 a6 a7 a8 a9 a10 a11 a12 a13 a14 a15 : FVec Ideal S32x128 .f32) (w0 w1 w2 w3 w4 w5 w6 w7 w8 w9 w10 w11 w12 w13 w14 w15 w16 : FVec Ideal S128x128 .bf16)
    (ha0 : a0 = S 0) (ha1 : a1 = S 1) (ha2 : a2 = S 2) (ha3 : a3 = S 3) (ha4 : a4 = S 4) (ha5 : a5 = S 5) (ha6 : a6 = S 6) (ha7 : a7 = S 7) (ha8 : a8 = S 8) (ha9 : a9 = S 9) (ha10 : a10 = S 10) (ha11 : a11 = S 11) (ha12 : a12 = S 12) (ha13 : a13 = S 13) (ha14 : a14 = S 14) (ha15 : a15 = S 15)
    (hw0 : w0 = V 0) (hw1 : w1 = V 1) (hw2 : w2 = V 2) (hw3 : w3 = V 3) (hw4 : w4 = V 4) (hw5 : w5 = V 5) (hw6 : w6 = V 6) (hw7 : w7 = V 7) (hw8 : w8 = V 8) (hw9 : w9 = V 9) (hw10 : w10 = V 10) (hw11 : w11 = V 11) (hw12 : w12 = V 12) (hw13 : w13 = V 13) (hw14 : w14 = V 14) (hw15 : w15 = V 15) (hw16 : w16 = V 16) :
    k0_pay69 (F := Ideal) w10 w11 a11 w12 a12 w13 a13 w14 a14 w15 a15 w16 (k0_pay50 B Q K) (k0_pay51 B Q a0 a1 a2 a3 a4 a5 a6 a7 a8 a9 a10 a11 a12 a13 a14 a15 K) (k0_pay65 w3 w4 a4 w5 a5 w6 a6 w7 a7 w8 a8 w9 a9 (k0_pay51 B Q a0 a1 a2 a3 a4 a5 a6 a7 a8 a9 a10 a11 a12 a13 a14 a15 K) (k0_pay56 B Q w0 a0 w1 a1 w2 a2 a3 a4 a5 a6 a7 a8 a9 a10 a11 a12 a13 a14 a15 K) (k0_pay57 B Q a0 a1 a2 a3 a4 a5 a6 a7 a8 a9 a10 a11 a12 a13 a14 a15 K)) (k0_pay67 a4 a5 a6 a7 a8 a9 a10 (k0_pay51 B Q a0 a1 a2 a3 a4 a5 a6 a7 a8 a9 a10 a11 a12 a13 a14 a15 K) (k0_pay55 B Q a0 a1 a2 a3 a4 a5 a6 a7 a8 a9 a10 a11 a12 a13 a14 a15 K) (k0_pay57 B Q a0 a1 a2 a3 a4 a5 a6 a7 a8 a9 a10 a11 a12 a13 a14 a15 K)) (k0_pay68 a10 (k0_pay51 B Q a0 a1 a2 a3 a4 a5 a6 a7 a8 a9 a10 a11 a12 a13 a14 a15 K)) (constant S32x128 .f32 0x00000000#32)
      = oFn S V (mxf S) := by
  subst ha0 ha1 ha2 ha3 ha4 ha5 ha6 ha7 ha8 ha9 ha10 ha11 ha12 ha13 ha14 ha15 hw0 hw1 hw2 hw3 hw4 hw5 hw6 hw7 hw8 hw9 hw10 hw11 hw12 hw13 hw14 hw15 hw16
  exact o0_eq B Q K S V h16

theorem o0_final (q : FVec Ideal S1x8x1024 .bf16) (b : FVec Ideal S1x8x2176 .f32) (kn vn : FVec Ideal S1x8x128 .f32)
    (lk0 lk1 lk2 lk3 lk4 lk5 lk6 lk7 lk8 lk9 lk10 lk11 lk12 lk13 lk14 lk15 lv0 lv1 lv2 lv3 lv4 lv5 lv6 lv7 lv8 lv9 lv10 lv11 lv12 lv13 lv14 lv15 : FVec Ideal S1x128x128 .f32)
    (Kt Vt : Fin 17 → FVec Ideal S128x128 .bf16)
    (hk0 : sq lk0 = Kt 0) (hk1 : sq lk1 = Kt 1) (hk2 : sq lk2 = Kt 2) (hk3 : sq lk3 = Kt 3) (hk4 : sq lk4 = Kt 4) (hk5 : sq lk5 = Kt 5) (hk6 : sq lk6 = Kt 6) (hk7 : sq lk7 = Kt 7) (hk8 : sq lk8 = Kt 8) (hk9 : sq lk9 = Kt 9) (hk10 : sq lk10 = Kt 10) (hk11 : sq lk11 = Kt 11) (hk12 : sq lk12 = Kt 12) (hk13 : sq lk13 = Kt 13) (hk14 : sq lk14 = Kt 14) (hk15 : sq lk15 = Kt 15) (hk16 : k0_pay48 (F := Ideal) (k0_pay8 (F := Ideal)) kn = Kt 16)
    (hv0 : sq lv0 = Vt 0) (hv1 : sq lv1 = Vt 1) (hv2 : sq lv2 = Vt 2) (hv3 : sq lv3 = Vt 3) (hv4 : sq lv4 = Vt 4) (hv5 : sq lv5 = Vt 5) (hv6 : sq lv6 = Vt 6) (hv7 : sq lv7 = Vt 7) (hv8 : sq lv8 = Vt 8) (hv9 : sq lv9 = Vt 9) (hv10 : sq lv10 = Vt 10) (hv11 : sq lv11 = Vt 11) (hv12 : sq lv12 = Vt 12) (hv13 : sq lv13 = Vt 13) (hv14 : sq lv14 = Vt 14) (hv15 : sq lv15 = Vt 15) (hv16 : k0_pay49 (F := Ideal) (k0_pay8 (F := Ideal)) vn = Vt 16) :
    k0_pay69 (F := Ideal) (k0_pay34 lv10) (k0_pay36 lv11) (k0_pay37 (k0_pay7 b) (k0_pay9 q) lk11) (k0_pay38 lv12) (k0_pay41 (k0_pay39 (k0_pay9 q) lk12) (k0_pay40 (k0_pay7 b))) (k0_pay42 lv13) (k0_pay43 (k0_pay7 b) (k0_pay9 q) lk13) (k0_pay44 lv14) (k0_pay45 (k0_pay7 b) (k0_pay9 q) lk14) (k0_pay46 lv15) (k0_pay47 (k0_pay7 b) (k0_pay9 q) lk15) (k0_pay49 (k0_pay8 (F := Ideal)) vn) (k0_pay50 (k0_pay7 b) (k0_pay9 q) (k0_pay48 (k0_pay8 (F := Ideal)) kn)) (k0_pay51 (k0_pay7 b) (k0_pay9 q) (k0_pay11 q b lk0) (k0_pay13 q b lk1) (k0_pay16 (k0_pay7 b) (k0_pay9 q) (k0_pay14 lk2)) (k0_pay18 (k0_pay7 b) (k0_pay9 q) lk3) (k0_pay20 (k0_pay7 b) (k0_pay9 q) lk4) (k0_pay24 (k0_pay22 (k0_pay7 b)) (k0_pay23 (k0_pay9 q) lk5)) (k0_pay26 (k0_pay7 b) (k0_pay9 q) lk6) (k0_pay28 (k0_pay7 b) (k0_pay9 q) lk7) (k0_pay30 (k0_pay7 b) (k0_pay9 q) lk8) (k0_pay33 (k0_pay7 b) (k0_pay9 q) (k0_pay31 lk9)) (k0_pay35 (k0_pay7 b) (k0_pay9 q) lk10) (k0_pay37 (k0_pay7 b) (k0_pay9 q) lk11) (k0_pay41 (k0_pay39 (k0_pay9 q) lk12) (k0_pay40 (k0_pay7 b))) (k0_pay43 (k0_pay7 b) (k0_pay9 q) lk13) (k0_pay45 (k0_pay7 b) (k0_pay9 q) lk14) (k0_pay47 (k0_pay7 b) (k0_pay9 q) lk15) (k0_pay48 (k0_pay8 (F := Ideal)) kn)) (k0_pay65 (k0_pay17 lv3) (k0_pay19 lv4) (k0_pay20 (k0_pay7 b) (k0_pay9 q) lk4) (k0_pay21 lv5) (k0_pay24 (k0_pay22 (k0_pay7 b)) (k0_pay23 (k0_pay9 q) lk5)) (k0_pay25 lv6) (k0_pay26 (k0_pay7 b) (k0_pay9 q) lk6) (k0_pay27 lv7) (k0_pay28 (k0_pay7 b) (k0_pay9 q) lk7) (k0_pay29 lv8) (k0_pay30 (k0_pay7 b) (k0_pay9 q) lk8) (k0_pay32 lv9) (k0_pay33 (k0_pay7 b) (k0_pay9 q) (k0_pay31 lk9)) (k0_pay51 (k0_pay7 b) (k0_pay9 q) (k0_pay11 q b lk0) (k0_pay13 q b lk1) (k0_pay16 (k0_pay7 b) (k0_pay9 q) (k0_pay14 lk2)) (k0_pay18 (k0_pay7 b) (k0_pay9 q) lk3) (k0_pay20 (k0_pay7 b) (k0_pay9 q) lk4) (k0_pay24 (k0_pay22 (k0_pay7 b)) (k0_pay23 (k0_pay9 q) lk5)) (k0_pay26 (k0_pay7 b) (k0_pay9 q) lk6) (k0_pay28 (k0_pay7 b) (k0_pay9 q) lk7) (k0_pay30 (k0_pay7 b) (k0_pay9 q) lk8) (k0_pay33 (k0_pay7 b) (k0_pay9 q) (k0_pay31 lk9)) (k0_pay35 (k0_pay7 b) (k0_pay9 q) lk10) (k0_pay37 (k0_pay7 b) (k0_pay9 q) lk11) (k0_pay41 (k0_pay39 (k0_pay9 q) lk12) (k0_pay40 (k0_pay7 b))) (k0_pay43 (k0_pay7 b) (k0_pay9 q) lk13) (k0_pay45 (k0_pay7 b) (k0_pay9 q) lk14) (k0_pay47 (k0_pay7 b) (k0_pay9 q) lk15) (k0_pay48 (k0_pay8 (F := Ideal)) kn)) (k0_pay56 (k0_pay7 b) (k0_pay9 q) (k0_pay10 lv0) (k0_pay11 q b lk0) (k0_pay12 lv1) (k0_pay13 q b lk1) (k0_pay15 lv2) (k0_pay16 (k0_pay7 b) (k0_pay9 q) (k0_pay14 lk2)) (k0_pay18 (k0_pay7 b) (k0_pay9 q) lk3) (k0_pay20 (k0_pay7 b) (k0_pay9 q) lk4) (k0_pay24 (k0_pay22 (k0_pay7 b)) (k0_pay23 (k0_pay9 q) lk5)) (k0_pay26 (k0_pay7 b) (k0_pay9 q) lk6) (k0_pay28 (k0_pay7 b) (k0_pay9 q) lk7) (k0_pay30 (k0_pay7 b) (k0_pay9 q) lk8) (k0_pay33 (k0_pay7 b) (k0_pay9 q) (k0_pay31 lk9)) (k0_pay35 (k0_pay7 b) (k0_pay9 q) lk10) (k0_pay37 (k0_pay7 b) (k0_pay9 q) lk11) (k0_pay41 (k0_pay39 (k0_pay9 q) lk12) (k0_pay40 (k0_pay7 b))) (k0_pay43 (k0_pay7 b) (k0_pay9 q) lk13) (k0_pay45 (k0_pay7 b) (k0_pay9 q) lk14) (k0_pay47 (k0_pay7 b) (k0_pay9 q) lk15) (k0_pay48 (k0_pay8 (F := Ideal)) kn)) (k0_pay57 (k0_pay7 b) (k0_pay9 q) (k0_pay11 q b lk0) (k0_pay13 q b lk1) (k0_pay16 (k0_pay7 b) (k0_pay9 q) (k0_pay14 lk2)) (k0_pay18 (k0_pay7 b) (k0_pay9 q) lk3) (k0_pay20 (k0_pay7 b) (k0_pay9 q) lk4) (k0_pay24 (k0_pay22 (k0_pay7 b)) (k0_pay23 (k0_pay9 q) lk5)) (k0_pay26 (k0_pay7 b) (k0_pay9 q) lk6) (k0_pay28 (k0_pay7 b) (k0_pay9 q) lk7) (k0_pay30 (k0_pay7 b) (k0_pay9 q) lk8) (k0_pay33 (k0_pay7 b) (k0_pay9 q) (k0_pay31 lk9)) (k0_pay35 (k0_pay7 b) (k0_pay9 q) lk10) (k0_pay37 (k0_pay7 b) (k0_pay9 q) lk11) (k0_pay41 (k0_pay39 (k0_pay9 q) lk12) (k0_pay40 (k0_pay7 b))) (k0_pay43 (k0_pay7 b) (k0_pay9 q) lk13) (k0_pay45 (k0_pay7 b) (k0_pay9 q) lk14) (k0_pay47 (k0_pay7 b) (k0_pay9 q) lk15) (k0_pay48 (k0_pay8 (F := Ideal)) kn))) (k0_pay67 (k0_pay20 (k0_pay7 b) (k0_pay9 q) lk4) (k0_pay24 (k0_pay22 (k0_pay7 b)) (k0_pay23 (k0_pay9 q) lk5)) (k0_pay26 (k0_pay7 b) (k0_pay9 q) lk6) (k0_pay28 (k0_pay7 b) (k0_pay9 q) lk7) (k0_pay30 (k0_pay7 b) (k0_pay9 q) lk8) (k0_pay33 (k0_pay7 b) (k0_pay9 q) (k0_pay31 lk9)) (k0_pay35 (k0_pay7 b) (k0_pay9 q) lk10) (k0_pay51 (k0_pay7 b) (k0_pay9 q) (k0_pay11 q b lk0) (k0_pay13 q b lk1) (k0_pay16 (k0_pay7 b) (k0_pay9 q) (k0_pay14 lk2)) (k0_pay18 (k0_pay7 b) (k0_pay9 q) lk3) (k0_pay20 (k0_pay7 b) (k0_pay9 q) lk4) (k0_pay24 (k0_pay22 (k0_pay7 b)) (k0_pay23 (k0_pay9 q) lk5)) (k0_pay26 (k0_pay7 b) (k0_pay9 q) lk6) (k0_pay28 (k0_pay7 b) (k0_pay9 q) lk7) (k0_pay30 (k0_pay7 b) (k0_pay9 q) lk8) (k0_pay33 (k0_pay7 b) (k0_pay9 q) (k0_pay31 lk9)) (k0_pay35 (k0_pay7 b) (k0_pay9 q) lk10) (k0_pay37 (k0_pay7 b) (k0_pay9 q) lk11) (k0_pay41 (k0_pay39 (k0_pay9 q) lk12) (k0_pay40 (k0_pay7 b))) (k0_pay43 (k0_pay7 b) (k0_pay9 q) lk13) (k0_pay45 (k0_pay7 b) (k0_pay9 q) lk14) (k0_pay47 (k0_pay7 b) (k0_pay9 q) lk15) (k0_pay48 (k0_pay8 (F := Ideal)) kn)) (k0_pay55 (k0_pay7 b) (k0_pay9 q) (k0_pay11 q b lk0) (k0_pay13 q b lk1) (k0_pay16 (k0_pay7 b) (k0_pay9 q) (k0_pay14 lk2)) (k0_pay18 (k0_pay7 b) (k0_pay9 q) lk3) (k0_pay20 (k0_pay7 b) (k0_pay9 q) lk4) (k0_pay24 (k0_pay22 (k0_pay7 b)) (k0_pay23 (k0_pay9 q) lk5)) (k0_pay26 (k0_pay7 b) (k0_pay9 q) lk6) (k0_pay28 (k0_pay7 b) (k0_pay9 q) lk7) (k0_pay30 (k0_pay7 b) (k0_pay9 q) lk8) (k0_pay33 (k0_pay7 b) (k0_pay9 q) (k0_pay31 lk9)) (k0_pay35 (k0_pay7 b) (k0_pay9 q) lk10) (k0_pay37 (k0_pay7 b) (k0_pay9 q) lk11) (k0_pay41 (k0_pay39 (k0_pay9 q) lk12) (k0_pay40 (k0_pay7 b))) (k0_pay43 (k0_pay7 b) (k0_pay9 q) lk13) (k0_pay45 (k0_pay7 b) (k0_pay9 q) lk14) (k0_pay47 (k0_pay7 b) (k0_pay9 q) lk15) (k0_pay48 (k0_pay8 (F := Ideal)) kn)) (k0_pay57 (k0_pay7 b) (k0_pay9 q) (k0_pay11 q b lk0) (k0_pay13 q b lk1) (k0_pay16 (k0_pay7 b) (k0_pay9 q) (k0_pay14 lk2)) (k0_pay18 (k0_pay7 b) (k0_pay9 q) lk3) (k0_pay20 (k0_pay7 b) (k0_pay9 q) lk4) (k0_pay24 (k0_pay22 (k0_pay7 b)) (k0_pay23 (k0_pay9 q) lk5)) (k0_pay26 (k0_pay7 b) (k0_pay9 q) lk6) (k0_pay28 (k0_pay7 b) (k0_pay9 q) lk7) (k0_pay30 (k0_pay7 b) (k0_pay9 q) lk8) (k0_pay33 (k0_pay7 b) (k0_pay9 q) (k0_pay31 lk9)) (k0_pay35 (k0_pay7 b) (k0_pay9 q) lk10) (k0_pay37 (k0_pay7 b) (k0_pay9 q) lk11) (k0_pay41 (k0_pay39 (k0_pay9 q) lk12) (k0_pay40 (k0_pay7 b))) (k0_pay43 (k0_pay7 b) (k0_pay9 q) lk13) (k0_pay45 (k0_pay7 b) (k0_pay9 q) lk14) (k0_pay47 (k0_pay7 b) (k0_pay9 q) lk15) (k0_pay48 (k0_pay8 (F := Ideal)) kn))) (k0_pay68 (k0_pay35 (k0_pay7 b) (k0_pay9 q) lk10) (k0_pay51 (k0_pay7 b) (k0_pay9 q) (k0_pay11 q b lk0) (k0_pay13 q b lk1) (k0_pay16 (k0_pay7 b) (k0_pay9 q) (k0_pay14 lk2)) (k0_pay18 (k0_pay7 b) (k0_pay9 q) lk3) (k0_pay20 (k0_pay7 b) (k0_pay9 q) lk4) (k0_pay24 (k0_pay22 (k0_pay7 b)) (k0_pay23 (k0_pay9 q) lk5)) (k0_pay26 (k0_pay7 b) (k0_pay9 q) lk6) (k0_pay28 (k0_pay7 b) (k0_pay9 q) lk7) (k0_pay30 (k0_pay7 b) (k0_pay9 q) lk8) (k0_pay33 (k0_pay7 b) (k0_pay9 q) (k0_pay31 lk9)) (k0_pay35 (k0_pay7 b) (k0_pay9 q) lk10) (k0_pay37 (k0_pay7 b) (k0_pay9 q) lk11) (k0_pay41 (k0_pay39 (k0_pay9 q) lk12) (k0_pay40 (k0_pay7 b))) (k0_pay43 (k0_pay7 b) (k0_pay9 q) lk13) (k0_pay45 (k0_pay7 b) (k0_pay9 q) lk14) (k0_pay47 (k0_pay7 b) (k0_pay9 q) lk15) (k0_pay48 (k0_pay8 (F := Ideal)) kn))) (constant S32x128 .f32 0x00000000#32)
      = oFn (fun p => tileS (k0_pay9 (F := Ideal) q) (k0_pay7 b) (Kt p) p) Vt (mxf fun p => tileS (k0_pay9 (F := Ideal) q) (k0_pay7 b) (Kt p) p) :=
  o0_gen (k0_pay7 b) (k0_pay9 (F := Ideal) q) (k0_pay48 (k0_pay8 (F := Ideal)) kn) (fun p => tileS (k0_pay9 (F := Ideal) q) (k0_pay7 b) (Kt p) p) Vt ((s0_16 _ _ _).trans (congrArg (fun k => tileS (k0_pay9 (F := Ideal) q) (k0_pay7 b) k 16) hk16))
    _ _ _ _ _ _ _ _ _ _ _ _ _ _ _ _ _ _ _ _ _ _ _ _ _ _ _ _ _ _ _ _ _
    ((s0_0 _ _ _).trans (congrArg (fun k => tileS (k0_pay9 (F := Ideal) q) (k0_pay7 b) k 0) hk0)) ((s0_1 _ _ _).trans (congrArg (fun k => tileS (k0_pay9 (F := Ideal) q) (k0_pay7 b) k 1) hk1)) ((s0_2 _ _ _).trans (congrArg (fun k => tileS (k0_pay9 (F := Ideal) q) (k0_pay7 b) k 2) hk2)) ((s0_3 _ _ _).trans (congrArg (fun k => tileS (k0_pay9 (F := Ideal) q) (k0_pay7 b) k 3) hk3)) ((s0_4 _ _ _).trans (congrArg (fun k => tileS (k0_pay9 (F := Ideal) q) (k0_pay7 b) k 4) hk4)) ((s0_5 _ _ _).trans (congrArg (fun k => tileS (k0_pay9 (F := Ideal) q) (k0_pay7 b) k 5) hk5)) ((s0_6 _ _ _).trans (congrArg (fun k => tileS (k0_pay9 (F := Ideal) q) (k0_pay7 b) k 6) hk6)) ((s0_7 _ _ _).trans (congrArg (fun k => tileS (k0_pay9 (F := Ideal) q) (k0_pay7 b) k 7) hk7)) ((s0_8 _ _ _).trans (congrArg (fun k => tileS (k0_pay9 (F := Ideal) q) (k0_pay7 b) k 8) hk8)) ((s0_9 _ _ _).trans (congrArg (fun k => tileS (k0_pay9 (F := Ideal) q) (k0_pay7 b) k 9) hk9)) ((s0_10 _ _ _).trans (congrArg (fun k => tileS (k0_pay9 (F := Ideal) q) (k0_pay7 b) k 10) hk10)) ((s0_11 _ _ _).trans (congrArg (fun k => tileS (k0_pay9 (F := Ideal) q) (k0_pay7 b) k 11) hk11)) ((s0_12 _ _ _).trans (congrArg (fun k => tileS (k0_pay9 (F := Ideal) q) (k0_pay7 b) k 12) hk12)) ((s0_13 _ _ _).trans (congrArg (fun k => tileS (k0_pay9 (F := Ideal) q) (k0_pay7 b) k 13) hk13)) ((s0_14 _ _ _).trans (congrArg (fun k => tileS (k0_pay9 (F := Ideal) q) (k0_pay7 b) k 14) hk14)) ((s0_15 _ _ _).trans (congrArg (fun k => tileS (k0_pay9 (F := Ideal) q) (k0_pay7 b) k 15) hk15))
    ((v0_0 _).trans hv0) ((v0_1 _).trans hv1) ((v0_2 _).trans hv2) ((v0_3 _).trans hv3) ((v0_4 _).trans hv4) ((v0_5 _).trans hv5) ((v0_6 _).trans hv6) ((v0_7 _).trans hv7) ((v0_8 _).trans hv8) ((v0_9 _).trans hv9) ((v0_10 _).trans hv10) ((v0_11 _).trans hv11) ((v0_12 _).trans hv12) ((v0_13 _).trans hv13) ((v0_14 _).trans hv14) ((v0_15 _).trans hv15) hv16

theorem o1_gen (B : FVec Ideal S8x2176 .f32) (Q : FVec Ideal S32x128 .bf16) (K : FVec Ideal S128x128 .bf16) (z : FVec Ideal S120x128 .f32) (kn : FVec Ideal S1x8x128 .f32)
    (S : Fin 17 → FVec Ideal S32x128 .f32) (V : Fin 17 → FVec Ideal S128x128 .bf16) (h15 : k0_pay111 B Q K = S 15) (h16 : k0_pay113 B z Q kn = S 16)
    (a0 a1 a2 a3 a4 a5 a6 a7 a8 a9 a10 a11 a12 a13 a14 : FVec Ideal S32x128 .f32) (w0 w1 w2 w3 w4 w5 w6 w7 w8 w9 w10 w11 w12 w13 w14 w15 w16 : FVec Ideal S128x128 .bf16)
    (ha0 : a0 = S 0) (ha1 : a1 = S 1) (ha2 : a2 = S 2) (ha3 : a3 = S 3) (ha4 : a4 = S 4) (ha5 : a5 = S 5) (ha6 : a6 = S 6) (ha7 : a7 = S 7) (ha8 : a8 = S 8) (ha9 : a9 = S 9) (ha10 : a10 = S 10) (ha11 : a11 = S 11) (ha12 : a12 = S 12) (ha13 : a13 = S 13) (ha14 : a14 = S 14)
    (hw0 : w0 = V 0) (hw1 : w1 = V 1) (hw2 : w2 = V 2) (hw3 : w3 = V 3) (hw4 : w4 = V 4) (hw5 : w5 = V 5) (hw6 : w6 = V 6) (hw7 : w7 = V 7) (hw8 : w8 = V 8) (hw9 : w9 = V 9) (hw10 : w10 = V 10) (hw11 : w11 = V 11) (hw12 : w12 = V 12) (hw13 : w13 = V 13) (hw14 : w14 = V 14) (hw15 : w15 = V 15) (hw16 : w16 = V 16) :
    k0_pay1 (F := Ideal) w16 (k0_pay137 w9 a9 w10 a10 w11 a11 w12 a12 w13 a13 w14 a14 w15 (k0_pay111 B Q K) (k0_pay114 B z Q a0 a1 a2 a3 a4 a5 a6 a7 a8 a9 a10 a11 a12 a13 a14 K kn) (k0_pay128 w1 w2 a2 w3 a3 w4 a4 w5 a5 w6 a6 w7 a7 w8 a8 (k0_pay114 B z Q a0 a1 a2 a3 a4 a5 a6 a7 a8 a9 a10 a11 a12 a13 a14 K kn) (k0_pay116 B z Q w0 a0 a1 a2 a3 a4 a5 a6 a7 a8 a9 a10 a11 a12 a13 a14 K kn) (k0_pay119 B z Q a0 a1 a2 a3 a4 a5 a6 a7 a8 a9 a10 a11 a12 a13 a14 K kn)) (k0_pay129 (k0_pay114 B z Q a0 a1 a2 a3 a4 a5 a6 a7 a8 a9 a10 a11 a12 a13 a14 K kn))) (k0_pay139 a9 a10 a11 a12 a13 a14 (k0_pay111 B Q K) (k0_pay113 B z Q kn) (k0_pay114 B z Q a0 a1 a2 a3 a4 a5 a6 a7 a8 a9 a10 a11 a12 a13 a14 K kn) (k0_pay127 a2 a3 a4 a5 a6 a7 a8 (k0_pay114 B z Q a0 a1 a2 a3 a4 a5 a6 a7 a8 a9 a10 a11 a12 a13 a14 K kn) (k0_pay118 B z Q a0 a1 a2 a3 a4 a5 a6 a7 a8 a9 a10 a11 a12 a13 a14 K kn)) (k0_pay129 (k0_pay114 B z Q a0 a1 a2 a3 a4 a5 a6 a7 a8 a9 a10 a11 a12 a13 a14 K kn))) (k0_pay140 (k0_pay113 B z Q kn) (k0_pay114 B z Q a0 a1 a2 a3 a4 a5 a6 a7 a8 a9 a10 a11 a12 a13 a14 K kn))
      = oFn S V (mxf S) := by
  subst ha0 ha1 ha2 ha3 ha4 ha5 ha6 ha7 ha8 ha9 ha10 ha11 ha12 ha13 ha14 hw0 hw1 hw2 hw3 hw4 hw5 hw6 hw7 hw8 hw9 hw10 hw11 hw12 hw13 hw14 hw15 hw16
  exact o1_eq B Q K z kn S V h15 h16

theorem o1_final (q : FVec Ideal S1x8x1024 .bf16) (b : FVec Ideal S1x8x2176 .f32) (kn vn : FVec Ideal S1x8x128 .f32)
    (lk0 lk1 lk2 lk3 lk4 lk5 lk6 lk7 lk8 lk9 lk10 lk11 lk12 lk13 lk14 lk15 lv0 lv1 lv2 lv3 lv4 lv5 lv6 lv7 lv8 lv9 lv10 lv11 lv12 lv13 lv14 lv15 : FVec Ideal S1x128x128 .f32)
    (Kt Vt : Fin 17 → FVec Ideal S128x128 .bf16)
    (hk0 : sq lk0 = Kt 0) (hk1 : sq lk1 = Kt 1) (hk2 : sq lk2 = Kt 2) (hk3 : sq lk3 = Kt 3) (hk4 : sq lk4 = Kt 4) (hk5 : sq lk5 = Kt 5) (hk6 : sq lk6 = Kt 6) (hk7 : sq lk7 = Kt 7) (hk8 : sq lk8 = Kt 8) (hk9 : sq lk9 = Kt 9) (hk10 : sq lk10 = Kt 10) (hk11 : sq lk11 = Kt 11) (hk12 : sq lk12 = Kt 12) (hk13 : sq lk13 = Kt 13) (hk14 : sq lk14 = Kt 14) (hk15 : sq lk15 = Kt 15) (hk16 : k0_pay48 (F := Ideal) (k0_pay8 (F := Ideal)) kn = Kt 16)
    (hv0 : sq lv0 = Vt 0) (hv1 : sq lv1 = Vt 1) (hv2 : sq lv2 = Vt 2) (hv3 : sq lv3 = Vt 3) (hv4 : sq lv4 = Vt 4) (hv5 : sq lv5 = Vt 5) (hv6 : sq lv6 = Vt 6) (hv7 : sq lv7 = Vt 7) (hv8 : sq lv8 = Vt 8) (hv9 : sq lv9 = Vt 9) (hv10 : sq lv10 = Vt 10) (hv11 : sq lv11 = Vt 11) (hv12 : sq lv12 = Vt 12) (hv13 : sq lv13 = Vt 13) (hv14 : sq lv14 = Vt 14) (hv15 : sq lv15 = Vt 15) (hv16 : k0_pay112 (F := Ideal) (k0_pay8 (F := Ideal)) vn = Vt 16) :
    k0_pay1 (F := Ideal) (k0_pay112 (k0_pay8 (F := Ideal)) vn) (k0_pay137 (k0_pay97 lv9) (k0_pay98 (k0_pay7 b) (k0_pay75 (k0_pay6 q)) lk9) (k0_pay99 lv10) (k0_pay100 (k0_pay7 b) (k0_pay75 (k0_pay6 q)) lk10) (k0_pay101 lv11) (k0_pay102 (k0_pay7 b) (k0_pay75 (k0_pay6 q)) lk11) (k0_pay103 lv12) (k0_pay104 (k0_pay7 b) (k0_pay75 (k0_pay6 q)) lk12) (k0_pay105 lv13) (k0_pay106 (k0_pay7 b) (k0_pay75 (k0_pay6 q)) lk13) (k0_pay107 lv14) (k0_pay108 (k0_pay7 b) (k0_pay75 (k0_pay6 q)) lk14) (k0_pay110 lv15) (k0_pay111 (k0_pay7 b) (k0_pay75 (k0_pay6 q)) (k0_pay109 lk15)) (k0_pay114 (k0_pay7 b) (k0_pay8 (F := Ideal)) (k0_pay75 (k0_pay6 q)) (k0_pay77 (k0_pay6 q) (k0_pay7 b) lk0) (k0_pay80 (k0_pay7 b) (k0_pay75 (k0_pay6 q)) (k0_pay78 lk1)) (k0_pay82 (k0_pay7 b) (k0_pay75 (k0_pay6 q)) lk2) (k0_pay84 (k0_pay7 b) (k0_pay75 (k0_pay6 q)) lk3) (k0_pay86 (k0_pay7 b) (k0_pay75 (k0_pay6 q)) lk4) (k0_pay88 (k0_pay7 b) (k0_pay75 (k0_pay6 q)) lk5) (k0_pay90 (k0_pay7 b) (k0_pay75 (k0_pay6 q)) lk6) (k0_pay92 (k0_pay7 b) (k0_pay75 (k0_pay6 q)) lk7) (k0_pay96 (k0_pay7 b) (k0_pay75 (k0_pay6 q)) (k0_pay93 lk8)) (k0_pay98 (k0_pay7 b) (k0_pay75 (k0_pay6 q)) lk9) (k0_pay100 (k0_pay7 b) (k0_pay75 (k0_pay6 q)) lk10) (k0_pay102 (k0_pay7 b) (k0_pay75 (k0_pay6 q)) lk11) (k0_pay104 (k0_pay7 b) (k0_pay75 (k0_pay6 q)) lk12) (k0_pay106 (k0_pay7 b) (k0_pay75 (k0_pay6 q)) lk13) (k0_pay108 (k0_pay7 b) (k0_pay75 (k0_pay6 q)) lk14) (k0_pay109 lk15) kn) (k0_pay128 (k0_pay79 lv1) (k0_pay81 lv2) (k0_pay82 (k0_pay7 b) (k0_pay75 (k0_pay6 q)) lk2) (k0_pay83 lv3) (k0_pay84 (k0_pay7 b) (k0_pay75 (k0_pay6 q)) lk3) (k0_pay85 lv4) (k0_pay86 (k0_pay7 b) (k0_pay75 (k0_pay6 q)) lk4) (k0_pay87 lv5) (k0_pay88 (k0_pay7 b) (k0_pay75 (k0_pay6 q)) lk5) (k0_pay89 lv6) (k0_pay90 (k0_pay7 b) (k0_pay75 (k0_pay6 q)) lk6) (k0_pay91 lv7) (k0_pay92 (k0_pay7 b) (k0_pay75 (k0_pay6 q)) lk7) (k0_pay95 (k0_pay94 lv8)) (k0_pay96 (k0_pay7 b) (k0_pay75 (k0_pay6 q)) (k0_pay93 lk8)) (k0_pay114 (k0_pay7 b) (k0_pay8 (F := Ideal)) (k0_pay75 (k0_pay6 q)) (k0_pay77 (k0_pay6 q) (k0_pay7 b) lk0) (k0_pay80 (k0_pay7 b) (k0_pay75 (k0_pay6 q)) (k0_pay78 lk1)) (k0_pay82 (k0_pay7 b) (k0_pay75 (k0_pay6 q)) lk2) (k0_pay84 (k0_pay7 b) (k0_pay75 (k0_pay6 q)) lk3) (k0_pay86 (k0_pay7 b) (k0_pay75 (k0_pay6 q)) lk4) (k0_pay88 (k0_pay7 b) (k0_pay75 (k0_pay6 q)) lk5) (k0_pay90 (k0_pay7 b) (k0_pay75 (k0_pay6 q)) lk6) (k0_pay92 (k0_pay7 b) (k0_pay75 (k0_pay6 q)) lk7) (k0_pay96 (k0_pay7 b) (k0_pay75 (k0_pay6 q)) (k0_pay93 lk8)) (k0_pay98 (k0_pay7 b) (k0_pay75 (k0_pay6 q)) lk9) (k0_pay100 (k0_pay7 b) (k0_pay75 (k0_pay6 q)) lk10) (k0_pay102 (k0_pay7 b) (k0_pay75 (k0_pay6 q)) lk11) (k0_pay104 (k0_pay7 b) (k0_pay75 (k0_pay6 q)) lk12) (k0_pay106 (k0_pay7 b) (k0_pay75 (k0_pay6 q)) lk13) (k0_pay108 (k0_pay7 b) (k0_pay75 (k0_pay6 q)) lk14) (k0_pay109 lk15) kn) (k0_pay116 (k0_pay7 b) (k0_pay8 (F := Ideal)) (k0_pay75 (k0_pay6 q)) (k0_pay76 lv0) (k0_pay77 (k0_pay6 q) (k0_pay7 b) lk0) (k0_pay80 (k0_pay7 b) (k0_pay75 (k0_pay6 q)) (k0_pay78 lk1)) (k0_pay82 (k0_pay7 b) (k0_pay75 (k0_pay6 q)) lk2) (k0_pay84 (k0_pay7 b) (k0_pay75 (k0_pay6 q)) lk3) (k0_pay86 (k0_pay7 b) (k0_pay75 (k0_pay6 q)) lk4) (k0_pay88 (k0_pay7 b) (k0_pay75 (k0_pay6 q)) lk5) (k0_pay90 (k0_pay7 b) (k0_pay75 (k0_pay6 q)) lk6) (k0_pay92 (k0_pay7 b) (k0_pay75 (k0_pay6 q)) lk7) (k0_pay96 (k0_pay7 b) (k0_pay75 (k0_pay6 q)) (k0_pay93 lk8)) (k0_pay98 (k0_pay7 b) (k0_pay75 (k0_pay6 q)) lk9) (k0_pay100 (k0_pay7 b) (k0_pay75 (k0_pay6 q)) lk10) (k0_pay102 (k0_pay7 b) (k0_pay75 (k0_pay6 q)) lk11) (k0_pay104 (k0_pay7 b) (k0_pay75 (k0_pay6 q)) lk12) (k0_pay106 (k0_pay7 b) (k0_pay75 (k0_pay6 q)) lk13) (k0_pay108 (k0_pay7 b) (k0_pay75 (k0_pay6 q)) lk14) (k0_pay109 lk15) kn) (k0_pay119 (k0_pay7 b) (k0_pay8 (F := Ideal)) (k0_pay75 (k0_pay6 q)) (k0_pay77 (k0_pay6 q) (k0_pay7 b) lk0) (k0_pay80 (k0_pay7 b) (k0_pay75 (k0_pay6 q)) (k0_pay78 lk1)) (k0_pay82 (k0_pay7 b) (k0_pay75 (k0_pay6 q)) lk2) (k0_pay84 (k0_pay7 b) (k0_pay75 (k0_pay6 q)) lk3) (k0_pay86 (k0_pay7 b) (k0_pay75 (k0_pay6 q)) lk4) (k0_pay88 (k0_pay7 b) (k0_pay75 (k0_pay6 q)) lk5) (k0_pay90 (k0_pay7 b) (k0_pay75 (k0_pay6 q)) lk6) (k0_pay92 (k0_pay7 b) (k0_pay75 (k0_pay6 q)) lk7) (k0_pay96 (k0_pay7 b) (k0_pay75 (k0_pay6 q)) (k0_pay93 lk8)) (k0_pay98 (k0_pay7 b) (k0_pay75 (k0_pay6 q)) lk9) (k0_pay100 (k0_pay7 b) (k0_pay75 (k0_pay6 q)) lk10) (k0_pay102 (k0_pay7 b) (k0_pay75 (k0_pay6 q)) lk11) (k0_pay104 (k0_pay7 b) (k0_pay75 (k0_pay6 q)) lk12) (k0_pay106 (k0_pay7 b) (k0_pay75 (k0_pay6 q)) lk13) (k0_pay108 (k0_pay7 b) (k0_pay75 (k0_pay6 q)) lk14) (k0_pay109 lk15) kn)) (k0_pay129 (k0_pay114 (k0_pay7 b) (k0_pay8 (F := Ideal)) (k0_pay75 (k0_pay6 q)) (k0_pay77 (k0_pay6 q) (k0_pay7 b) lk0) (k0_pay80 (k0_pay7 b) (k0_pay75 (k0_pay6 q)) (k0_pay78 lk1)) (k0_pay82 (k0_pay7 b) (k0_pay75 (k0_pay6 q)) lk2) (k0_pay84 (k0_pay7 b) (k0_pay75 (k0_pay6 q)) lk3) (k0_pay86 (k0_pay7 b) (k0_pay75 (k0_pay6 q)) lk4) (k0_pay88 (k0_pay7 b) (k0_pay75 (k0_pay6 q)) lk5) (k0_pay90 (k0_pay7 b) (k0_pay75 (k0_pay6 q)) lk6) (k0_pay92 (k0_pay7 b) (k0_pay75 (k0_pay6 q)) lk7) (k0_pay96 (k0_pay7 b) (k0_pay75 (k0_pay6 q)) (k0_pay93 lk8)) (k0_pay98 (k0_pay7 b) (k0_pay75 (k0_pay6 q)) lk9) (k0_pay100 (k0_pay7 b) (k0_pay75 (k0_pay6 q)) lk10) (k0_pay102 (k0_pay7 b) (k0_pay75 (k0_pay6 q)) lk11) (k0_pay104 (k0_pay7 b) (k0_pay75 (k0_pay6 q)) lk12) (k0_pay106 (k0_pay7 b) (k0_pay75 (k0_pay6 q)) lk13) (k0_pay108 (k0_pay7 b) (k0_pay75 (k0_pay6 q)) lk14) (k0_pay109 lk15) kn))) (k0_pay139 (k0_pay98 (k0_pay7 b) (k0_pay75 (k0_pay6 q)) lk9) (k0_pay100 (k0_pay7 b) (k0_pay75 (k0_pay6 q)) lk10) (k0_pay102 (k0_pay7 b) (k0_pay75 (k0_pay6 q)) lk11) (k0_pay104 (k0_pay7 b) (k0_pay75 (k0_pay6 q)) lk12) (k0_pay106 (k0_pay7 b) (k0_pay75 (k0_pay6 q)) lk13) (k0_pay108 (k0_pay7 b) (k0_pay75 (k0_pay6 q)) lk14) (k0_pay111 (k0_pay7 b) (k0_pay75 (k0_pay6 q)) (k0_pay109 lk15)) (k0_pay113 (k0_pay7 b) (k0_pay8 (F := Ideal)) (k0_pay75 (k0_pay6 q)) kn) (k0_pay114 (k0_pay7 b) (k0_pay8 (F := Ideal)) (k0_pay75 (k0_pay6 q)) (k0_pay77 (k0_pay6 q) (k0_pay7 b) lk0) (k0_pay80 (k0_pay7 b) (k0_pay75 (k0_pay6 q)) (k0_pay78 lk1)) (k0_pay82 (k0_pay7 b) (k0_pay75 (k0_pay6 q)) lk2) (k0_pay84 (k0_pay7 b) (k0_pay75 (k0_pay6 q)) lk3) (k0_pay86 (k0_pay7 b) (k0_pay75 (k0_pay6 q)) lk4) (k0_pay88 (k0_pay7 b) (k0_pay75 (k0_pay6 q)) lk5) (k0_pay90 (k0_pay7 b) (k0_pay75 (k0_pay6 q)) lk6) (k0_pay92 (k0_pay7 b) (k0_pay75 (k0_pay6 q)) lk7) (k0_pay96 (k0_pay7 b) (k0_pay75 (k0_pay6 q)) (k0_pay93 lk8)) (k0_pay98 (k0_pay7 b) (k0_pay75 (k0_pay6 q)) lk9) (k0_pay100 (k0_pay7 b) (k0_pay75 (k0_pay6 q)) lk10) (k0_pay102 (k0_pay7 b) (k0_pay75 (k0_pay6 q)) lk11) (k0_pay104 (k0_pay7 b) (k0_pay75 (k0_pay6 q)) lk12) (k0_pay106 (k0_pay7 b) (k0_pay75 (k0_pay6 q)) lk13) (k0_pay108 (k0_pay7 b) (k0_pay75 (k0_pay6 q)) lk14) (k0_pay109 lk15) kn) (k0_pay127 (k0_pay82 (k0_pay7 b) (k0_pay75 (k0_pay6 q)) lk2) (k0_pay84 (k0_pay7 b) (k0_pay75 (k0_pay6 q)) lk3) (k0_pay86 (k0_pay7 b) (k0_pay75 (k0_pay6 q)) lk4) (k0_pay88 (k0_pay7 b) (k0_pay75 (k0_pay6 q)) lk5) (k0_pay90 (k0_pay7 b) (k0_pay75 (k0_pay6 q)) lk6) (k0_pay92 (k0_pay7 b) (k0_pay75 (k0_pay6 q)) lk7) (k0_pay96 (k0_pay7 b) (k0_pay75 (k0_pay6 q)) (k0_pay93 lk8)) (k0_pay114 (k0_pay7 b) (k0_pay8 (F := Ideal)) (k0_pay75 (k0_pay6 q)) (k0_pay77 (k0_pay6 q) (k0_pay7 b) lk0) (k0_pay80 (k0_pay7 b) (k0_pay75 (k0_pay6 q)) (k0_pay78 lk1)) (k0_pay82 (k0_pay7 b) (k0_pay75 (k0_pay6 q)) lk2) (k0_pay84 (k0_pay7 b) (k0_pay75 (k0_pay6 q)) lk3) (k0_pay86 (k0_pay7 b) (k0_pay75 (k0_pay6 q)) lk4) (k0_pay88 (k0_pay7 b) (k0_pay75 (k0_pay6 q)) lk5) (k0_pay90 (k0_pay7 b) (k0_pay75 (k0_pay6 q)) lk6) (k0_pay92 (k0_pay7 b) (k0_pay75 (k0_pay6 q)) lk7) (k0_pay96 (k0_pay7 b) (k0_pay75 (k0_pay6 q)) (k0_pay93 lk8)) (k0_pay98 (k0_pay7 b) (k0_pay75 (k0_pay6 q)) lk9) (k0_pay100 (k0_pay7 b) (k0_pay75 (k0_pay6 q)) lk10) (k0_pay102 (k0_pay7 b) (k0_pay75 (k0_pay6 q)) lk11) (k0_pay104 (k0_pay7 b) (k0_pay75 (k0_pay6 q)) lk12) (k0_pay106 (k0_pay7 b) (k0_pay75 (k0_pay6 q)) lk13) (k0_pay108 (k0_pay7 b) (k0_pay75 (k0_pay6 q)) lk14) (k0_pay109 lk15) kn) (k0_pay118 (k0_pay7 b) (k0_pay8 (F := Ideal)) (k0_pay75 (k0_pay6 q)) (k0_pay77 (k0_pay6 q) (k0_pay7 b) lk0) (k0_pay80 (k0_pay7 b) (k0_pay75 (k0_pay6 q)) (k0_pay78 lk1)) (k0_pay82 (k0_pay7 b) (k0_pay75 (k0_pay6 q)) lk2) (k0_pay84 (k0_pay7 b) (k0_pay75 (k0_pay6 q)) lk3) (k0_pay86 (k0_pay7 b) (k0_pay75 (k0_pay6 q)) lk4) (k0_pay88 (k0_pay7 b) (k0_pay75 (k0_pay6 q)) lk5) (k0_pay90 (k0_pay7 b) (k0_pay75 (k0_pay6 q)) lk6) (k0_pay92 (k0_pay7 b) (k0_pay75 (k0_pay6 q)) lk7) (k0_pay96 (k0_pay7 b) (k0_pay75 (k0_pay6 q)) (k0_pay93 lk8)) (k0_pay98 (k0_pay7 b) (k0_pay75 (k0_pay6 q)) lk9) (k0_pay100 (k0_pay7 b) (k0_pay75 (k0_pay6 q)) lk10) (k0_pay102 (k0_pay7 b) (k0_pay75 (k0_pay6 q)) lk11) (k0_pay104 (k0_pay7 b) (k0_pay75 (k0_pay6 q)) lk12) (k0_pay106 (k0_pay7 b) (k0_pay75 (k0_pay6 q)) lk13) (k0_pay108 (k0_pay7 b) (k0_pay75 (k0_pay6 q)) lk14) (k0_pay109 lk15) kn)) (k0_pay129 (k0_pay114 (k0_pay7 b) (k0_pay8 (F := Ideal)) (k0_pay75 (k0_pay6 q)) (k0_pay77 (k0_pay6 q) (k0_pay7 b) lk0) (k0_pay80 (k0_pay7 b) (k0_pay75 (k0_pay6 q)) (k0_pay78 lk1)) (k0_pay82 (k0_pay7 b) (k0_pay75 (k0_pay6 q)) lk2) (k0_pay84 (k0_pay7 b) (k0_pay75 (k0_pay6 q)) lk3) (k0_pay86 (k0_pay7 b) (k0_pay75 (k0_pay6 q)) lk4) (k0_pay88 (k0_pay7 b) (k0_pay75 (k0_pay6 q)) lk5) (k0_pay90 (k0_pay7 b) (k0_pay75 (k0_pay6 q)) lk6) (k0_pay92 (k0_pay7 b) (k0_pay75 (k0_pay6 q)) lk7) (k0_pay96 (k0_pay7 b) (k0_pay75 (k0_pay6 q)) (k0_pay93 lk8)) (k0_pay98 (k0_pay7 b) (k0_pay75 (k0_pay6 q)) lk9) (k0_pay100 (k0_pay7 b) (k0_pay75 (k0_pay6 q)) lk10) (k0_pay102 (k0_pay7 b) (k0_pay75 (k0_pay6 q)) lk11) (k0_pay104 (k0_pay7 b) (k0_pay75 (k0_pay6 q)) lk12) (k0_pay106 (k0_pay7 b) (k0_pay75 (k0_pay6 q)) lk13) (k0_pay108 (k0_pay7 b) (k0_pay75 (k0_pay6 q)) lk14) (k0_pay109 lk15) kn))) (k0_pay140 (k0_pay113 (k0_pay7 b) (k0_pay8 (F := Ideal)) (k0_pay75 (k0_pay6 q)) kn) (k0_pay114 (k0_pay7 b) (k0_pay8 (F := Ideal)) (k0_pay75 (k0_pay6 q)) (k0_pay77 (k0_pay6 q) (k0_pay7 b) lk0) (k0_pay80 (k0_pay7 b) (k0_pay75 (k0_pay6 q)) (k0_pay78 lk1)) (k0_pay82 (k0_pay7 b) (k0_pay75 (k0_pay6 q)) lk2) (k0_pay84 (k0_pay7 b) (k0_pay75 (k0_pay6 q)) lk3) (k0_pay86 (k0_pay7 b) (k0_pay75 (k0_pay6 q)) lk4) (k0_pay88 (k0_pay7 b) (k0_pay75 (k0_pay6 q)) lk5) (k0_pay90 (k0_pay7 b) (k0_pay75 (k0_pay6 q)) lk6) (k0_pay92 (k0_pay7 b) (k0_pay75 (k0_pay6 q)) lk7) (k0_pay96 (k0_pay7 b) (k0_pay75 (k0_pay6 q)) (k0_pay93 lk8)) (k0_pay98 (k0_pay7 b) (k0_pay75 (k0_pay6 q)) lk9) (k0_pay100 (k0_pay7 b) (k0_pay75 (k0_pay6 q)) lk10) (k0_pay102 (k0_pay7 b) (k0_pay75 (k0_pay6 q)) lk11) (k0_pay104 (k0_pay7 b) (k0_pay75 (k0_pay6 q)) lk12) (k0_pay106 (k0_pay7 b) (k0_pay75 (k0_pay6 q)) lk13) (k0_pay108 (k0_pay7 b) (k0_pay75 (k0_pay6 q)) lk14) (k0_pay109 lk15) kn))
      = oFn (fun p => tileS (k0_pay75 (F := Ideal) (k0_pay6 q)) (k0_pay7 b) (Kt p) p) Vt (mxf fun p => tileS (k0_pay75 (F := Ideal) (k0_pay6 q)) (k0_pay7 b) (Kt p) p) :=
  o1_gen (k0_pay7 b) (k0_pay75 (F := Ideal) (k0_pay6 q)) (k0_pay109 lk15) (k0_pay8 (F := Ideal)) kn (fun p => tileS (k0_pay75 (F := Ideal) (k0_pay6 q)) (k0_pay7 b) (Kt p) p) Vt ((s1_15 _ _ _).trans (congrArg (fun k => tileS (k0_pay75 (F := Ideal) (k0_pay6 q)) (k0_pay7 b) k 15) hk15)) ((s1_16 _ _ _ _).trans (congrArg (fun k => tileS (k0_pay75 (F := Ideal) (k0_pay6 q)) (k0_pay7 b) k 16) hk16))
    _ _ _ _ _ _ _ _ _ _ _ _ _ _ _ _ _ _ _ _ _ _ _ _ _ _ _ _ _ _ _ _
    ((s1_0 _ _ _).trans (congrArg (fun k => tileS (k0_pay75 (F := Ideal) (k0_pay6 q)) (k0_pay7 b) k 0) hk0)) ((s1_1 _ _ _).trans (congrArg (fun k => tileS (k0_pay75 (F := Ideal) (k0_pay6 q)) (k0_pay7 b) k 1) hk1)) ((s1_2 _ _ _).trans (congrArg (fun k => tileS (k0_pay75 (F := Ideal) (k0_pay6 q)) (k0_pay7 b) k 2) hk2)) ((s1_3 _ _ _).trans (congrArg (fun k => tileS (k0_pay75 (F := Ideal) (k0_pay6 q)) (k0_pay7 b) k 3) hk3)) ((s1_4 _ _ _).trans (congrArg (fun k => tileS (k0_pay75 (F := Ideal) (k0_pay6 q)) (k0_pay7 b) k 4) hk4)) ((s1_5 _ _ _).trans (congrArg (fun k => tileS (k0_pay75 (F := Ideal) (k0_pay6 q)) (k0_pay7 b) k 5) hk5)) ((s1_6 _ _ _).trans (congrArg (fun k => tileS (k0_pay75 (F := Ideal) (k0_pay6 q)) (k0_pay7 b) k 6) hk6)) ((s1_7 _ _ _).trans (congrArg (fun k => tileS (k0_pay75 (F := Ideal) (k0_pay6 q)) (k0_pay7 b) k 7) hk7)) ((s1_8 _ _ _).trans (congrArg (fun k => tileS (k0_pay75 (F := Ideal) (k0_pay6 q)) (k0_pay7 b) k 8) hk8)) ((s1_9 _ _ _).trans (congrArg (fun k => tileS (k0_pay75 (F := Ideal) (k0_pay6 q)) (k0_pay7 b) k 9) hk9)) ((s1_10 _ _ _).trans (congrArg (fun k => tileS (k0_pay75 (F := Ideal) (k0_pay6 q)) (k0_pay7 b) k 10) hk10)) ((s1_11 _ _ _).trans (congrArg (fun k => tileS (k0_pay75 (F := Ideal) (k0_pay6 q)) (k0_pay7 b) k 11) hk11)) ((s1_12 _ _ _).trans (congrArg (fun k => tileS (k0_pay75 (F := Ideal) (k0_pay6 q)) (k0_pay7 b) k 12) hk12)) ((s1_13 _ _ _).trans (congrArg (fun k => tileS (k0_pay75 (F := Ideal) (k0_pay6 q)) (k0_pay7 b) k 13) hk13)) ((s1_14 _ _ _).trans (congrArg (fun k => tileS (k0_pay75 (F := Ideal) (k0_pay6 q)) (k0_pay7 b) k 14) hk14))
    ((v1_0 _).trans hv0) ((v1_1 _).trans hv1) ((v1_2 _).trans hv2) ((v1_3 _).trans hv3) ((v1_4 _).trans hv4) ((v1_5 _).trans hv5) ((v1_6 _).trans hv6) ((v1_7 _).trans hv7) ((v1_8 _).trans hv8) ((v1_9 _).trans hv9) ((v1_10 _).trans hv10) ((v1_11 _).trans hv11) ((v1_12 _).trans hv12) ((v1_13 _).trans hv13) ((v1_14 _).trans hv14) ((v1_15 _).trans hv15) hv16

end Cert.KernelIdeal.Value

end
-- ==== Proof.AttnMath.lean ====
/- The weighted mean of a row of values, computed two ways: dividing the sum, and dividing the weights. -/
module

public import Idealize.ShloMosaic.Lib.Pointwise
public import Idealize.ShloMosaic.Lib.Pipeline.ValueKit.Acc

@[expose] public section

set_option maxRecDepth 16384

noncomputable section

namespace Cert.Attn

open Idealize.ShloMosaic

/-- The mean as 17 tiles of 128 columns give it: the weighted sum over the weights' sum. -/
def kOut (s v : ℕ → EReal) : EReal :=
  Ideal.div (∑ p : Fin 17, ∑ c : Fin 128, Ideal.exp (s (p * 128 + c) - ⨆ p : Fin 17, ⨆ c : Fin 128, s (p * 128 + c)) * v (p * 128 + c))
    (∑ c : Fin 128, ∑ p : Fin 17, Ideal.exp (s (p * 128 + c) - ⨆ p : Fin 17, ⨆ c : Fin 128, s (p * 128 + c)))

/-- The mean over the 2056 keys, each weight divided by the weights' sum. -/
def rOut (s v : ℕ → EReal) : EReal :=
  ∑ j : Fin 2056, v j * Ideal.div (Ideal.exp (s j - ⨆ k : Fin 2056, s k)) (∑ i : Fin 2056, Ideal.exp (s i - ⨆ k : Fin 2056, s k))

theorem sum_tiles (f : ℕ → EReal) (h : ∀ j, 2056 ≤ j → j < 2176 → f j = 0) :
    ∑ p : Fin 17, ∑ c : Fin 128, f (p * 128 + c) = ∑ j : Fin 2056, f j := by
  rw [Fin.sum_univ_univ_mul_add 17 128 f]
  rw [Fin.sum_univ_eq_sum_range (fun j => f j) (17 * 128), Fin.sum_univ_eq_sum_range (fun j => f j) 2056]
  symm
  refine Finset.sum_subset (fun j hj => ?_) fun j hj hn => ?_
  · simp only [Finset.mem_range] at *; omega
  · simp only [Finset.mem_range] at *; exact h j (by omega) (by omega)

theorem sup_tiles (s : ℕ → EReal) (h : ∀ j, 2056 ≤ j → j < 2176 → s j = ⊥) :
    (⨆ p : Fin 17, ⨆ c : Fin 128, s (p * 128 + c)) = ⨆ k : Fin 2056, s k := by
  apply le_antisymm
  · refine iSup_le fun p => iSup_le fun c => ?_
    by_cases hj : p.val * 128 + c.val < 2056
    · exact le_iSup (fun k : Fin 2056 => s k) ⟨p.val * 128 + c.val, hj⟩
    · rw [h _ (by omega) (by omega)]; exact bot_le
  · refine iSup_le fun k => ?_
    refine le_trans ?_ (le_iSup (fun p : Fin 17 => ⨆ c : Fin 128, s (p * 128 + c)) ⟨k.val / 128, by omega⟩)
    refine le_trans (le_of_eq ?_) (le_iSup (fun c : Fin 128 => s (k.val / 128 * 128 + c)) ⟨k.val % 128, by omega⟩)
    exact congrArg s (by show k.val = k.val / 128 * 128 + k.val % 128; omega)

theorem exp_sub (x M : EReal) (hx : x ≠ ⊤) (hM : M ≠ ⊤) (hb : M ≠ ⊥) :
    ∃ e : ℝ, 0 ≤ e ∧ Ideal.exp (x - M) = (e : EReal) ∧ (x ≠ ⊥ → 0 < e) := by
  induction x with
  | bot =>
    refine ⟨0, le_refl _, ?_, fun h => absurd rfl h⟩
    rw [EReal.bot_sub]; rfl
  | top => exact absurd rfl hx
  | coe x =>
    induction M with
    | bot => exact absurd rfl hb
    | top => exact absurd rfl hM
    | coe M =>
      refine ⟨Real.exp (x - M), (Real.exp_pos _).le, ?_, fun _ => Real.exp_pos _⟩
      rw [← EReal.coe_sub]; rfl

theorem sum_mul_real {ι : Type} (t : Finset ι) (f : ι → EReal) (c : ℝ) (hc : 0 ≤ c) :
    (∑ j ∈ t, f j) * (c : EReal) = ∑ j ∈ t, f j * (c : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

theorem coe_sum {ι : Type} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- The two are equal where the columns past the keys weigh nothing, no score is infinite above and some key is selected. -/
theorem kOut_eq (s v : ℕ → EReal) (hpad : ∀ j, 2056 ≤ j → j < 2176 → s j = ⊥) (htop : ∀ j, j < 2056 → s j ≠ ⊤)
    (hsel : ∃ j, j < 2056 ∧ s j ≠ ⊥) : kOut s v = rOut s v := by
  unfold kOut rOut
  rw [sup_tiles s hpad]
  obtain ⟨j0, h0, hj0⟩ := hsel
  have hM1 : (⨆ k : Fin 2056, s k) ≠ ⊤ := by
    obtain ⟨k, hk⟩ := exists_eq_ciSup_of_finite (f := fun k : Fin 2056 => s k)
    rw [← hk]; exact htop k k.isLt
  have hM2 : (⨆ k : Fin 2056, s k) ≠ ⊥ := by
    intro h
    exact hj0 (le_bot_iff.mp (h ▸ le_iSup (fun k : Fin 2056 => s k) ⟨j0, h0⟩))
  generalize (⨆ k : Fin 2056, s k) = M at hM1 hM2
  choose e he0 he hep using fun j : Fin 2056 => exp_sub (s j) M (htop j j.isLt) hM1 hM2
  have hz : ∀ j, 2056 ≤ j → j < 2176 → Ideal.exp (s j - M) = 0 := fun j h1 h2 => by
    rw [hpad j h1 h2, EReal.bot_sub]; rfl
  rw [sum_tiles (fun j => Ideal.exp (s j - M) * v j) (fun j h1 h2 => by rw [hz j h1 h2, zero_mul]),
    Finset.sum_comm, sum_tiles (fun j => Ideal.exp (s j - M)) hz]
  have hL : ∑ i : Fin 2056, Ideal.exp (s i - M) = ((∑ i : Fin 2056, e i : ℝ) : EReal) := by
    rw [coe_sum]; exact Finset.sum_congr rfl fun j _ => he j
  have hLp : 0 < ∑ i : Fin 2056, e i :=
    Finset.sum_pos' (fun j _ => he0 j) ⟨⟨j0, h0⟩, Finset.mem_univ _, hep ⟨j0, h0⟩ hj0⟩
  rw [hL]
  have hdiv (x : EReal) : Ideal.div x ((∑ i : Fin 2056, e i : ℝ) : EReal) = x * (((∑ i : Fin 2056, e i)⁻¹ : ℝ) : EReal) := by
    unfold Ideal.div
    rw [if_neg (by rw [← EReal.coe_zero, EReal.coe_eq_coe_iff]; exact hLp.ne'), EReal.coe_inv]
  rw [hdiv, sum_mul_real _ _ _ (inv_nonneg.mpr hLp.le)]
  refine Finset.sum_congr rfl fun j _ => ?_
  rw [hdiv, mul_right_comm, mul_comm]

end Cert.Attn

end
-- ==== Proof.AttnHead.lean ====
/- The sample attention, one key-value head: the kernel's weighted mean as a function of the queries, the keys and the values. -/
module

public import proofs.«01_k».proof.Proof.AttnMean
public import proofs.«01_k».proof.Proof.AttnMath

@[expose] public section

set_option maxRecDepth 16384

noncomputable section

namespace Cert.KernelIdeal.Value

open Cert.KernelIdeal Cert.KernelIdeal.Gen Idealize.ShloMosaic Idealize.ShloMosaic.TcCoe Idealize.SL.Sem
open Cert.Attn

/-- A page of the cache: its rows alternate between the two heads. -/
def pageAt (cache : FVec Ideal S1x2560x128x2x128 .f32) (p : Fin 2560) (x : Fin 256) (d : Fin 128) : EReal :=
  cache (ix5 (0 : Fin 1) p (⟨x.val / 2, by have := x.isLt; omega⟩ : Fin 128) (⟨x.val % 2, by omega⟩ : Fin 2) d)

/-- The page a row of the batch has its `k`-th block of keys on. -/
def pageOf (pg : Vec Ideal S128x16 .i32) (b : Fin 128) (k : Fin 16) : Fin 2560 := ⟨(pg (ix2 b k)).toNat % 2560, Nat.mod_lt _ (by decide)⟩

/-- The `j`-th key (or value) of a row of the batch: from its pages, then from the new ones, then nothing. -/
def keyAt (pg : Vec Ideal S128x16 .i32) (new : FVec Ideal S128x8x256 .f32) (cache : FVec Ideal S1x2560x128x2x128 .f32)
    (b : Fin 128) (g : Fin 2) (d : Fin 128) (j : ℕ) : EReal :=
  if h : j < 2048 then cache (ix5 (0 : Fin 1) (pageOf pg b ⟨j / 128, by omega⟩) (⟨j % 128, by omega⟩ : Fin 128) g d)
  else if h' : j < 2056 then new (ix3 b (⟨j - 2048, by omega⟩ : Fin 8) (⟨g.val * 128 + d.val, by have := g.isLt; have := d.isLt; omega⟩ : Fin 256))
  else 0

/-- The score of a query against the `j`-th key. -/
def score (q : FVec Ideal S128x8x1024 .bf16) (bias : FVec Ideal S128x8x2176 .f32) (key : Fin 128 → ℕ → EReal)
    (b : Fin 128) (t : Fin 8) (hh : Fin 8) (j : ℕ) : EReal :=
  if h : j < 2176 then (∑ d : Fin 128, q (ix3 b t (⟨hh.val * 128 + d.val, by have := hh.isLt; have := d.isLt; omega⟩ : Fin 1024)) * key d j)
      + bias (ix3 b t (⟨j, h⟩ : Fin 2176))
  else ⊥

theorem mxf_at (S : Fin 17 → FVec Ideal S32x128 .f32) (r : Fin 32) : mxf S (ix2 r (0 : Fin 1)) = ⨆ p : Fin 17, ⨆ c : Fin 128, S p (ix2 r c) := by
  unfold mxf
  pointwise []
  have hb : Ideal.ofBits .f32 4286578688#32 = ⊥ := by simp [Ideal.ofBits, Ideal.ieee]
  rw [hb]
  apply le_antisymm
  · rw [Finset.fold_max_le]
    refine ⟨bot_le, fun c _ => ?_⟩
    have h (p : Fin 17) : S p (ix2 r c) ≤ ⨆ p : Fin 17, ⨆ c : Fin 128, S p (ix2 r c) :=
      le_trans (le_iSup (fun c : Fin 128 => S p (ix2 r c)) c) (le_iSup (fun p : Fin 17 => ⨆ c : Fin 128, S p (ix2 r c)) p)
    simp only [max_le_iff, h, and_self]
  · refine iSup_le fun p => iSup_le fun c => ?_
    rw [Finset.le_fold_max]
    refine Or.inr ⟨c, Finset.mem_univ _, ?_⟩
    fin_cases p <;> simp only [le_max_iff] <;> simp

theorem pay9_at (q : FVec Ideal S1x8x1024 .bf16) (r : Fin 32) (d : Fin 128) : k0_pay9 (F := Ideal) q (ix2 r d)
    = q (ix3 (0 : Fin 1) (⟨r.val % 8, by omega⟩ : Fin 8) (⟨r.val / 8 * 128 + d.val, by have := r.isLt; have := d.isLt; omega⟩ : Fin 1024)) := by
  pointwise [k0_pay9, k0_pay6]
  have e (k n : ℕ) (h : k < 8) (h' : n < 1024) (hk : k = r.val % 8) (hn : n = r.val / 8 * 128 + d.val) : q (ix3 (0 : Fin 1) (⟨k, h⟩ : Fin 8) (⟨n, h'⟩ : Fin 1024))
      = q (ix3 (0 : Fin 1) (⟨r.val % 8, by omega⟩ : Fin 8) (⟨r.val / 8 * 128 + d.val, by have := r.isLt; have := d.isLt; omega⟩ : Fin 1024)) := by
    subst hk hn; rfl
  have hr := r.isLt
  split
  · exact e _ _ _ _ (by omega) (by omega)
  split
  · exact e _ _ _ _ (by omega) (by omega)
  split
  · exact e _ _ _ _ (by omega) (by omega)
  · exact e _ _ _ _ (by omega) (by omega)

theorem pay75_at (q : FVec Ideal S1x8x1024 .bf16) (r : Fin 32) (d : Fin 128) : k0_pay75 (F := Ideal) (k0_pay6 q) (ix2 r d)
    = q (ix3 (0 : Fin 1) (⟨r.val % 8, by omega⟩ : Fin 8) (⟨512 + r.val / 8 * 128 + d.val, by have := r.isLt; have := d.isLt; omega⟩ : Fin 1024)) := by
  pointwise [k0_pay75, k0_pay6]
  have e (k n : ℕ) (h : k < 8) (h' : n < 1024) (hk : k = r.val % 8) (hn : n = 512 + r.val / 8 * 128 + d.val) : q (ix3 (0 : Fin 1) (⟨k, h⟩ : Fin 8) (⟨n, h'⟩ : Fin 1024))
      = q (ix3 (0 : Fin 1) (⟨r.val % 8, by omega⟩ : Fin 8) (⟨512 + r.val / 8 * 128 + d.val, by have := r.isLt; have := d.isLt; omega⟩ : Fin 1024)) := by
    subst hk hn; rfl
  have hr := r.isLt
  split
  · exact e _ _ _ _ (by omega) (by omega)
  split
  · exact e _ _ _ _ (by omega) (by omega)
  split
  · exact e _ _ _ _ (by omega) (by omega)
  · exact e _ _ _ _ (by omega) (by omega)

theorem pay7_at (x : FVec Ideal S1x8x2176 .f32) (t : Fin 8) (j : Fin 2176) : k0_pay7 (F := Ideal) x (ix2 t j) = x (ix3 (0 : Fin 1) t j) := by
  pointwise! [k0_pay7]

theorem pay48_at (x : FVec Ideal S1x8x128 .f32) (y : S128x128.Idx) : k0_pay48 (F := Ideal) (k0_pay8 (F := Ideal)) x y
    = if h : (y 0).val < 8 then x (ix3 (0 : Fin 1) ⟨(y 0).val, h⟩ (y 1)) else 0 := by
  idx_vars y
  pointwise! [k0_pay48, k0_pay8]

theorem pay49_at (x : FVec Ideal S1x8x128 .f32) (y : S128x128.Idx) : k0_pay49 (F := Ideal) (k0_pay8 (F := Ideal)) x y
    = if h : (y 0).val < 8 then x (ix3 (0 : Fin 1) ⟨(y 0).val, h⟩ (y 1)) else 0 := by
  idx_vars y
  pointwise! [k0_pay49, k0_pay8]

theorem pay112_at (x : FVec Ideal S1x8x128 .f32) (y : S128x128.Idx) : k0_pay112 (F := Ideal) (k0_pay8 (F := Ideal)) x y
    = if h : (y 0).val < 8 then x (ix3 (0 : Fin 1) ⟨(y 0).val, h⟩ (y 1)) else 0 := by
  idx_vars y
  pointwise! [k0_pay112, k0_pay8]

/-- A row of the weighted mean, from the row's scores and the values' column. -/
theorem oFn_at (Q : FVec Ideal S32x128 .bf16) (B : FVec Ideal S8x2176 .f32) (Kt Vt : Fin 17 → FVec Ideal S128x128 .bf16) (r : Fin 32) (e : Fin 128)
    (s v : ℕ → EReal) (hs : ∀ (p : Fin 17) (c : Fin 128), tileS Q B (Kt p) p (ix2 r c) = s (p * 128 + c))
    (hv : ∀ (p : Fin 17) (c : Fin 128), Vt p (ix2 c e) = v (p * 128 + c)) :
    oFn (fun p => tileS Q B (Kt p) p) Vt (mxf fun p => tileS Q B (Kt p) p) (ix2 r e) = kOut s v := by
  show Ideal.div (∑ p : Fin 17, ∑ c : Fin 128, Ideal.exp (tileS Q B (Kt p) p (ix2 r c) - mxf (fun p => tileS Q B (Kt p) p) (ix2 r (0 : Fin 1))) * Vt p (ix2 c e))
    (∑ c : Fin 128, ∑ p : Fin 17, Ideal.exp (tileS Q B (Kt p) p (ix2 r c) - mxf (fun p => tileS Q B (Kt p) p) (ix2 r (0 : Fin 1)))) = _
  rw [mxf_at]
  simp only [hs, hv]
  rfl

/-- The tiles' keys (or values) of one head: 128 of the row's keys each. -/
def tiles (pg : Vec Ideal S128x16 .i32) (new : FVec Ideal S128x8x256 .f32) (cache : FVec Ideal S1x2560x128x2x128 .f32)
    (b : Fin 128) (g : Fin 2) (p : Fin 17) : FVec Ideal S128x128 .bf16 :=
  fun y => keyAt pg new cache b g (y 1) (p.val * 128 + (y 0).val)

theorem score_at (Qa : FVec Ideal S128x8x1024 .bf16) (Ba : FVec Ideal S128x8x2176 .f32) (pg : Vec Ideal S128x16 .i32) (new : FVec Ideal S128x8x256 .f32)
    (cache : FVec Ideal S1x2560x128x2x128 .f32) (b : Fin 128) (g : Fin 2) (Q : FVec Ideal S32x128 .bf16) (x : FVec Ideal S1x8x2176 .f32)
    (hb : ∀ y, x y = Ba (ix3 b (y 1) (y 2))) (r : Fin 32) (t : Fin 8) (hh : Fin 8) (ht : t.val = r.val % 8)
    (hq : ∀ d : Fin 128, Q (ix2 r d) = Qa (ix3 b t (⟨hh.val * 128 + d.val, by have := hh.isLt; have := d.isLt; omega⟩ : Fin 1024)))
    (p : Fin 17) (c : Fin 128) :
    tileS Q (k0_pay7 x) (tiles pg new cache b g p) p (ix2 r c) = score Qa Ba (keyAt pg new cache b g) b t hh (p * 128 + c) := by
  have hj : p.val * 128 + c.val < 2176 := by have := p.isLt; have := c.isLt; omega
  unfold score
  rw [dif_pos hj]
  show ((∑ d : Fin 128, Q (ix2 r d) * keyAt pg new cache b g d (p.val * 128 + c.val))
    + (k0_pay7 (F := Ideal) x (ix2 (⟨r.val % 8, Nat.mod_lt _ (by decide)⟩ : Fin 8) (⟨p.val * 128 + c.val, hj⟩ : Fin 2176)) : EReal) : EReal) = _
  rw [pay7_at, hb]
  simp only [hq]
  obtain rfl : t = ⟨r.val % 8, Nat.mod_lt _ (by decide)⟩ := Fin.ext ht
  rfl

/-- Rows of a page, of one head: a tile of keys. -/
theorem load_eq (pg : Vec Ideal S128x16 .i32) (new : FVec Ideal S128x8x256 .f32) (cache : FVec Ideal S1x2560x128x2x128 .f32) (b : Fin 128) (g : Fin 2)
    (X : FVec Ideal S1x256x128 .f32) (P : ℕ) (hP : P < 16) (hX : ∀ y, X y = pageAt cache (pageOf pg b ⟨P, hP⟩) (y 1) (y 2))
    (f : FVec Ideal S1x128x128 .f32) (z : S1x128x128.Idx → S1x256x128.Idx) (hf : ∀ y, f y = X (z y))
    (h1 : ∀ y, (z y 1).val = g.val + 2 * (y 1).val) (h2 : ∀ y, (z y 2).val = (y 2).val) :
    sq f = tiles pg new cache b g ⟨P, by omega⟩ := by
  funext y
  unfold sq tiles keyAt
  have hy : (y 0).val < 128 := (y 0).isLt
  have hg := g.isLt
  rw [dif_pos (show P * 128 + (y 0).val < 2048 by omega), hf, hX]
  unfold pageAt
  have e1 := h1 (ix3 0 (y 0) (y 1))
  have e2 := h2 (ix3 0 (y 0) (y 1))
  have e1' : (z (ix3 0 (y 0) (y 1)) 1).val = g.val + 2 * (y 0).val := e1
  have e2' : (z (ix3 0 (y 0) (y 1)) 2).val = (y 1).val := e2
  have k3 : (⟨(z (ix3 0 (y 0) (y 1)) 1).val / 2, by omega⟩ : Fin 128) = ⟨(P * 128 + (y 0).val) % 128, by omega⟩ := Fin.ext (by show (z (ix3 0 (y 0) (y 1)) 1).val / 2 = (P * 128 + (y 0).val) % 128; omega)
  have k4 : (⟨(z (ix3 0 (y 0) (y 1)) 1).val % 2, by omega⟩ : Fin 2) = g := Fin.ext (by show (z (ix3 0 (y 0) (y 1)) 1).val % 2 = g.val; omega)
  have k2 : (⟨(P * 128 + (y 0).val) / 128, by omega⟩ : Fin 16) = ⟨P, hP⟩ := Fin.ext (by show (P * 128 + (y 0).val) / 128 = P; omega)
  rw [k3, k4, k2, show z (ix3 0 (y 0) (y 1)) 2 = y 1 from Fin.ext e2']

/-- The new keys (or values) of one head, then nothing: the last tile. -/
theorem new_eq (pg : Vec Ideal S128x16 .i32) (new : FVec Ideal S128x8x256 .f32) (cache : FVec Ideal S1x2560x128x2x128 .f32) (b : Fin 128) (g : Fin 2)
    (X : FVec Ideal S1x8x256 .f32) (hX : ∀ y, X y = new (ix3 b (y 1) (y 2)))
    (f : FVec Ideal S1x8x128 .f32) (z : S1x8x128.Idx → S1x8x256.Idx) (hf : ∀ y, f y = X (z y))
    (h1 : ∀ y, (z y 1).val = (y 1).val) (h2 : ∀ y, (z y 2).val = g.val * 128 + (y 2).val)
    (T : FVec Ideal S128x128 .bf16) (hT : ∀ y, T y = if h : (y 0).val < 8 then f (ix3 (0 : Fin 1) ⟨(y 0).val, h⟩ (y 1)) else 0) :
    T = tiles pg new cache b g 16 := by
  funext y
  rw [hT]
  unfold tiles keyAt
  have hy : (y 0).val < 128 := (y 0).isLt
  rw [dif_neg (show ¬ (16 : Fin 17).val * 128 + (y 0).val < 2048 by show ¬ 16 * 128 + (y 0).val < 2048; omega)]
  by_cases h : (y 0).val < 8
  · rw [dif_pos h, dif_pos (show (16 : Fin 17).val * 128 + (y 0).val < 2056 by show 16 * 128 + (y 0).val < 2056; omega), hf, hX]
    have e1 : (z (ix3 0 ⟨(y 0).val, h⟩ (y 1)) 1).val = (y 0).val := h1 _
    have e2 : (z (ix3 0 ⟨(y 0).val, h⟩ (y 1)) 2).val = g.val * 128 + (y 1).val := h2 _
    refine congrArg new ?_
    rw [show z (ix3 0 ⟨(y 0).val, h⟩ (y 1)) 1 = (⟨(16 : Fin 17).val * 128 + (y 0).val - 2048, by show 16 * 128 + (y 0).val - 2048 < 8; omega⟩ : Fin 8) from
        Fin.ext (by rw [e1]; show _ = 16 * 128 + (y 0).val - 2048; omega),
      show z (ix3 0 ⟨(y 0).val, h⟩ (y 1)) 2 = (⟨g.val * 128 + (y 1).val, by have := g.isLt; have h' : (y 1).val < 128 := (y 1).isLt; omega⟩ : Fin 256) from Fin.ext e2]
  · rw [dif_neg h, dif_neg (show ¬ (16 : Fin 17).val * 128 + (y 0).val < 2056 by show ¬ 16 * 128 + (y 0).val < 2056; omega)]

end Cert.KernelIdeal.Value

end
-- ==== Proof.AttnIdx.lean ====
/- The sample attention's blocks: the queries', the bias', the new keys' and the pages'. -/
module

public import proofs.«01_k».proof.Proof.AttnFrameI
public import proofs.«01_k».proof.Proof.AttnOkI
public import proofs.«01_k».proof.Proof.AttnHead
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.KernelIdeal.Own Idealize.ShloMosaic Idealize.ShloMosaic.TcCoe Idealize.SL.Sem
open Idealize.ShloMosaic.Pipeline (Dat)

variable (m : (ℓ : Loc nD τ sig) → Buf (Elt Ideal) ℓ) (hO : Ok m)

theorem pt_lt (t : Fin (cfgM m hO).N) : t.val < 128 := lt_of_lt_of_eq t.isLt N_0

/-- The row of the batch a point works on. -/
def row (t : Fin (cfgM m hO).N) : Fin 128 := ⟨t.val, pt_lt m hO t⟩

theorem idx : ∀ t : Fin grid0.N, cc0_transform_0 (grid0.coords t) = ![t.val, 0, 0] ∧ cc0_transform_1 (grid0.coords t) = ![t.val, 0, 0]
   ∧ cc0_transform_2 (grid0.coords t) = ![t.val, 0, 0] ∧ cc0_transform_3 (grid0.coords t) = ![t.val, 0, 0]  := by decide +kernel

theorem word (t : Fin (cfgM m hO).N) : (BitVec.ofNat 32 ((grid0.coords t) 0).val).toNat = t.val := by
  have h : ∀ t : Fin grid0.N, (BitVec.ofNat 32 ((grid0.coords t) 0).val).toNat = t.val := by decide +kernel
  exact h t

theorem at_eq (pf : pre0.Contents (Elt Ideal)) (a k : ℕ) (ha : a < 128) (hk : k < 16)
    (hin : ∀ i, (![a, k] : Fin 2 → Nat) i + S1x1.size i ≤ S128x16.size i) (hn : S1x1.numel = 1) :
    pf.at 0 (Rect.unit (s := S128x16) ![a, k] S1x1.size hin) hn = pf 0 (ix2 (⟨a, ha⟩ : Fin 128) (⟨k, hk⟩ : Fin 16)) := by
  unfold Pipeline.Prefetch.Contents.at
  exact congrArg (pf 0) (funext fun i => Fin.ext (match i with
    | ⟨0, _⟩ => rfl
    | ⟨1, _⟩ => rfl))

theorem zero_block {n : ℕ} (h : n = 0) (s x : ℕ) : n * s + x = x := by rw [h]; omega

/-- The page a row's `p`-th block of 128 keys lies on. -/
theorem page_at (t : Fin (cfgM m hO).N) (k : ℕ) (hk : k < 16) (a : ℕ) (ha : a = t.val) (hin : ∀ i, (![a, k] : Fin 2 → Nat) i + S1x1.size i ≤ S128x16.size i) (hn : S1x1.numel = 1) :
    (tbl m).at 0 (Rect.unit (s := S128x16) ![a, k] S1x1.size hin) hn = (m ((0 : Dev nD).tc.loc main_arg0) : Vec Ideal S128x16 .i32) (ix2 (row m hO t) (⟨k, hk⟩ : Fin 16)) := by
  subst ha
  rw [at_eq (tbl m) _ k (pt_lt m hO t) hk, tbl_eq]
  rfl

theorem iblk0 (c : Dev nD) (t : Fin (cfgM m hO).N) (y : S1x8x1024.Idx) : (iblk m hO c 0 t : FVec Ideal S1x8x1024 .bf16) y
    = (m ((c : Thread nD τ).loc main_arg1) : FVec Ideal S128x8x1024 .bf16) (ix3 (row m hO t) (y 1) (y 2)) := by
  have e : (pcfg0.win (adm m hO) 0).index t = ![t.val, 0, 0] := (idx t).1
  unfold row
  blk_point [iblk, V]
  · exact congrFun e 0
  · exact zero_block (congrFun e 1) _ _
  · exact zero_block (congrFun e 2) _ _

theorem iblk1 (c : Dev nD) (t : Fin (cfgM m hO).N) (y : S1x8x2176.Idx) : (iblk m hO c 1 t : FVec Ideal S1x8x2176 .f32) y
    = (m ((c : Thread nD τ).loc main_arg2) : FVec Ideal S128x8x2176 .f32) (ix3 (row m hO t) (y 1) (y 2)) := by
  have e : (pcfg0.win (adm m hO) 1).index t = ![t.val, 0, 0] := (idx t).2.1
  unfold row
  blk_point [iblk, V]
  · exact congrFun e 0
  · exact zero_block (congrFun e 1) _ _
  · exact zero_block (congrFun e 2) _ _

theorem iblk2 (c : Dev nD) (t : Fin (cfgM m hO).N) (y : S1x8x256.Idx) : (iblk m hO c 2 t : FVec Ideal S1x8x256 .f32) y
    = (m ((c : Thread nD τ).loc main_arg3) : FVec Ideal S128x8x256 .f32) (ix3 (row m hO t) (y 1) (y 2)) := by
  have e : (pcfg0.win (adm m hO) 2).index t = ![t.val, 0, 0] := (idx t).2.2.1
  unfold row
  blk_point [iblk, V]
  · exact congrFun e 0
  · exact zero_block (congrFun e 1) _ _
  · exact zero_block (congrFun e 2) _ _

theorem iblk3 (c : Dev nD) (t : Fin (cfgM m hO).N) (y : S1x8x256.Idx) : (iblk m hO c 3 t : FVec Ideal S1x8x256 .f32) y
    = (m ((c : Thread nD τ).loc main_arg4) : FVec Ideal S128x8x256 .f32) (ix3 (row m hO t) (y 1) (y 2)) := by
  have e : (pcfg0.win (adm m hO) 3).index t = ![t.val, 0, 0] := (idx t).2.2.2
  unfold row
  blk_point [iblk, V]
  · exact congrFun e 0
  · exact zero_block (congrFun e 1) _ _
  · exact zero_block (congrFun e 2) _ _

theorem flat_eq (x : FVec Ideal S1x2560x128x2x128 .f32) : shapeCast S2560x256x128 (shapeCast S2560x128x2x128 x shapeCasts_S1x2560x128x2x128_S2560x128x2x128) shapeCasts_S2560x128x2x128_S2560x256x128
    = fun y => pageAt x (y 0) (y 1) (y 2) := by
  funext y
  have h1 : (y 1).val < 256 := (y 1).isLt
  refine (shapeCast_apply _ shapeCasts_S2560x128x2x128_S2560x256x128 y (ix4 (y 0) (⟨(y 1).val / 2, by omega⟩ : Fin 128) (⟨(y 1).val % 2, by omega⟩ : Fin 2) (y 2)) ?_).trans
    (shapeCast_apply x shapeCasts_S1x2560x128x2x128_S2560x128x2x128 _ (ix5 (0 : Fin 1) (y 0) (⟨(y 1).val / 2, by omega⟩ : Fin 128) (⟨(y 1).val % 2, by omega⟩ : Fin 2) (y 2)) ?_)
  · rewrite [Shape.rowMajor_val_four, Shape.rowMajor_val_three]
    show (((y 0).val * 128 + (y 1).val / 2) * 2 + (y 1).val % 2) * 128 + (y 2).val = ((y 0).val * 256 + (y 1).val) * 128 + (y 2).val
    omega
  · rewrite [Shape.rowMajor_val_five, Shape.rowMajor_val_four]
    show ((((0 * 2560 + (y 0).val) * 128 + (y 1).val / 2) * 2 + (y 1).val % 2) * 128 + (y 2).val) = (((y 0).val * 128 + (y 1).val / 2) * 2 + (y 1).val % 2) * 128 + (y 2).val
    omega

/-- The cache's keys as the call reads them. -/
theorem V1 (c : Dev nD) : (V m c main_v1 : FVec Ideal S2560x256x128 .f32) = fun y => pageAt (m ((c : Thread nD τ).loc main_arg5)) (y 0) (y 1) (y 2) := by
  have e : (V m c main_v1 : FVec Ideal S2560x256x128 .f32) = shapeCast S2560x256x128 (shapeCast S2560x128x2x128 (m ((c : Thread nD τ).loc main_arg5) : FVec Ideal S1x2560x128x2x128 .f32) shapeCasts_S1x2560x128x2x128_S2560x128x2x128) shapeCasts_S2560x128x2x128_S2560x256x128 := by
    unfold V; after_results <;> rfl
  rw [e]
  exact flat_eq _

theorem V3 (c : Dev nD) : (V m c main_v3 : FVec Ideal S2560x256x128 .f32) = fun y => pageAt (m ((c : Thread nD τ).loc main_arg6)) (y 0) (y 1) (y 2) := by
  have e : (V m c main_v3 : FVec Ideal S2560x256x128 .f32) = shapeCast S2560x256x128 (shapeCast S2560x128x2x128 (m ((c : Thread nD τ).loc main_arg6) : FVec Ideal S1x2560x128x2x128 .f32) shapeCasts_S1x2560x128x2x128_S2560x128x2x128) shapeCasts_S2560x128x2x128_S2560x256x128 := by
    unfold V; after_results <;> rfl
  rw [e]
  exact flat_eq _

theorem page_cell (x : FVec Ideal S1x2560x128x2x128 .f32) (E : S2560x256x128.Idx) (y : S1x256x128.Idx) (P : Fin 2560)
    (h0 : (E 0).val = P.val) (h1 : (E 1).val = (y 1).val) (h2 : (E 2).val = (y 2).val) : pageAt x (E 0) (E 1) (E 2) = pageAt x P (y 1) (y 2) := by
  rw [show E 0 = P from Fin.ext h0, show E 1 = y 1 from Fin.ext h1, show E 2 = y 2 from Fin.ext h2]

theorem page_row {i w : ℕ} (h : i = w) (hw : w < 2560) : i = w % 2560 := by omega

variable (hp : ∀ x, ((m ((0 : Dev nD).tc.loc main_arg0) : Vec Ideal S128x16 .i32) x).toNat < 2560)
include hp

theorem iblk4 (c : Dev nD) (t : Fin (cfgM m hO).N) (y : S1x256x128.Idx) : (iblk m hO c 4 t : FVec Ideal S1x256x128 .f32) y
    = pageAt (m ((c : Thread nD τ).loc main_arg5)) (pageOf (m ((0 : Dev nD).tc.loc main_arg0)) (row m hO t) 0) (y 1) (y 2) := by
  have e : (pcfg0.win (adm m hO) 4).index t = ![((m ((0 : Dev nD).tc.loc main_arg0) : Vec Ideal S128x16 .i32) (ix2 (row m hO t) (0 : Fin 16))).toNat, 0, 0] := by
    show cc0_transform_4 _ _ (tbl m) (grid0.coords t) = _
    unfold cc0_transform_4
    simp only [Scalar.indexCast]
    rw [page_at m hO t 0 (by decide) _ (word m hO t)]
    rfl
  have hpt := hp (ix2 (row m hO t) (0 : Fin 16))
  refine (congrFun (V1 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk5 (c : Dev nD) (t : Fin (cfgM m hO).N) (y : S1x256x128.Idx) : (iblk m hO c 5 t : FVec Ideal S1x256x128 .f32) y
    = pageAt (m ((c : Thread nD τ).loc main_arg5)) (pageOf (m ((0 : Dev nD).tc.loc main_arg0)) (row m hO t) 1) (y 1) (y 2) := by
  have e : (pcfg0.win (adm m hO) 5).index t = ![((m ((0 : Dev nD).tc.loc main_arg0) : Vec Ideal S128x16 .i32) (ix2 (row m hO t) (1 : Fin 16))).toNat, 0, 0] := by
    show cc0_transform_5 _ _ (tbl m) (grid0.coords t) = _
    unfold cc0_transform_5
    simp only [Scalar.indexCast]
    rw [page_at m hO t 1 (by decide) _ (word m hO t)]
    rfl
  have hpt := hp (ix2 (row m hO t) (1 : Fin 16))
  refine (congrFun (V1 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk6 (c : Dev nD) (t : Fin (cfgM m hO).N) (y : S1x256x128.Idx) : (iblk m hO c 6 t : FVec Ideal S1x256x128 .f32) y
    = pageAt (m ((c : Thread nD τ).loc main_arg5)) (pageOf (m ((0 : Dev nD).tc.loc main_arg0)) (row m hO t) 2) (y 1) (y 2) := by
  have e : (pcfg0.win (adm m hO) 6).index t = ![((m ((0 : Dev nD).tc.loc main_arg0) : Vec Ideal S128x16 .i32) (ix2 (row m hO t) (2 : Fin 16))).toNat, 0, 0] := by
    show cc0_transform_6 _ _ (tbl m) (grid0.coords t) = _
    unfold cc0_transform_6
    simp only [Scalar.indexCast]
    rw [page_at m hO t 2 (by decide) _ (word m hO t)]
    rfl
  have hpt := hp (ix2 (row m hO t) (2 : Fin 16))
  refine (congrFun (V1 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk7 (c : Dev nD) (t : Fin (cfgM m hO).N) (y : S1x256x128.Idx) : (iblk m hO c 7 t : FVec Ideal S1x256x128 .f32) y
    = pageAt (m ((c : Thread nD τ).loc main_arg5)) (pageOf (m ((0 : Dev nD).tc.loc main_arg0)) (row m hO t) 3) (y 1) (y 2) := by
  have e : (pcfg0.win (adm m hO) 7).index t = ![((m ((0 : Dev nD).tc.loc main_arg0) : Vec Ideal S128x16 .i32) (ix2 (row m hO t) (3 : Fin 16))).toNat, 0, 0] := by
    show cc0_transform_7 _ _ (tbl m) (grid0.coords t) = _
    unfold cc0_transform_7
    simp only [Scalar.indexCast]
    rw [page_at m hO t 3 (by decide) _ (word m hO t)]
    rfl
  have hpt := hp (ix2 (row m hO t) (3 : Fin 16))
  refine (congrFun (V1 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk8 (c : Dev nD) (t : Fin (cfgM m hO).N) (y : S1x256x128.Idx) : (iblk m hO c 8 t : FVec Ideal S1x256x128 .f32) y
    = pageAt (m ((c : Thread nD τ).loc main_arg5)) (pageOf (m ((0 : Dev nD).tc.loc main_arg0)) (row m hO t) 4) (y 1) (y 2) := by
  have e : (pcfg0.win (adm m hO) 8).index t = ![((m ((0 : Dev nD).tc.loc main_arg0) : Vec Ideal S128x16 .i32) (ix2 (row m hO t) (4 : Fin 16))).toNat, 0, 0] := by
    show cc0_transform_8 _ _ (tbl m) (grid0.coords t) = _
    unfold cc0_transform_8
    simp only [Scalar.indexCast]
    rw [page_at m hO t 4 (by decide) _ (word m hO t)]
    rfl
  have hpt := hp (ix2 (row m hO t) (4 : Fin 16))
  refine (congrFun (V1 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk9 (c : Dev nD) (t : Fin (cfgM m hO).N) (y : S1x256x128.Idx) : (iblk m hO c 9 t : FVec Ideal S1x256x128 .f32) y
    = pageAt (m ((c : Thread nD τ).loc main_arg5)) (pageOf (m ((0 : Dev nD).tc.loc main_arg0)) (row m hO t) 5) (y 1) (y 2) := by
  have e : (pcfg0.win (adm m hO) 9).index t = ![((m ((0 : Dev nD).tc.loc main_arg0) : Vec Ideal S128x16 .i32) (ix2 (row m hO t) (5 : Fin 16))).toNat, 0, 0] := by
    show cc0_transform_9 _ _ (tbl m) (grid0.coords t) = _
    unfold cc0_transform_9
    simp only [Scalar.indexCast]
    rw [page_at m hO t 5 (by decide) _ (word m hO t)]
    rfl
  have hpt := hp (ix2 (row m hO t) (5 : Fin 16))
  refine (congrFun (V1 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk10 (c : Dev nD) (t : Fin (cfgM m hO).N) (y : S1x256x128.Idx) : (iblk m hO c 10 t : FVec Ideal S1x256x128 .f32) y
    = pageAt (m ((c : Thread nD τ).loc main_arg5)) (pageOf (m ((0 : Dev nD).tc.loc main_arg0)) (row m hO t) 6) (y 1) (y 2) := by
  have e : (pcfg0.win (adm m hO) 10).index t = ![((m ((0 : Dev nD).tc.loc main_arg0) : Vec Ideal S128x16 .i32) (ix2 (row m hO t) (6 : Fin 16))).toNat, 0, 0] := by
    show cc0_transform_10 _ _ (tbl m) (grid0.coords t) = _
    unfold cc0_transform_10
    simp only [Scalar.indexCast]
    rw [page_at m hO t 6 (by decide) _ (word m hO t)]
    rfl
  have hpt := hp (ix2 (row m hO t) (6 : Fin 16))
  refine (congrFun (V1 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk11 (c : Dev nD) (t : Fin (cfgM m hO).N) (y : S1x256x128.Idx) : (iblk m hO c 11 t : FVec Ideal S1x256x128 .f32) y
    = pageAt (m ((c : Thread nD τ).loc main_arg5)) (pageOf (m ((0 : Dev nD).tc.loc main_arg0)) (row m hO t) 7) (y 1) (y 2) := by
  have e : (pcfg0.win (adm m hO) 11).index t = ![((m ((0 : Dev nD).tc.loc main_arg0) : Vec Ideal S128x16 .i32) (ix2 (row m hO t) (7 : Fin 16))).toNat, 0, 0] := by
    show cc0_transform_11 _ _ (tbl m) (grid0.coords t) = _
    unfold cc0_transform_11
    simp only [Scalar.indexCast]
    rw [page_at m hO t 7 (by decide) _ (word m hO t)]
    rfl
  have hpt := hp (ix2 (row m hO t) (7 : Fin 16))
  refine (congrFun (V1 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk12 (c : Dev nD) (t : Fin (cfgM m hO).N) (y : S1x256x128.Idx) : (iblk m hO c 12 t : FVec Ideal S1x256x128 .f32) y
    = pageAt (m ((c : Thread nD τ).loc main_arg5)) (pageOf (m ((0 : Dev nD).tc.loc main_arg0)) (row m hO t) 8) (y 1) (y 2) := by
  have e : (pcfg0.win (adm m hO) 12).index t = ![((m ((0 : Dev nD).tc.loc main_arg0) : Vec Ideal S128x16 .i32) (ix2 (row m hO t) (8 : Fin 16))).toNat, 0, 0] := by
    show cc0_transform_12 _ _ (tbl m) (grid0.coords t) = _
    unfold cc0_transform_12
    simp only [Scalar.indexCast]
    rw [page_at m hO t 8 (by decide) _ (word m hO t)]
    rfl
  have hpt := hp (ix2 (row m hO t) (8 : Fin 16))
  refine (congrFun (V1 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk13 (c : Dev nD) (t : Fin (cfgM m hO).N) (y : S1x256x128.Idx) : (iblk m hO c 13 t : FVec Ideal S1x256x128 .f32) y
    = pageAt (m ((c : Thread nD τ).loc main_arg5)) (pageOf (m ((0 : Dev nD).tc.loc main_arg0)) (row m hO t) 9) (y 1) (y 2) := by
  have e : (pcfg0.win (adm m hO) 13).index t = ![((m ((0 : Dev nD).tc.loc main_arg0) : Vec Ideal S128x16 .i32) (ix2 (row m hO t) (9 : Fin 16))).toNat, 0, 0] := by
    show cc0_transform_13 _ _ (tbl m) (grid0.coords t) = _
    unfold cc0_transform_13
    simp only [Scalar.indexCast]
    rw [page_at m hO t 9 (by decide) _ (word m hO t)]
    rfl
  have hpt := hp (ix2 (row m hO t) (9 : Fin 16))
  refine (congrFun (V1 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk14 (c : Dev nD) (t : Fin (cfgM m hO).N) (y : S1x256x128.Idx) : (iblk m hO c 14 t : FVec Ideal S1x256x128 .f32) y
    = pageAt (m ((c : Thread nD τ).loc main_arg5)) (pageOf (m ((0 : Dev nD).tc.loc main_arg0)) (row m hO t) 10) (y 1) (y 2) := by
  have e : (pcfg0.win (adm m hO) 14).index t = ![((m ((0 : Dev nD).tc.loc main_arg0) : Vec Ideal S128x16 .i32) (ix2 (row m hO t) (10 : Fin 16))).toNat, 0, 0] := by
    show cc0_transform_14 _ _ (tbl m) (grid0.coords t) = _
    unfold cc0_transform_14
    simp only [Scalar.indexCast]
    rw [page_at m hO t 10 (by decide) _ (word m hO t)]
    rfl
  have hpt := hp (ix2 (row m hO t) (10 : Fin 16))
  refine (congrFun (V1 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk15 (c : Dev nD) (t : Fin (cfgM m hO).N) (y : S1x256x128.Idx) : (iblk m hO c 15 t : FVec Ideal S1x256x128 .f32) y
    = pageAt (m ((c : Thread nD τ).loc main_arg5)) (pageOf (m ((0 : Dev nD).tc.loc main_arg0)) (row m hO t) 11) (y 1) (y 2) := by
  have e : (pcfg0.win (adm m hO) 15).index t = ![((m ((0 : Dev nD).tc.loc main_arg0) : Vec Ideal S128x16 .i32) (ix2 (row m hO t) (11 : Fin 16))).toNat, 0, 0] := by
    show cc0_transform_15 _ _ (tbl m) (grid0.coords t) = _
    unfold cc0_transform_15
    simp only [Scalar.indexCast]
    rw [page_at m hO t 11 (by decide) _ (word m hO t)]
    rfl
  have hpt := hp (ix2 (row m hO t) (11 : Fin 16))
  refine (congrFun (V1 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk16 (c : Dev nD) (t : Fin (cfgM m hO).N) (y : S1x256x128.Idx) : (iblk m hO c 16 t : FVec Ideal S1x256x128 .f32) y
    = pageAt (m ((c : Thread nD τ).loc main_arg5)) (pageOf (m ((0 : Dev nD).tc.loc main_arg0)) (row m hO t) 12) (y 1) (y 2) := by
  have e : (pcfg0.win (adm m hO) 16).index t = ![((m ((0 : Dev nD).tc.loc main_arg0) : Vec Ideal S128x16 .i32) (ix2 (row m hO t) (12 : Fin 16))).toNat, 0, 0] := by
    show cc0_transform_16 _ _ (tbl m) (grid0.coords t) = _
    unfold cc0_transform_16
    simp only [Scalar.indexCast]
    rw [page_at m hO t 12 (by decide) _ (word m hO t)]
    rfl
  have hpt := hp (ix2 (row m hO t) (12 : Fin 16))
  refine (congrFun (V1 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk17 (c : Dev nD) (t : Fin (cfgM m hO).N) (y : S1x256x128.Idx) : (iblk m hO c 17 t : FVec Ideal S1x256x128 .f32) y
    = pageAt (m ((c : Thread nD τ).loc main_arg5)) (pageOf (m ((0 : Dev nD).tc.loc main_arg0)) (row m hO t) 13) (y 1) (y 2) := by
  have e : (pcfg0.win (adm m hO) 17).index t = ![((m ((0 : Dev nD).tc.loc main_arg0) : Vec Ideal S128x16 .i32) (ix2 (row m hO t) (13 : Fin 16))).toNat, 0, 0] := by
    show cc0_transform_17 _ _ (tbl m) (grid0.coords t) = _
    unfold cc0_transform_17
    simp only [Scalar.indexCast]
    rw [page_at m hO t 13 (by decide) _ (word m hO t)]
    rfl
  have hpt := hp (ix2 (row m hO t) (13 : Fin 16))
  refine (congrFun (V1 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk18 (c : Dev nD) (t : Fin (cfgM m hO).N) (y : S1x256x128.Idx) : (iblk m hO c 18 t : FVec Ideal S1x256x128 .f32) y
    = pageAt (m ((c : Thread nD τ).loc main_arg5)) (pageOf (m ((0 : Dev nD).tc.loc main_arg0)) (row m hO t) 14) (y 1) (y 2) := by
  have e : (pcfg0.win (adm m hO) 18).index t = ![((m ((0 : Dev nD).tc.loc main_arg0) : Vec Ideal S128x16 .i32) (ix2 (row m hO t) (14 : Fin 16))).toNat, 0, 0] := by
    show cc0_transform_18 _ _ (tbl m) (grid0.coords t) = _
    unfold cc0_transform_18
    simp only [Scalar.indexCast]
    rw [page_at m hO t 14 (by decide) _ (word m hO t)]
    rfl
  have hpt := hp (ix2 (row m hO t) (14 : Fin 16))
  refine (congrFun (V1 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk19 (c : Dev nD) (t : Fin (cfgM m hO).N) (y : S1x256x128.Idx) : (iblk m hO c 19 t : FVec Ideal S1x256x128 .f32) y
    = pageAt (m ((c : Thread nD τ).loc main_arg5)) (pageOf (m ((0 : Dev nD).tc.loc main_arg0)) (row m hO t) 15) (y 1) (y 2) := by
  have e : (pcfg0.win (adm m hO) 19).index t = ![((m ((0 : Dev nD).tc.loc main_arg0) : Vec Ideal S128x16 .i32) (ix2 (row m hO t) (15 : Fin 16))).toNat, 0, 0] := by
    show cc0_transform_19 _ _ (tbl m) (grid0.coords t) = _
    unfold cc0_transform_19
    simp only [Scalar.indexCast]
    rw [page_at m hO t 15 (by decide) _ (word m hO t)]
    rfl
  have hpt := hp (ix2 (row m hO t) (15 : Fin 16))
  refine (congrFun (V1 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk20 (c : Dev nD) (t : Fin (cfgM m hO).N) (y : S1x256x128.Idx) : (iblk m hO c 20 t : FVec Ideal S1x256x128 .f32) y
    = pageAt (m ((c : Thread nD τ).loc main_arg6)) (pageOf (m ((0 : Dev nD).tc.loc main_arg0)) (row m hO t) 0) (y 1) (y 2) := by
  have e : (pcfg0.win (adm m hO) 20).index t = ![((m ((0 : Dev nD).tc.loc main_arg0) : Vec Ideal S128x16 .i32) (ix2 (row m hO t) (0 : Fin 16))).toNat, 0, 0] := by
    show cc0_transform_20 _ _ (tbl m) (grid0.coords t) = _
    unfold cc0_transform_20
    simp only [Scalar.indexCast]
    rw [page_at m hO t 0 (by decide) _ (word m hO t)]
    rfl
  have hpt := hp (ix2 (row m hO t) (0 : Fin 16))
  refine (congrFun (V3 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk21 (c : Dev nD) (t : Fin (cfgM m hO).N) (y : S1x256x128.Idx) : (iblk m hO c 21 t : FVec Ideal S1x256x128 .f32) y
    = pageAt (m ((c : Thread nD τ).loc main_arg6)) (pageOf (m ((0 : Dev nD).tc.loc main_arg0)) (row m hO t) 1) (y 1) (y 2) := by
  have e : (pcfg0.win (adm m hO) 21).index t = ![((m ((0 : Dev nD).tc.loc main_arg0) : Vec Ideal S128x16 .i32) (ix2 (row m hO t) (1 : Fin 16))).toNat, 0, 0] := by
    show cc0_transform_21 _ _ (tbl m) (grid0.coords t) = _
    unfold cc0_transform_21
    simp only [Scalar.indexCast]
    rw [page_at m hO t 1 (by decide) _ (word m hO t)]
    rfl
  have hpt := hp (ix2 (row m hO t) (1 : Fin 16))
  refine (congrFun (V3 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk22 (c : Dev nD) (t : Fin (cfgM m hO).N) (y : S1x256x128.Idx) : (iblk m hO c 22 t : FVec Ideal S1x256x128 .f32) y
    = pageAt (m ((c : Thread nD τ).loc main_arg6)) (pageOf (m ((0 : Dev nD).tc.loc main_arg0)) (row m hO t) 2) (y 1) (y 2) := by
  have e : (pcfg0.win (adm m hO) 22).index t = ![((m ((0 : Dev nD).tc.loc main_arg0) : Vec Ideal S128x16 .i32) (ix2 (row m hO t) (2 : Fin 16))).toNat, 0, 0] := by
    show cc0_transform_22 _ _ (tbl m) (grid0.coords t) = _
    unfold cc0_transform_22
    simp only [Scalar.indexCast]
    rw [page_at m hO t 2 (by decide) _ (word m hO t)]
    rfl
  have hpt := hp (ix2 (row m hO t) (2 : Fin 16))
  refine (congrFun (V3 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk23 (c : Dev nD) (t : Fin (cfgM m hO).N) (y : S1x256x128.Idx) : (iblk m hO c 23 t : FVec Ideal S1x256x128 .f32) y
    = pageAt (m ((c : Thread nD τ).loc main_arg6)) (pageOf (m ((0 : Dev nD).tc.loc main_arg0)) (row m hO t) 3) (y 1) (y 2) := by
  have e : (pcfg0.win (adm m hO) 23).index t = ![((m ((0 : Dev nD).tc.loc main_arg0) : Vec Ideal S128x16 .i32) (ix2 (row m hO t) (3 : Fin 16))).toNat, 0, 0] := by
    show cc0_transform_23 _ _ (tbl m) (grid0.coords t) = _
    unfold cc0_transform_23
    simp only [Scalar.indexCast]
    rw [page_at m hO t 3 (by decide) _ (word m hO t)]
    rfl
  have hpt := hp (ix2 (row m hO t) (3 : Fin 16))
  refine (congrFun (V3 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk24 (c : Dev nD) (t : Fin (cfgM m hO).N) (y : S1x256x128.Idx) : (iblk m hO c 24 t : FVec Ideal S1x256x128 .f32) y
    = pageAt (m ((c : Thread nD τ).loc main_arg6)) (pageOf (m ((0 : Dev nD).tc.loc main_arg0)) (row m hO t) 4) (y 1) (y 2) := by
  have e : (pcfg0.win (adm m hO) 24).index t = ![((m ((0 : Dev nD).tc.loc main_arg0) : Vec Ideal S128x16 .i32) (ix2 (row m hO t) (4 : Fin 16))).toNat, 0, 0] := by
    show cc0_transform_24 _ _ (tbl m) (grid0.coords t) = _
    unfold cc0_transform_24
    simp only [Scalar.indexCast]
    rw [page_at m hO t 4 (by decide) _ (word m hO t)]
    rfl
  have hpt := hp (ix2 (row m hO t) (4 : Fin 16))
  refine (congrFun (V3 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk25 (c : Dev nD) (t : Fin (cfgM m hO).N) (y : S1x256x128.Idx) : (iblk m hO c 25 t : FVec Ideal S1x256x128 .f32) y
    = pageAt (m ((c : Thread nD τ).loc main_arg6)) (pageOf (m ((0 : Dev nD).tc.loc main_arg0)) (row m hO t) 5) (y 1) (y 2) := by
  have e : (pcfg0.win (adm m hO) 25).index t = ![((m ((0 : Dev nD).tc.loc main_arg0) : Vec Ideal S128x16 .i32) (ix2 (row m hO t) (5 : Fin 16))).toNat, 0, 0] := by
    show cc0_transform_25 _ _ (tbl m) (grid0.coords t) = _
    unfold cc0_transform_25
    simp only [Scalar.indexCast]
    rw [page_at m hO t 5 (by decide) _ (word m hO t)]
    rfl
  have hpt := hp (ix2 (row m hO t) (5 : Fin 16))
  refine (congrFun (V3 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk26 (c : Dev nD) (t : Fin (cfgM m hO).N) (y : S1x256x128.Idx) : (iblk m hO c 26 t : FVec Ideal S1x256x128 .f32) y
    = pageAt (m ((c : Thread nD τ).loc main_arg6)) (pageOf (m ((0 : Dev nD).tc.loc main_arg0)) (row m hO t) 6) (y 1) (y 2) := by
  have e : (pcfg0.win (adm m hO) 26).index t = ![((m ((0 : Dev nD).tc.loc main_arg0) : Vec Ideal S128x16 .i32) (ix2 (row m hO t) (6 : Fin 16))).toNat, 0, 0] := by
    show cc0_transform_26 _ _ (tbl m) (grid0.coords t) = _
    unfold cc0_transform_26
    simp only [Scalar.indexCast]
    rw [page_at m hO t 6 (by decide) _ (word m hO t)]
    rfl
  have hpt := hp (ix2 (row m hO t) (6 : Fin 16))
  refine (congrFun (V3 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk27 (c : Dev nD) (t : Fin (cfgM m hO).N) (y : S1x256x128.Idx) : (iblk m hO c 27 t : FVec Ideal S1x256x128 .f32) y
    = pageAt (m ((c : Thread nD τ).loc main_arg6)) (pageOf (m ((0 : Dev nD).tc.loc main_arg0)) (row m hO t) 7) (y 1) (y 2) := by
  have e : (pcfg0.win (adm m hO) 27).index t = ![((m ((0 : Dev nD).tc.loc main_arg0) : Vec Ideal S128x16 .i32) (ix2 (row m hO t) (7 : Fin 16))).toNat, 0, 0] := by
    show cc0_transform_27 _ _ (tbl m) (grid0.coords t) = _
    unfold cc0_transform_27
    simp only [Scalar.indexCast]
    rw [page_at m hO t 7 (by decide) _ (word m hO t)]
    rfl
  have hpt := hp (ix2 (row m hO t) (7 : Fin 16))
  refine (congrFun (V3 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk28 (c : Dev nD) (t : Fin (cfgM m hO).N) (y : S1x256x128.Idx) : (iblk m hO c 28 t : FVec Ideal S1x256x128 .f32) y
    = pageAt (m ((c : Thread nD τ).loc main_arg6)) (pageOf (m ((0 : Dev nD).tc.loc main_arg0)) (row m hO t) 8) (y 1) (y 2) := by
  have e : (pcfg0.win (adm m hO) 28).index t = ![((m ((0 : Dev nD).tc.loc main_arg0) : Vec Ideal S128x16 .i32) (ix2 (row m hO t) (8 : Fin 16))).toNat, 0, 0] := by
    show cc0_transform_28 _ _ (tbl m) (grid0.coords t) = _
    unfold cc0_transform_28
    simp only [Scalar.indexCast]
    rw [page_at m hO t 8 (by decide) _ (word m hO t)]
    rfl
  have hpt := hp (ix2 (row m hO t) (8 : Fin 16))
  refine (congrFun (V3 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk29 (c : Dev nD) (t : Fin (cfgM m hO).N) (y : S1x256x128.Idx) : (iblk m hO c 29 t : FVec Ideal S1x256x128 .f32) y
    = pageAt (m ((c : Thread nD τ).loc main_arg6)) (pageOf (m ((0 : Dev nD).tc.loc main_arg0)) (row m hO t) 9) (y 1) (y 2) := by
  have e : (pcfg0.win (adm m hO) 29).index t = ![((m ((0 : Dev nD).tc.loc main_arg0) : Vec Ideal S128x16 .i32) (ix2 (row m hO t) (9 : Fin 16))).toNat, 0, 0] := by
    show cc0_transform_29 _ _ (tbl m) (grid0.coords t) = _
    unfold cc0_transform_29
    simp only [Scalar.indexCast]
    rw [page_at m hO t 9 (by decide) _ (word m hO t)]
    rfl
  have hpt := hp (ix2 (row m hO t) (9 : Fin 16))
  refine (congrFun (V3 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk30 (c : Dev nD) (t : Fin (cfgM m hO).N) (y : S1x256x128.Idx) : (iblk m hO c 30 t : FVec Ideal S1x256x128 .f32) y
    = pageAt (m ((c : Thread nD τ).loc main_arg6)) (pageOf (m ((0 : Dev nD).tc.loc main_arg0)) (row m hO t) 10) (y 1) (y 2) := by
  have e : (pcfg0.win (adm m hO) 30).index t = ![((m ((0 : Dev nD).tc.loc main_arg0) : Vec Ideal S128x16 .i32) (ix2 (row m hO t) (10 : Fin 16))).toNat, 0, 0] := by
    show cc0_transform_30 _ _ (tbl m) (grid0.coords t) = _
    unfold cc0_transform_30
    simp only [Scalar.indexCast]
    rw [page_at m hO t 10 (by decide) _ (word m hO t)]
    rfl
  have hpt := hp (ix2 (row m hO t) (10 : Fin 16))
  refine (congrFun (V3 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk31 (c : Dev nD) (t : Fin (cfgM m hO).N) (y : S1x256x128.Idx) : (iblk m hO c 31 t : FVec Ideal S1x256x128 .f32) y
    = pageAt (m ((c : Thread nD τ).loc main_arg6)) (pageOf (m ((0 : Dev nD).tc.loc main_arg0)) (row m hO t) 11) (y 1) (y 2) := by
  have e : (pcfg0.win (adm m hO) 31).index t = ![((m ((0 : Dev nD).tc.loc main_arg0) : Vec Ideal S128x16 .i32) (ix2 (row m hO t) (11 : Fin 16))).toNat, 0, 0] := by
    show cc0_transform_31 _ _ (tbl m) (grid0.coords t) = _
    unfold cc0_transform_31
    simp only [Scalar.indexCast]
    rw [page_at m hO t 11 (by decide) _ (word m hO t)]
    rfl
  have hpt := hp (ix2 (row m hO t) (11 : Fin 16))
  refine (congrFun (V3 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk32 (c : Dev nD) (t : Fin (cfgM m hO).N) (y : S1x256x128.Idx) : (iblk m hO c 32 t : FVec Ideal S1x256x128 .f32) y
    = pageAt (m ((c : Thread nD τ).loc main_arg6)) (pageOf (m ((0 : Dev nD).tc.loc main_arg0)) (row m hO t) 12) (y 1) (y 2) := by
  have e : (pcfg0.win (adm m hO) 32).index t = ![((m ((0 : Dev nD).tc.loc main_arg0) : Vec Ideal S128x16 .i32) (ix2 (row m hO t) (12 : Fin 16))).toNat, 0, 0] := by
    show cc0_transform_32 _ _ (tbl m) (grid0.coords t) = _
    unfold cc0_transform_32
    simp only [Scalar.indexCast]
    rw [page_at m hO t 12 (by decide) _ (word m hO t)]
    rfl
  have hpt := hp (ix2 (row m hO t) (12 : Fin 16))
  refine (congrFun (V3 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk33 (c : Dev nD) (t : Fin (cfgM m hO).N) (y : S1x256x128.Idx) : (iblk m hO c 33 t : FVec Ideal S1x256x128 .f32) y
    = pageAt (m ((c : Thread nD τ).loc main_arg6)) (pageOf (m ((0 : Dev nD).tc.loc main_arg0)) (row m hO t) 13) (y 1) (y 2) := by
  have e : (pcfg0.win (adm m hO) 33).index t = ![((m ((0 : Dev nD).tc.loc main_arg0) : Vec Ideal S128x16 .i32) (ix2 (row m hO t) (13 : Fin 16))).toNat, 0, 0] := by
    show cc0_transform_33 _ _ (tbl m) (grid0.coords t) = _
    unfold cc0_transform_33
    simp only [Scalar.indexCast]
    rw [page_at m hO t 13 (by decide) _ (word m hO t)]
    rfl
  have hpt := hp (ix2 (row m hO t) (13 : Fin 16))
  refine (congrFun (V3 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk34 (c : Dev nD) (t : Fin (cfgM m hO).N) (y : S1x256x128.Idx) : (iblk m hO c 34 t : FVec Ideal S1x256x128 .f32) y
    = pageAt (m ((c : Thread nD τ).loc main_arg6)) (pageOf (m ((0 : Dev nD).tc.loc main_arg0)) (row m hO t) 14) (y 1) (y 2) := by
  have e : (pcfg0.win (adm m hO) 34).index t = ![((m ((0 : Dev nD).tc.loc main_arg0) : Vec Ideal S128x16 .i32) (ix2 (row m hO t) (14 : Fin 16))).toNat, 0, 0] := by
    show cc0_transform_34 _ _ (tbl m) (grid0.coords t) = _
    unfold cc0_transform_34
    simp only [Scalar.indexCast]
    rw [page_at m hO t 14 (by decide) _ (word m hO t)]
    rfl
  have hpt := hp (ix2 (row m hO t) (14 : Fin 16))
  refine (congrFun (V3 m c) _).trans ?_
  refine page_cell _ _ y _ ?_ ?_ ?_
  · blk_simp
    exact page_row (congrFun e 0) hpt
  · blk_simp
    exact zero_block (congrFun e 1) _ _
  · blk_simp
    exact zero_block (congrFun e 2) _ _

theorem iblk35 (c : Dev nD) (t : Fin (cfgM m hO).N) (y : S1x256x128.Idx) : (iblk m hO c 35 t : FVec Ideal S1x256x128 .f32) y
    = pageAt (m ((c : Thread nD τ).loc main_arg6)) (pageOf (m ((0 : Dev nD).tc.loc main_arg0)) (row m hO t) 15) (y 1) (y 2) := by
  have e : (pcfg0.win (adm m hO) 35).index t = ![((m ((0 : Dev nD).tc.loc main_arg0) : Vec Ideal S128x16 .i32) (ix2 (row m hO t) (15 : Fin 16))).toNat, 0, 0] := by
    show cc0_transform_35 _ _ (tbl m) (grid0.coords t) = _
    unfold cc0_transform_35
    simp only [Scalar.indexCast]
    rw [page_at m hO t 15 (by decide) _ (word m hO t)]
    rfl
  have hpt := hp (ix2 (row m hO t) (15 : Fin 16))
  refine (congrFun (V3 m c) _).trans ?_
  refine page_cell _ _ y _ ?_ ?_ ?_
  · blk_simp
    exact page_row (congrFun e 0) hpt
  · blk_simp
    exact zero_block (congrFun e 1) _ _
  · blk_simp
    exact zero_block (congrFun e 2) _ _

end Cert.KernelIdeal.Value

end
-- ==== Proof.AttnLoads.lean ====
/- The sample attention's kernel: the pages it loads, as the tiles of its keys and values. -/
module

public import proofs.«01_k».proof.Proof.AttnIdx
public import Idealize.ShloMosaic.Lib.WholeRead
public import Idealize.ShloMosaic.Lib.Pointwise
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Attn

variable (m : (ℓ : Loc nD τ sig) → Buf (Elt Ideal) ℓ) (hO : Ok m) (hp : ∀ x, (m ((0 : Dev nD).tc.loc main_arg0) x).toNat < 2560)

def RK0 : LoadRect S1x256x128 := { off := ![0, 0, 0], size := ![1, 128, 128], stride := ![1, 2, 1], inb := inb_S1x256x128_S1x128x128_0_0_0_s_1_2_1 }
def RK1 : LoadRect S1x256x128 := { off := ![0, 1, 0], size := ![1, 128, 128], stride := ![1, 2, 1], inb := inb_S1x256x128_S1x128x128_0_1_0_s_1_2_1 }
def RN0 : LoadRect S1x8x256 := (Rect.unit (s := S1x8x256) ![0, 0, 0] S1x8x128.size inb_S1x8x256_S1x8x128_0_0_0).toLoadRect
def RN1 : LoadRect S1x8x256 := (Rect.unit (s := S1x8x256) ![0, 0, 128] S1x8x128.size inb_S1x8x256_S1x8x128_0_0_128).toLoadRect
theorem RK0_1 (y : S1x128x128.Idx) : (RK0.idx y 1).val = (0 : Fin 2).val + 2 * (y 1).val := by
  show 0 + 2 * (y 1).val = 0 + 2 * (y 1).val
  rfl
theorem RK0_2 (y : S1x128x128.Idx) : (RK0.idx y 2).val = (y 2).val := by
  show 0 + 1 * (y 2).val = (y 2).val
  omega
theorem RK1_1 (y : S1x128x128.Idx) : (RK1.idx y 1).val = (1 : Fin 2).val + 2 * (y 1).val := by
  show 1 + 2 * (y 1).val = 1 + 2 * (y 1).val
  rfl
theorem RK1_2 (y : S1x128x128.Idx) : (RK1.idx y 2).val = (y 2).val := by
  show 0 + 1 * (y 2).val = (y 2).val
  omega
theorem RN0_1 (y : S1x8x128.Idx) : (RN0.idx y 1).val = (y 1).val := by
  show 0 + 1 * (y 1).val = (y 1).val
  omega
theorem RN0_2 (y : S1x8x128.Idx) : (RN0.idx y 2).val = (0 : Fin 2).val * 128 + (y 2).val := by
  show 0 + 1 * (y 2).val = 0 * 128 + (y 2).val
  omega
theorem RN1_1 (y : S1x8x128.Idx) : (RN1.idx y 1).val = (y 1).val := by
  show 0 + 1 * (y 1).val = (y 1).val
  omega
theorem RN1_2 (y : S1x8x128.Idx) : (RN1.idx y 2).val = (1 : Fin 2).val * 128 + (y 2).val := by
  show 128 + 1 * (y 2).val = 1 * 128 + (y 2).val
  omega
abbrev L2_0 (c : Dev nD) (t : Fin (cfgM m hO).N) : FVec Ideal S1x8x128 .f32 := View.readAt (Elt Ideal) (ms0_2 m hO t).view (Rect.unit (s := S1x8x256) ![0, 0, 0] S1x8x128.size inb_S1x8x256_S1x8x128_0_0_0).toLoadRect ((hs0_2 m hO t).unread (iblk m hO c 2 t))
abbrev L3_0 (c : Dev nD) (t : Fin (cfgM m hO).N) : FVec Ideal S1x8x128 .f32 := View.readAt (Elt Ideal) (ms0_3 m hO t).view (Rect.unit (s := S1x8x256) ![0, 0, 0] S1x8x128.size inb_S1x8x256_S1x8x128_0_0_0).toLoadRect ((hs0_3 m hO t).unread (iblk m hO c 3 t))
abbrev L4_0 (c : Dev nD) (t : Fin (cfgM m hO).N) : FVec Ideal S1x128x128 .f32 := View.readAt (Elt Ideal) (ms0_4 m hO t).view { off := ![0, 0, 0], size := ![1, 128, 128], stride := ![1, 2, 1], inb := inb_S1x256x128_S1x128x128_0_0_0_s_1_2_1 } ((hs0_4 m hO t).unread (iblk m hO c 4 t))
abbrev L5_0 (c : Dev nD) (t : Fin (cfgM m hO).N) : FVec Ideal S1x128x128 .f32 := View.readAt (Elt Ideal) (ms0_5 m hO t).view { off := ![0, 0, 0], size := ![1, 128, 128], stride := ![1, 2, 1], inb := inb_S1x256x128_S1x128x128_0_0_0_s_1_2_1 } ((hs0_5 m hO t).unread (iblk m hO c 5 t))
abbrev L6_0 (c : Dev nD) (t : Fin (cfgM m hO).N) : FVec Ideal S1x128x128 .f32 := View.readAt (Elt Ideal) (ms0_6 m hO t).view { off := ![0, 0, 0], size := ![1, 128, 128], stride := ![1, 2, 1], inb := inb_S1x256x128_S1x128x128_0_0_0_s_1_2_1 } ((hs0_6 m hO t).unread (iblk m hO c 6 t))
abbrev L7_0 (c : Dev nD) (t : Fin (cfgM m hO).N) : FVec Ideal S1x128x128 .f32 := View.readAt (Elt Ideal) (ms0_7 m hO t).view { off := ![0, 0, 0], size := ![1, 128, 128], stride := ![1, 2, 1], inb := inb_S1x256x128_S1x128x128_0_0_0_s_1_2_1 } ((hs0_7 m hO t).unread (iblk m hO c 7 t))
abbrev L8_0 (c : Dev nD) (t : Fin (cfgM m hO).N) : FVec Ideal S1x128x128 .f32 := View.readAt (Elt Ideal) (ms0_8 m hO t).view { off := ![0, 0, 0], size := ![1, 128, 128], stride := ![1, 2, 1], inb := inb_S1x256x128_S1x128x128_0_0_0_s_1_2_1 } ((hs0_8 m hO t).unread (iblk m hO c 8 t))
abbrev L9_0 (c : Dev nD) (t : Fin (cfgM m hO).N) : FVec Ideal S1x128x128 .f32 := View.readAt (Elt Ideal) (ms0_9 m hO t).view { off := ![0, 0, 0], size := ![1, 128, 128], stride := ![1, 2, 1], inb := inb_S1x256x128_S1x128x128_0_0_0_s_1_2_1 } ((hs0_9 m hO t).unread (iblk m hO c 9 t))
abbrev L10_0 (c : Dev nD) (t : Fin (cfgM m hO).N) : FVec Ideal S1x128x128 .f32 := View.readAt (Elt Ideal) (ms0_10 m hO t).view { off := ![0, 0, 0], size := ![1, 128, 128], stride := ![1, 2, 1], inb := inb_S1x256x128_S1x128x128_0_0_0_s_1_2_1 } ((hs0_10 m hO t).unread (iblk m hO c 10 t))
abbrev L11_0 (c : Dev nD) (t : Fin (cfgM m hO).N) : FVec Ideal S1x128x128 .f32 := View.readAt (Elt Ideal) (ms0_11 m hO t).view { off := ![0, 0, 0], size := ![1, 128, 128], stride := ![1, 2, 1], inb := inb_S1x256x128_S1x128x128_0_0_0_s_1_2_1 } ((hs0_11 m hO t).unread (iblk m hO c 11 t))
abbrev L12_0 (c : Dev nD) (t : Fin (cfgM m hO).N) : FVec Ideal S1x128x128 .f32 := View.readAt (Elt Ideal) (ms0_12 m hO t).view { off := ![0, 0, 0], size := ![1, 128, 128], stride := ![1, 2, 1], inb := inb_S1x256x128_S1x128x128_0_0_0_s_1_2_1 } ((hs0_12 m hO t).unread (iblk m hO c 12 t))
abbrev L13_0 (c : Dev nD) (t : Fin (cfgM m hO).N) : FVec Ideal S1x128x128 .f32 := View.readAt (Elt Ideal) (ms0_13 m hO t).view { off := ![0, 0, 0], size := ![1, 128, 128], stride := ![1, 2, 1], inb := inb_S1x256x128_S1x128x128_0_0_0_s_1_2_1 } ((hs0_13 m hO t).unread (iblk m hO c 13 t))
abbrev L14_0 (c : Dev nD) (t : Fin (cfgM m hO).N) : FVec Ideal S1x128x128 .f32 := View.readAt (Elt Ideal) (ms0_14 m hO t).view { off := ![0, 0, 0], size := ![1, 128, 128], stride := ![1, 2, 1], inb := inb_S1x256x128_S1x128x128_0_0_0_s_1_2_1 } ((hs0_14 m hO t).unread (iblk m hO c 14 t))
abbrev L15_0 (c : Dev nD) (t : Fin (cfgM m hO).N) : FVec Ideal S1x128x128 .f32 := View.readAt (Elt Ideal) (ms0_15 m hO t).view { off := ![0, 0, 0], size := ![1, 128, 128], stride := ![1, 2, 1], inb := inb_S1x256x128_S1x128x128_0_0_0_s_1_2_1 } ((hs0_15 m hO t).unread (iblk m hO c 15 t))
abbrev L16_0 (c : Dev nD) (t : Fin (cfgM m hO).N) : FVec Ideal S1x128x128 .f32 := View.readAt (Elt Ideal) (ms0_16 m hO t).view { off := ![0, 0, 0], size := ![1, 128, 128], stride := ![1, 2, 1], inb := inb_S1x256x128_S1x128x128_0_0_0_s_1_2_1 } ((hs0_16 m hO t).unread (iblk m hO c 16 t))
abbrev L17_0 (c : Dev nD) (t : Fin (cfgM m hO).N) : FVec Ideal S1x128x128 .f32 := View.readAt (Elt Ideal) (ms0_17 m hO t).view { off := ![0, 0, 0], size := ![1, 128, 128], stride := ![1, 2, 1], inb := inb_S1x256x128_S1x128x128_0_0_0_s_1_2_1 } ((hs0_17 m hO t).unread (iblk m hO c 17 t))
abbrev L18_0 (c : Dev nD) (t : Fin (cfgM m hO).N) : FVec Ideal S1x128x128 .f32 := View.readAt (Elt Ideal) (ms0_18 m hO t).view { off := ![0, 0, 0], size := ![1, 128, 128], stride := ![1, 2, 1], inb := inb_S1x256x128_S1x128x128_0_0_0_s_1_2_1 } ((hs0_18 m hO t).unread (iblk m hO c 18 t))
abbrev L19_0 (c : Dev nD) (t : Fin (cfgM m hO).N) : FVec Ideal S1x128x128 .f32 := View.readAt (Elt Ideal) (ms0_19 m hO t).view { off := ![0, 0, 0], size := ![1, 128, 128], stride := ![1, 2, 1], inb := inb_S1x256x128_S1x128x128_0_0_0_s_1_2_1 } ((hs0_19 m hO t).unread (iblk m hO c 19 t))
abbrev L20_0 (c : Dev nD) (t : Fin (cfgM m hO).N) : FVec Ideal S1x128x128 .f32 := View.readAt (Elt Ideal) (ms0_20 m hO t).view { off := ![0, 0, 0], size := ![1, 128, 128], stride := ![1, 2, 1], inb := inb_S1x256x128_S1x128x128_0_0_0_s_1_2_1 } ((hs0_20 m hO t).unread (iblk m hO c 20 t))
abbrev L21_0 (c : Dev nD) (t : Fin (cfgM m hO).N) : FVec Ideal S1x128x128 .f32 := View.readAt (Elt Ideal) (ms0_21 m hO t).view { off := ![0, 0, 0], size := ![1, 128, 128], stride := ![1, 2, 1], inb := inb_S1x256x128_S1x128x128_0_0_0_s_1_2_1 } ((hs0_21 m hO t).unread (iblk m hO c 21 t))
abbrev L22_0 (c : Dev nD) (t : Fin (cfgM m hO).N) : FVec Ideal S1x128x128 .f32 := View.readAt (Elt Ideal) (ms0_22 m hO t).view { off := ![0, 0, 0], size := ![1, 128, 128], stride := ![1, 2, 1], inb := inb_S1x256x128_S1x128x128_0_0_0_s_1_2_1 } ((hs0_22 m hO t).unread (iblk m hO c 22 t))
abbrev L23_0 (c : Dev nD) (t : Fin (cfgM m hO).N) : FVec Ideal S1x128x128 .f32 := View.readAt (Elt Ideal) (ms0_23 m hO t).view { off := ![0, 0, 0], size := ![1, 128, 128], stride := ![1, 2, 1], inb := inb_S1x256x128_S1x128x128_0_0_0_s_1_2_1 } ((hs0_23 m hO t).unread (iblk m hO c 23 t))
abbrev L24_0 (c : Dev nD) (t : Fin (cfgM m hO).N) : FVec Ideal S1x128x128 .f32 := View.readAt (Elt Ideal) (ms0_24 m hO t).view { off := ![0, 0, 0], size := ![1, 128, 128], stride := ![1, 2, 1], inb := inb_S1x256x128_S1x128x128_0_0_0_s_1_2_1 } ((hs0_24 m hO t).unread (iblk m hO c 24 t))
abbrev L25_0 (c : Dev nD) (t : Fin (cfgM m hO).N) : FVec Ideal S1x128x128 .f32 := View.readAt (Elt Ideal) (ms0_25 m hO t).view { off := ![0, 0, 0], size := ![1, 128, 128], stride := ![1, 2, 1], inb := inb_S1x256x128_S1x128x128_0_0_0_s_1_2_1 } ((hs0_25 m hO t).unread (iblk m hO c 25 t))
abbrev L26_0 (c : Dev nD) (t : Fin (cfgM m hO).N) : FVec Ideal S1x128x128 .f32 := View.readAt (Elt Ideal) (ms0_26 m hO t).view { off := ![0, 0, 0], size := ![1, 128, 128], stride := ![1, 2, 1], inb := inb_S1x256x128_S1x128x128_0_0_0_s_1_2_1 } ((hs0_26 m hO t).unread (iblk m hO c 26 t))
abbrev L27_0 (c : Dev nD) (t : Fin (cfgM m hO).N) : FVec Ideal S1x128x128 .f32 := View.readAt (Elt Ideal) (ms0_27 m hO t).view { off := ![0, 0, 0], size := ![1, 128, 128], stride := ![1, 2, 1], inb := inb_S1x256x128_S1x128x128_0_0_0_s_1_2_1 } ((hs0_27 m hO t).unread (iblk m hO c 27 t))
abbrev L28_0 (c : Dev nD) (t : Fin (cfgM m hO).N) : FVec Ideal S1x128x128 .f32 := View.readAt (Elt Ideal) (ms0_28 m hO t).view { off := ![0, 0, 0], size := ![1, 128, 128], stride := ![1, 2, 1], inb := inb_S1x256x128_S1x128x128_0_0_0_s_1_2_1 } ((hs0_28 m hO t).unread (iblk m hO c 28 t))
abbrev L29_0 (c : Dev nD) (t : Fin (cfgM m hO).N) : FVec Ideal S1x128x128 .f32 := View.readAt (Elt Ideal) (ms0_29 m hO t).view { off := ![0, 0, 0], size := ![1, 128, 128], stride := ![1, 2, 1], inb := inb_S1x256x128_S1x128x128_0_0_0_s_1_2_1 } ((hs0_29 m hO t).unread (iblk m hO c 29 t))
abbrev L30_0 (c : Dev nD) (t : Fin (cfgM m hO).N) : FVec Ideal S1x128x128 .f32 := View.readAt (Elt Ideal) (ms0_30 m hO t).view { off := ![0, 0, 0], size := ![1, 128, 128], stride := ![1, 2, 1], inb := inb_S1x256x128_S1x128x128_0_0_0_s_1_2_1 } ((hs0_30 m hO t).unread (iblk m hO c 30 t))
abbrev L31_0 (c : Dev nD) (t : Fin (cfgM m hO).N) : FVec Ideal S1x128x128 .f32 := View.readAt (Elt Ideal) (ms0_31 m hO t).view { off := ![0, 0, 0], size := ![1, 128, 128], stride := ![1, 2, 1], inb := inb_S1x256x128_S1x128x128_0_0_0_s_1_2_1 } ((hs0_31 m hO t).unread (iblk m hO c 31 t))
abbrev L32_0 (c : Dev nD) (t : Fin (cfgM m hO).N) : FVec Ideal S1x128x128 .f32 := View.readAt (Elt Ideal) (ms0_32 m hO t).view { off := ![0, 0, 0], size := ![1, 128, 128], stride := ![1, 2, 1], inb := inb_S1x256x128_S1x128x128_0_0_0_s_1_2_1 } ((hs0_32 m hO t).unread (iblk m hO c 32 t))
abbrev L33_0 (c : Dev nD) (t : Fin (cfgM m hO).N) : FVec Ideal S1x128x128 .f32 := View.readAt (Elt Ideal) (ms0_33 m hO t).view { off := ![0, 0, 0], size := ![1, 128, 128], stride := ![1, 2, 1], inb := inb_S1x256x128_S1x128x128_0_0_0_s_1_2_1 } ((hs0_33 m hO t).unread (iblk m hO c 33 t))
abbrev L34_0 (c : Dev nD) (t : Fin (cfgM m hO).N) : FVec Ideal S1x128x128 .f32 := View.readAt (Elt Ideal) (ms0_34 m hO t).view { off := ![0, 0, 0], size := ![1, 128, 128], stride := ![1, 2, 1], inb := inb_S1x256x128_S1x128x128_0_0_0_s_1_2_1 } ((hs0_34 m hO t).unread (iblk m hO c 34 t))
abbrev L35_0 (c : Dev nD) (t : Fin (cfgM m hO).N) : FVec Ideal S1x128x128 .f32 := View.readAt (Elt Ideal) (ms0_35 m hO t).view { off := ![0, 0, 0], size := ![1, 128, 128], stride := ![1, 2, 1], inb := inb_S1x256x128_S1x128x128_0_0_0_s_1_2_1 } ((hs0_35 m hO t).unread (iblk m hO c 35 t))
abbrev L2_1 (c : Dev nD) (t : Fin (cfgM m hO).N) : FVec Ideal S1x8x128 .f32 := View.readAt (Elt Ideal) (ms0_2 m hO t).view (Rect.unit (s := S1x8x256) ![0, 0, 128] S1x8x128.size inb_S1x8x256_S1x8x128_0_0_128).toLoadRect ((hs0_2 m hO t).unread (iblk m hO c 2 t))
abbrev L3_1 (c : Dev nD) (t : Fin (cfgM m hO).N) : FVec Ideal S1x8x128 .f32 := View.readAt (Elt Ideal) (ms0_3 m hO t).view (Rect.unit (s := S1x8x256) ![0, 0, 128] S1x8x128.size inb_S1x8x256_S1x8x128_0_0_128).toLoadRect ((hs0_3 m hO t).unread (iblk m hO c 3 t))
abbrev L4_1 (c : Dev nD) (t : Fin (cfgM m hO).N) : FVec Ideal S1x128x128 .f32 := View.readAt (Elt Ideal) (ms0_4 m hO t).view { off := ![0, 1, 0], size := ![1, 128, 128], stride := ![1, 2, 1], inb := inb_S1x256x128_S1x128x128_0_1_0_s_1_2_1 } ((hs0_4 m hO t).unread (iblk m hO c 4 t))
abbrev L5_1 (c : Dev nD) (t : Fin (cfgM m hO).N) : FVec Ideal S1x128x128 .f32 := View.readAt (Elt Ideal) (ms0_5 m hO t).view { off := ![0, 1, 0], size := ![1, 128, 128], stride := ![1, 2, 1], inb := inb_S1x256x128_S1x128x128_0_1_0_s_1_2_1 } ((hs0_5 m hO t).unread (iblk m hO c 5 t))
abbrev L6_1 (c : Dev nD) (t : Fin (cfgM m hO).N) : FVec Ideal S1x128x128 .f32 := View.readAt (Elt Ideal) (ms0_6 m hO t).view { off := ![0, 1, 0], size := ![1, 128, 128], stride := ![1, 2, 1], inb := inb_S1x256x128_S1x128x128_0_1_0_s_1_2_1 } ((hs0_6 m hO t).unread (iblk m hO c 6 t))
abbrev L7_1 (c : Dev nD) (t : Fin (cfgM m hO).N) : FVec Ideal S1x128x128 .f32 := View.readAt (Elt Ideal) (ms0_7 m hO t).view { off := ![0, 1, 0], size := ![1, 128, 128], stride := ![1, 2, 1], inb := inb_S1x256x128_S1x128x128_0_1_0_s_1_2_1 } ((hs0_7 m hO t).unread (iblk m hO c 7 t))
abbrev L8_1 (c : Dev nD) (t : Fin (cfgM m hO).N) : FVec Ideal S1x128x128 .f32 := View.readAt (Elt Ideal) (ms0_8 m hO t).view { off := ![0, 1, 0], size := ![1, 128, 128], stride := ![1, 2, 1], inb := inb_S1x256x128_S1x128x128_0_1_0_s_1_2_1 } ((hs0_8 m hO t).unread (iblk m hO c 8 t))
abbrev L9_1 (c : Dev nD) (t : Fin (cfgM m hO).N) : FVec Ideal S1x128x128 .f32 := View.readAt (Elt Ideal) (ms0_9 m hO t).view { off := ![0, 1, 0], size := ![1, 128, 128], stride := ![1, 2, 1], inb := inb_S1x256x128_S1x128x128_0_1_0_s_1_2_1 } ((hs0_9 m hO t).unread (iblk m hO c 9 t))
abbrev L10_1 (c : Dev nD) (t : Fin (cfgM m hO).N) : FVec Ideal S1x128x128 .f32 := View.readAt (Elt Ideal) (ms0_10 m hO t).view { off := ![0, 1, 0], size := ![1, 128, 128], stride := ![1, 2, 1], inb := inb_S1x256x128_S1x128x128_0_1_0_s_1_2_1 } ((hs0_10 m hO t).unread (iblk m hO c 10 t))
abbrev L11_1 (c : Dev nD) (t : Fin (cfgM m hO).N) : FVec Ideal S1x128x128 .f32 := View.readAt (Elt Ideal) (ms0_11 m hO t).view { off := ![0, 1, 0], size := ![1, 128, 128], stride := ![1, 2, 1], inb := inb_S1x256x128_S1x128x128_0_1_0_s_1_2_1 } ((hs0_11 m hO t).unread (iblk m hO c 11 t))
abbrev L12_1 (c : Dev nD) (t : Fin (cfgM m hO).N) : FVec Ideal S1x128x128 .f32 := View.readAt (Elt Ideal) (ms0_12 m hO t).view { off := ![0, 1, 0], size := ![1, 128, 128], stride := ![1, 2, 1], inb := inb_S1x256x128_S1x128x128_0_1_0_s_1_2_1 } ((hs0_12 m hO t).unread (iblk m hO c 12 t))
abbrev L13_1 (c : Dev nD) (t : Fin (cfgM m hO).N) : FVec Ideal S1x128x128 .f32 := View.readAt (Elt Ideal) (ms0_13 m hO t).view { off := ![0, 1, 0], size := ![1, 128, 128], stride := ![1, 2, 1], inb := inb_S1x256x128_S1x128x128_0_1_0_s_1_2_1 } ((hs0_13 m hO t).unread (iblk m hO c 13 t))
abbrev L14_1 (c : Dev nD) (t : Fin (cfgM m hO).N) : FVec Ideal S1x128x128 .f32 := View.readAt (Elt Ideal) (ms0_14 m hO t).view { off := ![0, 1, 0], size := ![1, 128, 128], stride := ![1, 2, 1], inb := inb_S1x256x128_S1x128x128_0_1_0_s_1_2_1 } ((hs0_14 m hO t).unread (iblk m hO c 14 t))
abbrev L15_1 (c : Dev nD) (t : Fin (cfgM m hO).N) : FVec Ideal S1x128x128 .f32 := View.readAt (Elt Ideal) (ms0_15 m hO t).view { off := ![0, 1, 0], size := ![1, 128, 128], stride := ![1, 2, 1], inb := inb_S1x256x128_S1x128x128_0_1_0_s_1_2_1 } ((hs0_15 m hO t).unread (iblk m hO c 15 t))
abbrev L16_1 (c : Dev nD) (t : Fin (cfgM m hO).N) : FVec Ideal S1x128x128 .f32 := View.readAt (Elt Ideal) (ms0_16 m hO t).view { off := ![0, 1, 0], size := ![1, 128, 128], stride := ![1, 2, 1], inb := inb_S1x256x128_S1x128x128_0_1_0_s_1_2_1 } ((hs0_16 m hO t).unread (iblk m hO c 16 t))
abbrev L17_1 (c : Dev nD) (t : Fin (cfgM m hO).N) : FVec Ideal S1x128x128 .f32 := View.readAt (Elt Ideal) (ms0_17 m hO t).view { off := ![0, 1, 0], size := ![1, 128, 128], stride := ![1, 2, 1], inb := inb_S1x256x128_S1x128x128_0_1_0_s_1_2_1 } ((hs0_17 m hO t).unread (iblk m hO c 17 t))
abbrev L18_1 (c : Dev nD) (t : Fin (cfgM m hO).N) : FVec Ideal S1x128x128 .f32 := View.readAt (Elt Ideal) (ms0_18 m hO t).view { off := ![0, 1, 0], size := ![1, 128, 128], stride := ![1, 2, 1], inb := inb_S1x256x128_S1x128x128_0_1_0_s_1_2_1 } ((hs0_18 m hO t).unread (iblk m hO c 18 t))
abbrev L19_1 (c : Dev nD) (t : Fin (cfgM m hO).N) : FVec Ideal S1x128x128 .f32 := View.readAt (Elt Ideal) (ms0_19 m hO t).view { off := ![0, 1, 0], size := ![1, 128, 128], stride := ![1, 2, 1], inb := inb_S1x256x128_S1x128x128_0_1_0_s_1_2_1 } ((hs0_19 m hO t).unread (iblk m hO c 19 t))
abbrev L20_1 (c : Dev nD) (t : Fin (cfgM m hO).N) : FVec Ideal S1x128x128 .f32 := View.readAt (Elt Ideal) (ms0_20 m hO t).view { off := ![0, 1, 0], size := ![1, 128, 128], stride := ![1, 2, 1], inb := inb_S1x256x128_S1x128x128_0_1_0_s_1_2_1 } ((hs0_20 m hO t).unread (iblk m hO c 20 t))
abbrev L21_1 (c : Dev nD) (t : Fin (cfgM m hO).N) : FVec Ideal S1x128x128 .f32 := View.readAt (Elt Ideal) (ms0_21 m hO t).view { off := ![0, 1, 0], size := ![1, 128, 128], stride := ![1, 2, 1], inb := inb_S1x256x128_S1x128x128_0_1_0_s_1_2_1 } ((hs0_21 m hO t).unread (iblk m hO c 21 t))
abbrev L22_1 (c : Dev nD) (t : Fin (cfgM m hO).N) : FVec Ideal S1x128x128 .f32 := View.readAt (Elt Ideal) (ms0_22 m hO t).view { off := ![0, 1, 0], size := ![1, 128, 128], stride := ![1, 2, 1], inb := inb_S1x256x128_S1x128x128_0_1_0_s_1_2_1 } ((hs0_22 m hO t).unread (iblk m hO c 22 t))
abbrev L23_1 (c : Dev nD) (t : Fin (cfgM m hO).N) : FVec Ideal S1x128x128 .f32 := View.readAt (Elt Ideal) (ms0_23 m hO t).view { off := ![0, 1, 0], size := ![1, 128, 128], stride := ![1, 2, 1], inb := inb_S1x256x128_S1x128x128_0_1_0_s_1_2_1 } ((hs0_23 m hO t).unread (iblk m hO c 23 t))
abbrev L24_1 (c : Dev nD) (t : Fin (cfgM m hO).N) : FVec Ideal S1x128x128 .f32 := View.readAt (Elt Ideal) (ms0_24 m hO t).view { off := ![0, 1, 0], size := ![1, 128, 128], stride := ![1, 2, 1], inb := inb_S1x256x128_S1x128x128_0_1_0_s_1_2_1 } ((hs0_24 m hO t).unread (iblk m hO c 24 t))
abbrev L25_1 (c : Dev nD) (t : Fin (cfgM m hO).N) : FVec Ideal S1x128x128 .f32 := View.readAt (Elt Ideal) (ms0_25 m hO t).view { off := ![0, 1, 0], size := ![1, 128, 128], stride := ![1, 2, 1], inb := inb_S1x256x128_S1x128x128_0_1_0_s_1_2_1 } ((hs0_25 m hO t).unread (iblk m hO c 25 t))
abbrev L26_1 (c : Dev nD) (t : Fin (cfgM m hO).N) : FVec Ideal S1x128x128 .f32 := View.readAt (Elt Ideal) (ms0_26 m hO t).view { off := ![0, 1, 0], size := ![1, 128, 128], stride := ![1, 2, 1], inb := inb_S1x256x128_S1x128x128_0_1_0_s_1_2_1 } ((hs0_26 m hO t).unread (iblk m hO c 26 t))
abbrev L27_1 (c : Dev nD) (t : Fin (cfgM m hO).N) : FVec Ideal S1x128x128 .f32 := View.readAt (Elt Ideal) (ms0_27 m hO t).view { off := ![0, 1, 0], size := ![1, 128, 128], stride := ![1, 2, 1], inb := inb_S1x256x128_S1x128x128_0_1_0_s_1_2_1 } ((hs0_27 m hO t).unread (iblk m hO c 27 t))
abbrev L28_1 (c : Dev nD) (t : Fin (cfgM m hO).N) : FVec Ideal S1x128x128 .f32 := View.readAt (Elt Ideal) (ms0_28 m hO t).view { off := ![0, 1, 0], size := ![1, 128, 128], stride := ![1, 2, 1], inb := inb_S1x256x128_S1x128x128_0_1_0_s_1_2_1 } ((hs0_28 m hO t).unread (iblk m hO c 28 t))
abbrev L29_1 (c : Dev nD) (t : Fin (cfgM m hO).N) : FVec Ideal S1x128x128 .f32 := View.readAt (Elt Ideal) (ms0_29 m hO t).view { off := ![0, 1, 0], size := ![1, 128, 128], stride := ![1, 2, 1], inb := inb_S1x256x128_S1x128x128_0_1_0_s_1_2_1 } ((hs0_29 m hO t).unread (iblk m hO c 29 t))
abbrev L30_1 (c : Dev nD) (t : Fin (cfgM m hO).N) : FVec Ideal S1x128x128 .f32 := View.readAt (Elt Ideal) (ms0_30 m hO t).view { off := ![0, 1, 0], size := ![1, 128, 128], stride := ![1, 2, 1], inb := inb_S1x256x128_S1x128x128_0_1_0_s_1_2_1 } ((hs0_30 m hO t).unread (iblk m hO c 30 t))
abbrev L31_1 (c : Dev nD) (t : Fin (cfgM m hO).N) : FVec Ideal S1x128x128 .f32 := View.readAt (Elt Ideal) (ms0_31 m hO t).view { off := ![0, 1, 0], size := ![1, 128, 128], stride := ![1, 2, 1], inb := inb_S1x256x128_S1x128x128_0_1_0_s_1_2_1 } ((hs0_31 m hO t).unread (iblk m hO c 31 t))
abbrev L32_1 (c : Dev nD) (t : Fin (cfgM m hO).N) : FVec Ideal S1x128x128 .f32 := View.readAt (Elt Ideal) (ms0_32 m hO t).view { off := ![0, 1, 0], size := ![1, 128, 128], stride := ![1, 2, 1], inb := inb_S1x256x128_S1x128x128_0_1_0_s_1_2_1 } ((hs0_32 m hO t).unread (iblk m hO c 32 t))
abbrev L33_1 (c : Dev nD) (t : Fin (cfgM m hO).N) : FVec Ideal S1x128x128 .f32 := View.readAt (Elt Ideal) (ms0_33 m hO t).view { off := ![0, 1, 0], size := ![1, 128, 128], stride := ![1, 2, 1], inb := inb_S1x256x128_S1x128x128_0_1_0_s_1_2_1 } ((hs0_33 m hO t).unread (iblk m hO c 33 t))
abbrev L34_1 (c : Dev nD) (t : Fin (cfgM m hO).N) : FVec Ideal S1x128x128 .f32 := View.readAt (Elt Ideal) (ms0_34 m hO t).view { off := ![0, 1, 0], size := ![1, 128, 128], stride := ![1, 2, 1], inb := inb_S1x256x128_S1x128x128_0_1_0_s_1_2_1 } ((hs0_34 m hO t).unread (iblk m hO c 34 t))
abbrev L35_1 (c : Dev nD) (t : Fin (cfgM m hO).N) : FVec Ideal S1x128x128 .f32 := View.readAt (Elt Ideal) (ms0_35 m hO t).view { off := ![0, 1, 0], size := ![1, 128, 128], stride := ![1, 2, 1], inb := inb_S1x256x128_S1x128x128_0_1_0_s_1_2_1 } ((hs0_35 m hO t).unread (iblk m hO c 35 t))
include hp in
theorem L4_0_eq (c : Dev nD) (t : Fin (cfgM m hO).N) : sq (L4_0 m hO c t) = tiles (m ((0 : Dev nD).tc.loc main_arg0)) (m ((c.tc : Thread nD τ).loc main_arg3)) (m ((c.tc : Thread nD τ).loc main_arg5)) (row m hO t) 0 0 :=
  load_eq (m ((0 : Dev nD).tc.loc main_arg0)) (m ((c.tc : Thread nD τ).loc main_arg3)) (m ((c.tc : Thread nD τ).loc main_arg5)) (row m hO t) 0 (iblk m hO c 4 t) 0 (by decide) (iblk4 m hO hp c t) _ RK0.idx (fun y => (hs0_4 m hO t).readAt_unread (Val := Elt Ideal) (iblk m hO c 4 t) RK0 y) RK0_1 RK0_2
include hp in
theorem L5_0_eq (c : Dev nD) (t : Fin (cfgM m hO).N) : sq (L5_0 m hO c t) = tiles (m ((0 : Dev nD).tc.loc main_arg0)) (m ((c.tc : Thread nD τ).loc main_arg3)) (m ((c.tc : Thread nD τ).loc main_arg5)) (row m hO t) 0 1 :=
  load_eq (m ((0 : Dev nD).tc.loc main_arg0)) (m ((c.tc : Thread nD τ).loc main_arg3)) (m ((c.tc : Thread nD τ).loc main_arg5)) (row m hO t) 0 (iblk m hO c 5 t) 1 (by decide) (iblk5 m hO hp c t) _ RK0.idx (fun y => (hs0_5 m hO t).readAt_unread (Val := Elt Ideal) (iblk m hO c 5 t) RK0 y) RK0_1 RK0_2
include hp in
theorem L6_0_eq (c : Dev nD) (t : Fin (cfgM m hO).N) : sq (L6_0 m hO c t) = tiles (m ((0 : Dev nD).tc.loc main_arg0)) (m ((c.tc : Thread nD τ).loc main_arg3)) (m ((c.tc : Thread nD τ).loc main_arg5)) (row m hO t) 0 2 :=
  load_eq (m ((0 : Dev nD).tc.loc main_arg0)) (m ((c.tc : Thread nD τ).loc main_arg3)) (m ((c.tc : Thread nD τ).loc main_arg5)) (row m hO t) 0 (iblk m hO c 6 t) 2 (by decide) (iblk6 m hO hp c t) _ RK0.idx (fun y => (hs0_6 m hO t).readAt_unread (Val := Elt Ideal) (iblk m hO c 6 t) RK0 y) RK0_1 RK0_2
include hp in
theorem L7_0_eq (c : Dev nD) (t : Fin (cfgM m hO).N) : sq (L7_0 m hO c t) = tiles (m ((0 : Dev nD).tc.loc main_arg0)) (m ((c.tc : Thread nD τ).loc main_arg3)) (m ((c.tc : Thread nD τ).loc main_arg5)) (row m hO t) 0 3 :=
  load_eq (m ((0 : Dev nD).tc.loc main_arg0)) (m ((c.tc : Thread nD τ).loc main_arg3)) (m ((c.tc : Thread nD τ).loc main_arg5)) (row m hO t) 0 (iblk m hO c 7 t) 3 (by decide) (iblk7 m hO hp c t) _ RK0.idx (fun y => (hs0_7 m hO t).readAt_unread (Val := Elt Ideal) (iblk m hO c 7 t) RK0 y) RK0_1 RK0_2
include hp in
theorem L8_0_eq (c : Dev nD) (t : Fin (cfgM m hO).N) : sq (L8_0 m hO c t) = tiles (m ((0 : Dev nD).tc.loc main_arg0)) (m ((c.tc : Thread nD τ).loc main_arg3)) (m ((c.tc : Thread nD τ).loc main_arg5)) (row m hO t) 0 4 :=
  load_eq (m ((0 : Dev nD).tc.loc main_arg0)) (m ((c.tc : Thread nD τ).loc main_arg3)) (m ((c.tc : Thread nD τ).loc main_arg5)) (row m hO t) 0 (iblk m hO c 8 t) 4 (by decide) (iblk8 m hO hp c t) _ RK0.idx (fun y => (hs0_8 m hO t).readAt_unread (Val := Elt Ideal) (iblk m hO c 8 t) RK0 y) RK0_1 RK0_2
include hp in
theorem L9_0_eq (c : Dev nD) (t : Fin (cfgM m hO).N) : sq (L9_0 m hO c t) = tiles (m ((0 : Dev nD).tc.loc main_arg0)) (m ((c.tc : Thread nD τ).loc main_arg3)) (m ((c.tc : Thread nD τ).loc main_arg5)) (row m hO t) 0 5 :=
  load_eq (m ((0 : Dev nD).tc.loc main_arg0)) (m ((c.tc : Thread nD τ).loc main_arg3)) (m ((c.tc : Thread nD τ).loc main_arg5)) (row m hO t) 0 (iblk m hO c 9 t) 5 (by decide) (iblk9 m hO hp c t) _ RK0.idx (fun y => (hs0_9 m hO t).readAt_unread (Val := Elt Ideal) (iblk m hO c 9 t) RK0 y) RK0_1 RK0_2
include hp in
theorem L10_0_eq (c : Dev nD) (t : Fin (cfgM m hO).N) : sq (L10_0 m hO c t) = tiles (m ((0 : Dev nD).tc.loc main_arg0)) (m ((c.tc : Thread nD τ).loc main_arg3)) (m ((c.tc : Thread nD τ).loc main_arg5)) (row m hO t) 0 6 :=
  load_eq (m ((0 : Dev nD).tc.loc main_arg0)) (m ((c.tc : Thread nD τ).loc main_arg3)) (m ((c.tc : Thread nD τ).loc main_arg5)) (row m hO t) 0 (iblk m hO c 10 t) 6 (by decide) (iblk10 m hO hp c t) _ RK0.idx (fun y => (hs0_10 m hO t).readAt_unread (Val := Elt Ideal) (iblk m hO c 10 t) RK0 y) RK0_1 RK0_2
include hp in
theorem L11_0_eq (c : Dev nD) (t : Fin (cfgM m hO).N) : sq (L11_0 m hO c t) = tiles (m ((0 : Dev nD).tc.loc main_arg0)) (m ((c.tc : Thread nD τ).loc main_arg3)) (m ((c.tc : Thread nD τ).loc main_arg5)) (row m hO t) 0 7 :=
  load_eq (m ((0 : Dev nD).tc.loc main_arg0)) (m ((c.tc : Thread nD τ).loc main_arg3)) (m ((c.tc : Thread nD τ).loc main_arg5)) (row m hO t) 0 (iblk m hO c 11 t) 7 (by decide) (iblk11 m hO hp c t) _ RK0.idx (fun y => (hs0_11 m hO t).readAt_unread (Val := Elt Ideal) (iblk m hO c 11 t) RK0 y) RK0_1 RK0_2
include hp in
theorem L12_0_eq (c : Dev nD) (t : Fin (cfgM m hO).N) : sq (L12_0 m hO c t) = tiles (m ((0 : Dev nD).tc.loc main_arg0)) (m ((c.tc : Thread nD τ).loc main_arg3)) (m ((c.tc : Thread nD τ).loc main_arg5)) (row m hO t) 0 8 :=
  load_eq (m ((0 : Dev nD).tc.loc main_arg0)) (m ((c.tc : Thread nD τ).loc main_arg3)) (m ((c.tc : Thread nD τ).loc main_arg5)) (row m hO t) 0 (iblk m hO c 12 t) 8 (by decide) (iblk12 m hO hp c t) _ RK0.idx (fun y => (hs0_12 m hO t).readAt_unread (Val := Elt Ideal) (iblk m hO c 12 t) RK0 y) RK0_1 RK0_2
include hp in
theorem L13_0_eq (c : Dev nD) (t : Fin (cfgM m hO).N) : sq (L13_0 m hO c t) = tiles (m ((0 : Dev nD).tc.loc main_arg0)) (m ((c.tc : Thread nD τ).loc main_arg3)) (m ((c.tc : Thread nD τ).loc main_arg5)) (row m hO t) 0 9 :=
  load_eq (m ((0 : Dev nD).tc.loc main_arg0)) (m ((c.tc : Thread nD τ).loc main_arg3)) (m ((c.tc : Thread nD τ).loc main_arg5)) (row m hO t) 0 (iblk m hO c 13 t) 9 (by decide) (iblk13 m hO hp c t) _ RK0.idx (fun y => (hs0_13 m hO t).readAt_unread (Val := Elt Ideal) (iblk m hO c 13 t) RK0 y) RK0_1 RK0_2
include hp in
theorem L14_0_eq (c : Dev nD) (t : Fin (cfgM m hO).N) : sq (L14_0 m hO c t) = tiles (m ((0 : Dev nD).tc.loc main_arg0)) (m ((c.tc : Thread nD τ).loc main_arg3)) (m ((c.tc : Thread nD τ).loc main_arg5)) (row m hO t) 0 10 :=
  load_eq (m ((0 : Dev nD).tc.loc main_arg0)) (m ((c.tc : Thread nD τ).loc main_arg3)) (m ((c.tc : Thread nD τ).loc main_arg5)) (row m hO t) 0 (iblk m hO c 14 t) 10 (by decide) (iblk14 m hO hp c t) _ RK0.idx (fun y => (hs0_14 m hO t).readAt_unread (Val := Elt Ideal) (iblk m hO c 14 t) RK0 y) RK0_1 RK0_2
include hp in
theorem L15_0_eq (c : Dev nD) (t : Fin (cfgM m hO).N) : sq (L15_0 m hO c t) = tiles (m ((0 : Dev nD).tc.loc main_arg0)) (m ((c.tc : Thread nD τ).loc main_arg3)) (m ((c.tc : Thread nD τ).loc main_arg5)) (row m hO t) 0 11 :=
  load_eq (m ((0 : Dev nD).tc.loc main_arg0)) (m ((c.tc : Thread nD τ).loc main_arg3)) (m ((c.tc : Thread nD τ).loc main_arg5)) (row m hO t) 0 (iblk m hO c 15 t) 11 (by decide) (iblk15 m hO hp c t) _ RK0.idx (fun y => (hs0_15 m hO t).readAt_unread (Val := Elt Ideal) (iblk m hO c 15 t) RK0 y) RK0_1 RK0_2
include hp in
theorem L16_0_eq (c : Dev nD) (t : Fin (cfgM m hO).N) : sq (L16_0 m hO c t) = tiles (m ((0 : Dev nD).tc.loc main_arg0)) (m ((c.tc : Thread nD τ).loc main_arg3)) (m ((c.tc : Thread nD τ).loc main_arg5)) (row m hO t) 0 12 :=
  load_eq (m ((0 : Dev nD).tc.loc main_arg0)) (m ((c.tc : Thread nD τ).loc main_arg3)) (m ((c.tc : Thread nD τ).loc main_arg5)) (row m hO t) 0 (iblk m hO c 16 t) 12 (by decide) (iblk16 m hO hp c t) _ RK0.idx (fun y => (hs0_16 m hO t).readAt_unread (Val := Elt Ideal) (iblk m hO c 16 t) RK0 y) RK0_1 RK0_2
include hp in
theorem L17_0_eq (c : Dev nD) (t : Fin (cfgM m hO).N) : sq (L17_0 m hO c t) = tiles (m ((0 : Dev nD).tc.loc main_arg0)) (m ((c.tc : Thread nD τ).loc main_arg3)) (m ((c.tc : Thread nD τ).loc main_arg5)) (row m hO t) 0 13 :=
  load_eq (m ((0 : Dev nD).tc.loc main_arg0)) (m ((c.tc : Thread nD τ).loc main_arg3)) (m ((c.tc : Thread nD τ).loc main_arg5)) (row m hO t) 0 (iblk m hO c 17 t) 13 (by decide) (iblk17 m hO hp c t) _ RK0.idx (fun y => (hs0_17 m hO t).readAt_unread (Val := Elt Ideal) (iblk m hO c 17 t) RK0 y) RK0_1 RK0_2
include hp in
theorem L18_0_eq (c : Dev nD) (t : Fin (cfgM m hO).N) : sq (L18_0 m hO c t) = tiles (m ((0 : Dev nD).tc.loc main_arg0)) (m ((c.tc : Thread nD τ).loc main_arg3)) (m ((c.tc : Thread nD τ).loc main_arg5)) (row m hO t) 0 14 :=
  load_eq (m ((0 : Dev nD).tc.loc main_arg0)) (m ((c.tc : Thread nD τ).loc main_arg3)) (m ((c.tc : Thread nD τ).loc main_arg5)) (row m hO t) 0 (iblk m hO c 18 t) 14 (by decide) (iblk18 m hO hp c t) _ RK0.idx (fun y => (hs0_18 m hO t).readAt_unread (Val := Elt Ideal) (iblk m hO c 18 t) RK0 y) RK0_1 RK0_2
include hp in
theorem L19_0_eq (c : Dev nD) (t : Fin (cfgM m hO).N) : sq (L19_0 m hO c t) = tiles (m ((0 : Dev nD).tc.loc main_arg0)) (m ((c.tc : Thread nD τ).loc main_arg3)) (m ((c.tc : Thread nD τ).loc main_arg5)) (row m hO t) 0 15 :=
  load_eq (m ((0 : Dev nD).tc.loc main_arg0)) (m ((c.tc : Thread nD τ).loc main_arg3)) (m ((c.tc : Thread nD τ).loc main_arg5)) (row m hO t) 0 (iblk m hO c 19 t) 15 (by decide) (iblk19 m hO hp c t) _ RK0.idx (fun y => (hs0_19 m hO t).readAt_unread (Val := Elt Ideal) (iblk m hO c 19 t) RK0 y) RK0_1 RK0_2
include hp in
theorem L20_0_eq (c : Dev nD) (t : Fin (cfgM m hO).N) : sq (L20_0 m hO c t) = tiles (m ((0 : Dev nD).tc.loc main_arg0)) (m ((c.tc : Thread nD τ).loc main_arg4)) (m ((c.tc : Thread nD τ).loc main_arg6)) (row m hO t) 0 0 :=
  load_eq (m ((0 : Dev nD).tc.loc main_arg0)) (m ((c.tc : Thread nD τ).loc main_arg4)) (m ((c.tc : Thread nD τ).loc main_arg6)) (row m hO t) 0 (iblk m hO c 20 t) 0 (by decide) (iblk20 m hO hp c t) _ RK0.idx (fun y => (hs0_20 m hO t).readAt_unread (Val := Elt Ideal) (iblk m hO c 20 t) RK0 y) RK0_1 RK0_2
include hp in
theorem L21_0_eq (c : Dev nD) (t : Fin (cfgM m hO).N) : sq (L21_0 m hO c t) = tiles (m ((0 : Dev nD).tc.loc main_arg0)) (m ((c.tc : Thread nD τ).loc main_arg4)) (m ((c.tc : Thread nD τ).loc main_arg6)) (row m hO t) 0 1 :=
  load_eq (m ((0 : Dev nD).tc.loc main_arg0)) (m ((c.tc : Thread nD τ).loc main_arg4)) (m ((c.tc : Thread nD τ).loc main_arg6)) (row m hO t) 0 (iblk m hO c 21 t) 1 (by decide) (iblk21 m hO hp c t) _ RK0.idx (fun y => (hs0_21 m hO t).readAt_unread (Val := Elt Ideal) (iblk m hO c 21 t) RK0 y) RK0_1 RK0_2
include hp in
theorem L22_0_eq (c : Dev nD) (t : Fin (cfgM m hO).N) : sq (L22_0 m hO c t) = tiles (m ((0 : Dev nD).tc.loc main_arg0)) (m ((c.tc : Thread nD τ).loc main_arg4)) (m ((c.tc : Thread nD τ).loc main_arg6)) (row m hO t) 0 2 :=
  load_eq (m ((0 : Dev nD).tc.loc main_arg0)) (m ((c.tc : Thread nD τ).loc main_arg4)) (m ((c.tc : Thread nD τ).loc main_arg6)) (row m hO t) 0 (iblk m hO c 22 t) 2 (by decide) (iblk22 m hO hp c t) _ RK0.idx (fun y => (hs0_22 m hO t).readAt_unread (Val := Elt Ideal) (iblk m hO c 22 t) RK0 y) RK0_1 RK0_2
include hp in
theorem L23_0_eq (c : Dev nD) (t : Fin (cfgM m hO).N) : sq (L23_0 m hO c t) = tiles (m ((0 : Dev nD).tc.loc main_arg0)) (m ((c.tc : Thread nD τ).loc main_arg4)) (m ((c.tc : Thread nD τ).loc main_arg6)) (row m hO t) 0 3 :=
  load_eq (m ((0 : Dev nD).tc.loc main_arg0)) (m ((c.tc : Thread nD τ).loc main_arg4)) (m ((c.tc : Thread nD τ).loc main_arg6)) (row m hO t) 0 (iblk m hO c 23 t) 3 (by decide) (iblk23 m hO hp c t) _ RK0.idx (fun y => (hs0_23 m hO t).readAt_unread (Val := Elt Ideal) (iblk m hO c 23 t) RK0 y) RK0_1 RK0_2
include hp in
theorem L24_0_eq (c : Dev nD) (t : Fin (cfgM m hO).N) : sq (L24_0 m hO c t) = tiles (m ((0 : Dev nD).tc.loc main_arg0)) (m ((c.tc : Thread nD τ).loc main_arg4)) (m ((c.tc : Thread nD τ).loc main_arg6)) (row m hO t) 0 4 :=
  load_eq (m ((0 : Dev nD).tc.loc main_arg0)) (m ((c.tc : Thread nD τ).loc main_arg4)) (m ((c.tc : Thread nD τ).loc main_arg6)) (row m hO t) 0 (iblk m hO c 24 t) 4 (by decide) (iblk24 m hO hp c t) _ RK0.idx (fun y => (hs0_24 m hO t).readAt_unread (Val := Elt Ideal) (iblk m hO c 24 t) RK0 y) RK0_1 RK0_2
include hp in
theorem L25_0_eq (c : Dev nD) (t : Fin (cfgM m hO).N) : sq (L25_0 m hO c t) = tiles (m ((0 : Dev nD).tc.loc main_arg0)) (m ((c.tc : Thread nD τ).loc main_arg4)) (m ((c.tc : Thread nD τ).loc main_arg6)) (row m hO t) 0 5 :=
  load_eq (m ((0 : Dev nD).tc.loc main_arg0)) (m ((c.tc : Thread nD τ).loc main_arg4)) (m ((c.tc : Thread nD τ).loc main_arg6)) (row m hO t) 0 (iblk m hO c 25 t) 5 (by decide) (iblk25 m hO hp c t) _ RK0.idx (fun y => (hs0_25 m hO t).readAt_unread (Val := Elt Ideal) (iblk m hO c 25 t) RK0 y) RK0_1 RK0_2
include hp in
theorem L26_0_eq (c : Dev nD) (t : Fin (cfgM m hO).N) : sq (L26_0 m hO c t) = tiles (m ((0 : Dev nD).tc.loc main_arg0)) (m ((c.tc : Thread nD τ).loc main_arg4)) (m ((c.tc : Thread nD τ).loc main_arg6)) (row m hO t) 0 6 :=
  load_eq (m ((0 : Dev nD).tc.loc main_arg0)) (m ((c.tc : Thread nD τ).loc main_arg4)) (m ((c.tc : Thread nD τ).loc main_arg6)) (row m hO t) 0 (iblk m hO c 26 t) 6 (by decide) (iblk26 m hO hp c t) _ RK0.idx (fun y => (hs0_26 m hO t).readAt_unread (Val := Elt Ideal) (iblk m hO c 26 t) RK0 y) RK0_1 RK0_2
include hp in
theorem L27_0_eq (c : Dev nD) (t : Fin (cfgM m hO).N) : sq (L27_0 m hO c t) = tiles (m ((0 : Dev nD).tc.loc main_arg0)) (m ((c.tc : Thread nD τ).loc main_arg4)) (m ((c.tc : Thread nD τ).loc main_arg6)) (row m hO t) 0 7 :=
  load_eq (m ((0 : Dev nD).tc.loc main_arg0)) (m ((c.tc : Thread nD τ).loc main_arg4)) (m ((c.tc : Thread nD τ).loc main_arg6)) (row m hO t) 0 (iblk m hO c 27 t) 7 (by decide) (iblk27 m hO hp c t) _ RK0.idx (fun y => (hs0_27 m hO t).readAt_unread (Val := Elt Ideal) (iblk m hO c 27 t) RK0 y) RK0_1 RK0_2
include hp in
theorem L28_0_eq (c : Dev nD) (t : Fin (cfgM m hO).N) : sq (L28_0 m hO c t) = tiles (m ((0 : Dev nD).tc.loc main_arg0)) (m ((c.tc : Thread nD τ).loc main_arg4)) (m ((c.tc : Thread nD τ).loc main_arg6)) (row m hO t) 0 8 :=
  load_eq (m ((0 : Dev nD).tc.loc main_arg0)) (m ((c.tc : Thread nD τ).loc main_arg4)) (m ((c.tc : Thread nD τ).loc main_arg6)) (row m hO t) 0 (iblk m hO c 28 t) 8 (by decide) (iblk28 m hO hp c t) _ RK0.idx (fun y => (hs0_28 m hO t).readAt_unread (Val := Elt Ideal) (iblk m hO c 28 t) RK0 y) RK0_1 RK0_2
include hp in
theorem L29_0_eq (c : Dev nD) (t : Fin (cfgM m hO).N) : sq (L29_0 m hO c t) = tiles (m ((0 : Dev nD).tc.loc main_arg0)) (m ((c.tc : Thread nD τ).loc main_arg4)) (m ((c.tc : Thread nD τ).loc main_arg6)) (row m hO t) 0 9 :=
  load_eq (m ((0 : Dev nD).tc.loc main_arg0)) (m ((c.tc : Thread nD τ).loc main_arg4)) (m ((c.tc : Thread nD τ).loc main_arg6)) (row m hO t) 0 (iblk m hO c 29 t) 9 (by decide) (iblk29 m hO hp c t) _ RK0.idx (fun y => (hs0_29 m hO t).readAt_unread (Val := Elt Ideal) (iblk m hO c 29 t) RK0 y) RK0_1 RK0_2
include hp in
theorem L30_0_eq (c : Dev nD) (t : Fin (cfgM m hO).N) : sq (L30_0 m hO c t) = tiles (m ((0 : Dev nD).tc.loc main_arg0)) (m ((c.tc : Thread nD τ).loc main_arg4)) (m ((c.tc : Thread nD τ).loc main_arg6)) (row m hO t) 0 10 :=
  load_eq (m ((0 : Dev nD).tc.loc main_arg0)) (m ((c.tc : Thread nD τ).loc main_arg4)) (m ((c.tc : Thread nD τ).loc main_arg6)) (row m hO t) 0 (iblk m hO c 30 t) 10 (by decide) (iblk30 m hO hp c t) _ RK0.idx (fun y => (hs0_30 m hO t).readAt_unread (Val := Elt Ideal) (iblk m hO c 30 t) RK0 y) RK0_1 RK0_2
include hp in
theorem L31_0_eq (c : Dev nD) (t : Fin (cfgM m hO).N) : sq (L31_0 m hO c t) = tiles (m ((0 : Dev nD).tc.loc main_arg0)) (m ((c.tc : Thread nD τ).loc main_arg4)) (m ((c.tc : Thread nD τ).loc main_arg6)) (row m hO t) 0 11 :=
  load_eq (m ((0 : Dev nD).tc.loc main_arg0)) (m ((c.tc : Thread nD τ).loc main_arg4)) (m ((c.tc : Thread nD τ).loc main_arg6)) (row m hO t) 0 (iblk m hO c 31 t) 11 (by decide) (iblk31 m hO hp c t) _ RK0.idx (fun y => (hs0_31 m hO t).readAt_unread (Val := Elt Ideal) (iblk m hO c 31 t) RK0 y) RK0_1 RK0_2
include hp in
theorem L32_0_eq (c : Dev nD) (t : Fin (cfgM m hO).N) : sq (L32_0 m hO c t) = tiles (m ((0 : Dev nD).tc.loc main_arg0)) (m ((c.tc : Thread nD τ).loc main_arg4)) (m ((c.tc : Thread nD τ).loc main_arg6)) (row m hO t) 0 12 :=
  load_eq (m ((0 : Dev nD).tc.loc main_arg0)) (m ((c.tc : Thread nD τ).loc main_arg4)) (m ((c.tc : Thread nD τ).loc main_arg6)) (row m hO t) 0 (iblk m hO c 32 t) 12 (by decide) (iblk32 m hO hp c t) _ RK0.idx (fun y => (hs0_32 m hO t).readAt_unread (Val := Elt Ideal) (iblk m hO c 32 t) RK0 y) RK0_1 RK0_2
include hp in
theorem L33_0_eq (c : Dev nD) (t : Fin (cfgM m hO).N) : sq (L33_0 m hO c t) = tiles (m ((0 : Dev nD).tc.loc main_arg0)) (m ((c.tc : Thread nD τ).loc main_arg4)) (m ((c.tc : Thread nD τ).loc main_arg6)) (row m hO t) 0 13 :=
  load_eq (m ((0 : Dev nD).tc.loc main_arg0)) (m ((c.tc : Thread nD τ).loc main_arg4)) (m ((c.tc : Thread nD τ).loc main_arg6)) (row m hO t) 0 (iblk m hO c 33 t) 13 (by decide) (iblk33 m hO hp c t) _ RK0.idx (fun y => (hs0_33 m hO t).readAt_unread (Val := Elt Ideal) (iblk m hO c 33 t) RK0 y) RK0_1 RK0_2
include hp in
theorem L34_0_eq (c : Dev nD) (t : Fin (cfgM m hO).N) : sq (L34_0 m hO c t) = tiles (m ((0 : Dev nD).tc.loc main_arg0)) (m ((c.tc : Thread nD τ).loc main_arg4)) (m ((c.tc : Thread nD τ).loc main_arg6)) (row m hO t) 0 14 :=
  load_eq (m ((0 : Dev nD).tc.loc main_arg0)) (m ((c.tc : Thread nD τ).loc main_arg4)) (m ((c.tc : Thread nD τ).loc main_arg6)) (row m hO t) 0 (iblk m hO c 34 t) 14 (by decide) (iblk34 m hO hp c t) _ RK0.idx (fun y => (hs0_34 m hO t).readAt_unread (Val := Elt Ideal) (iblk m hO c 34 t) RK0 y) RK0_1 RK0_2
include hp in
theorem L35_0_eq (c : Dev nD) (t : Fin (cfgM m hO).N) : sq (L35_0 m hO c t) = tiles (m ((0 : Dev nD).tc.loc main_arg0)) (m ((c.tc : Thread nD τ).loc main_arg4)) (m ((c.tc : Thread nD τ).loc main_arg6)) (row m hO t) 0 15 :=
  load_eq (m ((0 : Dev nD).tc.loc main_arg0)) (m ((c.tc : Thread nD τ).loc main_arg4)) (m ((c.tc : Thread nD τ).loc main_arg6)) (row m hO t) 0 (iblk m hO c 35 t) 15 (by decide) (iblk35 m hO hp c t) _ RK0.idx (fun y => (hs0_35 m hO t).readAt_unread (Val := Elt Ideal) (iblk m hO c 35 t) RK0 y) RK0_1 RK0_2
include hp in
theorem L4_1_eq (c : Dev nD) (t : Fin (cfgM m hO).N) : sq (L4_1 m hO c t) = tiles (m ((0 : Dev nD).tc.loc main_arg0)) (m ((c.tc : Thread nD τ).loc main_arg3)) (m ((c.tc : Thread nD τ).loc main_arg5)) (row m hO t) 1 0 :=
  load_eq (m ((0 : Dev nD).tc.loc main_arg0)) (m ((c.tc : Thread nD τ).loc main_arg3)) (m ((c.tc : Thread nD τ).loc main_arg5)) (row m hO t) 1 (iblk m hO c 4 t) 0 (by decide) (iblk4 m hO hp c t) _ RK1.idx (fun y => (hs0_4 m hO t).readAt_unread (Val := Elt Ideal) (iblk m hO c 4 t) RK1 y) RK1_1 RK1_2
include hp in
theorem L5_1_eq (c : Dev nD) (t : Fin (cfgM m hO).N) : sq (L5_1 m hO c t) = tiles (m ((0 : Dev nD).tc.loc main_arg0)) (m ((c.tc : Thread nD τ).loc main_arg3)) (m ((c.tc : Thread nD τ).loc main_arg5)) (row m hO t) 1 1 :=
  load_eq (m ((0 : Dev nD).tc.loc main_arg0)) (m ((c.tc : Thread nD τ).loc main_arg3)) (m ((c.tc : Thread nD τ).loc main_arg5)) (row m hO t) 1 (iblk m hO c 5 t) 1 (by decide) (iblk5 m hO hp c t) _ RK1.idx (fun y => (hs0_5 m hO t).readAt_unread (Val := Elt Ideal) (iblk m hO c 5 t) RK1 y) RK1_1 RK1_2
include hp in
theorem L6_1_eq (c : Dev nD) (t : Fin (cfgM m hO).N) : sq (L6_1 m hO c t) = tiles (m ((0 : Dev nD).tc.loc main_arg0)) (m ((c.tc : Thread nD τ).loc main_arg3)) (m ((c.tc : Thread nD τ).loc main_arg5)) (row m hO t) 1 2 :=
  load_eq (m ((0 : Dev nD).tc.loc main_arg0)) (m ((c.tc : Thread nD τ).loc main_arg3)) (m ((c.tc : Thread nD τ).loc main_arg5)) (row m hO t) 1 (iblk m hO c 6 t) 2 (by decide) (iblk6 m hO hp c t) _ RK1.idx (fun y => (hs0_6 m hO t).readAt_unread (Val := Elt Ideal) (iblk m hO c 6 t) RK1 y) RK1_1 RK1_2
include hp in
theorem L7_1_eq (c : Dev nD) (t : Fin (cfgM m hO).N) : sq (L7_1 m hO c t) = tiles (m ((0 : Dev nD).tc.loc main_arg0)) (m ((c.tc : Thread nD τ).loc main_arg3)) (m ((c.tc : Thread nD τ).loc main_arg5)) (row m hO t) 1 3 :=
  load_eq (m ((0 : Dev nD).tc.loc main_arg0)) (m ((c.tc : Thread nD τ).loc main_arg3)) (m ((c.tc : Thread nD τ).loc main_arg5)) (row m hO t) 1 (iblk m hO c 7 t) 3 (by decide) (iblk7 m hO hp c t) _ RK1.idx (fun y => (hs0_7 m hO t).readAt_unread (Val := Elt Ideal) (iblk m hO c 7 t) RK1 y) RK1_1 RK1_2
include hp in
theorem L8_1_eq (c : Dev nD) (t : Fin (cfgM m hO).N) : sq (L8_1 m hO c t) = tiles (m ((0 : Dev nD).tc.loc main_arg0)) (m ((c.tc : Thread nD τ).loc main_arg3)) (m ((c.tc : Thread nD τ).loc main_arg5)) (row m hO t) 1 4 :=
  load_eq (m ((0 : Dev nD).tc.loc main_arg0)) (m ((c.tc : Thread nD τ).loc main_arg3)) (m ((c.tc : Thread nD τ).loc main_arg5)) (row m hO t) 1 (iblk m hO c 8 t) 4 (by decide) (iblk8 m hO hp c t) _ RK1.idx (fun y => (hs0_8 m hO t).readAt_unread (Val := Elt Ideal) (iblk m hO c 8 t) RK1 y) RK1_1 RK1_2
include hp in
theorem L9_1_eq (c : Dev nD) (t : Fin (cfgM m hO).N) : sq (L9_1 m hO c t) = tiles (m ((0 : Dev nD).tc.loc main_arg0)) (m ((c.tc : Thread nD τ).loc main_arg3)) (m ((c.tc : Thread nD τ).loc main_arg5)) (row m hO t) 1 5 :=
  load_eq (m ((0 : Dev nD).tc.loc main_arg0)) (m ((c.tc : Thread nD τ).loc main_arg3)) (m ((c.tc : Thread nD τ).loc main_arg5)) (row m hO t) 1 (iblk m hO c 9 t) 5 (by decide) (iblk9 m hO hp c t) _ RK1.idx (fun y => (hs0_9 m hO t).readAt_unread (Val := Elt Ideal) (iblk m hO c 9 t) RK1 y) RK1_1 RK1_2
include hp in
theorem L10_1_eq (c : Dev nD) (t : Fin (cfgM m hO).N) : sq (L10_1 m hO c t) = tiles (m ((0 : Dev nD).tc.loc main_arg0)) (m ((c.tc : Thread nD τ).loc main_arg3)) (m ((c.tc : Thread nD τ).loc main_arg5)) (row m hO t) 1 6 :=
  load_eq (m ((0 : Dev nD).tc.loc main_arg0)) (m ((c.tc : Thread nD τ).loc main_arg3)) (m ((c.tc : Thread nD τ).loc main_arg5)) (row m hO t) 1 (iblk m hO c 10 t) 6 (by decide) (iblk10 m hO hp c t) _ RK1.idx (fun y => (hs0_10 m hO t).readAt_unread (Val := Elt Ideal) (iblk m hO c 10 t) RK1 y) RK1_1 RK1_2
include hp in
theorem L11_1_eq (c : Dev nD) (t : Fin (cfgM m hO).N) : sq (L11_1 m hO c t) = tiles (m ((0 : Dev nD).tc.loc main_arg0)) (m ((c.tc : Thread nD τ).loc main_arg3)) (m ((c.tc : Thread nD τ).loc main_arg5)) (row m hO t) 1 7 :=
  load_eq (m ((0 : Dev nD).tc.loc main_arg0)) (m ((c.tc : Thread nD τ).loc main_arg3)) (m ((c.tc : Thread nD τ).loc main_arg5)) (row m hO t) 1 (iblk m hO c 11 t) 7 (by decide) (iblk11 m hO hp c t) _ RK1.idx (fun y => (hs0_11 m hO t).readAt_unread (Val := Elt Ideal) (iblk m hO c 11 t) RK1 y) RK1_1 RK1_2
include hp in
theorem L12_1_eq (c : Dev nD) (t : Fin (cfgM m hO).N) : sq (L12_1 m hO c t) = tiles (m ((0 : Dev nD).tc.loc main_arg0)) (m ((c.tc : Thread nD τ).loc main_arg3)) (m ((c.tc : Thread nD τ).loc main_arg5)) (row m hO t) 1 8 :=
  load_eq (m ((0 : Dev nD).tc.loc main_arg0)) (m ((c.tc : Thread nD τ).loc main_arg3)) (m ((c.tc : Thread nD τ).loc main_arg5)) (row m hO t) 1 (iblk m hO c 12 t) 8 (by decide) (iblk12 m hO hp c t) _ RK1.idx (fun y => (hs0_12 m hO t).readAt_unread (Val := Elt Ideal) (iblk m hO c 12 t) RK1 y) RK1_1 RK1_2
include hp in
theorem L13_1_eq (c : Dev nD) (t : Fin (cfgM m hO).N) : sq (L13_1 m hO c t) = tiles (m ((0 : Dev nD).tc.loc main_arg0)) (m ((c.tc : Thread nD τ).loc main_arg3)) (m ((c.tc : Thread nD τ).loc main_arg5)) (row m hO t) 1 9 :=
  load_eq (m ((0 : Dev nD).tc.loc main_arg0)) (m ((c.tc : Thread nD τ).loc main_arg3)) (m ((c.tc : Thread nD τ).loc main_arg5)) (row m hO t) 1 (iblk m hO c 13 t) 9 (by decide) (iblk13 m hO hp c t) _ RK1.idx (fun y => (hs0_13 m hO t).readAt_unread (Val := Elt Ideal) (iblk m hO c 13 t) RK1 y) RK1_1 RK1_2
include hp in
theorem L14_1_eq (c : Dev nD) (t : Fin (cfgM m hO).N) : sq (L14_1 m hO c t) = tiles (m ((0 : Dev nD).tc.loc main_arg0)) (m ((c.tc : Thread nD τ).loc main_arg3)) (m ((c.tc : Thread nD τ).loc main_arg5)) (row m hO t) 1 10 :=
  load_eq (m ((0 : Dev nD).tc.loc main_arg0)) (m ((c.tc : Thread nD τ).loc main_arg3)) (m ((c.tc : Thread nD τ).loc main_arg5)) (row m hO t) 1 (iblk m hO c 14 t) 10 (by decide) (iblk14 m hO hp c t) _ RK1.idx (fun y => (hs0_14 m hO t).readAt_unread (Val := Elt Ideal) (iblk m hO c 14 t) RK1 y) RK1_1 RK1_2
include hp in
theorem L15_1_eq (c : Dev nD) (t : Fin (cfgM m hO).N) : sq (L15_1 m hO c t) = tiles (m ((0 : Dev nD).tc.loc main_arg0)) (m ((c.tc : Thread nD τ).loc main_arg3)) (m ((c.tc : Thread nD τ).loc main_arg5)) (row m hO t) 1 11 :=
  load_eq (m ((0 : Dev nD).tc.loc main_arg0)) (m ((c.tc : Thread nD τ).loc main_arg3)) (m ((c.tc : Thread nD τ).loc main_arg5)) (row m hO t) 1 (iblk m hO c 15 t) 11 (by decide) (iblk15 m hO hp c t) _ RK1.idx (fun y => (hs0_15 m hO t).readAt_unread (Val := Elt Ideal) (iblk m hO c 15 t) RK1 y) RK1_1 RK1_2
include hp in
theorem L16_1_eq (c : Dev nD) (t : Fin (cfgM m hO).N) : sq (L16_1 m hO c t) = tiles (m ((0 : Dev nD).tc.loc main_arg0)) (m ((c.tc : Thread nD τ).loc main_arg3)) (m ((c.tc : Thread nD τ).loc main_arg5)) (row m hO t) 1 12 :=
  load_eq (m ((0 : Dev nD).tc.loc main_arg0)) (m ((c.tc : Thread nD τ).loc main_arg3)) (m ((c.tc : Thread nD τ).loc main_arg5)) (row m hO t) 1 (iblk m hO c 16 t) 12 (by decide) (iblk16 m hO hp c t) _ RK1.idx (fun y => (hs0_16 m hO t).readAt_unread (Val := Elt Ideal) (iblk m hO c 16 t) RK1 y) RK1_1 RK1_2
include hp in
theorem L17_1_eq (c : Dev nD) (t : Fin (cfgM m hO).N) : sq (L17_1 m hO c t) = tiles (m ((0 : Dev nD).tc.loc main_arg0)) (m ((c.tc : Thread nD τ).loc main_arg3)) (m ((c.tc : Thread nD τ).loc main_arg5)) (row m hO t) 1 13 :=
  load_eq (m ((0 : Dev nD).tc.loc main_arg0)) (m ((c.tc : Thread nD τ).loc main_arg3)) (m ((c.tc : Thread nD τ).loc main_arg5)) (row m hO t) 1 (iblk m hO c 17 t) 13 (by decide) (iblk17 m hO hp c t) _ RK1.idx (fun y => (hs0_17 m hO t).readAt_unread (Val := Elt Ideal) (iblk m hO c 17 t) RK1 y) RK1_1 RK1_2
include hp in
theorem L18_1_eq (c : Dev nD) (t : Fin (cfgM m hO).N) : sq (L18_1 m hO c t) = tiles (m ((0 : Dev nD).tc.loc main_arg0)) (m ((c.tc : Thread nD τ).loc main_arg3)) (m ((c.tc : Thread nD τ).loc main_arg5)) (row m hO t) 1 14 :=
  load_eq (m ((0 : Dev nD).tc.loc main_arg0)) (m ((c.tc : Thread nD τ).loc main_arg3)) (m ((c.tc : Thread nD τ).loc main_arg5)) (row m hO t) 1 (iblk m hO c 18 t) 14 (by decide) (iblk18 m hO hp c t) _ RK1.idx (fun y => (hs0_18 m hO t).readAt_unread (Val := Elt Ideal) (iblk m hO c 18 t) RK1 y) RK1_1 RK1_2
include hp in
theorem L19_1_eq (c : Dev nD) (t : Fin (cfgM m hO).N) : sq (L19_1 m hO c t) = tiles (m ((0 : Dev nD).tc.loc main_arg0)) (m ((c.tc : Thread nD τ).loc main_arg3)) (m ((c.tc : Thread nD τ).loc main_arg5)) (row m hO t) 1 15 :=
  load_eq (m ((0 : Dev nD).tc.loc main_arg0)) (m ((c.tc : Thread nD τ).loc main_arg3)) (m ((c.tc : Thread nD τ).loc main_arg5)) (row m hO t) 1 (iblk m hO c 19 t) 15 (by decide) (iblk19 m hO hp c t) _ RK1.idx (fun y => (hs0_19 m hO t).readAt_unread (Val := Elt Ideal) (iblk m hO c 19 t) RK1 y) RK1_1 RK1_2
include hp in
theorem L20_1_eq (c : Dev nD) (t : Fin (cfgM m hO).N) : sq (L20_1 m hO c t) = tiles (m ((0 : Dev nD).tc.loc main_arg0)) (m ((c.tc : Thread nD τ).loc main_arg4)) (m ((c.tc : Thread nD τ).loc main_arg6)) (row m hO t) 1 0 :=
  load_eq (m ((0 : Dev nD).tc.loc main_arg0)) (m ((c.tc : Thread nD τ).loc main_arg4)) (m ((c.tc : Thread nD τ).loc main_arg6)) (row m hO t) 1 (iblk m hO c 20 t) 0 (by decide) (iblk20 m hO hp c t) _ RK1.idx (fun y => (hs0_20 m hO t).readAt_unread (Val := Elt Ideal) (iblk m hO c 20 t) RK1 y) RK1_1 RK1_2
include hp in
theorem L21_1_eq (c : Dev nD) (t : Fin (cfgM m hO).N) : sq (L21_1 m hO c t) = tiles (m ((0 : Dev nD).tc.loc main_arg0)) (m ((c.tc : Thread nD τ).loc main_arg4)) (m ((c.tc : Thread nD τ).loc main_arg6)) (row m hO t) 1 1 :=
  load_eq (m ((0 : Dev nD).tc.loc main_arg0)) (m ((c.tc : Thread nD τ).loc main_arg4)) (m ((c.tc : Thread nD τ).loc main_arg6)) (row m hO t) 1 (iblk m hO c 21 t) 1 (by decide) (iblk21 m hO hp c t) _ RK1.idx (fun y => (hs0_21 m hO t).readAt_unread (Val := Elt Ideal) (iblk m hO c 21 t) RK1 y) RK1_1 RK1_2
include hp in
theorem L22_1_eq (c : Dev nD) (t : Fin (cfgM m hO).N) : sq (L22_1 m hO c t) = tiles (m ((0 : Dev nD).tc.loc main_arg0)) (m ((c.tc : Thread nD τ).loc main_arg4)) (m ((c.tc : Thread nD τ).loc main_arg6)) (row m hO t) 1 2 :=
  load_eq (m ((0 : Dev nD).tc.loc main_arg0)) (m ((c.tc : Thread nD τ).loc main_arg4)) (m ((c.tc : Thread nD τ).loc main_arg6)) (row m hO t) 1 (iblk m hO c 22 t) 2 (by decide) (iblk22 m hO hp c t) _ RK1.idx (fun y => (hs0_22 m hO t).readAt_unread (Val := Elt Ideal) (iblk m hO c 22 t) RK1 y) RK1_1 RK1_2
include hp in
theorem L23_1_eq (c : Dev nD) (t : Fin (cfgM m hO).N) : sq (L23_1 m hO c t) = tiles (m ((0 : Dev nD).tc.loc main_arg0)) (m ((c.tc : Thread nD τ).loc main_arg4)) (m ((c.tc : Thread nD τ).loc main_arg6)) (row m hO t) 1 3 :=
  load_eq (m ((0 : Dev nD).tc.loc main_arg0)) (m ((c.tc : Thread nD τ).loc main_arg4)) (m ((c.tc : Thread nD τ).loc main_arg6)) (row m hO t) 1 (iblk m hO c 23 t) 3 (by decide) (iblk23 m hO hp c t) _ RK1.idx (fun y => (hs0_23 m hO t).readAt_unread (Val := Elt Ideal) (iblk m hO c 23 t) RK1 y) RK1_1 RK1_2
include hp in
theorem L24_1_eq (c : Dev nD) (t : Fin (cfgM m hO).N) : sq (L24_1 m hO c t) = tiles (m ((0 : Dev nD).tc.loc main_arg0)) (m ((c.tc : Thread nD τ).loc main_arg4)) (m ((c.tc : Thread nD τ).loc main_arg6)) (row m hO t) 1 4 :=
  load_eq (m ((0 : Dev nD).tc.loc main_arg0)) (m ((c.tc : Thread nD τ).loc main_arg4)) (m ((c.tc : Thread nD τ).loc main_arg6)) (row m hO t) 1 (iblk m hO c 24 t) 4 (by decide) (iblk24 m hO hp c t) _ RK1.idx (fun y => (hs0_24 m hO t).readAt_unread (Val := Elt Ideal) (iblk m hO c 24 t) RK1 y) RK1_1 RK1_2
include hp in
theorem L25_1_eq (c : Dev nD) (t : Fin (cfgM m hO).N) : sq (L25_1 m hO c t) = tiles (m ((0 : Dev nD).tc.loc main_arg0)) (m ((c.tc : Thread nD τ).loc main_arg4)) (m ((c.tc : Thread nD τ).loc main_arg6)) (row m hO t) 1 5 :=
  load_eq (m ((0 : Dev nD).tc.loc main_arg0)) (m ((c.tc : Thread nD τ).loc main_arg4)) (m ((c.tc : Thread nD τ).loc main_arg6)) (row m hO t) 1 (iblk m hO c 25 t) 5 (by decide) (iblk25 m hO hp c t) _ RK1.idx (fun y => (hs0_25 m hO t).readAt_unread (Val := Elt Ideal) (iblk m hO c 25 t) RK1 y) RK1_1 RK1_2
include hp in
theorem L26_1_eq (c : Dev nD) (t : Fin (cfgM m hO).N) : sq (L26_1 m hO c t) = tiles (m ((0 : Dev nD).tc.loc main_arg0)) (m ((c.tc : Thread nD τ).loc main_arg4)) (m ((c.tc : Thread nD τ).loc main_arg6)) (row m hO t) 1 6 :=
  load_eq (m ((0 : Dev nD).tc.loc main_arg0)) (m ((c.tc : Thread nD τ).loc main_arg4)) (m ((c.tc : Thread nD τ).loc main_arg6)) (row m hO t) 1 (iblk m hO c 26 t) 6 (by decide) (iblk26 m hO hp c t) _ RK1.idx (fun y => (hs0_26 m hO t).readAt_unread (Val := Elt Ideal) (iblk m hO c 26 t) RK1 y) RK1_1 RK1_2
include hp in
theorem L27_1_eq (c : Dev nD) (t : Fin (cfgM m hO).N) : sq (L27_1 m hO c t) = tiles (m ((0 : Dev nD).tc.loc main_arg0)) (m ((c.tc : Thread nD τ).loc main_arg4)) (m ((c.tc : Thread nD τ).loc main_arg6)) (row m hO t) 1 7 :=
  load_eq (m ((0 : Dev nD).tc.loc main_arg0)) (m ((c.tc : Thread nD τ).loc main_arg4)) (m ((c.tc : Thread nD τ).loc main_arg6)) (row m hO t) 1 (iblk m hO c 27 t) 7 (by decide) (iblk27 m hO hp c t) _ RK1.idx (fun y => (hs0_27 m hO t).readAt_unread (Val := Elt Ideal) (iblk m hO c 27 t) RK1 y) RK1_1 RK1_2
include hp in
theorem L28_1_eq (c : Dev nD) (t : Fin (cfgM m hO).N) : sq (L28_1 m hO c t) = tiles (m ((0 : Dev nD).tc.loc main_arg0)) (m ((c.tc : Thread nD τ).loc main_arg4)) (m ((c.tc : Thread nD τ).loc main_arg6)) (row m hO t) 1 8 :=
  load_eq (m ((0 : Dev nD).tc.loc main_arg0)) (m ((c.tc : Thread nD τ).loc main_arg4)) (m ((c.tc : Thread nD τ).loc main_arg6)) (row m hO t) 1 (iblk m hO c 28 t) 8 (by decide) (iblk28 m hO hp c t) _ RK1.idx (fun y => (hs0_28 m hO t).readAt_unread (Val := Elt Ideal) (iblk m hO c 28 t) RK1 y) RK1_1 RK1_2
include hp in
theorem L29_1_eq (c : Dev nD) (t : Fin (cfgM m hO).N) : sq (L29_1 m hO c t) = tiles (m ((0 : Dev nD).tc.loc main_arg0)) (m ((c.tc : Thread nD τ).loc main_arg4)) (m ((c.tc : Thread nD τ).loc main_arg6)) (row m hO t) 1 9 :=
  load_eq (m ((0 : Dev nD).tc.loc main_arg0)) (m ((c.tc : Thread nD τ).loc main_arg4)) (m ((c.tc : Thread nD τ).loc main_arg6)) (row m hO t) 1 (iblk m hO c 29 t) 9 (by decide) (iblk29 m hO hp c t) _ RK1.idx (fun y => (hs0_29 m hO t).readAt_unread (Val := Elt Ideal) (iblk m hO c 29 t) RK1 y) RK1_1 RK1_2
include hp in
theorem L30_1_eq (c : Dev nD) (t : Fin (cfgM m hO).N) : sq (L30_1 m hO c t) = tiles (m ((0 : Dev nD).tc.loc main_arg0)) (m ((c.tc : Thread nD τ).loc main_arg4)) (m ((c.tc : Thread nD τ).loc main_arg6)) (row m hO t) 1 10 :=
  load_eq (m ((0 : Dev nD).tc.loc main_arg0)) (m ((c.tc : Thread nD τ).loc main_arg4)) (m ((c.tc : Thread nD τ).loc main_arg6)) (row m hO t) 1 (iblk m hO c 30 t) 10 (by decide) (iblk30 m hO hp c t) _ RK1.idx (fun y => (hs0_30 m hO t).readAt_unread (Val := Elt Ideal) (iblk m hO c 30 t) RK1 y) RK1_1 RK1_2
include hp in
theorem L31_1_eq (c : Dev nD) (t : Fin (cfgM m hO).N) : sq (L31_1 m hO c t) = tiles (m ((0 : Dev nD).tc.loc main_arg0)) (m ((c.tc : Thread nD τ).loc main_arg4)) (m ((c.tc : Thread nD τ).loc main_arg6)) (row m hO t) 1 11 :=
  load_eq (m ((0 : Dev nD).tc.loc main_arg0)) (m ((c.tc : Thread nD τ).loc main_arg4)) (m ((c.tc : Thread nD τ).loc main_arg6)) (row m hO t) 1 (iblk m hO c 31 t) 11 (by decide) (iblk31 m hO hp c t) _ RK1.idx (fun y => (hs0_31 m hO t).readAt_unread (Val := Elt Ideal) (iblk m hO c 31 t) RK1 y) RK1_1 RK1_2
include hp in
theorem L32_1_eq (c : Dev nD) (t : Fin (cfgM m hO).N) : sq (L32_1 m hO c t) = tiles (m ((0 : Dev nD).tc.loc main_arg0)) (m ((c.tc : Thread nD τ).loc main_arg4)) (m ((c.tc : Thread nD τ).loc main_arg6)) (row m hO t) 1 12 :=
  load_eq (m ((0 : Dev nD).tc.loc main_arg0)) (m ((c.tc : Thread nD τ).loc main_arg4)) (m ((c.tc : Thread nD τ).loc main_arg6)) (row m hO t) 1 (iblk m hO c 32 t) 12 (by decide) (iblk32 m hO hp c t) _ RK1.idx (fun y => (hs0_32 m hO t).readAt_unread (Val := Elt Ideal) (iblk m hO c 32 t) RK1 y) RK1_1 RK1_2
include hp in
theorem L33_1_eq (c : Dev nD) (t : Fin (cfgM m hO).N) : sq (L33_1 m hO c t) = tiles (m ((0 : Dev nD).tc.loc main_arg0)) (m ((c.tc : Thread nD τ).loc main_arg4)) (m ((c.tc : Thread nD τ).loc main_arg6)) (row m hO t) 1 13 :=
  load_eq (m ((0 : Dev nD).tc.loc main_arg0)) (m ((c.tc : Thread nD τ).loc main_arg4)) (m ((c.tc : Thread nD τ).loc main_arg6)) (row m hO t) 1 (iblk m hO c 33 t) 13 (by decide) (iblk33 m hO hp c t) _ RK1.idx (fun y => (hs0_33 m hO t).readAt_unread (Val := Elt Ideal) (iblk m hO c 33 t) RK1 y) RK1_1 RK1_2
include hp in
theorem L34_1_eq (c : Dev nD) (t : Fin (cfgM m hO).N) : sq (L34_1 m hO c t) = tiles (m ((0 : Dev nD).tc.loc main_arg0)) (m ((c.tc : Thread nD τ).loc main_arg4)) (m ((c.tc : Thread nD τ).loc main_arg6)) (row m hO t) 1 14 :=
  load_eq (m ((0 : Dev nD).tc.loc main_arg0)) (m ((c.tc : Thread nD τ).loc main_arg4)) (m ((c.tc : Thread nD τ).loc main_arg6)) (row m hO t) 1 (iblk m hO c 34 t) 14 (by decide) (iblk34 m hO hp c t) _ RK1.idx (fun y => (hs0_34 m hO t).readAt_unread (Val := Elt Ideal) (iblk m hO c 34 t) RK1 y) RK1_1 RK1_2
include hp in
theorem L35_1_eq (c : Dev nD) (t : Fin (cfgM m hO).N) : sq (L35_1 m hO c t) = tiles (m ((0 : Dev nD).tc.loc main_arg0)) (m ((c.tc : Thread nD τ).loc main_arg4)) (m ((c.tc : Thread nD τ).loc main_arg6)) (row m hO t) 1 15 :=
  load_eq (m ((0 : Dev nD).tc.loc main_arg0)) (m ((c.tc : Thread nD τ).loc main_arg4)) (m ((c.tc : Thread nD τ).loc main_arg6)) (row m hO t) 1 (iblk m hO c 35 t) 15 (by decide) (iblk35 m hO hp c t) _ RK1.idx (fun y => (hs0_35 m hO t).readAt_unread (Val := Elt Ideal) (iblk m hO c 35 t) RK1 y) RK1_1 RK1_2

end Cert.KernelIdeal.Value

end
-- ==== Proof.AttnFinal.lean ====
/- The sample attention's kernel, read at an index of its result. -/
module

public import proofs.«01_k».proof.Proof.AttnLoads
public import Idealize.ShloMosaic.Lib.WholeRead
public import Idealize.ShloMosaic.Lib.Pointwise
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Attn

section
variable (N : FVec Ideal S32x128 .f32) (x : S1x8x128.Idx)

theorem store0 : k0_pay71 (F := Ideal) (extractStridedSlice S8x128 ![0, 0] N slices_S32x128_o0_0_S8x128) x = N (ix2 (⟨0 + (x 1).val, by have h : (x 1).val < 8 := (x 1).isLt; omega⟩ : Fin 32) (x 2)) := by
  idx_vars x
  pointwise [k0_pay71]

theorem store1 : k0_pay72 (F := Ideal) N x = N (ix2 (⟨8 + (x 1).val, by have h : (x 1).val < 8 := (x 1).isLt; omega⟩ : Fin 32) (x 2)) := by
  idx_vars x
  pointwise [k0_pay72]

theorem store2 : k0_pay73 (F := Ideal) N x = N (ix2 (⟨16 + (x 1).val, by have h : (x 1).val < 8 := (x 1).isLt; omega⟩ : Fin 32) (x 2)) := by
  idx_vars x
  pointwise [k0_pay73]

theorem store3 : k0_pay74 (F := Ideal) N x = N (ix2 (⟨24 + (x 1).val, by have h : (x 1).val < 8 := (x 1).isLt; omega⟩ : Fin 32) (x 2)) := by
  idx_vars x
  pointwise [k0_pay74]

end

/-- The kernel's result. -/
def attnK (q : FVec Ideal S128x8x1024 .bf16) (bias : FVec Ideal S128x8x2176 .f32) (pg : Vec Ideal S128x16 .i32) (kn vn : FVec Ideal S128x8x256 .f32)
    (ck cv : FVec Ideal S1x2560x128x2x128 .f32) : FVec Ideal S128x8x1024 .f32 :=
  fun y => kOut (score q bias (keyAt pg kn ck (y 0) (⟨(y 2).val / 512, by have h : (y 2).val < 1024 := (y 2).isLt; omega⟩ : Fin 2)) (y 0) (y 1)
      (⟨(y 2).val / 128, by have h : (y 2).val < 1024 := (y 2).isLt; omega⟩ : Fin 8))
    (keyAt pg vn cv (y 0) (⟨(y 2).val / 512, by have h : (y 2).val < 1024 := (y 2).isLt; omega⟩ : Fin 2) (⟨(y 2).val % 128, Nat.mod_lt _ (by decide)⟩ : Fin 128))

variable (m : (ℓ : Loc nD τ sig) → Buf (Elt Ideal) ℓ) (hO : Ok m) (hp : ∀ x, (m ((0 : Dev nD).tc.loc main_arg0) x).toNat < 2560)

/-- The queries as the call reads them. -/
abbrev QV (c : Dev nD) (t : Fin (cfgM m hO).N) := View.read (Elt Ideal) (ms0_0 m hO t).view ((hs0_0 m hO t).unread (iblk m hO c 0 t))
/-- The bias as the call reads it. -/
abbrev BV (c : Dev nD) (t : Fin (cfgM m hO).N) := View.read (Elt Ideal) (ms0_1 m hO t).view ((hs0_1 m hO t).unread (iblk m hO c 1 t))

def head0 (c : Dev nD) (t : Fin (cfgM m hO).N) : FVec Ideal S32x128 .f32 :=
  oFn (fun p => tileS (k0_pay9 (F := Ideal) (QV m hO c t)) (k0_pay7 (F := Ideal) (BV m hO c t)) ((tiles (m ((0 : Dev nD).tc.loc main_arg0)) (m ((c.tc : Thread nD τ).loc main_arg3)) (m ((c.tc : Thread nD τ).loc main_arg5)) (row m hO t) 0) p) p) (tiles (m ((0 : Dev nD).tc.loc main_arg0)) (m ((c.tc : Thread nD τ).loc main_arg4)) (m ((c.tc : Thread nD τ).loc main_arg6)) (row m hO t) 0)
    (mxf fun p => tileS (k0_pay9 (F := Ideal) (QV m hO c t)) (k0_pay7 (F := Ideal) (BV m hO c t)) ((tiles (m ((0 : Dev nD).tc.loc main_arg0)) (m ((c.tc : Thread nD τ).loc main_arg3)) (m ((c.tc : Thread nD τ).loc main_arg5)) (row m hO t) 0) p) p)

set_option maxHeartbeats 4000000 in
include hp in
theorem head0_eq (c : Dev nD) (t : Fin (cfgM m hO).N) :
    k0_pay69 (F := Ideal) (k0_pay34 (L30_0 m hO c t)) (k0_pay36 (L31_0 m hO c t)) (k0_pay37 (k0_pay7 (BV m hO c t)) (k0_pay9 (QV m hO c t)) (L15_0 m hO c t)) (k0_pay38 (L32_0 m hO c t)) (k0_pay41 (k0_pay39 (k0_pay9 (QV m hO c t)) (L16_0 m hO c t)) (k0_pay40 (k0_pay7 (BV m hO c t)))) (k0_pay42 (L33_0 m hO c t)) (k0_pay43 (k0_pay7 (BV m hO c t)) (k0_pay9 (QV m hO c t)) (L17_0 m hO c t)) (k0_pay44 (L34_0 m hO c t)) (k0_pay45 (k0_pay7 (BV m hO c t)) (k0_pay9 (QV m hO c t)) (L18_0 m hO c t)) (k0_pay46 (L35_0 m hO c t)) (k0_pay47 (k0_pay7 (BV m hO c t)) (k0_pay9 (QV m hO c t)) (L19_0 m hO c t)) (k0_pay49 (k0_pay8 (F := Ideal)) (L3_0 m hO c t)) (k0_pay50 (k0_pay7 (BV m hO c t)) (k0_pay9 (QV m hO c t)) (k0_pay48 (k0_pay8 (F := Ideal)) (L2_0 m hO c t))) (k0_pay51 (k0_pay7 (BV m hO c t)) (k0_pay9 (QV m hO c t)) (k0_pay11 (QV m hO c t) (BV m hO c t) (L4_0 m hO c t)) (k0_pay13 (QV m hO c t) (BV m hO c t) (L5_0 m hO c t)) (k0_pay16 (k0_pay7 (BV m hO c t)) (k0_pay9 (QV m hO c t)) (k0_pay14 (L6_0 m hO c t))) (k0_pay18 (k0_pay7 (BV m hO c t)) (k0_pay9 (QV m hO c t)) (L7_0 m hO c t)) (k0_pay20 (k0_pay7 (BV m hO c t)) (k0_pay9 (QV m hO c t)) (L8_0 m hO c t)) (k0_pay24 (k0_pay22 (k0_pay7 (BV m hO c t))) (k0_pay23 (k0_pay9 (QV m hO c t)) (L9_0 m hO c t))) (k0_pay26 (k0_pay7 (BV m hO c t)) (k0_pay9 (QV m hO c t)) (L10_0 m hO c t)) (k0_pay28 (k0_pay7 (BV m hO c t)) (k0_pay9 (QV m hO c t)) (L11_0 m hO c t)) (k0_pay30 (k0_pay7 (BV m hO c t)) (k0_pay9 (QV m hO c t)) (L12_0 m hO c t)) (k0_pay33 (k0_pay7 (BV m hO c t)) (k0_pay9 (QV m hO c t)) (k0_pay31 (L13_0 m hO c t))) (k0_pay35 (k0_pay7 (BV m hO c t)) (k0_pay9 (QV m hO c t)) (L14_0 m hO c t)) (k0_pay37 (k0_pay7 (BV m hO c t)) (k0_pay9 (QV m hO c t)) (L15_0 m hO c t)) (k0_pay41 (k0_pay39 (k0_pay9 (QV m hO c t)) (L16_0 m hO c t)) (k0_pay40 (k0_pay7 (BV m hO c t)))) (k0_pay43 (k0_pay7 (BV m hO c t)) (k0_pay9 (QV m hO c t)) (L17_0 m hO c t)) (k0_pay45 (k0_pay7 (BV m hO c t)) (k0_pay9 (QV m hO c t)) (L18_0 m hO c t)) (k0_pay47 (k0_pay7 (BV m hO c t)) (k0_pay9 (QV m hO c t)) (L19_0 m hO c t)) (k0_pay48 (k0_pay8 (F := Ideal)) (L2_0 m hO c t))) (k0_pay65 (k0_pay17 (L23_0 m hO c t)) (k0_pay19 (L24_0 m hO c t)) (k0_pay20 (k0_pay7 (BV m hO c t)) (k0_pay9 (QV m hO c t)) (L8_0 m hO c t)) (k0_pay21 (L25_0 m hO c t)) (k0_pay24 (k0_pay22 (k0_pay7 (BV m hO c t))) (k0_pay23 (k0_pay9 (QV m hO c t)) (L9_0 m hO c t))) (k0_pay25 (L26_0 m hO c t)) (k0_pay26 (k0_pay7 (BV m hO c t)) (k0_pay9 (QV m hO c t)) (L10_0 m hO c t)) (k0_pay27 (L27_0 m hO c t)) (k0_pay28 (k0_pay7 (BV m hO c t)) (k0_pay9 (QV m hO c t)) (L11_0 m hO c t)) (k0_pay29 (L28_0 m hO c t)) (k0_pay30 (k0_pay7 (BV m hO c t)) (k0_pay9 (QV m hO c t)) (L12_0 m hO c t)) (k0_pay32 (L29_0 m hO c t)) (k0_pay33 (k0_pay7 (BV m hO c t)) (k0_pay9 (QV m hO c t)) (k0_pay31 (L13_0 m hO c t))) (k0_pay51 (k0_pay7 (BV m hO c t)) (k0_pay9 (QV m hO c t)) (k0_pay11 (QV m hO c t) (BV m hO c t) (L4_0 m hO c t)) (k0_pay13 (QV m hO c t) (BV m hO c t) (L5_0 m hO c t)) (k0_pay16 (k0_pay7 (BV m hO c t)) (k0_pay9 (QV m hO c t)) (k0_pay14 (L6_0 m hO c t))) (k0_pay18 (k0_pay7 (BV m hO c t)) (k0_pay9 (QV m hO c t)) (L7_0 m hO c t)) (k0_pay20 (k0_pay7 (BV m hO c t)) (k0_pay9 (QV m hO c t)) (L8_0 m hO c t)) (k0_pay24 (k0_pay22 (k0_pay7 (BV m hO c t))) (k0_pay23 (k0_pay9 (QV m hO c t)) (L9_0 m hO c t))) (k0_pay26 (k0_pay7 (BV m hO c t)) (k0_pay9 (QV m hO c t)) (L10_0 m hO c t)) (k0_pay28 (k0_pay7 (BV m hO c t)) (k0_pay9 (QV m hO c t)) (L11_0 m hO c t)) (k0_pay30 (k0_pay7 (BV m hO c t)) (k0_pay9 (QV m hO c t)) (L12_0 m hO c t)) (k0_pay33 (k0_pay7 (BV m hO c t)) (k0_pay9 (QV m hO c t)) (k0_pay31 (L13_0 m hO c t))) (k0_pay35 (k0_pay7 (BV m hO c t)) (k0_pay9 (QV m hO c t)) (L14_0 m hO c t)) (k0_pay37 (k0_pay7 (BV m hO c t)) (k0_pay9 (QV m hO c t)) (L15_0 m hO c t)) (k0_pay41 (k0_pay39 (k0_pay9 (QV m hO c t)) (L16_0 m hO c t)) (k0_pay40 (k0_pay7 (BV m hO c t)))) (k0_pay43 (k0_pay7 (BV m hO c t)) (k0_pay9 (QV m hO c t)) (L17_0 m hO c t)) (k0_pay45 (k0_pay7 (BV m hO c t)) (k0_pay9 (QV m hO c t)) (L18_0 m hO c t)) (k0_pay47 (k0_pay7 (BV m hO c t)) (k0_pay9 (QV m hO c t)) (L19_0 m hO c t)) (k0_pay48 (k0_pay8 (F := Ideal)) (L2_0 m hO c t))) (k0_pay56 (k0_pay7 (BV m hO c t)) (k0_pay9 (QV m hO c t)) (k0_pay10 (L20_0 m hO c t)) (k0_pay11 (QV m hO c t) (BV m hO c t) (L4_0 m hO c t)) (k0_pay12 (L21_0 m hO c t)) (k0_pay13 (QV m hO c t) (BV m hO c t) (L5_0 m hO c t)) (k0_pay15 (L22_0 m hO c t)) (k0_pay16 (k0_pay7 (BV m hO c t)) (k0_pay9 (QV m hO c t)) (k0_pay14 (L6_0 m hO c t))) (k0_pay18 (k0_pay7 (BV m hO c t)) (k0_pay9 (QV m hO c t)) (L7_0 m hO c t)) (k0_pay20 (k0_pay7 (BV m hO c t)) (k0_pay9 (QV m hO c t)) (L8_0 m hO c t)) (k0_pay24 (k0_pay22 (k0_pay7 (BV m hO c t))) (k0_pay23 (k0_pay9 (QV m hO c t)) (L9_0 m hO c t))) (k0_pay26 (k0_pay7 (BV m hO c t)) (k0_pay9 (QV m hO c t)) (L10_0 m hO c t)) (k0_pay28 (k0_pay7 (BV m hO c t)) (k0_pay9 (QV m hO c t)) (L11_0 m hO c t)) (k0_pay30 (k0_pay7 (BV m hO c t)) (k0_pay9 (QV m hO c t)) (L12_0 m hO c t)) (k0_pay33 (k0_pay7 (BV m hO c t)) (k0_pay9 (QV m hO c t)) (k0_pay31 (L13_0 m hO c t))) (k0_pay35 (k0_pay7 (BV m hO c t)) (k0_pay9 (QV m hO c t)) (L14_0 m hO c t)) (k0_pay37 (k0_pay7 (BV m hO c t)) (k0_pay9 (QV m hO c t)) (L15_0 m hO c t)) (k0_pay41 (k0_pay39 (k0_pay9 (QV m hO c t)) (L16_0 m hO c t)) (k0_pay40 (k0_pay7 (BV m hO c t)))) (k0_pay43 (k0_pay7 (BV m hO c t)) (k0_pay9 (QV m hO c t)) (L17_0 m hO c t)) (k0_pay45 (k0_pay7 (BV m hO c t)) (k0_pay9 (QV m hO c t)) (L18_0 m hO c t)) (k0_pay47 (k0_pay7 (BV m hO c t)) (k0_pay9 (QV m hO c t)) (L19_0 m hO c t)) (k0_pay48 (k0_pay8 (F := Ideal)) (L2_0 m hO c t))) (k0_pay57 (k0_pay7 (BV m hO c t)) (k0_pay9 (QV m hO c t)) (k0_pay11 (QV m hO c t) (BV m hO c t) (L4_0 m hO c t)) (k0_pay13 (QV m hO c t) (BV m hO c t) (L5_0 m hO c t)) (k0_pay16 (k0_pay7 (BV m hO c t)) (k0_pay9 (QV m hO c t)) (k0_pay14 (L6_0 m hO c t))) (k0_pay18 (k0_pay7 (BV m hO c t)) (k0_pay9 (QV m hO c t)) (L7_0 m hO c t)) (k0_pay20 (k0_pay7 (BV m hO c t)) (k0_pay9 (QV m hO c t)) (L8_0 m hO c t)) (k0_pay24 (k0_pay22 (k0_pay7 (BV m hO c t))) (k0_pay23 (k0_pay9 (QV m hO c t)) (L9_0 m hO c t))) (k0_pay26 (k0_pay7 (BV m hO c t)) (k0_pay9 (QV m hO c t)) (L10_0 m hO c t)) (k0_pay28 (k0_pay7 (BV m hO c t)) (k0_pay9 (QV m hO c t)) (L11_0 m hO c t)) (k0_pay30 (k0_pay7 (BV m hO c t)) (k0_pay9 (QV m hO c t)) (L12_0 m hO c t)) (k0_pay33 (k0_pay7 (BV m hO c t)) (k0_pay9 (QV m hO c t)) (k0_pay31 (L13_0 m hO c t))) (k0_pay35 (k0_pay7 (BV m hO c t)) (k0_pay9 (QV m hO c t)) (L14_0 m hO c t)) (k0_pay37 (k0_pay7 (BV m hO c t)) (k0_pay9 (QV m hO c t)) (L15_0 m hO c t)) (k0_pay41 (k0_pay39 (k0_pay9 (QV m hO c t)) (L16_0 m hO c t)) (k0_pay40 (k0_pay7 (BV m hO c t)))) (k0_pay43 (k0_pay7 (BV m hO c t)) (k0_pay9 (QV m hO c t)) (L17_0 m hO c t)) (k0_pay45 (k0_pay7 (BV m hO c t)) (k0_pay9 (QV m hO c t)) (L18_0 m hO c t)) (k0_pay47 (k0_pay7 (BV m hO c t)) (k0_pay9 (QV m hO c t)) (L19_0 m hO c t)) (k0_pay48 (k0_pay8 (F := Ideal)) (L2_0 m hO c t)))) (k0_pay67 (k0_pay20 (k0_pay7 (BV m hO c t)) (k0_pay9 (QV m hO c t)) (L8_0 m hO c t)) (k0_pay24 (k0_pay22 (k0_pay7 (BV m hO c t))) (k0_pay23 (k0_pay9 (QV m hO c t)) (L9_0 m hO c t))) (k0_pay26 (k0_pay7 (BV m hO c t)) (k0_pay9 (QV m hO c t)) (L10_0 m hO c t)) (k0_pay28 (k0_pay7 (BV m hO c t)) (k0_pay9 (QV m hO c t)) (L11_0 m hO c t)) (k0_pay30 (k0_pay7 (BV m hO c t)) (k0_pay9 (QV m hO c t)) (L12_0 m hO c t)) (k0_pay33 (k0_pay7 (BV m hO c t)) (k0_pay9 (QV m hO c t)) (k0_pay31 (L13_0 m hO c t))) (k0_pay35 (k0_pay7 (BV m hO c t)) (k0_pay9 (QV m hO c t)) (L14_0 m hO c t)) (k0_pay51 (k0_pay7 (BV m hO c t)) (k0_pay9 (QV m hO c t)) (k0_pay11 (QV m hO c t) (BV m hO c t) (L4_0 m hO c t)) (k0_pay13 (QV m hO c t) (BV m hO c t) (L5_0 m hO c t)) (k0_pay16 (k0_pay7 (BV m hO c t)) (k0_pay9 (QV m hO c t)) (k0_pay14 (L6_0 m hO c t))) (k0_pay18 (k0_pay7 (BV m hO c t)) (k0_pay9 (QV m hO c t)) (L7_0 m hO c t)) (k0_pay20 (k0_pay7 (BV m hO c t)) (k0_pay9 (QV m hO c t)) (L8_0 m hO c t)) (k0_pay24 (k0_pay22 (k0_pay7 (BV m hO c t))) (k0_pay23 (k0_pay9 (QV m hO c t)) (L9_0 m hO c t))) (k0_pay26 (k0_pay7 (BV m hO c t)) (k0_pay9 (QV m hO c t)) (L10_0 m hO c t)) (k0_pay28 (k0_pay7 (BV m hO c t)) (k0_pay9 (QV m hO c t)) (L11_0 m hO c t)) (k0_pay30 (k0_pay7 (BV m hO c t)) (k0_pay9 (QV m hO c t)) (L12_0 m hO c t)) (k0_pay33 (k0_pay7 (BV m hO c t)) (k0_pay9 (QV m hO c t)) (k0_pay31 (L13_0 m hO c t))) (k0_pay35 (k0_pay7 (BV m hO c t)) (k0_pay9 (QV m hO c t)) (L14_0 m hO c t)) (k0_pay37 (k0_pay7 (BV m hO c t)) (k0_pay9 (QV m hO c t)) (L15_0 m hO c t)) (k0_pay41 (k0_pay39 (k0_pay9 (QV m hO c t)) (L16_0 m hO c t)) (k0_pay40 (k0_pay7 (BV m hO c t)))) (k0_pay43 (k0_pay7 (BV m hO c t)) (k0_pay9 (QV m hO c t)) (L17_0 m hO c t)) (k0_pay45 (k0_pay7 (BV m hO c t)) (k0_pay9 (QV m hO c t)) (L18_0 m hO c t)) (k0_pay47 (k0_pay7 (BV m hO c t)) (k0_pay9 (QV m hO c t)) (L19_0 m hO c t)) (k0_pay48 (k0_pay8 (F := Ideal)) (L2_0 m hO c t))) (k0_pay55 (k0_pay7 (BV m hO c t)) (k0_pay9 (QV m hO c t)) (k0_pay11 (QV m hO c t) (BV m hO c t) (L4_0 m hO c t)) (k0_pay13 (QV m hO c t) (BV m hO c t) (L5_0 m hO c t)) (k0_pay16 (k0_pay7 (BV m hO c t)) (k0_pay9 (QV m hO c t)) (k0_pay14 (L6_0 m hO c t))) (k0_pay18 (k0_pay7 (BV m hO c t)) (k0_pay9 (QV m hO c t)) (L7_0 m hO c t)) (k0_pay20 (k0_pay7 (BV m hO c t)) (k0_pay9 (QV m hO c t)) (L8_0 m hO c t)) (k0_pay24 (k0_pay22 (k0_pay7 (BV m hO c t))) (k0_pay23 (k0_pay9 (QV m hO c t)) (L9_0 m hO c t))) (k0_pay26 (k0_pay7 (BV m hO c t)) (k0_pay9 (QV m hO c t)) (L10_0 m hO c t)) (k0_pay28 (k0_pay7 (BV m hO c t)) (k0_pay9 (QV m hO c t)) (L11_0 m hO c t)) (k0_pay30 (k0_pay7 (BV m hO c t)) (k0_pay9 (QV m hO c t)) (L12_0 m hO c t)) (k0_pay33 (k0_pay7 (BV m hO c t)) (k0_pay9 (QV m hO c t)) (k0_pay31 (L13_0 m hO c t))) (k0_pay35 (k0_pay7 (BV m hO c t)) (k0_pay9 (QV m hO c t)) (L14_0 m hO c t)) (k0_pay37 (k0_pay7 (BV m hO c t)) (k0_pay9 (QV m hO c t)) (L15_0 m hO c t)) (k0_pay41 (k0_pay39 (k0_pay9 (QV m hO c t)) (L16_0 m hO c t)) (k0_pay40 (k0_pay7 (BV m hO c t)))) (k0_pay43 (k0_pay7 (BV m hO c t)) (k0_pay9 (QV m hO c t)) (L17_0 m hO c t)) (k0_pay45 (k0_pay7 (BV m hO c t)) (k0_pay9 (QV m hO c t)) (L18_0 m hO c t)) (k0_pay47 (k0_pay7 (BV m hO c t)) (k0_pay9 (QV m hO c t)) (L19_0 m hO c t)) (k0_pay48 (k0_pay8 (F := Ideal)) (L2_0 m hO c t))) (k0_pay57 (k0_pay7 (BV m hO c t)) (k0_pay9 (QV m hO c t)) (k0_pay11 (QV m hO c t) (BV m hO c t) (L4_0 m hO c t)) (k0_pay13 (QV m hO c t) (BV m hO c t) (L5_0 m hO c t)) (k0_pay16 (k0_pay7 (BV m hO c t)) (k0_pay9 (QV m hO c t)) (k0_pay14 (L6_0 m hO c t))) (k0_pay18 (k0_pay7 (BV m hO c t)) (k0_pay9 (QV m hO c t)) (L7_0 m hO c t)) (k0_pay20 (k0_pay7 (BV m hO c t)) (k0_pay9 (QV m hO c t)) (L8_0 m hO c t)) (k0_pay24 (k0_pay22 (k0_pay7 (BV m hO c t))) (k0_pay23 (k0_pay9 (QV m hO c t)) (L9_0 m hO c t))) (k0_pay26 (k0_pay7 (BV m hO c t)) (k0_pay9 (QV m hO c t)) (L10_0 m hO c t)) (k0_pay28 (k0_pay7 (BV m hO c t)) (k0_pay9 (QV m hO c t)) (L11_0 m hO c t)) (k0_pay30 (k0_pay7 (BV m hO c t)) (k0_pay9 (QV m hO c t)) (L12_0 m hO c t)) (k0_pay33 (k0_pay7 (BV m hO c t)) (k0_pay9 (QV m hO c t)) (k0_pay31 (L13_0 m hO c t))) (k0_pay35 (k0_pay7 (BV m hO c t)) (k0_pay9 (QV m hO c t)) (L14_0 m hO c t)) (k0_pay37 (k0_pay7 (BV m hO c t)) (k0_pay9 (QV m hO c t)) (L15_0 m hO c t)) (k0_pay41 (k0_pay39 (k0_pay9 (QV m hO c t)) (L16_0 m hO c t)) (k0_pay40 (k0_pay7 (BV m hO c t)))) (k0_pay43 (k0_pay7 (BV m hO c t)) (k0_pay9 (QV m hO c t)) (L17_0 m hO c t)) (k0_pay45 (k0_pay7 (BV m hO c t)) (k0_pay9 (QV m hO c t)) (L18_0 m hO c t)) (k0_pay47 (k0_pay7 (BV m hO c t)) (k0_pay9 (QV m hO c t)) (L19_0 m hO c t)) (k0_pay48 (k0_pay8 (F := Ideal)) (L2_0 m hO c t)))) (k0_pay68 (k0_pay35 (k0_pay7 (BV m hO c t)) (k0_pay9 (QV m hO c t)) (L14_0 m hO c t)) (k0_pay51 (k0_pay7 (BV m hO c t)) (k0_pay9 (QV m hO c t)) (k0_pay11 (QV m hO c t) (BV m hO c t) (L4_0 m hO c t)) (k0_pay13 (QV m hO c t) (BV m hO c t) (L5_0 m hO c t)) (k0_pay16 (k0_pay7 (BV m hO c t)) (k0_pay9 (QV m hO c t)) (k0_pay14 (L6_0 m hO c t))) (k0_pay18 (k0_pay7 (BV m hO c t)) (k0_pay9 (QV m hO c t)) (L7_0 m hO c t)) (k0_pay20 (k0_pay7 (BV m hO c t)) (k0_pay9 (QV m hO c t)) (L8_0 m hO c t)) (k0_pay24 (k0_pay22 (k0_pay7 (BV m hO c t))) (k0_pay23 (k0_pay9 (QV m hO c t)) (L9_0 m hO c t))) (k0_pay26 (k0_pay7 (BV m hO c t)) (k0_pay9 (QV m hO c t)) (L10_0 m hO c t)) (k0_pay28 (k0_pay7 (BV m hO c t)) (k0_pay9 (QV m hO c t)) (L11_0 m hO c t)) (k0_pay30 (k0_pay7 (BV m hO c t)) (k0_pay9 (QV m hO c t)) (L12_0 m hO c t)) (k0_pay33 (k0_pay7 (BV m hO c t)) (k0_pay9 (QV m hO c t)) (k0_pay31 (L13_0 m hO c t))) (k0_pay35 (k0_pay7 (BV m hO c t)) (k0_pay9 (QV m hO c t)) (L14_0 m hO c t)) (k0_pay37 (k0_pay7 (BV m hO c t)) (k0_pay9 (QV m hO c t)) (L15_0 m hO c t)) (k0_pay41 (k0_pay39 (k0_pay9 (QV m hO c t)) (L16_0 m hO c t)) (k0_pay40 (k0_pay7 (BV m hO c t)))) (k0_pay43 (k0_pay7 (BV m hO c t)) (k0_pay9 (QV m hO c t)) (L17_0 m hO c t)) (k0_pay45 (k0_pay7 (BV m hO c t)) (k0_pay9 (QV m hO c t)) (L18_0 m hO c t)) (k0_pay47 (k0_pay7 (BV m hO c t)) (k0_pay9 (QV m hO c t)) (L19_0 m hO c t)) (k0_pay48 (k0_pay8 (F := Ideal)) (L2_0 m hO c t)))) (constant S32x128 .f32 0x00000000#32)
      = head0 m hO c t :=
  o0_final (QV m hO c t) (BV m hO c t) (L2_0 m hO c t) (L3_0 m hO c t)
    (L4_0 m hO c t) (L5_0 m hO c t) (L6_0 m hO c t) (L7_0 m hO c t) (L8_0 m hO c t) (L9_0 m hO c t) (L10_0 m hO c t) (L11_0 m hO c t) (L12_0 m hO c t) (L13_0 m hO c t) (L14_0 m hO c t) (L15_0 m hO c t) (L16_0 m hO c t) (L17_0 m hO c t) (L18_0 m hO c t) (L19_0 m hO c t)
    (L20_0 m hO c t) (L21_0 m hO c t) (L22_0 m hO c t) (L23_0 m hO c t) (L24_0 m hO c t) (L25_0 m hO c t) (L26_0 m hO c t) (L27_0 m hO c t) (L28_0 m hO c t) (L29_0 m hO c t) (L30_0 m hO c t) (L31_0 m hO c t) (L32_0 m hO c t) (L33_0 m hO c t) (L34_0 m hO c t) (L35_0 m hO c t)
    (tiles (m ((0 : Dev nD).tc.loc main_arg0)) (m ((c.tc : Thread nD τ).loc main_arg3)) (m ((c.tc : Thread nD τ).loc main_arg5)) (row m hO t) 0) (tiles (m ((0 : Dev nD).tc.loc main_arg0)) (m ((c.tc : Thread nD τ).loc main_arg4)) (m ((c.tc : Thread nD τ).loc main_arg6)) (row m hO t) 0)
    (L4_0_eq m hO hp c t)
    (L5_0_eq m hO hp c t)
    (L6_0_eq m hO hp c t)
    (L7_0_eq m hO hp c t)
    (L8_0_eq m hO hp c t)
    (L9_0_eq m hO hp c t)
    (L10_0_eq m hO hp c t)
    (L11_0_eq m hO hp c t)
    (L12_0_eq m hO hp c t)
    (L13_0_eq m hO hp c t)
    (L14_0_eq m hO hp c t)
    (L15_0_eq m hO hp c t)
    (L16_0_eq m hO hp c t)
    (L17_0_eq m hO hp c t)
    (L18_0_eq m hO hp c t)
    (L19_0_eq m hO hp c t)
    (new_eq (m ((0 : Dev nD).tc.loc main_arg0)) (m ((c.tc : Thread nD τ).loc main_arg3)) (m ((c.tc : Thread nD τ).loc main_arg5)) (row m hO t) 0 (iblk m hO c 2 t) (iblk2 m hO c t) _ RN0.idx (fun y => (hs0_2 m hO t).readAt_unread (Val := Elt Ideal) (iblk m hO c 2 t) RN0 y) RN0_1 RN0_2 _ (pay48_at _))
    (L20_0_eq m hO hp c t)
    (L21_0_eq m hO hp c t)
    (L22_0_eq m hO hp c t)
    (L23_0_eq m hO hp c t)
    (L24_0_eq m hO hp c t)
    (L25_0_eq m hO hp c t)
    (L26_0_eq m hO hp c t)
    (L27_0_eq m hO hp c t)
    (L28_0_eq m hO hp c t)
    (L29_0_eq m hO hp c t)
    (L30_0_eq m hO hp c t)
    (L31_0_eq m hO hp c t)
    (L32_0_eq m hO hp c t)
    (L33_0_eq m hO hp c t)
    (L34_0_eq m hO hp c t)
    (L35_0_eq m hO hp c t)
    (new_eq (m ((0 : Dev nD).tc.loc main_arg0)) (m ((c.tc : Thread nD τ).loc main_arg4)) (m ((c.tc : Thread nD τ).loc main_arg6)) (row m hO t) 0 (iblk m hO c 3 t) (iblk3 m hO c t) _ RN0.idx (fun y => (hs0_3 m hO t).readAt_unread (Val := Elt Ideal) (iblk m hO c 3 t) RN0 y) RN0_1 RN0_2 _ (pay49_at _))

def head1 (c : Dev nD) (t : Fin (cfgM m hO).N) : FVec Ideal S32x128 .f32 :=
  oFn (fun p => tileS (k0_pay75 (F := Ideal) (k0_pay6 (QV m hO c t))) (k0_pay7 (F := Ideal) (BV m hO c t)) ((tiles (m ((0 : Dev nD).tc.loc main_arg0)) (m ((c.tc : Thread nD τ).loc main_arg3)) (m ((c.tc : Thread nD τ).loc main_arg5)) (row m hO t) 1) p) p) (tiles (m ((0 : Dev nD).tc.loc main_arg0)) (m ((c.tc : Thread nD τ).loc main_arg4)) (m ((c.tc : Thread nD τ).loc main_arg6)) (row m hO t) 1)
    (mxf fun p => tileS (k0_pay75 (F := Ideal) (k0_pay6 (QV m hO c t))) (k0_pay7 (F := Ideal) (BV m hO c t)) ((tiles (m ((0 : Dev nD).tc.loc main_arg0)) (m ((c.tc : Thread nD τ).loc main_arg3)) (m ((c.tc : Thread nD τ).loc main_arg5)) (row m hO t) 1) p) p)

set_option maxHeartbeats 4000000 in
include hp in
theorem head1_eq (c : Dev nD) (t : Fin (cfgM m hO).N) :
    k0_pay1 (F := Ideal) (k0_pay112 (k0_pay8 (F := Ideal)) (L3_1 m hO c t)) (k0_pay137 (k0_pay97 (L29_1 m hO c t)) (k0_pay98 (k0_pay7 (BV m hO c t)) (k0_pay75 (k0_pay6 (QV m hO c t))) (L13_1 m hO c t)) (k0_pay99 (L30_1 m hO c t)) (k0_pay100 (k0_pay7 (BV m hO c t)) (k0_pay75 (k0_pay6 (QV m hO c t))) (L14_1 m hO c t)) (k0_pay101 (L31_1 m hO c t)) (k0_pay102 (k0_pay7 (BV m hO c t)) (k0_pay75 (k0_pay6 (QV m hO c t))) (L15_1 m hO c t)) (k0_pay103 (L32_1 m hO c t)) (k0_pay104 (k0_pay7 (BV m hO c t)) (k0_pay75 (k0_pay6 (QV m hO c t))) (L16_1 m hO c t)) (k0_pay105 (L33_1 m hO c t)) (k0_pay106 (k0_pay7 (BV m hO c t)) (k0_pay75 (k0_pay6 (QV m hO c t))) (L17_1 m hO c t)) (k0_pay107 (L34_1 m hO c t)) (k0_pay108 (k0_pay7 (BV m hO c t)) (k0_pay75 (k0_pay6 (QV m hO c t))) (L18_1 m hO c t)) (k0_pay110 (L35_1 m hO c t)) (k0_pay111 (k0_pay7 (BV m hO c t)) (k0_pay75 (k0_pay6 (QV m hO c t))) (k0_pay109 (L19_1 m hO c t))) (k0_pay114 (k0_pay7 (BV m hO c t)) (k0_pay8 (F := Ideal)) (k0_pay75 (k0_pay6 (QV m hO c t))) (k0_pay77 (k0_pay6 (QV m hO c t)) (k0_pay7 (BV m hO c t)) (L4_1 m hO c t)) (k0_pay80 (k0_pay7 (BV m hO c t)) (k0_pay75 (k0_pay6 (QV m hO c t))) (k0_pay78 (L5_1 m hO c t))) (k0_pay82 (k0_pay7 (BV m hO c t)) (k0_pay75 (k0_pay6 (QV m hO c t))) (L6_1 m hO c t)) (k0_pay84 (k0_pay7 (BV m hO c t)) (k0_pay75 (k0_pay6 (QV m hO c t))) (L7_1 m hO c t)) (k0_pay86 (k0_pay7 (BV m hO c t)) (k0_pay75 (k0_pay6 (QV m hO c t))) (L8_1 m hO c t)) (k0_pay88 (k0_pay7 (BV m hO c t)) (k0_pay75 (k0_pay6 (QV m hO c t))) (L9_1 m hO c t)) (k0_pay90 (k0_pay7 (BV m hO c t)) (k0_pay75 (k0_pay6 (QV m hO c t))) (L10_1 m hO c t)) (k0_pay92 (k0_pay7 (BV m hO c t)) (k0_pay75 (k0_pay6 (QV m hO c t))) (L11_1 m hO c t)) (k0_pay96 (k0_pay7 (BV m hO c t)) (k0_pay75 (k0_pay6 (QV m hO c t))) (k0_pay93 (L12_1 m hO c t))) (k0_pay98 (k0_pay7 (BV m hO c t)) (k0_pay75 (k0_pay6 (QV m hO c t))) (L13_1 m hO c t)) (k0_pay100 (k0_pay7 (BV m hO c t)) (k0_pay75 (k0_pay6 (QV m hO c t))) (L14_1 m hO c t)) (k0_pay102 (k0_pay7 (BV m hO c t)) (k0_pay75 (k0_pay6 (QV m hO c t))) (L15_1 m hO c t)) (k0_pay104 (k0_pay7 (BV m hO c t)) (k0_pay75 (k0_pay6 (QV m hO c t))) (L16_1 m hO c t)) (k0_pay106 (k0_pay7 (BV m hO c t)) (k0_pay75 (k0_pay6 (QV m hO c t))) (L17_1 m hO c t)) (k0_pay108 (k0_pay7 (BV m hO c t)) (k0_pay75 (k0_pay6 (QV m hO c t))) (L18_1 m hO c t)) (k0_pay109 (L19_1 m hO c t)) (L2_1 m hO c t)) (k0_pay128 (k0_pay79 (L21_1 m hO c t)) (k0_pay81 (L22_1 m hO c t)) (k0_pay82 (k0_pay7 (BV m hO c t)) (k0_pay75 (k0_pay6 (QV m hO c t))) (L6_1 m hO c t)) (k0_pay83 (L23_1 m hO c t)) (k0_pay84 (k0_pay7 (BV m hO c t)) (k0_pay75 (k0_pay6 (QV m hO c t))) (L7_1 m hO c t)) (k0_pay85 (L24_1 m hO c t)) (k0_pay86 (k0_pay7 (BV m hO c t)) (k0_pay75 (k0_pay6 (QV m hO c t))) (L8_1 m hO c t)) (k0_pay87 (L25_1 m hO c t)) (k0_pay88 (k0_pay7 (BV m hO c t)) (k0_pay75 (k0_pay6 (QV m hO c t))) (L9_1 m hO c t)) (k0_pay89 (L26_1 m hO c t)) (k0_pay90 (k0_pay7 (BV m hO c t)) (k0_pay75 (k0_pay6 (QV m hO c t))) (L10_1 m hO c t)) (k0_pay91 (L27_1 m hO c t)) (k0_pay92 (k0_pay7 (BV m hO c t)) (k0_pay75 (k0_pay6 (QV m hO c t))) (L11_1 m hO c t)) (k0_pay95 (k0_pay94 (L28_1 m hO c t))) (k0_pay96 (k0_pay7 (BV m hO c t)) (k0_pay75 (k0_pay6 (QV m hO c t))) (k0_pay93 (L12_1 m hO c t))) (k0_pay114 (k0_pay7 (BV m hO c t)) (k0_pay8 (F := Ideal)) (k0_pay75 (k0_pay6 (QV m hO c t))) (k0_pay77 (k0_pay6 (QV m hO c t)) (k0_pay7 (BV m hO c t)) (L4_1 m hO c t)) (k0_pay80 (k0_pay7 (BV m hO c t)) (k0_pay75 (k0_pay6 (QV m hO c t))) (k0_pay78 (L5_1 m hO c t))) (k0_pay82 (k0_pay7 (BV m hO c t)) (k0_pay75 (k0_pay6 (QV m hO c t))) (L6_1 m hO c t)) (k0_pay84 (k0_pay7 (BV m hO c t)) (k0_pay75 (k0_pay6 (QV m hO c t))) (L7_1 m hO c t)) (k0_pay86 (k0_pay7 (BV m hO c t)) (k0_pay75 (k0_pay6 (QV m hO c t))) (L8_1 m hO c t)) (k0_pay88 (k0_pay7 (BV m hO c t)) (k0_pay75 (k0_pay6 (QV m hO c t))) (L9_1 m hO c t)) (k0_pay90 (k0_pay7 (BV m hO c t)) (k0_pay75 (k0_pay6 (QV m hO c t))) (L10_1 m hO c t)) (k0_pay92 (k0_pay7 (BV m hO c t)) (k0_pay75 (k0_pay6 (QV m hO c t))) (L11_1 m hO c t)) (k0_pay96 (k0_pay7 (BV m hO c t)) (k0_pay75 (k0_pay6 (QV m hO c t))) (k0_pay93 (L12_1 m hO c t))) (k0_pay98 (k0_pay7 (BV m hO c t)) (k0_pay75 (k0_pay6 (QV m hO c t))) (L13_1 m hO c t)) (k0_pay100 (k0_pay7 (BV m hO c t)) (k0_pay75 (k0_pay6 (QV m hO c t))) (L14_1 m hO c t)) (k0_pay102 (k0_pay7 (BV m hO c t)) (k0_pay75 (k0_pay6 (QV m hO c t))) (L15_1 m hO c t)) (k0_pay104 (k0_pay7 (BV m hO c t)) (k0_pay75 (k0_pay6 (QV m hO c t))) (L16_1 m hO c t)) (k0_pay106 (k0_pay7 (BV m hO c t)) (k0_pay75 (k0_pay6 (QV m hO c t))) (L17_1 m hO c t)) (k0_pay108 (k0_pay7 (BV m hO c t)) (k0_pay75 (k0_pay6 (QV m hO c t))) (L18_1 m hO c t)) (k0_pay109 (L19_1 m hO c t)) (L2_1 m hO c t)) (k0_pay116 (k0_pay7 (BV m hO c t)) (k0_pay8 (F := Ideal)) (k0_pay75 (k0_pay6 (QV m hO c t))) (k0_pay76 (L20_1 m hO c t)) (k0_pay77 (k0_pay6 (QV m hO c t)) (k0_pay7 (BV m hO c t)) (L4_1 m hO c t)) (k0_pay80 (k0_pay7 (BV m hO c t)) (k0_pay75 (k0_pay6 (QV m hO c t))) (k0_pay78 (L5_1 m hO c t))) (k0_pay82 (k0_pay7 (BV m hO c t)) (k0_pay75 (k0_pay6 (QV m hO c t))) (L6_1 m hO c t)) (k0_pay84 (k0_pay7 (BV m hO c t)) (k0_pay75 (k0_pay6 (QV m hO c t))) (L7_1 m hO c t)) (k0_pay86 (k0_pay7 (BV m hO c t)) (k0_pay75 (k0_pay6 (QV m hO c t))) (L8_1 m hO c t)) (k0_pay88 (k0_pay7 (BV m hO c t)) (k0_pay75 (k0_pay6 (QV m hO c t))) (L9_1 m hO c t)) (k0_pay90 (k0_pay7 (BV m hO c t)) (k0_pay75 (k0_pay6 (QV m hO c t))) (L10_1 m hO c t)) (k0_pay92 (k0_pay7 (BV m hO c t)) (k0_pay75 (k0_pay6 (QV m hO c t))) (L11_1 m hO c t)) (k0_pay96 (k0_pay7 (BV m hO c t)) (k0_pay75 (k0_pay6 (QV m hO c t))) (k0_pay93 (L12_1 m hO c t))) (k0_pay98 (k0_pay7 (BV m hO c t)) (k0_pay75 (k0_pay6 (QV m hO c t))) (L13_1 m hO c t)) (k0_pay100 (k0_pay7 (BV m hO c t)) (k0_pay75 (k0_pay6 (QV m hO c t))) (L14_1 m hO c t)) (k0_pay102 (k0_pay7 (BV m hO c t)) (k0_pay75 (k0_pay6 (QV m hO c t))) (L15_1 m hO c t)) (k0_pay104 (k0_pay7 (BV m hO c t)) (k0_pay75 (k0_pay6 (QV m hO c t))) (L16_1 m hO c t)) (k0_pay106 (k0_pay7 (BV m hO c t)) (k0_pay75 (k0_pay6 (QV m hO c t))) (L17_1 m hO c t)) (k0_pay108 (k0_pay7 (BV m hO c t)) (k0_pay75 (k0_pay6 (QV m hO c t))) (L18_1 m hO c t)) (k0_pay109 (L19_1 m hO c t)) (L2_1 m hO c t)) (k0_pay119 (k0_pay7 (BV m hO c t)) (k0_pay8 (F := Ideal)) (k0_pay75 (k0_pay6 (QV m hO c t))) (k0_pay77 (k0_pay6 (QV m hO c t)) (k0_pay7 (BV m hO c t)) (L4_1 m hO c t)) (k0_pay80 (k0_pay7 (BV m hO c t)) (k0_pay75 (k0_pay6 (QV m hO c t))) (k0_pay78 (L5_1 m hO c t))) (k0_pay82 (k0_pay7 (BV m hO c t)) (k0_pay75 (k0_pay6 (QV m hO c t))) (L6_1 m hO c t)) (k0_pay84 (k0_pay7 (BV m hO c t)) (k0_pay75 (k0_pay6 (QV m hO c t))) (L7_1 m hO c t)) (k0_pay86 (k0_pay7 (BV m hO c t)) (k0_pay75 (k0_pay6 (QV m hO c t))) (L8_1 m hO c t)) (k0_pay88 (k0_pay7 (BV m hO c t)) (k0_pay75 (k0_pay6 (QV m hO c t))) (L9_1 m hO c t)) (k0_pay90 (k0_pay7 (BV m hO c t)) (k0_pay75 (k0_pay6 (QV m hO c t))) (L10_1 m hO c t)) (k0_pay92 (k0_pay7 (BV m hO c t)) (k0_pay75 (k0_pay6 (QV m hO c t))) (L11_1 m hO c t)) (k0_pay96 (k0_pay7 (BV m hO c t)) (k0_pay75 (k0_pay6 (QV m hO c t))) (k0_pay93 (L12_1 m hO c t))) (k0_pay98 (k0_pay7 (BV m hO c t)) (k0_pay75 (k0_pay6 (QV m hO c t))) (L13_1 m hO c t)) (k0_pay100 (k0_pay7 (BV m hO c t)) (k0_pay75 (k0_pay6 (QV m hO c t))) (L14_1 m hO c t)) (k0_pay102 (k0_pay7 (BV m hO c t)) (k0_pay75 (k0_pay6 (QV m hO c t))) (L15_1 m hO c t)) (k0_pay104 (k0_pay7 (BV m hO c t)) (k0_pay75 (k0_pay6 (QV m hO c t))) (L16_1 m hO c t)) (k0_pay106 (k0_pay7 (BV m hO c t)) (k0_pay75 (k0_pay6 (QV m hO c t))) (L17_1 m hO c t)) (k0_pay108 (k0_pay7 (BV m hO c t)) (k0_pay75 (k0_pay6 (QV m hO c t))) (L18_1 m hO c t)) (k0_pay109 (L19_1 m hO c t)) (L2_1 m hO c t))) (k0_pay129 (k0_pay114 (k0_pay7 (BV m hO c t)) (k0_pay8 (F := Ideal)) (k0_pay75 (k0_pay6 (QV m hO c t))) (k0_pay77 (k0_pay6 (QV m hO c t)) (k0_pay7 (BV m hO c t)) (L4_1 m hO c t)) (k0_pay80 (k0_pay7 (BV m hO c t)) (k0_pay75 (k0_pay6 (QV m hO c t))) (k0_pay78 (L5_1 m hO c t))) (k0_pay82 (k0_pay7 (BV m hO c t)) (k0_pay75 (k0_pay6 (QV m hO c t))) (L6_1 m hO c t)) (k0_pay84 (k0_pay7 (BV m hO c t)) (k0_pay75 (k0_pay6 (QV m hO c t))) (L7_1 m hO c t)) (k0_pay86 (k0_pay7 (BV m hO c t)) (k0_pay75 (k0_pay6 (QV m hO c t))) (L8_1 m hO c t)) (k0_pay88 (k0_pay7 (BV m hO c t)) (k0_pay75 (k0_pay6 (QV m hO c t))) (L9_1 m hO c t)) (k0_pay90 (k0_pay7 (BV m hO c t)) (k0_pay75 (k0_pay6 (QV m hO c t))) (L10_1 m hO c t)) (k0_pay92 (k0_pay7 (BV m hO c t)) (k0_pay75 (k0_pay6 (QV m hO c t))) (L11_1 m hO c t)) (k0_pay96 (k0_pay7 (BV m hO c t)) (k0_pay75 (k0_pay6 (QV m hO c t))) (k0_pay93 (L12_1 m hO c t))) (k0_pay98 (k0_pay7 (BV m hO c t)) (k0_pay75 (k0_pay6 (QV m hO c t))) (L13_1 m hO c t)) (k0_pay100 (k0_pay7 (BV m hO c t)) (k0_pay75 (k0_pay6 (QV m hO c t))) (L14_1 m hO c t)) (k0_pay102 (k0_pay7 (BV m hO c t)) (k0_pay75 (k0_pay6 (QV m hO c t))) (L15_1 m hO c t)) (k0_pay104 (k0_pay7 (BV m hO c t)) (k0_pay75 (k0_pay6 (QV m hO c t))) (L16_1 m hO c t)) (k0_pay106 (k0_pay7 (BV m hO c t)) (k0_pay75 (k0_pay6 (QV m hO c t))) (L17_1 m hO c t)) (k0_pay108 (k0_pay7 (BV m hO c t)) (k0_pay75 (k0_pay6 (QV m hO c t))) (L18_1 m hO c t)) (k0_pay109 (L19_1 m hO c t)) (L2_1 m hO c t)))) (k0_pay139 (k0_pay98 (k0_pay7 (BV m hO c t)) (k0_pay75 (k0_pay6 (QV m hO c t))) (L13_1 m hO c t)) (k0_pay100 (k0_pay7 (BV m hO c t)) (k0_pay75 (k0_pay6 (QV m hO c t))) (L14_1 m hO c t)) (k0_pay102 (k0_pay7 (BV m hO c t)) (k0_pay75 (k0_pay6 (QV m hO c t))) (L15_1 m hO c t)) (k0_pay104 (k0_pay7 (BV m hO c t)) (k0_pay75 (k0_pay6 (QV m hO c t))) (L16_1 m hO c t)) (k0_pay106 (k0_pay7 (BV m hO c t)) (k0_pay75 (k0_pay6 (QV m hO c t))) (L17_1 m hO c t)) (k0_pay108 (k0_pay7 (BV m hO c t)) (k0_pay75 (k0_pay6 (QV m hO c t))) (L18_1 m hO c t)) (k0_pay111 (k0_pay7 (BV m hO c t)) (k0_pay75 (k0_pay6 (QV m hO c t))) (k0_pay109 (L19_1 m hO c t))) (k0_pay113 (k0_pay7 (BV m hO c t)) (k0_pay8 (F := Ideal)) (k0_pay75 (k0_pay6 (QV m hO c t))) (L2_1 m hO c t)) (k0_pay114 (k0_pay7 (BV m hO c t)) (k0_pay8 (F := Ideal)) (k0_pay75 (k0_pay6 (QV m hO c t))) (k0_pay77 (k0_pay6 (QV m hO c t)) (k0_pay7 (BV m hO c t)) (L4_1 m hO c t)) (k0_pay80 (k0_pay7 (BV m hO c t)) (k0_pay75 (k0_pay6 (QV m hO c t))) (k0_pay78 (L5_1 m hO c t))) (k0_pay82 (k0_pay7 (BV m hO c t)) (k0_pay75 (k0_pay6 (QV m hO c t))) (L6_1 m hO c t)) (k0_pay84 (k0_pay7 (BV m hO c t)) (k0_pay75 (k0_pay6 (QV m hO c t))) (L7_1 m hO c t)) (k0_pay86 (k0_pay7 (BV m hO c t)) (k0_pay75 (k0_pay6 (QV m hO c t))) (L8_1 m hO c t)) (k0_pay88 (k0_pay7 (BV m hO c t)) (k0_pay75 (k0_pay6 (QV m hO c t))) (L9_1 m hO c t)) (k0_pay90 (k0_pay7 (BV m hO c t)) (k0_pay75 (k0_pay6 (QV m hO c t))) (L10_1 m hO c t)) (k0_pay92 (k0_pay7 (BV m hO c t)) (k0_pay75 (k0_pay6 (QV m hO c t))) (L11_1 m hO c t)) (k0_pay96 (k0_pay7 (BV m hO c t)) (k0_pay75 (k0_pay6 (QV m hO c t))) (k0_pay93 (L12_1 m hO c t))) (k0_pay98 (k0_pay7 (BV m hO c t)) (k0_pay75 (k0_pay6 (QV m hO c t))) (L13_1 m hO c t)) (k0_pay100 (k0_pay7 (BV m hO c t)) (k0_pay75 (k0_pay6 (QV m hO c t))) (L14_1 m hO c t)) (k0_pay102 (k0_pay7 (BV m hO c t)) (k0_pay75 (k0_pay6 (QV m hO c t))) (L15_1 m hO c t)) (k0_pay104 (k0_pay7 (BV m hO c t)) (k0_pay75 (k0_pay6 (QV m hO c t))) (L16_1 m hO c t)) (k0_pay106 (k0_pay7 (BV m hO c t)) (k0_pay75 (k0_pay6 (QV m hO c t))) (L17_1 m hO c t)) (k0_pay108 (k0_pay7 (BV m hO c t)) (k0_pay75 (k0_pay6 (QV m hO c t))) (L18_1 m hO c t)) (k0_pay109 (L19_1 m hO c t)) (L2_1 m hO c t)) (k0_pay127 (k0_pay82 (k0_pay7 (BV m hO c t)) (k0_pay75 (k0_pay6 (QV m hO c t))) (L6_1 m hO c t)) (k0_pay84 (k0_pay7 (BV m hO c t)) (k0_pay75 (k0_pay6 (QV m hO c t))) (L7_1 m hO c t)) (k0_pay86 (k0_pay7 (BV m hO c t)) (k0_pay75 (k0_pay6 (QV m hO c t))) (L8_1 m hO c t)) (k0_pay88 (k0_pay7 (BV m hO c t)) (k0_pay75 (k0_pay6 (QV m hO c t))) (L9_1 m hO c t)) (k0_pay90 (k0_pay7 (BV m hO c t)) (k0_pay75 (k0_pay6 (QV m hO c t))) (L10_1 m hO c t)) (k0_pay92 (k0_pay7 (BV m hO c t)) (k0_pay75 (k0_pay6 (QV m hO c t))) (L11_1 m hO c t)) (k0_pay96 (k0_pay7 (BV m hO c t)) (k0_pay75 (k0_pay6 (QV m hO c t))) (k0_pay93 (L12_1 m hO c t))) (k0_pay114 (k0_pay7 (BV m hO c t)) (k0_pay8 (F := Ideal)) (k0_pay75 (k0_pay6 (QV m hO c t))) (k0_pay77 (k0_pay6 (QV m hO c t)) (k0_pay7 (BV m hO c t)) (L4_1 m hO c t)) (k0_pay80 (k0_pay7 (BV m hO c t)) (k0_pay75 (k0_pay6 (QV m hO c t))) (k0_pay78 (L5_1 m hO c t))) (k0_pay82 (k0_pay7 (BV m hO c t)) (k0_pay75 (k0_pay6 (QV m hO c t))) (L6_1 m hO c t)) (k0_pay84 (k0_pay7 (BV m hO c t)) (k0_pay75 (k0_pay6 (QV m hO c t))) (L7_1 m hO c t)) (k0_pay86 (k0_pay7 (BV m hO c t)) (k0_pay75 (k0_pay6 (QV m hO c t))) (L8_1 m hO c t)) (k0_pay88 (k0_pay7 (BV m hO c t)) (k0_pay75 (k0_pay6 (QV m hO c t))) (L9_1 m hO c t)) (k0_pay90 (k0_pay7 (BV m hO c t)) (k0_pay75 (k0_pay6 (QV m hO c t))) (L10_1 m hO c t)) (k0_pay92 (k0_pay7 (BV m hO c t)) (k0_pay75 (k0_pay6 (QV m hO c t))) (L11_1 m hO c t)) (k0_pay96 (k0_pay7 (BV m hO c t)) (k0_pay75 (k0_pay6 (QV m hO c t))) (k0_pay93 (L12_1 m hO c t))) (k0_pay98 (k0_pay7 (BV m hO c t)) (k0_pay75 (k0_pay6 (QV m hO c t))) (L13_1 m hO c t)) (k0_pay100 (k0_pay7 (BV m hO c t)) (k0_pay75 (k0_pay6 (QV m hO c t))) (L14_1 m hO c t)) (k0_pay102 (k0_pay7 (BV m hO c t)) (k0_pay75 (k0_pay6 (QV m hO c t))) (L15_1 m hO c t)) (k0_pay104 (k0_pay7 (BV m hO c t)) (k0_pay75 (k0_pay6 (QV m hO c t))) (L16_1 m hO c t)) (k0_pay106 (k0_pay7 (BV m hO c t)) (k0_pay75 (k0_pay6 (QV m hO c t))) (L17_1 m hO c t)) (k0_pay108 (k0_pay7 (BV m hO c t)) (k0_pay75 (k0_pay6 (QV m hO c t))) (L18_1 m hO c t)) (k0_pay109 (L19_1 m hO c t)) (L2_1 m hO c t)) (k0_pay118 (k0_pay7 (BV m hO c t)) (k0_pay8 (F := Ideal)) (k0_pay75 (k0_pay6 (QV m hO c t))) (k0_pay77 (k0_pay6 (QV m hO c t)) (k0_pay7 (BV m hO c t)) (L4_1 m hO c t)) (k0_pay80 (k0_pay7 (BV m hO c t)) (k0_pay75 (k0_pay6 (QV m hO c t))) (k0_pay78 (L5_1 m hO c t))) (k0_pay82 (k0_pay7 (BV m hO c t)) (k0_pay75 (k0_pay6 (QV m hO c t))) (L6_1 m hO c t)) (k0_pay84 (k0_pay7 (BV m hO c t)) (k0_pay75 (k0_pay6 (QV m hO c t))) (L7_1 m hO c t)) (k0_pay86 (k0_pay7 (BV m hO c t)) (k0_pay75 (k0_pay6 (QV m hO c t))) (L8_1 m hO c t)) (k0_pay88 (k0_pay7 (BV m hO c t)) (k0_pay75 (k0_pay6 (QV m hO c t))) (L9_1 m hO c t)) (k0_pay90 (k0_pay7 (BV m hO c t)) (k0_pay75 (k0_pay6 (QV m hO c t))) (L10_1 m hO c t)) (k0_pay92 (k0_pay7 (BV m hO c t)) (k0_pay75 (k0_pay6 (QV m hO c t))) (L11_1 m hO c t)) (k0_pay96 (k0_pay7 (BV m hO c t)) (k0_pay75 (k0_pay6 (QV m hO c t))) (k0_pay93 (L12_1 m hO c t))) (k0_pay98 (k0_pay7 (BV m hO c t)) (k0_pay75 (k0_pay6 (QV m hO c t))) (L13_1 m hO c t)) (k0_pay100 (k0_pay7 (BV m hO c t)) (k0_pay75 (k0_pay6 (QV m hO c t))) (L14_1 m hO c t)) (k0_pay102 (k0_pay7 (BV m hO c t)) (k0_pay75 (k0_pay6 (QV m hO c t))) (L15_1 m hO c t)) (k0_pay104 (k0_pay7 (BV m hO c t)) (k0_pay75 (k0_pay6 (QV m hO c t))) (L16_1 m hO c t)) (k0_pay106 (k0_pay7 (BV m hO c t)) (k0_pay75 (k0_pay6 (QV m hO c t))) (L17_1 m hO c t)) (k0_pay108 (k0_pay7 (BV m hO c t)) (k0_pay75 (k0_pay6 (QV m hO c t))) (L18_1 m hO c t)) (k0_pay109 (L19_1 m hO c t)) (L2_1 m hO c t))) (k0_pay129 (k0_pay114 (k0_pay7 (BV m hO c t)) (k0_pay8 (F := Ideal)) (k0_pay75 (k0_pay6 (QV m hO c t))) (k0_pay77 (k0_pay6 (QV m hO c t)) (k0_pay7 (BV m hO c t)) (L4_1 m hO c t)) (k0_pay80 (k0_pay7 (BV m hO c t)) (k0_pay75 (k0_pay6 (QV m hO c t))) (k0_pay78 (L5_1 m hO c t))) (k0_pay82 (k0_pay7 (BV m hO c t)) (k0_pay75 (k0_pay6 (QV m hO c t))) (L6_1 m hO c t)) (k0_pay84 (k0_pay7 (BV m hO c t)) (k0_pay75 (k0_pay6 (QV m hO c t))) (L7_1 m hO c t)) (k0_pay86 (k0_pay7 (BV m hO c t)) (k0_pay75 (k0_pay6 (QV m hO c t))) (L8_1 m hO c t)) (k0_pay88 (k0_pay7 (BV m hO c t)) (k0_pay75 (k0_pay6 (QV m hO c t))) (L9_1 m hO c t)) (k0_pay90 (k0_pay7 (BV m hO c t)) (k0_pay75 (k0_pay6 (QV m hO c t))) (L10_1 m hO c t)) (k0_pay92 (k0_pay7 (BV m hO c t)) (k0_pay75 (k0_pay6 (QV m hO c t))) (L11_1 m hO c t)) (k0_pay96 (k0_pay7 (BV m hO c t)) (k0_pay75 (k0_pay6 (QV m hO c t))) (k0_pay93 (L12_1 m hO c t))) (k0_pay98 (k0_pay7 (BV m hO c t)) (k0_pay75 (k0_pay6 (QV m hO c t))) (L13_1 m hO c t)) (k0_pay100 (k0_pay7 (BV m hO c t)) (k0_pay75 (k0_pay6 (QV m hO c t))) (L14_1 m hO c t)) (k0_pay102 (k0_pay7 (BV m hO c t)) (k0_pay75 (k0_pay6 (QV m hO c t))) (L15_1 m hO c t)) (k0_pay104 (k0_pay7 (BV m hO c t)) (k0_pay75 (k0_pay6 (QV m hO c t))) (L16_1 m hO c t)) (k0_pay106 (k0_pay7 (BV m hO c t)) (k0_pay75 (k0_pay6 (QV m hO c t))) (L17_1 m hO c t)) (k0_pay108 (k0_pay7 (BV m hO c t)) (k0_pay75 (k0_pay6 (QV m hO c t))) (L18_1 m hO c t)) (k0_pay109 (L19_1 m hO c t)) (L2_1 m hO c t)))) (k0_pay140 (k0_pay113 (k0_pay7 (BV m hO c t)) (k0_pay8 (F := Ideal)) (k0_pay75 (k0_pay6 (QV m hO c t))) (L2_1 m hO c t)) (k0_pay114 (k0_pay7 (BV m hO c t)) (k0_pay8 (F := Ideal)) (k0_pay75 (k0_pay6 (QV m hO c t))) (k0_pay77 (k0_pay6 (QV m hO c t)) (k0_pay7 (BV m hO c t)) (L4_1 m hO c t)) (k0_pay80 (k0_pay7 (BV m hO c t)) (k0_pay75 (k0_pay6 (QV m hO c t))) (k0_pay78 (L5_1 m hO c t))) (k0_pay82 (k0_pay7 (BV m hO c t)) (k0_pay75 (k0_pay6 (QV m hO c t))) (L6_1 m hO c t)) (k0_pay84 (k0_pay7 (BV m hO c t)) (k0_pay75 (k0_pay6 (QV m hO c t))) (L7_1 m hO c t)) (k0_pay86 (k0_pay7 (BV m hO c t)) (k0_pay75 (k0_pay6 (QV m hO c t))) (L8_1 m hO c t)) (k0_pay88 (k0_pay7 (BV m hO c t)) (k0_pay75 (k0_pay6 (QV m hO c t))) (L9_1 m hO c t)) (k0_pay90 (k0_pay7 (BV m hO c t)) (k0_pay75 (k0_pay6 (QV m hO c t))) (L10_1 m hO c t)) (k0_pay92 (k0_pay7 (BV m hO c t)) (k0_pay75 (k0_pay6 (QV m hO c t))) (L11_1 m hO c t)) (k0_pay96 (k0_pay7 (BV m hO c t)) (k0_pay75 (k0_pay6 (QV m hO c t))) (k0_pay93 (L12_1 m hO c t))) (k0_pay98 (k0_pay7 (BV m hO c t)) (k0_pay75 (k0_pay6 (QV m hO c t))) (L13_1 m hO c t)) (k0_pay100 (k0_pay7 (BV m hO c t)) (k0_pay75 (k0_pay6 (QV m hO c t))) (L14_1 m hO c t)) (k0_pay102 (k0_pay7 (BV m hO c t)) (k0_pay75 (k0_pay6 (QV m hO c t))) (L15_1 m hO c t)) (k0_pay104 (k0_pay7 (BV m hO c t)) (k0_pay75 (k0_pay6 (QV m hO c t))) (L16_1 m hO c t)) (k0_pay106 (k0_pay7 (BV m hO c t)) (k0_pay75 (k0_pay6 (QV m hO c t))) (L17_1 m hO c t)) (k0_pay108 (k0_pay7 (BV m hO c t)) (k0_pay75 (k0_pay6 (QV m hO c t))) (L18_1 m hO c t)) (k0_pay109 (L19_1 m hO c t)) (L2_1 m hO c t)))
      = head1 m hO c t :=
  o1_final (QV m hO c t) (BV m hO c t) (L2_1 m hO c t) (L3_1 m hO c t)
    (L4_1 m hO c t) (L5_1 m hO c t) (L6_1 m hO c t) (L7_1 m hO c t) (L8_1 m hO c t) (L9_1 m hO c t) (L10_1 m hO c t) (L11_1 m hO c t) (L12_1 m hO c t) (L13_1 m hO c t) (L14_1 m hO c t) (L15_1 m hO c t) (L16_1 m hO c t) (L17_1 m hO c t) (L18_1 m hO c t) (L19_1 m hO c t)
    (L20_1 m hO c t) (L21_1 m hO c t) (L22_1 m hO c t) (L23_1 m hO c t) (L24_1 m hO c t) (L25_1 m hO c t) (L26_1 m hO c t) (L27_1 m hO c t) (L28_1 m hO c t) (L29_1 m hO c t) (L30_1 m hO c t) (L31_1 m hO c t) (L32_1 m hO c t) (L33_1 m hO c t) (L34_1 m hO c t) (L35_1 m hO c t)
    (tiles (m ((0 : Dev nD).tc.loc main_arg0)) (m ((c.tc : Thread nD τ).loc main_arg3)) (m ((c.tc : Thread nD τ).loc main_arg5)) (row m hO t) 1) (tiles (m ((0 : Dev nD).tc.loc main_arg0)) (m ((c.tc : Thread nD τ).loc main_arg4)) (m ((c.tc : Thread nD τ).loc main_arg6)) (row m hO t) 1)
    (L4_1_eq m hO hp c t)
    (L5_1_eq m hO hp c t)
    (L6_1_eq m hO hp c t)
    (L7_1_eq m hO hp c t)
    (L8_1_eq m hO hp c t)
    (L9_1_eq m hO hp c t)
    (L10_1_eq m hO hp c t)
    (L11_1_eq m hO hp c t)
    (L12_1_eq m hO hp c t)
    (L13_1_eq m hO hp c t)
    (L14_1_eq m hO hp c t)
    (L15_1_eq m hO hp c t)
    (L16_1_eq m hO hp c t)
    (L17_1_eq m hO hp c t)
    (L18_1_eq m hO hp c t)
    (L19_1_eq m hO hp c t)
    (new_eq (m ((0 : Dev nD).tc.loc main_arg0)) (m ((c.tc : Thread nD τ).loc main_arg3)) (m ((c.tc : Thread nD τ).loc main_arg5)) (row m hO t) 1 (iblk m hO c 2 t) (iblk2 m hO c t) _ RN1.idx (fun y => (hs0_2 m hO t).readAt_unread (Val := Elt Ideal) (iblk m hO c 2 t) RN1 y) RN1_1 RN1_2 _ (pay48_at _))
    (L20_1_eq m hO hp c t)
    (L21_1_eq m hO hp c t)
    (L22_1_eq m hO hp c t)
    (L23_1_eq m hO hp c t)
    (L24_1_eq m hO hp c t)
    (L25_1_eq m hO hp c t)
    (L26_1_eq m hO hp c t)
    (L27_1_eq m hO hp c t)
    (L28_1_eq m hO hp c t)
    (L29_1_eq m hO hp c t)
    (L30_1_eq m hO hp c t)
    (L31_1_eq m hO hp c t)
    (L32_1_eq m hO hp c t)
    (L33_1_eq m hO hp c t)
    (L34_1_eq m hO hp c t)
    (L35_1_eq m hO hp c t)
    (new_eq (m ((0 : Dev nD).tc.loc main_arg0)) (m ((c.tc : Thread nD τ).loc main_arg4)) (m ((c.tc : Thread nD τ).loc main_arg6)) (row m hO t) 1 (iblk m hO c 3 t) (iblk3 m hO c t) _ RN1.idx (fun y => (hs0_3 m hO t).readAt_unread (Val := Elt Ideal) (iblk m hO c 3 t) RN1 y) RN1_1 RN1_2 _ (pay112_at _))

/-- A head's rows of the result. -/
theorem head_at (kv : Fin 2) (Q : FVec Ideal S32x128 .bf16) (x : FVec Ideal S1x8x2176 .f32) (Qa : FVec Ideal S128x8x1024 .bf16) (Ba : FVec Ideal S128x8x2176 .f32)
    (pg : Vec Ideal S128x16 .i32) (kn vn : FVec Ideal S128x8x256 .f32) (ck cv : FVec Ideal S1x2560x128x2x128 .f32) (b : Fin 128)
    (hb : ∀ y, x y = Ba (ix3 b (y 1) (y 2)))
    (hq : ∀ (r : Fin 32) (d : Fin 128), Q (ix2 r d) = Qa (ix3 b (⟨r.val % 8, by omega⟩ : Fin 8) (⟨(kv.val * 4 + r.val / 8) * 128 + d.val, by have := kv.isLt; have := r.isLt; have := d.isLt; omega⟩ : Fin 1024)))
    (g : ℕ) (hg : g < 4) (X : FVec Ideal S32x128 .f32) (hX : X = oFn (fun p => tileS Q (k0_pay7 x) (tiles pg kn ck b kv p) p) (tiles pg vn cv b kv) (mxf fun p => tileS Q (k0_pay7 x) (tiles pg kn ck b kv p) p))
    (t : Fin 8) (e : Fin 128) (r : Fin 32) (hr : r.val = 8 * g + t.val) (y : S128x8x1024.Idx) (hy0 : (y 0).val = b.val) (hy1 : (y 1).val = t.val) (hy2 : (y 2).val = (kv.val * 4 + g) * 128 + e.val) :
    X (ix2 r e) = attnK Qa Ba pg kn vn ck cv y := by
  have ht := t.isLt; have he := e.isLt; have hk := kv.isLt
  obtain ⟨b', t', z, rfl⟩ : ∃ (b' : Fin 128) (t' : Fin 8) (z : Fin 1024), y = ix3 b' t' z := ⟨y 0, y 1, y 2, by idx_vars y⟩
  obtain rfl : b' = b := Fin.ext hy0
  obtain rfl : t' = t := Fin.ext hy1
  replace hy2 : z.val = (kv.val * 4 + g) * 128 + e.val := hy2
  subst hX
  have hkv : (⟨z.val / 512, by have := z.isLt; omega⟩ : Fin 2) = kv := Fin.ext (by dsimp only; omega)
  have hee : (⟨z.val % 128, Nat.mod_lt _ (by decide)⟩ : Fin 128) = e := Fin.ext (by dsimp only; omega)
  show _ = kOut (score Qa Ba (keyAt pg kn ck b' (⟨z.val / 512, by have := z.isLt; omega⟩ : Fin 2)) b' t' (⟨z.val / 128, by have := z.isLt; omega⟩ : Fin 8))
    (keyAt pg vn cv b' (⟨z.val / 512, by have := z.isLt; omega⟩ : Fin 2) (⟨z.val % 128, Nat.mod_lt _ (by decide)⟩ : Fin 128))
  rw [hkv, hee]
  refine oFn_at Q (k0_pay7 x) (tiles pg kn ck b' kv) (tiles pg vn cv b' kv) r e _ _ (fun p c => ?_) (fun p c => rfl)
  refine score_at Qa Ba pg kn ck b' kv Q x hb r t' _ (by omega) (fun d => ?_) p c
  rw [hq r d]
  have e1 : (⟨r.val % 8, by omega⟩ : Fin 8) = t' := Fin.ext (by dsimp only; omega)
  have e2 : (⟨(kv.val * 4 + r.val / 8) * 128 + d.val, by have := r.isLt; have := d.isLt; omega⟩ : Fin 1024) = ⟨z.val / 128 * 128 + d.val, by have := z.isLt; have := d.isLt; omega⟩ := Fin.ext (by dsimp only; omega)
  rw [e1, e2]

theorem head0_at (c : Dev nD) (t : Fin (cfgM m hO).N) (g : ℕ) (hg : g < 4) (u : Fin 8) (e : Fin 128) (r : Fin 32) (hr : r.val = 8 * g + u.val)
    (y : S128x8x1024.Idx) (hy0 : (y 0).val = (row m hO t).val) (hy1 : (y 1).val = u.val) (hy2 : (y 2).val = (0 * 4 + g) * 128 + e.val) :
    head0 m hO c t (ix2 r e) = attnK (m ((c.tc : Thread nD τ).loc main_arg1)) (m ((c.tc : Thread nD τ).loc main_arg2)) (m ((0 : Dev nD).tc.loc main_arg0)) (m ((c.tc : Thread nD τ).loc main_arg3)) (m ((c.tc : Thread nD τ).loc main_arg4)) (m ((c.tc : Thread nD τ).loc main_arg5)) (m ((c.tc : Thread nD τ).loc main_arg6)) y := by
  refine head_at 0 (k0_pay9 (F := Ideal) (QV m hO c t)) (BV m hO c t) (m ((c.tc : Thread nD τ).loc main_arg1)) (m ((c.tc : Thread nD τ).loc main_arg2)) (m ((0 : Dev nD).tc.loc main_arg0)) (m ((c.tc : Thread nD τ).loc main_arg3)) (m ((c.tc : Thread nD τ).loc main_arg4)) (m ((c.tc : Thread nD τ).loc main_arg5)) (m ((c.tc : Thread nD τ).loc main_arg6)) (row m hO t) ?_ ?_ g hg _ rfl u e r hr y hy0 hy1 hy2
  · intro y
    exact (congrFun ((hs0_1 m hO t).read_unread (Val := Elt Ideal) (iblk m hO c 1 t)) y).trans (iblk1 m hO c t y)
  · intro r d
    refine (pay9_at _ r d).trans ?_
    refine (congrFun ((hs0_0 m hO t).read_unread (Val := Elt Ideal) (iblk m hO c 0 t)) _).trans ?_
    refine (iblk0 m hO c t _).trans ?_
    refine congrArg (m ((c.tc : Thread nD τ).loc main_arg1)) (funext fun a => Fin.ext ?_)
    have := r.isLt
    match a with
    | ⟨0, _⟩ => rfl
    | ⟨1, _⟩ => rfl
    | ⟨2, _⟩ => show r.val / 8 * 128 + d.val = (0 * 4 + r.val / 8) * 128 + d.val; omega

theorem head1_at (c : Dev nD) (t : Fin (cfgM m hO).N) (g : ℕ) (hg : g < 4) (u : Fin 8) (e : Fin 128) (r : Fin 32) (hr : r.val = 8 * g + u.val)
    (y : S128x8x1024.Idx) (hy0 : (y 0).val = (row m hO t).val) (hy1 : (y 1).val = u.val) (hy2 : (y 2).val = (1 * 4 + g) * 128 + e.val) :
    head1 m hO c t (ix2 r e) = attnK (m ((c.tc : Thread nD τ).loc main_arg1)) (m ((c.tc : Thread nD τ).loc main_arg2)) (m ((0 : Dev nD).tc.loc main_arg0)) (m ((c.tc : Thread nD τ).loc main_arg3)) (m ((c.tc : Thread nD τ).loc main_arg4)) (m ((c.tc : Thread nD τ).loc main_arg5)) (m ((c.tc : Thread nD τ).loc main_arg6)) y := by
  refine head_at 1 (k0_pay75 (F := Ideal) (k0_pay6 (QV m hO c t))) (BV m hO c t) (m ((c.tc : Thread nD τ).loc main_arg1)) (m ((c.tc : Thread nD τ).loc main_arg2)) (m ((0 : Dev nD).tc.loc main_arg0)) (m ((c.tc : Thread nD τ).loc main_arg3)) (m ((c.tc : Thread nD τ).loc main_arg4)) (m ((c.tc : Thread nD τ).loc main_arg5)) (m ((c.tc : Thread nD τ).loc main_arg6)) (row m hO t) ?_ ?_ g hg _ rfl u e r hr y hy0 hy1 hy2
  · intro y
    exact (congrFun ((hs0_1 m hO t).read_unread (Val := Elt Ideal) (iblk m hO c 1 t)) y).trans (iblk1 m hO c t y)
  · intro r d
    refine (pay75_at _ r d).trans ?_
    refine (congrFun ((hs0_0 m hO t).read_unread (Val := Elt Ideal) (iblk m hO c 0 t)) _).trans ?_
    refine (iblk0 m hO c t _).trans ?_
    refine congrArg (m ((c.tc : Thread nD τ).loc main_arg1)) (funext fun a => Fin.ext ?_)
    have := r.isLt
    match a with
    | ⟨0, _⟩ => rfl
    | ⟨1, _⟩ => rfl
    | ⟨2, _⟩ => show 512 + r.val / 8 * 128 + d.val = (1 * 4 + r.val / 8) * 128 + d.val; omega

theorem store4 (v516 : FVec Ideal S128x128 .bf16) (v652 v656 : FVec Ideal S32x128 .f32) (v657 : FVec Ideal S32x128 .bf16) (N : FVec Ideal S32x128 .f32)
    (h : k0_pay1 (F := Ideal) v516 v652 v656 v657 = N) (x : S1x8x128.Idx) :
    k0_pay2 (F := Ideal) v516 v652 v656 v657 x = N (ix2 (⟨0 + (x 1).val, by have h : (x 1).val < 8 := (x 1).isLt; omega⟩ : Fin 32) (x 2)) := by
  unfold k0_pay2
  rw [h]
  idx_vars x
  pointwise []

theorem store5 (v516 : FVec Ideal S128x128 .bf16) (v652 v656 : FVec Ideal S32x128 .f32) (v657 : FVec Ideal S32x128 .bf16) (N : FVec Ideal S32x128 .f32)
    (h : k0_pay1 (F := Ideal) v516 v652 v656 v657 = N) (x : S1x8x128.Idx) :
    k0_pay3 (F := Ideal) v516 v652 v656 v657 x = N (ix2 (⟨8 + (x 1).val, by have h : (x 1).val < 8 := (x 1).isLt; omega⟩ : Fin 32) (x 2)) := by
  unfold k0_pay3
  rw [h]
  idx_vars x
  pointwise []

theorem store6 (v516 : FVec Ideal S128x128 .bf16) (v652 v656 : FVec Ideal S32x128 .f32) (v657 : FVec Ideal S32x128 .bf16) (N : FVec Ideal S32x128 .f32)
    (h : k0_pay1 (F := Ideal) v516 v652 v656 v657 = N) (x : S1x8x128.Idx) :
    k0_pay4 (F := Ideal) v516 v652 v656 v657 x = N (ix2 (⟨16 + (x 1).val, by have h : (x 1).val < 8 := (x 1).isLt; omega⟩ : Fin 32) (x 2)) := by
  unfold k0_pay4
  rw [h]
  idx_vars x
  pointwise []

theorem store7 (v516 : FVec Ideal S128x128 .bf16) (v652 v656 : FVec Ideal S32x128 .f32) (v657 : FVec Ideal S32x128 .bf16) (N : FVec Ideal S32x128 .f32)
    (h : k0_pay1 (F := Ideal) v516 v652 v656 v657 = N) (x : S1x8x128.Idx) :
    k0_pay5 (F := Ideal) v516 v652 v656 v657 x = N (ix2 (⟨24 + (x 1).val, by have h : (x 1).val < 8 := (x 1).isLt; omega⟩ : Fin 32) (x 2)) := by
  unfold k0_pay5
  rw [h]
  idx_vars x
  pointwise []

theorem store0' (v117 : FVec Ideal S128x128 .bf16) (v127 : FVec Ideal S128x128 .bf16) (v131 : FVec Ideal S32x128 .f32) (v137 : FVec Ideal S128x128 .bf16) (v141 : FVec Ideal S32x128 .f32) (v147 : FVec Ideal S128x128 .bf16) (v151 : FVec Ideal S32x128 .f32) (v157 : FVec Ideal S128x128 .bf16) (v161 : FVec Ideal S32x128 .f32) (v167 : FVec Ideal S128x128 .bf16) (v171 : FVec Ideal S32x128 .f32) (v179 : FVec Ideal S128x128 .bf16) (v183 : FVec Ideal S32x128 .f32) (v201 : FVec Ideal S32x1 .f32) (v273 : FVec Ideal S32x128 .f32) (v277 : FVec Ideal S32x128 .f32) (v278 : FVec Ideal S32x128 .bf16) (cst_137 : FVec Ideal S32x128 .f32) (N : FVec Ideal S32x128 .f32)
    (h : k0_pay69 (F := Ideal) v117 v127 v131 v137 v141 v147 v151 v157 v161 v167 v171 v179 v183 v201 v273 v277 v278 cst_137 = N) (x : S1x8x128.Idx) :
    k0_pay71 (F := Ideal) (k0_pay70 v117 v127 v131 v137 v141 v147 v151 v157 v161 v167 v171 v179 v183 v201 v273 v277 v278 cst_137) x = N (ix2 (⟨0 + (x 1).val, by have h : (x 1).val < 8 := (x 1).isLt; omega⟩ : Fin 32) (x 2)) := by
  unfold k0_pay70
  rw [h]
  exact store0 N x

theorem idx36 : ∀ t : Fin grid0.N, cc0_transform_36 (grid0.coords t) = ![t.val, 0, 0] := by decide +kernel

theorem covers36 : ((cfgM m hO).win 36).Covers := by
  refine ⟨by show ∀ a : Fin 3, 0 < (![1, 8, 1024] : Fin 3 → ℕ) a; decide, fun β => ?_⟩
  have b0 : (β (0 : Fin 3)).val < 128 := lt_of_lt_of_eq (β (0 : Fin 3)).isLt (by unfold Pipeline.Window.nblk; show (128 + 1 - 1) / 1 = 128; rfl)
  have b1 : (β (1 : Fin 3)).val < 1 := lt_of_lt_of_eq (β (1 : Fin 3)).isLt (by unfold Pipeline.Window.nblk; show (8 + 8 - 1) / 8 = 1; rfl)
  have b2 : (β (2 : Fin 3)).val < 1 := lt_of_lt_of_eq (β (2 : Fin 3)).isLt (by unfold Pipeline.Window.nblk; show (1024 + 1024 - 1) / 1024 = 1; rfl)
  have e : (pcfg0.win (adm m hO) 36).index ⟨(β (0 : Fin 3)).val, lt_of_lt_of_eq b0 N_0.symm⟩ = ![(β (0 : Fin 3)).val, 0, 0] := idx36 ⟨(β (0 : Fin 3)).val, lt_of_lt_of_eq b0 N_0.symm⟩
  refine ⟨⟨(β (0 : Fin 3)).val, lt_of_lt_of_eq b0 N_0.symm⟩, flush0_36 (adm m hO) _, fun a => ⟨(congrFun e a).trans ?_, Or.inl rfl⟩⟩
  match a with
  | ⟨0, _⟩ => rfl
  | ⟨1, _⟩ => exact (Nat.lt_one_iff.mp b1).symm
  | ⟨2, _⟩ => exact (Nat.lt_one_iff.mp b2).symm

set_option maxHeartbeats 4000000 in
include hp in
theorem final (c : Dev nD) : (dats m hO 0 c).arrAt 36 (cfgM m hO).N = attnK (m ((c.tc : Thread nD τ).loc main_arg1)) (m ((c.tc : Thread nD τ).loc main_arg2)) (m ((0 : Dev nD).tc.loc main_arg0)) (m ((c.tc : Thread nD τ).loc main_arg3)) (m ((c.tc : Thread nD τ).loc main_arg4)) (m ((c.tc : Thread nD τ).loc main_arg5)) (m ((c.tc : Thread nD τ).loc main_arg6)) := by
  have H0 := head0_eq m hO hp c
  have H1 := head1_eq m hO hp c
  refine (dats m hO 0 c).arrAt_eq_of_covers 36 _ (covers36 m hO) fun t hf y => ?_
  revert y
  intro (y : S1x8x1024.Idx)
  blk_simp
  rw [after0_36]
  unfold outsAt0
  frame_out
  replace H0 := H0 t
  replace H1 := H1 t
  have e : (pcfg0.win (adm m hO) 36).index t = ![t.val, 0, 0] := idx36 t
  have e0 : (pcfg0.win (adm m hO) 36).index t 0 = t.val := congrFun e 0
  have e1 : (pcfg0.win (adm m hO) 36).index t 1 = 0 := congrFun e 1
  have e2 : (pcfg0.win (adm m hO) 36).index t 2 = 0 := congrFun e 2
  canon_tiles x h
  case piece0 =>
    refine (store7 _ _ _ _ _ H1 x).trans (head1_at m hO c t 3 (by decide) (x 1) (x 2) _ rfl _ ?_ ?_ ?_)
    · blk_simp
      exact e0
    · blk_simp
      exact (zero_block e1 _ _).trans h1
    · blk_simp
      exact (zero_block e2 _ _).trans (by omega)
  case piece1 =>
    refine (store6 _ _ _ _ _ H1 x).trans (head1_at m hO c t 2 (by decide) (x 1) (x 2) _ rfl _ ?_ ?_ ?_)
    · blk_simp
      exact e0
    · blk_simp
      exact (zero_block e1 _ _).trans h1
    · blk_simp
      exact (zero_block e2 _ _).trans (by omega)
  case piece2 =>
    refine (store5 _ _ _ _ _ H1 x).trans (head1_at m hO c t 1 (by decide) (x 1) (x 2) _ rfl _ ?_ ?_ ?_)
    · blk_simp
      exact e0
    · blk_simp
      exact (zero_block e1 _ _).trans h1
    · blk_simp
      exact (zero_block e2 _ _).trans (by omega)
  case piece3 =>
    refine (store4 _ _ _ _ _ H1 x).trans (head1_at m hO c t 0 (by decide) (x 1) (x 2) _ rfl _ ?_ ?_ ?_)
    · blk_simp
      exact e0
    · blk_simp
      exact (zero_block e1 _ _).trans h1
    · blk_simp
      exact (zero_block e2 _ _).trans (by omega)
  case piece4 =>
    refine ((congrArg (fun N : FVec Ideal S32x128 .f32 => k0_pay74 (F := Ideal) N x) H0).trans (store3 _ x)).trans (head0_at m hO c t 3 (by decide) (x 1) (x 2) _ rfl _ ?_ ?_ ?_)
    · blk_simp
      exact e0
    · blk_simp
      exact (zero_block e1 _ _).trans h1
    · blk_simp
      exact (zero_block e2 _ _).trans (by omega)
  case piece5 =>
    refine ((congrArg (fun N : FVec Ideal S32x128 .f32 => k0_pay73 (F := Ideal) N x) H0).trans (store2 _ x)).trans (head0_at m hO c t 2 (by decide) (x 1) (x 2) _ rfl _ ?_ ?_ ?_)
    · blk_simp
      exact e0
    · blk_simp
      exact (zero_block e1 _ _).trans h1
    · blk_simp
      exact (zero_block e2 _ _).trans (by omega)
  case piece6 =>
    refine ((congrArg (fun N : FVec Ideal S32x128 .f32 => k0_pay72 (F := Ideal) N x) H0).trans (store1 _ x)).trans (head0_at m hO c t 1 (by decide) (x 1) (x 2) _ rfl _ ?_ ?_ ?_)
    · blk_simp
      exact e0
    · blk_simp
      exact (zero_block e1 _ _).trans h1
    · blk_simp
      exact (zero_block e2 _ _).trans (by omega)
  case piece7 =>
    refine (store0' _ _ _ _ _ _ _ _ _ _ _ _ _ _ _ _ _ _ _ H0 x).trans (head0_at m hO c t 0 (by decide) (x 1) (x 2) _ rfl _ ?_ ?_ ?_)
    · blk_simp
      exact e0
    · blk_simp
      exact (zero_block e1 _ _).trans h1
    · blk_simp
      exact (zero_block e2 _ _).trans (by omega)

end Cert.KernelIdeal.Value

end
-- ==== Proof.AttnRef.lean ====
/- The sample attention's reference, read at an index: each head's weighted mean over the row's keys. -/
module

public import proofs.«01_k».proof.Proof.Gen.ReferenceIdeal.Read
public import proofs.«01_k».proof.Proof.AttnHead
public import Idealize.ShloMosaic.Lib.Pointwise

@[expose] public section

set_option maxRecDepth 16384

noncomputable section

namespace Cert.ReferenceIdeal.Own

open Cert.ReferenceIdeal Cert.ReferenceIdeal.Gen Cert.ReferenceIdeal.Read Idealize.ShloMosaic Idealize.ShloMosaic.TcCoe Idealize.SL.Sem
open Cert.KernelIdeal.Value (pageOf keyAt score)
open Cert.Attn

/-- The pages of a table, read out of an array of 2560 pages. -/
theorem gather_page (x : FVec Ideal S2560x128x2x128 .f32) (idx : IVec S128x16x1 32) (b : Fin 128) (p : Fin 16) (c : Fin 128) (g : Fin 2) (d : Fin 128) :
    Host.gather gather_S2560x128x2x128_S128x16x1_S128x16x128x2x128_234_0_n_n_0_2_11282128 x idx (ix5 b p c g d)
      = x (ix4 (⟨min (idx (ix3 b p (0 : Fin 1))).toInt.toNat 2559, by omega⟩ : Fin 2560) c g d) := by
  unfold Host.gather
  refine congrArg x (funext fun a => Fin.ext ?_)
  match a with
  | ⟨0, _⟩ =>
    show (gather_S2560x128x2x128_S128x16x1_S128x16x128x2x128_234_0_n_n_0_2_11282128).start (ix5 b p c g d) idx 0
      + (gather_S2560x128x2x128_S128x16x1_S128x16x128x2x128_234_0_n_n_0_2_11282128).batchCoord (ix5 b p c g d) 0
      + (gather_S2560x128x2x128_S128x16x1_S128x16x128x2x128_234_0_n_n_0_2_11282128).offCoord (ix5 b p c g d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 4) ∈ (gather_S2560x128x2x128_S128x16x1_S128x16x128x2x128_234_0_n_n_0_2_11282128).startIndexMap from List.mem_singleton.mpr rfl)]
    have hsi : (gather_S2560x128x2x128_S128x16x1_S128x16x128x2x128_234_0_n_n_0_2_11282128).siIdx (ix5 b p c g d)
        ⟨List.idxOf (0 : Fin 4) (gather_S2560x128x2x128_S128x16x1_S128x16x128x2x128_234_0_n_n_0_2_11282128).startIndexMap,
          List.idxOf_lt_length_iff.2 (List.mem_singleton.mpr rfl)⟩ = ix3 b p (0 : Fin 1) := by
      funext b'; refine Fin.ext ?_
      match b' with
      | ⟨0, _⟩ => rfl
      | ⟨1, _⟩ => rfl
      | ⟨2, _⟩ => rfl
    rw [hsi]
    rfl
  | ⟨1, _⟩ => exact (by
      show (gather_S2560x128x2x128_S128x16x1_S128x16x128x2x128_234_0_n_n_0_2_11282128).start (ix5 b p c g d) idx 1
        + (gather_S2560x128x2x128_S128x16x1_S128x16x128x2x128_234_0_n_n_0_2_11282128).batchCoord (ix5 b p c g d) 1
        + (gather_S2560x128x2x128_S128x16x1_S128x16x128x2x128_234_0_n_n_0_2_11282128).offCoord (ix5 b p c g d) 1 = c.val
      unfold GatherDims.start
      rw [dif_neg (by decide), GatherDims.batchCoord_eq_zero _ _ _ List.not_mem_nil, Nat.add_zero, Nat.zero_add]
      rfl)
  | ⟨2, _⟩ => exact (by
      show (gather_S2560x128x2x128_S128x16x1_S128x16x128x2x128_234_0_n_n_0_2_11282128).start (ix5 b p c g d) idx 2
        + (gather_S2560x128x2x128_S128x16x1_S128x16x128x2x128_234_0_n_n_0_2_11282128).batchCoord (ix5 b p c g d) 2
        + (gather_S2560x128x2x128_S128x16x1_S128x16x128x2x128_234_0_n_n_0_2_11282128).offCoord (ix5 b p c g d) 2 = g.val
      unfold GatherDims.start
      rw [dif_neg (by decide), GatherDims.batchCoord_eq_zero _ _ _ List.not_mem_nil, Nat.add_zero, Nat.zero_add]
      rfl)
  | ⟨3, _⟩ => exact (by
      show (gather_S2560x128x2x128_S128x16x1_S128x16x128x2x128_234_0_n_n_0_2_11282128).start (ix5 b p c g d) idx 3
        + (gather_S2560x128x2x128_S128x16x1_S128x16x128x2x128_234_0_n_n_0_2_11282128).batchCoord (ix5 b p c g d) 3
        + (gather_S2560x128x2x128_S128x16x1_S128x16x128x2x128_234_0_n_n_0_2_11282128).offCoord (ix5 b p c g d) 3 = d.val
      unfold GatherDims.start
      rw [dif_neg (by decide), GatherDims.batchCoord_eq_zero _ _ _ List.not_mem_nil, Nat.add_zero, Nat.zero_add]
      rfl)

theorem fold_max_bot {n : ℕ} (f : Fin n → EReal) : Finset.fold max ⊥ f Finset.univ = ⨆ j, f j := by
  apply le_antisymm
  · rw [Finset.fold_max_le]
    exact ⟨bot_le, fun c _ => le_iSup f c⟩
  · refine iSup_le fun c => ?_
    rw [Finset.le_fold_max]
    exact Or.inr ⟨c, Finset.mem_univ _, le_refl _⟩

variable (pg : IVec S128x16 32) (q : FVec Ideal S128x8x1024 .bf16) (bias : FVec Ideal S128x8x2176 .f32) (kn vn : FVec Ideal S128x8x256 .f32)
  (ck cv : FVec Ideal S1x2560x128x2x128 .f32)

section
variable (hp : ∀ x, (pg x).toNat < 2560)
include hp

theorem toInt_page (x : S128x16.Idx) : (pg x).toInt.toNat = (pg x).toNat := by
  have h := hp x
  rw [BitVec.toInt_eq_toNat_cond, if_pos (by omega)]
  rfl

/-- A page number in range is not wrapped. -/
theorem v5_at (x : S128x16.Idx) : val_main_v5 (F := Ideal) pg x = pg x := by
  have h := hp x
  have hc : IntOp.cmpi .slt (pg x) 0#32 = 0#1 := by
    simp only [IntOp.cmpi, BitVec.slt_eq_decide, BitVec.toInt_eq_toNat_cond, BitVec.toNat_ofNat]
    rw [if_pos (by omega)]
    have : ¬ ((pg x).toNat : Int) < 0 := by omega
    simp [this]
  show Scalar.select (IntOp.cmpi .slt (pg x) (val_main_v1 (F := Ideal) x)) _ _ = _
  rw [show val_main_v1 (F := Ideal) x = 0#32 from rfl, hc]
  rfl

/-- A page number in range is not wrapped. -/
theorem v14_at (x : S128x16.Idx) : val_main_v14 (F := Ideal) pg x = pg x := by
  have h := hp x
  have hc : IntOp.cmpi .slt (pg x) 0#32 = 0#1 := by
    simp only [IntOp.cmpi, BitVec.slt_eq_decide, BitVec.toInt_eq_toNat_cond, BitVec.toNat_ofNat]
    rw [if_pos (by omega)]
    have : ¬ ((pg x).toNat : Int) < 0 := by omega
    simp [this]
  show Scalar.select (IntOp.cmpi .slt (pg x) (val_main_v10 (F := Ideal) x)) _ _ = _
  rw [show val_main_v10 (F := Ideal) x = 0#32 from rfl, hc]
  rfl

theorem v8_at (x : FVec Ideal S1x2560x128x2x128 .f32) (b : Fin 128) (j : Fin 2048) (g : Fin 2) (d : Fin 128) :
    val_main_v8 (F := Ideal) pg x (ix4 b j g d)
      = x (ix5 (0 : Fin 1) (pageOf pg b ⟨j.val / 128, by omega⟩) (⟨j.val % 128, by omega⟩ : Fin 128) g d) := by
  have hb := b.isLt; have hj := j.isLt; have hg := g.isLt; have hd := d.isLt
  rw [val_main_v8_apply, show idx_main_v8 (ix4 b j g d) = ix5 b (⟨j.val / 128, by omega⟩ : Fin 16) (⟨j.val % 128, by omega⟩ : Fin 128) g d from
    funext fun a => Fin.ext (match a with
      | ⟨0, _⟩ => by show (((b.val * 2048 + j.val) * 2 + g.val) * 128 + d.val) / 524288 = b.val; omega
      | ⟨1, _⟩ => by show (((b.val * 2048 + j.val) * 2 + g.val) * 128 + d.val) / 32768 % 16 = j.val / 128; omega
      | ⟨2, _⟩ => by show (((b.val * 2048 + j.val) * 2 + g.val) * 128 + d.val) / 256 % 128 = j.val % 128; omega
      | ⟨3, _⟩ => by show (((b.val * 2048 + j.val) * 2 + g.val) * 128 + d.val) / 128 % 2 = g.val; omega
      | ⟨4, _⟩ => by show (((b.val * 2048 + j.val) * 2 + g.val) * 128 + d.val) % 128 = d.val; omega)]
  unfold val_main_v7
  rw [gather_page, val_main_v0_apply]
  refine congrArg x (funext fun a => Fin.ext ?_)
  have hq : min (val_main_v6 (F := Ideal) pg (ix3 b (⟨j.val / 128, by omega⟩ : Fin 16) (0 : Fin 1))).toInt.toNat 2559
      = (pg (ix2 b (⟨j.val / 128, by omega⟩ : Fin 16))).toNat % 2560 := by
    have h := hp (ix2 b (⟨j.val / 128, by omega⟩ : Fin 16))
    rw [val_main_v6_apply, v5_at pg hp, toInt_page pg hp]
    rw [show idx_main_v6 (ix3 b (⟨j.val / 128, by omega⟩ : Fin 16) (0 : Fin 1)) = ix2 b (⟨j.val / 128, by omega⟩ : Fin 16) from
      funext fun a => Fin.ext (match a with | ⟨0, _⟩ => rfl | ⟨1, _⟩ => rfl)]
    omega
  have hpl : (pg (ix2 b (⟨j.val / 128, by omega⟩ : Fin 16))).toNat % 2560 < 2560 := Nat.mod_lt _ (by decide)
  have e0 (P : ℕ) (hP : P < 2560) (Q : ℕ) (h : P = Q) : (((P * 128 + j.val % 128) * 2 + g.val) * 128 + d.val) / 32768 % 2560 = Q := by subst h; omega
  have e1 (P : ℕ) (hP : P < 2560) : (((P * 128 + j.val % 128) * 2 + g.val) * 128 + d.val) / 256 % 128 = j.val % 128 := by omega
  have e2 (P : ℕ) (hP : P < 2560) : (((P * 128 + j.val % 128) * 2 + g.val) * 128 + d.val) / 128 % 2 = g.val := by omega
  have e3 (P : ℕ) (hP : P < 2560) : (((P * 128 + j.val % 128) * 2 + g.val) * 128 + d.val) % 128 = d.val := by omega
  match a with
  | ⟨0, _⟩ => rfl
  | ⟨1, _⟩ => exact e0 _ (Nat.lt_of_le_of_lt (Nat.min_le_right _ 2559) (by decide)) _ hq
  | ⟨2, _⟩ => exact e1 _ (Nat.lt_of_le_of_lt (Nat.min_le_right _ 2559) (by decide))
  | ⟨3, _⟩ => exact e2 _ (Nat.lt_of_le_of_lt (Nat.min_le_right _ 2559) (by decide))
  | ⟨4, _⟩ => exact e3 _ (Nat.lt_of_le_of_lt (Nat.min_le_right _ 2559) (by decide))

theorem v17_at (x : FVec Ideal S1x2560x128x2x128 .f32) (b : Fin 128) (j : Fin 2048) (g : Fin 2) (d : Fin 128) :
    val_main_v17 (F := Ideal) pg x (ix4 b j g d)
      = x (ix5 (0 : Fin 1) (pageOf pg b ⟨j.val / 128, by omega⟩) (⟨j.val % 128, by omega⟩ : Fin 128) g d) := by
  have hb := b.isLt; have hj := j.isLt; have hg := g.isLt; have hd := d.isLt
  rw [val_main_v17_apply, show idx_main_v17 (ix4 b j g d) = ix5 b (⟨j.val / 128, by omega⟩ : Fin 16) (⟨j.val % 128, by omega⟩ : Fin 128) g d from
    funext fun a => Fin.ext (match a with
      | ⟨0, _⟩ => by show (((b.val * 2048 + j.val) * 2 + g.val) * 128 + d.val) / 524288 = b.val; omega
      | ⟨1, _⟩ => by show (((b.val * 2048 + j.val) * 2 + g.val) * 128 + d.val) / 32768 % 16 = j.val / 128; omega
      | ⟨2, _⟩ => by show (((b.val * 2048 + j.val) * 2 + g.val) * 128 + d.val) / 256 % 128 = j.val % 128; omega
      | ⟨3, _⟩ => by show (((b.val * 2048 + j.val) * 2 + g.val) * 128 + d.val) / 128 % 2 = g.val; omega
      | ⟨4, _⟩ => by show (((b.val * 2048 + j.val) * 2 + g.val) * 128 + d.val) % 128 = d.val; omega)]
  unfold val_main_v16
  rw [gather_page, val_main_v9_apply]
  refine congrArg x (funext fun a => Fin.ext ?_)
  have hq : min (val_main_v15 (F := Ideal) pg (ix3 b (⟨j.val / 128, by omega⟩ : Fin 16) (0 : Fin 1))).toInt.toNat 2559
      = (pg (ix2 b (⟨j.val / 128, by omega⟩ : Fin 16))).toNat % 2560 := by
    have h := hp (ix2 b (⟨j.val / 128, by omega⟩ : Fin 16))
    rw [val_main_v15_apply, v14_at pg hp, toInt_page pg hp]
    rw [show idx_main_v15 (ix3 b (⟨j.val / 128, by omega⟩ : Fin 16) (0 : Fin 1)) = ix2 b (⟨j.val / 128, by omega⟩ : Fin 16) from
      funext fun a => Fin.ext (match a with | ⟨0, _⟩ => rfl | ⟨1, _⟩ => rfl)]
    omega
  have hpl : (pg (ix2 b (⟨j.val / 128, by omega⟩ : Fin 16))).toNat % 2560 < 2560 := Nat.mod_lt _ (by decide)
  have e0 (P : ℕ) (hP : P < 2560) (Q : ℕ) (h : P = Q) : (((P * 128 + j.val % 128) * 2 + g.val) * 128 + d.val) / 32768 % 2560 = Q := by subst h; omega
  have e1 (P : ℕ) (hP : P < 2560) : (((P * 128 + j.val % 128) * 2 + g.val) * 128 + d.val) / 256 % 128 = j.val % 128 := by omega
  have e2 (P : ℕ) (hP : P < 2560) : (((P * 128 + j.val % 128) * 2 + g.val) * 128 + d.val) / 128 % 2 = g.val := by omega
  have e3 (P : ℕ) (hP : P < 2560) : (((P * 128 + j.val % 128) * 2 + g.val) * 128 + d.val) % 128 = d.val := by omega
  match a with
  | ⟨0, _⟩ => rfl
  | ⟨1, _⟩ => exact e0 _ (Nat.lt_of_le_of_lt (Nat.min_le_right _ 2559) (by decide)) _ hq
  | ⟨2, _⟩ => exact e1 _ (Nat.lt_of_le_of_lt (Nat.min_le_right _ 2559) (by decide))
  | ⟨3, _⟩ => exact e2 _ (Nat.lt_of_le_of_lt (Nat.min_le_right _ 2559) (by decide))
  | ⟨4, _⟩ => exact e3 _ (Nat.lt_of_le_of_lt (Nat.min_le_right _ 2559) (by decide))

theorem v19_at (new : FVec Ideal S128x8x256 .f32) (x : FVec Ideal S1x2560x128x2x128 .f32) (b : Fin 128) (j : Fin 2056) (g : Fin 2) (d : Fin 128) :
    val_main_v19 (F := Ideal) pg new x (ix4 b j g d) = keyAt pg new x b g d j.val := by
  have hb := b.isLt; have hj := j.isLt; have hg := g.isLt; have hd := d.isLt
  unfold val_main_v19 keyAt
  by_cases h : j.val < 2048
  · rw [dif_pos h]
    refine (concatenate_pair_apply_left (t := S128x2056x2x128) (s₁ := S128x2048x2x128) (s₂ := S128x8x2x128) _ _ _ _ _ rfl (ix4 b (⟨j.val, h⟩ : Fin 2048) g d) fun a => ?_).trans ?_
    · match a with
      | ⟨0, _⟩ => rfl
      | ⟨1, _⟩ => rfl
      | ⟨2, _⟩ => rfl
      | ⟨3, _⟩ => rfl
    · exact v8_at pg hp x b ⟨j.val, h⟩ g d
  · rw [dif_neg h, dif_pos hj]
    refine (concatenate_pair_apply_right (t := S128x2056x2x128) (s₁ := S128x2048x2x128) (s₂ := S128x8x2x128) _ _ _ _ _ rfl rfl (ix4 b (⟨j.val - 2048, by omega⟩ : Fin 8) g d) (fun a ha => ?_) ?_).trans ?_
    · match a, ha with
      | ⟨0, _⟩, _ => rfl
      | ⟨1, _⟩, ha => exact absurd rfl ha
      | ⟨2, _⟩, _ => rfl
      | ⟨3, _⟩, _ => rfl
    · show j.val - 2048 + 2048 = j.val
      omega
    · rw [val_main_v18_apply]
      refine congrArg new (funext fun a => Fin.ext ?_)
      match a with
      | ⟨0, _⟩ => show (((b.val * 8 + (j.val - 2048)) * 2 + g.val) * 128 + d.val) / 2048 = b.val; omega
      | ⟨1, _⟩ => show (((b.val * 8 + (j.val - 2048)) * 2 + g.val) * 128 + d.val) / 256 % 8 = j.val - 2048; omega
      | ⟨2, _⟩ => show (((b.val * 8 + (j.val - 2048)) * 2 + g.val) * 128 + d.val) % 256 = g.val * 128 + d.val; omega

theorem v21_at (new : FVec Ideal S128x8x256 .f32) (x : FVec Ideal S1x2560x128x2x128 .f32) (b : Fin 128) (j : Fin 2056) (g : Fin 2) (d : Fin 128) :
    val_main_v21 (F := Ideal) pg new x (ix4 b j g d) = keyAt pg new x b g d j.val := by
  have hb := b.isLt; have hj := j.isLt; have hg := g.isLt; have hd := d.isLt
  unfold val_main_v21 keyAt
  by_cases h : j.val < 2048
  · rw [dif_pos h]
    refine (concatenate_pair_apply_left (t := S128x2056x2x128) (s₁ := S128x2048x2x128) (s₂ := S128x8x2x128) _ _ _ _ _ rfl (ix4 b (⟨j.val, h⟩ : Fin 2048) g d) fun a => ?_).trans ?_
    · match a with
      | ⟨0, _⟩ => rfl
      | ⟨1, _⟩ => rfl
      | ⟨2, _⟩ => rfl
      | ⟨3, _⟩ => rfl
    · exact v17_at pg hp x b ⟨j.val, h⟩ g d
  · rw [dif_neg h, dif_pos hj]
    refine (concatenate_pair_apply_right (t := S128x2056x2x128) (s₁ := S128x2048x2x128) (s₂ := S128x8x2x128) _ _ _ _ _ rfl rfl (ix4 b (⟨j.val - 2048, by omega⟩ : Fin 8) g d) (fun a ha => ?_) ?_).trans ?_
    · match a, ha with
      | ⟨0, _⟩, _ => rfl
      | ⟨1, _⟩, ha => exact absurd rfl ha
      | ⟨2, _⟩, _ => rfl
      | ⟨3, _⟩, _ => rfl
    · show j.val - 2048 + 2048 = j.val
      omega
    · rw [val_main_v20_apply]
      refine congrArg new (funext fun a => Fin.ext ?_)
      match a with
      | ⟨0, _⟩ => show (((b.val * 8 + (j.val - 2048)) * 2 + g.val) * 128 + d.val) / 2048 = b.val; omega
      | ⟨1, _⟩ => show (((b.val * 8 + (j.val - 2048)) * 2 + g.val) * 128 + d.val) / 256 % 8 = j.val - 2048; omega
      | ⟨2, _⟩ => show (((b.val * 8 + (j.val - 2048)) * 2 + g.val) * 128 + d.val) % 256 = g.val * 128 + d.val; omega

/-- The reference's scores. -/
theorem v29_at (b : Fin 128) (t : Fin 8) (g : Fin 2) (r : Fin 4) (j : Fin 2056) :
    val_main_v29 (F := Ideal) pg q bias kn ck (ix5 b t g r j)
      = score q bias (keyAt pg kn ck b g) b t (⟨g.val * 4 + r.val, by have := g.isLt; have := r.isLt; omega⟩ : Fin 8) j.val := by
  have hb := b.isLt; have hj := j.isLt; have hg := g.isLt; have ht := t.isLt; have hr := r.isLt
  unfold score
  rw [dif_pos (by omega)]
  rw [val_main_v29_apply, val_main_v25_apply, val_main_v28_apply, val_main_v27_apply, val_main_v26_apply, val_main_v24_apply]
  refine congrArg₂ (· + ·) (Finset.sum_congr rfl fun k _ => ?_) (congrArg bias (funext fun a => Fin.ext (match a with | ⟨0, _⟩ => rfl | ⟨1, _⟩ => rfl | ⟨2, _⟩ => rfl)))
  have hk := k.isLt
  rw [mul_comm, show lidx_main_v24 (idx_main_v25 (ix5 b t g r j)) k = ix4 b j g k from
    funext fun a => Fin.ext (match a with | ⟨0, _⟩ => rfl | ⟨1, _⟩ => rfl | ⟨2, _⟩ => rfl | ⟨3, _⟩ => rfl), v19_at pg hp]
  refine congrArg (· * _) ?_
  rw [val_main_v23_apply]
  refine congrArg q (funext fun a => Fin.ext ?_)
  match a with
  | ⟨0, _⟩ => show ((((b.val * 8 + t.val) * 2 + g.val) * 4 + r.val) * 128 + k.val) / 8192 = b.val; omega
  | ⟨1, _⟩ => show ((((b.val * 8 + t.val) * 2 + g.val) * 4 + r.val) * 128 + k.val) / 1024 % 8 = t.val; omega
  | ⟨2, _⟩ => show ((((b.val * 8 + t.val) * 2 + g.val) * 4 + r.val) * 128 + k.val) % 1024 = (g.val * 4 + r.val) * 128 + k.val; omega

end

section
variable (b : Fin 128) (t : Fin 8) (g : Fin 2) (r : Fin 4) (s : ℕ → EReal)
  (hs : ∀ j : Fin 2056, val_main_v29 (F := Ideal) pg q bias kn ck (ix5 b t g r j) = s j.val)
include hs

/-- The largest score of a row. -/
theorem v32_at : val_main_v32 (F := Ideal) pg q bias kn ck (ix4 b t g r) = ⨆ j : Fin 2056, s j.val := by
  have hb : Ideal.ofBits .f32 4286578688#32 = ⊥ := by simp [Ideal.ofBits, Ideal.ieee]
  rw [val_main_v32_apply]
  show max _ (val_main_v30 (F := Ideal) pg q bias kn ck (ix4 b t g r)) = _
  rw [show val_main_v31 (F := Ideal) (ix4 b t g r) = ⊥ from hb, max_eq_right bot_le]
  unfold val_main_v30
  rw [Host.reduce_eq_fold_single FloatOps.maximumf _ _ _ (by decide : S128x8x2x4x2056.Reduces [4] S128x8x2x4) h_S_ (ix4 b t g r)]
  rw [show val_main_cst (F := Ideal) (Shape.Idx.first h_S_) = ⊥ from hb]
  have hl (k : Fin 2056) : val_main_v29 (F := Ideal) pg q bias kn ck ((by decide : S128x8x2x4x2056.Reduces [4] S128x8x2x4).lift (ix4 b t g r) k) = s k.val :=
    (congrArg (val_main_v29 (F := Ideal) pg q bias kn ck) (funext fun a => Fin.ext (by match a with | ⟨0, _⟩ => rfl | ⟨1, _⟩ => rfl | ⟨2, _⟩ => rfl | ⟨3, _⟩ => rfl | ⟨4, _⟩ => rfl))).trans (hs k)
  rw [show (val_main_v29 (F := Ideal) pg q bias kn ck) ∘ (by decide : S128x8x2x4x2056.Reduces [4] S128x8x2x4).lift (ix4 b t g r) = fun k : Fin 2056 => s k.val from funext hl]
  exact fold_max_bot _

theorem v36_at (j : Fin 2056) : val_main_v36 (F := Ideal) pg q bias kn ck (ix5 b t g r j) = Ideal.exp (s j.val - ⨆ j : Fin 2056, s j.val) := by
  rw [val_main_v36_apply, val_main_v35_apply, hs, val_main_v34_apply, val_main_v33_apply, show idx_main_v33 (idx_main_v34 (ix5 b t g r j)) = ix4 b t g r from
    funext fun a => Fin.ext (match a with | ⟨0, _⟩ => rfl | ⟨1, _⟩ => rfl | ⟨2, _⟩ => rfl | ⟨3, _⟩ => rfl), v32_at pg q bias kn ck b t g r s hs]
  rfl

theorem v37_at : val_main_v37 (F := Ideal) pg q bias kn ck (ix4 b t g r) = ∑ i : Fin 2056, Ideal.exp (s i.val - ⨆ j : Fin 2056, s j.val) := by
  rw [val_main_v37_apply, show val_main_cst_4 (F := Ideal) (Shape.Idx.first h_S_) = 0 from by
    show Ideal.ofBits .f32 0#32 = 0
    simp [Ideal.ofBits, Ideal.ieee], zero_add]
  refine Finset.sum_congr rfl fun k _ => ?_
  rw [show idx_main_v37 (ix4 b t g r) k = ix5 b t g r k from
    funext fun a => Fin.ext (match a with | ⟨0, _⟩ => rfl | ⟨1, _⟩ => rfl | ⟨2, _⟩ => rfl | ⟨3, _⟩ => rfl | ⟨4, _⟩ => rfl), v36_at pg q bias kn ck b t g r s hs]

theorem v40_at (j : Fin 2056) : val_main_v40 (F := Ideal) pg q bias kn ck (ix5 b t g r j)
    = Ideal.div (Ideal.exp (s j.val - ⨆ j : Fin 2056, s j.val)) (∑ i : Fin 2056, Ideal.exp (s i.val - ⨆ j : Fin 2056, s j.val)) := by
  rw [val_main_v40_apply, v36_at pg q bias kn ck b t g r s hs, val_main_v39_apply, val_main_v38_apply, show idx_main_v38 (idx_main_v39 (ix5 b t g r j)) = ix4 b t g r from
    funext fun a => Fin.ext (match a with | ⟨0, _⟩ => rfl | ⟨1, _⟩ => rfl | ⟨2, _⟩ => rfl | ⟨3, _⟩ => rfl), v37_at pg q bias kn ck b t g r s hs]
  rfl

theorem v42_at (v : ℕ → EReal) (d : Fin 128) (hv : ∀ j : Fin 2056, val_main_v21 (F := Ideal) pg vn cv (ix4 b j g d) = v j.val) :
    val_main_v42 (F := Ideal) pg q bias kn vn ck cv (ix5 b t g r d) = rOut s v := by
  unfold rOut
  rw [val_main_v42_apply, val_main_v41_apply]
  refine Finset.sum_congr rfl fun k _ => ?_
  rw [show lidx_main_v41 (idx_main_v42 (ix5 b t g r d)) k = ix4 b k g d from
    funext fun a => Fin.ext (match a with | ⟨0, _⟩ => rfl | ⟨1, _⟩ => rfl | ⟨2, _⟩ => rfl | ⟨3, _⟩ => rfl),
    show ridx_main_v41 (idx_main_v42 (ix5 b t g r d)) k = ix5 b t g r k from
    funext fun a => Fin.ext (match a with | ⟨0, _⟩ => rfl | ⟨1, _⟩ => rfl | ⟨2, _⟩ => rfl | ⟨3, _⟩ => rfl | ⟨4, _⟩ => rfl),
    hv, v40_at pg q bias kn ck b t g r s hs]

end

/-- The reference's result: each head's weighted mean. -/
theorem v43_at (hp : ∀ x, (pg x).toNat < 2560) (b : Fin 128) (t : Fin 8) (x : Fin 1024) :
    val_main_v43 (F := Ideal) pg q bias kn vn ck cv (ix3 b t x)
      = rOut (score q bias (keyAt pg kn ck b (⟨x.val / 512, by omega⟩ : Fin 2)) b t (⟨x.val / 128, by omega⟩ : Fin 8))
          (keyAt pg vn cv b (⟨x.val / 512, by omega⟩ : Fin 2) (⟨x.val % 128, by omega⟩ : Fin 128)) := by
  have hb := b.isLt; have ht := t.isLt; have hx := x.isLt
  rw [val_main_v43_apply, show idx_main_v43 (ix3 b t x) = ix5 b t (⟨x.val / 512, by omega⟩ : Fin 2) (⟨x.val / 128 % 4, by omega⟩ : Fin 4) (⟨x.val % 128, by omega⟩ : Fin 128) from
    funext fun a => Fin.ext (match a with
      | ⟨0, _⟩ => by show ((b.val * 8 + t.val) * 1024 + x.val) / 8192 = b.val; omega
      | ⟨1, _⟩ => by show ((b.val * 8 + t.val) * 1024 + x.val) / 1024 % 8 = t.val; omega
      | ⟨2, _⟩ => by show ((b.val * 8 + t.val) * 1024 + x.val) / 512 % 2 = x.val / 512; omega
      | ⟨3, _⟩ => by show ((b.val * 8 + t.val) * 1024 + x.val) / 128 % 4 = x.val / 128 % 4; omega
      | ⟨4, _⟩ => by show ((b.val * 8 + t.val) * 1024 + x.val) % 128 = x.val % 128; omega)]
  have hh : (⟨(⟨x.val / 512, by omega⟩ : Fin 2).val * 4 + (⟨x.val / 128 % 4, by omega⟩ : Fin 4).val, by dsimp only; omega⟩ : Fin 8) = (⟨x.val / 128, by omega⟩ : Fin 8) :=
    Fin.ext (by dsimp only; omega)
  refine v42_at pg q bias kn vn ck cv _ _ _ _ _ (fun j => ?_) _ _ fun j => v21_at pg hp vn cv _ j _ _
  rw [v29_at pg q bias kn ck hp, hh]

end Cert.ReferenceIdeal.Own

end
-- ==== Proof.AttnPre.lean ====
/- From the precondition `keys_selected`: every query has a selected key, and every score is finite or −∞. -/
module

public import proofs.«01_k».proof.Defs
public import proofs.«01_k».proof.Proof.Gen.Pre_keys_selected
public import proofs.«01_k».proof.Proof.AttnFinal
public import proofs.«01_k».proof.Proof.AttnRef

@[expose] public section

set_option maxRecDepth 16384

noncomputable section

namespace Cert.KernelIdeal.Own

open Cert.KernelIdeal Cert.KernelIdeal.Gen Idealize.ShloMosaic Idealize.ShloMosaic.TcCoe Idealize.SL.Sem
open Cert.KernelIdeal.Value (keyAt score attnK)
open Cert.Attn

theorem one_iff (p : Bool) : BitVec.ofBool p = 1#1 ↔ p = true := by cases p <;> decide

theorem ninf : Ideal.ofBits .f32 4286578688#32 = ⊥ := by simp [Ideal.ofBits, Ideal.ieee]

theorem pinf : Ideal.ofBits .f32 2139095040#32 = ⊤ := by simp [Ideal.ofBits, Ideal.ieee]

theorem real_of_abs {x : EReal} (h : Ideal.cmp .olt (max x (-x)) (Ideal.ofBits .f32 2139095040#32) = 1#1) : ∃ r : ℝ, x = r := by
  have h' : max x (-x) < Ideal.ofBits .f32 2139095040#32 := of_decide_eq_true ((one_iff _).mp h)
  rw [pinf, max_lt_iff] at h'
  induction x with
  | bot => simp at h'
  | top => simp at h'
  | coe r => exact ⟨r, rfl⟩

theorem eq_of_cmp {x y : EReal} (h : Ideal.cmp .oeq x y = 1#1) : x = y := of_decide_eq_true ((one_iff _).mp h)

theorem eq_of_cmpf {s : Shape} (a b : FVec Ideal s .f32) (x : s.Idx) (h : cmpf .oeq a b x = 1#1) : a x = b x := eq_of_cmp h

theorem real_sum {n : ℕ} (f : Fin n → EReal) (h : ∀ k, ∃ r : ℝ, f k = r) : ∃ r : ℝ, ∑ k, f k = r :=
  Finset.sum_induction f (fun x => ∃ r : ℝ, x = r)
    (fun a b ⟨r, hr⟩ ⟨s, hs⟩ => ⟨r + s, by rw [hr, hs, EReal.coe_add]⟩) ⟨0, by simp⟩ (fun k _ => h k)

/-- What the precondition says of a query's scores. -/
theorem scores (q : FVec Ideal S128x8x1024 .bf16) (bias : FVec Ideal S128x8x2176 .f32) (key : Fin 128 → ℕ → EReal) (b : Fin 128) (t hh : Fin 8)
    (hq : ∀ x, ∃ r : ℝ, q x = r) (hk : ∀ d j, ∃ r : ℝ, key d j = r)
    (hm : (⨆ j : Fin 2176, bias (ix3 b t j)) = 0) (hp : ∀ j : Fin 2176, 2056 ≤ j.val → bias (ix3 b t j) = ⊥) :
    (∀ j, 2056 ≤ j → j < 2176 → score q bias key b t hh j = ⊥) ∧ (∀ j, j < 2056 → score q bias key b t hh j ≠ ⊤)
      ∧ (∃ j, j < 2056 ∧ score q bias key b t hh j ≠ ⊥) := by
  have hs (j : ℕ) (h : j < 2176) : ∃ r : ℝ, score q bias key b t hh j = r + bias (ix3 b t (⟨j, h⟩ : Fin 2176)) := by
    unfold score
    rw [dif_pos h]
    obtain ⟨r, hr⟩ := real_sum (fun d : Fin 128 => q (ix3 b t (⟨hh.val * 128 + d.val, by have := hh.isLt; have := d.isLt; omega⟩ : Fin 1024)) * key d j) (fun d => by
      obtain ⟨x, hx⟩ := hq (ix3 b t (⟨hh.val * 128 + d.val, by have := hh.isLt; have := d.isLt; omega⟩ : Fin 1024))
      obtain ⟨y, hy⟩ := hk d j
      exact ⟨x * y, by rw [hx, hy, EReal.coe_mul]⟩)
    exact ⟨r, by rw [hr]⟩
  refine ⟨fun j h1 h2 => ?_, fun j h => ?_, ?_⟩
  · obtain ⟨r, hr⟩ := hs j h2
    rw [hr, hp ⟨j, h2⟩ h1, EReal.add_bot]
  · obtain ⟨r, hr⟩ := hs j (by omega)
    rw [hr]
    have hle : bias (ix3 b t (⟨j, by omega⟩ : Fin 2176)) ≤ 0 := hm ▸ le_iSup (fun j : Fin 2176 => bias (ix3 b t j)) ⟨j, by omega⟩
    refine ne_of_lt (EReal.add_lt_top (EReal.coe_ne_top r) (ne_of_lt (lt_of_le_of_lt hle EReal.zero_lt_top)))
  · by_contra hn
    replace hn : ∀ j, j < 2056 → score q bias key b t hh j = ⊥ := fun j hj => by_contra fun h => hn ⟨j, hj, h⟩
    have hall (j : Fin 2176) : bias (ix3 b t j) = ⊥ := by
      by_cases h : j.val < 2056
      · obtain ⟨r, hr⟩ := hs j.val j.isLt
        have h0 := hn j.val h
        rw [hr] at h0
        exact (EReal.add_eq_bot_iff.mp h0).resolve_left (EReal.coe_ne_bot r)
      · exact hp j (by omega)
    simp only [hall, iSup_bot] at hm
    exact absurd hm (by simp)

abbrev aQ (m : (ℓ : Loc nD τ sig) → Buf (Elt Ideal) ℓ) (c : Dev nD) : S128x8x1024.Idx → EReal := m (c.tc.loc main_arg1)
abbrev aB (m : (ℓ : Loc nD τ sig) → Buf (Elt Ideal) ℓ) (c : Dev nD) : S128x8x2176.Idx → EReal := m (c.tc.loc main_arg2)
abbrev aK (m : (ℓ : Loc nD τ sig) → Buf (Elt Ideal) ℓ) (c : Dev nD) : S128x8x256.Idx → EReal := m (c.tc.loc main_arg3)
abbrev aC (m : (ℓ : Loc nD τ sig) → Buf (Elt Ideal) ℓ) (c : Dev nD) : S1x2560x128x2x128.Idx → EReal := m (c.tc.loc main_arg5)

theorem bias_fn {F : FTy → Type} [FloatOps F] (a0 : IVec S128x16 32) (a1 : FVec F S128x8x1024 .bf16) (a2 : FVec F S128x8x2176 .f32)
    (a3 a4 : FVec F S128x8x256 .f32) (a5 a6 : FVec F S1x2560x128x2x128 .f32) :
    (Cert.Pre_keys_selected.fn a0 a1 a2 a3 a4 a5 a6).2.1
      = cmpf .oeq (Host.reduce FloatOps.maximumf a2 (constant (F := F) Cert.Pre_keys_selected.S_ .f32 0xFF800000#32)
          Cert.Pre_keys_selected.Facts.reducesTo_S128x8x2176_S128x8_d2 Cert.Pre_keys_selected.Facts.h_S_)
        (broadcastInDim Cert.Pre_keys_selected.S128x8 ![] Cert.Pre_keys_selected.Facts.bcast_S_S128x8 (constant (F := F) Cert.Pre_keys_selected.S_ .f32 0x00000000#32)) := rfl

theorem bias_max (a : S128x8x2176.Idx → EReal) (b : Fin 128) (t : Fin 8) :
    Host.reduce (t := Cert.Pre_keys_selected.S128x8) (FloatOps.maximumf (F := Ideal) (φ := .f32)) a (constant (F := Ideal) Cert.Pre_keys_selected.S_ .f32 0xFF800000#32)
      Cert.Pre_keys_selected.Facts.reducesTo_S128x8x2176_S128x8_d2 Cert.Pre_keys_selected.Facts.h_S_ (ix2 b t) = ⨆ j : Fin 2176, a (ix3 b t j) := by
  rw [Host.reduce_eq_fold_single FloatOps.maximumf _ _ _ (by decide : S128x8x2176.Reduces [2] Cert.Pre_keys_selected.S128x8) _ (ix2 b t)]
  rw [show (constant (F := Ideal) Cert.Pre_keys_selected.S_ .f32 0xFF800000#32) (Shape.Idx.first _) = ⊥ from ninf]
  rw [show a ∘ (by decide : S128x8x2176.Reduces [2] Cert.Pre_keys_selected.S128x8).lift (ix2 b t)
    = fun j : Fin 2176 => a (ix3 b t j) from
    funext fun j => congrArg a (funext fun k => Fin.ext (by match k with | ⟨0, _⟩ => rfl | ⟨1, _⟩ => rfl | ⟨2, _⟩ => rfl))]
  exact Cert.ReferenceIdeal.Own.fold_max_bot _

variable (m : (ℓ : Loc nD τ sig) → Buf (Elt Ideal) ℓ) (h : Cert.Pre_KernelIdeal_keys_selected m) (c : Dev nD)
include h c

theorem keys_page (x : S128x16.Idx) : (m (c.tc.loc main_arg0) x).toNat < 2560 := word_lt _ (congrFun (h c).1 x)

theorem keys_bias (b : Fin 128) (t : Fin 8) : (⨆ j : Fin 2176, aB m c (ix3 b t j)) = 0 := by
  have e1 := (h c).2.1
  rw [bias_fn] at e1
  have e := eq_of_cmpf _ _ (ix2 b t) (congrFun e1 (ix2 b t))
  refine (bias_max (aB m c) b t).symm.trans (e.trans ?_)
  show Ideal.ofBits .f32 0#32 = 0
  simp [Ideal.ofBits, Ideal.ieee]

theorem keys_pad (b : Fin 128) (t : Fin 8) (j : Fin 2176) (hj : 2056 ≤ j.val) : aB m c (ix3 b t j) = ⊥ := by
  have e := eq_of_cmp (congrFun (h c).2.2.1 (ix3 b t (⟨j.val - 2056, by have := j.isLt; omega⟩ : Fin 120)))
  rw [← ninf]
  refine Eq.trans (congrArg (aB m c) (funext fun a => Fin.ext ?_)) e
  match a with
  | ⟨0, _⟩ => show b.val = 0 + b.val; omega
  | ⟨1, _⟩ => show t.val = 0 + t.val; omega
  | ⟨2, _⟩ => show j.val = 2056 + (j.val - 2056); omega

theorem keys_q (x : S128x8x1024.Idx) : ∃ r : ℝ, aQ m c x = r := real_of_abs (congrFun (h c).2.2.2.1 x)

theorem keys_new (x : S128x8x256.Idx) : ∃ r : ℝ, aK m c x = r := real_of_abs (congrFun (h c).2.2.2.2.1 x)

theorem keys_cache (x : S1x2560x128x2x128.Idx) : ∃ r : ℝ, aC m c x = r := real_of_abs (congrFun (h c).2.2.2.2.2 x)

omit c in
theorem ok_of_keys : Ok m := by
  have ht : ∀ x, (tbl m 0 x).toNat < 2560 := fun x => by rw [tbl_eq]; exact keys_page m h 0 x
  unfold Ok ok0
  and_intros
  all_goals exact fun i => ⟨fun a => page_inb _ (ht _) a, Or.inl rfl⟩

/-- The kernel's result is the reference's. -/
theorem attn_eq (pg : Vec Ideal S128x16 .i32) (hpg : ∀ x, pg x = m (c.tc.loc main_arg0) x) :
    attnK (m (c.tc.loc main_arg1)) (m (c.tc.loc main_arg2)) pg (m (c.tc.loc main_arg3)) (m (c.tc.loc main_arg4)) (m (c.tc.loc main_arg5)) (m (c.tc.loc main_arg6))
      = Cert.ReferenceIdeal.Read.val_main_v43 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) := by
  obtain rfl : pg = m (c.tc.loc main_arg0) := funext hpg
  funext y
  obtain ⟨b, t, x, rfl⟩ : ∃ (b : Fin 128) (t : Fin 8) (x : Fin 1024), y = ix3 b t x := ⟨y 0, y 1, y 2, by idx_vars y⟩
  refine Eq.trans ?_ (Cert.ReferenceIdeal.Own.v43_at (m (c.tc.loc main_arg0)) (m (c.tc.loc main_arg1)) (m (c.tc.loc main_arg2)) (m (c.tc.loc main_arg3)) (m (c.tc.loc main_arg4)) (m (c.tc.loc main_arg5)) (m (c.tc.loc main_arg6)) (keys_page m h c) b t x).symm
  have hk (g : Fin 2) (d : Fin 128) (j : ℕ) : ∃ r : ℝ, keyAt (m (c.tc.loc main_arg0)) (m (c.tc.loc main_arg3)) (m (c.tc.loc main_arg5)) b g d j = r := by
    unfold keyAt
    split
    · exact keys_cache m h c _
    · split
      · exact keys_new m h c _
      · exact ⟨0, by simp⟩
  obtain ⟨h1, h2, h3⟩ := scores (m (c.tc.loc main_arg1)) (m (c.tc.loc main_arg2)) (keyAt (m (c.tc.loc main_arg0)) (m (c.tc.loc main_arg3)) (m (c.tc.loc main_arg5)) b (⟨x.val / 512, by omega⟩ : Fin 2))
    b t (⟨x.val / 128, by omega⟩ : Fin 8) (keys_q m h c) (hk _) (keys_bias m h c b t) (keys_pad m h c b t)
  exact kOut_eq _ _ h1 h2 h3

end Cert.KernelIdeal.Own

end
-- ==== Proof.AttnClaims.lean ====
/- The claims about the sample attention: the frames of the kernel and of the reference, and that the two compute the
   same function over the extended reals where every query has a selected key. -/
module

public import proofs.«01_k».proof.Defs
public import proofs.«01_k».proof.Proof.AttnFrameB
public import proofs.«01_k».proof.Proof.AttnFrameI
public import proofs.«01_k».proof.Proof.AttnOkB
public import proofs.«01_k».proof.Proof.AttnOkI
public import proofs.«01_k».proof.Proof.AttnPre
public import proofs.«01_k».proof.Proof.Gen.ReferenceIdeal.Run
public import Idealize.ShloMosaic.Lib.Claim

@[expose] public section

set_option maxRecDepth 16384

noncomputable section

namespace Cert.Own

open Idealize.ShloMosaic Idealize.ShloMosaic.TcCoe Idealize.SL.Sem

/-- The kernel ends with its arguments unchanged and its counters at zero, if the page numbers lie in the cache. -/
theorem frame_attn : Cert.quiescent_Kernel := fun m ρ h => Cert.Kernel.Gen.frame m ρ (Cert.Kernel.Own.ok_of_pre m h)

/-- So does the kernel over the extended reals. -/
theorem frame_attnIdeal : Cert.quiescent_KernelIdeal := fun m ρ h => Cert.KernelIdeal.Gen.frame m ρ (Cert.KernelIdeal.Own.ok_of_pre m h)

/-- So does the reference, which has no semaphore, from any memory. -/
theorem frame_attnRef : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The kernel's frame where every query has a selected key. -/
theorem frame_attnIdealKeys : Cert.quiescent_KernelIdeal_pre_keys_selected := fun m ρ h =>
  Cert.KernelIdeal.Gen.frame m ρ (Cert.KernelIdeal.Own.ok_of_keys m h)

/-- The reference's frame there. -/
theorem frame_attnRefKeys : Cert.quiescent_ReferenceIdeal_pre_keys_selected := fun m ρ _ =>
  (θ_run Cert.ReferenceIdeal.defs _ _).mono (fun r h => ⟨fun c => (h c).2, sem_eq_zero_of_no_sems (by decide) r.2⟩)
    (Cert.ReferenceIdeal.Value.run m ρ)

/-- Every run of the kernel over the extended reals ends with the attention in its result and the arguments unchanged. -/
theorem run_attn (m : (ℓ : Loc Cert.KernelIdeal.nD Cert.KernelIdeal.τ Cert.KernelIdeal.sig) → Buf (Elt Ideal) ℓ)
    (ρ : Dev Cert.KernelIdeal.nD → PrngReg) (h : Cert.Pre_KernelIdeal_keys_selected m) :
    θ_run Cert.KernelIdeal.defs (onTc (τ := Cert.KernelIdeal.τ) (Cert.KernelIdeal.main (F := Ideal))) ⟨m, fun _ => 0, ρ⟩ (fun r => ∀ c : Dev Cert.KernelIdeal.nD,
      r.2.mem (c.tc.loc Cert.KernelIdeal.main_v4) = Cert.KernelIdeal.Value.attnK (m (c.tc.loc Cert.KernelIdeal.main_arg1)) (m (c.tc.loc Cert.KernelIdeal.main_arg2)) (m (((0 : Dev Cert.KernelIdeal.nD)).tc.loc Cert.KernelIdeal.main_arg0)) (m (c.tc.loc Cert.KernelIdeal.main_arg3)) (m (c.tc.loc Cert.KernelIdeal.main_arg4)) (m (c.tc.loc Cert.KernelIdeal.main_arg5)) (m (c.tc.loc Cert.KernelIdeal.main_arg6))
        ∧ r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)
        ∧ r.2.mem (c.tc.loc Cert.KernelIdeal.main_arg4) = m (c.tc.loc Cert.KernelIdeal.main_arg4)
        ∧ r.2.mem (c.tc.loc Cert.KernelIdeal.main_arg5) = m (c.tc.loc Cert.KernelIdeal.main_arg5)
        ∧ r.2.mem (c.tc.loc Cert.KernelIdeal.main_arg6) = m (c.tc.loc Cert.KernelIdeal.main_arg6)) :=
  have hO := Cert.KernelIdeal.Own.ok_of_keys m h
  (θ_run _ _ _).mono (fun r hr c => ⟨(hr.1.out_eq c (36 : Fin 37)).trans
      (Cert.KernelIdeal.Value.final m hO (fun x => Cert.KernelIdeal.Own.keys_page m h 0 x) c), hr.2.1 c⟩)
    (θ_run_and (Cert.KernelIdeal.Gen.run_main m ρ hO) (Cert.KernelIdeal.Gen.frame m ρ hO))

/-- Over the extended reals the kernel and the reference compute the same function of the arguments. -/
theorem algebraic_attn : Cert.algebraic_KernelIdeal_ReferenceIdeal_pre_keys_selected := by
  pair_intro
  · exact run_attn m g hpre
  · refine θ_run_mono (Cert.ReferenceIdeal.Value.run m' g') fun r hr c => ⟨(hr c).1.trans ?_, (hr c).2⟩
    rw [Cert.ReferenceIdeal.Read.val_main_v43_eq]
    obtain ⟨h0, h1, h2, h3, h4, h5, h6⟩ := hagree c
    rw [h0, h1, h2, h3, h4, h5, h6]
    have hc : (0 : Dev Cert.KernelIdeal.nD) = c := Subsingleton.elim _ _
    exact (Cert.KernelIdeal.Own.attn_eq m hpre c _ (fun x => by rw [hc])).symm

end Cert.Own

end
-- ==== Proof.FfnRef.lean ====
/- The reference of the merge, feed-forward and gate block: its run, read in six parts (the merged residual, its norm,
   the feed-forward residual, its norm, the gated residual, the last norm), each a short term over the arrays before it. -/
module

public import proofs.«01_k».proof.Proof.Gen.FfnRefIdeal
public import Idealize.ShloMosaic.Lib.StableHlo.Run

@[expose] public section

noncomputable section

namespace Cert.FfnRefIdeal.Own

open Cert.FfnRefIdeal Cert.FfnRefIdeal.Gen Idealize.ShloMosaic Idealize.ShloMosaic.TcCoe Idealize.SL.Sem Idealize.ShloMosaic.StableHlo

variable {F : FTy → Type} [FloatOps F]

/-- The contents of a float32 buffer of a shape. -/
abbrev Arr (F : FTy → Type) (s : Shape) := (⟨s, .f32⟩ : BufTy).Contents (Elt F)

/-- Part A of the operations. -/
abbrev opsA : List (HloOp τ sig (Elt F)) :=
  [ binary main_arg2 main_arg1 main_v0 (mulf : Arr F S4x4096x1024 → Arr F S4x4096x1024 → Arr F S4x4096x1024),
    binary main_v0 main_arg3 main_v1 (addf : Arr F S4x4096x1024 → Arr F S4x4096x1024 → Arr F S4x4096x1024),
    reshape main_arg5 main_v2 (rfl : (.f32 : EltTy) = .f32) shapeCasts_S1x1024x1024_S1024x1024,
    binary main_v1 main_v2 main_v3 ((fun l r => Host.dotGeneral dot_S4x4096x1024_S1024x1024_S4x4096x1024_2_0_01_1_n_n none l r) : Arr F S4x4096x1024 → Arr F S1024x1024 → Arr F S4x4096x1024),
    binary main_arg0 main_v3 main_v4 (addf : Arr F S4x4096x1024 → Arr F S4x4096x1024 → Arr F S4x4096x1024) ]

/-- Part B of the operations. -/
abbrev opsB : List (HloOp τ sig (Elt F)) :=
  [ reshape main_arg6 main_v5 (rfl : (.f32 : EltTy) = .f32) shapeCasts_S1x1024_S1024,
    binary main_v4 main_v4 main_v6 (mulf : Arr F S4x4096x1024 → Arr F S4x4096x1024 → Arr F S4x4096x1024),
    nullary main_cst (constant S_ .f32 0x00000000#32),
    binary main_v6 main_cst main_v7 ((fun x v => Host.reduceAdd x v reducesTo_S4x4096x1024_S4x4096_d2 h_S_) : Arr F S4x4096x1024 → Arr F S_ → Arr F S4x4096),
    unary main_v7 main_v8 (broadcastInDim S4x4096x1 ![0, 1] bcast_S4x4096_S4x4096x1_0_1 : Arr F S4x4096 → Arr F S4x4096x1),
    nullary main_cst_0 (constant S_ .f32 0x44800000#32),
    unary main_cst_0 main_v9 (broadcastInDim S4x4096x1 ![] bcast_S_S4x4096x1 : Arr F S_ → Arr F S4x4096x1),
    binary main_v8 main_v9 main_v10 (Host.divf : Arr F S4x4096x1 → Arr F S4x4096x1 → Arr F S4x4096x1),
    nullary main_cst_1 (constant S_ .f32 0x358637BD#32),
    unary main_cst_1 main_v11 (broadcastInDim S4x4096x1 ![] bcast_S_S4x4096x1 : Arr F S_ → Arr F S4x4096x1),
    binary main_v10 main_v11 main_v12 (addf : Arr F S4x4096x1 → Arr F S4x4096x1 → Arr F S4x4096x1),
    unary main_v12 main_v13 (Host.rsqrt : Arr F S4x4096x1 → Arr F S4x4096x1),
    unary main_v13 main_v14 (broadcastInDim S4x4096x1024 ![0, 1, 2] bcast_S4x4096x1_S4x4096x1024_0_1_2 : Arr F S4x4096x1 → Arr F S4x4096x1024),
    binary main_v4 main_v14 main_v15 (mulf : Arr F S4x4096x1024 → Arr F S4x4096x1024 → Arr F S4x4096x1024),
    unary main_v5 main_v16 (broadcastInDim S1x1x1024 ![2] bcast_S1024_S1x1x1024_2 : Arr F S1024 → Arr F S1x1x1024),
    unary main_v16 main_v17 (broadcastInDim S4x4096x1024 ![0, 1, 2] bcast_S1x1x1024_S4x4096x1024_0_1_2 : Arr F S1x1x1024 → Arr F S4x4096x1024),
    binary main_v15 main_v17 main_v18 (mulf : Arr F S4x4096x1024 → Arr F S4x4096x1024 → Arr F S4x4096x1024) ]

/-- Part C of the operations. -/
abbrev opsC : List (HloOp τ sig (Elt F)) :=
  [ reshape main_arg7 main_v19 (rfl : (.f32 : EltTy) = .f32) shapeCasts_S1x1024x5632_S1024x5632,
    binary main_v18 main_v19 main_v20 ((fun l r => Host.dotGeneral dot_S4x4096x1024_S1024x5632_S4x4096x5632_2_0_01_1_n_n none l r) : Arr F S4x4096x1024 → Arr F S1024x5632 → Arr F S4x4096x5632),
    unary main_v20 main_v21 ((extractStridedSlice S4x4096x2816 ![0, 0, 0] · slices_S4x4096x5632_S4x4096x2816_0_0_0) : Arr F S4x4096x5632 → Arr F S4x4096x2816),
    unary main_v20 main_v22 ((extractStridedSlice S4x4096x2816 ![0, 0, 2816] · slices_S4x4096x5632_S4x4096x2816_0_0_2816) : Arr F S4x4096x5632 → Arr F S4x4096x2816),
    TRef.unary (TRef.of (T := ⟨S4x4096x2816, .f32⟩) main_v21) (TRef.of (T := ⟨S4x4096x2816, .f32⟩) main_call0_v0) Host.negf,
    TRef.unary (TRef.of (T := ⟨S4x4096x2816, .f32⟩) main_call0_v0) (TRef.of (T := ⟨S4x4096x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S4x4096x2816, .f32⟩) main_call0_v2) (broadcastInDim S4x4096x2816 ![] bcast_S_S4x4096x2816),
    TRef.binary (TRef.of (T := ⟨S4x4096x2816, .f32⟩) main_call0_v2) (TRef.of (T := ⟨S4x4096x2816, .f32⟩) main_call0_v1) (TRef.of (T := ⟨S4x4096x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S4x4096x2816, .f32⟩) main_call0_v4) (broadcastInDim S4x4096x2816 ![] bcast_S_S4x4096x2816),
    TRef.binary (TRef.of (T := ⟨S4x4096x2816, .f32⟩) main_call0_v4) (TRef.of (T := ⟨S4x4096x2816, .f32⟩) main_call0_v3) (TRef.of (T := ⟨S4x4096x2816, .f32⟩) main_call0_v5) Host.divf,
    TRef.binary (TRef.of (T := ⟨S4x4096x2816, .f32⟩) main_v21) (TRef.of (T := ⟨S4x4096x2816, .f32⟩) main_call0_v5) (TRef.of (T := ⟨S4x4096x2816, .f32⟩) main_v23) mulf,
    binary main_v23 main_v22 main_v24 (mulf : Arr F S4x4096x2816 → Arr F S4x4096x2816 → Arr F S4x4096x2816),
    reshape main_arg8 main_v25 (rfl : (.f32 : EltTy) = .f32) shapeCasts_S1x2816x1024_S2816x1024,
    binary main_v24 main_v25 main_v26 ((fun l r => Host.dotGeneral dot_S4x4096x2816_S2816x1024_S4x4096x1024_2_0_01_1_n_n none l r) : Arr F S4x4096x2816 → Arr F S2816x1024 → Arr F S4x4096x1024),
    binary main_v4 main_v26 main_v27 (addf : Arr F S4x4096x1024 → Arr F S4x4096x1024 → Arr F S4x4096x1024) ]

/-- Part D of the operations. -/
abbrev opsD : List (HloOp τ sig (Elt F)) :=
  [ reshape main_arg9 main_v28 (rfl : (.f32 : EltTy) = .f32) shapeCasts_S1x1024_S1024,
    binary main_v27 main_v27 main_v29 (mulf : Arr F S4x4096x1024 → Arr F S4x4096x1024 → Arr F S4x4096x1024),
    nullary main_cst_2 (constant S_ .f32 0x00000000#32),
    binary main_v29 main_cst_2 main_v30 ((fun x v => Host.reduceAdd x v reducesTo_S4x4096x1024_S4x4096_d2 h_S_) : Arr F S4x4096x1024 → Arr F S_ → Arr F S4x4096),
    unary main_v30 main_v31 (broadcastInDim S4x4096x1 ![0, 1] bcast_S4x4096_S4x4096x1_0_1 : Arr F S4x4096 → Arr F S4x4096x1),
    nullary main_cst_3 (constant S_ .f32 0x44800000#32),
    unary main_cst_3 main_v32 (broadcastInDim S4x4096x1 ![] bcast_S_S4x4096x1 : Arr F S_ → Arr F S4x4096x1),
    binary main_v31 main_v32 main_v33 (Host.divf : Arr F S4x4096x1 → Arr F S4x4096x1 → Arr F S4x4096x1),
    nullary main_cst_4 (constant S_ .f32 0x358637BD#32),
    unary main_cst_4 main_v34 (broadcastInDim S4x4096x1 ![] bcast_S_S4x4096x1 : Arr F S_ → Arr F S4x4096x1),
    binary main_v33 main_v34 main_v35 (addf : Arr F S4x4096x1 → Arr F S4x4096x1 → Arr F S4x4096x1),
    unary main_v35 main_v36 (Host.rsqrt : Arr F S4x4096x1 → Arr F S4x4096x1),
    unary main_v36 main_v37 (broadcastInDim S4x4096x1024 ![0, 1, 2] bcast_S4x4096x1_S4x4096x1024_0_1_2 : Arr F S4x4096x1 → Arr F S4x4096x1024),
    binary main_v27 main_v37 main_v38 (mulf : Arr F S4x4096x1024 → Arr F S4x4096x1024 → Arr F S4x4096x1024),
    unary main_v28 main_v39 (broadcastInDim S1x1x1024 ![2] bcast_S1024_S1x1x1024_2 : Arr F S1024 → Arr F S1x1x1024),
    unary main_v39 main_v40 (broadcastInDim S4x4096x1024 ![0, 1, 2] bcast_S1x1x1024_S4x4096x1024_0_1_2 : Arr F S1x1x1024 → Arr F S4x4096x1024),
    binary main_v38 main_v40 main_v41 (mulf : Arr F S4x4096x1024 → Arr F S4x4096x1024 → Arr F S4x4096x1024) ]

/-- Part E of the operations. -/
abbrev opsE : List (HloOp τ sig (Elt F)) :=
  [ reshape main_arg11 main_v42 (rfl : (.f32 : EltTy) = .f32) shapeCasts_S1x1024x1024_S1024x1024,
    binary main_v41 main_v42 main_v43 ((fun l r => Host.dotGeneral dot_S4x4096x1024_S1024x1024_S4x4096x1024_2_0_01_1_n_n none l r) : Arr F S4x4096x1024 → Arr F S1024x1024 → Arr F S4x4096x1024),
    unary main_v43 main_v44 (Host.negf : Arr F S4x4096x1024 → Arr F S4x4096x1024),
    unary main_v44 main_v45 (Host.exp : Arr F S4x4096x1024 → Arr F S4x4096x1024),
    nullary main_cst_5 (constant S_ .f32 0x3F800000#32),
    unary main_cst_5 main_v46 (broadcastInDim S4x4096x1024 ![] bcast_S_S4x4096x1024 : Arr F S_ → Arr F S4x4096x1024),
    binary main_v46 main_v45 main_v47 (addf : Arr F S4x4096x1024 → Arr F S4x4096x1024 → Arr F S4x4096x1024),
    nullary main_cst_6 (constant S_ .f32 0x3F800000#32),
    unary main_cst_6 main_v48 (broadcastInDim S4x4096x1024 ![] bcast_S_S4x4096x1024 : Arr F S_ → Arr F S4x4096x1024),
    binary main_v48 main_v47 main_v49 (Host.divf : Arr F S4x4096x1024 → Arr F S4x4096x1024 → Arr F S4x4096x1024),
    reshape main_arg4 main_v50 (rfl : (.f32 : EltTy) = .f32) shapeCasts_S1x4x4096x256_S4x4096x256,
    reshape main_arg10 main_v51 (rfl : (.f32 : EltTy) = .f32) shapeCasts_S1x256x1024_S256x1024,
    binary main_v50 main_v51 main_v52 ((fun l r => Host.dotGeneral dot_S4x4096x256_S256x1024_S4x4096x1024_2_0_01_1_n_n none l r) : Arr F S4x4096x256 → Arr F S256x1024 → Arr F S4x4096x1024),
    binary main_v52 main_v49 main_v53 (mulf : Arr F S4x4096x1024 → Arr F S4x4096x1024 → Arr F S4x4096x1024),
    binary main_v27 main_v53 main_v54 (addf : Arr F S4x4096x1024 → Arr F S4x4096x1024 → Arr F S4x4096x1024) ]

/-- Part F of the operations. -/
abbrev opsF : List (HloOp τ sig (Elt F)) :=
  [ binary main_v54 main_v54 main_v55 (mulf : Arr F S4x4096x1024 → Arr F S4x4096x1024 → Arr F S4x4096x1024),
    nullary main_cst_7 (constant S_ .f32 0x00000000#32),
    binary main_v55 main_cst_7 main_v56 ((fun x v => Host.reduceAdd x v reducesTo_S4x4096x1024_S4x4096_d2 h_S_) : Arr F S4x4096x1024 → Arr F S_ → Arr F S4x4096),
    unary main_v56 main_v57 (broadcastInDim S4x4096x1 ![0, 1] bcast_S4x4096_S4x4096x1_0_1 : Arr F S4x4096 → Arr F S4x4096x1),
    nullary main_cst_8 (constant S_ .f32 0x44800000#32),
    unary main_cst_8 main_v58 (broadcastInDim S4x4096x1 ![] bcast_S_S4x4096x1 : Arr F S_ → Arr F S4x4096x1),
    binary main_v57 main_v58 main_v59 (Host.divf : Arr F S4x4096x1 → Arr F S4x4096x1 → Arr F S4x4096x1),
    nullary main_cst_9 (constant S_ .f32 0x358637BD#32),
    unary main_cst_9 main_v60 (broadcastInDim S4x4096x1 ![] bcast_S_S4x4096x1 : Arr F S_ → Arr F S4x4096x1),
    binary main_v59 main_v60 main_v61 (addf : Arr F S4x4096x1 → Arr F S4x4096x1 → Arr F S4x4096x1),
    unary main_v61 main_v62 (Host.rsqrt : Arr F S4x4096x1 → Arr F S4x4096x1),
    unary main_v62 main_v63 (broadcastInDim S4x4096x1024 ![0, 1, 2] bcast_S4x4096x1_S4x4096x1024_0_1_2 : Arr F S4x4096x1 → Arr F S4x4096x1024),
    binary main_v54 main_v63 main_v64 (mulf : Arr F S4x4096x1024 → Arr F S4x4096x1024 → Arr F S4x4096x1024),
    unary main_arg12 main_v65 (broadcastInDim S1x1x1024 ![2] bcast_S1024_S1x1x1024_2 : Arr F S1024 → Arr F S1x1x1024),
    unary main_v65 main_v66 (broadcastInDim S4x4096x1024 ![0, 1, 2] bcast_S1x1x1024_S4x4096x1024_0_1_2 : Arr F S1x1x1024 → Arr F S4x4096x1024),
    binary main_v64 main_v66 main_v67 (mulf : Arr F S4x4096x1024 → Arr F S4x4096x1024 → Arr F S4x4096x1024),
    reshape main_v67 main_v68 (rfl : (.f32 : EltTy) = .f32) shapeCasts_S4x4096x1024_S16384x1024 ]

/-- The program's operations, in order: its six parts, one after the other. -/
abbrev ops : List (HloOp τ sig (Elt F)) :=
  opsA ++ (opsB ++ (opsC ++ (opsD ++ (opsE ++ opsF))))

set_option maxRecDepth 8192 in
/-- The operations are the six parts. -/
theorem ops_eq : (ops : List (HloOp τ sig (Elt F))) = opsA ++ (opsB ++ (opsC ++ (opsD ++ (opsE ++ opsF)))) := rfl

set_option maxRecDepth 8192 in
set_option maxHeartbeats 4000000 in
/-- The program runs its operations in order. -/
theorem main_eq (c : Dev nD) : main (F := F) c = seq ops := rfl
/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide
set_option maxRecDepth 8192 in
/-- Every operation works on the device's own buffers. -/
theorem ops_sub : (ops : List (HloOp τ sig (Elt F))).Forall fun op => op.bufs ⊆ tcRefs τ sig :=
  ⟨binary_bufs_sub .., binary_bufs_sub .., reshape_bufs_sub .., binary_bufs_sub .., binary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., reshape_bufs_sub .., binary_bufs_sub .., binary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub .., binary_bufs_sub .., unary_bufs_sub .., unary_bufs_sub .., nullary_bufs_sub .., unary_bufs_sub .., binary_bufs_sub .., nullary_bufs_sub .., unary_bufs_sub .., binary_bufs_sub .., reshape_bufs_sub .., reshape_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub ..⟩

/-! ## What each part computes -/

/-- The merged residual: the input, and the gated attention and the convolution's branch through the output projection. -/
def rX1 (x oa ga cm : FVec F S4x4096x1024 .f32) (w : FVec F S1x1024x1024 .f32) : FVec F S4x4096x1024 .f32 :=
  addf x (Host.dotGeneral dot_S4x4096x1024_S1024x1024_S4x4096x1024_2_0_01_1_n_n none (addf (mulf ga oa) cm)
    (shapeCast S1024x1024 w shapeCasts_S1x1024x1024_S1024x1024 : FVec F S1024x1024 .f32))

/-- The root-mean-square norm of the rows of `x`, scaled by `g`. -/
def rNorm (x : FVec F S4x4096x1024 .f32) (g : FVec F S1024 .f32) : FVec F S4x4096x1024 .f32 :=
  mulf (mulf x (broadcastInDim S4x4096x1024 ![0, 1, 2] bcast_S4x4096x1_S4x4096x1024_0_1_2
      (Host.rsqrt (addf (Host.divf (broadcastInDim S4x4096x1 ![0, 1] bcast_S4x4096_S4x4096x1_0_1
          (Host.reduceAdd (mulf x x) (constant S_ .f32 0x00000000#32) reducesTo_S4x4096x1024_S4x4096_d2 h_S_))
          (broadcastInDim S4x4096x1 ![] bcast_S_S4x4096x1 (constant S_ .f32 0x44800000#32)))
        (broadcastInDim S4x4096x1 ![] bcast_S_S4x4096x1 (constant S_ .f32 0x358637BD#32))) : FVec F S4x4096x1 .f32)))
    (broadcastInDim S4x4096x1024 ![0, 1, 2] bcast_S1x1x1024_S4x4096x1024_0_1_2
      (broadcastInDim S1x1x1024 ![2] bcast_S1024_S1x1x1024_2 g))

/-- The feed-forward residual: `x1`, and the gated units of `h` through the down projection. -/
def rX2 (x1 h : FVec F S4x4096x1024 .f32) (wgu : FVec F S1x1024x5632 .f32) (wd : FVec F S1x2816x1024 .f32) :
    FVec F S4x4096x1024 .f32 :=
  let y : FVec F S4x4096x5632 .f32 := Host.dotGeneral dot_S4x4096x1024_S1024x5632_S4x4096x5632_2_0_01_1_n_n none h
    (shapeCast S1024x5632 wgu shapeCasts_S1x1024x5632_S1024x5632 : FVec F S1024x5632 .f32)
  let g : FVec F S4x4096x2816 .f32 := extractStridedSlice S4x4096x2816 ![0, 0, 0] y slices_S4x4096x5632_S4x4096x2816_0_0_0
  let u : FVec F S4x4096x2816 .f32 := extractStridedSlice S4x4096x2816 ![0, 0, 2816] y slices_S4x4096x5632_S4x4096x2816_0_0_2816
  addf x1 (Host.dotGeneral dot_S4x4096x2816_S2816x1024_S4x4096x1024_2_0_01_1_n_n none
    (mulf (mulf g (Host.divf (broadcastInDim S4x4096x2816 ![] bcast_S_S4x4096x2816 (constant S_ .f32 0x3F800000#32))
      (addf (broadcastInDim S4x4096x2816 ![] bcast_S_S4x4096x2816 (constant S_ .f32 0x3F800000#32)) (Host.exp (Host.negf g))))) u)
    (shapeCast S2816x1024 wd shapeCasts_S1x2816x1024_S2816x1024 : FVec F S2816x1024 .f32))

/-- The gated residual: `x2`, and the embeddings' projection times the logistic of the gate's projection of `n`. -/
def rX3 (x2 n : FVec F S4x4096x1024 .f32) (p : FVec F S1x4x4096x256 .f32) (wp : FVec F S1x256x1024 .f32)
    (wg : FVec F S1x1024x1024 .f32) : FVec F S4x4096x1024 .f32 :=
  addf x2 (mulf (Host.dotGeneral dot_S4x4096x256_S256x1024_S4x4096x1024_2_0_01_1_n_n none
      (shapeCast S4x4096x256 p shapeCasts_S1x4x4096x256_S4x4096x256 : FVec F S4x4096x256 .f32)
      (shapeCast S256x1024 wp shapeCasts_S1x256x1024_S256x1024 : FVec F S256x1024 .f32))
    (Host.divf (broadcastInDim S4x4096x1024 ![] bcast_S_S4x4096x1024 (constant S_ .f32 0x3F800000#32))
      (addf (broadcastInDim S4x4096x1024 ![] bcast_S_S4x4096x1024 (constant S_ .f32 0x3F800000#32))
        (Host.exp (Host.negf (Host.dotGeneral dot_S4x4096x1024_S1024x1024_S4x4096x1024_2_0_01_1_n_n none n
          (shapeCast S1024x1024 wg shapeCasts_S1x1024x1024_S1024x1024 : FVec F S1024x1024 .f32)))))))

/-- The whole reference over its arguments. -/
def rOut (x oa ga cm : FVec F S4x4096x1024 .f32) (p : FVec F S1x4x4096x256 .f32) (wo : FVec F S1x1024x1024 .f32)
    (g1 : FVec F S1x1024 .f32) (wgu : FVec F S1x1024x5632 .f32) (wd : FVec F S1x2816x1024 .f32) (g2 : FVec F S1x1024 .f32)
    (wp : FVec F S1x256x1024 .f32) (wg : FVec F S1x1024x1024 .f32) (g3 : FVec F S1024 .f32) : FVec F S4x4096x1024 .f32 :=
  let x1 := rX1 x oa ga cm wo
  let x2 := rX2 x1 (rNorm x1 (shapeCast S1024 g1 shapeCasts_S1x1024_S1024)) wgu wd
  let x3 := rX3 x2 (rNorm x2 (shapeCast S1024 g2 shapeCasts_S1x1024_S1024)) p wp wg
  rNorm x3 g3

/-! ## The parts, read -/

variable (V : Valuation τ sig (Elt F))

/-- Operations run one list after another. -/
theorem after_append' (l₁ l₂ : List (HloOp τ sig (Elt F))) : ∀ V : Valuation τ sig (Elt F), after (l₁ ++ l₂) V = after l₂ (after l₁ V) := by
  induction l₁ with
  | nil => intro V; rfl
  | cons op l ih => intro V; exact ih _

/-- Part A leaves the merged residual. -/
theorem readA : after opsA V (Proc.devRef .tc main_v4) = rX1 (V (Proc.devRef .tc main_arg0)) (V (Proc.devRef .tc main_arg1))
    (V (Proc.devRef .tc main_arg2)) (V (Proc.devRef .tc main_arg3)) (V (Proc.devRef .tc main_arg5)) := by
  simp only [opsA]; after_results_simp <;> rfl
/-- Part B leaves the norm of the merged residual, and the merged residual. -/
theorem readB : after opsB V (Proc.devRef .tc main_v18) = rNorm (V (Proc.devRef .tc main_v4))
    (shapeCast S1024 (V (Proc.devRef .tc main_arg6)) shapeCasts_S1x1024_S1024)
    ∧ after opsB V (Proc.devRef .tc main_v4) = V (Proc.devRef .tc main_v4) := by
  constructor <;> (simp only [opsB]; after_results_simp <;> rfl)
/-- Part C leaves the feed-forward residual. -/
theorem readC : after opsC V (Proc.devRef .tc main_v27) = rX2 (V (Proc.devRef .tc main_v4)) (V (Proc.devRef .tc main_v18))
    (V (Proc.devRef .tc main_arg7)) (V (Proc.devRef .tc main_arg8)) := by
  simp only [opsC, TRef.binary, TRef.nullary, TRef.unary, TRef.toBuf, TRef.ofBuf, cast_eq]; after_results_simp <;> rfl
/-- Part D leaves the norm of the feed-forward residual, and that residual. -/
theorem readD : after opsD V (Proc.devRef .tc main_v41) = rNorm (V (Proc.devRef .tc main_v27))
    (shapeCast S1024 (V (Proc.devRef .tc main_arg9)) shapeCasts_S1x1024_S1024)
    ∧ after opsD V (Proc.devRef .tc main_v27) = V (Proc.devRef .tc main_v27) := by
  constructor <;> (simp only [opsD]; after_results_simp <;> rfl)
/-- Part E leaves the gated residual. -/
theorem readE : after opsE V (Proc.devRef .tc main_v54) = rX3 (V (Proc.devRef .tc main_v27)) (V (Proc.devRef .tc main_v41))
    (V (Proc.devRef .tc main_arg4)) (V (Proc.devRef .tc main_arg10)) (V (Proc.devRef .tc main_arg11)) := by
  simp only [opsE]; after_results_simp <;> rfl
/-- Part F leaves the last norm, its first two axes merged. -/
theorem readF : after opsF V (Proc.devRef .tc main_v68)
    = (shapeCast S16384x1024 (rNorm (V (Proc.devRef .tc main_v54)) (V (Proc.devRef .tc main_arg12))) shapeCasts_S4x4096x1024_S16384x1024 :
        FVec F S16384x1024 .f32) := by
  simp only [opsF]; after_results_simp <;> rfl

/-- Part A leaves the later parts' arguments as they were. -/
theorem keepA : after opsA V (Proc.devRef .tc main_arg6) = V (Proc.devRef .tc main_arg6)
    ∧ after opsA V (Proc.devRef .tc main_arg7) = V (Proc.devRef .tc main_arg7) ∧ after opsA V (Proc.devRef .tc main_arg8) = V (Proc.devRef .tc main_arg8)
    ∧ after opsA V (Proc.devRef .tc main_arg9) = V (Proc.devRef .tc main_arg9) ∧ after opsA V (Proc.devRef .tc main_arg4) = V (Proc.devRef .tc main_arg4)
    ∧ after opsA V (Proc.devRef .tc main_arg10) = V (Proc.devRef .tc main_arg10) ∧ after opsA V (Proc.devRef .tc main_arg11) = V (Proc.devRef .tc main_arg11)
    ∧ after opsA V (Proc.devRef .tc main_arg12) = V (Proc.devRef .tc main_arg12) := by
  simp only [opsA]; refine ⟨?_, ?_, ?_, ?_, ?_, ?_, ?_, ?_⟩ <;> (after_results_simp <;> rfl)
/-- Part B leaves the later parts' arguments as they were. -/
theorem keepB : after opsB V (Proc.devRef .tc main_arg7) = V (Proc.devRef .tc main_arg7) ∧ after opsB V (Proc.devRef .tc main_arg8) = V (Proc.devRef .tc main_arg8)
    ∧ after opsB V (Proc.devRef .tc main_arg9) = V (Proc.devRef .tc main_arg9) ∧ after opsB V (Proc.devRef .tc main_arg4) = V (Proc.devRef .tc main_arg4)
    ∧ after opsB V (Proc.devRef .tc main_arg10) = V (Proc.devRef .tc main_arg10) ∧ after opsB V (Proc.devRef .tc main_arg11) = V (Proc.devRef .tc main_arg11)
    ∧ after opsB V (Proc.devRef .tc main_arg12) = V (Proc.devRef .tc main_arg12) := by
  simp only [opsB]; refine ⟨?_, ?_, ?_, ?_, ?_, ?_, ?_⟩ <;> (after_results_simp <;> rfl)
/-- Part C leaves the later parts' arguments as they were. -/
theorem keepC : after opsC V (Proc.devRef .tc main_arg9) = V (Proc.devRef .tc main_arg9) ∧ after opsC V (Proc.devRef .tc main_arg4) = V (Proc.devRef .tc main_arg4)
    ∧ after opsC V (Proc.devRef .tc main_arg10) = V (Proc.devRef .tc main_arg10) ∧ after opsC V (Proc.devRef .tc main_arg11) = V (Proc.devRef .tc main_arg11)
    ∧ after opsC V (Proc.devRef .tc main_arg12) = V (Proc.devRef .tc main_arg12) := by
  simp only [opsC, TRef.binary, TRef.nullary, TRef.unary, TRef.toBuf, TRef.ofBuf, cast_eq]
  refine ⟨?_, ?_, ?_, ?_, ?_⟩ <;> (after_results_simp <;> rfl)
/-- Part D leaves the later parts' arguments as they were. -/
theorem keepD : after opsD V (Proc.devRef .tc main_arg4) = V (Proc.devRef .tc main_arg4)
    ∧ after opsD V (Proc.devRef .tc main_arg10) = V (Proc.devRef .tc main_arg10) ∧ after opsD V (Proc.devRef .tc main_arg11) = V (Proc.devRef .tc main_arg11)
    ∧ after opsD V (Proc.devRef .tc main_arg12) = V (Proc.devRef .tc main_arg12) := by
  simp only [opsD]; refine ⟨?_, ?_, ?_, ?_⟩ <;> (after_results_simp <;> rfl)
/-- Part E leaves the last argument as it was. -/
theorem keepE : after opsE V (Proc.devRef .tc main_arg12) = V (Proc.devRef .tc main_arg12) := by
  simp only [opsE]; after_results_simp <;> rfl

/-- The result's contents: the whole reference over the arguments, its first two axes merged. -/
theorem read_out : after ops V (Proc.devRef .tc main_v68)
    = (shapeCast S16384x1024 (rOut (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7))
        (V (Proc.devRef .tc main_arg8)) (V (Proc.devRef .tc main_arg9)) (V (Proc.devRef .tc main_arg10)) (V (Proc.devRef .tc main_arg11))
        (V (Proc.devRef .tc main_arg12))) shapeCasts_S4x4096x1024_S16384x1024 : FVec F S16384x1024 .f32) := by
  rw [ops_eq]
  simp only [after_append']
  obtain ⟨a6, a7, a8, a9, a4, a10, a11, a12⟩ := keepA V
  obtain ⟨b7, b8, b9, b4, b10, b11, b12⟩ := keepB (after opsA V)
  obtain ⟨c9, c4, c10, c11, c12⟩ := keepC (after opsB (after opsA V))
  obtain ⟨d4, d10, d11, d12⟩ := keepD (after opsC (after opsB (after opsA V)))
  rw [readF, keepE, readE, (readD _).1, (readD _).2, d4, d10, d11, d12, readC, c9, c4, c10, c11, c12, (readB _).1, (readB _).2,
    b7, b8, b9, b4, b10, b11, b12, readA, a6, a7, a8, a9, a4, a10, a11, a12]
  rfl

set_option maxRecDepth 8192 in
set_option maxHeartbeats 4000000 in
/-- The arguments end as they were. -/
theorem keep : after ops V (Proc.devRef .tc main_arg0) = V (Proc.devRef .tc main_arg0)
    ∧ after ops V (Proc.devRef .tc main_arg1) = V (Proc.devRef .tc main_arg1) ∧ after ops V (Proc.devRef .tc main_arg2) = V (Proc.devRef .tc main_arg2)
    ∧ after ops V (Proc.devRef .tc main_arg3) = V (Proc.devRef .tc main_arg3) ∧ after ops V (Proc.devRef .tc main_arg4) = V (Proc.devRef .tc main_arg4)
    ∧ after ops V (Proc.devRef .tc main_arg5) = V (Proc.devRef .tc main_arg5) ∧ after ops V (Proc.devRef .tc main_arg6) = V (Proc.devRef .tc main_arg6)
    ∧ after ops V (Proc.devRef .tc main_arg7) = V (Proc.devRef .tc main_arg7) ∧ after ops V (Proc.devRef .tc main_arg8) = V (Proc.devRef .tc main_arg8)
    ∧ after ops V (Proc.devRef .tc main_arg9) = V (Proc.devRef .tc main_arg9) ∧ after ops V (Proc.devRef .tc main_arg10) = V (Proc.devRef .tc main_arg10)
    ∧ after ops V (Proc.devRef .tc main_arg11) = V (Proc.devRef .tc main_arg11) ∧ after ops V (Proc.devRef .tc main_arg12) = V (Proc.devRef .tc main_arg12) := by
  simp only [ops, opsA, opsB, opsC, opsD, opsE, opsF, List.cons_append, List.nil_append, TRef.binary, TRef.nullary, TRef.unary, TRef.toBuf, TRef.ofBuf, cast_eq]
  refine ⟨?_, ?_, ?_, ?_, ?_, ?_, ?_, ?_, ?_, ?_, ?_, ?_, ?_⟩ <;> (after_results_simp <;> rfl)

/-- The run of the reference: its result is the whole reference over the arguments, and the arguments end as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68) = (shapeCast S16384x1024 (rOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg12)))
          shapeCasts_S4x4096x1024_S16384x1024 : FVec F S16384x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => by
      obtain ⟨k0, k1, k2, k3, k4, k5, k6, k7, k8, k9, k10, k11, k12⟩ := keep (launchContents m c)
      exact ⟨(h c main_v68).trans (read_out _), (h c main_arg0).trans k0, (h c main_arg1).trans k1, (h c main_arg2).trans k2,
        (h c main_arg3).trans k3, (h c main_arg4).trans k4, (h c main_arg5).trans k5, (h c main_arg6).trans k6, (h c main_arg7).trans k7,
        (h c main_arg8).trans k8, (h c main_arg9).trans k9, (h c main_arg10).trans k10, (h c main_arg11).trans k11, (h c main_arg12).trans k12⟩)
    (run_seq scopedRefs_eq scopedSems_eq defs main (fun _ => ops) main_eq (fun _ => ops_sub) m ρ)

end Cert.FfnRefIdeal.Own

end
-- ==== Proof.FfnPure.lean ====
/- The merge, feed-forward and gate block, block by block: each stage of the kernel over a block of 512 rows is the
   block of the reference's stage over the whole arrays. -/
module

public import proofs.«01_k».proof.Proof.Gen.FfnIdeal.Skeleton
public import proofs.«01_k».proof.Proof.FfnRef
public import Idealize.ShloMosaic.Lib.Pointwise

@[expose] public section

set_option maxRecDepth 16384

noncomputable section

namespace Cert.FfnIdeal.Value

open Cert.FfnIdeal Cert.FfnIdeal.Gen Idealize.ShloMosaic Idealize.ShloMosaic.TcCoe Idealize.SL.Sem
open Cert.FfnRefIdeal.Own (rX1 rX2 rX3 rNorm rOut)

/-- Rows `512 q … 512 q + 511` of the batch's flattened rows. -/
def blk (q : Fin 32) (A : FVec Ideal S4x4096x1024 .f32) : FVec Ideal S512x1024 .f32 := fun y =>
  A (ix3 (⟨q.val / 8, by omega⟩ : Fin 4) (⟨q.val % 8 * 512 + (y 0).val, by have h : (y 0).val < 512 := (y 0).isLt; omega⟩ : Fin 4096) (y 1))

/-- The same rows of the per-layer embeddings. -/
def blkp (q : Fin 32) (A : FVec Ideal S1x4x4096x256 .f32) : FVec Ideal S512x256 .f32 := fun y =>
  A (ix4 0 (⟨q.val / 8, by omega⟩ : Fin 4) (⟨q.val % 8 * 512 + (y 0).val, by have h : (y 0).val < 512 := (y 0).isLt; omega⟩ : Fin 4096) (y 1))

/-- The only matrix of a stack of one. -/
def mat (w : FVec Ideal S1x1024x1024 .f32) : FVec Ideal S1024x1024 .bf16 := fun y => w (ix3 0 (y 0) (y 1))
/-- The embeddings' projection of a stack of one. -/
def matp (w : FVec Ideal S1x256x1024 .f32) : FVec Ideal S256x1024 .bf16 := fun y => w (ix3 0 (y 0) (y 1))
/-- Half `f` of the gate's columns. -/
def matg (f : Fin 2) (w : FVec Ideal S1x1024x5632 .f32) : FVec Ideal S1024x1408 .bf16 := fun y =>
  w (ix3 0 (y 0) (⟨f.val * 1408 + (y 1).val, by have h : (y 1).val < 1408 := (y 1).isLt; omega⟩ : Fin 5632))
/-- Half `f` of the up projection's columns. -/
def matu (f : Fin 2) (w : FVec Ideal S1x1024x5632 .f32) : FVec Ideal S1024x1408 .bf16 := fun y =>
  w (ix3 0 (y 0) (⟨2816 + (f.val * 1408 + (y 1).val), by have h : (y 1).val < 1408 := (y 1).isLt; omega⟩ : Fin 5632))
/-- Half `f` of the down projection's rows. -/
def matd (f : Fin 2) (w : FVec Ideal S1x2816x1024 .f32) : FVec Ideal S1408x1024 .bf16 := fun y =>
  w (ix3 0 (⟨f.val * 1408 + (y 0).val, by have h : (y 0).val < 1408 := (y 0).isLt; omega⟩ : Fin 2816) (y 1))
/-- A norm's weights as one row, from a stack of one. -/
def rowg (g : FVec Ideal S1x1024 .f32) : FVec Ideal S1x1024 .f32 := fun y => g (ix2 0 (y 1))
/-- A norm's weights as one row. -/
def rowf (g : FVec Ideal S1024 .f32) : FVec Ideal S1x1024 .f32 := fun y => g (ix1 (y 1))

variable (q : Fin 32)

/-- The merged residual of a block. -/
theorem x1_eq (x oa ga cm : FVec Ideal S4x4096x1024 .f32) (wo : FVec Ideal S1x1024x1024 .f32) :
    k0_pay4 (F := Ideal) (blk q ga) (blk q oa) (blk q cm) (blk q x) (mat wo) = blk q (rX1 x oa ga cm wo) := by
  funext y
  idx_vars y
  pointwise! [k0_pay4, blk, mat, rX1]

/-- The merged residual as it is stored. -/
theorem x1s_eq (x oa ga cm : FVec Ideal S4x4096x1024 .f32) (wo : FVec Ideal S1x1024x1024 .f32) :
    k0_pay5 (F := Ideal) (blk q ga) (blk q oa) (blk q cm) (blk q x) (mat wo) = blk q (rX1 x oa ga cm wo) := by
  unfold k0_pay5
  rw [x1_eq]
  funext y
  pointwise []

/-- The norm of the merged residual of a block. -/
theorem h_eq (x oa ga cm : FVec Ideal S4x4096x1024 .f32) (wo : FVec Ideal S1x1024x1024 .f32) (g : FVec Ideal S1x1024 .f32) :
    k0_pay6 (F := Ideal) (blk q ga) (blk q oa) (blk q cm) (blk q x) (mat wo) (rowg g)
      = blk q (rNorm (rX1 x oa ga cm wo) (shapeCast Cert.FfnRefIdeal.S1024 g Cert.FfnRefIdeal.Gen.shapeCasts_S1x1024_S1024)) := by
  unfold k0_pay6
  rw [x1_eq]
  generalize rX1 x oa ga cm wo = X
  funext y
  idx_vars y
  pointwise! [blk, rowg, rNorm]

/-- The zero fill and the two halves of the feed-forward, added to the merged residual: the feed-forward residual of a block. -/
theorem x2_eq (X H : FVec Ideal S4x4096x1024 .f32) (wgu : FVec Ideal S1x1024x5632 .f32) (wd : FVec Ideal S1x2816x1024 .f32) :
    (addf (blk q X) (k0_pay2 (F := Ideal) (blk q H) (matg 1 wgu) (matu 1 wgu)
        (k0_pay2 (F := Ideal) (blk q H) (matg 0 wgu) (matu 0 wgu) (k0_pay1 (F := Ideal) (k0_pay7 (F := Ideal))) (matd 0 wd)) (matd 1 wd)) : FVec Ideal S512x1024 .f32)
      = blk q (rX2 X H wgu wd) := by
  funext y
  idx_vars y
  pointwise [k0_pay2, k0_pay1, k0_pay7, blk, matg, matu, matd, rX2]
  refine congrArg (X _ + ·) (Eq.symm ?_)
  exact Fin.sum_univ_two_halves (M := EReal) (N := 2816) 1408 1408 rfl _

/-- The gated residual of a block. -/
theorem x3_eq (X Y : FVec Ideal S512x1024 .f32) (Z : FVec Ideal S4x4096x1024 .f32) (h : addf X Y = blk q Z)
    (p : FVec Ideal S1x4x4096x256 .f32) (g : FVec Ideal S1x1024 .f32)
    (wp : FVec Ideal S1x256x1024 .f32) (wg : FVec Ideal S1x1024x1024 .f32) :
    k0_pay8 (F := Ideal) X Y (rowg g) (mat wg) (blkp q p) (matp wp)
      = blk q (rX3 Z (rNorm Z (shapeCast Cert.FfnRefIdeal.S1024 g Cert.FfnRefIdeal.Gen.shapeCasts_S1x1024_S1024)) p wp wg) := by
  unfold k0_pay8
  rw [h]
  funext y
  idx_vars y
  pointwise [blk, blkp, mat, matp, rowg, rNorm, rX3]
  rfl

/-- The last norm of a block. -/
theorem y_eq (X Y : FVec Ideal S512x1024 .f32) (gp : FVec Ideal S1x1024 .f32) (wg : FVec Ideal S1024x1024 .bf16) (p : FVec Ideal S512x256 .f32)
    (wp : FVec Ideal S256x1024 .bf16) (Z : FVec Ideal S4x4096x1024 .f32) (h : k0_pay8 (F := Ideal) X Y gp wg p wp = blk q Z) (g : FVec Ideal S1024 .f32) :
    k0_pay3 (F := Ideal) (k0_pay8 (F := Ideal) X Y gp wg p wp) (k0_pay9 (F := Ideal) (rowf g))
      (k0_pay10 (F := Ideal) X Y gp wg p wp) (k0_pay11 (F := Ideal)) = blk q (rNorm Z g) := by
  unfold k0_pay10
  rw [h]
  funext y
  idx_vars y
  pointwise! [k0_pay3, k0_pay9, k0_pay11, blk, rowf, rNorm]

end Cert.FfnIdeal.Value

end
-- ==== Proof.FfnValue.lean ====
/- The merge, feed-forward and gate block: its result array is the reference's term over the argument arrays. -/
module

public import proofs.«01_k».proof.Proof.Gen.FfnIdeal.Frame
public import proofs.«01_k».proof.Proof.FfnPure
public import Idealize.ShloMosaic.Lib.Pipeline.ValueKit

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)
open Cert.FfnRefIdeal.Own (rX1 rX2 rX3 rNorm rOut)

variable (m : (ℓ : Loc nD τ sig) → Buf (Elt Ideal) ℓ)

/-- The windows' block indices. -/
theorem idx : ∀ t : Fin cfg0.N, win0_0.index t = ![t.val / 2, 0] ∧ win0_1.index t = ![t.val / 2, 0] ∧ win0_2.index t = ![t.val / 2, 0]
    ∧ win0_3.index t = ![t.val / 2, 0] ∧ win0_4.index t = ![t.val / 2, 0] ∧ win0_5.index t = ![0, 0] ∧ win0_6.index t = ![0, 0]
    ∧ win0_7.index t = ![0, t.val % 2] ∧ win0_8.index t = ![0, t.val % 2] ∧ win0_9.index t = ![t.val % 2, 0] ∧ win0_10.index t = ![0, 0]
    ∧ win0_11.index t = ![0, 0] ∧ win0_12.index t = ![0, 0] ∧ win0_13.index t = ![0, 0] ∧ win0_14.index t = ![t.val / 2, 0] :=
  (by decide +kernel : ∀ t : Fin grid0.N, _)

/-- The block of rows of a point. -/
def bq (t : Fin cfg0.N) : Fin 32 := ⟨t.val / 2, by have h : t.val < 64 := lt_of_lt_of_eq t.isLt N_0; omega⟩

section
variable (c : Dev nD) (t : Fin cfg0.N)
/-- Window 0's block: rows of argument 0. -/
theorem iblk0 : (iblk m c 0 t : FVec Ideal S512x1024 .f32) = blk (bq t) (m ((c : Thread nD τ).loc main_arg0)) := by
  funext y
  have ht : t.val < 64 := lt_of_lt_of_eq t.isLt N_0
  unfold blk bq
  blk_point [iblk, V, idx t]
/-- Window 1's block: rows of argument 1. -/
theorem iblk1 : (iblk m c 1 t : FVec Ideal S512x1024 .f32) = blk (bq t) (m ((c : Thread nD τ).loc main_arg1)) := by
  funext y
  have ht : t.val < 64 := lt_of_lt_of_eq t.isLt N_0
  unfold blk bq
  blk_point [iblk, V, idx t]
/-- Window 2's block: rows of argument 2. -/
theorem iblk2 : (iblk m c 2 t : FVec Ideal S512x1024 .f32) = blk (bq t) (m ((c : Thread nD τ).loc main_arg2)) := by
  funext y
  have ht : t.val < 64 := lt_of_lt_of_eq t.isLt N_0
  unfold blk bq
  blk_point [iblk, V, idx t]
/-- Window 3's block: rows of argument 3. -/
theorem iblk3 : (iblk m c 3 t : FVec Ideal S512x1024 .f32) = blk (bq t) (m ((c : Thread nD τ).loc main_arg3)) := by
  funext y
  have ht : t.val < 64 := lt_of_lt_of_eq t.isLt N_0
  unfold blk bq
  blk_point [iblk, V, idx t]
/-- Window 4's block: rows of argument 4. -/
theorem iblk4 : (iblk m c 4 t : FVec Ideal S512x256 .f32) = blkp (bq t) (m ((c : Thread nD τ).loc main_arg4)) := by
  funext y
  have ht : t.val < 64 := lt_of_lt_of_eq t.isLt N_0
  unfold blkp bq
  blk_point [iblk, V, idx t]
/-- Window 5's block, from argument 5. -/
theorem iblk5 : (iblk m c 5 t : FVec Ideal S1024x1024 .bf16) = mat (m ((c : Thread nD τ).loc main_arg5)) := by
  funext y
  unfold mat
  blk_point [iblk, V, idx t]
/-- Window 6's block, from argument 6. -/
theorem iblk6 : (iblk m c 6 t : FVec Ideal S1x1024 .f32) = rowg (m ((c : Thread nD τ).loc main_arg6)) := by
  funext y
  unfold rowg
  blk_point [iblk, V, idx t]
/-- Window 7's block, from argument 7. -/
theorem iblk7 (f : Fin 2) (hf : t.val % 2 = f.val) : (iblk m c 7 t : FVec Ideal S1024x1408 .bf16) = matg f (m ((c : Thread nD τ).loc main_arg7)) := by
  funext y
  unfold matg
  blk_point [iblk, V, idx t]
/-- Window 8's block, from argument 7. -/
theorem iblk8 (f : Fin 2) (hf : t.val % 2 = f.val) : (iblk m c 8 t : FVec Ideal S1024x1408 .bf16) = matu f (m ((c : Thread nD τ).loc main_arg7)) := by
  funext y
  unfold matu
  blk_point [iblk, V, idx t]
/-- Window 9's block, from argument 8. -/
theorem iblk9 (f : Fin 2) (hf : t.val % 2 = f.val) : (iblk m c 9 t : FVec Ideal S1408x1024 .bf16) = matd f (m ((c : Thread nD τ).loc main_arg8)) := by
  funext y
  unfold matd
  blk_point [iblk, V, idx t]
/-- Window 10's block, from argument 9. -/
theorem iblk10 : (iblk m c 10 t : FVec Ideal S1x1024 .f32) = rowg (m ((c : Thread nD τ).loc main_arg9)) := by
  funext y
  unfold rowg
  blk_point [iblk, V, idx t]
/-- Window 11's block, from argument 10. -/
theorem iblk11 : (iblk m c 11 t : FVec Ideal S256x1024 .bf16) = matp (m ((c : Thread nD τ).loc main_arg10)) := by
  funext y
  unfold matp
  blk_point [iblk, V, idx t]
/-- Window 12's block, from argument 11. -/
theorem iblk12 : (iblk m c 12 t : FVec Ideal S1024x1024 .bf16) = mat (m ((c : Thread nD τ).loc main_arg11)) := by
  funext y
  unfold mat
  blk_point [iblk, V, idx t]
/-- Window 13's block, from argument 12. -/
theorem iblk13 : (iblk m c 13 t : FVec Ideal S1x1024 .f32) = rowf (m ((c : Thread nD τ).loc main_arg12)) := by
  funext y
  unfold rowf
  blk_point [iblk, V, idx t]
end

end Cert.FfnIdeal.Value

end
-- ==== Proof.FfnFinal.lean ====
/- The merge, feed-forward and gate block: its result array is the reference's term over the argument arrays. -/
module

public import proofs.«01_k».proof.Proof.FfnValue

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)
open Cert.FfnRefIdeal.Own (rX1 rX2 rX3 rNorm rOut)

variable (m : (ℓ : Loc nD τ sig) → Buf (Elt Ideal) ℓ)

/-- The reference's result, its first two axes merged. -/
def REF (x oa ga cm : FVec Ideal S4x4096x1024 .f32) (p : FVec Ideal S1x4x4096x256 .f32) (wo : FVec Ideal S1x1024x1024 .f32)
    (g1 : FVec Ideal S1x1024 .f32) (wgu : FVec Ideal S1x1024x5632 .f32) (wd : FVec Ideal S1x2816x1024 .f32) (g2 : FVec Ideal S1x1024 .f32)
    (wp : FVec Ideal S1x256x1024 .f32) (wg : FVec Ideal S1x1024x1024 .f32) (g3 : FVec Ideal S1024 .f32) : FVec Ideal S16384x1024 .f32 :=
  shapeCast Cert.FfnRefIdeal.S16384x1024 (rOut x oa ga cm p wo g1 wgu wd g2 wp wg g3) Cert.FfnRefIdeal.Gen.shapeCasts_S4x4096x1024_S16384x1024

/-- What the two points of a block of rows leave in the result's block: the block of the reference's result. -/
theorem pay_eq (q : Fin 32) (x oa ga cm : FVec Ideal S4x4096x1024 .f32) (p : FVec Ideal S1x4x4096x256 .f32) (wo : FVec Ideal S1x1024x1024 .f32)
    (g1 : FVec Ideal S1x1024 .f32) (wgu : FVec Ideal S1x1024x5632 .f32) (wd : FVec Ideal S1x2816x1024 .f32) (g2 : FVec Ideal S1x1024 .f32)
    (wp : FVec Ideal S1x256x1024 .f32) (wg : FVec Ideal S1x1024x1024 .f32) (g3 : FVec Ideal S1024 .f32)
    {X : FVec Ideal S512x1024 .f32} {Y : FVec Ideal S512x1024 .f32} {H : FVec Ideal S512x1024 .bf16}
    (hX : X = k0_pay5 (F := Ideal) (blk q ga) (blk q oa) (blk q cm) (blk q x) (mat wo))
    (hH : H = k0_pay6 (F := Ideal) (blk q ga) (blk q oa) (blk q cm) (blk q x) (mat wo) (rowg g1))
    (hY : Y = k0_pay2 (F := Ideal) H (matg 1 wgu) (matu 1 wgu)
        (k0_pay2 (F := Ideal) H (matg 0 wgu) (matu 0 wgu) (k0_pay1 (F := Ideal) (k0_pay7 (F := Ideal))) (matd 0 wd)) (matd 1 wd)) :
    k0_pay3 (F := Ideal) (k0_pay8 (F := Ideal) X Y (rowg g2) (mat wg) (blkp q p) (matp wp)) (k0_pay9 (F := Ideal) (rowf g3))
      (k0_pay10 (F := Ideal) X Y (rowg g2) (mat wg) (blkp q p) (matp wp)) (k0_pay11 (F := Ideal))
    = blk q (rOut x oa ga cm p wo g1 wgu wd g2 wp wg g3) := by
  rw [x1s_eq] at hX
  rw [h_eq] at hH
  have h2 := x2_eq q (rX1 x oa ga cm wo) (rNorm (rX1 x oa ga cm wo) (shapeCast Cert.FfnRefIdeal.S1024 g1 Cert.FfnRefIdeal.Gen.shapeCasts_S1x1024_S1024)) wgu wd
  subst hX hH
  rw [← hY] at h2
  exact y_eq q _ Y _ _ _ _ _ (x3_eq q _ Y _ h2 p g2 wp wg) g3

variable (c : Dev nD)

section
variable (s : Fin cfg0.N) (h : s.val % 2 = 0)
include h
/-- After the first point of a block of rows, the first scratch holds the merged residual. -/
theorem scr0 : (outsAt0 m c s.val s.isLt).2.1 = k0_pay5 (F := Ideal) (blk (bq s) (m ((c : Thread nD τ).loc main_arg2))) (blk (bq s) (m ((c : Thread nD τ).loc main_arg1))) (blk (bq s) (m ((c : Thread nD τ).loc main_arg3))) (blk (bq s) (m ((c : Thread nD τ).loc main_arg0))) (mat (m ((c : Thread nD τ).loc main_arg5))) := by
  rw [outsAt0_A m c s h (by omega), ← iblk2 m c s, ← iblk1 m c s, ← iblk3 m c s, ← iblk0 m c s, ← iblk5 m c s]; frame_out
/-- … the second its norm. -/
theorem scr1 : (outsAt0 m c s.val s.isLt).2.2.1
    = k0_pay6 (F := Ideal) (blk (bq s) (m ((c : Thread nD τ).loc main_arg2))) (blk (bq s) (m ((c : Thread nD τ).loc main_arg1))) (blk (bq s) (m ((c : Thread nD τ).loc main_arg3))) (blk (bq s) (m ((c : Thread nD τ).loc main_arg0))) (mat (m ((c : Thread nD τ).loc main_arg5)))
      (rowg (m ((c : Thread nD τ).loc main_arg6))) := by
  rw [outsAt0_A m c s h (by omega), ← iblk2 m c s, ← iblk1 m c s, ← iblk3 m c s, ← iblk0 m c s, ← iblk5 m c s, ← iblk6 m c s]; frame_out
/-- … the third the first half of the feed-forward. -/
theorem scr2 : (outsAt0 m c s.val s.isLt).2.2.2
    = k0_pay2 (F := Ideal) (k0_pay6 (F := Ideal) (blk (bq s) (m ((c : Thread nD τ).loc main_arg2))) (blk (bq s) (m ((c : Thread nD τ).loc main_arg1))) (blk (bq s) (m ((c : Thread nD τ).loc main_arg3))) (blk (bq s) (m ((c : Thread nD τ).loc main_arg0))) (mat (m ((c : Thread nD τ).loc main_arg5)))
      (rowg (m ((c : Thread nD τ).loc main_arg6)))) (matg 0 (m ((c : Thread nD τ).loc main_arg7))) (matu 0 (m ((c : Thread nD τ).loc main_arg7)))
        (k0_pay1 (F := Ideal) (k0_pay7 (F := Ideal))) (matd 0 (m ((c : Thread nD τ).loc main_arg8))) := by
  rw [outsAt0_A m c s h (by omega), ← iblk2 m c s, ← iblk1 m c s, ← iblk3 m c s, ← iblk0 m c s, ← iblk5 m c s, ← iblk6 m c s, ← iblk7 m c s 0 h, ← iblk8 m c s 0 h, ← iblk9 m c s 0 h]; frame_out
end

set_option maxHeartbeats 1600000 in
/-- The result array after the run. -/
theorem final : (dats m 0 c).arrAt 14 (cfgs 0).N = REF (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) := by
  refine (dats m 0 c).arrAt_eq_of_covers 14 _ (by decide +kernel) fun t hf y => ?_
  have ht : t.val < 64 := lt_of_lt_of_eq t.isLt N_0
  have h1 : t.val % 2 = 1 := (flush0_14 t).mp hf
  have hs : t.val - 1 < cfg0.N := Nat.lt_of_le_of_lt (Nat.sub_le _ _) t.isLt
  have hq : bq ⟨t.val - 1, hs⟩ = bq t := Fin.ext (show (t.val - 1) / 2 = t.val / 2 by omega)
  blk_simp
  rw [after0_14, outsAt0_B m c t (by omega) h1]
  frame_out
  simp only [(Memref.isWhole_whole _).read_unread]
  have h0 := scr0 m c ⟨t.val - 1, hs⟩ (show (t.val - 1) % 2 = 0 by omega)
  have h2 := scr1 m c ⟨t.val - 1, hs⟩ (show (t.val - 1) % 2 = 0 by omega)
  have h3 := scr2 m c ⟨t.val - 1, hs⟩ (show (t.val - 1) % 2 = 0 by omega)
  rw [hq] at h0 h2 h3
  rw [iblk10 m c t, iblk12 m c t, iblk4 m c t, iblk11 m c t, iblk13 m c t, iblk7 m c t 1 h1, iblk8 m c t 1 h1, iblk9 m c t 1 h1]
  refine (congrFun (pay_eq (bq t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) h0 h2 (by rw [h3, h2])) y).trans ?_
  generalize hG : rOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) = G
  unfold REF
  rw [hG]
  pointwise [blk, bq]
  blk_ext [idx t]

end Cert.FfnIdeal.Value

end
-- ==== Proof.FfnClaims.lean ====
/- The claims about the feed-forward part: the frames of the kernel and of the reference, and that the two compute the
   same function over the extended reals. -/
module

public import proofs.«01_k».proof.Defs
public import proofs.«01_k».proof.Proof.Gen.Ffn.Frame
public import proofs.«01_k».proof.Proof.FfnFinal
public import Idealize.ShloMosaic.Lib.Claim

@[expose] public section

set_option maxRecDepth 16384

noncomputable section

namespace Cert.Own

open Idealize.ShloMosaic Idealize.ShloMosaic.TcCoe Idealize.SL.Sem

/-- The kernel ends with its arguments unchanged and its counters at zero. -/
theorem frame_ffn : Cert.quiescent_Ffn := fun m ρ _ => Cert.Ffn.Gen.frame m ρ

/-- So does the kernel over the extended reals. -/
theorem frame_ffnIdeal : Cert.quiescent_FfnIdeal := fun m ρ _ => Cert.FfnIdeal.Gen.frame m ρ

/-- So does the reference, which has no semaphore. -/
theorem frame_ffnRef : Cert.quiescent_FfnRefIdeal := fun m ρ _ =>
  (θ_run Cert.FfnRefIdeal.defs _ _).mono (fun r h => ⟨fun c => (h c).2, sem_eq_zero_of_no_sems (by decide) r.2⟩)
    (Cert.FfnRefIdeal.Own.run m ρ)

/-- Over the extended reals the kernel and the reference compute the same function of the arguments. -/
theorem algebraic_ffn : Cert.algebraic_FfnIdeal_FfnRefIdeal := by
  pair_intro
  · run_from Cert.FfnIdeal.Gen.run_main m g & Cert.FfnIdeal.Gen.frame m g
  · run_from Cert.FfnRefIdeal.Own.run m' g'
    exact (Cert.FfnIdeal.Value.final m c).symm

end Cert.Own

end
-- ==== Proof.InprojRead.lean ====
/- The input projections of the sample batch, the reference: its results read at an index, over the one product of the
   normed rows with the input weights. -/
module

public import proofs.«01_k».proof.Proof.Gen.InprojRefIdeal.Read
public import Idealize.ShloMosaic.Lib.Pointwise

@[expose] public section

set_option maxRecDepth 16384

noncomputable section

namespace Cert.InprojRefIdeal.Own

open Cert.InprojRefIdeal Cert.InprojRefIdeal.Gen Cert.InprojRefIdeal.Read Idealize.ShloMosaic Idealize.ShloMosaic.TcCoe Idealize.SL.Sem

/-- The sequence of row `r` of block `q`. -/
def bb (q : Fin 4) (r : Fin 256) : Fin 128 := ⟨q.val * 32 + r.val / 8, by omega⟩
/-- The position of row `r` of a block in its sequence. -/
def tt (r : Fin 256) : Fin 8 := ⟨r.val % 8, by omega⟩

/-- The product at two equal columns. -/
theorem zc (x0 : FVec Ideal S128x8x1024 .f32) (x2 : FVec Ideal S1x1024 .f32) (x3 : FVec Ideal S1x1024x7240 .f32) (b : Fin 128) (t : Fin 8) {i j : Fin 7240} (h : i.val = j.val) :
    (val_main_v18 (F := Ideal) x0 x2 x3 (ix3 b t i) : EReal) = val_main_v18 (F := Ideal) x0 x2 x3 (ix3 b t j) := by rw [Fin.ext h]
/-- The product at two equal rows. -/
theorem zr (x0 : FVec Ideal S128x8x1024 .f32) (x2 : FVec Ideal S1x1024 .f32) (x3 : FVec Ideal S1x1024x7240 .f32) {b b' : Fin 128} {t t' : Fin 8} (j : Fin 7240) (hb : b.val = b'.val) (ht : t.val = t'.val) :
    (val_main_v18 (F := Ideal) x0 x2 x3 (ix3 b t j) : EReal) = val_main_v18 (F := Ideal) x0 x2 x3 (ix3 b' t' j) := by rw [Fin.ext hb, Fin.ext ht]
/-- The rows before at two equal positions. -/
theorem sc (x1 : FVec Ideal S1x128x2x1024 .f32) (b : Fin 128) {i j : Fin 2} (c : Fin 1024) (h : i.val = j.val) : (x1 (ix4 0 b i c) : EReal) = x1 (ix4 0 b j c) := by rw [Fin.ext h]
/-- A table's row at two equal columns. -/
theorem tc {n : Nat} (v : FVec Ideal ⟨2, ![8, n]⟩ .f32) (t : Fin 8) {i j : Fin n} (h : i.val = j.val) : (v (ix2 t i) : EReal) = v (ix2 t j) := by rw [Fin.ext h]

variable (x0 : FVec Ideal S128x8x1024 .f32) (x1 : FVec Ideal S1x128x2x1024 .f32) (x2 : FVec Ideal S1x1024 .f32) (x3 : FVec Ideal S1x1024x7240 .f32) (x4 : FVec Ideal S1x3x1024 .f32)

/-- Column `j` of the product, at row `r` of block `q`. -/
def Z (q : Fin 4) (r : Fin 256) (j : Fin 7240) : EReal := val_main_v18 (F := Ideal) x0 x2 x3 (ix3 (bb q r) (tt r) j)
/-- The cosines of a head of 128 … -/
def cos64 (r : Fin 256) (l : Fin 64) : EReal := val_main_v43 (F := Ideal) (ix2 (tt r) l)
/-- … and the sines. -/
def sin64 (r : Fin 256) (l : Fin 64) : EReal := val_main_v45 (F := Ideal) (ix2 (tt r) l)
/-- The cosines of a head of 64 … -/
def cos32 (r : Fin 256) (l : Fin 32) : EReal := val_main_v111 (F := Ideal) (ix2 (tt r) l)
/-- … and the sines. -/
def sin32 (r : Fin 256) (l : Fin 32) : EReal := val_main_v113 (F := Ideal) (ix2 (tt r) l)

/-- The new rows of the convolution. -/
theorem ref_u (q : Fin 4) (r : Fin 256) (c : Fin 1024) :
    val_main_v222 (F := Ideal) x0 x2 x3 (ix3 q r c) = (Z x0 x2 x3 q r ⟨3144 + c.val, by omega⟩ * Z x0 x2 x3 q r ⟨4168 + c.val, by omega⟩ : EReal) := by
  unfold Z bb tt
  pointwise [val_main_v222, val_main_v167, val_main_v26, val_main_v27]

/-- The values. -/
theorem ref_v (q : Fin 4) (r : Fin 256) (c : Fin 256) :
    val_main_v196 (F := Ideal) x0 x2 x3 (ix3 q r c) = (Z x0 x2 x3 q r ⟨1280 + c.val, by omega⟩ : EReal) := by
  unfold Z bb tt
  pointwise [val_main_v196, val_main_v21]

/-- The scores' weights. -/
theorem ref_wi (q : Fin 4) (h : Fin 8) (r : Fin 256) :
    val_main_v205 (F := Ideal) x0 x2 x3 (ix3 q h r) = (Z x0 x2 x3 q r ⟨2112 + h.val, by omega⟩ * Ideal.ofBits .f32 0x3D3504F3#32 : EReal) := by
  unfold Z bb tt
  pointwise [val_main_v205, val_main_v204, val_main_cst_11, val_main_v203, val_main_v202, val_main_v24]

/-- The logistic function. -/
def sg (z : EReal) : EReal := Ideal.div (Ideal.ofBits .f32 0x3F800000#32) (Ideal.ofBits .f32 0x3F800000#32 + Ideal.exp (-z))

/-- The attention's gates. -/
theorem ref_ga (q : Fin 4) (r : Fin 256) (c : Fin 1024) :
    val_main_v212 (F := Ideal) x0 x2 x3 (ix3 q r c) = sg (Z x0 x2 x3 q r ⟨5192 + c.val, by omega⟩) := by
  unfold Z bb tt sg
  pointwise [val_main_v212, val_main_v211, val_main_v210, val_main_cst_13, val_main_v209, val_main_v208, val_main_cst_12, val_main_v207, val_main_v206, val_main_v28]

/-- The convolution's rows and the rows before them. -/
def U (q : Fin 4) (r : Fin 256) (c : Fin 1024) : EReal := Z x0 x2 x3 q r ⟨3144 + c.val, by omega⟩ * Z x0 x2 x3 q r ⟨4168 + c.val, by omega⟩

set_option maxHeartbeats 1600000 in
/-- The gated convolution. -/
theorem ref_cm (q : Fin 4) (r : Fin 256) (c : Fin 1024) :
    val_main_v221 (F := Ideal) x0 x1 x2 x3 x4 (ix3 q r c) = (sg (Z x0 x2 x3 q r ⟨6216 + c.val, by omega⟩) * (Z x0 x2 x3 q r ⟨2120 + c.val, by omega⟩ *
      (x4 (ix3 0 0 c) * (if h : r.val % 8 < 2 then x1 (ix4 0 (bb q r) ⟨r.val % 8, h⟩ c) else U x0 x2 x3 q ⟨r.val - 2, by omega⟩ c)
       + x4 (ix3 0 1 c) * (if h : r.val % 8 < 1 then x1 (ix4 0 (bb q r) 1 c) else U x0 x2 x3 q ⟨r.val - 1, by omega⟩ c)
       + x4 (ix3 0 2 c) * U x0 x2 x3 q r c)) : EReal) := by
  unfold U Z bb tt sg
  pointwise [val_main_v221, val_main_v220, val_main_v219, val_main_v218, val_main_v217, val_main_cst_15, val_main_v216, val_main_v215, val_main_cst_14, val_main_v214, val_main_v213, val_main_v29, val_main_v25,
    val_main_v190, val_main_v189, val_main_v188, val_main_v187, val_main_v186, val_main_v185, val_main_v184, val_main_v183, val_main_v182, val_main_v181, val_main_v180, val_main_v179, val_main_v178, val_main_v177,
    val_main_v176, val_main_v175, val_main_v174, val_main_v173, val_main_v172, val_main_v171, val_main_v170, val_main_v169, val_main_v168, val_main_v167, val_main_v26, val_main_v27]
  refine congrArg (_ * ·) (congrArg (_ * ·) (congrArg₂ (· + ·) (congrArg₂ (· + ·) (congrArg (_ * ·) ?_) (congrArg (_ * ·) ?_)) rfl))
  · by_cases h : r.val % 8 < 2
    · rw [dif_pos h, dif_pos h]
    · rw [dif_neg h, dif_neg h]
      refine congrArg₂ (· * ·) (zr x0 x2 x3 _ ?_ ?_) (zr x0 x2 x3 _ ?_ ?_) <;> dsimp only <;> omega
  · by_cases h : r.val % 8 < 1
    · rw [dif_pos h, dif_pos (by omega)]
      refine sc x1 _ c ?_
      show 1 + r.val % 8 = 1
      omega
    · rw [dif_neg h, dif_neg (by omega)]
      refine congrArg₂ (· * ·) (zr x0 x2 x3 _ ?_ ?_) (zr x0 x2 x3 _ ?_ ?_) <;> dsimp only <;> omega

/-- The queries, the first half of a head. -/
theorem ref_q_lo (q : Fin 4) (r : Fin 256) (h : Fin 8) (l : Fin 64) :
    val_main_v194 (F := Ideal) x0 x2 x3 (ix3 q r ⟨128 * h.val + (l.val), by omega⟩)
     = ((Z x0 x2 x3 q r ⟨0 + (128 * h.val + l.val), by omega⟩ * cos64 r l - Z x0 x2 x3 q r ⟨0 + (128 * h.val + 64 + l.val), by omega⟩ * sin64 r l) * Ideal.ofBits .f32 0x3DB504F3#32 : EReal) := by
  unfold Z bb tt cos64 sin64
  pointwise [val_main_v194, val_main_v193, val_main_v192, val_main_v191, val_main_cst_10, val_main_v63]
  rw [dif_pos (by omega)]
  pointwise [val_main_v55, val_main_v51, val_main_v54, val_main_v50, val_main_v53, val_main_v49, val_main_v52, val_main_v44, val_main_v46, val_main_v47, val_main_v48, val_main_v30, val_main_v19]
  refine congrArg (· * _) ?_
  refine congrArg₂ (· - ·) (congrArg₂ (· * ·) (zc x0 x2 x3 _ _ ?_) (tc _ _ ?_)) (congrArg₂ (· * ·) (zc x0 x2 x3 _ _ ?_) (tc _ _ ?_)) <;> dsimp only <;> omega

/-- The queries, the second half of a head. -/
theorem ref_q_hi (q : Fin 4) (r : Fin 256) (h : Fin 8) (l : Fin 64) :
    val_main_v194 (F := Ideal) x0 x2 x3 (ix3 q r ⟨128 * h.val + (64 + l.val), by omega⟩)
     = ((Z x0 x2 x3 q r ⟨0 + (128 * h.val + 64 + l.val), by omega⟩ * cos64 r l + Z x0 x2 x3 q r ⟨0 + (128 * h.val + l.val), by omega⟩ * sin64 r l) * Ideal.ofBits .f32 0x3DB504F3#32 : EReal) := by
  unfold Z bb tt cos64 sin64
  pointwise [val_main_v194, val_main_v193, val_main_v192, val_main_v191, val_main_cst_10, val_main_v63]
  rw [dif_neg (by omega)]
  pointwise [val_main_v62, val_main_v58, val_main_v61, val_main_v57, val_main_v60, val_main_v56, val_main_v59, val_main_v44, val_main_v46, val_main_v47, val_main_v48, val_main_v30, val_main_v19]
  refine congrArg (· * _) ?_
  refine congrArg₂ (· + ·) (congrArg₂ (· * ·) (zc x0 x2 x3 _ _ ?_) (tc _ _ ?_)) (congrArg₂ (· * ·) (zc x0 x2 x3 _ _ ?_) (tc _ _ ?_)) <;> dsimp only <;> omega

/-- The keys, the first half of a head. -/
theorem ref_k_lo (q : Fin 4) (r : Fin 256) (h : Fin 2) (l : Fin 64) :
    val_main_v195 (F := Ideal) x0 x2 x3 (ix3 q r ⟨128 * h.val + (l.val), by omega⟩)
     = (Z x0 x2 x3 q r ⟨1024 + (128 * h.val + l.val), by omega⟩ * cos64 r l - Z x0 x2 x3 q r ⟨1024 + (128 * h.val + 64 + l.val), by omega⟩ * sin64 r l : EReal) := by
  unfold Z bb tt cos64 sin64
  pointwise [val_main_v195, val_main_v97]
  rw [dif_pos (by omega)]
  pointwise [val_main_v89, val_main_v85, val_main_v88, val_main_v84, val_main_v87, val_main_v83, val_main_v86, val_main_v78, val_main_v80, val_main_v81, val_main_v82, val_main_v64, val_main_v20]
  refine congrArg₂ (· - ·) (congrArg₂ (· * ·) (zc x0 x2 x3 _ _ ?_) (tc _ _ ?_)) (congrArg₂ (· * ·) (zc x0 x2 x3 _ _ ?_) (tc _ _ ?_)) <;> dsimp only <;> omega

/-- The keys, the second half of a head. -/
theorem ref_k_hi (q : Fin 4) (r : Fin 256) (h : Fin 2) (l : Fin 64) :
    val_main_v195 (F := Ideal) x0 x2 x3 (ix3 q r ⟨128 * h.val + (64 + l.val), by omega⟩)
     = (Z x0 x2 x3 q r ⟨1024 + (128 * h.val + 64 + l.val), by omega⟩ * cos64 r l + Z x0 x2 x3 q r ⟨1024 + (128 * h.val + l.val), by omega⟩ * sin64 r l : EReal) := by
  unfold Z bb tt cos64 sin64
  pointwise [val_main_v195, val_main_v97]
  rw [dif_neg (by omega)]
  pointwise [val_main_v96, val_main_v92, val_main_v95, val_main_v91, val_main_v94, val_main_v90, val_main_v93, val_main_v78, val_main_v80, val_main_v81, val_main_v82, val_main_v64, val_main_v20]
  refine congrArg₂ (· + ·) (congrArg₂ (· * ·) (zc x0 x2 x3 _ _ ?_) (tc _ _ ?_)) (congrArg₂ (· * ·) (zc x0 x2 x3 _ _ ?_) (tc _ _ ?_)) <;> dsimp only <;> omega

/-- The scores' queries, the first half of a head. -/
theorem ref_qi_lo (q : Fin 4) (r : Fin 256) (h : Fin 8) (l : Fin 32) :
    val_main_v198 (F := Ideal) x0 x2 x3 (ix3 q r ⟨64 * h.val + (l.val), by omega⟩)
     = (Z x0 x2 x3 q r ⟨1536 + (64 * h.val + l.val), by omega⟩ * cos32 r l - Z x0 x2 x3 q r ⟨1536 + (64 * h.val + 32 + l.val), by omega⟩ * sin32 r l : EReal) := by
  unfold Z bb tt cos32 sin32
  pointwise [val_main_v198, val_main_v197, val_main_v131]
  rw [dif_pos (by omega)]
  pointwise [val_main_v123, val_main_v119, val_main_v122, val_main_v118, val_main_v121, val_main_v117, val_main_v120, val_main_v112, val_main_v114, val_main_v115, val_main_v116, val_main_v98, val_main_v22]
  refine congrArg₂ (· - ·) (congrArg₂ (· * ·) (zc x0 x2 x3 _ _ ?_) (tc _ _ ?_)) (congrArg₂ (· * ·) (zc x0 x2 x3 _ _ ?_) (tc _ _ ?_)) <;> dsimp only <;> omega

/-- The scores' queries, the second half of a head. -/
theorem ref_qi_hi (q : Fin 4) (r : Fin 256) (h : Fin 8) (l : Fin 32) :
    val_main_v198 (F := Ideal) x0 x2 x3 (ix3 q r ⟨64 * h.val + (32 + l.val), by omega⟩)
     = (Z x0 x2 x3 q r ⟨1536 + (64 * h.val + 32 + l.val), by omega⟩ * cos32 r l + Z x0 x2 x3 q r ⟨1536 + (64 * h.val + l.val), by omega⟩ * sin32 r l : EReal) := by
  unfold Z bb tt cos32 sin32
  pointwise [val_main_v198, val_main_v197, val_main_v131]
  rw [dif_neg (by omega)]
  pointwise [val_main_v130, val_main_v126, val_main_v129, val_main_v125, val_main_v128, val_main_v124, val_main_v127, val_main_v112, val_main_v114, val_main_v115, val_main_v116, val_main_v98, val_main_v22]
  refine congrArg₂ (· + ·) (congrArg₂ (· * ·) (zc x0 x2 x3 _ _ ?_) (tc _ _ ?_)) (congrArg₂ (· * ·) (zc x0 x2 x3 _ _ ?_) (tc _ _ ?_)) <;> dsimp only <;> omega

/-- The scores' keys, the first half of a head. -/
theorem ref_ki_lo (q : Fin 4) (r : Fin 256) (l : Fin 32) :
    val_main_v199 (F := Ideal) x0 x2 x3 (ix3 q r ⟨l.val, by omega⟩)
     = (Z x0 x2 x3 q r ⟨2048 + l.val, by omega⟩ * cos32 r l - Z x0 x2 x3 q r ⟨2048 + (32 + l.val), by omega⟩ * sin32 r l : EReal) := by
  unfold Z bb tt cos32 sin32
  pointwise [val_main_v199, val_main_v166, val_main_v165]
  pointwise [val_main_v157, val_main_v153, val_main_v156, val_main_v152, val_main_v155, val_main_v151, val_main_v154, val_main_v146, val_main_v148, val_main_v149, val_main_v150, val_main_v132, val_main_v23]
  refine congrArg₂ (· - ·) (congrArg₂ (· * ·) (zc x0 x2 x3 _ _ ?_) (tc _ _ ?_)) (congrArg₂ (· * ·) (zc x0 x2 x3 _ _ ?_) (tc _ _ ?_)) <;> dsimp only <;> omega

/-- The scores' keys, the second half of a head. -/
theorem ref_ki_hi (q : Fin 4) (r : Fin 256) (l : Fin 32) :
    val_main_v199 (F := Ideal) x0 x2 x3 (ix3 q r ⟨(32 + l.val), by omega⟩)
     = (Z x0 x2 x3 q r ⟨2048 + (32 + l.val), by omega⟩ * cos32 r l + Z x0 x2 x3 q r ⟨2048 + l.val, by omega⟩ * sin32 r l : EReal) := by
  unfold Z bb tt cos32 sin32
  pointwise [val_main_v199, val_main_v166, val_main_v165]
  pointwise [val_main_v164, val_main_v160, val_main_v163, val_main_v159, val_main_v162, val_main_v158, val_main_v161, val_main_v146, val_main_v148, val_main_v149, val_main_v150, val_main_v132, val_main_v23]
  refine congrArg₂ (· + ·) (congrArg₂ (· * ·) (zc x0 x2 x3 _ _ ?_) (tc _ _ ?_)) (congrArg₂ (· * ·) (zc x0 x2 x3 _ _ ?_) (tc _ _ ?_)) <;> dsimp only <;> omega

/-- The scores' keys as the scores read them: the same numbers. -/
theorem ref_kib : val_main_v201 (F := Ideal) x0 x2 x3 = val_main_v199 (F := Ideal) x0 x2 x3 := rfl

end Cert.InprojRefIdeal.Own

end
-- ==== Proof.InprojPay.lean ====
/- The input projections of the sample batch, a block of 256 rows: what each store of the kernel writes, at an index. -/
module

public import proofs.«01_k».proof.Proof.Gen.InprojIdeal.Skeleton
public import proofs.«01_k».proof.Proof.InprojRead
public import Idealize.ShloMosaic.Lib.Pointwise

@[expose] public section

set_option maxRecDepth 16384

noncomputable section

namespace Cert.InprojIdeal.Value

open Cert.InprojIdeal Cert.InprojIdeal.Gen Idealize.ShloMosaic Idealize.ShloMosaic.TcCoe Idealize.SL.Sem
open Cert.InprojRefIdeal.Own (Z bb tt sg U cos64 sin64 cos32 sin32 zr)

/-- Block `q` of the rows: 32 sequences, one after the other. -/
def rows (q : Fin 4) (A : FVec Ideal S128x8x1024 .f32) : FVec Ideal S1x256x1024 .f32 := fun y => A (ix3 (bb q (y 1)) (tt (y 1)) (y 2))
/-- The input weights' first 2120 columns, and zeros to 2176. -/
def wa (w : FVec Ideal S1x1024x7240 .f32) : FVec Ideal S1024x2176 .bf16 := fun y =>
  if h : (y 1).val < 2120 then w (ix3 0 (y 0) (⟨(y 1).val, by omega⟩ : Fin 7240)) else Ideal.ofBits .f32 0x00000000#32
/-- The input weights' last 5120 columns. -/
def wb (w : FVec Ideal S1x1024x7240 .f32) : FVec Ideal S1024x5120 .bf16 := fun y =>
  w (ix3 0 (y 0) (⟨2120 + (y 1).val, by have h : (y 1).val < 5120 := (y 1).isLt; omega⟩ : Fin 7240))
/-- The convolution's weights. -/
def wc (w : FVec Ideal S1x3x1024 .f32) : FVec Ideal S3x1024 .f32 := fun y => w (ix3 0 (y 0) (y 1))
/-- The two rows before each sequence, at its first two rows. -/
def before (q : Fin 4) (s : FVec Ideal S1x128x2x1024 .f32) : FVec Ideal S1x256x1024 .f32 := fun y =>
  if h : (y 1).val % 8 < 2 then s (ix4 0 (bb q (y 1)) (⟨(y 1).val % 8, h⟩ : Fin 2) (y 2)) else Ideal.ofBits .f32 0x00000000#32

variable (x0 : FVec Ideal S128x8x1024 .f32) (x1 : FVec Ideal S1x128x2x1024 .f32) (x2 : FVec Ideal S1x1024 .f32) (x3 : FVec Ideal S1x1024x7240 .f32) (x4 : FVec Ideal S1x3x1024 .f32)

/-- The first product. -/
theorem za_eq (q : Fin 4) (r : Fin 256) (j : Fin 2176) (k : Fin 7240) (hj : j.val = k.val) (hk : k.val < 2120) :
    (k0_pay4 (F := Ideal) (rows q x0) x2 (wa x3) (ix2 r j) : EReal) = Z x0 x2 x3 q r k := by
  unfold Z
  pointwise [k0_pay4, k0_pay3, rows, wa, Cert.InprojRefIdeal.Read.val_main_v18, Cert.InprojRefIdeal.Read.val_main_v17, Cert.InprojRefIdeal.Read.val_main_v16, Cert.InprojRefIdeal.Read.val_main_v15, Cert.InprojRefIdeal.Read.val_main_v14, Cert.InprojRefIdeal.Read.val_main_v13, Cert.InprojRefIdeal.Read.val_main_v12, Cert.InprojRefIdeal.Read.val_main_v11, Cert.InprojRefIdeal.Read.val_main_v10, Cert.InprojRefIdeal.Read.val_main_v9, Cert.InprojRefIdeal.Read.val_main_cst_1, Cert.InprojRefIdeal.Read.val_main_v8, Cert.InprojRefIdeal.Read.val_main_v7, Cert.InprojRefIdeal.Read.val_main_cst_0, Cert.InprojRefIdeal.Read.val_main_v6, Cert.InprojRefIdeal.Read.val_main_v5, Cert.InprojRefIdeal.Read.val_main_cst, Cert.InprojRefIdeal.Read.val_main_v4, Cert.InprojRefIdeal.Read.val_main_v3]
  have e : (⟨j.val, by omega⟩ : Fin 7240) = k := Fin.ext hj
  simp only [dif_pos (hj.symm ▸ hk : j.val < 2120), e]

/-- The second product. -/
theorem zb_eq (q : Fin 4) (r : Fin 256) (j : Fin 5120) (k : Fin 7240) (hj : 2120 + j.val = k.val) :
    (k0_pay40 (F := Ideal) (k0_pay3 (F := Ideal) (rows q x0) x2) (wb x3) (ix2 r j) : EReal) = Z x0 x2 x3 q r k := by
  unfold Z
  pointwise [k0_pay40, k0_pay3, rows, wb, Cert.InprojRefIdeal.Read.val_main_v18, Cert.InprojRefIdeal.Read.val_main_v17, Cert.InprojRefIdeal.Read.val_main_v16, Cert.InprojRefIdeal.Read.val_main_v15, Cert.InprojRefIdeal.Read.val_main_v14, Cert.InprojRefIdeal.Read.val_main_v13, Cert.InprojRefIdeal.Read.val_main_v12, Cert.InprojRefIdeal.Read.val_main_v11, Cert.InprojRefIdeal.Read.val_main_v10, Cert.InprojRefIdeal.Read.val_main_v9, Cert.InprojRefIdeal.Read.val_main_cst_1, Cert.InprojRefIdeal.Read.val_main_v8, Cert.InprojRefIdeal.Read.val_main_v7, Cert.InprojRefIdeal.Read.val_main_cst_0, Cert.InprojRefIdeal.Read.val_main_v6, Cert.InprojRefIdeal.Read.val_main_v5, Cert.InprojRefIdeal.Read.val_main_cst, Cert.InprojRefIdeal.Read.val_main_v4, Cert.InprojRefIdeal.Read.val_main_v3]
  have e : (⟨2120 + j.val, by omega⟩ : Fin 7240) = k := Fin.ext hj
  simp only [e]

/-- A product with a negated factor, added. -/
theorem add_neg_mul (a b c s : EReal) : a * c + b * (-s) = a * c - b * s := by rw [mul_neg, sub_eq_add_neg]

/-- The number the queries are scaled by. -/
abbrev kq : EReal := Ideal.ofBits .f32 0x3DB504F3#32

/-- The queries: one lane of a rotated head. -/
theorem q_of (q : Fin 4) (r : Fin 256) (h : Fin 8) (l : Fin 128) {a b c s v : EReal} (hv : v = (a * c + b * s) * kq)
    (ha : a = Z x0 x2 x3 q r ⟨0 + (128 * h.val + l.val), by omega⟩) (hb : b = Z x0 x2 x3 q r ⟨0 + (128 * h.val + (l.val + 64) % 128), by omega⟩)
    (hc : c = cos64 r ⟨l.val % 64, by omega⟩) (hs : s = if l.val < 64 then -sin64 r ⟨l.val % 64, by omega⟩ else sin64 r ⟨l.val % 64, by omega⟩)
    (i : Fin 1024) (hi : i.val = 128 * h.val + l.val) : v = Cert.InprojRefIdeal.Read.val_main_v194 (F := Ideal) x0 x2 x3 (ix3 q r i) := by
  subst hv ha hb hc hs
  by_cases hl : l.val < 64
  · have e : i = ⟨128 * h.val + (⟨l.val, hl⟩ : Fin 64).val, by dsimp only; omega⟩ := Fin.ext hi
    rw [e, Cert.InprojRefIdeal.Own.ref_q_lo x0 x2 x3 q r h ⟨l.val, hl⟩, if_pos hl, add_neg_mul]
    have e1 : (⟨l.val % 64, by omega⟩ : Fin 64) = ⟨l.val, hl⟩ := Fin.ext (Nat.mod_eq_of_lt hl)
    have e2 : (⟨0 + (128 * h.val + (l.val + 64) % 128), by omega⟩ : Fin 7240) = ⟨0 + (128 * h.val + 64 + l.val), by omega⟩ := Fin.ext (by dsimp only; omega)
    rw [e1, e2]
  · have e : i = ⟨128 * h.val + (64 + (⟨l.val - 64, by omega⟩ : Fin 64).val), by dsimp only; omega⟩ := Fin.ext (by dsimp only; omega)
    rw [e, Cert.InprojRefIdeal.Own.ref_q_hi x0 x2 x3 q r h ⟨l.val - 64, by omega⟩, if_neg hl]
    have e1 : (⟨l.val % 64, by omega⟩ : Fin 64) = ⟨l.val - 64, by omega⟩ := Fin.ext (by dsimp only; omega)
    have e2 : (⟨0 + (128 * h.val + (l.val + 64) % 128), by omega⟩ : Fin 7240) = ⟨0 + (128 * h.val + (l.val - 64)), by omega⟩ := Fin.ext (by dsimp only; omega)
    have e3 : (⟨0 + (128 * h.val + l.val), by omega⟩ : Fin 7240) = ⟨0 + (128 * h.val + 64 + (l.val - 64)), by omega⟩ := Fin.ext (by dsimp only; omega)
    rw [e1, e2, e3]

/-- The keys: one lane of a rotated head. -/
theorem k_of (q : Fin 4) (r : Fin 256) (h : Fin 2) (l : Fin 128) {a b c s v : EReal} (hv : v = a * c + b * s)
    (ha : a = Z x0 x2 x3 q r ⟨1024 + (128 * h.val + l.val), by omega⟩) (hb : b = Z x0 x2 x3 q r ⟨1024 + (128 * h.val + (l.val + 64) % 128), by omega⟩)
    (hc : c = cos64 r ⟨l.val % 64, by omega⟩) (hs : s = if l.val < 64 then -sin64 r ⟨l.val % 64, by omega⟩ else sin64 r ⟨l.val % 64, by omega⟩)
    (i : Fin 256) (hi : i.val = 128 * h.val + l.val) : v = Cert.InprojRefIdeal.Read.val_main_v195 (F := Ideal) x0 x2 x3 (ix3 q r i) := by
  subst hv ha hb hc hs
  by_cases hl : l.val < 64
  · have e : i = ⟨128 * h.val + (⟨l.val, hl⟩ : Fin 64).val, by dsimp only; omega⟩ := Fin.ext hi
    rw [e, Cert.InprojRefIdeal.Own.ref_k_lo x0 x2 x3 q r h ⟨l.val, hl⟩, if_pos hl, add_neg_mul]
    have e1 : (⟨l.val % 64, by omega⟩ : Fin 64) = ⟨l.val, hl⟩ := Fin.ext (Nat.mod_eq_of_lt hl)
    have e2 : (⟨1024 + (128 * h.val + (l.val + 64) % 128), by omega⟩ : Fin 7240) = ⟨1024 + (128 * h.val + 64 + l.val), by omega⟩ := Fin.ext (by dsimp only; omega)
    rw [e1, e2]
  · have e : i = ⟨128 * h.val + (64 + (⟨l.val - 64, by omega⟩ : Fin 64).val), by dsimp only; omega⟩ := Fin.ext (by dsimp only; omega)
    rw [e, Cert.InprojRefIdeal.Own.ref_k_hi x0 x2 x3 q r h ⟨l.val - 64, by omega⟩, if_neg hl]
    have e1 : (⟨l.val % 64, by omega⟩ : Fin 64) = ⟨l.val - 64, by omega⟩ := Fin.ext (by dsimp only; omega)
    have e2 : (⟨1024 + (128 * h.val + (l.val + 64) % 128), by omega⟩ : Fin 7240) = ⟨1024 + (128 * h.val + (l.val - 64)), by omega⟩ := Fin.ext (by dsimp only; omega)
    have e3 : (⟨1024 + (128 * h.val + l.val), by omega⟩ : Fin 7240) = ⟨1024 + (128 * h.val + 64 + (l.val - 64)), by omega⟩ := Fin.ext (by dsimp only; omega)
    rw [e1, e2, e3]

/-- The scores' queries: one lane of a rotated head. -/
theorem qi_of (q : Fin 4) (r : Fin 256) (h : Fin 8) (l : Fin 64) {a b c s v : EReal} (hv : v = a * c + b * s)
    (ha : a = Z x0 x2 x3 q r ⟨1536 + (64 * h.val + l.val), by omega⟩) (hb : b = Z x0 x2 x3 q r ⟨1536 + (64 * h.val + (l.val + 32) % 64), by omega⟩)
    (hc : c = cos32 r ⟨l.val % 32, by omega⟩) (hs : s = if l.val < 32 then -sin32 r ⟨l.val % 32, by omega⟩ else sin32 r ⟨l.val % 32, by omega⟩)
    (i : Fin 512) (hi : i.val = 64 * h.val + l.val) : v = Cert.InprojRefIdeal.Read.val_main_v198 (F := Ideal) x0 x2 x3 (ix3 q r i) := by
  subst hv ha hb hc hs
  by_cases hl : l.val < 32
  · have e : i = ⟨64 * h.val + (⟨l.val, hl⟩ : Fin 32).val, by dsimp only; omega⟩ := Fin.ext hi
    rw [e, Cert.InprojRefIdeal.Own.ref_qi_lo x0 x2 x3 q r h ⟨l.val, hl⟩, if_pos hl, add_neg_mul]
    have e1 : (⟨l.val % 32, by omega⟩ : Fin 32) = ⟨l.val, hl⟩ := Fin.ext (Nat.mod_eq_of_lt hl)
    have e2 : (⟨1536 + (64 * h.val + (l.val + 32) % 64), by omega⟩ : Fin 7240) = ⟨1536 + (64 * h.val + 32 + l.val), by omega⟩ := Fin.ext (by dsimp only; omega)
    rw [e1, e2]
  · have e : i = ⟨64 * h.val + (32 + (⟨l.val - 32, by omega⟩ : Fin 32).val), by dsimp only; omega⟩ := Fin.ext (by dsimp only; omega)
    rw [e, Cert.InprojRefIdeal.Own.ref_qi_hi x0 x2 x3 q r h ⟨l.val - 32, by omega⟩, if_neg hl]
    have e1 : (⟨l.val % 32, by omega⟩ : Fin 32) = ⟨l.val - 32, by omega⟩ := Fin.ext (by dsimp only; omega)
    have e2 : (⟨1536 + (64 * h.val + (l.val + 32) % 64), by omega⟩ : Fin 7240) = ⟨1536 + (64 * h.val + (l.val - 32)), by omega⟩ := Fin.ext (by dsimp only; omega)
    have e3 : (⟨1536 + (64 * h.val + l.val), by omega⟩ : Fin 7240) = ⟨1536 + (64 * h.val + 32 + (l.val - 32)), by omega⟩ := Fin.ext (by dsimp only; omega)
    rw [e1, e2, e3]

/-- The scores' keys: one lane of a rotated head. -/
theorem ki_of (q : Fin 4) (r : Fin 256) (l : Fin 64) {a b c s v : EReal} (hv : v = a * c + b * s)
    (ha : a = Z x0 x2 x3 q r ⟨2048 + l.val, by omega⟩) (hb : b = Z x0 x2 x3 q r ⟨2048 + (l.val + 32) % 64, by omega⟩)
    (hc : c = cos32 r ⟨l.val % 32, by omega⟩) (hs : s = if l.val < 32 then -sin32 r ⟨l.val % 32, by omega⟩ else sin32 r ⟨l.val % 32, by omega⟩)
    (i : Fin 64) (hi : i.val = l.val) : v = Cert.InprojRefIdeal.Read.val_main_v199 (F := Ideal) x0 x2 x3 (ix3 q r i) := by
  subst hv ha hb hc hs
  by_cases hl : l.val < 32
  · have e : i = ⟨(⟨l.val, hl⟩ : Fin 32).val, by dsimp only; omega⟩ := Fin.ext hi
    rw [e, Cert.InprojRefIdeal.Own.ref_ki_lo x0 x2 x3 q r ⟨l.val, hl⟩, if_pos hl, add_neg_mul]
    have e1 : (⟨l.val % 32, by omega⟩ : Fin 32) = ⟨l.val, hl⟩ := Fin.ext (Nat.mod_eq_of_lt hl)
    have e2 : (⟨2048 + (l.val + 32) % 64, by omega⟩ : Fin 7240) = ⟨2048 + (32 + l.val), by omega⟩ := Fin.ext (by dsimp only; omega)
    rw [e1, e2]
  · have e : i = ⟨(32 + (⟨l.val - 32, by omega⟩ : Fin 32).val), by dsimp only; omega⟩ := Fin.ext (by dsimp only; omega)
    rw [e, Cert.InprojRefIdeal.Own.ref_ki_hi x0 x2 x3 q r ⟨l.val - 32, by omega⟩, if_neg hl]
    have e1 : (⟨l.val % 32, by omega⟩ : Fin 32) = ⟨l.val - 32, by omega⟩ := Fin.ext (by dsimp only; omega)
    have e2 : (⟨2048 + (l.val + 32) % 64, by omega⟩ : Fin 7240) = ⟨2048 + ((l.val - 32)), by omega⟩ := Fin.ext (by dsimp only; omega)
    have e3 : (⟨2048 + l.val, by omega⟩ : Fin 7240) = ⟨2048 + (32 + (l.val - 32)), by omega⟩ := Fin.ext (by dsimp only; omega)
    rw [e1, e2, e3]

section
variable (z : FVec Ideal S256x2176 .f32) (C S : FVec Ideal S256x128 .f32) (m : IVec S256x128 1)

theorem pay14_at (r : Fin 256) (l : Fin 128) : (k0_pay14 (F := Ideal) z C S (ix3 0 r l) : EReal)
    = (z (ix2 r ⟨l.val, by omega⟩) * C (ix2 r l) + z (ix2 r ⟨(l.val + 128 - 64) % 128, by omega⟩) * S (ix2 r l)) * kq := by
  pointwise [k0_pay14]

theorem pay15_at (r : Fin 256) (l : Fin 128) : (k0_pay15 (F := Ideal) z C S (ix3 0 r l) : EReal)
    = (z (ix2 r ⟨128 + l.val, by omega⟩) * C (ix2 r l) + z (ix2 r ⟨128 + (l.val + 128 - 64) % 128, by omega⟩) * S (ix2 r l)) * kq := by
  pointwise [k0_pay15]

theorem pay16_at (r : Fin 256) (l : Fin 128) : (k0_pay16 (F := Ideal) z C S (ix3 0 r l) : EReal)
    = (z (ix2 r ⟨256 + l.val, by omega⟩) * C (ix2 r l) + z (ix2 r ⟨256 + (l.val + 128 - 64) % 128, by omega⟩) * S (ix2 r l)) * kq := by
  pointwise [k0_pay16]

theorem pay19_at (r : Fin 256) (l : Fin 128) : (k0_pay19 (F := Ideal) S (k0_pay17 (F := Ideal) z) (k0_pay18 (F := Ideal) z C) (ix3 0 r l) : EReal)
    = (z (ix2 r ⟨384 + l.val, by omega⟩) * C (ix2 r l) + z (ix2 r ⟨384 + (l.val + 128 - 64) % 128, by omega⟩) * S (ix2 r l)) * kq := by
  pointwise [k0_pay19, k0_pay18, k0_pay17]

theorem pay20_at (r : Fin 256) (l : Fin 128) : (k0_pay20 (F := Ideal) z C S (ix3 0 r l) : EReal)
    = (z (ix2 r ⟨512 + l.val, by omega⟩) * C (ix2 r l) + z (ix2 r ⟨512 + (l.val + 128 - 64) % 128, by omega⟩) * S (ix2 r l)) * kq := by
  pointwise [k0_pay20]

theorem pay21_at (r : Fin 256) (l : Fin 128) : (k0_pay21 (F := Ideal) z C S (ix3 0 r l) : EReal)
    = (z (ix2 r ⟨640 + l.val, by omega⟩) * C (ix2 r l) + z (ix2 r ⟨640 + (l.val + 128 - 64) % 128, by omega⟩) * S (ix2 r l)) * kq := by
  pointwise [k0_pay21]

theorem pay23_at (r : Fin 256) (l : Fin 128) : (k0_pay23 (F := Ideal) (k0_pay22 (F := Ideal) z C S) (ix3 0 r l) : EReal)
    = (z (ix2 r ⟨768 + l.val, by omega⟩) * C (ix2 r l) + z (ix2 r ⟨768 + (l.val + 128 - 64) % 128, by omega⟩) * S (ix2 r l)) * kq := by
  pointwise [k0_pay23, k0_pay22]

theorem pay24_at (r : Fin 256) (l : Fin 128) : (k0_pay24 (F := Ideal) z C S (ix3 0 r l) : EReal)
    = (z (ix2 r ⟨896 + l.val, by omega⟩) * C (ix2 r l) + z (ix2 r ⟨896 + (l.val + 128 - 64) % 128, by omega⟩) * S (ix2 r l)) * kq := by
  pointwise [k0_pay24]

theorem pay25_at (r : Fin 256) (l : Fin 128) : (k0_pay25 (F := Ideal) z C S (ix3 0 r l) : EReal)
    = z (ix2 r ⟨1024 + l.val, by omega⟩) * C (ix2 r l) + z (ix2 r ⟨1024 + (l.val + 128 - 64) % 128, by omega⟩) * S (ix2 r l) := by
  pointwise [k0_pay25]

theorem pay26_at (r : Fin 256) (l : Fin 128) : (k0_pay26 (F := Ideal) z C S (ix3 0 r l) : EReal)
    = z (ix2 r ⟨1152 + l.val, by omega⟩) * C (ix2 r l) + z (ix2 r ⟨1152 + (l.val + 128 - 64) % 128, by omega⟩) * S (ix2 r l) := by
  pointwise [k0_pay26]

theorem pay30_at (r : Fin 256) (l : Fin 128) : (k0_pay30 (F := Ideal) C S m (k0_pay28 (F := Ideal) z) (k0_pay29 (F := Ideal) z) (ix3 0 r l) : EReal)
    = z (ix2 r ⟨1536 + l.val, by omega⟩) * C (ix2 r l) + Scalar.select (m (ix2 r l)) (z (ix2 r ⟨1536 + (l.val + 128 - 96) % 128, by omega⟩)) (z (ix2 r ⟨1536 + (l.val + 128 - 32) % 128, by omega⟩)) * S (ix2 r l) := by
  pointwise [k0_pay30, k0_pay29, k0_pay28]

theorem pay31_at (r : Fin 256) (l : Fin 128) : (k0_pay31 (F := Ideal) z C S m (ix3 0 r l) : EReal)
    = z (ix2 r ⟨1664 + l.val, by omega⟩) * C (ix2 r l) + Scalar.select (m (ix2 r l)) (z (ix2 r ⟨1664 + (l.val + 128 - 96) % 128, by omega⟩)) (z (ix2 r ⟨1664 + (l.val + 128 - 32) % 128, by omega⟩)) * S (ix2 r l) := by
  pointwise [k0_pay31]

theorem pay32_at (r : Fin 256) (l : Fin 128) : (k0_pay32 (F := Ideal) z C S m (ix3 0 r l) : EReal)
    = z (ix2 r ⟨1792 + l.val, by omega⟩) * C (ix2 r l) + Scalar.select (m (ix2 r l)) (z (ix2 r ⟨1792 + (l.val + 128 - 96) % 128, by omega⟩)) (z (ix2 r ⟨1792 + (l.val + 128 - 32) % 128, by omega⟩)) * S (ix2 r l) := by
  pointwise [k0_pay32]

theorem pay34_at (r : Fin 256) (l : Fin 128) : (k0_pay34 (F := Ideal) (k0_pay33 (F := Ideal) z C S m) (ix3 0 r l) : EReal)
    = z (ix2 r ⟨1920 + l.val, by omega⟩) * C (ix2 r l) + Scalar.select (m (ix2 r l)) (z (ix2 r ⟨1920 + (l.val + 128 - 96) % 128, by omega⟩)) (z (ix2 r ⟨1920 + (l.val + 128 - 32) % 128, by omega⟩)) * S (ix2 r l) := by
  pointwise [k0_pay34, k0_pay33]

theorem pay37_at (r : Fin 256) (l : Fin 64) : (k0_pay37 (F := Ideal) z C S m (ix3 0 r l) : EReal)
    = z (ix2 r ⟨2048 + l.val, by omega⟩) * C (ix2 r ⟨l.val, by omega⟩) + Scalar.select (m (ix2 r ⟨l.val, by omega⟩)) (z (ix2 r ⟨2048 + (l.val + 128 - 96) % 128, by omega⟩)) (z (ix2 r ⟨2048 + (l.val + 128 - 32) % 128, by omega⟩)) * S (ix2 r ⟨l.val, by omega⟩) := by
  pointwise [k0_pay37, k0_pay36, k0_pay35]

theorem pay38_at (r : Fin 256) (l : Fin 64) : (k0_pay38 (F := Ideal) z C S m (ix3 0 r l) : EReal)
    = z (ix2 r ⟨2048 + l.val, by omega⟩) * C (ix2 r ⟨l.val, by omega⟩) + Scalar.select (m (ix2 r ⟨l.val, by omega⟩)) (z (ix2 r ⟨2048 + (l.val + 128 - 96) % 128, by omega⟩)) (z (ix2 r ⟨2048 + (l.val + 128 - 32) % 128, by omega⟩)) * S (ix2 r ⟨l.val, by omega⟩) := by
  pointwise [k0_pay38, k0_pay36, k0_pay35]

theorem pay27_at (r : Fin 256) (c : Fin 256) : (k0_pay27 (F := Ideal) z (ix3 0 r c) : EReal) = z (ix2 r ⟨1280 + c.val, by omega⟩) := by
  pointwise [k0_pay27]

theorem pay39_at (h : Fin 8) (r : Fin 256) : (k0_pay39 (F := Ideal) z (ix3 0 h r) : EReal) = z (ix2 r ⟨2048 + (64 + h.val), by omega⟩) * Ideal.ofBits .f32 0x3D3504F3#32 := by
  pointwise [k0_pay39, k0_pay35]
end

/-- The first half of every head of 64. -/
theorem mask_at (r : Fin 256) (l : Fin 128) : k0_pay13 (Scalar.select (Scalar.cmpi .eq 64#32 0#32) 1#32 64#32) k0_pay10 k0_pay11 k0_pay12 (ix2 r l)
    = if l.val % 64 < 32 then 1#1 else 0#1 := by
  pointwise [k0_pay13, k0_pay10, k0_pay11, k0_pay12]
  revert l
  decide +kernel

/-- A row's position in its sequence, as the kernel counts it. -/
abbrev pos8 (r : Fin 256) : BitVec 32 :=
  Scalar.select
    (IntOp.andi
      (IntOp.xori (IntOp.cmpi CmpIPredicate.slt (IntOp.remsi ArithUnit.vector (BitVec.ofNat 32 r.val) (Scalar.select (Scalar.cmpi CmpIPredicate.eq 8#32 0#32) 1#32 8#32)) 0#32)
        (Scalar.cmpi CmpIPredicate.slt (Scalar.select (Scalar.cmpi CmpIPredicate.eq 8#32 0#32) 1#32 8#32) 0#32))
      (IntOp.cmpi CmpIPredicate.ne (IntOp.remsi ArithUnit.vector (BitVec.ofNat 32 r.val) (Scalar.select (Scalar.cmpi CmpIPredicate.eq 8#32 0#32) 1#32 8#32)) 0#32))
    (IntOp.addi (IntOp.remsi ArithUnit.vector (BitVec.ofNat 32 r.val) (Scalar.select (Scalar.cmpi CmpIPredicate.eq 8#32 0#32) 1#32 8#32)) (Scalar.select (Scalar.cmpi CmpIPredicate.eq 8#32 0#32) 1#32 8#32))
    (IntOp.remsi ArithUnit.vector (BitVec.ofNat 32 r.val) (Scalar.select (Scalar.cmpi CmpIPredicate.eq 8#32 0#32) 1#32 8#32))
theorem pos8_lt : ∀ r : Fin 256, IntOp.cmpi CmpIPredicate.slt (pos8 r) 2#32 = if r.val % 8 < 2 then 1#1 else 0#1 := by decide +kernel
theorem pos8_eq : ∀ r : Fin 256, IntOp.cmpi CmpIPredicate.eq (pos8 r) 0#32 = if r.val % 8 < 1 then 1#1 else 0#1 := by decide +kernel

theorem pay48_at (u : FVec Ideal S256x1024 .f32) (p : FVec Ideal S1x256x1024 .f32) (w : FVec Ideal S3x1024 .f32) (u1 u2 : FVec Ideal S256x1024 .f32) (r : Fin 256) (c : Fin 1024) :
    (k0_pay48 (F := Ideal) u (iota .tc S256x1024 32 [0] iota_S256x1024_d0_w32) u1 u2 p w (ix2 r c) : EReal)
      = w (ix2 0 c) * Scalar.select (IntOp.cmpi CmpIPredicate.slt (pos8 r) 2#32) (p (ix3 0 r c)) (u2 (ix2 r c))
       + w (ix2 1 c) * Scalar.select (IntOp.cmpi CmpIPredicate.eq (pos8 r) 0#32) (p (ix3 0 ⟨(r.val + 256 - 255) % 256, by omega⟩ c)) (u1 (ix2 r c))
       + w (ix2 2 c) * u (ix2 r c) := by
  pointwise [k0_pay48]

section
variable (q : Fin 4) (r : Fin 256) (c : Fin 1024)
/-- The convolution's rows of a block. -/
theorem u_eq : (k0_pay42 (F := Ideal) (k0_pay3 (F := Ideal) (rows q x0) x2) (wb x3) (ix2 r c) : EReal) = U x0 x2 x3 q r c := by
  unfold U
  rw [← zb_eq x0 x2 x3 q r ⟨1024 + c.val, by omega⟩ ⟨3144 + c.val, by omega⟩ (by dsimp only; omega), ← zb_eq x0 x2 x3 q r ⟨2048 + c.val, by omega⟩ ⟨4168 + c.val, by omega⟩ (by dsimp only; omega)]
  pointwise [k0_pay42]

/-- Window 16's store. -/
theorem w16 : (k0_pay47 (F := Ideal) (k0_pay42 (F := Ideal) (k0_pay3 (F := Ideal) (rows q x0) x2) (wb x3)) (ix3 0 r c) : EReal)
    = Cert.InprojRefIdeal.Read.val_main_v222 (F := Ideal) x0 x2 x3 (ix3 q r c) := by
  rw [Cert.InprojRefIdeal.Own.ref_u]
  refine Eq.trans ?_ (u_eq x0 x2 x3 q r c)
  pointwise [k0_pay47]

/-- Window 14's store. -/
theorem w14 : (k0_pay1 (F := Ideal) (k0_pay49 (F := Ideal) (k0_pay43 (F := Ideal) (k0_pay3 (F := Ideal) (rows q x0) x2) (wb x3))) (ix3 0 r c) : EReal)
    = Cert.InprojRefIdeal.Read.val_main_v212 (F := Ideal) x0 x2 x3 (ix3 q r c) := by
  rw [Cert.InprojRefIdeal.Own.ref_ga, ← zb_eq x0 x2 x3 q r ⟨3072 + c.val, by omega⟩ ⟨5192 + c.val, by omega⟩ (by dsimp only; omega)]
  unfold sg
  pointwise [k0_pay1, k0_pay49, k0_pay43]
  rfl

/-- The rows one and two before, inside a sequence. -/
theorem u1_eq (h : ¬ r.val % 8 < 1) : (k0_pay45 (F := Ideal) (k0_pay3 (F := Ideal) (rows q x0) x2) (wb x3) (ix2 r c) : EReal) = U x0 x2 x3 q ⟨r.val - 1, by omega⟩ c := by
  rw [← u_eq]
  pointwise [k0_pay45]
  generalize k0_pay42 (F := Ideal) (k0_pay3 (F := Ideal) (rows q x0) x2) (wb x3) = V
  exact congrArg (fun k => V (ix2 k c)) (Fin.ext (by dsimp only; omega))
theorem u2_eq (h : ¬ r.val % 8 < 2) : (k0_pay46 (F := Ideal) (k0_pay3 (F := Ideal) (rows q x0) x2) (wb x3) (ix2 r c) : EReal) = U x0 x2 x3 q ⟨r.val - 2, by omega⟩ c := by
  rw [← u_eq]
  pointwise [k0_pay46]
  generalize k0_pay42 (F := Ideal) (k0_pay3 (F := Ideal) (rows q x0) x2) (wb x3) = V
  exact congrArg (fun k => V (ix2 k c)) (Fin.ext (by dsimp only; omega))
theorem b2_eq (h : r.val % 8 < 2) : (before q x1 (ix3 0 r c) : EReal) = x1 (ix4 0 (bb q r) ⟨r.val % 8, h⟩ c) := dif_pos h
theorem b1_eq (h : r.val % 8 < 1) : (before q x1 (ix3 0 ⟨(r.val + 256 - 255) % 256, by omega⟩ c) : EReal) = x1 (ix4 0 (bb q r) 1 c) := by
  have h2 : (r.val + 256 - 255) % 256 % 8 < 2 := by omega
  refine (b2_eq x1 q ⟨(r.val + 256 - 255) % 256, by omega⟩ c h2).trans ?_
  have e1 : bb q ⟨(r.val + 256 - 255) % 256, by omega⟩ = bb q r := Fin.ext (by unfold bb; dsimp only; omega)
  have e2 : (⟨(r.val + 256 - 255) % 256 % 8, h2⟩ : Fin 2) = 1 := Fin.ext (show (r.val + 256 - 255) % 256 % 8 = 1 by omega)
  exact (congrArg (fun b => x1 (ix4 0 b (⟨(r.val + 256 - 255) % 256 % 8, h2⟩ : Fin 2) c)) e1).trans (congrArg (fun k => x1 (ix4 0 (bb q r) k c)) e2)

/-- Window 15's store. -/
theorem w15 : (k0_pay2 (F := Ideal) (k0_pay41 (F := Ideal) (k0_pay3 (F := Ideal) (rows q x0) x2) (wb x3)) (k0_pay44 (F := Ideal) (k0_pay3 (F := Ideal) (rows q x0) x2) (wb x3))
      (k0_pay48 (F := Ideal) (k0_pay42 (F := Ideal) (k0_pay3 (F := Ideal) (rows q x0) x2) (wb x3)) (iota .tc S256x1024 32 [0] iota_S256x1024_d0_w32)
        (k0_pay45 (F := Ideal) (k0_pay3 (F := Ideal) (rows q x0) x2) (wb x3)) (k0_pay46 (F := Ideal) (k0_pay3 (F := Ideal) (rows q x0) x2) (wb x3)) (before q x1) (wc x4)) (ix3 0 r c) : EReal)
    = Cert.InprojRefIdeal.Read.val_main_v221 (F := Ideal) x0 x1 x2 x3 x4 (ix3 q r c) := by
  rw [Cert.InprojRefIdeal.Own.ref_cm, ← zb_eq x0 x2 x3 q r ⟨4096 + c.val, by omega⟩ ⟨6216 + c.val, by omega⟩ (by dsimp only; omega), ← zb_eq x0 x2 x3 q r ⟨c.val, by omega⟩ ⟨2120 + c.val, by omega⟩ rfl]
  have h := pay48_at (k0_pay42 (F := Ideal) (k0_pay3 (F := Ideal) (rows q x0) x2) (wb x3)) (before q x1) (wc x4)
    (k0_pay45 (F := Ideal) (k0_pay3 (F := Ideal) (rows q x0) x2) (wb x3)) (k0_pay46 (F := Ideal) (k0_pay3 (F := Ideal) (rows q x0) x2) (wb x3)) r c
  rw [pos8_lt, pos8_eq, u_eq] at h
  generalize k0_pay48 (F := Ideal) _ _ _ _ _ _ = V at h
  unfold sg
  pointwise [k0_pay2, k0_pay41, k0_pay44]
  refine congrArg₂ (· * ·) rfl (congrArg (_ * ·) (h.trans (congrArg₂ (· + ·) (congrArg₂ (· + ·) (congrArg (_ * ·) ?_) (congrArg (_ * ·) ?_)) rfl)))
  · by_cases hr : r.val % 8 < 2
    · rw [if_pos hr, dif_pos hr, b2_eq x1 q r c hr]; rfl
    · rw [if_neg hr, dif_neg hr, u2_eq x0 x2 x3 q r c hr]; rfl
  · by_cases hr : r.val % 8 < 1
    · rw [if_pos hr, dif_pos hr, b1_eq x1 q r c hr]; rfl
    · rw [if_neg hr, dif_neg hr, u1_eq x0 x2 x3 q r c hr]; rfl
end

end Cert.InprojIdeal.Value

end
-- ==== Proof.InprojTable.lean ====
/- The input projections of the sample batch: the table of angles the kernel's call is given. -/
module

public import proofs.«01_k».proof.Proof.Gen.InprojIdeal.Frame
public import proofs.«01_k».proof.Proof.InprojPay
public import Idealize.ShloMosaic.Lib.Pipeline.ValueKit

@[expose] public section

set_option maxRecDepth 16384

noncomputable section

namespace Cert.InprojIdeal.Value

open Cert.InprojIdeal Cert.InprojIdeal.Gen Idealize.ShloMosaic Idealize.ShloMosaic.TcCoe Idealize.SL.Sem
open Idealize.ShloMosaic.Pipeline (Dat)
open Cert.InprojRefIdeal.Own (Z bb tt sg U cos64 sin64 cos32 sin32 zr)

/-- The number of rows of a sequence. -/
def posc : IVec S_ 32 := select (cmpi .eq (constantI S_ 32 8#32) (constantI S_ 32 0#32)) (constantI S_ 32 1#32) (constantI S_ 32 8#32)
/-- The remainders by it. -/
def posr : IVec S256 32 := Host.remsi (iotaInDim S256 32 0) (broadcastInDim S256 ![] bcast_S_S256 posc)
/-- Where a remainder is of the other sign. -/
def posm : IVec S256 1 := andi (cmpi .ne (cmpi .slt posr (broadcastInDim S256 ![] bcast_S_S256 (constantI S_ 32 0#32))) (broadcastInDim S256 ![] bcast_S_S256 (cmpi .slt posc (constantI S_ 32 0#32)))) (cmpi .ne posr (broadcastInDim S256 ![] bcast_S_S256 (constantI S_ 32 0#32)))
/-- The position of each row of a block. -/
def pos : IVec S256 32 := addi (broadcastInDim S256 ![] bcast_S_S256 (constantI S_ 32 2048#32)) (select posm (addi posr (broadcastInDim S256 ![] bcast_S_S256 posc)) posr)
/-- The angles of the heads of 128 lanes. -/
def ang64 : FVec Ideal S256x64 .f32 := mulf (broadcastInDim S256x64 ![0, 1] bcast_S256x1_S256x64_0_1 (broadcastInDim S256x1 ![0] bcast_S256_S256x1_0 (sitofp .f32 pos)))
  (broadcastInDim S256x64 ![0, 1] bcast_S1x64_S256x64_0_1 (broadcastInDim S1x64 ![1] bcast_S64_S1x64_1 (Host.powf (broadcastInDim S64 ![] bcast_S_S64 (constant S_ .f32 0x461C4000#32))
    (Host.divf (Host.negf (sitofp .f32 (iotaInDim S64 32 0))) (broadcastInDim S64 ![] bcast_S_S64 (constant S_ .f32 0x42800000#32))))))
/-- The angles of the heads of 64 lanes, at positions. -/
def angC (p : IVec S256 32) : FVec Ideal S256x32 .f32 := mulf (broadcastInDim S256x32 ![0, 1] bcast_S256x1_S256x32_0_1 (broadcastInDim S256x1 ![0] bcast_S256_S256x1_0 (sitofp .f32 p)))
  (broadcastInDim S256x32 ![0, 1] bcast_S1x32_S256x32_0_1 (broadcastInDim S1x32 ![1] bcast_S32_S1x32_1 (Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32))))))
/-- The angles of the heads of 64 lanes. -/
def ang32 : FVec Ideal S256x32 .f32 := angC pos
/-- Two halves side by side. -/
def tabA (a b : FVec Ideal S256x64 .f32) : FVec Ideal S256x128 .f32 := shapeCast S256x128 (broadcastInDim S1x256x1x128 ![0, 1, 2, 3] bcast_S1x256x1x128_S1x256x1x128_0_1_2_3 (shapeCast S1x256x1x128 (concatenate S256x128 1 [⟨S256x64, a⟩, ⟨S256x64, b⟩] concatenates_S256x64_S256x64_S256x128_d1) shapeCasts_S256x128_S1x256x1x128)) shapeCasts_S1x256x1x128_S256x128
/-- Two halves side by side, twice. -/
def tabB (a b : FVec Ideal S256x32 .f32) : FVec Ideal S256x128 .f32 := shapeCast S256x128 (broadcastInDim S1x256x2x64 ![0, 1, 2, 3] bcast_S1x256x1x64_S1x256x2x64_0_1_2_3 (shapeCast S1x256x1x64 (concatenate S256x64 1 [⟨S256x32, a⟩, ⟨S256x32, b⟩] concatenates_S256x32_S256x32_S256x64_d1) shapeCasts_S256x64_S1x256x1x64)) shapeCasts_S1x256x2x64_S256x128
/-- The table: cosines, signed sines, of each kind of head. -/
def table : FVec Ideal S256x512 .f32 := concatenate S256x512 1 [⟨S256x128, tabA (Host.cos ang64) (Host.cos ang64)⟩, ⟨S256x128, tabA (Host.negf (Host.sin ang64)) (Host.sin ang64)⟩, ⟨S256x128, tabB (Host.cos ang32) (Host.cos ang32)⟩, ⟨S256x128, tabB (Host.negf (Host.sin ang32)) (Host.sin ang32)⟩] concatenates_S256x128_S256x128_S256x128_S256x128_S256x512_d1

/-- The host's operations, part A. -/
abbrev partA {F : FTy → Type} [FloatOps F] : List (HloOp τ sig (Elt F)) :=
  [ StableHlo.nullary main_c_0 (constantI S_ 32 2048#32),
    StableHlo.unary main_c_0 main_v9 (broadcastInDim S256 ![] bcast_S_S256 : (⟨S_, .i32⟩ : BufTy).Contents (Elt F) → (⟨S256, .i32⟩ : BufTy).Contents (Elt F)),
    StableHlo.binary main_v9 main_v8 main_v10 (addi : (⟨S256, .i32⟩ : BufTy).Contents (Elt F) → (⟨S256, .i32⟩ : BufTy).Contents (Elt F) → (⟨S256, .i32⟩ : BufTy).Contents (Elt F)),
    StableHlo.nullary main_v11 (sitofp .f32 (iotaInDim S64 32 0)),
    StableHlo.unary main_v11 main_v12 (Host.negf : (⟨S64, .f32⟩ : BufTy).Contents (Elt F) → (⟨S64, .f32⟩ : BufTy).Contents (Elt F)),
    StableHlo.nullary main_cst_1 (constant S_ .f32 0x42800000#32),
    StableHlo.unary main_cst_1 main_v13 (broadcastInDim S64 ![] bcast_S_S64 : (⟨S_, .f32⟩ : BufTy).Contents (Elt F) → (⟨S64, .f32⟩ : BufTy).Contents (Elt F)),
    StableHlo.binary main_v12 main_v13 main_v14 (Host.divf : (⟨S64, .f32⟩ : BufTy).Contents (Elt F) → (⟨S64, .f32⟩ : BufTy).Contents (Elt F) → (⟨S64, .f32⟩ : BufTy).Contents (Elt F)),
    StableHlo.nullary main_cst_2 (constant S_ .f32 0x461C4000#32),
    StableHlo.unary main_cst_2 main_v15 (broadcastInDim S64 ![] bcast_S_S64 : (⟨S_, .f32⟩ : BufTy).Contents (Elt F) → (⟨S64, .f32⟩ : BufTy).Contents (Elt F)),
    StableHlo.binary main_v15 main_v14 main_v16 (Host.powf : (⟨S64, .f32⟩ : BufTy).Contents (Elt F) → (⟨S64, .f32⟩ : BufTy).Contents (Elt F) → (⟨S64, .f32⟩ : BufTy).Contents (Elt F)),
    StableHlo.unary main_v10 main_v17 (sitofp .f32 : (⟨S256, .i32⟩ : BufTy).Contents (Elt F) → (⟨S256, .f32⟩ : BufTy).Contents (Elt F)),
    StableHlo.unary main_v17 main_v18 (broadcastInDim S256x1 ![0] bcast_S256_S256x1_0 : (⟨S256, .f32⟩ : BufTy).Contents (Elt F) → (⟨S256x1, .f32⟩ : BufTy).Contents (Elt F)),
    StableHlo.unary main_v16 main_v19 (broadcastInDim S1x64 ![1] bcast_S64_S1x64_1 : (⟨S64, .f32⟩ : BufTy).Contents (Elt F) → (⟨S1x64, .f32⟩ : BufTy).Contents (Elt F)),
    StableHlo.unary main_v18 main_v20 (broadcastInDim S256x64 ![0, 1] bcast_S256x1_S256x64_0_1 : (⟨S256x1, .f32⟩ : BufTy).Contents (Elt F) → (⟨S256x64, .f32⟩ : BufTy).Contents (Elt F)),
    StableHlo.unary main_v19 main_v21 (broadcastInDim S256x64 ![0, 1] bcast_S1x64_S256x64_0_1 : (⟨S1x64, .f32⟩ : BufTy).Contents (Elt F) → (⟨S256x64, .f32⟩ : BufTy).Contents (Elt F)),
    StableHlo.binary main_v20 main_v21 main_v22 (mulf : (⟨S256x64, .f32⟩ : BufTy).Contents (Elt F) → (⟨S256x64, .f32⟩ : BufTy).Contents (Elt F) → (⟨S256x64, .f32⟩ : BufTy).Contents (Elt F)),
    StableHlo.unary main_v22 main_v23 (Host.cos : (⟨S256x64, .f32⟩ : BufTy).Contents (Elt F) → (⟨S256x64, .f32⟩ : BufTy).Contents (Elt F)),
    StableHlo.unary main_v22 main_v24 (Host.sin : (⟨S256x64, .f32⟩ : BufTy).Contents (Elt F) → (⟨S256x64, .f32⟩ : BufTy).Contents (Elt F)) ]
/-- The host's operations, part B. -/
abbrev partB {F : FTy → Type} [FloatOps F] : List (HloOp τ sig (Elt F)) :=
  [ StableHlo.binary main_v23 main_v23 main_v25 ((fun a b => concatenate S256x128 1 [⟨S256x64, a⟩, ⟨S256x64, b⟩] concatenates_S256x64_S256x64_S256x128_d1) : (⟨S256x64, .f32⟩ : BufTy).Contents (Elt F) → (⟨S256x64, .f32⟩ : BufTy).Contents (Elt F) → (⟨S256x128, .f32⟩ : BufTy).Contents (Elt F)),
    StableHlo.reshape main_v25 main_v26 (rfl : (.f32 : EltTy) = .f32) shapeCasts_S256x128_S1x256x1x128,
    StableHlo.unary main_v26 main_v27 (broadcastInDim S1x256x1x128 ![0, 1, 2, 3] bcast_S1x256x1x128_S1x256x1x128_0_1_2_3 : (⟨S1x256x1x128, .f32⟩ : BufTy).Contents (Elt F) → (⟨S1x256x1x128, .f32⟩ : BufTy).Contents (Elt F)),
    StableHlo.reshape main_v27 main_v28 (rfl : (.f32 : EltTy) = .f32) shapeCasts_S1x256x1x128_S256x128,
    StableHlo.unary main_v24 main_v29 (Host.negf : (⟨S256x64, .f32⟩ : BufTy).Contents (Elt F) → (⟨S256x64, .f32⟩ : BufTy).Contents (Elt F)),
    StableHlo.binary main_v29 main_v24 main_v30 ((fun a b => concatenate S256x128 1 [⟨S256x64, a⟩, ⟨S256x64, b⟩] concatenates_S256x64_S256x64_S256x128_d1) : (⟨S256x64, .f32⟩ : BufTy).Contents (Elt F) → (⟨S256x64, .f32⟩ : BufTy).Contents (Elt F) → (⟨S256x128, .f32⟩ : BufTy).Contents (Elt F)),
    StableHlo.reshape main_v30 main_v31 (rfl : (.f32 : EltTy) = .f32) shapeCasts_S256x128_S1x256x1x128,
    StableHlo.unary main_v31 main_v32 (broadcastInDim S1x256x1x128 ![0, 1, 2, 3] bcast_S1x256x1x128_S1x256x1x128_0_1_2_3 : (⟨S1x256x1x128, .f32⟩ : BufTy).Contents (Elt F) → (⟨S1x256x1x128, .f32⟩ : BufTy).Contents (Elt F)),
    StableHlo.reshape main_v32 main_v33 (rfl : (.f32 : EltTy) = .f32) shapeCasts_S1x256x1x128_S256x128 ]
/-- The host's operations, part C. -/
abbrev partC {F : FTy → Type} [FloatOps F] : List (HloOp τ sig (Elt F)) :=
  [ StableHlo.nullary main_v34 (sitofp .f32 (iotaInDim S32 32 0)),
    StableHlo.unary main_v34 main_v35 (Host.negf : (⟨S32, .f32⟩ : BufTy).Contents (Elt F) → (⟨S32, .f32⟩ : BufTy).Contents (Elt F)),
    StableHlo.nullary main_cst_3 (constant S_ .f32 0x42000000#32),
    StableHlo.unary main_cst_3 main_v36 (broadcastInDim S32 ![] bcast_S_S32 : (⟨S_, .f32⟩ : BufTy).Contents (Elt F) → (⟨S32, .f32⟩ : BufTy).Contents (Elt F)),
    StableHlo.binary main_v35 main_v36 main_v37 (Host.divf : (⟨S32, .f32⟩ : BufTy).Contents (Elt F) → (⟨S32, .f32⟩ : BufTy).Contents (Elt F) → (⟨S32, .f32⟩ : BufTy).Contents (Elt F)),
    StableHlo.nullary main_cst_4 (constant S_ .f32 0x461C4000#32),
    StableHlo.unary main_cst_4 main_v38 (broadcastInDim S32 ![] bcast_S_S32 : (⟨S_, .f32⟩ : BufTy).Contents (Elt F) → (⟨S32, .f32⟩ : BufTy).Contents (Elt F)),
    StableHlo.binary main_v38 main_v37 main_v39 (Host.powf : (⟨S32, .f32⟩ : BufTy).Contents (Elt F) → (⟨S32, .f32⟩ : BufTy).Contents (Elt F) → (⟨S32, .f32⟩ : BufTy).Contents (Elt F)),
    StableHlo.unary main_v10 main_v40 (sitofp .f32 : (⟨S256, .i32⟩ : BufTy).Contents (Elt F) → (⟨S256, .f32⟩ : BufTy).Contents (Elt F)),
    StableHlo.unary main_v40 main_v41 (broadcastInDim S256x1 ![0] bcast_S256_S256x1_0 : (⟨S256, .f32⟩ : BufTy).Contents (Elt F) → (⟨S256x1, .f32⟩ : BufTy).Contents (Elt F)),
    StableHlo.unary main_v39 main_v42 (broadcastInDim S1x32 ![1] bcast_S32_S1x32_1 : (⟨S32, .f32⟩ : BufTy).Contents (Elt F) → (⟨S1x32, .f32⟩ : BufTy).Contents (Elt F)),
    StableHlo.unary main_v41 main_v43 (broadcastInDim S256x32 ![0, 1] bcast_S256x1_S256x32_0_1 : (⟨S256x1, .f32⟩ : BufTy).Contents (Elt F) → (⟨S256x32, .f32⟩ : BufTy).Contents (Elt F)),
    StableHlo.unary main_v42 main_v44 (broadcastInDim S256x32 ![0, 1] bcast_S1x32_S256x32_0_1 : (⟨S1x32, .f32⟩ : BufTy).Contents (Elt F) → (⟨S256x32, .f32⟩ : BufTy).Contents (Elt F)),
    StableHlo.binary main_v43 main_v44 main_v45 (mulf : (⟨S256x32, .f32⟩ : BufTy).Contents (Elt F) → (⟨S256x32, .f32⟩ : BufTy).Contents (Elt F) → (⟨S256x32, .f32⟩ : BufTy).Contents (Elt F)),
    StableHlo.unary main_v45 main_v46 (Host.cos : (⟨S256x32, .f32⟩ : BufTy).Contents (Elt F) → (⟨S256x32, .f32⟩ : BufTy).Contents (Elt F)),
    StableHlo.unary main_v45 main_v47 (Host.sin : (⟨S256x32, .f32⟩ : BufTy).Contents (Elt F) → (⟨S256x32, .f32⟩ : BufTy).Contents (Elt F)) ]
/-- The host's operations, part D. -/
abbrev partD {F : FTy → Type} [FloatOps F] : List (HloOp τ sig (Elt F)) :=
  [ StableHlo.binary main_v46 main_v46 main_v48 ((fun a b => concatenate S256x64 1 [⟨S256x32, a⟩, ⟨S256x32, b⟩] concatenates_S256x32_S256x32_S256x64_d1) : (⟨S256x32, .f32⟩ : BufTy).Contents (Elt F) → (⟨S256x32, .f32⟩ : BufTy).Contents (Elt F) → (⟨S256x64, .f32⟩ : BufTy).Contents (Elt F)),
    StableHlo.reshape main_v48 main_v49 (rfl : (.f32 : EltTy) = .f32) shapeCasts_S256x64_S1x256x1x64,
    StableHlo.unary main_v49 main_v50 (broadcastInDim S1x256x2x64 ![0, 1, 2, 3] bcast_S1x256x1x64_S1x256x2x64_0_1_2_3 : (⟨S1x256x1x64, .f32⟩ : BufTy).Contents (Elt F) → (⟨S1x256x2x64, .f32⟩ : BufTy).Contents (Elt F)),
    StableHlo.reshape main_v50 main_v51 (rfl : (.f32 : EltTy) = .f32) shapeCasts_S1x256x2x64_S256x128,
    StableHlo.unary main_v47 main_v52 (Host.negf : (⟨S256x32, .f32⟩ : BufTy).Contents (Elt F) → (⟨S256x32, .f32⟩ : BufTy).Contents (Elt F)),
    StableHlo.binary main_v52 main_v47 main_v53 ((fun a b => concatenate S256x64 1 [⟨S256x32, a⟩, ⟨S256x32, b⟩] concatenates_S256x32_S256x32_S256x64_d1) : (⟨S256x32, .f32⟩ : BufTy).Contents (Elt F) → (⟨S256x32, .f32⟩ : BufTy).Contents (Elt F) → (⟨S256x64, .f32⟩ : BufTy).Contents (Elt F)),
    StableHlo.reshape main_v53 main_v54 (rfl : (.f32 : EltTy) = .f32) shapeCasts_S256x64_S1x256x1x64,
    StableHlo.unary main_v54 main_v55 (broadcastInDim S1x256x2x64 ![0, 1, 2, 3] bcast_S1x256x1x64_S1x256x2x64_0_1_2_3 : (⟨S1x256x1x64, .f32⟩ : BufTy).Contents (Elt F) → (⟨S1x256x2x64, .f32⟩ : BufTy).Contents (Elt F)),
    StableHlo.reshape main_v55 main_v56 (rfl : (.f32 : EltTy) = .f32) shapeCasts_S1x256x2x64_S256x128 ]
/-- The host's operations, part E. -/
abbrev partE {F : FTy → Type} [FloatOps F] : List (HloOp τ sig (Elt F)) :=
  [ StableHlo.nary ![main_v28, main_v33, main_v51, main_v56] main_v57 (fun u => (concatenate S256x512 1 [⟨S256x128, (u 0 : (⟨S256x128, .f32⟩ : BufTy).Contents (Elt F))⟩, ⟨S256x128, (u 1 : (⟨S256x128, .f32⟩ : BufTy).Contents (Elt F))⟩, ⟨S256x128, (u 2 : (⟨S256x128, .f32⟩ : BufTy).Contents (Elt F))⟩, ⟨S256x128, (u 3 : (⟨S256x128, .f32⟩ : BufTy).Contents (Elt F))⟩] concatenates_S256x128_S256x128_S256x128_S256x128_S256x512_d1 : (⟨S256x512, .f32⟩ : BufTy).Contents (Elt F))),
    StableHlo.reshape main_arg1 main_v58 (rfl : (.f32 : EltTy) = .f32) shapeCasts_S1x128x2x1024_S128x2x1024,
    StableHlo.nullary main_cst_5 (constant S_ .f32 0x00000000#32),
    StableHlo.unary main_cst_5 main_v59 (broadcastInDim S128x6x1024 ![] bcast_S_S128x6x1024 : (⟨S_, .f32⟩ : BufTy).Contents (Elt F) → (⟨S128x6x1024, .f32⟩ : BufTy).Contents (Elt F)),
    StableHlo.binary main_v58 main_v59 main_v60 ((fun a b => concatenate S128x8x1024 1 [⟨S128x2x1024, a⟩, ⟨S128x6x1024, b⟩] concatenates_S128x2x1024_S128x6x1024_S128x8x1024_d1) : (⟨S128x2x1024, .f32⟩ : BufTy).Contents (Elt F) → (⟨S128x6x1024, .f32⟩ : BufTy).Contents (Elt F) → (⟨S128x8x1024, .f32⟩ : BufTy).Contents (Elt F)),
    StableHlo.reshape main_arg0 main_v61 (rfl : (.f32 : EltTy) = .f32) shapeCasts_S128x8x1024_S4x256x1024,
    StableHlo.reshape main_arg2 main_v62 (rfl : (.f32 : EltTy) = .f32) shapeCasts_S1x1024_S1024,
    StableHlo.reshape main_arg4 main_v63 (rfl : (.f32 : EltTy) = .f32) shapeCasts_S1x3x1024_S3x1024,
    StableHlo.reshape main_v60 main_v64 (rfl : (.f32 : EltTy) = .f32) shapeCasts_S128x8x1024_S4x256x1024,
    StableHlo.reshape main_v62 main_v65 (rfl : (.f32 : EltTy) = .f32) shapeCasts_S1024_S1x1024 ]

theorem parts : (hostOps0_2 : List (HloOp τ sig (Elt Ideal))) = partA ++ (partB ++ (partC ++ (partD ++ partE))) := rfl

theorem after_app (l₁ l₂ : List (HloOp τ sig (Elt Ideal))) (W : Valuation τ sig (Elt Ideal)) : StableHlo.after (l₁ ++ l₂) W = StableHlo.after l₂ (StableHlo.after l₁ W) := by
  induction l₁ generalizing W with
  | nil => rfl
  | cons a l ih => exact ih _

section
variable (W : Valuation τ sig (Elt Ideal))
theorem partB28 : (StableHlo.after (partB (F := Ideal)) W main_v28 : FVec Ideal S256x128 .f32) = tabA (W main_v23 : FVec Ideal S256x64 .f32) (W main_v23 : FVec Ideal S256x64 .f32) := by
  simp only [partB, partC, partD, partE, StableHlo.after_cons, StableHlo.after_nil]; after_results_simp; after_results_loop; rfl
theorem partB33 : (StableHlo.after (partB (F := Ideal)) W main_v33 : FVec Ideal S256x128 .f32) = tabA (Host.negf (W main_v24 : FVec Ideal S256x64 .f32)) (W main_v24 : FVec Ideal S256x64 .f32) := by
  simp only [partB, partC, partD, partE, StableHlo.after_cons, StableHlo.after_nil]; after_results_simp; after_results_loop; rfl
theorem partB10 : (StableHlo.after (partB (F := Ideal)) W main_v10 : IVec S256 32) = (W main_v10 : IVec S256 32) := by
  simp only [partB, partC, partD, partE, StableHlo.after_cons, StableHlo.after_nil]; after_results_simp
theorem partC46 : (StableHlo.after (partC (F := Ideal)) W main_v46 : FVec Ideal S256x32 .f32) = Host.cos (angC (W main_v10 : IVec S256 32)) := by
  simp only [partB, partC, partD, partE, StableHlo.after_cons, StableHlo.after_nil]; after_results_simp; rfl
theorem partC47 : (StableHlo.after (partC (F := Ideal)) W main_v47 : FVec Ideal S256x32 .f32) = Host.sin (angC (W main_v10 : IVec S256 32)) := by
  simp only [partB, partC, partD, partE, StableHlo.after_cons, StableHlo.after_nil]; after_results_simp; rfl
theorem partC28 : (StableHlo.after (partC (F := Ideal)) W main_v28 : FVec Ideal S256x128 .f32) = (W main_v28 : FVec Ideal S256x128 .f32) := by
  simp only [partB, partC, partD, partE, StableHlo.after_cons, StableHlo.after_nil]; after_results_simp
theorem partC33 : (StableHlo.after (partC (F := Ideal)) W main_v33 : FVec Ideal S256x128 .f32) = (W main_v33 : FVec Ideal S256x128 .f32) := by
  simp only [partB, partC, partD, partE, StableHlo.after_cons, StableHlo.after_nil]; after_results_simp
theorem partD51 : (StableHlo.after (partD (F := Ideal)) W main_v51 : FVec Ideal S256x128 .f32) = tabB (W main_v46 : FVec Ideal S256x32 .f32) (W main_v46 : FVec Ideal S256x32 .f32) := by
  simp only [partB, partC, partD, partE, StableHlo.after_cons, StableHlo.after_nil]; after_results_simp; after_results_loop; rfl
theorem partD56 : (StableHlo.after (partD (F := Ideal)) W main_v56 : FVec Ideal S256x128 .f32) = tabB (Host.negf (W main_v47 : FVec Ideal S256x32 .f32)) (W main_v47 : FVec Ideal S256x32 .f32) := by
  simp only [partB, partC, partD, partE, StableHlo.after_cons, StableHlo.after_nil]; after_results_simp; after_results_loop; rfl
theorem partD28 : (StableHlo.after (partD (F := Ideal)) W main_v28 : FVec Ideal S256x128 .f32) = (W main_v28 : FVec Ideal S256x128 .f32) := by
  simp only [partB, partC, partD, partE, StableHlo.after_cons, StableHlo.after_nil]; after_results_simp
theorem partD33 : (StableHlo.after (partD (F := Ideal)) W main_v33 : FVec Ideal S256x128 .f32) = (W main_v33 : FVec Ideal S256x128 .f32) := by
  simp only [partB, partC, partD, partE, StableHlo.after_cons, StableHlo.after_nil]; after_results_simp
theorem partE57 : (StableHlo.after (partE (F := Ideal)) W main_v57 : FVec Ideal S256x512 .f32) = concatenate S256x512 1 [⟨S256x128, (W main_v28 : FVec Ideal S256x128 .f32)⟩, ⟨S256x128, (W main_v33 : FVec Ideal S256x128 .f32)⟩, ⟨S256x128, (W main_v51 : FVec Ideal S256x128 .f32)⟩, ⟨S256x128, (W main_v56 : FVec Ideal S256x128 .f32)⟩] concatenates_S256x128_S256x128_S256x128_S256x128_S256x512_d1 := by
  simp only [partB, partC, partD, partE, StableHlo.after_cons, StableHlo.after_nil]; after_results_simp; after_results_loop; rfl

end
variable (m : (ℓ : Loc nD τ sig) → Buf (Elt Ideal) ℓ) (c : Dev nD)
/-- The contents before the table is put together. -/
abbrev W0 : Valuation τ sig (Elt Ideal) := StableHlo.after (hostOps0 ++ (hostOps0_1 ++ partA)) (fun b => m (c, b))
theorem W10 : (W0 m c main_v10 : IVec S256 32) = pos := by
  unfold W0; simp only [hostOps0, hostOps0_1, partA, List.cons_append, List.nil_append, StableHlo.after_cons, StableHlo.after_nil]; after_results_simp; rfl
theorem W23 : (W0 m c main_v23 : FVec Ideal S256x64 .f32) = Host.cos ang64 := by
  unfold W0; simp only [hostOps0, hostOps0_1, partA, List.cons_append, List.nil_append, StableHlo.after_cons, StableHlo.after_nil]; after_results_simp; rfl
theorem W24 : (W0 m c main_v24 : FVec Ideal S256x64 .f32) = Host.sin ang64 := by
  unfold W0; simp only [hostOps0, hostOps0_1, partA, List.cons_append, List.nil_append, StableHlo.after_cons, StableHlo.after_nil]; after_results_simp; rfl

/-- The table the call is given. -/
theorem V57 : (V m c main_v57 : FVec Ideal S256x512 .f32) = table := by
  have e : V m c main_v57 = StableHlo.after (partE (F := Ideal)) (StableHlo.after (partD (F := Ideal)) (StableHlo.after (partC (F := Ideal)) (StableHlo.after (partB (F := Ideal)) (W0 m c)))) main_v57 := by
    have el : (List.flatten [hostOps0, hostOps0_1, hostOps0_2] : List (HloOp τ sig (Elt Ideal))) = (hostOps0 ++ (hostOps0_1 ++ partA)) ++ (partB ++ (partC ++ (partD ++ partE))) := rfl
    unfold V
    rw [el, after_app, after_app, after_app, after_app]
  refine e.trans ?_
  rw [partE57, partD28, partD33, partD51, partD56, partC28, partC33, partC46, partC47, partB28, partB33, partB10, W10, W23, W24]
  rfl

theorem pos_eq : ∀ r : Fin 256, pos (ix1 r) = Cert.InprojRefIdeal.Read.val_main_v2 (F := Ideal) (ix1 (tt r)) := by
  decide +kernel

open Cert.InprojRefIdeal.Read in
theorem cos64_eq (r : Fin 256) (l : Fin 64) : (Ideal.cos (ang64 (ix2 r l) : EReal) : EReal) = cos64 r l := by
  unfold cos64
  pointwise [ang64, pos_eq, val_main_v43, val_main_v42, val_main_v40, val_main_v41, val_main_v38, val_main_v39, val_main_v37, val_main_v36, val_main_v35, val_main_v34, val_main_cst_3, val_main_v32, val_main_v33, val_main_v31, val_main_cst_2]

open Cert.InprojRefIdeal.Read in
theorem sin64_eq (r : Fin 256) (l : Fin 64) : (Ideal.sin (ang64 (ix2 r l) : EReal) : EReal) = sin64 r l := by
  unfold sin64
  pointwise [ang64, pos_eq, val_main_v45, val_main_v42, val_main_v40, val_main_v41, val_main_v38, val_main_v39, val_main_v37, val_main_v36, val_main_v35, val_main_v34, val_main_cst_3, val_main_v32, val_main_v33, val_main_v31, val_main_cst_2]

open Cert.InprojRefIdeal.Read in
theorem cos32_eq (r : Fin 256) (l : Fin 32) : (Ideal.cos (ang32 (ix2 r l) : EReal) : EReal) = cos32 r l := by
  unfold cos32
  pointwise [ang32, angC, pos_eq, val_main_v111, val_main_v110, val_main_v108, val_main_v109, val_main_v106, val_main_v107, val_main_v105, val_main_v104, val_main_v103, val_main_v102, val_main_cst_7, val_main_v100, val_main_v101, val_main_v99, val_main_cst_6]

open Cert.InprojRefIdeal.Read in
theorem sin32_eq (r : Fin 256) (l : Fin 32) : (Ideal.sin (ang32 (ix2 r l) : EReal) : EReal) = sin32 r l := by
  unfold sin32
  pointwise [ang32, angC, pos_eq, val_main_v113, val_main_v110, val_main_v108, val_main_v109, val_main_v106, val_main_v107, val_main_v105, val_main_v104, val_main_v103, val_main_v102, val_main_cst_7, val_main_v100, val_main_v101, val_main_v99, val_main_cst_6]

/-- The table's columns from 0. -/
theorem table0 (r : Fin 256) (l : Fin 128) (j : Fin 512) (hj : j.val = 0 + l.val) : (table (ix2 r j) : EReal) = cos64 r (⟨l.val % 64, by omega⟩ : Fin 64) := by
  obtain ⟨j, hj'⟩ := j
  obtain rfl : j = 0 + l.val := hj
  have hl : l.val < 128 := l.isLt
  pointwise [table, tabA, tabB, cos64_eq, sin64_eq, cos32_eq, sin32_eq]
  split_ifs
  all_goals first
    | omega
    | exact congrArg (cos64 r) (Fin.ext (by first | omega | (dsimp only; done) | (dsimp only; omega)))

/-- The table's columns from 128. -/
theorem table1 (r : Fin 256) (l : Fin 128) (j : Fin 512) (hj : j.val = 128 + l.val) : (table (ix2 r j) : EReal) = (if l.val < 64 then -sin64 r (⟨l.val % 64, by omega⟩ : Fin 64) else sin64 r (⟨l.val % 64, by omega⟩ : Fin 64)) := by
  obtain ⟨j, hj'⟩ := j
  obtain rfl : j = 128 + l.val := hj
  have hl : l.val < 128 := l.isLt
  pointwise [table, tabA, tabB, cos64_eq, sin64_eq, cos32_eq, sin32_eq]
  split_ifs
  all_goals first
    | omega
    | exact congrArg Neg.neg (congrArg (sin64 r) (Fin.ext (by first | omega | (dsimp only; done) | (dsimp only; omega))))
    | exact congrArg (sin64 r) (Fin.ext (by first | omega | (dsimp only; done) | (dsimp only; omega)))

/-- The table's columns from 256. -/
theorem table2 (r : Fin 256) (l : Fin 128) (j : Fin 512) (hj : j.val = 256 + l.val) : (table (ix2 r j) : EReal) = cos32 r (⟨l.val % 32, by omega⟩ : Fin 32) := by
  obtain ⟨j, hj'⟩ := j
  obtain rfl : j = 256 + l.val := hj
  have hl : l.val < 128 := l.isLt
  pointwise [table, tabA, tabB, cos64_eq, sin64_eq, cos32_eq, sin32_eq]
  split_ifs
  all_goals first
    | omega
    | exact congrArg (cos32 r) (Fin.ext (by first | omega | (dsimp only; done) | (dsimp only; omega)))

/-- The table's columns from 384. -/
theorem table3 (r : Fin 256) (l : Fin 128) (j : Fin 512) (hj : j.val = 384 + l.val) : (table (ix2 r j) : EReal) = (if l.val % 64 < 32 then -sin32 r (⟨l.val % 32, by omega⟩ : Fin 32) else sin32 r (⟨l.val % 32, by omega⟩ : Fin 32)) := by
  obtain ⟨j, hj'⟩ := j
  obtain rfl : j = 384 + l.val := hj
  have hl : l.val < 128 := l.isLt
  pointwise [table, tabA, tabB, cos64_eq, sin64_eq, cos32_eq, sin32_eq]
  split_ifs
  all_goals first
    | omega
    | (rw [if_pos (show l.val % 64 < 32 by omega)]; exact congrArg Neg.neg (congrArg (sin32 r) (Fin.ext (by dsimp only; omega))))
    | (rw [if_neg (show ¬ l.val % 64 < 32 by omega)]; exact congrArg (sin32 r) (Fin.ext (by dsimp only; omega)))

end Cert.InprojIdeal.Value

end
-- ==== Proof.InprojCore.lean ====
/- The input projections of the sample batch: what each store of a block writes is the reference's result there. -/
module

public import proofs.«01_k».proof.Proof.Gen.InprojIdeal.Frame
public import proofs.«01_k».proof.Proof.InprojPay
public import proofs.«01_k».proof.Proof.InprojTable
public import Idealize.ShloMosaic.Lib.Pointwise
public import Idealize.ShloMosaic.Lib.Pipeline.ValueKit

@[expose] public section

set_option maxRecDepth 16384

noncomputable section

namespace Cert.InprojIdeal.Value

open Cert.InprojIdeal Cert.InprojIdeal.Gen Idealize.ShloMosaic Idealize.ShloMosaic.TcCoe Idealize.SL.Sem
open Idealize.ShloMosaic.Pipeline (Dat)
open Cert.InprojRefIdeal.Own (Z bb tt sg U cos64 sin64 cos32 sin32 zr)

/-- The table's first piece. -/
theorem c64_at (r : Fin 256) (l : Fin 128) : (k0_pay6 (F := Ideal) table (ix2 r l) : EReal) = cos64 r ⟨l.val % 64, by omega⟩ := by
  rw [← table0 r l ⟨l.val, by omega⟩ (by dsimp only; omega)]
  pointwise [k0_pay6, k0_pay5]
theorem s64_at (r : Fin 256) (l : Fin 128) : (k0_pay7 (F := Ideal) table (ix2 r l) : EReal) = if l.val < 64 then -sin64 r ⟨l.val % 64, by omega⟩ else sin64 r ⟨l.val % 64, by omega⟩ := by
  rw [← table1 r l ⟨128 + l.val, by omega⟩ rfl]
  pointwise [k0_pay7, k0_pay5]
theorem c32_at (r : Fin 256) (l : Fin 128) : (k0_pay8 (F := Ideal) table (ix2 r l) : EReal) = cos32 r ⟨l.val % 32, by omega⟩ := by
  rw [← table2 r l ⟨256 + l.val, by omega⟩ rfl]
  pointwise [k0_pay8, k0_pay5]
theorem s32_at (r : Fin 256) (l : Fin 128) : (k0_pay9 (F := Ideal) table (ix2 r l) : EReal) = if l.val % 64 < 32 then -sin32 r ⟨l.val % 32, by omega⟩ else sin32 r ⟨l.val % 32, by omega⟩ := by
  rw [← table3 r l ⟨384 + l.val, by omega⟩ rfl]
  pointwise [k0_pay9, k0_pay5]

section
variable (x0 : FVec Ideal S128x8x1024 .f32) (x1 : FVec Ideal S1x128x2x1024 .f32) (x2 : FVec Ideal S1x1024 .f32) (x3 : FVec Ideal S1x1024x7240 .f32) (x4 : FVec Ideal S1x3x1024 .f32) (q : Fin 4)

/-- The first product of a block. -/
abbrev za : FVec Ideal S256x2176 .f32 := k0_pay4 (F := Ideal) (rows q x0) x2 (wa x3)
abbrev c64 : FVec Ideal S256x128 .f32 := k0_pay6 (F := Ideal) table
abbrev s64 : FVec Ideal S256x128 .f32 := k0_pay7 (F := Ideal) table
abbrev c32 : FVec Ideal S256x128 .f32 := k0_pay8 (F := Ideal) table
abbrev s32 : FVec Ideal S256x128 .f32 := k0_pay9 (F := Ideal) table
abbrev msk : IVec S256x128 1 := k0_pay13 (Scalar.select (Scalar.cmpi .eq 64#32 0#32) 1#32 64#32) k0_pay10 k0_pay11 k0_pay12

/-- The column a rotated head of 64 lanes takes its other half from. -/
theorem sel_eq (r : Fin 256) (l : Fin 128) (j1 j2 : Fin 2176) (k : Fin 7240) (hk : k.val < 2120)
    (h1 : l.val % 64 < 32 → j1.val = k.val) (h2 : ¬ l.val % 64 < 32 → j2.val = k.val) :
    Scalar.select (msk (ix2 r l)) (za x0 x2 x3 q (ix2 r j1) : EReal) (za x0 x2 x3 q (ix2 r j2)) = Z x0 x2 x3 q r k := by
  unfold msk
  rw [mask_at r l]
  by_cases h : l.val % 64 < 32
  · rw [if_pos h]
    exact za_eq x0 x2 x3 q r j1 k (h1 h) hk
  · rw [if_neg h]
    exact za_eq x0 x2 x3 q r j2 k (h2 h) hk

theorem at14 (r : Fin 256) (l : Fin 128) : (k0_pay14 (F := Ideal) (za x0 x2 x3 q) c64 s64 (ix3 0 r l) : EReal) = Cert.InprojRefIdeal.Read.val_main_v194 (F := Ideal) x0 x2 x3 (ix3 q r ⟨0 + l.val, by omega⟩) :=
  q_of x0 x2 x3 q r ⟨0, by omega⟩ l (pay14_at (za x0 x2 x3 q) c64 s64 r l) (za_eq x0 x2 x3 q r _ _ (by dsimp only; omega) (by dsimp only; omega)) (za_eq x0 x2 x3 q r _ _ (by dsimp only; omega) (by dsimp only; omega))
    (c64_at r l) (s64_at r l) _ (by first | rfl | (dsimp only; omega))
theorem at15 (r : Fin 256) (l : Fin 128) : (k0_pay15 (F := Ideal) (za x0 x2 x3 q) c64 s64 (ix3 0 r l) : EReal) = Cert.InprojRefIdeal.Read.val_main_v194 (F := Ideal) x0 x2 x3 (ix3 q r ⟨128 + l.val, by omega⟩) :=
  q_of x0 x2 x3 q r ⟨1, by omega⟩ l (pay15_at (za x0 x2 x3 q) c64 s64 r l) (za_eq x0 x2 x3 q r _ _ (by dsimp only; omega) (by dsimp only; omega)) (za_eq x0 x2 x3 q r _ _ (by dsimp only; omega) (by dsimp only; omega))
    (c64_at r l) (s64_at r l) _ (by first | rfl | (dsimp only; omega))
theorem at16 (r : Fin 256) (l : Fin 128) : (k0_pay16 (F := Ideal) (za x0 x2 x3 q) c64 s64 (ix3 0 r l) : EReal) = Cert.InprojRefIdeal.Read.val_main_v194 (F := Ideal) x0 x2 x3 (ix3 q r ⟨256 + l.val, by omega⟩) :=
  q_of x0 x2 x3 q r ⟨2, by omega⟩ l (pay16_at (za x0 x2 x3 q) c64 s64 r l) (za_eq x0 x2 x3 q r _ _ (by dsimp only; omega) (by dsimp only; omega)) (za_eq x0 x2 x3 q r _ _ (by dsimp only; omega) (by dsimp only; omega))
    (c64_at r l) (s64_at r l) _ (by first | rfl | (dsimp only; omega))
theorem at19 (r : Fin 256) (l : Fin 128) : (k0_pay19 (F := Ideal) s64 (k0_pay17 (F := Ideal) (za x0 x2 x3 q)) (k0_pay18 (F := Ideal) (za x0 x2 x3 q) c64) (ix3 0 r l) : EReal) = Cert.InprojRefIdeal.Read.val_main_v194 (F := Ideal) x0 x2 x3 (ix3 q r ⟨384 + l.val, by omega⟩) :=
  q_of x0 x2 x3 q r ⟨3, by omega⟩ l (pay19_at (za x0 x2 x3 q) c64 s64 r l) (za_eq x0 x2 x3 q r _ _ (by dsimp only; omega) (by dsimp only; omega)) (za_eq x0 x2 x3 q r _ _ (by dsimp only; omega) (by dsimp only; omega))
    (c64_at r l) (s64_at r l) _ (by first | rfl | (dsimp only; omega))
theorem at20 (r : Fin 256) (l : Fin 128) : (k0_pay20 (F := Ideal) (za x0 x2 x3 q) c64 s64 (ix3 0 r l) : EReal) = Cert.InprojRefIdeal.Read.val_main_v194 (F := Ideal) x0 x2 x3 (ix3 q r ⟨512 + l.val, by omega⟩) :=
  q_of x0 x2 x3 q r ⟨4, by omega⟩ l (pay20_at (za x0 x2 x3 q) c64 s64 r l) (za_eq x0 x2 x3 q r _ _ (by dsimp only; omega) (by dsimp only; omega)) (za_eq x0 x2 x3 q r _ _ (by dsimp only; omega) (by dsimp only; omega))
    (c64_at r l) (s64_at r l) _ (by first | rfl | (dsimp only; omega))
theorem at21 (r : Fin 256) (l : Fin 128) : (k0_pay21 (F := Ideal) (za x0 x2 x3 q) c64 s64 (ix3 0 r l) : EReal) = Cert.InprojRefIdeal.Read.val_main_v194 (F := Ideal) x0 x2 x3 (ix3 q r ⟨640 + l.val, by omega⟩) :=
  q_of x0 x2 x3 q r ⟨5, by omega⟩ l (pay21_at (za x0 x2 x3 q) c64 s64 r l) (za_eq x0 x2 x3 q r _ _ (by dsimp only; omega) (by dsimp only; omega)) (za_eq x0 x2 x3 q r _ _ (by dsimp only; omega) (by dsimp only; omega))
    (c64_at r l) (s64_at r l) _ (by first | rfl | (dsimp only; omega))
theorem at23 (r : Fin 256) (l : Fin 128) : (k0_pay23 (F := Ideal) (k0_pay22 (F := Ideal) (za x0 x2 x3 q) c64 s64) (ix3 0 r l) : EReal) = Cert.InprojRefIdeal.Read.val_main_v194 (F := Ideal) x0 x2 x3 (ix3 q r ⟨768 + l.val, by omega⟩) :=
  q_of x0 x2 x3 q r ⟨6, by omega⟩ l (pay23_at (za x0 x2 x3 q) c64 s64 r l) (za_eq x0 x2 x3 q r _ _ (by dsimp only; omega) (by dsimp only; omega)) (za_eq x0 x2 x3 q r _ _ (by dsimp only; omega) (by dsimp only; omega))
    (c64_at r l) (s64_at r l) _ (by first | rfl | (dsimp only; omega))
theorem at24 (r : Fin 256) (l : Fin 128) : (k0_pay24 (F := Ideal) (za x0 x2 x3 q) c64 s64 (ix3 0 r l) : EReal) = Cert.InprojRefIdeal.Read.val_main_v194 (F := Ideal) x0 x2 x3 (ix3 q r ⟨896 + l.val, by omega⟩) :=
  q_of x0 x2 x3 q r ⟨7, by omega⟩ l (pay24_at (za x0 x2 x3 q) c64 s64 r l) (za_eq x0 x2 x3 q r _ _ (by dsimp only; omega) (by dsimp only; omega)) (za_eq x0 x2 x3 q r _ _ (by dsimp only; omega) (by dsimp only; omega))
    (c64_at r l) (s64_at r l) _ (by first | rfl | (dsimp only; omega))
theorem at25 (r : Fin 256) (l : Fin 128) : (k0_pay25 (F := Ideal) (za x0 x2 x3 q) c64 s64 (ix3 0 r l) : EReal) = Cert.InprojRefIdeal.Read.val_main_v195 (F := Ideal) x0 x2 x3 (ix3 q r ⟨0 + l.val, by omega⟩) :=
  k_of x0 x2 x3 q r ⟨0, by omega⟩ l (pay25_at (za x0 x2 x3 q) c64 s64 r l) (za_eq x0 x2 x3 q r _ _ (by dsimp only; omega) (by dsimp only; omega)) (za_eq x0 x2 x3 q r _ _ (by dsimp only; omega) (by dsimp only; omega))
    (c64_at r l) (s64_at r l) _ (by first | rfl | (dsimp only; omega))
theorem at26 (r : Fin 256) (l : Fin 128) : (k0_pay26 (F := Ideal) (za x0 x2 x3 q) c64 s64 (ix3 0 r l) : EReal) = Cert.InprojRefIdeal.Read.val_main_v195 (F := Ideal) x0 x2 x3 (ix3 q r ⟨128 + l.val, by omega⟩) :=
  k_of x0 x2 x3 q r ⟨1, by omega⟩ l (pay26_at (za x0 x2 x3 q) c64 s64 r l) (za_eq x0 x2 x3 q r _ _ (by dsimp only; omega) (by dsimp only; omega)) (za_eq x0 x2 x3 q r _ _ (by dsimp only; omega) (by dsimp only; omega))
    (c64_at r l) (s64_at r l) _ (by first | rfl | (dsimp only; omega))
theorem at30 (r : Fin 256) (l : Fin 128) : (k0_pay30 (F := Ideal) c32 s32 msk (k0_pay28 (F := Ideal) (za x0 x2 x3 q)) (k0_pay29 (F := Ideal) (za x0 x2 x3 q)) (ix3 0 r l) : EReal) = Cert.InprojRefIdeal.Read.val_main_v198 (F := Ideal) x0 x2 x3 (ix3 q r ⟨0 + l.val, by omega⟩) :=
  qi_of x0 x2 x3 q r ⟨0 + l.val / 64, by omega⟩ ⟨l.val % 64, by omega⟩ (pay30_at (za x0 x2 x3 q) c32 s32 msk r l) (za_eq x0 x2 x3 q r _ _ (by dsimp only; omega) (by dsimp only; omega))
    (sel_eq x0 x2 x3 q r l _ _ _ (by dsimp only; omega) (fun h => by dsimp only; omega) (fun h => by dsimp only; omega))
    ((c32_at r l).trans (congrArg (cos32 r) (Fin.ext (by dsimp only; omega)))) ((s32_at r l).trans (by
      have e : (⟨l.val % 64 % 32, by omega⟩ : Fin 32) = ⟨l.val % 32, by omega⟩ := Fin.ext (by dsimp only; omega)
      rw [e])) _ (by dsimp only; omega)
theorem at31 (r : Fin 256) (l : Fin 128) : (k0_pay31 (F := Ideal) (za x0 x2 x3 q) c32 s32 msk (ix3 0 r l) : EReal) = Cert.InprojRefIdeal.Read.val_main_v198 (F := Ideal) x0 x2 x3 (ix3 q r ⟨128 + l.val, by omega⟩) :=
  qi_of x0 x2 x3 q r ⟨2 + l.val / 64, by omega⟩ ⟨l.val % 64, by omega⟩ (pay31_at (za x0 x2 x3 q) c32 s32 msk r l) (za_eq x0 x2 x3 q r _ _ (by dsimp only; omega) (by dsimp only; omega))
    (sel_eq x0 x2 x3 q r l _ _ _ (by dsimp only; omega) (fun h => by dsimp only; omega) (fun h => by dsimp only; omega))
    ((c32_at r l).trans (congrArg (cos32 r) (Fin.ext (by dsimp only; omega)))) ((s32_at r l).trans (by
      have e : (⟨l.val % 64 % 32, by omega⟩ : Fin 32) = ⟨l.val % 32, by omega⟩ := Fin.ext (by dsimp only; omega)
      rw [e])) _ (by dsimp only; omega)
theorem at32 (r : Fin 256) (l : Fin 128) : (k0_pay32 (F := Ideal) (za x0 x2 x3 q) c32 s32 msk (ix3 0 r l) : EReal) = Cert.InprojRefIdeal.Read.val_main_v198 (F := Ideal) x0 x2 x3 (ix3 q r ⟨256 + l.val, by omega⟩) :=
  qi_of x0 x2 x3 q r ⟨4 + l.val / 64, by omega⟩ ⟨l.val % 64, by omega⟩ (pay32_at (za x0 x2 x3 q) c32 s32 msk r l) (za_eq x0 x2 x3 q r _ _ (by dsimp only; omega) (by dsimp only; omega))
    (sel_eq x0 x2 x3 q r l _ _ _ (by dsimp only; omega) (fun h => by dsimp only; omega) (fun h => by dsimp only; omega))
    ((c32_at r l).trans (congrArg (cos32 r) (Fin.ext (by dsimp only; omega)))) ((s32_at r l).trans (by
      have e : (⟨l.val % 64 % 32, by omega⟩ : Fin 32) = ⟨l.val % 32, by omega⟩ := Fin.ext (by dsimp only; omega)
      rw [e])) _ (by dsimp only; omega)
theorem at34 (r : Fin 256) (l : Fin 128) : (k0_pay34 (F := Ideal) (k0_pay33 (F := Ideal) (za x0 x2 x3 q) c32 s32 msk) (ix3 0 r l) : EReal) = Cert.InprojRefIdeal.Read.val_main_v198 (F := Ideal) x0 x2 x3 (ix3 q r ⟨384 + l.val, by omega⟩) :=
  qi_of x0 x2 x3 q r ⟨6 + l.val / 64, by omega⟩ ⟨l.val % 64, by omega⟩ (pay34_at (za x0 x2 x3 q) c32 s32 msk r l) (za_eq x0 x2 x3 q r _ _ (by dsimp only; omega) (by dsimp only; omega))
    (sel_eq x0 x2 x3 q r l _ _ _ (by dsimp only; omega) (fun h => by dsimp only; omega) (fun h => by dsimp only; omega))
    ((c32_at r l).trans (congrArg (cos32 r) (Fin.ext (by dsimp only; omega)))) ((s32_at r l).trans (by
      have e : (⟨l.val % 64 % 32, by omega⟩ : Fin 32) = ⟨l.val % 32, by omega⟩ := Fin.ext (by dsimp only; omega)
      rw [e])) _ (by dsimp only; omega)
theorem at37 (r : Fin 256) (l : Fin 64) : (k0_pay37 (F := Ideal) (za x0 x2 x3 q) c32 s32 msk (ix3 0 r l) : EReal) = Cert.InprojRefIdeal.Read.val_main_v199 (F := Ideal) x0 x2 x3 (ix3 q r ⟨0 + l.val, by omega⟩) :=
  ki_of x0 x2 x3 q r l (pay37_at (za x0 x2 x3 q) c32 s32 msk r l) (za_eq x0 x2 x3 q r _ _ (by dsimp only) (by dsimp only; omega))
    (sel_eq x0 x2 x3 q r ⟨l.val, by omega⟩ _ _ _ (by dsimp only; omega) (fun h => by dsimp only at h ⊢; omega) (fun h => by dsimp only at h ⊢; omega))
    ((c32_at r ⟨l.val, by omega⟩).trans (congrArg (cos32 r) (Fin.ext rfl))) ((s32_at r ⟨l.val, by omega⟩).trans (by
      have e : l.val % 64 = l.val := Nat.mod_eq_of_lt l.isLt
      dsimp only
      rw [e])) _ (by dsimp only; omega)
theorem at38 (r : Fin 256) (l : Fin 64) : (k0_pay38 (F := Ideal) (za x0 x2 x3 q) c32 s32 msk (ix3 0 r l) : EReal) = Cert.InprojRefIdeal.Read.val_main_v199 (F := Ideal) x0 x2 x3 (ix3 q r ⟨0 + l.val, by omega⟩) :=
  ki_of x0 x2 x3 q r l (pay38_at (za x0 x2 x3 q) c32 s32 msk r l) (za_eq x0 x2 x3 q r _ _ (by dsimp only) (by dsimp only; omega))
    (sel_eq x0 x2 x3 q r ⟨l.val, by omega⟩ _ _ _ (by dsimp only; omega) (fun h => by dsimp only at h ⊢; omega) (fun h => by dsimp only at h ⊢; omega))
    ((c32_at r ⟨l.val, by omega⟩).trans (congrArg (cos32 r) (Fin.ext rfl))) ((s32_at r ⟨l.val, by omega⟩).trans (by
      have e : l.val % 64 = l.val := Nat.mod_eq_of_lt l.isLt
      dsimp only
      rw [e])) _ (by dsimp only; omega)
theorem at27 (r : Fin 256) (l : Fin 256) : (k0_pay27 (F := Ideal) (za x0 x2 x3 q) (ix3 0 r l) : EReal) = Cert.InprojRefIdeal.Read.val_main_v196 (F := Ideal) x0 x2 x3 (ix3 q r ⟨0 + l.val, by omega⟩) := by
  have e : (⟨0 + l.val, by omega⟩ : Fin 256) = l := Fin.ext (by dsimp only; omega)
  rw [e, Cert.InprojRefIdeal.Own.ref_v]
  exact (pay27_at (za x0 x2 x3 q) r l).trans (za_eq x0 x2 x3 q r _ _ rfl (by dsimp only; omega))
theorem at39 (h : Fin 8) (r : Fin 256) : (k0_pay39 (F := Ideal) (za x0 x2 x3 q) (ix3 0 h r) : EReal) = Cert.InprojRefIdeal.Read.val_main_v205 (F := Ideal) x0 x2 x3 (ix3 q h r) := by
  rw [Cert.InprojRefIdeal.Own.ref_wi]
  refine (pay39_at (za x0 x2 x3 q) h r).trans ?_
  exact congrArg (fun v : EReal => v * Ideal.ofBits .f32 0x3D3504F3#32) (za_eq x0 x2 x3 q r _ (⟨2112 + h.val, by omega⟩ : Fin 7240) (by dsimp only; omega) (by dsimp only; omega))
end

/-- A piece's entries are the result's at the piece's place. -/
theorem lift {w n k : ℕ} (q : Fin 4) (off : ℕ) (hw : off + w ≤ n) {P : Shape.Idx ⟨3, ![1, k, w]⟩ → EReal} {R : Shape.Idx ⟨3, ![4, k, n]⟩ → EReal}
    (hc : ∀ (r : Fin k) (l : Fin w), P (ix3 0 r l) = R (ix3 q r ⟨off + l.val, by omega⟩)) (x : Shape.Idx ⟨3, ![1, k, w]⟩) (E : Shape.Idx ⟨3, ![4, k, n]⟩)
    (h0 : (E 0).val = q.val) (h1 : (E 1).val = (x 1).val) (h2 : (E 2).val = off + (x 2).val) : P x = R E := by
  have ex : x = ix3 0 (x 1) (x 2) := by
    funext i; match i with
    | ⟨0, _⟩ => exact Fin.ext (Nat.lt_one_iff.mp (x 0).isLt)
    | ⟨1, _⟩ => rfl
    | ⟨2, _⟩ => rfl
  have eE : E = ix3 q (x 1) ⟨off + (x 2).val, Nat.lt_of_lt_of_le (Nat.add_lt_add_left (x 2).isLt off) hw⟩ := by
    funext i; match i with
    | ⟨0, _⟩ => exact Fin.ext h0
    | ⟨1, _⟩ => exact Fin.ext h1
    | ⟨2, _⟩ => exact Fin.ext h2
  exact (congrArg P ex).trans ((hc (x 1) (x 2)).trans (congrArg R eE.symm))

end Cert.InprojIdeal.Value

end
-- ==== Proof.InprojHost.lean ====
/- The input projections of the sample batch: the arrays the kernel's call is given, of the arguments. -/
module

public import proofs.«01_k».proof.Proof.Gen.InprojIdeal.Frame
public import proofs.«01_k».proof.Proof.InprojPay
public import Idealize.ShloMosaic.Lib.Pipeline.ValueKit

@[expose] public section

set_option maxRecDepth 16384

noncomputable section

namespace Cert.InprojIdeal.Value

open Cert.InprojIdeal Cert.InprojIdeal.Gen Idealize.ShloMosaic Idealize.ShloMosaic.TcCoe Idealize.SL.Sem
open Idealize.ShloMosaic.Pipeline (Dat)
open Cert.InprojRefIdeal.Own (Z bb tt sg U cos64 sin64 cos32 sin32 zr)

variable (m : (ℓ : Loc nD τ sig) → Buf (Elt Ideal) ℓ)

/-- Argument 0. -/
abbrev A0 (c : Dev nD) : FVec Ideal S128x8x1024 .f32 := m ((c : Thread nD τ).loc main_arg0)
/-- Argument 1. -/
abbrev A1 (c : Dev nD) : FVec Ideal S1x128x2x1024 .f32 := m ((c : Thread nD τ).loc main_arg1)
/-- Argument 2. -/
abbrev A2 (c : Dev nD) : FVec Ideal S1x1024 .f32 := m ((c : Thread nD τ).loc main_arg2)
/-- Argument 3. -/
abbrev A3 (c : Dev nD) : FVec Ideal S1x1024x7240 .f32 := m ((c : Thread nD τ).loc main_arg3)
/-- Argument 4. -/
abbrev A4 (c : Dev nD) : FVec Ideal S1x3x1024 .f32 := m ((c : Thread nD τ).loc main_arg4)

section
variable (c : Dev nD)

set_option maxHeartbeats 4000000 in
/-- The rows. -/
theorem V61 : (V m c main_v61 : FVec Ideal S4x256x1024 .f32) = shapeCast _ (A0 m c) shapeCasts_S128x8x1024_S4x256x1024 := by
  unfold V; simp only [hostOps0, hostOps0_1, hostOps0_2, List.flatten_cons, List.flatten_nil, List.cons_append, List.nil_append, List.append_nil, StableHlo.after_cons, StableHlo.after_nil]; after_results_simp <;> rfl

set_option maxHeartbeats 4000000 in
/-- The scale. -/
theorem V65 : (V m c main_v65 : FVec Ideal S1x1024 .f32) = shapeCast _ (shapeCast S1024 (A2 m c) shapeCasts_S1x1024_S1024) shapeCasts_S1024_S1x1024 := by
  unfold V; simp only [hostOps0, hostOps0_1, hostOps0_2, List.flatten_cons, List.flatten_nil, List.cons_append, List.nil_append, List.append_nil, StableHlo.after_cons, StableHlo.after_nil]; after_results_simp <;> rfl

set_option maxHeartbeats 4000000 in
/-- The second weights. -/
theorem V6 : (V m c main_v6 : FVec Ideal S1024x5120 .bf16) = (truncf .bf16 (extractStridedSlice S1024x5120 ![0, 2120] (shapeCast S1024x7240 (A3 m c) shapeCasts_S1x1024x7240_S1024x7240) slices_S1024x7240_S1024x5120_0_2120) bitsLt_bf16_f32 : FVec Ideal S1024x5120 .bf16) := by
  unfold V; simp only [hostOps0, hostOps0_1, hostOps0_2, List.flatten_cons, List.flatten_nil, List.cons_append, List.nil_append, List.append_nil, StableHlo.after_cons, StableHlo.after_nil]; after_results_simp <;> rfl

set_option maxHeartbeats 4000000 in
/-- The convolution's weights. -/
theorem V63 : (V m c main_v63 : FVec Ideal S3x1024 .f32) = shapeCast _ (A4 m c) shapeCasts_S1x3x1024_S3x1024 := by
  unfold V; simp only [hostOps0, hostOps0_1, hostOps0_2, List.flatten_cons, List.flatten_nil, List.cons_append, List.nil_append, List.append_nil, StableHlo.after_cons, StableHlo.after_nil]; after_results_simp <;> rfl

set_option maxHeartbeats 4000000 in
/-- The first weights. -/
theorem V4 : (V m c main_v4 : FVec Ideal S1024x2176 .bf16) = (truncf (F := Ideal) .bf16 (concatenate S1024x2176 1 [⟨S1024x2120, extractStridedSlice S1024x2120 ![0, 0] (shapeCast S1024x7240 (A3 m c) shapeCasts_S1x1024x7240_S1024x7240) slices_S1024x7240_S1024x2120_0_0⟩, ⟨S1024x56, broadcastInDim S1024x56 ![] bcast_S_S1024x56 (constant (F := Ideal) S_ .f32 0x00000000#32)⟩] concatenates_S1024x2120_S1024x56_S1024x2176_d1) bitsLt_bf16_f32 : FVec Ideal S1024x2176 .bf16) := by
  unfold V; simp only [hostOps0, hostOps0_1, hostOps0_2, List.flatten_cons, List.flatten_nil, List.cons_append, List.nil_append, List.append_nil, StableHlo.after_cons, StableHlo.after_nil]; after_results_simp; after_results_loop; rfl

set_option maxHeartbeats 4000000 in
/-- The rows before. -/
theorem V64 : (V m c main_v64 : FVec Ideal S4x256x1024 .f32) = shapeCast S4x256x1024 (concatenate S128x8x1024 1 [⟨S128x2x1024, shapeCast S128x2x1024 (A1 m c) shapeCasts_S1x128x2x1024_S128x2x1024⟩, ⟨S128x6x1024, broadcastInDim S128x6x1024 ![] bcast_S_S128x6x1024 (constant (F := Ideal) S_ .f32 0x00000000#32)⟩] concatenates_S128x2x1024_S128x6x1024_S128x8x1024_d1) shapeCasts_S128x8x1024_S4x256x1024 := by
  unfold V; simp only [hostOps0, hostOps0_1, hostOps0_2, List.flatten_cons, List.flatten_nil, List.cons_append, List.nil_append, List.append_nil, StableHlo.after_cons, StableHlo.after_nil]; after_results_simp; after_results_loop; rfl

end

end Cert.InprojIdeal.Value

end
-- ==== Proof.InprojValue.lean ====
/- The input projections of the sample batch: the blocks the kernel reads are those of the argument arrays. -/
module

public import proofs.«01_k».proof.Proof.Gen.InprojIdeal.Frame
public import proofs.«01_k».proof.Proof.InprojPay
public import proofs.«01_k».proof.Proof.InprojHost
public import proofs.«01_k».proof.Proof.InprojTable
public import Idealize.ShloMosaic.Lib.Pointwise
public import Idealize.ShloMosaic.Lib.Pipeline.ValueKit

@[expose] public section

set_option maxRecDepth 16384

noncomputable section

namespace Cert.InprojIdeal.Value

open Cert.InprojIdeal Cert.InprojIdeal.Gen Idealize.ShloMosaic Idealize.ShloMosaic.TcCoe Idealize.SL.Sem
open Idealize.ShloMosaic.Pipeline (Dat)
open Cert.InprojRefIdeal.Own (Z bb tt sg U cos64 sin64 cos32 sin32 zr)

variable (m : (ℓ : Loc nD τ sig) → Buf (Elt Ideal) ℓ)

/-- The windows' block indices. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![t.val, 0, 0]
    ∧ win0_7.index t = ![t.val, 0, 0] ∧ win0_8.index t = ![t.val, 0, 0] ∧ win0_9.index t = ![t.val, 0, 0] ∧ win0_10.index t = ![t.val, 0, 0]
    ∧ win0_11.index t = ![t.val, 0, 0] ∧ win0_12.index t = ![t.val, 0, 0] ∧ win0_13.index t = ![t.val, 0, 0] ∧ win0_14.index t = ![t.val, 0, 0]
    ∧ win0_15.index t = ![t.val, 0, 0] ∧ win0_16.index t = ![t.val, 0, 0] :=
  (by decide +kernel : ∀ t : Fin grid0.N, _)

/-- The block of rows of a point. -/
def bq (t : Fin cfg0.N) : Fin 4 := ⟨t.val, lt_of_lt_of_eq t.isLt N_0⟩

/-- Row `r` of block `q` of the rows. -/
def rowAt (A : FVec Ideal S128x8x1024 .f32) (q : Fin 4) (r : Fin 256) (k : Fin 1024) : EReal := A (ix3 (bb q r) (tt r) k)
/-- Row `r` of block `q` of the rows before. -/
def beforeAt (s : FVec Ideal S1x128x2x1024 .f32) (q : Fin 4) (r : Fin 256) (k : Fin 1024) : EReal :=
  if h : r.val % 8 < 2 then s (ix4 0 (bb q r) (⟨r.val % 8, h⟩ : Fin 2) k) else Ideal.ofBits .f32 0x00000000#32

section
variable (c : Dev nD)
theorem at61 (q : Fin 4) (r : Fin 256) (k : Fin 1024) : ((V m c main_v61 : FVec Ideal S4x256x1024 .f32) (ix3 q r k) : EReal) = rowAt (A0 m c) q r k := by
  rw [V61]
  pointwise [rowAt, bb, tt]
theorem at64 (q : Fin 4) (r : Fin 256) (k : Fin 1024) : ((V m c main_v64 : FVec Ideal S4x256x1024 .f32) (ix3 q r k) : EReal) = beforeAt (A1 m c) q r k := by
  rw [V64]
  pointwise [beforeAt, bb]
theorem at65 (z : Fin 1) (k : Fin 1024) : ((V m c main_v65 : FVec Ideal S1x1024 .f32) (ix2 z k) : EReal) = A2 m c (ix2 z k) := by
  rw [V65]
  pointwise []
theorem at4 (j : Fin 1024) (k : Fin 2176) : ((V m c main_v4 : FVec Ideal S1024x2176 .bf16) (ix2 j k) : EReal) = wa (A3 m c) (ix2 j k) := by
  rw [V4]
  pointwise [wa]
theorem at6 (j : Fin 1024) (k : Fin 5120) : ((V m c main_v6 : FVec Ideal S1024x5120 .bf16) (ix2 j k) : EReal) = wb (A3 m c) (ix2 j k) := by
  rw [V6]
  pointwise [wb]
theorem at63 (j : Fin 3) (k : Fin 1024) : ((V m c main_v63 : FVec Ideal S3x1024 .f32) (ix2 j k) : EReal) = wc (A4 m c) (ix2 j k) := by
  rw [V63]
  pointwise [wc]
end

/-- An index of three coordinates. -/
theorem idx3 {a b d : ℕ} (z : Shape.Idx ⟨3, ![a, b, d]⟩) : z = ix3 (z 0) (z 1) (z 2) := by
  funext i; match i with
  | ⟨0, _⟩ => rfl
  | ⟨1, _⟩ => rfl
  | ⟨2, _⟩ => rfl
/-- An index of two coordinates. -/
theorem idx2 {a b : ℕ} (z : Shape.Idx ⟨2, ![a, b]⟩) : z = ix2 (z 0) (z 1) := by
  funext i; match i with
  | ⟨0, _⟩ => rfl
  | ⟨1, _⟩ => rfl

section
variable (c : Dev nD) (t : Fin cfg0.N)
set_option maxHeartbeats 1600000 in
/-- Window 0's block: rows of argument 0. -/
theorem iblk0 : (iblk m c 0 t : FVec Ideal S1x256x1024 .f32) = rows (bq t) (A0 m c) := by
  funext y
  have ht : t.val < 4 := lt_of_lt_of_eq t.isLt N_0
  have e : (V m c main_v61 : FVec Ideal S4x256x1024 .f32) = fun z => rowAt (A0 m c) (z 0) (z 1) (z 2) := by
    funext z
    rw [idx3 z]
    exact at61 m c _ _ _
  generalize hG : (fun z : S4x256x1024.Idx => rowAt (A0 m c) (z 0) (z 1) (z 2)) = G at e
  refine (congrFun e _).trans ?_
  refine Eq.trans ?_ (congrFun hG.symm (ix3 (bq t) (y 1) (y 2)))
  unfold bq
  blk_ext [idx t]
set_option maxHeartbeats 1600000 in
/-- Window 1's block: argument 2. -/
theorem iblk1 : (iblk m c 1 t : FVec Ideal S1x1024 .f32) = A2 m c := by
  funext y
  have e : (V m c main_v65 : FVec Ideal S1x1024 .f32) = A2 m c := by
    funext z; rw [idx2 z]; exact at65 m c _ _
  refine (congrFun e _).trans ?_
  generalize (A2 m c : FVec Ideal S1x1024 .f32) = G
  blk_ext [idx t]
set_option maxHeartbeats 1600000 in
/-- Window 2's block, from argument 3. -/
theorem iblk2 : (iblk m c 2 t : FVec Ideal S1024x2176 .bf16) = wa (A3 m c) := by
  funext y
  have e : (V m c main_v4 : FVec Ideal S1024x2176 .bf16) = wa (A3 m c) := by
    funext z; rw [idx2 z]; exact at4 m c _ _
  refine (congrFun e _).trans ?_
  generalize (wa (A3 m c) : FVec Ideal S1024x2176 .bf16) = G
  blk_ext [idx t]
set_option maxHeartbeats 1600000 in
/-- Window 3's block, from argument 3. -/
theorem iblk3 : (iblk m c 3 t : FVec Ideal S1024x5120 .bf16) = wb (A3 m c) := by
  funext y
  have e : (V m c main_v6 : FVec Ideal S1024x5120 .bf16) = wb (A3 m c) := by
    funext z; rw [idx2 z]; exact at6 m c _ _
  refine (congrFun e _).trans ?_
  generalize (wb (A3 m c) : FVec Ideal S1024x5120 .bf16) = G
  blk_ext [idx t]
set_option maxHeartbeats 1600000 in
/-- Window 4's block, from argument 4. -/
theorem iblk4 : (iblk m c 4 t : FVec Ideal S3x1024 .f32) = wc (A4 m c) := by
  funext y
  have e : (V m c main_v63 : FVec Ideal S3x1024 .f32) = wc (A4 m c) := by
    funext z; rw [idx2 z]; exact at63 m c _ _
  refine (congrFun e _).trans ?_
  generalize (wc (A4 m c) : FVec Ideal S3x1024 .f32) = G
  blk_ext [idx t]
set_option maxHeartbeats 1600000 in
/-- Window 5's block: the table. -/
theorem iblk5 : (iblk m c 5 t : FVec Ideal S256x512 .f32) = table := by
  funext y
  have e : (V m c main_v57 : FVec Ideal S256x512 .f32) = table := by
    exact V57 m c
  refine (congrFun e _).trans ?_
  generalize (table : FVec Ideal S256x512 .f32) = G
  blk_ext [idx t]
set_option maxHeartbeats 1600000 in
/-- Window 6's block: rows of argument 1. -/
theorem iblk6 : (iblk m c 6 t : FVec Ideal S1x256x1024 .f32) = before (bq t) (A1 m c) := by
  funext y
  have ht : t.val < 4 := lt_of_lt_of_eq t.isLt N_0
  have e : (V m c main_v64 : FVec Ideal S4x256x1024 .f32) = fun z => beforeAt (A1 m c) (z 0) (z 1) (z 2) := by
    funext z
    rw [idx3 z]
    exact at64 m c _ _ _
  generalize hG : (fun z : S4x256x1024.Idx => beforeAt (A1 m c) (z 0) (z 1) (z 2)) = G at e
  refine (congrFun e _).trans ?_
  refine Eq.trans ?_ (congrFun hG.symm (ix3 (bq t) (y 1) (y 2)))
  unfold bq
  blk_ext [idx t]

end

end Cert.InprojIdeal.Value

end
-- ==== Proof.InprojFinal.lean ====
/- The input projections of the sample batch: the result arrays after the run are the reference's. -/
module

public import proofs.«01_k».proof.Proof.Gen.InprojIdeal.Frame
public import proofs.«01_k».proof.Proof.InprojPay
public import proofs.«01_k».proof.Proof.InprojCore
public import proofs.«01_k».proof.Proof.InprojValue
public import Idealize.ShloMosaic.Lib.Pointwise
public import Idealize.ShloMosaic.Lib.Pipeline.ValueKit

@[expose] public section

set_option maxRecDepth 16384

noncomputable section

namespace Cert.InprojIdeal.Value

open Cert.InprojIdeal Cert.InprojIdeal.Gen Idealize.ShloMosaic Idealize.ShloMosaic.TcCoe Idealize.SL.Sem
open Idealize.ShloMosaic.Pipeline (Dat)
open Cert.InprojRefIdeal.Own (Z bb tt sg U cos64 sin64 cos32 sin32 zr)

variable (m : (ℓ : Loc nD τ sig) → Buf (Elt Ideal) ℓ) (c : Dev nD)

theorem lds0 (x : Vec Ideal S1x256x1024 .f32) : View.ld x r0_0 = x := View.ld_unit_lit _ x (by decide)
theorem lds1 (x : Vec Ideal S1x1024 .f32) : View.ld x r0_1 = x := View.ld_unit_lit _ x (by decide)
theorem lds2 (x : Vec Ideal S1024x2176 .bf16) : View.ld x r0_2 = x := View.ld_unit_lit _ x (by decide)
theorem lds3 (x : Vec Ideal S256x512 .f32) : View.ld x r0_3 = x := View.ld_unit_lit _ x (by decide)
theorem lds21 (x : Vec Ideal S1024x5120 .bf16) : View.ld x r0_21 = x := View.ld_unit_lit _ x (by decide)
theorem lds22 (x : Vec Ideal S3x1024 .f32) : View.ld x r0_22 = x := View.ld_unit_lit _ x (by decide)

/-- The same, of a piece that is the whole window. -/
theorem lift0 {n k : ℕ} (q : Fin 4) {P : Shape.Idx ⟨3, ![1, k, n]⟩ → EReal} {R : Shape.Idx ⟨3, ![4, k, n]⟩ → EReal}
    (hc : ∀ (r : Fin k) (l : Fin n), P (ix3 0 r l) = R (ix3 q r l)) (x : Shape.Idx ⟨3, ![1, k, n]⟩) (E : Shape.Idx ⟨3, ![4, k, n]⟩)
    (h0 : (E 0).val = q.val) (h1 : (E 1).val = (x 1).val) (h2 : (E 2).val = (x 2).val) : P x = R E :=
  lift q 0 (Nat.le_of_eq (Nat.zero_add n)) (fun r l => (hc r l).trans (congrArg (fun v => R (ix3 q r v)) (Fin.ext (Nat.zero_add _).symm))) x E h0 h1 (h2.trans (Nat.zero_add _).symm)

set_option maxHeartbeats 1600000 in
/-- The queries. -/
theorem final7 : (dats m 0 c).arrAt 7 (cfgs 0).N = Cert.InprojRefIdeal.Read.val_main_v194 (F := Ideal) (A0 m c) (A2 m c) (A3 m c) := by
  refine (dats m 0 c).arrAt_eq_of_covers 7 _ (by decide +kernel) fun t hf y => ?_
  have ht : t.val < 4 := lt_of_lt_of_eq t.isLt N_0
  have e : win0_7.index t = ![t.val, 0, 0] := (idx t).2.2.2.2.2.2.2.1
  revert y
  intro (y : S1x256x1024.Idx)
  have E0 : ((win0_7.blk t).view.emb y 0).val = t.val := by
    blk_simp [e]
  have E1 : ((win0_7.blk t).view.emb y 1).val = (y 1).val := by
    blk_simp [e]
  have E2 : ((win0_7.blk t).view.emb y 2).val = (y 2).val := by
    blk_simp [e]
  blk_simp
  rw [after0_7]
  unfold_out out0_7
  rw [iblk0, iblk1, iblk2, iblk5]
  simp only [lds0, lds1, lds2, lds3, lds21, lds22]
  canon_tiles x h
  case piece0 =>
    exact lift (bq t) 896 (by decide) (at24 (A0 m c) (A2 m c) (A3 m c) (bq t)) x _ E0 (E1.trans h1) (E2.trans (h2.trans (by omega)))
  case piece1 =>
    exact lift (bq t) 768 (by decide) (at23 (A0 m c) (A2 m c) (A3 m c) (bq t)) x _ E0 (E1.trans h1) (E2.trans (h2.trans (by omega)))
  case piece2 =>
    exact lift (bq t) 640 (by decide) (at21 (A0 m c) (A2 m c) (A3 m c) (bq t)) x _ E0 (E1.trans h1) (E2.trans (h2.trans (by omega)))
  case piece3 =>
    exact lift (bq t) 512 (by decide) (at20 (A0 m c) (A2 m c) (A3 m c) (bq t)) x _ E0 (E1.trans h1) (E2.trans (h2.trans (by omega)))
  case piece4 =>
    exact lift (bq t) 384 (by decide) (at19 (A0 m c) (A2 m c) (A3 m c) (bq t)) x _ E0 (E1.trans h1) (E2.trans (h2.trans (by omega)))
  case piece5 =>
    exact lift (bq t) 256 (by decide) (at16 (A0 m c) (A2 m c) (A3 m c) (bq t)) x _ E0 (E1.trans h1) (E2.trans (h2.trans (by omega)))
  case piece6 =>
    exact lift (bq t) 128 (by decide) (at15 (A0 m c) (A2 m c) (A3 m c) (bq t)) x _ E0 (E1.trans h1) (E2.trans (h2.trans (by omega)))
  case piece7 =>
    exact lift (bq t) 0 (by decide) (at14 (A0 m c) (A2 m c) (A3 m c) (bq t)) x _ E0 (E1.trans h1) (E2.trans (h2.trans (by omega)))

set_option maxHeartbeats 1600000 in
/-- The keys. -/
theorem final8 : (dats m 0 c).arrAt 8 (cfgs 0).N = Cert.InprojRefIdeal.Read.val_main_v195 (F := Ideal) (A0 m c) (A2 m c) (A3 m c) := by
  refine (dats m 0 c).arrAt_eq_of_covers 8 _ (by decide +kernel) fun t hf y => ?_
  have ht : t.val < 4 := lt_of_lt_of_eq t.isLt N_0
  have e : win0_8.index t = ![t.val, 0, 0] := (idx t).2.2.2.2.2.2.2.2.1
  revert y
  intro (y : S1x256x256.Idx)
  have E0 : ((win0_8.blk t).view.emb y 0).val = t.val := by
    blk_simp [e]
  have E1 : ((win0_8.blk t).view.emb y 1).val = (y 1).val := by
    blk_simp [e]
  have E2 : ((win0_8.blk t).view.emb y 2).val = (y 2).val := by
    blk_simp [e]
  blk_simp
  rw [after0_8]
  unfold_out out0_8
  rw [iblk0, iblk1, iblk2, iblk5]
  simp only [lds0, lds1, lds2, lds3, lds21, lds22]
  canon_tiles x h
  case piece0 =>
    exact lift (bq t) 128 (by decide) (at26 (A0 m c) (A2 m c) (A3 m c) (bq t)) x _ E0 (E1.trans h1) (E2.trans (h2.trans (by omega)))
  case piece1 =>
    exact lift (bq t) 0 (by decide) (at25 (A0 m c) (A2 m c) (A3 m c) (bq t)) x _ E0 (E1.trans h1) (E2.trans (h2.trans (by omega)))

set_option maxHeartbeats 1600000 in
/-- The values. -/
theorem final9 : (dats m 0 c).arrAt 9 (cfgs 0).N = Cert.InprojRefIdeal.Read.val_main_v196 (F := Ideal) (A0 m c) (A2 m c) (A3 m c) := by
  refine (dats m 0 c).arrAt_eq_of_covers 9 _ (by decide +kernel) fun t hf y => ?_
  have ht : t.val < 4 := lt_of_lt_of_eq t.isLt N_0
  have e : win0_9.index t = ![t.val, 0, 0] := (idx t).2.2.2.2.2.2.2.2.2.1
  revert y
  intro (y : S1x256x256.Idx)
  have E0 : ((win0_9.blk t).view.emb y 0).val = t.val := by
    blk_simp [e]
  have E1 : ((win0_9.blk t).view.emb y 1).val = (y 1).val := by
    blk_simp [e]
  have E2 : ((win0_9.blk t).view.emb y 2).val = (y 2).val := by
    blk_simp [e]
  blk_simp
  rw [after0_9]
  unfold_out out0_9
  rw [iblk0, iblk1, iblk2]
  simp only [lds0, lds1, lds2, lds3, lds21, lds22]
  canon_tiles x h
  case piece0 =>
    exact lift (bq t) 0 (by decide) (at27 (A0 m c) (A2 m c) (A3 m c) (bq t)) x _ E0 (E1.trans h1) (E2.trans (h2.trans (by omega)))

set_option maxHeartbeats 1600000 in
/-- The index queries. -/
theorem final10 : (dats m 0 c).arrAt 10 (cfgs 0).N = Cert.InprojRefIdeal.Read.val_main_v198 (F := Ideal) (A0 m c) (A2 m c) (A3 m c) := by
  refine (dats m 0 c).arrAt_eq_of_covers 10 _ (by decide +kernel) fun t hf y => ?_
  have ht : t.val < 4 := lt_of_lt_of_eq t.isLt N_0
  have e : win0_10.index t = ![t.val, 0, 0] := (idx t).2.2.2.2.2.2.2.2.2.2.1
  revert y
  intro (y : S1x256x512.Idx)
  have E0 : ((win0_10.blk t).view.emb y 0).val = t.val := by
    blk_simp [e]
  have E1 : ((win0_10.blk t).view.emb y 1).val = (y 1).val := by
    blk_simp [e]
  have E2 : ((win0_10.blk t).view.emb y 2).val = (y 2).val := by
    blk_simp [e]
  blk_simp
  rw [after0_10]
  unfold_out out0_10
  rw [iblk0, iblk1, iblk2, iblk5]
  simp only [lds0, lds1, lds2, lds3, lds21, lds22]
  canon_tiles x h
  case piece0 =>
    exact lift (bq t) 384 (by decide) (at34 (A0 m c) (A2 m c) (A3 m c) (bq t)) x _ E0 (E1.trans h1) (E2.trans (h2.trans (by omega)))
  case piece1 =>
    exact lift (bq t) 256 (by decide) (at32 (A0 m c) (A2 m c) (A3 m c) (bq t)) x _ E0 (E1.trans h1) (E2.trans (h2.trans (by omega)))
  case piece2 =>
    exact lift (bq t) 128 (by decide) (at31 (A0 m c) (A2 m c) (A3 m c) (bq t)) x _ E0 (E1.trans h1) (E2.trans (h2.trans (by omega)))
  case piece3 =>
    exact lift (bq t) 0 (by decide) (at30 (A0 m c) (A2 m c) (A3 m c) (bq t)) x _ E0 (E1.trans h1) (E2.trans (h2.trans (by omega)))

set_option maxHeartbeats 1600000 in
/-- The index keys. -/
theorem final11 : (dats m 0 c).arrAt 11 (cfgs 0).N = Cert.InprojRefIdeal.Read.val_main_v199 (F := Ideal) (A0 m c) (A2 m c) (A3 m c) := by
  refine (dats m 0 c).arrAt_eq_of_covers 11 _ (by decide +kernel) fun t hf y => ?_
  have ht : t.val < 4 := lt_of_lt_of_eq t.isLt N_0
  have e : win0_11.index t = ![t.val, 0, 0] := (idx t).2.2.2.2.2.2.2.2.2.2.2.1
  revert y
  intro (y : S1x256x64.Idx)
  have E0 : ((win0_11.blk t).view.emb y 0).val = t.val := by
    blk_simp [e]
  have E1 : ((win0_11.blk t).view.emb y 1).val = (y 1).val := by
    blk_simp [e]
  have E2 : ((win0_11.blk t).view.emb y 2).val = (y 2).val := by
    blk_simp [e]
  blk_simp
  rw [after0_11]
  unfold_out out0_11
  rw [iblk0, iblk1, iblk2, iblk5]
  simp only [lds0, lds1, lds2, lds3, lds21, lds22]
  canon_tiles x h
  case piece0 =>
    exact lift (bq t) 0 (by decide) (at37 (A0 m c) (A2 m c) (A3 m c) (bq t)) x _ E0 (E1.trans h1) (E2.trans (h2.trans (by omega)))

set_option maxHeartbeats 1600000 in
/-- The index keys once more. -/
theorem final12 : (dats m 0 c).arrAt 12 (cfgs 0).N = Cert.InprojRefIdeal.Read.val_main_v201 (F := Ideal) (A0 m c) (A2 m c) (A3 m c) := by
  refine (dats m 0 c).arrAt_eq_of_covers 12 _ (by decide +kernel) fun t hf y => ?_
  have ht : t.val < 4 := lt_of_lt_of_eq t.isLt N_0
  have e : win0_12.index t = ![t.val, 0, 0] := (idx t).2.2.2.2.2.2.2.2.2.2.2.2.1
  revert y
  intro (y : S1x256x64.Idx)
  have E0 : ((win0_12.blk t).view.emb y 0).val = t.val := by
    blk_simp [e]
  have E1 : ((win0_12.blk t).view.emb y 1).val = (y 1).val := by
    blk_simp [e]
  have E2 : ((win0_12.blk t).view.emb y 2).val = (y 2).val := by
    blk_simp [e]
  blk_simp
  rw [after0_12]
  unfold_out out0_12
  rw [iblk0, iblk1, iblk2, iblk5]
  simp only [lds0, lds1, lds2, lds3, lds21, lds22]
  canon_tiles x h
  case piece0 =>
    exact lift (bq t) 0 (by decide) (fun r l => (at38 (A0 m c) (A2 m c) (A3 m c) (bq t) r l).trans (congrFun (Cert.InprojRefIdeal.Own.ref_kib (A0 m c) (A2 m c) (A3 m c)).symm _)) x _ E0 (E1.trans h1) (E2.trans (h2.trans (by omega)))

set_option maxHeartbeats 1600000 in
/-- The index weights. -/
theorem final13 : (dats m 0 c).arrAt 13 (cfgs 0).N = Cert.InprojRefIdeal.Read.val_main_v205 (F := Ideal) (A0 m c) (A2 m c) (A3 m c) := by
  refine (dats m 0 c).arrAt_eq_of_covers 13 _ (by decide +kernel) fun t hf y => ?_
  have ht : t.val < 4 := lt_of_lt_of_eq t.isLt N_0
  have e : win0_13.index t = ![t.val, 0, 0] := (idx t).2.2.2.2.2.2.2.2.2.2.2.2.2.1
  revert y
  intro (y : S1x8x256.Idx)
  have E0 : ((win0_13.blk t).view.emb y 0).val = t.val := by
    blk_simp [e]
  have E1 : ((win0_13.blk t).view.emb y 1).val = (y 1).val := by
    blk_simp [e]
  have E2 : ((win0_13.blk t).view.emb y 2).val = (y 2).val := by
    blk_simp [e]
  blk_simp
  rw [after0_13]
  unfold_out out0_13
  rw [iblk0, iblk1, iblk2]
  simp only [lds0, lds1, lds2, lds3, lds21, lds22]
  canon_tiles x h
  case piece0 =>
    exact lift0 (bq t) (at39 (A0 m c) (A2 m c) (A3 m c) (bq t)) x _ E0 (E1.trans h1) (E2.trans h2)

set_option maxHeartbeats 1600000 in
/-- The gate of the attention. -/
theorem final14 : (dats m 0 c).arrAt 14 (cfgs 0).N = Cert.InprojRefIdeal.Read.val_main_v212 (F := Ideal) (A0 m c) (A2 m c) (A3 m c) := by
  refine (dats m 0 c).arrAt_eq_of_covers 14 _ (by decide +kernel) fun t hf y => ?_
  have ht : t.val < 4 := lt_of_lt_of_eq t.isLt N_0
  have e : win0_14.index t = ![t.val, 0, 0] := (idx t).2.2.2.2.2.2.2.2.2.2.2.2.2.2.1
  revert y
  intro (y : S1x256x1024.Idx)
  have E0 : ((win0_14.blk t).view.emb y 0).val = t.val := by
    blk_simp [e]
  have E1 : ((win0_14.blk t).view.emb y 1).val = (y 1).val := by
    blk_simp [e]
  have E2 : ((win0_14.blk t).view.emb y 2).val = (y 2).val := by
    blk_simp [e]
  blk_simp
  rw [after0_14]
  unfold_out out0_14
  rw [iblk0, iblk1, iblk3]
  simp only [lds0, lds1, lds2, lds3, lds21, lds22]
  canon_tiles x h
  case piece0 =>
    exact lift0 (bq t) (fun r l => w14 (A0 m c) (A2 m c) (A3 m c) (bq t) r l) x _ E0 (E1.trans h1) (E2.trans h2)

set_option maxHeartbeats 1600000 in
/-- The convolution's branch. -/
theorem final15 : (dats m 0 c).arrAt 15 (cfgs 0).N = Cert.InprojRefIdeal.Read.val_main_v221 (F := Ideal) (A0 m c) (A1 m c) (A2 m c) (A3 m c) (A4 m c) := by
  refine (dats m 0 c).arrAt_eq_of_covers 15 _ (by decide +kernel) fun t hf y => ?_
  have ht : t.val < 4 := lt_of_lt_of_eq t.isLt N_0
  have e : win0_15.index t = ![t.val, 0, 0] := (idx t).2.2.2.2.2.2.2.2.2.2.2.2.2.2.2.1
  revert y
  intro (y : S1x256x1024.Idx)
  have E0 : ((win0_15.blk t).view.emb y 0).val = t.val := by
    blk_simp [e]
  have E1 : ((win0_15.blk t).view.emb y 1).val = (y 1).val := by
    blk_simp [e]
  have E2 : ((win0_15.blk t).view.emb y 2).val = (y 2).val := by
    blk_simp [e]
  blk_simp
  rw [after0_15]
  unfold_out out0_15
  rw [iblk0, iblk1, iblk3, iblk4, iblk6]
  simp only [lds0, lds1, lds2, lds3, lds21, lds22]
  canon_tiles x h
  case piece0 =>
    exact lift0 (bq t) (fun r l => w15 (A0 m c) (A1 m c) (A2 m c) (A3 m c) (A4 m c) (bq t) r l) x _ E0 (E1.trans h1) (E2.trans h2)

set_option maxHeartbeats 1600000 in
/-- The rows the convolution reads. -/
theorem final16 : (dats m 0 c).arrAt 16 (cfgs 0).N = Cert.InprojRefIdeal.Read.val_main_v222 (F := Ideal) (A0 m c) (A2 m c) (A3 m c) := by
  refine (dats m 0 c).arrAt_eq_of_covers 16 _ (by decide +kernel) fun t hf y => ?_
  have ht : t.val < 4 := lt_of_lt_of_eq t.isLt N_0
  have e : win0_16.index t = ![t.val, 0, 0] := (idx t).2.2.2.2.2.2.2.2.2.2.2.2.2.2.2.2
  revert y
  intro (y : S1x256x1024.Idx)
  have E0 : ((win0_16.blk t).view.emb y 0).val = t.val := by
    blk_simp [e]
  have E1 : ((win0_16.blk t).view.emb y 1).val = (y 1).val := by
    blk_simp [e]
  have E2 : ((win0_16.blk t).view.emb y 2).val = (y 2).val := by
    blk_simp [e]
  blk_simp
  rw [after0_16]
  unfold_out out0_16
  rw [iblk0, iblk1, iblk3]
  simp only [lds0, lds1, lds2, lds3, lds21, lds22]
  canon_tiles x h
  case piece0 =>
    exact lift0 (bq t) (fun r l => w16 (A0 m c) (A2 m c) (A3 m c) (bq t) r l) x _ E0 (E1.trans h1) (E2.trans h2)

end Cert.InprojIdeal.Value

end
-- ==== Proof.InprojClaims.lean ====
/- The claims about the input projections: the frames of the kernel and of the reference, and that the two compute the
   same function over the extended reals. -/
module

public import proofs.«01_k».proof.Defs
public import proofs.«01_k».proof.Proof.Gen.Inproj.Frame
public import proofs.«01_k».proof.Proof.Gen.InprojIdeal.Frame
public import proofs.«01_k».proof.Proof.InprojFinal
public import proofs.«01_k».proof.Proof.Gen.InprojRefIdeal.Run
public import proofs.«01_k».proof.Proof.Gen.InprojRefIdeal.Read
public import Idealize.ShloMosaic.Lib.Claim

@[expose] public section

set_option maxRecDepth 16384

noncomputable section

namespace Cert.Own

open Idealize.ShloMosaic Idealize.ShloMosaic.TcCoe Idealize.SL.Sem

/-- The kernel ends with its arguments unchanged and its counters at zero. -/
theorem frame_inproj : Cert.quiescent_Inproj := fun m ρ _ => Cert.Inproj.Gen.frame m ρ

/-- So does the kernel over the extended reals. -/
theorem frame_inprojIdeal : Cert.quiescent_InprojIdeal := fun m ρ _ => Cert.InprojIdeal.Gen.frame m ρ

/-- So does the reference, which has no semaphore. -/
theorem frame_inprojRef : Cert.quiescent_InprojRefIdeal := fun m ρ _ =>
  (θ_run Cert.InprojRefIdeal.defs _ _).mono (fun r h => ⟨fun c => (h c).2.2.2.2.2.2.2.2.2.2, sem_eq_zero_of_no_sems (by decide) r.2⟩)
    (Cert.InprojRefIdeal.Value.run m ρ)

set_option maxHeartbeats 4000000 in
/-- The run of the kernel: each result array is the reference's function of the arguments. -/
theorem run_inproj (m : (ℓ : Loc Cert.InprojIdeal.nD Cert.InprojIdeal.τ Cert.InprojIdeal.sig) → Buf (Elt Ideal) ℓ) (ρ : Dev Cert.InprojIdeal.nD → PrngReg) :
    θ_run Cert.InprojIdeal.defs (onTc (τ := Cert.InprojIdeal.τ) (Cert.InprojIdeal.main (F := Ideal))) ⟨m, fun _ => 0, ρ⟩ (fun r => ∀ c : Dev Cert.InprojIdeal.nD,
      r.2.mem (c.tc.loc Cert.InprojIdeal.main_v66_0) = Cert.InprojRefIdeal.Read.val_main_v194 (F := Ideal) (m (c.tc.loc Cert.InprojIdeal.main_arg0)) (m (c.tc.loc Cert.InprojIdeal.main_arg2)) (m (c.tc.loc Cert.InprojIdeal.main_arg3))
        ∧ r.2.mem (c.tc.loc Cert.InprojIdeal.main_v66_1) = Cert.InprojRefIdeal.Read.val_main_v195 (F := Ideal) (m (c.tc.loc Cert.InprojIdeal.main_arg0)) (m (c.tc.loc Cert.InprojIdeal.main_arg2)) (m (c.tc.loc Cert.InprojIdeal.main_arg3))
        ∧ r.2.mem (c.tc.loc Cert.InprojIdeal.main_v66_2) = Cert.InprojRefIdeal.Read.val_main_v196 (F := Ideal) (m (c.tc.loc Cert.InprojIdeal.main_arg0)) (m (c.tc.loc Cert.InprojIdeal.main_arg2)) (m (c.tc.loc Cert.InprojIdeal.main_arg3))
        ∧ r.2.mem (c.tc.loc Cert.InprojIdeal.main_v66_3) = Cert.InprojRefIdeal.Read.val_main_v198 (F := Ideal) (m (c.tc.loc Cert.InprojIdeal.main_arg0)) (m (c.tc.loc Cert.InprojIdeal.main_arg2)) (m (c.tc.loc Cert.InprojIdeal.main_arg3))
        ∧ r.2.mem (c.tc.loc Cert.InprojIdeal.main_v66_4) = Cert.InprojRefIdeal.Read.val_main_v199 (F := Ideal) (m (c.tc.loc Cert.InprojIdeal.main_arg0)) (m (c.tc.loc Cert.InprojIdeal.main_arg2)) (m (c.tc.loc Cert.InprojIdeal.main_arg3))
        ∧ r.2.mem (c.tc.loc Cert.InprojIdeal.main_v66_5) = Cert.InprojRefIdeal.Read.val_main_v201 (F := Ideal) (m (c.tc.loc Cert.InprojIdeal.main_arg0)) (m (c.tc.loc Cert.InprojIdeal.main_arg2)) (m (c.tc.loc Cert.InprojIdeal.main_arg3))
        ∧ r.2.mem (c.tc.loc Cert.InprojIdeal.main_v66_6) = Cert.InprojRefIdeal.Read.val_main_v205 (F := Ideal) (m (c.tc.loc Cert.InprojIdeal.main_arg0)) (m (c.tc.loc Cert.InprojIdeal.main_arg2)) (m (c.tc.loc Cert.InprojIdeal.main_arg3))
        ∧ r.2.mem (c.tc.loc Cert.InprojIdeal.main_v66_7) = Cert.InprojRefIdeal.Read.val_main_v212 (F := Ideal) (m (c.tc.loc Cert.InprojIdeal.main_arg0)) (m (c.tc.loc Cert.InprojIdeal.main_arg2)) (m (c.tc.loc Cert.InprojIdeal.main_arg3))
        ∧ r.2.mem (c.tc.loc Cert.InprojIdeal.main_v66_8) = Cert.InprojRefIdeal.Read.val_main_v221 (F := Ideal) (m (c.tc.loc Cert.InprojIdeal.main_arg0)) (m (c.tc.loc Cert.InprojIdeal.main_arg1)) (m (c.tc.loc Cert.InprojIdeal.main_arg2)) (m (c.tc.loc Cert.InprojIdeal.main_arg3)) (m (c.tc.loc Cert.InprojIdeal.main_arg4))
        ∧ r.2.mem (c.tc.loc Cert.InprojIdeal.main_v66_9) = Cert.InprojRefIdeal.Read.val_main_v222 (F := Ideal) (m (c.tc.loc Cert.InprojIdeal.main_arg0)) (m (c.tc.loc Cert.InprojIdeal.main_arg2)) (m (c.tc.loc Cert.InprojIdeal.main_arg3))
        ∧ r.2.mem (c.tc.loc Cert.InprojIdeal.main_arg0) = m (c.tc.loc Cert.InprojIdeal.main_arg0)
        ∧ r.2.mem (c.tc.loc Cert.InprojIdeal.main_arg1) = m (c.tc.loc Cert.InprojIdeal.main_arg1)
        ∧ r.2.mem (c.tc.loc Cert.InprojIdeal.main_arg2) = m (c.tc.loc Cert.InprojIdeal.main_arg2)
        ∧ r.2.mem (c.tc.loc Cert.InprojIdeal.main_arg3) = m (c.tc.loc Cert.InprojIdeal.main_arg3)
        ∧ r.2.mem (c.tc.loc Cert.InprojIdeal.main_arg4) = m (c.tc.loc Cert.InprojIdeal.main_arg4)) :=
  (θ_run _ _ _).mono (fun r hr c => ⟨(hr.1.out_eq c (7 : Fin 17)).trans (Cert.InprojIdeal.Value.final7 m c),
      (hr.1.out_eq c (8 : Fin 17)).trans (Cert.InprojIdeal.Value.final8 m c),
      (hr.1.out_eq c (9 : Fin 17)).trans (Cert.InprojIdeal.Value.final9 m c),
      (hr.1.out_eq c (10 : Fin 17)).trans (Cert.InprojIdeal.Value.final10 m c),
      (hr.1.out_eq c (11 : Fin 17)).trans (Cert.InprojIdeal.Value.final11 m c),
      (hr.1.out_eq c (12 : Fin 17)).trans (Cert.InprojIdeal.Value.final12 m c),
      (hr.1.out_eq c (13 : Fin 17)).trans (Cert.InprojIdeal.Value.final13 m c),
      (hr.1.out_eq c (14 : Fin 17)).trans (Cert.InprojIdeal.Value.final14 m c),
      (hr.1.out_eq c (15 : Fin 17)).trans (Cert.InprojIdeal.Value.final15 m c),
      (hr.1.out_eq c (16 : Fin 17)).trans (Cert.InprojIdeal.Value.final16 m c), hr.2.1 c⟩)
    (θ_run_and (Cert.InprojIdeal.Gen.run_main m ρ) (Cert.InprojIdeal.Gen.frame m ρ))

set_option maxHeartbeats 4000000 in
/-- Over the extended reals the kernel and the reference compute the same function of the arguments. -/
theorem algebraic_inproj : Cert.algebraic_InprojIdeal_InprojRefIdeal := by
  pair_intro
  · exact run_inproj m g
  · refine θ_run_mono (Cert.InprojRefIdeal.Value.run m' g') fun r hr c => ?_
    obtain ⟨r0, r1, r2, r3, r4, r5, r6, r7, r8, r9, hrest⟩ := hr c
    obtain ⟨h0, h1, h2, h3, h4⟩ := hagree c
    refine ⟨r0.trans ?_, r1.trans ?_, r2.trans ?_, r3.trans ?_, r4.trans ?_, r5.trans ?_, r6.trans ?_, r7.trans ?_, r8.trans ?_, r9.trans ?_, hrest⟩
    · exact (Cert.InprojRefIdeal.Read.val_main_v194_eq _).trans (congr (congr (congrArg _ h0) h2) h3)
    · exact (Cert.InprojRefIdeal.Read.val_main_v195_eq _).trans (congr (congr (congrArg _ h0) h2) h3)
    · exact (Cert.InprojRefIdeal.Read.val_main_v196_eq _).trans (congr (congr (congrArg _ h0) h2) h3)
    · exact (Cert.InprojRefIdeal.Read.val_main_v198_eq _).trans (congr (congr (congrArg _ h0) h2) h3)
    · exact (Cert.InprojRefIdeal.Read.val_main_v199_eq _).trans (congr (congr (congrArg _ h0) h2) h3)
    · exact (Cert.InprojRefIdeal.Read.val_main_v201_eq _).trans (congr (congr (congrArg _ h0) h2) h3)
    · exact (Cert.InprojRefIdeal.Read.val_main_v205_eq _).trans (congr (congr (congrArg _ h0) h2) h3)
    · exact (Cert.InprojRefIdeal.Read.val_main_v212_eq _).trans (congr (congr (congrArg _ h0) h2) h3)
    · exact (Cert.InprojRefIdeal.Read.val_main_v221_eq _).trans (congr (congr (congr (congr (congrArg _ h0) h1) h2) h3) h4)
    · exact (Cert.InprojRefIdeal.Read.val_main_v222_eq _).trans (congr (congr (congrArg _ h0) h2) h3)

end Cert.Own

end
-- ==== Proof.FfnSampleRef.lean ====
/- The reference of the merge, feed-forward and gate block of the sample batch: its run, read in six parts (the merged residual, its norm,
   the feed-forward residual, its norm, the gated residual, the last norm), each a short term over the arrays before it. -/
module

public import proofs.«01_k».proof.Proof.Gen.FfnSampleRefIdeal
public import Idealize.ShloMosaic.Lib.StableHlo.Run

@[expose] public section

noncomputable section

namespace Cert.FfnSampleRefIdeal.Own

open Cert.FfnSampleRefIdeal Cert.FfnSampleRefIdeal.Gen Idealize.ShloMosaic Idealize.ShloMosaic.TcCoe Idealize.SL.Sem Idealize.ShloMosaic.StableHlo

variable {F : FTy → Type} [FloatOps F]

/-- The contents of a float32 buffer of a shape. -/
abbrev Arr (F : FTy → Type) (s : Shape) := (⟨s, .f32⟩ : BufTy).Contents (Elt F)

/-- Part A of the operations. -/
abbrev opsA : List (HloOp τ sig (Elt F)) :=
  [ binary main_arg2 main_arg1 main_v0 (mulf : Arr F S128x8x1024 → Arr F S128x8x1024 → Arr F S128x8x1024),
    binary main_v0 main_arg3 main_v1 (addf : Arr F S128x8x1024 → Arr F S128x8x1024 → Arr F S128x8x1024),
    reshape main_arg5 main_v2 (rfl : (.f32 : EltTy) = .f32) shapeCasts_S1x1024x1024_S1024x1024,
    binary main_v1 main_v2 main_v3 ((fun l r => Host.dotGeneral dot_S128x8x1024_S1024x1024_S128x8x1024_2_0_01_1_n_n none l r) : Arr F S128x8x1024 → Arr F S1024x1024 → Arr F S128x8x1024),
    binary main_arg0 main_v3 main_v4 (addf : Arr F S128x8x1024 → Arr F S128x8x1024 → Arr F S128x8x1024) ]

/-- Part B of the operations. -/
abbrev opsB : List (HloOp τ sig (Elt F)) :=
  [ reshape main_arg6 main_v5 (rfl : (.f32 : EltTy) = .f32) shapeCasts_S1x1024_S1024,
    binary main_v4 main_v4 main_v6 (mulf : Arr F S128x8x1024 → Arr F S128x8x1024 → Arr F S128x8x1024),
    nullary main_cst (constant S_ .f32 0x00000000#32),
    binary main_v6 main_cst main_v7 ((fun x v => Host.reduceAdd x v reducesTo_S128x8x1024_S128x8_d2 h_S_) : Arr F S128x8x1024 → Arr F S_ → Arr F S128x8),
    unary main_v7 main_v8 (broadcastInDim S128x8x1 ![0, 1] bcast_S128x8_S128x8x1_0_1 : Arr F S128x8 → Arr F S128x8x1),
    nullary main_cst_0 (constant S_ .f32 0x44800000#32),
    unary main_cst_0 main_v9 (broadcastInDim S128x8x1 ![] bcast_S_S128x8x1 : Arr F S_ → Arr F S128x8x1),
    binary main_v8 main_v9 main_v10 (Host.divf : Arr F S128x8x1 → Arr F S128x8x1 → Arr F S128x8x1),
    nullary main_cst_1 (constant S_ .f32 0x358637BD#32),
    unary main_cst_1 main_v11 (broadcastInDim S128x8x1 ![] bcast_S_S128x8x1 : Arr F S_ → Arr F S128x8x1),
    binary main_v10 main_v11 main_v12 (addf : Arr F S128x8x1 → Arr F S128x8x1 → Arr F S128x8x1),
    unary main_v12 main_v13 (Host.rsqrt : Arr F S128x8x1 → Arr F S128x8x1),
    unary main_v13 main_v14 (broadcastInDim S128x8x1024 ![0, 1, 2] bcast_S128x8x1_S128x8x1024_0_1_2 : Arr F S128x8x1 → Arr F S128x8x1024),
    binary main_v4 main_v14 main_v15 (mulf : Arr F S128x8x1024 → Arr F S128x8x1024 → Arr F S128x8x1024),
    unary main_v5 main_v16 (broadcastInDim S1x1x1024 ![2] bcast_S1024_S1x1x1024_2 : Arr F S1024 → Arr F S1x1x1024),
    unary main_v16 main_v17 (broadcastInDim S128x8x1024 ![0, 1, 2] bcast_S1x1x1024_S128x8x1024_0_1_2 : Arr F S1x1x1024 → Arr F S128x8x1024),
    binary main_v15 main_v17 main_v18 (mulf : Arr F S128x8x1024 → Arr F S128x8x1024 → Arr F S128x8x1024) ]

/-- Part C of the operations. -/
abbrev opsC : List (HloOp τ sig (Elt F)) :=
  [ reshape main_arg7 main_v19 (rfl : (.f32 : EltTy) = .f32) shapeCasts_S1x1024x5632_S1024x5632,
    binary main_v18 main_v19 main_v20 ((fun l r => Host.dotGeneral dot_S128x8x1024_S1024x5632_S128x8x5632_2_0_01_1_n_n none l r) : Arr F S128x8x1024 → Arr F S1024x5632 → Arr F S128x8x5632),
    unary main_v20 main_v21 ((extractStridedSlice S128x8x2816 ![0, 0, 0] · slices_S128x8x5632_S128x8x2816_0_0_0) : Arr F S128x8x5632 → Arr F S128x8x2816),
    unary main_v20 main_v22 ((extractStridedSlice S128x8x2816 ![0, 0, 2816] · slices_S128x8x5632_S128x8x2816_0_0_2816) : Arr F S128x8x5632 → Arr F S128x8x2816),
    TRef.unary (TRef.of (T := ⟨S128x8x2816, .f32⟩) main_v21) (TRef.of (T := ⟨S128x8x2816, .f32⟩) main_call0_v0) Host.negf,
    TRef.unary (TRef.of (T := ⟨S128x8x2816, .f32⟩) main_call0_v0) (TRef.of (T := ⟨S128x8x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S128x8x2816, .f32⟩) main_call0_v2) (broadcastInDim S128x8x2816 ![] bcast_S_S128x8x2816),
    TRef.binary (TRef.of (T := ⟨S128x8x2816, .f32⟩) main_call0_v2) (TRef.of (T := ⟨S128x8x2816, .f32⟩) main_call0_v1) (TRef.of (T := ⟨S128x8x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S128x8x2816, .f32⟩) main_call0_v4) (broadcastInDim S128x8x2816 ![] bcast_S_S128x8x2816),
    TRef.binary (TRef.of (T := ⟨S128x8x2816, .f32⟩) main_call0_v4) (TRef.of (T := ⟨S128x8x2816, .f32⟩) main_call0_v3) (TRef.of (T := ⟨S128x8x2816, .f32⟩) main_call0_v5) Host.divf,
    TRef.binary (TRef.of (T := ⟨S128x8x2816, .f32⟩) main_v21) (TRef.of (T := ⟨S128x8x2816, .f32⟩) main_call0_v5) (TRef.of (T := ⟨S128x8x2816, .f32⟩) main_v23) mulf,
    binary main_v23 main_v22 main_v24 (mulf : Arr F S128x8x2816 → Arr F S128x8x2816 → Arr F S128x8x2816),
    reshape main_arg8 main_v25 (rfl : (.f32 : EltTy) = .f32) shapeCasts_S1x2816x1024_S2816x1024,
    binary main_v24 main_v25 main_v26 ((fun l r => Host.dotGeneral dot_S128x8x2816_S2816x1024_S128x8x1024_2_0_01_1_n_n none l r) : Arr F S128x8x2816 → Arr F S2816x1024 → Arr F S128x8x1024),
    binary main_v4 main_v26 main_v27 (addf : Arr F S128x8x1024 → Arr F S128x8x1024 → Arr F S128x8x1024) ]

/-- Part D of the operations. -/
abbrev opsD : List (HloOp τ sig (Elt F)) :=
  [ reshape main_arg9 main_v28 (rfl : (.f32 : EltTy) = .f32) shapeCasts_S1x1024_S1024,
    binary main_v27 main_v27 main_v29 (mulf : Arr F S128x8x1024 → Arr F S128x8x1024 → Arr F S128x8x1024),
    nullary main_cst_2 (constant S_ .f32 0x00000000#32),
    binary main_v29 main_cst_2 main_v30 ((fun x v => Host.reduceAdd x v reducesTo_S128x8x1024_S128x8_d2 h_S_) : Arr F S128x8x1024 → Arr F S_ → Arr F S128x8),
    unary main_v30 main_v31 (broadcastInDim S128x8x1 ![0, 1] bcast_S128x8_S128x8x1_0_1 : Arr F S128x8 → Arr F S128x8x1),
    nullary main_cst_3 (constant S_ .f32 0x44800000#32),
    unary main_cst_3 main_v32 (broadcastInDim S128x8x1 ![] bcast_S_S128x8x1 : Arr F S_ → Arr F S128x8x1),
    binary main_v31 main_v32 main_v33 (Host.divf : Arr F S128x8x1 → Arr F S128x8x1 → Arr F S128x8x1),
    nullary main_cst_4 (constant S_ .f32 0x358637BD#32),
    unary main_cst_4 main_v34 (broadcastInDim S128x8x1 ![] bcast_S_S128x8x1 : Arr F S_ → Arr F S128x8x1),
    binary main_v33 main_v34 main_v35 (addf : Arr F S128x8x1 → Arr F S128x8x1 → Arr F S128x8x1),
    unary main_v35 main_v36 (Host.rsqrt : Arr F S128x8x1 → Arr F S128x8x1),
    unary main_v36 main_v37 (broadcastInDim S128x8x1024 ![0, 1, 2] bcast_S128x8x1_S128x8x1024_0_1_2 : Arr F S128x8x1 → Arr F S128x8x1024),
    binary main_v27 main_v37 main_v38 (mulf : Arr F S128x8x1024 → Arr F S128x8x1024 → Arr F S128x8x1024),
    unary main_v28 main_v39 (broadcastInDim S1x1x1024 ![2] bcast_S1024_S1x1x1024_2 : Arr F S1024 → Arr F S1x1x1024),
    unary main_v39 main_v40 (broadcastInDim S128x8x1024 ![0, 1, 2] bcast_S1x1x1024_S128x8x1024_0_1_2 : Arr F S1x1x1024 → Arr F S128x8x1024),
    binary main_v38 main_v40 main_v41 (mulf : Arr F S128x8x1024 → Arr F S128x8x1024 → Arr F S128x8x1024) ]

/-- Part E of the operations. -/
abbrev opsE : List (HloOp τ sig (Elt F)) :=
  [ reshape main_arg11 main_v42 (rfl : (.f32 : EltTy) = .f32) shapeCasts_S1x1024x1024_S1024x1024,
    binary main_v41 main_v42 main_v43 ((fun l r => Host.dotGeneral dot_S128x8x1024_S1024x1024_S128x8x1024_2_0_01_1_n_n none l r) : Arr F S128x8x1024 → Arr F S1024x1024 → Arr F S128x8x1024),
    unary main_v43 main_v44 (Host.negf : Arr F S128x8x1024 → Arr F S128x8x1024),
    unary main_v44 main_v45 (Host.exp : Arr F S128x8x1024 → Arr F S128x8x1024),
    nullary main_cst_5 (constant S_ .f32 0x3F800000#32),
    unary main_cst_5 main_v46 (broadcastInDim S128x8x1024 ![] bcast_S_S128x8x1024 : Arr F S_ → Arr F S128x8x1024),
    binary main_v46 main_v45 main_v47 (addf : Arr F S128x8x1024 → Arr F S128x8x1024 → Arr F S128x8x1024),
    nullary main_cst_6 (constant S_ .f32 0x3F800000#32),
    unary main_cst_6 main_v48 (broadcastInDim S128x8x1024 ![] bcast_S_S128x8x1024 : Arr F S_ → Arr F S128x8x1024),
    binary main_v48 main_v47 main_v49 (Host.divf : Arr F S128x8x1024 → Arr F S128x8x1024 → Arr F S128x8x1024),
    reshape main_arg4 main_v50 (rfl : (.f32 : EltTy) = .f32) shapeCasts_S1x128x8x256_S128x8x256,
    reshape main_arg10 main_v51 (rfl : (.f32 : EltTy) = .f32) shapeCasts_S1x256x1024_S256x1024,
    binary main_v50 main_v51 main_v52 ((fun l r => Host.dotGeneral dot_S128x8x256_S256x1024_S128x8x1024_2_0_01_1_n_n none l r) : Arr F S128x8x256 → Arr F S256x1024 → Arr F S128x8x1024),
    binary main_v52 main_v49 main_v53 (mulf : Arr F S128x8x1024 → Arr F S128x8x1024 → Arr F S128x8x1024),
    binary main_v27 main_v53 main_v54 (addf : Arr F S128x8x1024 → Arr F S128x8x1024 → Arr F S128x8x1024) ]

/-- Part F of the operations. -/
abbrev opsF : List (HloOp τ sig (Elt F)) :=
  [ binary main_v54 main_v54 main_v55 (mulf : Arr F S128x8x1024 → Arr F S128x8x1024 → Arr F S128x8x1024),
    nullary main_cst_7 (constant S_ .f32 0x00000000#32),
    binary main_v55 main_cst_7 main_v56 ((fun x v => Host.reduceAdd x v reducesTo_S128x8x1024_S128x8_d2 h_S_) : Arr F S128x8x1024 → Arr F S_ → Arr F S128x8),
    unary main_v56 main_v57 (broadcastInDim S128x8x1 ![0, 1] bcast_S128x8_S128x8x1_0_1 : Arr F S128x8 → Arr F S128x8x1),
    nullary main_cst_8 (constant S_ .f32 0x44800000#32),
    unary main_cst_8 main_v58 (broadcastInDim S128x8x1 ![] bcast_S_S128x8x1 : Arr F S_ → Arr F S128x8x1),
    binary main_v57 main_v58 main_v59 (Host.divf : Arr F S128x8x1 → Arr F S128x8x1 → Arr F S128x8x1),
    nullary main_cst_9 (constant S_ .f32 0x358637BD#32),
    unary main_cst_9 main_v60 (broadcastInDim S128x8x1 ![] bcast_S_S128x8x1 : Arr F S_ → Arr F S128x8x1),
    binary main_v59 main_v60 main_v61 (addf : Arr F S128x8x1 → Arr F S128x8x1 → Arr F S128x8x1),
    unary main_v61 main_v62 (Host.rsqrt : Arr F S128x8x1 → Arr F S128x8x1),
    unary main_v62 main_v63 (broadcastInDim S128x8x1024 ![0, 1, 2] bcast_S128x8x1_S128x8x1024_0_1_2 : Arr F S128x8x1 → Arr F S128x8x1024),
    binary main_v54 main_v63 main_v64 (mulf : Arr F S128x8x1024 → Arr F S128x8x1024 → Arr F S128x8x1024),
    unary main_arg12 main_v65 (broadcastInDim S1x1x1024 ![2] bcast_S1024_S1x1x1024_2 : Arr F S1024 → Arr F S1x1x1024),
    unary main_v65 main_v66 (broadcastInDim S128x8x1024 ![0, 1, 2] bcast_S1x1x1024_S128x8x1024_0_1_2 : Arr F S1x1x1024 → Arr F S128x8x1024),
    binary main_v64 main_v66 main_v67 (mulf : Arr F S128x8x1024 → Arr F S128x8x1024 → Arr F S128x8x1024),
    reshape main_v67 main_v68 (rfl : (.f32 : EltTy) = .f32) shapeCasts_S128x8x1024_S1024x1024 ]

/-- The program's operations, in order: its six parts, one after the other. -/
abbrev ops : List (HloOp τ sig (Elt F)) :=
  opsA ++ (opsB ++ (opsC ++ (opsD ++ (opsE ++ opsF))))

set_option maxRecDepth 8192 in
/-- The operations are the six parts. -/
theorem ops_eq : (ops : List (HloOp τ sig (Elt F))) = opsA ++ (opsB ++ (opsC ++ (opsD ++ (opsE ++ opsF)))) := rfl

set_option maxRecDepth 8192 in
set_option maxHeartbeats 4000000 in
/-- The program runs its operations in order. -/
theorem main_eq (c : Dev nD) : main (F := F) c = seq ops := rfl
/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide
set_option maxRecDepth 8192 in
/-- Every operation works on the device's own buffers. -/
theorem ops_sub : (ops : List (HloOp τ sig (Elt F))).Forall fun op => op.bufs ⊆ tcRefs τ sig :=
  ⟨binary_bufs_sub .., binary_bufs_sub .., reshape_bufs_sub .., binary_bufs_sub .., binary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., reshape_bufs_sub .., binary_bufs_sub .., binary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub .., binary_bufs_sub .., unary_bufs_sub .., unary_bufs_sub .., nullary_bufs_sub .., unary_bufs_sub .., binary_bufs_sub .., nullary_bufs_sub .., unary_bufs_sub .., binary_bufs_sub .., reshape_bufs_sub .., reshape_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub ..⟩

/-! ## What each part computes -/

/-- The merged residual: the input, and the gated attention and the convolution's branch through the output projection. -/
def rX1 (x oa ga cm : FVec F S128x8x1024 .f32) (w : FVec F S1x1024x1024 .f32) : FVec F S128x8x1024 .f32 :=
  addf x (Host.dotGeneral dot_S128x8x1024_S1024x1024_S128x8x1024_2_0_01_1_n_n none (addf (mulf ga oa) cm)
    (shapeCast S1024x1024 w shapeCasts_S1x1024x1024_S1024x1024 : FVec F S1024x1024 .f32))

/-- The root-mean-square norm of the rows of `x`, scaled by `g`. -/
def rNorm (x : FVec F S128x8x1024 .f32) (g : FVec F S1024 .f32) : FVec F S128x8x1024 .f32 :=
  mulf (mulf x (broadcastInDim S128x8x1024 ![0, 1, 2] bcast_S128x8x1_S128x8x1024_0_1_2
      (Host.rsqrt (addf (Host.divf (broadcastInDim S128x8x1 ![0, 1] bcast_S128x8_S128x8x1_0_1
          (Host.reduceAdd (mulf x x) (constant S_ .f32 0x00000000#32) reducesTo_S128x8x1024_S128x8_d2 h_S_))
          (broadcastInDim S128x8x1 ![] bcast_S_S128x8x1 (constant S_ .f32 0x44800000#32)))
        (broadcastInDim S128x8x1 ![] bcast_S_S128x8x1 (constant S_ .f32 0x358637BD#32))) : FVec F S128x8x1 .f32)))
    (broadcastInDim S128x8x1024 ![0, 1, 2] bcast_S1x1x1024_S128x8x1024_0_1_2
      (broadcastInDim S1x1x1024 ![2] bcast_S1024_S1x1x1024_2 g))

/-- The feed-forward residual: `x1`, and the gated units of `h` through the down projection. -/
def rX2 (x1 h : FVec F S128x8x1024 .f32) (wgu : FVec F S1x1024x5632 .f32) (wd : FVec F S1x2816x1024 .f32) :
    FVec F S128x8x1024 .f32 :=
  let y : FVec F S128x8x5632 .f32 := Host.dotGeneral dot_S128x8x1024_S1024x5632_S128x8x5632_2_0_01_1_n_n none h
    (shapeCast S1024x5632 wgu shapeCasts_S1x1024x5632_S1024x5632 : FVec F S1024x5632 .f32)
  let g : FVec F S128x8x2816 .f32 := extractStridedSlice S128x8x2816 ![0, 0, 0] y slices_S128x8x5632_S128x8x2816_0_0_0
  let u : FVec F S128x8x2816 .f32 := extractStridedSlice S128x8x2816 ![0, 0, 2816] y slices_S128x8x5632_S128x8x2816_0_0_2816
  addf x1 (Host.dotGeneral dot_S128x8x2816_S2816x1024_S128x8x1024_2_0_01_1_n_n none
    (mulf (mulf g (Host.divf (broadcastInDim S128x8x2816 ![] bcast_S_S128x8x2816 (constant S_ .f32 0x3F800000#32))
      (addf (broadcastInDim S128x8x2816 ![] bcast_S_S128x8x2816 (constant S_ .f32 0x3F800000#32)) (Host.exp (Host.negf g))))) u)
    (shapeCast S2816x1024 wd shapeCasts_S1x2816x1024_S2816x1024 : FVec F S2816x1024 .f32))

/-- The gated residual: `x2`, and the embeddings' projection times the logistic of the gate's projection of `n`. -/
def rX3 (x2 n : FVec F S128x8x1024 .f32) (p : FVec F S1x128x8x256 .f32) (wp : FVec F S1x256x1024 .f32)
    (wg : FVec F S1x1024x1024 .f32) : FVec F S128x8x1024 .f32 :=
  addf x2 (mulf (Host.dotGeneral dot_S128x8x256_S256x1024_S128x8x1024_2_0_01_1_n_n none
      (shapeCast S128x8x256 p shapeCasts_S1x128x8x256_S128x8x256 : FVec F S128x8x256 .f32)
      (shapeCast S256x1024 wp shapeCasts_S1x256x1024_S256x1024 : FVec F S256x1024 .f32))
    (Host.divf (broadcastInDim S128x8x1024 ![] bcast_S_S128x8x1024 (constant S_ .f32 0x3F800000#32))
      (addf (broadcastInDim S128x8x1024 ![] bcast_S_S128x8x1024 (constant S_ .f32 0x3F800000#32))
        (Host.exp (Host.negf (Host.dotGeneral dot_S128x8x1024_S1024x1024_S128x8x1024_2_0_01_1_n_n none n
          (shapeCast S1024x1024 wg shapeCasts_S1x1024x1024_S1024x1024 : FVec F S1024x1024 .f32)))))))

/-- The whole reference over its arguments. -/
def rOut (x oa ga cm : FVec F S128x8x1024 .f32) (p : FVec F S1x128x8x256 .f32) (wo : FVec F S1x1024x1024 .f32)
    (g1 : FVec F S1x1024 .f32) (wgu : FVec F S1x1024x5632 .f32) (wd : FVec F S1x2816x1024 .f32) (g2 : FVec F S1x1024 .f32)
    (wp : FVec F S1x256x1024 .f32) (wg : FVec F S1x1024x1024 .f32) (g3 : FVec F S1024 .f32) : FVec F S128x8x1024 .f32 :=
  let x1 := rX1 x oa ga cm wo
  let x2 := rX2 x1 (rNorm x1 (shapeCast S1024 g1 shapeCasts_S1x1024_S1024)) wgu wd
  let x3 := rX3 x2 (rNorm x2 (shapeCast S1024 g2 shapeCasts_S1x1024_S1024)) p wp wg
  rNorm x3 g3

/-! ## The parts, read -/

variable (V : Valuation τ sig (Elt F))

/-- Operations run one list after another. -/
theorem after_append' (l₁ l₂ : List (HloOp τ sig (Elt F))) : ∀ V : Valuation τ sig (Elt F), after (l₁ ++ l₂) V = after l₂ (after l₁ V) := by
  induction l₁ with
  | nil => intro V; rfl
  | cons op l ih => intro V; exact ih _

/-- Part A leaves the merged residual. -/
theorem readA : after opsA V (Proc.devRef .tc main_v4) = rX1 (V (Proc.devRef .tc main_arg0)) (V (Proc.devRef .tc main_arg1))
    (V (Proc.devRef .tc main_arg2)) (V (Proc.devRef .tc main_arg3)) (V (Proc.devRef .tc main_arg5)) := by
  simp only [opsA]; after_results_simp <;> rfl
/-- Part B leaves the norm of the merged residual, and the merged residual. -/
theorem readB : after opsB V (Proc.devRef .tc main_v18) = rNorm (V (Proc.devRef .tc main_v4))
    (shapeCast S1024 (V (Proc.devRef .tc main_arg6)) shapeCasts_S1x1024_S1024)
    ∧ after opsB V (Proc.devRef .tc main_v4) = V (Proc.devRef .tc main_v4) := by
  constructor <;> (simp only [opsB]; after_results_simp <;> rfl)
/-- Part C leaves the feed-forward residual. -/
theorem readC : after opsC V (Proc.devRef .tc main_v27) = rX2 (V (Proc.devRef .tc main_v4)) (V (Proc.devRef .tc main_v18))
    (V (Proc.devRef .tc main_arg7)) (V (Proc.devRef .tc main_arg8)) := by
  simp only [opsC, TRef.binary, TRef.nullary, TRef.unary, TRef.toBuf, TRef.ofBuf, cast_eq]; after_results_simp <;> rfl
/-- Part D leaves the norm of the feed-forward residual, and that residual. -/
theorem readD : after opsD V (Proc.devRef .tc main_v41) = rNorm (V (Proc.devRef .tc main_v27))
    (shapeCast S1024 (V (Proc.devRef .tc main_arg9)) shapeCasts_S1x1024_S1024)
    ∧ after opsD V (Proc.devRef .tc main_v27) = V (Proc.devRef .tc main_v27) := by
  constructor <;> (simp only [opsD]; after_results_simp <;> rfl)
/-- Part E leaves the gated residual. -/
theorem readE : after opsE V (Proc.devRef .tc main_v54) = rX3 (V (Proc.devRef .tc main_v27)) (V (Proc.devRef .tc main_v41))
    (V (Proc.devRef .tc main_arg4)) (V (Proc.devRef .tc main_arg10)) (V (Proc.devRef .tc main_arg11)) := by
  simp only [opsE]; after_results_simp <;> rfl
/-- Part F leaves the last norm, its first two axes merged. -/
theorem readF : after opsF V (Proc.devRef .tc main_v68)
    = (shapeCast S1024x1024 (rNorm (V (Proc.devRef .tc main_v54)) (V (Proc.devRef .tc main_arg12))) shapeCasts_S128x8x1024_S1024x1024 :
        FVec F S1024x1024 .f32) := by
  simp only [opsF]; after_results_simp <;> rfl

/-- Part A leaves the later parts' arguments as they were. -/
theorem keepA : after opsA V (Proc.devRef .tc main_arg6) = V (Proc.devRef .tc main_arg6)
    ∧ after opsA V (Proc.devRef .tc main_arg7) = V (Proc.devRef .tc main_arg7) ∧ after opsA V (Proc.devRef .tc main_arg8) = V (Proc.devRef .tc main_arg8)
    ∧ after opsA V (Proc.devRef .tc main_arg9) = V (Proc.devRef .tc main_arg9) ∧ after opsA V (Proc.devRef .tc main_arg4) = V (Proc.devRef .tc main_arg4)
    ∧ after opsA V (Proc.devRef .tc main_arg10) = V (Proc.devRef .tc main_arg10) ∧ after opsA V (Proc.devRef .tc main_arg11) = V (Proc.devRef .tc main_arg11)
    ∧ after opsA V (Proc.devRef .tc main_arg12) = V (Proc.devRef .tc main_arg12) := by
  simp only [opsA]; refine ⟨?_, ?_, ?_, ?_, ?_, ?_, ?_, ?_⟩ <;> (after_results_simp <;> rfl)
/-- Part B leaves the later parts' arguments as they were. -/
theorem keepB : after opsB V (Proc.devRef .tc main_arg7) = V (Proc.devRef .tc main_arg7) ∧ after opsB V (Proc.devRef .tc main_arg8) = V (Proc.devRef .tc main_arg8)
    ∧ after opsB V (Proc.devRef .tc main_arg9) = V (Proc.devRef .tc main_arg9) ∧ after opsB V (Proc.devRef .tc main_arg4) = V (Proc.devRef .tc main_arg4)
    ∧ after opsB V (Proc.devRef .tc main_arg10) = V (Proc.devRef .tc main_arg10) ∧ after opsB V (Proc.devRef .tc main_arg11) = V (Proc.devRef .tc main_arg11)
    ∧ after opsB V (Proc.devRef .tc main_arg12) = V (Proc.devRef .tc main_arg12) := by
  simp only [opsB]; refine ⟨?_, ?_, ?_, ?_, ?_, ?_, ?_⟩ <;> (after_results_simp <;> rfl)
/-- Part C leaves the later parts' arguments as they were. -/
theorem keepC : after opsC V (Proc.devRef .tc main_arg9) = V (Proc.devRef .tc main_arg9) ∧ after opsC V (Proc.devRef .tc main_arg4) = V (Proc.devRef .tc main_arg4)
    ∧ after opsC V (Proc.devRef .tc main_arg10) = V (Proc.devRef .tc main_arg10) ∧ after opsC V (Proc.devRef .tc main_arg11) = V (Proc.devRef .tc main_arg11)
    ∧ after opsC V (Proc.devRef .tc main_arg12) = V (Proc.devRef .tc main_arg12) := by
  simp only [opsC, TRef.binary, TRef.nullary, TRef.unary, TRef.toBuf, TRef.ofBuf, cast_eq]
  refine ⟨?_, ?_, ?_, ?_, ?_⟩ <;> (after_results_simp <;> rfl)
/-- Part D leaves the later parts' arguments as they were. -/
theorem keepD : after opsD V (Proc.devRef .tc main_arg4) = V (Proc.devRef .tc main_arg4)
    ∧ after opsD V (Proc.devRef .tc main_arg10) = V (Proc.devRef .tc main_arg10) ∧ after opsD V (Proc.devRef .tc main_arg11) = V (Proc.devRef .tc main_arg11)
    ∧ after opsD V (Proc.devRef .tc main_arg12) = V (Proc.devRef .tc main_arg12) := by
  simp only [opsD]; refine ⟨?_, ?_, ?_, ?_⟩ <;> (after_results_simp <;> rfl)
/-- Part E leaves the last argument as it was. -/
theorem keepE : after opsE V (Proc.devRef .tc main_arg12) = V (Proc.devRef .tc main_arg12) := by
  simp only [opsE]; after_results_simp <;> rfl

/-- The result's contents: the whole reference over the arguments, its first two axes merged. -/
theorem read_out : after ops V (Proc.devRef .tc main_v68)
    = (shapeCast S1024x1024 (rOut (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7))
        (V (Proc.devRef .tc main_arg8)) (V (Proc.devRef .tc main_arg9)) (V (Proc.devRef .tc main_arg10)) (V (Proc.devRef .tc main_arg11))
        (V (Proc.devRef .tc main_arg12))) shapeCasts_S128x8x1024_S1024x1024 : FVec F S1024x1024 .f32) := by
  rw [ops_eq]
  simp only [after_append']
  obtain ⟨a6, a7, a8, a9, a4, a10, a11, a12⟩ := keepA V
  obtain ⟨b7, b8, b9, b4, b10, b11, b12⟩ := keepB (after opsA V)
  obtain ⟨c9, c4, c10, c11, c12⟩ := keepC (after opsB (after opsA V))
  obtain ⟨d4, d10, d11, d12⟩ := keepD (after opsC (after opsB (after opsA V)))
  rw [readF, keepE, readE, (readD _).1, (readD _).2, d4, d10, d11, d12, readC, c9, c4, c10, c11, c12, (readB _).1, (readB _).2,
    b7, b8, b9, b4, b10, b11, b12, readA, a6, a7, a8, a9, a4, a10, a11, a12]
  rfl

set_option maxRecDepth 8192 in
set_option maxHeartbeats 4000000 in
/-- The arguments end as they were. -/
theorem keep : after ops V (Proc.devRef .tc main_arg0) = V (Proc.devRef .tc main_arg0)
    ∧ after ops V (Proc.devRef .tc main_arg1) = V (Proc.devRef .tc main_arg1) ∧ after ops V (Proc.devRef .tc main_arg2) = V (Proc.devRef .tc main_arg2)
    ∧ after ops V (Proc.devRef .tc main_arg3) = V (Proc.devRef .tc main_arg3) ∧ after ops V (Proc.devRef .tc main_arg4) = V (Proc.devRef .tc main_arg4)
    ∧ after ops V (Proc.devRef .tc main_arg5) = V (Proc.devRef .tc main_arg5) ∧ after ops V (Proc.devRef .tc main_arg6) = V (Proc.devRef .tc main_arg6)
    ∧ after ops V (Proc.devRef .tc main_arg7) = V (Proc.devRef .tc main_arg7) ∧ after ops V (Proc.devRef .tc main_arg8) = V (Proc.devRef .tc main_arg8)
    ∧ after ops V (Proc.devRef .tc main_arg9) = V (Proc.devRef .tc main_arg9) ∧ after ops V (Proc.devRef .tc main_arg10) = V (Proc.devRef .tc main_arg10)
    ∧ after ops V (Proc.devRef .tc main_arg11) = V (Proc.devRef .tc main_arg11) ∧ after ops V (Proc.devRef .tc main_arg12) = V (Proc.devRef .tc main_arg12) := by
  simp only [ops, opsA, opsB, opsC, opsD, opsE, opsF, List.cons_append, List.nil_append, TRef.binary, TRef.nullary, TRef.unary, TRef.toBuf, TRef.ofBuf, cast_eq]
  refine ⟨?_, ?_, ?_, ?_, ?_, ?_, ?_, ?_, ?_, ?_, ?_, ?_, ?_⟩ <;> (after_results_simp <;> rfl)

/-- The run of the reference: its result is the whole reference over the arguments, and the arguments end as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68) = (shapeCast S1024x1024 (rOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg12)))
          shapeCasts_S128x8x1024_S1024x1024 : FVec F S1024x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => by
      obtain ⟨k0, k1, k2, k3, k4, k5, k6, k7, k8, k9, k10, k11, k12⟩ := keep (launchContents m c)
      exact ⟨(h c main_v68).trans (read_out _), (h c main_arg0).trans k0, (h c main_arg1).trans k1, (h c main_arg2).trans k2,
        (h c main_arg3).trans k3, (h c main_arg4).trans k4, (h c main_arg5).trans k5, (h c main_arg6).trans k6, (h c main_arg7).trans k7,
        (h c main_arg8).trans k8, (h c main_arg9).trans k9, (h c main_arg10).trans k10, (h c main_arg11).trans k11, (h c main_arg12).trans k12⟩)
    (run_seq scopedRefs_eq scopedSems_eq defs main (fun _ => ops) main_eq (fun _ => ops_sub) m ρ)

end Cert.FfnSampleRefIdeal.Own

end
-- ==== Proof.FfnSamplePure.lean ====
/- The merge, feed-forward and gate block of the sample batch, block by block: each stage of the kernel over a block of 512 rows is the
   block of the reference's stage over the whole arrays. -/
module

public import proofs.«01_k».proof.Proof.Gen.FfnSampleIdeal.Skeleton
public import proofs.«01_k».proof.Proof.FfnSampleRef
public import Idealize.ShloMosaic.Lib.Pointwise

@[expose] public section

set_option maxRecDepth 16384

noncomputable section

namespace Cert.FfnSampleIdeal.Value

open Cert.FfnSampleIdeal Cert.FfnSampleIdeal.Gen Idealize.ShloMosaic Idealize.ShloMosaic.TcCoe Idealize.SL.Sem
open Cert.FfnSampleRefIdeal.Own (rX1 rX2 rX3 rNorm rOut)

/-- Rows `512 q … 512 q + 511` of the batch's flattened rows. -/
def blk (q : Fin 2) (A : FVec Ideal S128x8x1024 .f32) : FVec Ideal S512x1024 .f32 := fun y =>
  A (ix3 (⟨q.val * 64 + (y 0).val / 8, by have h : (y 0).val < 512 := (y 0).isLt; omega⟩ : Fin 128) (⟨(y 0).val % 8, by omega⟩ : Fin 8) (y 1))

/-- The same rows of the per-layer embeddings. -/
def blkp (q : Fin 2) (A : FVec Ideal S1x128x8x256 .f32) : FVec Ideal S512x256 .f32 := fun y =>
  A (ix4 0 (⟨q.val * 64 + (y 0).val / 8, by have h : (y 0).val < 512 := (y 0).isLt; omega⟩ : Fin 128) (⟨(y 0).val % 8, by omega⟩ : Fin 8) (y 1))

/-- The only matrix of a stack of one. -/
def mat (w : FVec Ideal S1x1024x1024 .f32) : FVec Ideal S1024x1024 .bf16 := fun y => w (ix3 0 (y 0) (y 1))
/-- The embeddings' projection of a stack of one. -/
def matp (w : FVec Ideal S1x256x1024 .f32) : FVec Ideal S256x1024 .bf16 := fun y => w (ix3 0 (y 0) (y 1))
/-- Half `f` of the gate's columns. -/
def matg (f : Fin 2) (w : FVec Ideal S1x1024x5632 .f32) : FVec Ideal S1024x1408 .bf16 := fun y =>
  w (ix3 0 (y 0) (⟨f.val * 1408 + (y 1).val, by have h : (y 1).val < 1408 := (y 1).isLt; omega⟩ : Fin 5632))
/-- Half `f` of the up projection's columns. -/
def matu (f : Fin 2) (w : FVec Ideal S1x1024x5632 .f32) : FVec Ideal S1024x1408 .bf16 := fun y =>
  w (ix3 0 (y 0) (⟨2816 + (f.val * 1408 + (y 1).val), by have h : (y 1).val < 1408 := (y 1).isLt; omega⟩ : Fin 5632))
/-- Half `f` of the down projection's rows. -/
def matd (f : Fin 2) (w : FVec Ideal S1x2816x1024 .f32) : FVec Ideal S1408x1024 .bf16 := fun y =>
  w (ix3 0 (⟨f.val * 1408 + (y 0).val, by have h : (y 0).val < 1408 := (y 0).isLt; omega⟩ : Fin 2816) (y 1))
/-- A norm's weights as one row, from a stack of one. -/
def rowg (g : FVec Ideal S1x1024 .f32) : FVec Ideal S1x1024 .f32 := fun y => g (ix2 0 (y 1))
/-- A norm's weights as one row. -/
def rowf (g : FVec Ideal S1024 .f32) : FVec Ideal S1x1024 .f32 := fun y => g (ix1 (y 1))

variable (q : Fin 2)

/-- The merged residual of a block. -/
theorem x1_eq (x oa ga cm : FVec Ideal S128x8x1024 .f32) (wo : FVec Ideal S1x1024x1024 .f32) :
    k0_pay4 (F := Ideal) (blk q ga) (blk q oa) (blk q cm) (blk q x) (mat wo) = blk q (rX1 x oa ga cm wo) := by
  funext y
  idx_vars y
  pointwise! [k0_pay4, blk, mat, rX1]

/-- The merged residual as it is stored. -/
theorem x1s_eq (x oa ga cm : FVec Ideal S128x8x1024 .f32) (wo : FVec Ideal S1x1024x1024 .f32) :
    k0_pay5 (F := Ideal) (blk q ga) (blk q oa) (blk q cm) (blk q x) (mat wo) = blk q (rX1 x oa ga cm wo) := by
  unfold k0_pay5
  rw [x1_eq]
  funext y
  pointwise []

/-- The norm of the merged residual of a block. -/
theorem h_eq (x oa ga cm : FVec Ideal S128x8x1024 .f32) (wo : FVec Ideal S1x1024x1024 .f32) (g : FVec Ideal S1x1024 .f32) :
    k0_pay6 (F := Ideal) (blk q ga) (blk q oa) (blk q cm) (blk q x) (mat wo) (rowg g)
      = blk q (rNorm (rX1 x oa ga cm wo) (shapeCast Cert.FfnSampleRefIdeal.S1024 g Cert.FfnSampleRefIdeal.Gen.shapeCasts_S1x1024_S1024)) := by
  unfold k0_pay6
  rw [x1_eq]
  generalize rX1 x oa ga cm wo = X
  funext y
  idx_vars y
  pointwise! [blk, rowg, rNorm]

/-- The zero fill and the two halves of the feed-forward, added to the merged residual: the feed-forward residual of a block. -/
theorem x2_eq (X H : FVec Ideal S128x8x1024 .f32) (wgu : FVec Ideal S1x1024x5632 .f32) (wd : FVec Ideal S1x2816x1024 .f32) :
    (addf (blk q X) (k0_pay2 (F := Ideal) (blk q H) (matg 1 wgu) (matu 1 wgu)
        (k0_pay2 (F := Ideal) (blk q H) (matg 0 wgu) (matu 0 wgu) (k0_pay1 (F := Ideal) (k0_pay7 (F := Ideal))) (matd 0 wd)) (matd 1 wd)) : FVec Ideal S512x1024 .f32)
      = blk q (rX2 X H wgu wd) := by
  funext y
  idx_vars y
  pointwise [k0_pay2, k0_pay1, k0_pay7, blk, matg, matu, matd, rX2]
  refine congrArg (X _ + ·) (Eq.symm ?_)
  exact Fin.sum_univ_two_halves (M := EReal) (N := 2816) 1408 1408 rfl _

/-- The gated residual of a block. -/
theorem x3_eq (X Y : FVec Ideal S512x1024 .f32) (Z : FVec Ideal S128x8x1024 .f32) (h : addf X Y = blk q Z)
    (p : FVec Ideal S1x128x8x256 .f32) (g : FVec Ideal S1x1024 .f32)
    (wp : FVec Ideal S1x256x1024 .f32) (wg : FVec Ideal S1x1024x1024 .f32) :
    k0_pay8 (F := Ideal) X Y (rowg g) (mat wg) (blkp q p) (matp wp)
      = blk q (rX3 Z (rNorm Z (shapeCast Cert.FfnSampleRefIdeal.S1024 g Cert.FfnSampleRefIdeal.Gen.shapeCasts_S1x1024_S1024)) p wp wg) := by
  unfold k0_pay8
  rw [h]
  funext y
  idx_vars y
  pointwise [blk, blkp, mat, matp, rowg, rNorm, rX3]
  rfl

/-- The last norm of a block. -/
theorem y_eq (X Y : FVec Ideal S512x1024 .f32) (gp : FVec Ideal S1x1024 .f32) (wg : FVec Ideal S1024x1024 .bf16) (p : FVec Ideal S512x256 .f32)
    (wp : FVec Ideal S256x1024 .bf16) (Z : FVec Ideal S128x8x1024 .f32) (h : k0_pay8 (F := Ideal) X Y gp wg p wp = blk q Z) (g : FVec Ideal S1024 .f32) :
    k0_pay3 (F := Ideal) (k0_pay8 (F := Ideal) X Y gp wg p wp) (k0_pay9 (F := Ideal) (rowf g))
      (k0_pay10 (F := Ideal) X Y gp wg p wp) (k0_pay11 (F := Ideal)) = blk q (rNorm Z g) := by
  unfold k0_pay10
  rw [h]
  funext y
  idx_vars y
  pointwise! [k0_pay3, k0_pay9, k0_pay11, blk, rowf, rNorm]

end Cert.FfnSampleIdeal.Value

end
-- ==== Proof.FfnSampleValue.lean ====
/- The merge, feed-forward and gate block of the sample batch: its result array is the reference's term over the argument arrays. -/
module

public import proofs.«01_k».proof.Proof.Gen.FfnSampleIdeal.Frame
public import proofs.«01_k».proof.Proof.FfnSamplePure
public import Idealize.ShloMosaic.Lib.Pipeline.ValueKit

@[expose] public section

set_option maxRecDepth 16384

noncomputable section

namespace Cert.FfnSampleIdeal.Value

open Cert.FfnSampleIdeal Cert.FfnSampleIdeal.Gen Idealize.ShloMosaic Idealize.ShloMosaic.TcCoe Idealize.SL.Sem
open Idealize.ShloMosaic.Pipeline (Dat)
open Cert.FfnSampleRefIdeal.Own (rX1 rX2 rX3 rNorm rOut)

variable (m : (ℓ : Loc nD τ sig) → Buf (Elt Ideal) ℓ)

/-- The windows' block indices. -/
theorem idx : ∀ t : Fin cfg0.N, win0_0.index t = ![t.val / 2, 0] ∧ win0_1.index t = ![t.val / 2, 0] ∧ win0_2.index t = ![t.val / 2, 0]
    ∧ win0_3.index t = ![t.val / 2, 0] ∧ win0_4.index t = ![t.val / 2, 0] ∧ win0_5.index t = ![0, 0] ∧ win0_6.index t = ![0, 0]
    ∧ win0_7.index t = ![0, t.val % 2] ∧ win0_8.index t = ![0, t.val % 2] ∧ win0_9.index t = ![t.val % 2, 0] ∧ win0_10.index t = ![0, 0]
    ∧ win0_11.index t = ![0, 0] ∧ win0_12.index t = ![0, 0] ∧ win0_13.index t = ![0, 0] ∧ win0_14.index t = ![t.val / 2, 0] :=
  (by decide +kernel : ∀ t : Fin grid0.N, _)

/-- The block of rows of a point. -/
def bq (t : Fin cfg0.N) : Fin 2 := ⟨t.val / 2, by have h : t.val < 4 := lt_of_lt_of_eq t.isLt N_0; omega⟩

section
variable (c : Dev nD) (t : Fin cfg0.N)
/-- Window 0's block: rows of argument 0. -/
theorem iblk0 : (iblk m c 0 t : FVec Ideal S512x1024 .f32) = blk (bq t) (m ((c : Thread nD τ).loc main_arg0)) := by
  funext y
  have ht : t.val < 4 := lt_of_lt_of_eq t.isLt N_0
  unfold blk bq
  blk_point [iblk, V, idx t]
/-- Window 1's block: rows of argument 1. -/
theorem iblk1 : (iblk m c 1 t : FVec Ideal S512x1024 .f32) = blk (bq t) (m ((c : Thread nD τ).loc main_arg1)) := by
  funext y
  have ht : t.val < 4 := lt_of_lt_of_eq t.isLt N_0
  unfold blk bq
  blk_point [iblk, V, idx t]
/-- Window 2's block: rows of argument 2. -/
theorem iblk2 : (iblk m c 2 t : FVec Ideal S512x1024 .f32) = blk (bq t) (m ((c : Thread nD τ).loc main_arg2)) := by
  funext y
  have ht : t.val < 4 := lt_of_lt_of_eq t.isLt N_0
  unfold blk bq
  blk_point [iblk, V, idx t]
/-- Window 3's block: rows of argument 3. -/
theorem iblk3 : (iblk m c 3 t : FVec Ideal S512x1024 .f32) = blk (bq t) (m ((c : Thread nD τ).loc main_arg3)) := by
  funext y
  have ht : t.val < 4 := lt_of_lt_of_eq t.isLt N_0
  unfold blk bq
  blk_point [iblk, V, idx t]
/-- Window 4's block: rows of argument 4. -/
theorem iblk4 : (iblk m c 4 t : FVec Ideal S512x256 .f32) = blkp (bq t) (m ((c : Thread nD τ).loc main_arg4)) := by
  funext y
  have ht : t.val < 4 := lt_of_lt_of_eq t.isLt N_0
  unfold blkp bq
  blk_point [iblk, V, idx t]
/-- Window 5's block, from argument 5. -/
theorem iblk5 : (iblk m c 5 t : FVec Ideal S1024x1024 .bf16) = mat (m ((c : Thread nD τ).loc main_arg5)) := by
  funext y
  unfold mat
  blk_point [iblk, V, idx t]
/-- Window 6's block, from argument 6. -/
theorem iblk6 : (iblk m c 6 t : FVec Ideal S1x1024 .f32) = rowg (m ((c : Thread nD τ).loc main_arg6)) := by
  funext y
  unfold rowg
  blk_point [iblk, V, idx t]
/-- Window 7's block, from argument 7. -/
theorem iblk7 (f : Fin 2) (hf : t.val % 2 = f.val) : (iblk m c 7 t : FVec Ideal S1024x1408 .bf16) = matg f (m ((c : Thread nD τ).loc main_arg7)) := by
  funext y
  unfold matg
  blk_point [iblk, V, idx t]
/-- Window 8's block, from argument 7. -/
theorem iblk8 (f : Fin 2) (hf : t.val % 2 = f.val) : (iblk m c 8 t : FVec Ideal S1024x1408 .bf16) = matu f (m ((c : Thread nD τ).loc main_arg7)) := by
  funext y
  unfold matu
  blk_point [iblk, V, idx t]
/-- Window 9's block, from argument 8. -/
theorem iblk9 (f : Fin 2) (hf : t.val % 2 = f.val) : (iblk m c 9 t : FVec Ideal S1408x1024 .bf16) = matd f (m ((c : Thread nD τ).loc main_arg8)) := by
  funext y
  unfold matd
  blk_point [iblk, V, idx t]
/-- Window 10's block, from argument 9. -/
theorem iblk10 : (iblk m c 10 t : FVec Ideal S1x1024 .f32) = rowg (m ((c : Thread nD τ).loc main_arg9)) := by
  funext y
  unfold rowg
  blk_point [iblk, V, idx t]
/-- Window 11's block, from argument 10. -/
theorem iblk11 : (iblk m c 11 t : FVec Ideal S256x1024 .bf16) = matp (m ((c : Thread nD τ).loc main_arg10)) := by
  funext y
  unfold matp
  blk_point [iblk, V, idx t]
/-- Window 12's block, from argument 11. -/
theorem iblk12 : (iblk m c 12 t : FVec Ideal S1024x1024 .bf16) = mat (m ((c : Thread nD τ).loc main_arg11)) := by
  funext y
  unfold mat
  blk_point [iblk, V, idx t]
/-- Window 13's block, from argument 12. -/
theorem iblk13 : (iblk m c 13 t : FVec Ideal S1x1024 .f32) = rowf (m ((c : Thread nD τ).loc main_arg12)) := by
  funext y
  unfold rowf
  blk_point [iblk, V, idx t]
end

end Cert.FfnSampleIdeal.Value

end
-- ==== Proof.FfnSampleFinal.lean ====
/- The merge, feed-forward and gate block of the sample batch: its result array is the reference's term over the argument arrays. -/
module

public import proofs.«01_k».proof.Proof.FfnSampleValue

@[expose] public section

set_option maxRecDepth 16384

noncomputable section

namespace Cert.FfnSampleIdeal.Value

open Cert.FfnSampleIdeal Cert.FfnSampleIdeal.Gen Idealize.ShloMosaic Idealize.ShloMosaic.TcCoe Idealize.SL.Sem
open Idealize.ShloMosaic.Pipeline (Dat)
open Cert.FfnSampleRefIdeal.Own (rX1 rX2 rX3 rNorm rOut)

variable (m : (ℓ : Loc nD τ sig) → Buf (Elt Ideal) ℓ)

/-- The reference's result, its first two axes merged. -/
def REF (x oa ga cm : FVec Ideal S128x8x1024 .f32) (p : FVec Ideal S1x128x8x256 .f32) (wo : FVec Ideal S1x1024x1024 .f32)
    (g1 : FVec Ideal S1x1024 .f32) (wgu : FVec Ideal S1x1024x5632 .f32) (wd : FVec Ideal S1x2816x1024 .f32) (g2 : FVec Ideal S1x1024 .f32)
    (wp : FVec Ideal S1x256x1024 .f32) (wg : FVec Ideal S1x1024x1024 .f32) (g3 : FVec Ideal S1024 .f32) : FVec Ideal S1024x1024 .f32 :=
  shapeCast Cert.FfnSampleRefIdeal.S1024x1024 (rOut x oa ga cm p wo g1 wgu wd g2 wp wg g3) Cert.FfnSampleRefIdeal.Gen.shapeCasts_S128x8x1024_S1024x1024

/-- What the two points of a block of rows leave in the result's block: the block of the reference's result. -/
theorem pay_eq (q : Fin 2) (x oa ga cm : FVec Ideal S128x8x1024 .f32) (p : FVec Ideal S1x128x8x256 .f32) (wo : FVec Ideal S1x1024x1024 .f32)
    (g1 : FVec Ideal S1x1024 .f32) (wgu : FVec Ideal S1x1024x5632 .f32) (wd : FVec Ideal S1x2816x1024 .f32) (g2 : FVec Ideal S1x1024 .f32)
    (wp : FVec Ideal S1x256x1024 .f32) (wg : FVec Ideal S1x1024x1024 .f32) (g3 : FVec Ideal S1024 .f32)
    {X : FVec Ideal S512x1024 .f32} {Y : FVec Ideal S512x1024 .f32} {H : FVec Ideal S512x1024 .bf16}
    (hX : X = k0_pay5 (F := Ideal) (blk q ga) (blk q oa) (blk q cm) (blk q x) (mat wo))
    (hH : H = k0_pay6 (F := Ideal) (blk q ga) (blk q oa) (blk q cm) (blk q x) (mat wo) (rowg g1))
    (hY : Y = k0_pay2 (F := Ideal) H (matg 1 wgu) (matu 1 wgu)
        (k0_pay2 (F := Ideal) H (matg 0 wgu) (matu 0 wgu) (k0_pay1 (F := Ideal) (k0_pay7 (F := Ideal))) (matd 0 wd)) (matd 1 wd)) :
    k0_pay3 (F := Ideal) (k0_pay8 (F := Ideal) X Y (rowg g2) (mat wg) (blkp q p) (matp wp)) (k0_pay9 (F := Ideal) (rowf g3))
      (k0_pay10 (F := Ideal) X Y (rowg g2) (mat wg) (blkp q p) (matp wp)) (k0_pay11 (F := Ideal))
    = blk q (rOut x oa ga cm p wo g1 wgu wd g2 wp wg g3) := by
  rw [x1s_eq] at hX
  rw [h_eq] at hH
  have h2 := x2_eq q (rX1 x oa ga cm wo) (rNorm (rX1 x oa ga cm wo) (shapeCast Cert.FfnSampleRefIdeal.S1024 g1 Cert.FfnSampleRefIdeal.Gen.shapeCasts_S1x1024_S1024)) wgu wd
  subst hX hH
  rw [← hY] at h2
  exact y_eq q _ Y _ _ _ _ _ (x3_eq q _ Y _ h2 p g2 wp wg) g3

variable (c : Dev nD)

section
variable (s : Fin cfg0.N) (h : s.val % 2 = 0)
include h
/-- After the first point of a block of rows, the first scratch holds the merged residual. -/
theorem scr0 : (outsAt0 m c s.val s.isLt).2.1 = k0_pay5 (F := Ideal) (blk (bq s) (m ((c : Thread nD τ).loc main_arg2))) (blk (bq s) (m ((c : Thread nD τ).loc main_arg1))) (blk (bq s) (m ((c : Thread nD τ).loc main_arg3))) (blk (bq s) (m ((c : Thread nD τ).loc main_arg0))) (mat (m ((c : Thread nD τ).loc main_arg5))) := by
  rw [outsAt0_A m c s h (by omega), ← iblk2 m c s, ← iblk1 m c s, ← iblk3 m c s, ← iblk0 m c s, ← iblk5 m c s]; frame_out
/-- … the second its norm. -/
theorem scr1 : (outsAt0 m c s.val s.isLt).2.2.1
    = k0_pay6 (F := Ideal) (blk (bq s) (m ((c : Thread nD τ).loc main_arg2))) (blk (bq s) (m ((c : Thread nD τ).loc main_arg1))) (blk (bq s) (m ((c : Thread nD τ).loc main_arg3))) (blk (bq s) (m ((c : Thread nD τ).loc main_arg0))) (mat (m ((c : Thread nD τ).loc main_arg5)))
      (rowg (m ((c : Thread nD τ).loc main_arg6))) := by
  rw [outsAt0_A m c s h (by omega), ← iblk2 m c s, ← iblk1 m c s, ← iblk3 m c s, ← iblk0 m c s, ← iblk5 m c s, ← iblk6 m c s]; frame_out
/-- … the third the first half of the feed-forward. -/
theorem scr2 : (outsAt0 m c s.val s.isLt).2.2.2
    = k0_pay2 (F := Ideal) (k0_pay6 (F := Ideal) (blk (bq s) (m ((c : Thread nD τ).loc main_arg2))) (blk (bq s) (m ((c : Thread nD τ).loc main_arg1))) (blk (bq s) (m ((c : Thread nD τ).loc main_arg3))) (blk (bq s) (m ((c : Thread nD τ).loc main_arg0))) (mat (m ((c : Thread nD τ).loc main_arg5)))
      (rowg (m ((c : Thread nD τ).loc main_arg6)))) (matg 0 (m ((c : Thread nD τ).loc main_arg7))) (matu 0 (m ((c : Thread nD τ).loc main_arg7)))
        (k0_pay1 (F := Ideal) (k0_pay7 (F := Ideal))) (matd 0 (m ((c : Thread nD τ).loc main_arg8))) := by
  rw [outsAt0_A m c s h (by omega), ← iblk2 m c s, ← iblk1 m c s, ← iblk3 m c s, ← iblk0 m c s, ← iblk5 m c s, ← iblk6 m c s, ← iblk7 m c s 0 h, ← iblk8 m c s 0 h, ← iblk9 m c s 0 h]; frame_out
end

set_option maxHeartbeats 1600000 in
/-- The result array after the run. -/
theorem final : (dats m 0 c).arrAt 14 (cfgs 0).N = REF (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) := by
  refine (dats m 0 c).arrAt_eq_of_covers 14 _ (by decide +kernel) fun t hf y => ?_
  have ht : t.val < 4 := lt_of_lt_of_eq t.isLt N_0
  have h1 : t.val % 2 = 1 := (flush0_14 t).mp hf
  have hs : t.val - 1 < cfg0.N := Nat.lt_of_le_of_lt (Nat.sub_le _ _) t.isLt
  have hq : bq ⟨t.val - 1, hs⟩ = bq t := Fin.ext (show (t.val - 1) / 2 = t.val / 2 by omega)
  blk_simp
  rw [after0_14, outsAt0_B m c t (by omega) h1]
  frame_out
  simp only [(Memref.isWhole_whole _).read_unread]
  have h0 := scr0 m c ⟨t.val - 1, hs⟩ (show (t.val - 1) % 2 = 0 by omega)
  have h2 := scr1 m c ⟨t.val - 1, hs⟩ (show (t.val - 1) % 2 = 0 by omega)
  have h3 := scr2 m c ⟨t.val - 1, hs⟩ (show (t.val - 1) % 2 = 0 by omega)
  rw [hq] at h0 h2 h3
  rw [iblk10 m c t, iblk12 m c t, iblk4 m c t, iblk11 m c t, iblk13 m c t, iblk7 m c t 1 h1, iblk8 m c t 1 h1, iblk9 m c t 1 h1]
  refine (congrFun (pay_eq (bq t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) h0 h2 (by rw [h3, h2])) y).trans ?_
  generalize hG : rOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) = G
  unfold REF
  rw [hG]
  pointwise [blk, bq]
  blk_ext [idx t]

end Cert.FfnSampleIdeal.Value

end
-- ==== Proof.FfnSampleClaims.lean ====
/- The claims about the feed-forward part of the sample batch: the frames of the kernel and of the reference, and that the two compute the
   same function over the extended reals. -/
module

public import proofs.«01_k».proof.Defs
public import proofs.«01_k».proof.Proof.Gen.FfnSample.Frame
public import proofs.«01_k».proof.Proof.FfnSampleFinal
public import Idealize.ShloMosaic.Lib.Claim

@[expose] public section

set_option maxRecDepth 16384

noncomputable section

namespace Cert.Own

open Idealize.ShloMosaic Idealize.ShloMosaic.TcCoe Idealize.SL.Sem

/-- The kernel ends with its arguments unchanged and its counters at zero. -/
theorem frame_ffnSample : Cert.quiescent_FfnSample := fun m ρ _ => Cert.FfnSample.Gen.frame m ρ

/-- So does the kernel over the extended reals. -/
theorem frame_ffnSampleIdeal : Cert.quiescent_FfnSampleIdeal := fun m ρ _ => Cert.FfnSampleIdeal.Gen.frame m ρ

/-- So does the reference, which has no semaphore. -/
theorem frame_ffnSampleRef : Cert.quiescent_FfnSampleRefIdeal := fun m ρ _ =>
  (θ_run Cert.FfnSampleRefIdeal.defs _ _).mono (fun r h => ⟨fun c => (h c).2, sem_eq_zero_of_no_sems (by decide) r.2⟩)
    (Cert.FfnSampleRefIdeal.Own.run m ρ)

/-- Over the extended reals the kernel and the reference compute the same function of the arguments. -/
theorem algebraic_ffnSample : Cert.algebraic_FfnSampleIdeal_FfnSampleRefIdeal := by
  pair_intro
  · run_from Cert.FfnSampleIdeal.Gen.run_main m g & Cert.FfnSampleIdeal.Gen.frame m g
  · run_from Cert.FfnSampleRefIdeal.Own.run m' g'
    exact (Cert.FfnSampleIdeal.Value.final m c).symm

end Cert.Own

end
-- ==== Proof.lean ====
/- The claims, from the modules that prove them one by one. -/
module

public import proofs.«01_k».proof.Defs
public import proofs.«01_k».proof.Proof.AttnClaims
public import proofs.«01_k».proof.Proof.FfnClaims
public import proofs.«01_k».proof.Proof.AttnPre
public import proofs.«01_k».proof.Proof.InprojClaims
public import proofs.«01_k».proof.Proof.FfnSampleClaims

@[expose] public section

noncomputable section

namespace Cert.Proof

open Cert.Own

/-- Every claim of the certificate. -/
theorem claim : Cert.Claim :=
  ⟨Cert.Kernel.Gen.facts, Cert.KernelIdeal.Gen.facts, Cert.ReferenceIdeal.Gen.facts, Cert.Ffn.Gen.facts, Cert.FfnIdeal.Gen.facts,
    Cert.FfnRefIdeal.Gen.facts, Cert.Inproj.Gen.facts, Cert.InprojIdeal.Gen.facts, Cert.InprojRefIdeal.Gen.facts,
    Cert.FfnSample.Gen.facts, Cert.FfnSampleIdeal.Gen.facts, Cert.FfnSampleRefIdeal.Gen.facts, Cert.Pre_pages_in_cache.Gen.facts, Cert.Pre_keys_selected.Gen.facts,
    frame_attn, frame_attnIdeal, frame_attnIdealKeys, frame_attnRef, frame_attnRefKeys, frame_ffn, frame_ffnIdeal, frame_ffnRef,
    frame_inproj, frame_inprojIdeal, frame_inprojRef,
    frame_ffnSample, frame_ffnSampleIdeal, frame_ffnSampleRef,
    trivial, algebraic_attn, trivial, algebraic_ffn, trivial, algebraic_inproj, trivial,
    algebraic_ffnSample⟩

end Cert.Proof

end
